-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal_scales [hPre_normal_scales : Cert.Pre_normal_scales.Facts] (m : (ℓ : Loc Cert.KernelIdeal.nD Cert.KernelIdeal.τ Cert.KernelIdeal.sig) → Buf (Elt Ideal) ℓ) : Prop :=
  ∀ c : Dev Cert.KernelIdeal.nD,
    (Cert.Pre_normal_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal_scales [hPre_normal_scales : Cert.Pre_normal_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_normal_scales [hKernelIdeal : Cert.KernelIdeal.Facts] [hPre_normal_scales : Cert.Pre_normal_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_normal_scales [hReferenceIdeal : Cert.ReferenceIdeal.Facts] [hPre_normal_scales : Cert.Pre_normal_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_normal_scales [hKernelIdeal : Cert.KernelIdeal.Facts] [hReferenceIdeal : Cert.ReferenceIdeal.Facts] [hPre_normal_scales : Cert.Pre_normal_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_normal_scales : Cert.Pre_normal_scales.Facts),
    quiescent_Kernel (hKernel := hKernel)
    ∧ quiescent_KernelIdeal (hKernelIdeal := hKernelIdeal)
    ∧ quiescent_KernelIdeal_pre_normal_scales (hKernelIdeal := hKernelIdeal) (hPre_normal_scales := hPre_normal_scales)
    ∧ quiescent_ReferenceIdeal (hReferenceIdeal := hReferenceIdeal)
    ∧ quiescent_ReferenceIdeal_pre_normal_scales (hReferenceIdeal := hReferenceIdeal) (hPre_normal_scales := hPre_normal_scales)
    ∧ preserves_Kernel_KernelIdeal
    ∧ algebraic_KernelIdeal_ReferenceIdeal_pre_normal_scales (hKernelIdeal := hKernelIdeal) (hReferenceIdeal := hReferenceIdeal) (hPre_normal_scales := hPre_normal_scales)
-- ==== Pre_normal_scales.lean ====
abbrev S1x1536x16384 : Shape := ⟨3, ![1, 1536, 16384]⟩
abbrev S2048x6144 : Shape := ⟨2, ![2048, 6144]⟩
abbrev S512x6144 : Shape := ⟨2, ![512, 6144]⟩
abbrev S1536x256 : Shape := ⟨2, ![1536, 256]⟩
abbrev S256x6144 : Shape := ⟨2, ![256, 6144]⟩
abbrev S256x256 : Shape := ⟨2, ![256, 256]⟩
abbrev S_ : Shape := ⟨0, ![]⟩

class Facts : Prop where
  bcast_S_S512x6144 : S_.BroadcastsInDim S512x6144 (![] : Fin 0 → Fin S512x6144.rank)
  reducesTo_S512x6144_S_d0_1 : S512x6144.ReducesTo [0, 1] S_
  h_S_ : 0 < S_.numel

variable [Facts]

def fn {F : FTy → Type} [FloatOps F] (main_arg0 : FVec F S1x1536x16384 .bf16) (main_arg1 : IVec S2048x6144 32) (main_arg2 : IVec S512x6144 8) (main_arg3 : FVec F S1536x256 .bf16) (main_arg4 : FVec F S256x6144 .bf16) (main_arg5 : FVec F S256x256 .bf16) : IVec S_ 1 :=
  let main_c : IVec S_ 8 := constantI S_ 8 1#8
  let main_v0 : IVec S512x6144 8 := broadcastInDim S512x6144 ![] bcast_S_S512x6144 main_c
  let main_v1 : IVec S512x6144 1 := cmpi .uge main_arg2 main_v0
  let main_c_0 : IVec S_ 8 := constantI S_ 8 254#8
  let main_v2 : IVec S512x6144 8 := broadcastInDim S512x6144 ![] bcast_S_S512x6144 main_c_0
  let main_v3 : IVec S512x6144 1 := cmpi .ule main_arg2 main_v2
  let main_v4 : IVec S512x6144 1 := andi main_v1 main_v3
  let main_c_1 : IVec S_ 1 := constantI S_ 1 1#1
  let main_v5 : IVec S_ 1 := (fun x v => Host.reduce IntOp.andi x v reducesTo_S512x6144_S_d0_1 h_S_) main_v4 main_c_1
  main_v5
-- ==== Kernel.lean ====
abbrev S1x1536x16384 : Shape := ⟨3, ![1, 1536, 16384]⟩
abbrev S2048x6144 : Shape := ⟨2, ![2048, 6144]⟩
abbrev S512x6144 : Shape := ⟨2, ![512, 6144]⟩
abbrev S1536x256 : Shape := ⟨2, ![1536, 256]⟩
abbrev S256x6144 : Shape := ⟨2, ![256, 6144]⟩
abbrev S256x256 : Shape := ⟨2, ![256, 256]⟩
abbrev S1536x16384 : Shape := ⟨2, ![1536, 16384]⟩
abbrev S1536x6144 : Shape := ⟨2, ![1536, 6144]⟩
abbrev S1536x80 : Shape := ⟨2, ![1536, 80]⟩
abbrev S64x1536x256 : Shape := ⟨3, ![64, 1536, 256]⟩
abbrev S3x2048x256 : Shape := ⟨3, ![3, 2048, 256]⟩
abbrev S3x512x256 : Shape := ⟨3, ![3, 512, 256]⟩
abbrev S2x1536x256 : Shape := ⟨3, ![2, 1536, 256]⟩
abbrev S64 : Shape := ⟨1, ![64]⟩
abbrev S3 : Shape := ⟨1, ![3]⟩
abbrev S2 : Shape := ⟨1, ![2]⟩
abbrev S1 : Shape := ⟨1, ![1]⟩
abbrev S_ : Shape := ⟨0, ![]⟩
abbrev S1x1536x256 : Shape := ⟨3, ![1, 1536, 256]⟩
abbrev S1x2048x256 : Shape := ⟨3, ![1, 2048, 256]⟩
abbrev S2048x256 : Shape := ⟨2, ![2048, 256]⟩
abbrev S1x512x256 : Shape := ⟨3, ![1, 512, 256]⟩
abbrev S512x256 : Shape := ⟨2, ![512, 256]⟩
abbrev S1x32x256 : Shape := ⟨3, ![1, 32, 256]⟩
abbrev S32x256 : Shape := ⟨2, ![32, 256]⟩
abbrev S32x1x256 : Shape := ⟨3, ![32, 1, 256]⟩
abbrev S32x8x256 : Shape := ⟨3, ![32, 8, 256]⟩
abbrev S64x256 : Shape := ⟨2, ![64, 256]⟩
abbrev S1x256 : Shape := ⟨2, ![1, 256]⟩
abbrev S8x256 : Shape := ⟨2, ![8, 256]⟩
abbrev S16x256 : Shape := ⟨2, ![16, 256]⟩
abbrev S1x256x256 : Shape := ⟨3, ![1, 256, 256]⟩
abbrev S256x80 : Shape := ⟨2, ![256, 80]⟩

abbrev nBuf : Space → Nat
  | .hbm => 9
  | .vmem => 8
  | .smem => 0
  | _ => 0

abbrev bufTy : (tb : Table) → Fin (tcTables nBuf tb) → BufTy
  | .hbm, ⟨0, _⟩ => ⟨S1x1536x16384, .bf16⟩
  | .hbm, ⟨1, _⟩ => ⟨S2048x6144, .i32⟩
  | .hbm, ⟨2, _⟩ => ⟨S512x6144, .i8⟩
  | .hbm, ⟨3, _⟩ => ⟨S1536x256, .bf16⟩
  | .hbm, ⟨4, _⟩ => ⟨S256x6144, .bf16⟩
  | .hbm, ⟨5, _⟩ => ⟨S256x256, .bf16⟩
  | .hbm, ⟨6, _⟩ => ⟨S1536x16384, .bf16⟩
  | .hbm, ⟨7, _⟩ => ⟨S1536x6144, .bf16⟩
  | .hbm, ⟨8, _⟩ => ⟨S1536x80, .bf16⟩
  | .local _ .vmem, ⟨0, _⟩ => ⟨S1536x256, .bf16⟩
  | .local _ .vmem, ⟨1, _⟩ => ⟨S256x6144, .bf16⟩
  | .local _ .vmem, ⟨2, _⟩ => ⟨S256x256, .bf16⟩
  | .local _ .vmem, ⟨3, _⟩ => ⟨S64x1536x256, .bf16⟩
  | .local _ .vmem, ⟨4, _⟩ => ⟨S3x2048x256, .i32⟩
  | .local _ .vmem, ⟨5, _⟩ => ⟨S3x512x256, .i8⟩
  | .local _ .vmem, ⟨6, _⟩ => ⟨S2x1536x256, .bf16⟩
  | .local _ .vmem, ⟨7, _⟩ => ⟨S1536x80, .bf16⟩
  | _, _ => ⟨S1x1536x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_690_r0 : BitVec 32 := 0#32
  let c24_i32_691_r0 : BitVec 32 := 24#32
  let v770_r0 : BitVec 32 := Scalar.addi c0_i32_690_r0 c24_i32_691_r0
  let c1_i32_692_r0 : BitVec 32 := 1#32
  ⟨c0_i32_690_r0, v770_r0, c1_i32_692_r0⟩
def k0_cond1 (k0_t1 : Fin k0_t1_loop.trips) : BitVec 1 :=
  let c0_i32_690_r0 : BitVec 32 := 0#32
  let c1_i32_692_r0 : BitVec 32 := 1#32
  let arg18_r0 : BitVec 32 := Scf.iv c0_i32_690_r0 c1_i32_692_r0 k0_t1
  let c1_i32_775_r0 : BitVec 32 := 1#32
  let v893_r0 : BitVec 32 := Scalar.addi arg18_r0 c1_i32_775_r0
  let c24_i32_776_r0 : BitVec 32 := 24#32
  let v894_r0 : BitVec 1 := Scalar.cmpi .slt v893_r0 c24_i32_776_r0
  let v895_r0 : BitVec 32 := Scalar.extui v894_r0
  let c0_i32_777_r0 : BitVec 32 := 0#32
  let v896_r0 : BitVec 1 := Scalar.cmpi .ne v895_r0 c0_i32_777_r0
  v896_r0

def k0_off1 (k0_t1 : Fin k0_t1_loop.trips) : Fin 1 → Nat :=
  let c0_i32_690_r0 : BitVec 32 := 0#32
  let c1_i32_692_r0 : BitVec 32 := 1#32
  let arg18_r0 : BitVec 32 := Scf.iv c0_i32_690_r0 c1_i32_692_r0 k0_t1
  let c1_i32_2563_r0 : BitVec 32 := 1#32
  let v7457_r0 : BitVec 32 := Scalar.addi arg18_r0 c1_i32_2563_r0
  let c3_i32_2571_r0 : BitVec 32 := 3#32
  let c0_i32_2572_r0 : BitVec 32 := 0#32
  let v7469_r0 : BitVec 1 := Scalar.cmpi .eq c3_i32_2571_r0 c0_i32_2572_r0
  let c1_i32_2573_r0 : BitVec 32 := 1#32
  let v7470_r0 : BitVec 32 := Scalar.select v7469_r0 c1_i32_2573_r0 c3_i32_2571_r0
  let v7471_r0 : BitVec 32 := Scalar.remsi v7457_r0 v7470_r0
  let c0_i32_2575_r0 : BitVec 32 := 0#32
  let v7473_r0 : BitVec 1 := Scalar.cmpi .slt v7471_r0 c0_i32_2575_r0
  let c0_i32_2576_r0 : BitVec 32 := 0#32
  let v7474_r0 : BitVec 1 := Scalar.cmpi .slt v7470_r0 c0_i32_2576_r0
  let v7475_r0 : BitVec 1 := Scalar.xori v7473_r0 v7474_r0
  let c0_i32_2574_r0 : BitVec 32 := 0#32
  let v7472_r0 : BitVec 1 := Scalar.cmpi .ne v7471_r0 c0_i32_2574_r0
  let v7476_r0 : BitVec 1 := Scalar.andi v7475_r0 v7472_r0
  let v7477_r0 : BitVec 32 := Scalar.addi v7471_r0 v7470_r0
  let v7478_r0 : BitVec 32 := Scalar.select v7476_r0 v7477_r0 v7471_r0
  ![v7478_r0.toNat]
def k0_off2 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c1_i32_2563_r0 : BitVec 32 := 1#32
  let v7457_r0 : BitVec 32 := Scalar.addi arg18_r0 c1_i32_2563_r0
  let c3_i32_2565_r0 : BitVec 32 := 3#32
  let c0_i32_2566_r0 : BitVec 32 := 0#32
  let v7459_r0 : BitVec 1 := Scalar.cmpi .eq c3_i32_2565_r0 c0_i32_2566_r0
  let c1_i32_2567_r0 : BitVec 32 := 1#32
  let v7460_r0 : BitVec 32 := Scalar.select v7459_r0 c1_i32_2567_r0 c3_i32_2565_r0
  let v7461_r0 : BitVec 32 := Scalar.remsi v7457_r0 v7460_r0
  let c0_i32_2569_r0 : BitVec 32 := 0#32
  let v7463_r0 : BitVec 1 := Scalar.cmpi .slt v7461_r0 c0_i32_2569_r0
  let c0_i32_2570_r0 : BitVec 32 := 0#32
  let v7464_r0 : BitVec 1 := Scalar.cmpi .slt v7460_r0 c0_i32_2570_r0
  let v7465_r0 : BitVec 1 := Scalar.xori v7463_r0 v7464_r0
  let c0_i32_2568_r0 : BitVec 32 := 0#32
  let v7462_r0 : BitVec 1 := Scalar.cmpi .ne v7461_r0 c0_i32_2568_r0
  let v7466_r0 : BitVec 1 := Scalar.andi v7465_r0 v7462_r0
  let v7467_r0 : BitVec 32 := Scalar.addi v7461_r0 v7460_r0
  let v7468_r0 : BitVec 32 := Scalar.select v7466_r0 v7467_r0 v7461_r0
  let c0_i32_2577_r0 : BitVec 32 := 0#32
  let c0_i32_2578_r0 : BitVec 32 := 0#32
  ![v7468_r0.toNat, 0, 0]
def k0_off3 (k0_t1 : Fin k0_t1_loop.trips) : Fin 2 → Nat :=
  let c0_i32_2579_r0 : BitVec 32 := 0#32
  let c0_i32_690_r0 : BitVec 32 := 0#32
  let c1_i32_692_r0 : BitVec 32 := 1#32
  let arg18_r0 : BitVec 32 := Scf.iv c0_i32_690_r0 c1_i32_692_r0 k0_t1
  let c1_i32_2563_r0 : BitVec 32 := 1#32
  let v7457_r0 : BitVec 32 := Scalar.addi arg18_r0 c1_i32_2563_r0
  let c256_i32_2564_r0 : BitVec 32 := 256#32
  let v7458_r0 : BitVec 32 := Scalar.muli v7457_r0 c256_i32_2564_r0
  ![0, v7458_r0.toNat]
def k0_off4 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c1_i32_2580_r0 : BitVec 32 := 1#32
  let v7484_r0 : BitVec 32 := Scalar.addi arg18_r0 c1_i32_2580_r0
  let c3_i32_2582_r0 : BitVec 32 := 3#32
  let c0_i32_2583_r0 : BitVec 32 := 0#32
  let v7486_r0 : BitVec 1 := Scalar.cmpi .eq c3_i32_2582_r0 c0_i32_2583_r0
  let c1_i32_2584_r0 : BitVec 32 := 1#32
  let v7487_r0 : BitVec 32 := Scalar.select v7486_r0 c1_i32_2584_r0 c3_i32_2582_r0
  let v7488_r0 : BitVec 32 := Scalar.remsi v7484_r0 v7487_r0
  let c0_i32_2586_r0 : BitVec 32 := 0#32
  let v7490_r0 : BitVec 1 := Scalar.cmpi .slt v7488_r0 c0_i32_2586_r0
  let c0_i32_2587_r0 : BitVec 32 := 0#32
  let v7491_r0 : BitVec 1 := Scalar.cmpi .slt v7487_r0 c0_i32_2587_r0
  let v7492_r0 : BitVec 1 := Scalar.xori v7490_r0 v7491_r0
  let c0_i32_2585_r0 : BitVec 32 := 0#32
  let v7489_r0 : BitVec 1 := Scalar.cmpi .ne v7488_r0 c0_i32_2585_r0
  let v7493_r0 : BitVec 1 := Scalar.andi v7492_r0 v7489_r0
  let v7494_r0 : BitVec 32 := Scalar.addi v7488_r0 v7487_r0
  let v7495_r0 : BitVec 32 := Scalar.select v7493_r0 v7494_r0 v7488_r0
  let c0_i32_2594_r0 : BitVec 32 := 0#32
  let c0_i32_2595_r0 : BitVec 32 := 0#32
  ![v7495_r0.toNat, 0, 0]
def k0_off5 (k0_t1 : Fin k0_t1_loop.trips) : Fin 2 → Nat :=
  let c0_i32_2596_r0 : BitVec 32 := 0#32
  let c0_i32_690_r0 : BitVec 32 := 0#32
  let c1_i32_692_r0 : BitVec 32 := 1#32
  let arg18_r0 : BitVec 32 := Scf.iv c0_i32_690_r0 c1_i32_692_r0 k0_t1
  let c1_i32_2580_r0 : BitVec 32 := 1#32
  let v7484_r0 : BitVec 32 := Scalar.addi arg18_r0 c1_i32_2580_r0
  let c256_i32_2581_r0 : BitVec 32 := 256#32
  let v7485_r0 : BitVec 32 := Scalar.muli v7484_r0 c256_i32_2581_r0
  ![0, v7485_r0.toNat]
def k0_cond2 (k0_t1 : Fin k0_t1_loop.trips) : BitVec 1 :=
  let c0_i32_690_r0 : BitVec 32 := 0#32
  let c1_i32_692_r0 : BitVec 32 := 1#32
  let arg18_r0 : BitVec 32 := Scf.iv c0_i32_690_r0 c1_i32_692_r0 k0_t1
  let c2_i32_778_r0 : BitVec 32 := 2#32
  let v897_r0 : BitVec 32 := Scalar.addi arg18_r0 c2_i32_778_r0
  let c24_i32_779_r0 : BitVec 32 := 24#32
  let v898_r0 : BitVec 1 := Scalar.cmpi .slt v897_r0 c24_i32_779_r0
  let v899_r0 : BitVec 32 := Scalar.extui v898_r0
  let c0_i32_780_r0 : BitVec 32 := 0#32
  let v900_r0 : BitVec 1 := Scalar.cmpi .ne v899_r0 c0_i32_780_r0
  v900_r0

def k0_off6 (k0_t1 : Fin k0_t1_loop.trips) : Fin 1 → Nat :=
  let c0_i32_690_r0 : BitVec 32 := 0#32
  let c1_i32_692_r0 : BitVec 32 := 1#32
  let arg18_r0 : BitVec 32 := Scf.iv c0_i32_690_r0 c1_i32_692_r0 k0_t1
  let c2_i32_2563_r0 : BitVec 32 := 2#32
  let v7457_r0 : BitVec 32 := Scalar.addi arg18_r0 c2_i32_2563_r0
  let c3_i32_2571_r0 : BitVec 32 := 3#32
  let c0_i32_2572_r0 : BitVec 32 := 0#32
  let v7469_r0 : BitVec 1 := Scalar.cmpi .eq c3_i32_2571_r0 c0_i32_2572_r0
  let c1_i32_2573_r0 : BitVec 32 := 1#32
  let v7470_r0 : BitVec 32 := Scalar.select v7469_r0 c1_i32_2573_r0 c3_i32_2571_r0
  let v7471_r0 : BitVec 32 := Scalar.remsi v7457_r0 v7470_r0
  let c0_i32_2575_r0 : BitVec 32 := 0#32
  let v7473_r0 : BitVec 1 := Scalar.cmpi .slt v7471_r0 c0_i32_2575_r0
  let c0_i32_2576_r0 : BitVec 32 := 0#32
  let v7474_r0 : BitVec 1 := Scalar.cmpi .slt v7470_r0 c0_i32_2576_r0
  let v7475_r0 : BitVec 1 := Scalar.xori v7473_r0 v7474_r0
  let c0_i32_2574_r0 : BitVec 32 := 0#32
  let v7472_r0 : BitVec 1 := Scalar.cmpi .ne v7471_r0 c0_i32_2574_r0
  let v7476_r0 : BitVec 1 := Scalar.andi v7475_r0 v7472_r0
  let v7477_r0 : BitVec 32 := Scalar.addi v7471_r0 v7470_r0
  let v7478_r0 : BitVec 32 := Scalar.select v7476_r0 v7477_r0 v7471_r0
  ![v7478_r0.toNat]
def k0_off7 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c2_i32_2563_r0 : BitVec 32 := 2#32
  let v7457_r0 : BitVec 32 := Scalar.addi arg18_r0 c2_i32_2563_r0
  let c3_i32_2565_r0 : BitVec 32 := 3#32
  let c0_i32_2566_r0 : BitVec 32 := 0#32
  let v7459_r0 : BitVec 1 := Scalar.cmpi .eq c3_i32_2565_r0 c0_i32_2566_r0
  let c1_i32_2567_r0 : BitVec 32 := 1#32
  let v7460_r0 : BitVec 32 := Scalar.select v7459_r0 c1_i32_2567_r0 c3_i32_2565_r0
  let v7461_r0 : BitVec 32 := Scalar.remsi v7457_r0 v7460_r0
  let c0_i32_2569_r0 : BitVec 32 := 0#32
  let v7463_r0 : BitVec 1 := Scalar.cmpi .slt v7461_r0 c0_i32_2569_r0
  let c0_i32_2570_r0 : BitVec 32 := 0#32
  let v7464_r0 : BitVec 1 := Scalar.cmpi .slt v7460_r0 c0_i32_2570_r0
  let v7465_r0 : BitVec 1 := Scalar.xori v7463_r0 v7464_r0
  let c0_i32_2568_r0 : BitVec 32 := 0#32
  let v7462_r0 : BitVec 1 := Scalar.cmpi .ne v7461_r0 c0_i32_2568_r0
  let v7466_r0 : BitVec 1 := Scalar.andi v7465_r0 v7462_r0
  let v7467_r0 : BitVec 32 := Scalar.addi v7461_r0 v7460_r0
  let v7468_r0 : BitVec 32 := Scalar.select v7466_r0 v7467_r0 v7461_r0
  let c0_i32_2577_r0 : BitVec 32 := 0#32
  let c0_i32_2578_r0 : BitVec 32 := 0#32
  ![v7468_r0.toNat, 0, 0]
def k0_off8 (k0_t1 : Fin k0_t1_loop.trips) : Fin 2 → Nat :=
  let c0_i32_2579_r0 : BitVec 32 := 0#32
  let c0_i32_690_r0 : BitVec 32 := 0#32
  let c1_i32_692_r0 : BitVec 32 := 1#32
  let arg18_r0 : BitVec 32 := Scf.iv c0_i32_690_r0 c1_i32_692_r0 k0_t1
  let c2_i32_2563_r0 : BitVec 32 := 2#32
  let v7457_r0 : BitVec 32 := Scalar.addi arg18_r0 c2_i32_2563_r0
  let c256_i32_2564_r0 : BitVec 32 := 256#32
  let v7458_r0 : BitVec 32 := Scalar.muli v7457_r0 c256_i32_2564_r0
  ![0, v7458_r0.toNat]
def k0_off9 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c2_i32_2580_r0 : BitVec 32 := 2#32
  let v7484_r0 : BitVec 32 := Scalar.addi arg18_r0 c2_i32_2580_r0
  let c3_i32_2582_r0 : BitVec 32 := 3#32
  let c0_i32_2583_r0 : BitVec 32 := 0#32
  let v7486_r0 : BitVec 1 := Scalar.cmpi .eq c3_i32_2582_r0 c0_i32_2583_r0
  let c1_i32_2584_r0 : BitVec 32 := 1#32
  let v7487_r0 : BitVec 32 := Scalar.select v7486_r0 c1_i32_2584_r0 c3_i32_2582_r0
  let v7488_r0 : BitVec 32 := Scalar.remsi v7484_r0 v7487_r0
  let c0_i32_2586_r0 : BitVec 32 := 0#32
  let v7490_r0 : BitVec 1 := Scalar.cmpi .slt v7488_r0 c0_i32_2586_r0
  let c0_i32_2587_r0 : BitVec 32 := 0#32
  let v7491_r0 : BitVec 1 := Scalar.cmpi .slt v7487_r0 c0_i32_2587_r0
  let v7492_r0 : BitVec 1 := Scalar.xori v7490_r0 v7491_r0
  let c0_i32_2585_r0 : BitVec 32 := 0#32
  let v7489_r0 : BitVec 1 := Scalar.cmpi .ne v7488_r0 c0_i32_2585_r0
  let v7493_r0 : BitVec 1 := Scalar.andi v7492_r0 v7489_r0
  let v7494_r0 : BitVec 32 := Scalar.addi v7488_r0 v7487_r0
  let v7495_r0 : BitVec 32 := Scalar.select v7493_r0 v7494_r0 v7488_r0
  let c0_i32_2594_r0 : BitVec 32 := 0#32
  let c0_i32_2595_r0 : BitVec 32 := 0#32
  ![v7495_r0.toNat, 0, 0]
def k0_off10 (k0_t1 : Fin k0_t1_loop.trips) : Fin 2 → Nat :=
  let c0_i32_2596_r0 : BitVec 32 := 0#32
  let c0_i32_690_r0 : BitVec 32 := 0#32
  let c1_i32_692_r0 : BitVec 32 := 1#32
  let arg18_r0 : BitVec 32 := Scf.iv c0_i32_690_r0 c1_i32_692_r0 k0_t1
  let c2_i32_2580_r0 : BitVec 32 := 2#32
  let v7484_r0 : BitVec 32 := Scalar.addi arg18_r0 c2_i32_2580_r0
  let c256_i32_2581_r0 : BitVec 32 := 256#32
  let v7485_r0 : BitVec 32 := Scalar.muli v7484_r0 c256_i32_2581_r0
  ![0, v7485_r0.toNat]
def k0_cond3 (k0_t1 : Fin k0_t1_loop.trips) : BitVec 1 :=
  let c0_i32_690_r0 : BitVec 32 := 0#32
  let c1_i32_692_r0 : BitVec 32 := 1#32
  let arg18_r0 : BitVec 32 := Scf.iv c0_i32_690_r0 c1_i32_692_r0 k0_t1
  let c3_i32_781_r0 : BitVec 32 := 3#32
  let v901_r0 : BitVec 1 := Scalar.cmpi .sge arg18_r0 c3_i32_781_r0
  let v902_r0 : BitVec 32 := Scalar.extui v901_r0
  let c0_i32_782_r0 : BitVec 32 := 0#32
  let v903_r0 : BitVec 1 := Scalar.cmpi .ne v902_r0 c0_i32_782_r0
  v903_r0

def k0_off11 (k0_t1 : Fin k0_t1_loop.trips) : Fin 1 → Nat :=
  let c0_i32_690_r0 : BitVec 32 := 0#32
  let c1_i32_692_r0 : BitVec 32 := 1#32
  let arg18_r0 : BitVec 32 := Scf.iv c0_i32_690_r0 c1_i32_692_r0 k0_t1
  let c3_i32_2563_r0 : BitVec 32 := 3#32
  let v7457_r0 : BitVec 32 := Scalar.subi arg18_r0 c3_i32_2563_r0
  let c2_i32_2571_r0 : BitVec 32 := 2#32
  let c0_i32_2572_r0 : BitVec 32 := 0#32
  let v7469_r0 : BitVec 1 := Scalar.cmpi .eq c2_i32_2571_r0 c0_i32_2572_r0
  let c1_i32_2573_r0 : BitVec 32 := 1#32
  let v7470_r0 : BitVec 32 := Scalar.select v7469_r0 c1_i32_2573_r0 c2_i32_2571_r0
  let v7471_r0 : BitVec 32 := Scalar.remsi v7457_r0 v7470_r0
  let c0_i32_2575_r0 : BitVec 32 := 0#32
  let v7473_r0 : BitVec 1 := Scalar.cmpi .slt v7471_r0 c0_i32_2575_r0
  let c0_i32_2576_r0 : BitVec 32 := 0#32
  let v7474_r0 : BitVec 1 := Scalar.cmpi .slt v7470_r0 c0_i32_2576_r0
  let v7475_r0 : BitVec 1 := Scalar.xori v7473_r0 v7474_r0
  let c0_i32_2574_r0 : BitVec 32 := 0#32
  let v7472_r0 : BitVec 1 := Scalar.cmpi .ne v7471_r0 c0_i32_2574_r0
  let v7476_r0 : BitVec 1 := Scalar.andi v7475_r0 v7472_r0
  let v7477_r0 : BitVec 32 := Scalar.addi v7471_r0 v7470_r0
  let v7478_r0 : BitVec 32 := Scalar.select v7476_r0 v7477_r0 v7471_r0
  ![v7478_r0.toNat]
def k0_off12 (k0_t1 : Fin k0_t1_loop.trips) : Fin 2 → Nat :=
  let c0_i32_2577_r0 : BitVec 32 := 0#32
  let c0_i32_690_r0 : BitVec 32 := 0#32
  let c1_i32_692_r0 : BitVec 32 := 1#32
  let arg18_r0 : BitVec 32 := Scf.iv c0_i32_690_r0 c1_i32_692_r0 k0_t1
  let c3_i32_2563_r0 : BitVec 32 := 3#32
  let v7457_r0 : BitVec 32 := Scalar.subi arg18_r0 c3_i32_2563_r0
  let c256_i32_2570_r0 : BitVec 32 := 256#32
  let v7468_r0 : BitVec 32 := Scalar.muli v7457_r0 c256_i32_2570_r0
  ![0, v7468_r0.toNat]
def k0_off13 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_2563_r0 : BitVec 32 := 3#32
  let v7457_r0 : BitVec 32 := Scalar.subi arg18_r0 c3_i32_2563_r0
  let c2_i32_2564_r0 : BitVec 32 := 2#32
  let c0_i32_2565_r0 : BitVec 32 := 0#32
  let v7458_r0 : BitVec 1 := Scalar.cmpi .eq c2_i32_2564_r0 c0_i32_2565_r0
  let c1_i32_2566_r0 : BitVec 32 := 1#32
  let v7459_r0 : BitVec 32 := Scalar.select v7458_r0 c1_i32_2566_r0 c2_i32_2564_r0
  let v7460_r0 : BitVec 32 := Scalar.remsi v7457_r0 v7459_r0
  let c0_i32_2568_r0 : BitVec 32 := 0#32
  let v7462_r0 : BitVec 1 := Scalar.cmpi .slt v7460_r0 c0_i32_2568_r0
  let c0_i32_2569_r0 : BitVec 32 := 0#32
  let v7463_r0 : BitVec 1 := Scalar.cmpi .slt v7459_r0 c0_i32_2569_r0
  let v7464_r0 : BitVec 1 := Scalar.xori v7462_r0 v7463_r0
  let c0_i32_2567_r0 : BitVec 32 := 0#32
  let v7461_r0 : BitVec 1 := Scalar.cmpi .ne v7460_r0 c0_i32_2567_r0
  let v7465_r0 : BitVec 1 := Scalar.andi v7464_r0 v7461_r0
  let v7466_r0 : BitVec 32 := Scalar.addi v7460_r0 v7459_r0
  let v7467_r0 : BitVec 32 := Scalar.select v7465_r0 v7466_r0 v7460_r0
  let c0_i32_2578_r0 : BitVec 32 := 0#32
  let c0_i32_2579_r0 : BitVec 32 := 0#32
  ![v7467_r0.toNat, 0, 0]
def k0_cond4 (k0_t1 : Fin k0_t1_loop.trips) : BitVec 1 :=
  let c0_i32_690_r0 : BitVec 32 := 0#32
  let c1_i32_692_r0 : BitVec 32 := 1#32
  let arg18_r0 : BitVec 32 := Scf.iv c0_i32_690_r0 c1_i32_692_r0 k0_t1
  let c2_i32_783_r0 : BitVec 32 := 2#32
  let v904_r0 : BitVec 1 := Scalar.cmpi .sge arg18_r0 c2_i32_783_r0
  let v905_r0 : BitVec 32 := Scalar.extui v904_r0
  let c0_i32_784_r0 : BitVec 32 := 0#32
  let v906_r0 : BitVec 1 := Scalar.cmpi .ne v905_r0 c0_i32_784_r0
  v906_r0

def k0_off14 (k0_t1 : Fin k0_t1_loop.trips) : Fin 1 → Nat :=
  let c0_i32_690_r0 : BitVec 32 := 0#32
  let c1_i32_692_r0 : BitVec 32 := 1#32
  let arg18_r0 : BitVec 32 := Scf.iv c0_i32_690_r0 c1_i32_692_r0 k0_t1
  let c2_i32_2563_r0 : BitVec 32 := 2#32
  let v7457_r0 : BitVec 32 := Scalar.subi arg18_r0 c2_i32_2563_r0
  let c2_i32_2571_r0 : BitVec 32 := 2#32
  let c0_i32_2572_r0 : BitVec 32 := 0#32
  let v7469_r0 : BitVec 1 := Scalar.cmpi .eq c2_i32_2571_r0 c0_i32_2572_r0
  let c1_i32_2573_r0 : BitVec 32 := 1#32
  let v7470_r0 : BitVec 32 := Scalar.select v7469_r0 c1_i32_2573_r0 c2_i32_2571_r0
  let v7471_r0 : BitVec 32 := Scalar.remsi v7457_r0 v7470_r0
  let c0_i32_2575_r0 : BitVec 32 := 0#32
  let v7473_r0 : BitVec 1 := Scalar.cmpi .slt v7471_r0 c0_i32_2575_r0
  let c0_i32_2576_r0 : BitVec 32 := 0#32
  let v7474_r0 : BitVec 1 := Scalar.cmpi .slt v7470_r0 c0_i32_2576_r0
  let v7475_r0 : BitVec 1 := Scalar.xori v7473_r0 v7474_r0
  let c0_i32_2574_r0 : BitVec 32 := 0#32
  let v7472_r0 : BitVec 1 := Scalar.cmpi .ne v7471_r0 c0_i32_2574_r0
  let v7476_r0 : BitVec 1 := Scalar.andi v7475_r0 v7472_r0
  let v7477_r0 : BitVec 32 := Scalar.addi v7471_r0 v7470_r0
  let v7478_r0 : BitVec 32 := Scalar.select v7476_r0 v7477_r0 v7471_r0
  ![v7478_r0.toNat]
def k0_off15 (k0_t1 : Fin k0_t1_loop.trips) : Fin 2 → Nat :=
  let c0_i32_2577_r0 : BitVec 32 := 0#32
  let c0_i32_690_r0 : BitVec 32 := 0#32
  let c1_i32_692_r0 : BitVec 32 := 1#32
  let arg18_r0 : BitVec 32 := Scf.iv c0_i32_690_r0 c1_i32_692_r0 k0_t1
  let c2_i32_2563_r0 : BitVec 32 := 2#32
  let v7457_r0 : BitVec 32 := Scalar.subi arg18_r0 c2_i32_2563_r0
  let c256_i32_2570_r0 : BitVec 32 := 256#32
  let v7468_r0 : BitVec 32 := Scalar.muli v7457_r0 c256_i32_2570_r0
  ![0, v7468_r0.toNat]
def k0_off16 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c2_i32_2563_r0 : BitVec 32 := 2#32
  let v7457_r0 : BitVec 32 := Scalar.subi arg18_r0 c2_i32_2563_r0
  let c2_i32_2564_r0 : BitVec 32 := 2#32
  let c0_i32_2565_r0 : BitVec 32 := 0#32
  let v7458_r0 : BitVec 1 := Scalar.cmpi .eq c2_i32_2564_r0 c0_i32_2565_r0
  let c1_i32_2566_r0 : BitVec 32 := 1#32
  let v7459_r0 : BitVec 32 := Scalar.select v7458_r0 c1_i32_2566_r0 c2_i32_2564_r0
  let v7460_r0 : BitVec 32 := Scalar.remsi v7457_r0 v7459_r0
  let c0_i32_2568_r0 : BitVec 32 := 0#32
  let v7462_r0 : BitVec 1 := Scalar.cmpi .slt v7460_r0 c0_i32_2568_r0
  let c0_i32_2569_r0 : BitVec 32 := 0#32
  let v7463_r0 : BitVec 1 := Scalar.cmpi .slt v7459_r0 c0_i32_2569_r0
  let v7464_r0 : BitVec 1 := Scalar.xori v7462_r0 v7463_r0
  let c0_i32_2567_r0 : BitVec 32 := 0#32
  let v7461_r0 : BitVec 1 := Scalar.cmpi .ne v7460_r0 c0_i32_2567_r0
  let v7465_r0 : BitVec 1 := Scalar.andi v7464_r0 v7461_r0
  let v7466_r0 : BitVec 32 := Scalar.addi v7460_r0 v7459_r0
  let v7467_r0 : BitVec 32 := Scalar.select v7465_r0 v7466_r0 v7460_r0
  let c0_i32_2578_r0 : BitVec 32 := 0#32
  let c0_i32_2579_r0 : BitVec 32 := 0#32
  ![v7467_r0.toNat, 0, 0]
def k0_off17 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c1_i32_785_r0 : BitVec 32 := 1#32
  let v907_r0 : BitVec 32 := Scalar.addi arg18_r0 c1_i32_785_r0
  let c2_i32_786_r0 : BitVec 32 := 2#32
  let c0_i32_787_r0 : BitVec 32 := 0#32
  let v908_r0 : BitVec 1 := Scalar.cmpi .eq c2_i32_786_r0 c0_i32_787_r0
  let c1_i32_788_r0 : BitVec 32 := 1#32
  let v909_r0 : BitVec 32 := Scalar.select v908_r0 c1_i32_788_r0 c2_i32_786_r0
  let v910_r0 : BitVec 32 := Scalar.remsi v907_r0 v909_r0
  let c0_i32_790_r0 : BitVec 32 := 0#32
  let v912_r0 : BitVec 1 := Scalar.cmpi .slt v910_r0 c0_i32_790_r0
  let c0_i32_791_r0 : BitVec 32 := 0#32
  let v913_r0 : BitVec 1 := Scalar.cmpi .slt v909_r0 c0_i32_791_r0
  let v914_r0 : BitVec 1 := Scalar.xori v912_r0 v913_r0
  let c0_i32_789_r0 : BitVec 32 := 0#32
  let v911_r0 : BitVec 1 := Scalar.cmpi .ne v910_r0 c0_i32_789_r0
  let v915_r0 : BitVec 1 := Scalar.andi v914_r0 v911_r0
  let v916_r0 : BitVec 32 := Scalar.addi v910_r0 v909_r0
  let v917_r0 : BitVec 32 := Scalar.select v915_r0 v916_r0 v910_r0
  let v920_r0 : Index := Scalar.indexCast v917_r0
  let c0_792_r0 : Index := 0#32
  let c0_793_r0 : Index := 0#32
  ![v920_r0.toNat, 0, 0]
def k0_off18 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c1_i32_785_r0 : BitVec 32 := 1#32
  let v907_r0 : BitVec 32 := Scalar.addi arg18_r0 c1_i32_785_r0
  let c2_i32_786_r0 : BitVec 32 := 2#32
  let c0_i32_787_r0 : BitVec 32 := 0#32
  let v908_r0 : BitVec 1 := Scalar.cmpi .eq c2_i32_786_r0 c0_i32_787_r0
  let c1_i32_788_r0 : BitVec 32 := 1#32
  let v909_r0 : BitVec 32 := Scalar.select v908_r0 c1_i32_788_r0 c2_i32_786_r0
  let v910_r0 : BitVec 32 := Scalar.remsi v907_r0 v909_r0
  let c0_i32_790_r0 : BitVec 32 := 0#32
  let v912_r0 : BitVec 1 := Scalar.cmpi .slt v910_r0 c0_i32_790_r0
  let c0_i32_791_r0 : BitVec 32 := 0#32
  let v913_r0 : BitVec 1 := Scalar.cmpi .slt v909_r0 c0_i32_791_r0
  let v914_r0 : BitVec 1 := Scalar.xori v912_r0 v913_r0
  let c0_i32_789_r0 : BitVec 32 := 0#32
  let v911_r0 : BitVec 1 := Scalar.cmpi .ne v910_r0 c0_i32_789_r0
  let v915_r0 : BitVec 1 := Scalar.andi v914_r0 v911_r0
  let v916_r0 : BitVec 32 := Scalar.addi v910_r0 v909_r0
  let v917_r0 : BitVec 32 := Scalar.select v915_r0 v916_r0 v910_r0
  let v928_r0 : Index := Scalar.indexCast v917_r0
  let c768_797_r0 : Index := 768#32
  let c0_798_r0 : Index := 0#32
  ![v928_r0.toNat, 768, 0]
def k0_off19 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v934_r0 : Index := Scalar.indexCast v881_r0
  let c0_802_r0 : Index := 0#32
  let c0_803_r0 : Index := 0#32
  ![v934_r0.toNat, 0, 0]
def k0_off20 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v943_r0 : Index := Scalar.indexCast v881_r0
  let c32_r0 : Index := 32#32
  let c0_806_r0 : Index := 0#32
  ![v943_r0.toNat, 32, 0]
def k0_off21 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c1_i32_785_r0 : BitVec 32 := 1#32
  let v907_r0 : BitVec 32 := Scalar.addi arg18_r0 c1_i32_785_r0
  let c2_i32_786_r0 : BitVec 32 := 2#32
  let c0_i32_787_r0 : BitVec 32 := 0#32
  let v908_r0 : BitVec 1 := Scalar.cmpi .eq c2_i32_786_r0 c0_i32_787_r0
  let c1_i32_788_r0 : BitVec 32 := 1#32
  let v909_r0 : BitVec 32 := Scalar.select v908_r0 c1_i32_788_r0 c2_i32_786_r0
  let v910_r0 : BitVec 32 := Scalar.remsi v907_r0 v909_r0
  let c0_i32_790_r0 : BitVec 32 := 0#32
  let v912_r0 : BitVec 1 := Scalar.cmpi .slt v910_r0 c0_i32_790_r0
  let c0_i32_791_r0 : BitVec 32 := 0#32
  let v913_r0 : BitVec 1 := Scalar.cmpi .slt v909_r0 c0_i32_791_r0
  let v914_r0 : BitVec 1 := Scalar.xori v912_r0 v913_r0
  let c0_i32_789_r0 : BitVec 32 := 0#32
  let v911_r0 : BitVec 1 := Scalar.cmpi .ne v910_r0 c0_i32_789_r0
  let v915_r0 : BitVec 1 := Scalar.andi v914_r0 v911_r0
  let v916_r0 : BitVec 32 := Scalar.addi v910_r0 v909_r0
  let v917_r0 : BitVec 32 := Scalar.select v915_r0 v916_r0 v910_r0
  let v1032_r0 : Index := Scalar.indexCast v917_r0
  let c256_815_r0 : Index := 256#32
  let c0_816_r0 : Index := 0#32
  ![v1032_r0.toNat, 256, 0]
def k0_off22 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c1_i32_785_r0 : BitVec 32 := 1#32
  let v907_r0 : BitVec 32 := Scalar.addi arg18_r0 c1_i32_785_r0
  let c2_i32_786_r0 : BitVec 32 := 2#32
  let c0_i32_787_r0 : BitVec 32 := 0#32
  let v908_r0 : BitVec 1 := Scalar.cmpi .eq c2_i32_786_r0 c0_i32_787_r0
  let c1_i32_788_r0 : BitVec 32 := 1#32
  let v909_r0 : BitVec 32 := Scalar.select v908_r0 c1_i32_788_r0 c2_i32_786_r0
  let v910_r0 : BitVec 32 := Scalar.remsi v907_r0 v909_r0
  let c0_i32_790_r0 : BitVec 32 := 0#32
  let v912_r0 : BitVec 1 := Scalar.cmpi .slt v910_r0 c0_i32_790_r0
  let c0_i32_791_r0 : BitVec 32 := 0#32
  let v913_r0 : BitVec 1 := Scalar.cmpi .slt v909_r0 c0_i32_791_r0
  let v914_r0 : BitVec 1 := Scalar.xori v912_r0 v913_r0
  let c0_i32_789_r0 : BitVec 32 := 0#32
  let v911_r0 : BitVec 1 := Scalar.cmpi .ne v910_r0 c0_i32_789_r0
  let v915_r0 : BitVec 1 := Scalar.andi v914_r0 v911_r0
  let v916_r0 : BitVec 32 := Scalar.addi v910_r0 v909_r0
  let v917_r0 : BitVec 32 := Scalar.select v915_r0 v916_r0 v910_r0
  let v1040_r0 : Index := Scalar.indexCast v917_r0
  let c1024_820_r0 : Index := 1024#32
  let c0_821_r0 : Index := 0#32
  ![v1040_r0.toNat, 1024, 0]
def k0_off23 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c1_i32_785_r0 : BitVec 32 := 1#32
  let v907_r0 : BitVec 32 := Scalar.addi arg18_r0 c1_i32_785_r0
  let c2_i32_786_r0 : BitVec 32 := 2#32
  let c0_i32_787_r0 : BitVec 32 := 0#32
  let v908_r0 : BitVec 1 := Scalar.cmpi .eq c2_i32_786_r0 c0_i32_787_r0
  let c1_i32_788_r0 : BitVec 32 := 1#32
  let v909_r0 : BitVec 32 := Scalar.select v908_r0 c1_i32_788_r0 c2_i32_786_r0
  let v910_r0 : BitVec 32 := Scalar.remsi v907_r0 v909_r0
  let c0_i32_790_r0 : BitVec 32 := 0#32
  let v912_r0 : BitVec 1 := Scalar.cmpi .slt v910_r0 c0_i32_790_r0
  let c0_i32_791_r0 : BitVec 32 := 0#32
  let v913_r0 : BitVec 1 := Scalar.cmpi .slt v909_r0 c0_i32_791_r0
  let v914_r0 : BitVec 1 := Scalar.xori v912_r0 v913_r0
  let c0_i32_789_r0 : BitVec 32 := 0#32
  let v911_r0 : BitVec 1 := Scalar.cmpi .ne v910_r0 c0_i32_789_r0
  let v915_r0 : BitVec 1 := Scalar.andi v914_r0 v911_r0
  let v916_r0 : BitVec 32 := Scalar.addi v910_r0 v909_r0
  let v917_r0 : BitVec 32 := Scalar.select v915_r0 v916_r0 v910_r0
  let v1048_r0 : Index := Scalar.indexCast v917_r0
  let c512_825_r0 : Index := 512#32
  let c0_826_r0 : Index := 0#32
  ![v1048_r0.toNat, 512, 0]
def k0_off24 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c1_i32_785_r0 : BitVec 32 := 1#32
  let v907_r0 : BitVec 32 := Scalar.addi arg18_r0 c1_i32_785_r0
  let c2_i32_786_r0 : BitVec 32 := 2#32
  let c0_i32_787_r0 : BitVec 32 := 0#32
  let v908_r0 : BitVec 1 := Scalar.cmpi .eq c2_i32_786_r0 c0_i32_787_r0
  let c1_i32_788_r0 : BitVec 32 := 1#32
  let v909_r0 : BitVec 32 := Scalar.select v908_r0 c1_i32_788_r0 c2_i32_786_r0
  let v910_r0 : BitVec 32 := Scalar.remsi v907_r0 v909_r0
  let c0_i32_790_r0 : BitVec 32 := 0#32
  let v912_r0 : BitVec 1 := Scalar.cmpi .slt v910_r0 c0_i32_790_r0
  let c0_i32_791_r0 : BitVec 32 := 0#32
  let v913_r0 : BitVec 1 := Scalar.cmpi .slt v909_r0 c0_i32_791_r0
  let v914_r0 : BitVec 1 := Scalar.xori v912_r0 v913_r0
  let c0_i32_789_r0 : BitVec 32 := 0#32
  let v911_r0 : BitVec 1 := Scalar.cmpi .ne v910_r0 c0_i32_789_r0
  let v915_r0 : BitVec 1 := Scalar.andi v914_r0 v911_r0
  let v916_r0 : BitVec 32 := Scalar.addi v910_r0 v909_r0
  let v917_r0 : BitVec 32 := Scalar.select v915_r0 v916_r0 v910_r0
  let v1056_r0 : Index := Scalar.indexCast v917_r0
  let c1280_830_r0 : Index := 1280#32
  let c0_831_r0 : Index := 0#32
  ![v1056_r0.toNat, 1280, 0]
def k0_off25 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v1066_r0 : Index := Scalar.indexCast v881_r0
  let c64_r0 : Index := 64#32
  let c0_841_r0 : Index := 0#32
  ![v1066_r0.toNat, 64, 0]
def k0_off26 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v1165_r0 : Index := Scalar.indexCast v881_r0
  let c96_r0 : Index := 96#32
  let c0_867_r0 : Index := 0#32
  ![v1165_r0.toNat, 96, 0]
def k0_off27 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v1264_r0 : Index := Scalar.indexCast v881_r0
  let c32_893_r0 : Index := 32#32
  let c0_894_r0 : Index := 0#32
  ![v1264_r0.toNat, 32, 0]
def k0_off28 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v1273_r0 : Index := Scalar.indexCast v881_r0
  let c128_r0 : Index := 128#32
  let c0_897_r0 : Index := 0#32
  ![v1273_r0.toNat, 128, 0]
def k0_off29 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v1372_r0 : Index := Scalar.indexCast v881_r0
  let c160_r0 : Index := 160#32
  let c0_923_r0 : Index := 0#32
  ![v1372_r0.toNat, 160, 0]
def k0_off30 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v1471_r0 : Index := Scalar.indexCast v881_r0
  let c192_r0 : Index := 192#32
  let c0_949_r0 : Index := 0#32
  ![v1471_r0.toNat, 192, 0]
def k0_off31 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v1570_r0 : Index := Scalar.indexCast v881_r0
  let c224_r0 : Index := 224#32
  let c0_975_r0 : Index := 0#32
  ![v1570_r0.toNat, 224, 0]
def k0_off32 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v1669_r0 : Index := Scalar.indexCast v881_r0
  let c64_1001_r0 : Index := 64#32
  let c0_1002_r0 : Index := 0#32
  ![v1669_r0.toNat, 64, 0]
def k0_off33 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v1678_r0 : Index := Scalar.indexCast v881_r0
  let c256_1005_r0 : Index := 256#32
  let c0_1006_r0 : Index := 0#32
  ![v1678_r0.toNat, 256, 0]
def k0_off34 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v1777_r0 : Index := Scalar.indexCast v881_r0
  let c288_r0 : Index := 288#32
  let c0_1032_r0 : Index := 0#32
  ![v1777_r0.toNat, 288, 0]
def k0_off35 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v1876_r0 : Index := Scalar.indexCast v881_r0
  let c320_r0 : Index := 320#32
  let c0_1058_r0 : Index := 0#32
  ![v1876_r0.toNat, 320, 0]
def k0_off36 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v1975_r0 : Index := Scalar.indexCast v881_r0
  let c352_r0 : Index := 352#32
  let c0_1084_r0 : Index := 0#32
  ![v1975_r0.toNat, 352, 0]
def k0_off37 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v2074_r0 : Index := Scalar.indexCast v881_r0
  let c96_1110_r0 : Index := 96#32
  let c0_1111_r0 : Index := 0#32
  ![v2074_r0.toNat, 96, 0]
def k0_off38 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v2083_r0 : Index := Scalar.indexCast v881_r0
  let c384_r0 : Index := 384#32
  let c0_1114_r0 : Index := 0#32
  ![v2083_r0.toNat, 384, 0]
def k0_off39 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v2182_r0 : Index := Scalar.indexCast v881_r0
  let c416_r0 : Index := 416#32
  let c0_1140_r0 : Index := 0#32
  ![v2182_r0.toNat, 416, 0]
def k0_off40 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v2281_r0 : Index := Scalar.indexCast v881_r0
  let c448_r0 : Index := 448#32
  let c0_1166_r0 : Index := 0#32
  ![v2281_r0.toNat, 448, 0]
def k0_off41 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v2380_r0 : Index := Scalar.indexCast v881_r0
  let c480_r0 : Index := 480#32
  let c0_1192_r0 : Index := 0#32
  ![v2380_r0.toNat, 480, 0]
def k0_off42 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v2479_r0 : Index := Scalar.indexCast v881_r0
  let c128_1218_r0 : Index := 128#32
  let c0_1219_r0 : Index := 0#32
  ![v2479_r0.toNat, 128, 0]
def k0_off43 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v2488_r0 : Index := Scalar.indexCast v881_r0
  let c512_1222_r0 : Index := 512#32
  let c0_1223_r0 : Index := 0#32
  ![v2488_r0.toNat, 512, 0]
def k0_off44 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v2587_r0 : Index := Scalar.indexCast v881_r0
  let c544_r0 : Index := 544#32
  let c0_1249_r0 : Index := 0#32
  ![v2587_r0.toNat, 544, 0]
def k0_off45 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v2686_r0 : Index := Scalar.indexCast v881_r0
  let c576_r0 : Index := 576#32
  let c0_1275_r0 : Index := 0#32
  ![v2686_r0.toNat, 576, 0]
def k0_off46 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v2785_r0 : Index := Scalar.indexCast v881_r0
  let c608_r0 : Index := 608#32
  let c0_1301_r0 : Index := 0#32
  ![v2785_r0.toNat, 608, 0]
def k0_off47 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v2884_r0 : Index := Scalar.indexCast v881_r0
  let c160_1327_r0 : Index := 160#32
  let c0_1328_r0 : Index := 0#32
  ![v2884_r0.toNat, 160, 0]
def k0_off48 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v2893_r0 : Index := Scalar.indexCast v881_r0
  let c640_r0 : Index := 640#32
  let c0_1331_r0 : Index := 0#32
  ![v2893_r0.toNat, 640, 0]
def k0_off49 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v2992_r0 : Index := Scalar.indexCast v881_r0
  let c672_r0 : Index := 672#32
  let c0_1357_r0 : Index := 0#32
  ![v2992_r0.toNat, 672, 0]
def k0_off50 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v3091_r0 : Index := Scalar.indexCast v881_r0
  let c704_r0 : Index := 704#32
  let c0_1383_r0 : Index := 0#32
  ![v3091_r0.toNat, 704, 0]
def k0_off51 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v3190_r0 : Index := Scalar.indexCast v881_r0
  let c736_r0 : Index := 736#32
  let c0_1409_r0 : Index := 0#32
  ![v3190_r0.toNat, 736, 0]
def k0_off52 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v3289_r0 : Index := Scalar.indexCast v881_r0
  let c192_1435_r0 : Index := 192#32
  let c0_1436_r0 : Index := 0#32
  ![v3289_r0.toNat, 192, 0]
def k0_off53 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v3298_r0 : Index := Scalar.indexCast v881_r0
  let c768_1439_r0 : Index := 768#32
  let c0_1440_r0 : Index := 0#32
  ![v3298_r0.toNat, 768, 0]
def k0_off54 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v3397_r0 : Index := Scalar.indexCast v881_r0
  let c800_r0 : Index := 800#32
  let c0_1466_r0 : Index := 0#32
  ![v3397_r0.toNat, 800, 0]
def k0_off55 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v3496_r0 : Index := Scalar.indexCast v881_r0
  let c832_r0 : Index := 832#32
  let c0_1492_r0 : Index := 0#32
  ![v3496_r0.toNat, 832, 0]
def k0_off56 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v3595_r0 : Index := Scalar.indexCast v881_r0
  let c864_r0 : Index := 864#32
  let c0_1518_r0 : Index := 0#32
  ![v3595_r0.toNat, 864, 0]
def k0_off57 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v3694_r0 : Index := Scalar.indexCast v881_r0
  let c224_1544_r0 : Index := 224#32
  let c0_1545_r0 : Index := 0#32
  ![v3694_r0.toNat, 224, 0]
def k0_off58 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v3703_r0 : Index := Scalar.indexCast v881_r0
  let c896_r0 : Index := 896#32
  let c0_1548_r0 : Index := 0#32
  ![v3703_r0.toNat, 896, 0]
def k0_off59 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v3802_r0 : Index := Scalar.indexCast v881_r0
  let c928_r0 : Index := 928#32
  let c0_1574_r0 : Index := 0#32
  ![v3802_r0.toNat, 928, 0]
def k0_off60 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v3901_r0 : Index := Scalar.indexCast v881_r0
  let c960_r0 : Index := 960#32
  let c0_1600_r0 : Index := 0#32
  ![v3901_r0.toNat, 960, 0]
def k0_off61 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v4000_r0 : Index := Scalar.indexCast v881_r0
  let c992_r0 : Index := 992#32
  let c0_1626_r0 : Index := 0#32
  ![v4000_r0.toNat, 992, 0]
def k0_off62 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v4099_r0 : Index := Scalar.indexCast v881_r0
  let c256_1652_r0 : Index := 256#32
  let c0_1653_r0 : Index := 0#32
  ![v4099_r0.toNat, 256, 0]
def k0_off63 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v4108_r0 : Index := Scalar.indexCast v881_r0
  let c1024_1656_r0 : Index := 1024#32
  let c0_1657_r0 : Index := 0#32
  ![v4108_r0.toNat, 1024, 0]
def k0_off64 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v4207_r0 : Index := Scalar.indexCast v881_r0
  let c1056_r0 : Index := 1056#32
  let c0_1684_r0 : Index := 0#32
  ![v4207_r0.toNat, 1056, 0]
def k0_off65 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v4306_r0 : Index := Scalar.indexCast v881_r0
  let c1088_r0 : Index := 1088#32
  let c0_1710_r0 : Index := 0#32
  ![v4306_r0.toNat, 1088, 0]
def k0_off66 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v4405_r0 : Index := Scalar.indexCast v881_r0
  let c1120_r0 : Index := 1120#32
  let c0_1736_r0 : Index := 0#32
  ![v4405_r0.toNat, 1120, 0]
def k0_off67 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v4504_r0 : Index := Scalar.indexCast v881_r0
  let c288_1762_r0 : Index := 288#32
  let c0_1763_r0 : Index := 0#32
  ![v4504_r0.toNat, 288, 0]
def k0_off68 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v4513_r0 : Index := Scalar.indexCast v881_r0
  let c1152_r0 : Index := 1152#32
  let c0_1766_r0 : Index := 0#32
  ![v4513_r0.toNat, 1152, 0]
def k0_off69 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v4612_r0 : Index := Scalar.indexCast v881_r0
  let c1184_r0 : Index := 1184#32
  let c0_1792_r0 : Index := 0#32
  ![v4612_r0.toNat, 1184, 0]
def k0_off70 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v4711_r0 : Index := Scalar.indexCast v881_r0
  let c1216_r0 : Index := 1216#32
  let c0_1818_r0 : Index := 0#32
  ![v4711_r0.toNat, 1216, 0]
def k0_off71 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v4810_r0 : Index := Scalar.indexCast v881_r0
  let c1248_r0 : Index := 1248#32
  let c0_1844_r0 : Index := 0#32
  ![v4810_r0.toNat, 1248, 0]
def k0_off72 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v4909_r0 : Index := Scalar.indexCast v881_r0
  let c320_1870_r0 : Index := 320#32
  let c0_1871_r0 : Index := 0#32
  ![v4909_r0.toNat, 320, 0]
def k0_off73 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v4918_r0 : Index := Scalar.indexCast v881_r0
  let c1280_1874_r0 : Index := 1280#32
  let c0_1875_r0 : Index := 0#32
  ![v4918_r0.toNat, 1280, 0]
def k0_off74 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v5017_r0 : Index := Scalar.indexCast v881_r0
  let c1312_r0 : Index := 1312#32
  let c0_1901_r0 : Index := 0#32
  ![v5017_r0.toNat, 1312, 0]
def k0_off75 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v5116_r0 : Index := Scalar.indexCast v881_r0
  let c1344_r0 : Index := 1344#32
  let c0_1927_r0 : Index := 0#32
  ![v5116_r0.toNat, 1344, 0]
def k0_off76 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v5215_r0 : Index := Scalar.indexCast v881_r0
  let c1376_r0 : Index := 1376#32
  let c0_1953_r0 : Index := 0#32
  ![v5215_r0.toNat, 1376, 0]
def k0_off77 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v5314_r0 : Index := Scalar.indexCast v881_r0
  let c352_1979_r0 : Index := 352#32
  let c0_1980_r0 : Index := 0#32
  ![v5314_r0.toNat, 352, 0]
def k0_off78 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v5323_r0 : Index := Scalar.indexCast v881_r0
  let c1408_r0 : Index := 1408#32
  let c0_1983_r0 : Index := 0#32
  ![v5323_r0.toNat, 1408, 0]
def k0_off79 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v5422_r0 : Index := Scalar.indexCast v881_r0
  let c1440_r0 : Index := 1440#32
  let c0_2009_r0 : Index := 0#32
  ![v5422_r0.toNat, 1440, 0]
def k0_off80 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v5521_r0 : Index := Scalar.indexCast v881_r0
  let c1472_r0 : Index := 1472#32
  let c0_2035_r0 : Index := 0#32
  ![v5521_r0.toNat, 1472, 0]
def k0_off81 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v5620_r0 : Index := Scalar.indexCast v881_r0
  let c1504_r0 : Index := 1504#32
  let c0_2061_r0 : Index := 0#32
  ![v5620_r0.toNat, 1504, 0]
def k0_off82 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v5719_r0 : Index := Scalar.indexCast v881_r0
  let c384_2087_r0 : Index := 384#32
  let c0_2088_r0 : Index := 0#32
  ![v5719_r0.toNat, 384, 0]
def k0_off83 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v5728_r0 : Index := Scalar.indexCast v881_r0
  let c1536_r0 : Index := 1536#32
  let c0_2091_r0 : Index := 0#32
  ![v5728_r0.toNat, 1536, 0]
def k0_off84 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v5827_r0 : Index := Scalar.indexCast v881_r0
  let c1568_r0 : Index := 1568#32
  let c0_2117_r0 : Index := 0#32
  ![v5827_r0.toNat, 1568, 0]
def k0_off85 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v5926_r0 : Index := Scalar.indexCast v881_r0
  let c1600_r0 : Index := 1600#32
  let c0_2143_r0 : Index := 0#32
  ![v5926_r0.toNat, 1600, 0]
def k0_off86 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v6025_r0 : Index := Scalar.indexCast v881_r0
  let c1632_r0 : Index := 1632#32
  let c0_2169_r0 : Index := 0#32
  ![v6025_r0.toNat, 1632, 0]
def k0_off87 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v6124_r0 : Index := Scalar.indexCast v881_r0
  let c416_2195_r0 : Index := 416#32
  let c0_2196_r0 : Index := 0#32
  ![v6124_r0.toNat, 416, 0]
def k0_off88 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v6133_r0 : Index := Scalar.indexCast v881_r0
  let c1664_r0 : Index := 1664#32
  let c0_2199_r0 : Index := 0#32
  ![v6133_r0.toNat, 1664, 0]
def k0_off89 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v6232_r0 : Index := Scalar.indexCast v881_r0
  let c1696_r0 : Index := 1696#32
  let c0_2225_r0 : Index := 0#32
  ![v6232_r0.toNat, 1696, 0]
def k0_off90 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v6331_r0 : Index := Scalar.indexCast v881_r0
  let c1728_r0 : Index := 1728#32
  let c0_2251_r0 : Index := 0#32
  ![v6331_r0.toNat, 1728, 0]
def k0_off91 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v6430_r0 : Index := Scalar.indexCast v881_r0
  let c1760_r0 : Index := 1760#32
  let c0_2277_r0 : Index := 0#32
  ![v6430_r0.toNat, 1760, 0]
def k0_off92 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v6529_r0 : Index := Scalar.indexCast v881_r0
  let c448_2303_r0 : Index := 448#32
  let c0_2304_r0 : Index := 0#32
  ![v6529_r0.toNat, 448, 0]
def k0_off93 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v6538_r0 : Index := Scalar.indexCast v881_r0
  let c1792_r0 : Index := 1792#32
  let c0_2307_r0 : Index := 0#32
  ![v6538_r0.toNat, 1792, 0]
def k0_off94 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v6637_r0 : Index := Scalar.indexCast v881_r0
  let c1824_r0 : Index := 1824#32
  let c0_2333_r0 : Index := 0#32
  ![v6637_r0.toNat, 1824, 0]
def k0_off95 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v6736_r0 : Index := Scalar.indexCast v881_r0
  let c1856_r0 : Index := 1856#32
  let c0_2359_r0 : Index := 0#32
  ![v6736_r0.toNat, 1856, 0]
def k0_off96 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v6835_r0 : Index := Scalar.indexCast v881_r0
  let c1888_r0 : Index := 1888#32
  let c0_2385_r0 : Index := 0#32
  ![v6835_r0.toNat, 1888, 0]
def k0_off97 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v6934_r0 : Index := Scalar.indexCast v881_r0
  let c480_2411_r0 : Index := 480#32
  let c0_2412_r0 : Index := 0#32
  ![v6934_r0.toNat, 480, 0]
def k0_off98 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v6943_r0 : Index := Scalar.indexCast v881_r0
  let c1920_r0 : Index := 1920#32
  let c0_2415_r0 : Index := 0#32
  ![v6943_r0.toNat, 1920, 0]
def k0_off99 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v7042_r0 : Index := Scalar.indexCast v881_r0
  let c1952_r0 : Index := 1952#32
  let c0_2441_r0 : Index := 0#32
  ![v7042_r0.toNat, 1952, 0]
def k0_off100 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v7141_r0 : Index := Scalar.indexCast v881_r0
  let c1984_r0 : Index := 1984#32
  let c0_2467_r0 : Index := 0#32
  ![v7141_r0.toNat, 1984, 0]
def k0_off101 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c3_i32_762_r0 : BitVec 32 := 3#32
  let c0_i32_763_r0 : BitVec 32 := 0#32
  let v872_r0 : BitVec 1 := Scalar.cmpi .eq c3_i32_762_r0 c0_i32_763_r0
  let c1_i32_764_r0 : BitVec 32 := 1#32
  let v873_r0 : BitVec 32 := Scalar.select v872_r0 c1_i32_764_r0 c3_i32_762_r0
  let v874_r0 : BitVec 32 := Scalar.remsi arg18_r0 v873_r0
  let c0_i32_766_r0 : BitVec 32 := 0#32
  let v876_r0 : BitVec 1 := Scalar.cmpi .slt v874_r0 c0_i32_766_r0
  let c0_i32_767_r0 : BitVec 32 := 0#32
  let v877_r0 : BitVec 1 := Scalar.cmpi .slt v873_r0 c0_i32_767_r0
  let v878_r0 : BitVec 1 := Scalar.xori v876_r0 v877_r0
  let c0_i32_765_r0 : BitVec 32 := 0#32
  let v875_r0 : BitVec 1 := Scalar.cmpi .ne v874_r0 c0_i32_765_r0
  let v879_r0 : BitVec 1 := Scalar.andi v878_r0 v875_r0
  let v880_r0 : BitVec 32 := Scalar.addi v874_r0 v873_r0
  let v881_r0 : BitVec 32 := Scalar.select v879_r0 v880_r0 v874_r0
  let v7240_r0 : Index := Scalar.indexCast v881_r0
  let c2016_r0 : Index := 2016#32
  let c0_2493_r0 : Index := 0#32
  ![v7240_r0.toNat, 2016, 0]
def k0_mult1 (k0_t1 : Fin k0_t1_loop.trips) : BitVec 32 :=
  let c0_i32_690_r0 : BitVec 32 := 0#32
  let c1_i32_692_r0 : BitVec 32 := 1#32
  let arg18_r0 : BitVec 32 := Scf.iv c0_i32_690_r0 c1_i32_692_r0 k0_t1
  let c256_i32_2519_r0 : BitVec 32 := 256#32
  let v7339_r0 : BitVec 32 := Scalar.muli arg18_r0 c256_i32_2519_r0
  v7339_r0
def k0_off102 (k0_t1 : Fin k0_t1_loop.trips) : Fin 2 → Nat :=
  let c0_2520_r0 : Index := 0#32
  let c0_i32_690_r0 : BitVec 32 := 0#32
  let c1_i32_692_r0 : BitVec 32 := 1#32
  let arg18_r0 : BitVec 32 := Scf.iv c0_i32_690_r0 c1_i32_692_r0 k0_t1
  let c256_i32_2519_r0 : BitVec 32 := 256#32
  let v7339_r0 : BitVec 32 := Scalar.muli arg18_r0 c256_i32_2519_r0
  let v7340_r0 : BitVec 32 := v7339_r0
  let v7341_r0 : Index := Scalar.indexCast v7340_r0
  ![0, v7341_r0.toNat]
def k0_off103 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c1_i32_768_r0 : BitVec 32 := 1#32
  let v882_r0 : BitVec 32 := Scalar.addi arg18_r0 c1_i32_768_r0
  let c3_i32_769_r0 : BitVec 32 := 3#32
  let c0_i32_770_r0 : BitVec 32 := 0#32
  let v883_r0 : BitVec 1 := Scalar.cmpi .eq c3_i32_769_r0 c0_i32_770_r0
  let c1_i32_771_r0 : BitVec 32 := 1#32
  let v884_r0 : BitVec 32 := Scalar.select v883_r0 c1_i32_771_r0 c3_i32_769_r0
  let v885_r0 : BitVec 32 := Scalar.remsi v882_r0 v884_r0
  let c0_i32_773_r0 : BitVec 32 := 0#32
  let v887_r0 : BitVec 1 := Scalar.cmpi .slt v885_r0 c0_i32_773_r0
  let c0_i32_774_r0 : BitVec 32 := 0#32
  let v888_r0 : BitVec 1 := Scalar.cmpi .slt v884_r0 c0_i32_774_r0
  let v889_r0 : BitVec 1 := Scalar.xori v887_r0 v888_r0
  let c0_i32_772_r0 : BitVec 32 := 0#32
  let v886_r0 : BitVec 1 := Scalar.cmpi .ne v885_r0 c0_i32_772_r0
  let v890_r0 : BitVec 1 := Scalar.andi v889_r0 v886_r0
  let v891_r0 : BitVec 32 := Scalar.addi v885_r0 v884_r0
  let v892_r0 : BitVec 32 := Scalar.select v890_r0 v891_r0 v885_r0
  let v7353_r0 : Index := Scalar.indexCast v892_r0
  let c0_2537_r0 : Index := 0#32
  let c0_2538_r0 : Index := 0#32
  ![v7353_r0.toNat, 0, 0]
def k0_off104 (k0_t1 : Fin k0_t1_loop.trips) : Fin 3 → Nat :=
  let c0_i32_690_r0 : BitVec 32 := 0#32
  let c1_i32_692_r0 : BitVec 32 := 1#32
  let arg18_r0 : BitVec 32 := Scf.iv c0_i32_690_r0 c1_i32_692_r0 k0_t1
  let c1_i32_768_r0 : BitVec 32 := 1#32
  let v882_r0 : BitVec 32 := Scalar.addi arg18_r0 c1_i32_768_r0
  let c3_i32_769_r0 : BitVec 32 := 3#32
  let c0_i32_770_r0 : BitVec 32 := 0#32
  let v883_r0 : BitVec 1 := Scalar.cmpi .eq c3_i32_769_r0 c0_i32_770_r0
  let c1_i32_771_r0 : BitVec 32 := 1#32
  let v884_r0 : BitVec 32 := Scalar.select v883_r0 c1_i32_771_r0 c3_i32_769_r0
  let v885_r0 : BitVec 32 := Scalar.remsi v882_r0 v884_r0
  let c0_i32_773_r0 : BitVec 32 := 0#32
  let v887_r0 : BitVec 1 := Scalar.cmpi .slt v885_r0 c0_i32_773_r0
  let c0_i32_774_r0 : BitVec 32 := 0#32
  let v888_r0 : BitVec 1 := Scalar.cmpi .slt v884_r0 c0_i32_774_r0
  let v889_r0 : BitVec 1 := Scalar.xori v887_r0 v888_r0
  let c0_i32_772_r0 : BitVec 32 := 0#32
  let v886_r0 : BitVec 1 := Scalar.cmpi .ne v885_r0 c0_i32_772_r0
  let v890_r0 : BitVec 1 := Scalar.andi v889_r0 v886_r0
  let v891_r0 : BitVec 32 := Scalar.addi v885_r0 v884_r0
  let v892_r0 : BitVec 32 := Scalar.select v890_r0 v891_r0 v885_r0
  let v7362_r0 : Index := Scalar.indexCast v892_r0
  let c0_2541_r0 : Index := 0#32
  let c0_2542_r0 : Index := 0#32
  ![v7362_r0.toNat, 0, 0]
abbrev stage0_0 : Fin 1 → Memref sig .tc .vmem S1536x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1x1536x16384 : Shape := ⟨3, ![1, 1536, 16384]⟩
abbrev S2048x6144 : Shape := ⟨2, ![2048, 6144]⟩
abbrev S512x6144 : Shape := ⟨2, ![512, 6144]⟩
abbrev S1536x256 : Shape := ⟨2, ![1536, 256]⟩
abbrev S256x6144 : Shape := ⟨2, ![256, 6144]⟩
abbrev S256x256 : Shape := ⟨2, ![256, 256]⟩
abbrev S8 : Shape := ⟨1, ![8]⟩
abbrev S_ : Shape := ⟨0, ![]⟩
abbrev S2048x1x6144 : Shape := ⟨3, ![2048, 1, 6144]⟩
abbrev S1x8x1 : Shape := ⟨3, ![1, 8, 1]⟩
abbrev S2048x8x6144 : Shape := ⟨3, ![2048, 8, 6144]⟩
abbrev S16384x6144 : Shape := ⟨2, ![16384, 6144]⟩
abbrev S512x32x6144 : Shape := ⟨3, ![512, 32, 6144]⟩
abbrev S1536x16384 : Shape := ⟨2, ![1536, 16384]⟩
abbrev S1536x6144 : Shape := ⟨2, ![1536, 6144]⟩
abbrev S256x80 : Shape := ⟨2, ![256, 80]⟩
abbrev S1536x80 : Shape := ⟨2, ![1536, 80]⟩

abbrev nBuf : Space → Nat
  | .hbm => 110
  | .vmem => 0
  | .smem => 0
  | _ => 0

abbrev bufTy : (tb : Table) → Fin (tcTables nBuf tb) → BufTy
  | .hbm, ⟨0, _⟩ => ⟨S1x1536x16384, .bf16⟩
  | .hbm, ⟨1, _⟩ => ⟨S2048x6144, .i32⟩
  | .hbm, ⟨2, _⟩ => ⟨S512x6144, .i8⟩
  | .hbm, ⟨3, _⟩ => ⟨S1536x256, .bf16⟩
  | .hbm, ⟨4, _⟩ => ⟨S256x6144, .bf16⟩
  | .hbm, ⟨5, _⟩ => ⟨S256x256, .bf16⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S2048x1x6144, .i32⟩
  | .hbm, ⟨11, _⟩ => ⟨S1x8x1, .i32⟩
  | .hbm, ⟨12, _⟩ => ⟨S2048x8x6144, .i32⟩
  | .hbm, ⟨13, _⟩ => ⟨S2048x8x6144, .i32⟩
  | .hbm, ⟨14, _⟩ => ⟨S2048x8x6144, .i32⟩
  | .hbm, ⟨15, _⟩ => ⟨S_, .i32⟩
  | .hbm, ⟨16, _⟩ => ⟨S2048x8x6144, .i32⟩
  | .hbm, ⟨17, _⟩ => ⟨S2048x8x6144, .i32⟩
  | .hbm, ⟨18, _⟩ => ⟨S16384x6144, .i32⟩
  | .hbm, ⟨19, _⟩ => ⟨S512x6144, .i32⟩
  | .hbm, ⟨20, _⟩ => ⟨S_, .i32⟩
  | .hbm, ⟨21, _⟩ => ⟨S512x6144, .i32⟩
  | .hbm, ⟨22, _⟩ => ⟨S512x6144, .i32⟩
  | .hbm, ⟨23, _⟩ => ⟨S512x6144, .f32⟩
  | .hbm, ⟨24, _⟩ => ⟨S_, .f32⟩
  | .hbm, ⟨25, _⟩ => ⟨S512x6144, .f32⟩
  | .hbm, ⟨26, _⟩ => ⟨S512x6144, .f32⟩
  | .hbm, ⟨27, _⟩ => ⟨S512x6144, .bf16⟩
  | .hbm, ⟨28, _⟩ => ⟨S_, .i32⟩
  | .hbm, ⟨29, _⟩ => ⟨S16384x6144, .i32⟩
  | .hbm, ⟨30, _⟩ => ⟨S16384x6144, .i32⟩
  | .hbm, ⟨31, _⟩ => ⟨S_, .i32⟩
  | .hbm, ⟨32, _⟩ => ⟨S16384x6144, .i32⟩
  | .hbm, ⟨33, _⟩ => ⟨S16384x6144, .i1⟩
  | .hbm, ⟨34, _⟩ => ⟨S_, .i32⟩
  | .hbm, ⟨35, _⟩ => ⟨S16384x6144, .i32⟩
  | .hbm, ⟨36, _⟩ => ⟨S16384x6144, .i32⟩
  | .hbm, ⟨37, _⟩ => ⟨S_, .i32⟩
  | .hbm, ⟨38, _⟩ => ⟨S16384x6144, .i32⟩
  | .hbm, ⟨39, _⟩ => ⟨S16384x6144, .i1⟩
  | .hbm, ⟨40, _⟩ => ⟨S_, .i32⟩
  | .hbm, ⟨41, _⟩ => ⟨S16384x6144, .i32⟩
  | .hbm, ⟨42, _⟩ => ⟨S16384x6144, .i32⟩
  | .hbm, ⟨43, _⟩ => ⟨S_, .i32⟩
  | .hbm, ⟨44, _⟩ => ⟨S16384x6144, .i32⟩
  | .hbm, ⟨45, _⟩ => ⟨S16384x6144, .i1⟩
  | .hbm, ⟨46, _⟩ => ⟨S_, .i32⟩
  | .hbm, ⟨47, _⟩ => ⟨S16384x6144, .i32⟩
  | .hbm, ⟨48, _⟩ => ⟨S16384x6144, .i32⟩
  | .hbm, ⟨49, _⟩ => ⟨S_, .i32⟩
  | .hbm, ⟨50, _⟩ => ⟨S16384x6144, .i32⟩
  | .hbm, ⟨51, _⟩ => ⟨S16384x6144, .i1⟩
  | .hbm, ⟨52, _⟩ => ⟨S_, .bf16⟩
  | .hbm, ⟨53, _⟩ => ⟨S_, .bf16⟩
  | .hbm, ⟨54, _⟩ => ⟨S16384x6144, .bf16⟩
  | .hbm, ⟨55, _⟩ => ⟨S16384x6144, .bf16⟩
  | .hbm, ⟨56, _⟩ => ⟨S16384x6144, .bf16⟩
  | .hbm, ⟨57, _⟩ => ⟨S_, .bf16⟩
  | .hbm, ⟨58, _⟩ => ⟨S_, .bf16⟩
  | .hbm, ⟨59, _⟩ => ⟨S16384x6144, .bf16⟩
  | .hbm, ⟨60, _⟩ => ⟨S16384x6144, .bf16⟩
  | .hbm, ⟨61, _⟩ => ⟨S16384x6144, .bf16⟩
  | .hbm, ⟨62, _⟩ => ⟨S16384x6144, .bf16⟩
  | .hbm, ⟨63, _⟩ => ⟨S_, .bf16⟩
  | .hbm, ⟨64, _⟩ => ⟨S_, .bf16⟩
  | .hbm, ⟨65, _⟩ => ⟨S16384x6144, .bf16⟩
  | .hbm, ⟨66, _⟩ => ⟨S16384x6144, .bf16⟩
  | .hbm, ⟨67, _⟩ => ⟨S16384x6144, .bf16⟩
  | .hbm, ⟨68, _⟩ => ⟨S_, .bf16⟩
  | .hbm, ⟨69, _⟩ => ⟨S_, .bf16⟩
  | .hbm, ⟨70, _⟩ => ⟨S16384x6144, .bf16⟩
  | .hbm, ⟨71, _⟩ => ⟨S16384x6144, .bf16⟩
  | .hbm, ⟨72, _⟩ => ⟨S16384x6144, .bf16⟩
  | .hbm, ⟨73, _⟩ => ⟨S16384x6144, .bf16⟩
  | .hbm, ⟨74, _⟩ => ⟨S16384x6144, .bf16⟩
  | .hbm, ⟨75, _⟩ => ⟨S_, .bf16⟩
  | .hbm, ⟨76, _⟩ => ⟨S_, .bf16⟩
  | .hbm, ⟨77, _⟩ => ⟨S16384x6144, .bf16⟩
  | .hbm, ⟨78, _⟩ => ⟨S16384x6144, .bf16⟩
  | .hbm, ⟨79, _⟩ => ⟨S16384x6144, .bf16⟩
  | .hbm, ⟨80, _⟩ => ⟨S_, .bf16⟩
  | .hbm, ⟨81, _⟩ => ⟨S_, .bf16⟩
  | .hbm, ⟨82, _⟩ => ⟨S16384x6144, .bf16⟩
  | .hbm, ⟨83, _⟩ => ⟨S16384x6144, .bf16⟩
  | .hbm, ⟨84, _⟩ => ⟨S16384x6144, .bf16⟩
  | .hbm, ⟨85, _⟩ => ⟨S16384x6144, .bf16⟩
  | .hbm, ⟨86, _⟩ => ⟨S_, .bf16⟩
  | .hbm, ⟨87, _⟩ => ⟨S_, .bf16⟩
  | .hbm, ⟨88, _⟩ => ⟨S16384x6144, .bf16⟩
  | .hbm, ⟨89, _⟩ => ⟨S16384x6144, .bf16⟩
  | .hbm, ⟨90, _⟩ => ⟨S16384x6144, .bf16⟩
  | .hbm, ⟨91, _⟩ => ⟨S_, .bf16⟩
  | .hbm, ⟨92, _⟩ => ⟨S_, .bf16⟩
  | .hbm, ⟨93, _⟩ => ⟨S16384x6144, .bf16⟩
  | .hbm, ⟨94, _⟩ => ⟨S16384x6144, .bf16⟩
  | .hbm, ⟨95, _⟩ => ⟨S16384x6144, .bf16⟩
  | .hbm, ⟨96, _⟩ => ⟨S16384x6144, .bf16⟩
  | .hbm, ⟨97, _⟩ => ⟨S16384x6144, .bf16⟩
  | .hbm, ⟨98, _⟩ => ⟨S16384x6144, .bf16⟩
  | .hbm, ⟨99, _⟩ => ⟨S512x32x6144, .bf16⟩
  | .hbm, ⟨100, _⟩ => ⟨S16384x6144, .bf16⟩
  | .hbm, ⟨101, _⟩ => ⟨S16384x6144, .bf16⟩
  | .hbm, ⟨102, _⟩ => ⟨S1536x16384, .bf16⟩
  | .hbm, ⟨103, _⟩ => ⟨S1536x6144, .f32⟩
  | .hbm, ⟨104, _⟩ => ⟨S1536x6144, .f32⟩
  | .hbm, ⟨105, _⟩ => ⟨S1536x6144, .f32⟩
  | .hbm, ⟨106, _⟩ => ⟨S1536x6144, .bf16⟩
  | .hbm, ⟨107, _⟩ => ⟨S256x80, .bf16⟩
  | .hbm, ⟨108, _⟩ => ⟨S1536x80, .f32⟩
  | .hbm, ⟨109, _⟩ => ⟨S1536x80, .bf16⟩
  | _, _ => ⟨S1x1536x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_v30 : Ref sig .tc := ⟨.hbm, 47, rfl⟩
abbrev main_v31 : Ref sig .tc := ⟨.hbm, 48, rfl⟩
abbrev main_c_9 : Ref sig .tc := ⟨.hbm, 49, rfl⟩
abbrev main_v32 : Ref sig .tc := ⟨.hbm, 50, rfl⟩
abbrev main_v33 : Ref sig .tc := ⟨.hbm, 51, rfl⟩
abbrev main_cst_10 : Ref sig .tc := ⟨.hbm, 52, rfl⟩
abbrev main_cst_11 : Ref sig .tc := ⟨.hbm, 53, rfl⟩
abbrev main_call0_v0 : Ref sig .tc := ⟨.hbm, 54, rfl⟩
abbrev main_call0_v1 : Ref sig .tc := ⟨.hbm, 55, rfl⟩
abbrev main_v34 : Ref sig .tc := ⟨.hbm, 56, rfl⟩
abbrev main_cst_12 : Ref sig .tc := ⟨.hbm, 57, rfl⟩
abbrev main_cst_13 : Ref sig .tc := ⟨.hbm, 58, rfl⟩
abbrev main_call1_v0 : Ref sig .tc := ⟨.hbm, 59, rfl⟩
abbrev main_call1_v1 : Ref sig .tc := ⟨.hbm, 60, rfl⟩
abbrev main_v35 : Ref sig .tc := ⟨.hbm, 61, rfl⟩
abbrev main_v36 : Ref sig .tc := ⟨.hbm, 62, rfl⟩
abbrev main_cst_14 : Ref sig .tc := ⟨.hbm, 63, rfl⟩
abbrev main_cst_15 : Ref sig .tc := ⟨.hbm, 64, rfl⟩
abbrev main_call3_v0 : Ref sig .tc := ⟨.hbm, 65, rfl⟩
abbrev main_call3_v1 : Ref sig .tc := ⟨.hbm, 66, rfl⟩
abbrev main_v37 : Ref sig .tc := ⟨.hbm, 67, rfl⟩
abbrev main_cst_16 : Ref sig .tc := ⟨.hbm, 68, rfl⟩
abbrev main_cst_17 : Ref sig .tc := ⟨.hbm, 69, rfl⟩
abbrev main_call4_v0 : Ref sig .tc := ⟨.hbm, 70, rfl⟩
abbrev main_call4_v1 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_18 : Ref sig .tc := ⟨.hbm, 75, rfl⟩
abbrev main_cst_19 : Ref sig .tc := ⟨.hbm, 76, rfl⟩
abbrev main_call7_v0 : Ref sig .tc := ⟨.hbm, 77, rfl⟩
abbrev main_call7_v1 : Ref sig .tc := ⟨.hbm, 78, rfl⟩
abbrev main_v41 : Ref sig .tc := ⟨.hbm, 79, rfl⟩
abbrev main_cst_20 : Ref sig .tc := ⟨.hbm, 80, rfl⟩
abbrev main_cst_21 : Ref sig .tc := ⟨.hbm, 81, rfl⟩
abbrev main_call8_v0 : Ref sig .tc := ⟨.hbm, 82, rfl⟩
abbrev main_call8_v1 : Ref sig .tc := ⟨.hbm, 83, rfl⟩
abbrev main_v42 : Ref sig .tc := ⟨.hbm, 84, rfl⟩
abbrev main_v43 : Ref sig .tc := ⟨.hbm, 85, rfl⟩
abbrev main_cst_22 : Ref sig .tc := ⟨.hbm, 86, rfl⟩
abbrev main_cst_23 : Ref sig .tc := ⟨.hbm, 87, rfl⟩
abbrev main_call10_v0 : Ref sig .tc := ⟨.hbm, 88, rfl⟩
abbrev main_call10_v1 : Ref sig .tc := ⟨.hbm, 89, rfl⟩
abbrev main_v44 : Ref sig .tc := ⟨.hbm, 90, rfl⟩
abbrev main_cst_24 : Ref sig .tc := ⟨.hbm, 91, rfl⟩
abbrev main_cst_25 : Ref sig .tc := ⟨.hbm, 92, rfl⟩
abbrev main_call11_v0 : Ref sig .tc := ⟨.hbm, 93, rfl⟩
abbrev main_call11_v1 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩

abbrev nD : Nat := 1
abbrev τ : Topo := Topo.v7x

variable {F : FTy → Type} [FloatOps F]
-- ==== Proof.Panel.lean ====
/- One tile of the kernel as a fold over its panels.

   The printed tile body is 65 panels written out one after another. Here one panel is written once, over
   its number, and `tile_eq` says the printed body is the guards followed by the fold. -/
module

public import proofs.«01_k».proof.Proof.Gen.KernelIdeal.Skeleton

@[expose] public section

noncomputable section

namespace Cert.KernelIdeal.Prf

open Idealize.ShloMosaic Idealize.SL.Sem
open Cert.KernelIdeal Cert.KernelIdeal.Gen

variable {F : FTy → Type} [FloatOps F]

/-! ## The widening of a panel's weights -/

/-- The exponents of sixteen words' worth of scales, doubled up as the bits of two bf16 scales each. -/
def scaleBits (e : Vec F S1x32x256 .i8) : IVec S32x256 32 :=
  have v936 : IVec S32x256 8 := shapeCast S32x256 e shapeCasts_S1x32x256_S32x256
  have v937 : IVec S32x256 32 := extui 32 v936 natLt_8_32
  ori (shli v937 (broadcast S32x256 7#32)) (shli v937 (broadcast S32x256 23#32))

/-- The four-bit codes of a panel's packed words, as values. -/
def codes (w : Vec F S1x32x256 .i32) : FVec F S256x256 .bf16 :=
  have v945 : IVec S32x256 32 := shapeCast S32x256 w shapeCasts_S1x32x256_S32x256
  have v946 : IVec S32x1x256 32 := shapeCast S32x1x256 v945 shapeCasts_S32x256_S32x1x256
  have v947 : IVec S32x1x256 32 := shapeCast S32x1x256 v946 shapeCasts_S32x1x256_S32x1x256
  have v948 : IVec S32x8x256 32 := broadcastTo S32x8x256 v947 broadcasts_S32x1x256_S32x8x256
  have v949 : IVec S256x256 32 := shapeCast S256x256 v948 shapeCasts_S32x8x256_S256x256
  have v950 : IVec S256x256 32 := iota .tc S256x256 32 [0] iota_S256x256_d0_w32
  have v952 : IVec S256x256 32 := andi v950 (broadcast S256x256 7#32)
  have v954 : IVec S256x256 32 := shli v952 (broadcast S256x256 2#32)
  have v956 : IVec S256x256 32 := subi (broadcast S256x256 28#32) v954
  have v957 : IVec S256x256 32 := shli v949 v956
  have v959 : IVec S256x256 32 := shrsi v957 (broadcast S256x256 28#32)
  have v960 : IVec S256x256 8 := trunci 8 v959 natLt_8_32
  have v961 : IVec S64x256 32 := bitcast S64x256 32 v960 bitcasts_S256x256_w8_S64x256_w32
  have v963 : IVec S64x256 32 := andi v961 (broadcast S64x256 2155905152#32)
  have v965 : IVec S64x256 32 := shli v961 (broadcast S64x256 2#32)
  have v967 : IVec S64x256 32 := andi v965 (broadcast S64x256 471604252#32)
  have v968 : IVec S64x256 32 := ori v963 v967
  have v969 : FVec F S256x256 .fp8e4m3 := bitcastToFloat .fp8e4m3 (bitcast S256x256 8 v968 bitcasts_S64x256_w32_S256x256_w8)
  have v970 : FVec F S256x256 .bf16 := extf .bf16 v969 bitsLt_fp8e4m3_bf16
  mulf v970 (broadcast S256x256 (Scalar.ofBits .bf16 0x4280#16))

/-- Row `r` of the scale bits, spread over the 32 rows it scales. -/
def scaleRow (sc : IVec S32x256 32) (r : Nat) (h : S32x256.Slices ![r, 0] S1x256) : FVec F S32x256 .bf16 :=
  have v973 : IVec S1x256 32 := extractStridedSlice S1x256 ![r, 0] sc h
  have v974 : IVec S1x256 32 := shapeCast S1x256 v973 shapeCasts_S1x256_S1x256
  have v975 : IVec S8x256 32 := broadcastTo S8x256 v974 broadcasts_S1x256_S8x256
  have v976 : FVec F S16x256 .bf16 := bitcastToFloat .bf16 (bitcast S16x256 16 v975 bitcasts_S8x256_w32_S16x256_w16)
  concatenate S32x256 0 [⟨S16x256, v976⟩, ⟨S16x256, v976⟩] concatenates_S16x256_S16x256_S32x256_d0

theorem slicesRow (r : Fin 32) : S32x256.Slices ![r.val, 0] S1x256 := by revert r; decide

theorem slicesBand (b : Fin 8) : S256x256.Slices ![32 * b.val, 0] S32x256 := by revert b; decide

/-- Band `b` of a panel: 32 rows of codes by their scales. -/
def band (d : FVec F S256x256 .bf16) (sc : IVec S32x256 32) (g : Fin 4) (b : Fin 8) : FVec F S32x256 .bf16 :=
  mulf (extractStridedSlice S32x256 ![32 * b.val, 0] d (slicesBand b))
    (scaleRow sc (8 * g.val + b.val) (slicesRow ⟨8 * g.val + b.val, by omega⟩))

/-- A panel's 256 rows of weights. -/
def widen (w : Vec F S1x32x256 .i32) (sc : IVec S32x256 32) (g : Fin 4) : FVec F S256x256 .bf16 :=
  have d := codes w
  concatenate S256x256 0 [⟨S32x256, band d sc g 0⟩, ⟨S32x256, band d sc g 1⟩, ⟨S32x256, band d sc g 2⟩, ⟨S32x256, band d sc g 3⟩,
    ⟨S32x256, band d sc g 4⟩, ⟨S32x256, band d sc g 5⟩, ⟨S32x256, band d sc g 6⟩, ⟨S32x256, band d sc g 7⟩]
    concatenates_S32x256_S32x256_S32x256_S32x256_S32x256_S32x256_S32x256_S32x256_S256x256_d0

/-! ## Rows of the buffers -/

/-- The `p`-th panel of activations, 256 rows from `256·r`. -/
theorem inbX (p : Fin 64) (r : Fin 6) : ∀ a, (![p.val, 256 * r.val, 0] : Fin 3 → Nat) a + S1x256x256.size a ≤ S64x1536x256.size a := by
  intro a; fin_cases a
  · show p.val + 1 ≤ 64; omega
  · show 256 * r.val + 256 ≤ 1536; omega
  · show 0 + 256 ≤ 256; omega

theorem inbW (s : Nat) (hs : s < 3) (p : Fin 64) : ∀ a, (![s, 32 * p.val, 0] : Fin 3 → Nat) a + S1x32x256.size a ≤ S3x2048x256.size a := by
  intro a; fin_cases a
  · show s + 1 ≤ 3; omega
  · show 32 * p.val + 32 ≤ 2048; omega
  · show 0 + 256 ≤ 256; omega

theorem inbE (s : Nat) (hs : s < 3) (g : Fin 16) : ∀ a, (![s, 32 * g.val, 0] : Fin 3 → Nat) a + S1x32x256.size a ≤ S3x512x256.size a := by
  intro a; fin_cases a
  · show s + 1 ≤ 3; omega
  · show 32 * g.val + 32 ≤ 512; omega
  · show 0 + 256 ≤ 256; omega

theorem inbH (r : Fin 6) : ∀ a, (![256 * r.val, 0] : Fin 2 → Nat) a + S256x256.size a ≤ S1536x256.size a := by
  intro a; fin_cases a
  · show 256 * r.val + 256 ≤ 1536; omega
  · show 0 + 256 ≤ 256; omega

/-- The slot of the weight and scale rings a tile reads, and the slot of the next tile. -/
def slotC (t : Fin k0_t1_loop.trips) : Nat := k0_off19 t 0
def slotN (t : Fin k0_t1_loop.trips) : Nat := k0_off103 t 0

theorem slotC_lt (t : Fin k0_t1_loop.trips) : slotC t < 3 := by
  have := k0_off19_inb t 0
  change _ + 1 ≤ 3 at this; unfold slotC; omega
theorem slotN_lt (t : Fin k0_t1_loop.trips) : slotN t < 3 := by
  have := k0_off103_inb t 0
  change _ + 1 ≤ 3 at this; unfold slotN; omega

variable (arg0 : Memref sig .tc .vmem S1536x256 .bf16) (arg1 : Memref sig .tc .vmem S256x6144 .bf16)
  (arg2 : Memref sig .tc .vmem S256x256 .bf16) (arg8 : Memref sig .tc .vmem S64x1536x256 .bf16)
  (arg9 : Memref sig .tc .vmem S3x2048x256 .i32) (arg10 : Memref sig .tc .vmem S3x512x256 .i8)
  (arg11 : Memref sig .tc .vmem S2x1536x256 .bf16) (harg11 : arg11.IsWhole)

def loadX (p : Fin 64) (r : Fin 6) : Prog (TpuEff nD τ sig (Elt F) Λ₀ .tc) (Vec F S1x256x256 .bf16) :=
  Prog.lift (.load arg8 (Rect.unit (s := S64x1536x256) ![p.val, 256 * r.val, 0] S1x256x256.size (inbX p r)).toLoadRect (View.loadsAt_vmem h_S1x256x256))

def loadW (s : Nat) (hs : s < 3) (p : Fin 64) : Prog (TpuEff nD τ sig (Elt F) Λ₀ .tc) (Vec F S1x32x256 .i32) :=
  Prog.lift (.load arg9 (Rect.unit (s := S3x2048x256) ![s, 32 * p.val, 0] S1x32x256.size (inbW s hs p)).toLoadRect (View.loadsAt_vmem h_S1x32x256))

def loadE (s : Nat) (hs : s < 3) (g : Fin 16) : Prog (TpuEff nD τ sig (Elt F) Λ₀ .tc) (Vec F S1x32x256 .i8) :=
  Prog.lift (.load arg10 (Rect.unit (s := S3x512x256) ![s, 32 * g.val, 0] S1x32x256.size (inbE s hs g)).toLoadRect (View.loadsAt_vmem h_S1x32x256))

def loadH (r : Fin 6) : Prog (TpuEff nD τ sig (Elt F) Λ₀ .tc) (Vec F S256x256 .bf16) :=
  Prog.lift (.load arg0 (Rect.unit (s := S1536x256) ![256 * r.val, 0] S256x256.size (inbH r)).toLoadRect (View.loadsAt_vmem h_S256x256))

/-- The rows a load of the activations' panel gives, as a matrix. -/
def rowsX (v : Vec F S1x256x256 .bf16) : FVec F S256x256 .bf16 := shapeCast S256x256 v shapeCasts_S1x256x256_S256x256

/-! ## A panel -/

/-- The loads and accumulates of a panel after its first pair. -/
def accRest (p : Fin 64) (s : Mxu F) : Prog (TpuEff nD τ sig (Elt F) Λ₀ .tc) (Mxu F) := do
  let x1 ← loadX (F := F) arg8 p 1
  let s ← s.accLhsLoaded 0 64 (rowsX x1) fits_64_256
  let x4 ← loadX (F := F) arg8 p 4
  let s ← s.accLhsLoaded 1 64 (rowsX x4) fits_64_256
  let x2 ← loadX (F := F) arg8 p 2
  let s ← s.accLhsLoaded 0 128 (rowsX x2) fits_128_256
  let x5 ← loadX (F := F) arg8 p 5
  s.accLhsLoaded 1 128 (rowsX x5) fits_128_256

/-- A panel's first pair of accumulates: register `r`'s tile is loaded by them. -/
def accFirst (p : Fin 64) (r : Fin 2) (s : Mxu F) : Prog (TpuEff nD τ sig (Elt F) Λ₀ .tc) (Mxu F) := do
  let x0 ← loadX (F := F) arg8 p 0
  let s := s.accLhs 0 r 0 (rowsX x0) fits_0_256
  let x3 ← loadX (F := F) arg8 p 3
  pure (s.accLhs 1 r 0 (rowsX x3) fits_0_256)

/-- Panels 1 to 62: panel `p + 1`'s weights are widened and staged while panel `p` is multiplied. -/
def panel (sl : Nat) (hsl : sl < 3) (p : Fin 63) (st : IVec S32x256 32 × Mxu F) : Prog (TpuEff nD τ sig (Elt F) Λ₀ .tc) (IVec S32x256 32 × Mxu F) := do
  let s ← accFirst (F := F) arg8 ⟨p.val, by omega⟩ ⟨p.val % 2, by omega⟩ st.2
  let sc ← if (p.val + 1) % 4 = 0 then do
      let e ← loadE (F := F) arg10 sl hsl ⟨(p.val + 1) / 4, by omega⟩
      pure (scaleBits (F := F) e)
    else pure st.1
  let w ← loadW (F := F) arg9 sl hsl ⟨p.val + 1, by omega⟩
  let s ← s.pushRhs 0 ⟨(p.val + 1) % 2, by omega⟩ false (widen w sc ⟨(p.val + 1) % 4, by omega⟩)
  let s ← s.pushRhs 1 ⟨(p.val + 1) % 2, by omega⟩ false (widen w sc ⟨(p.val + 1) % 4, by omega⟩)
  let s ← accRest (F := F) arg8 ⟨p.val, by omega⟩ s
  pure (sc, s)

/-- `n` panels from panel `p`. -/
def panels (sl : Nat) (hsl : sl < 3) : Nat → Nat → IVec S32x256 32 × Mxu F → Prog (TpuEff nD τ sig (Elt F) Λ₀ .tc) (IVec S32x256 32 × Mxu F)
  | 0, _, st => pure st
  | n + 1, p, st => panel (F := F) arg8 arg9 arg10 sl hsl ⟨p % 63, by omega⟩ st >>= panels sl hsl n (p + 1)

/-- The store of a popped block of sums into rows of the result ring, after the load the store's text makes. -/
def popped (v : FVec F S256x256 .f32) : FVec F S1x256x256 .bf16 :=
  shapeCast S1x256x256 (truncf .bf16 v bitsLt_bf16_f32) shapeCasts_S256x256_S1x256x256

def putY (o : Fin 3 → Nat) (hi : ∀ a, o a + S1x256x256.size a ≤ S2x1536x256.size a)
    (hp : (Rect.unit (s := S2x1536x256) o S1x256x256.size hi).PackedRows (EltTy.packing .bf16)) (v : FVec F S256x256 .f32) : Prog (TpuEff nD τ sig (Elt F) Λ₀ .tc) PUnit := do
  let _ ← Prog.lift (.load arg11 (Rect.unit (s := S2x1536x256) o S1x256x256.size hi).toLoadRect (View.loadsAt_vmem h_S1x256x256))
  Prog.lift (.store arg11 (Rect.unit (s := S2x1536x256) o S1x256x256.size hi) (popped v) Finset.univ (View.stores_vmem h_S1x256x256 (harg11.storeExact_slice rfl _ hp) (fun _ => rfl)) (.inl rfl))

/-- Panel 0: the sums of the tile before are popped and stored, each just before its rows are reused. -/
def panel0 (t : Fin k0_t1_loop.trips) (s : Mxu F) : Prog (TpuEff nD τ sig (Elt F) Λ₀ .tc) (IVec S32x256 32 × Mxu F) := do
  putY (F := F) arg11 harg11 (k0_off17 t) (k0_off17_inb t) (k0_off17_packedbf16 t) (s.read 0 0 fits_0_256)
  let x0 ← loadX (F := F) arg8 0 0
  let s := (s.pop 0 0 256 fits_0_256).accLhs 0 0 0 (rowsX x0) fits_0_256
  putY (F := F) arg11 harg11 (k0_off18 t) (k0_off18_inb t) (k0_off18_packedbf16 t) (s.read 1 0 fits_0_256)
  let x3 ← loadX (F := F) arg8 0 3
  let s := (s.pop 1 0 256 fits_0_256).accLhs 1 0 0 (rowsX x3) fits_0_256
  let e ← loadE (F := F) arg10 (slotC t) (slotC_lt t) 0
  let w ← loadW (F := F) arg9 (slotC t) (slotC_lt t) 1
  let s ← s.pushRhs 0 1 false (widen w (scaleBits (F := F) e) 1)
  let s ← s.pushRhs 1 1 false (widen w (scaleBits (F := F) e) 1)
  putY (F := F) arg11 harg11 (k0_off21 t) (k0_off21_inb t) (k0_off21_packedbf16 t) (s.read 0 64 fits_64_256)
  let x1 ← loadX (F := F) arg8 0 1
  let s ← (s.pop 0 64 256 fits_64_256).accLhsLoaded 0 64 (rowsX x1) fits_64_256
  putY (F := F) arg11 harg11 (k0_off22 t) (k0_off22_inb t) (k0_off22_packedbf16 t) (s.read 1 64 fits_64_256)
  let x4 ← loadX (F := F) arg8 0 4
  let s ← (s.pop 1 64 256 fits_64_256).accLhsLoaded 1 64 (rowsX x4) fits_64_256
  putY (F := F) arg11 harg11 (k0_off23 t) (k0_off23_inb t) (k0_off23_packedbf16 t) (s.read 0 128 fits_128_256)
  let x2 ← loadX (F := F) arg8 0 2
  let s ← (s.pop 0 128 256 fits_128_256).accLhsLoaded 0 128 (rowsX x2) fits_128_256
  putY (F := F) arg11 harg11 (k0_off24 t) (k0_off24_inb t) (k0_off24_packedbf16 t) (s.read 1 128 fits_128_256)
  let x5 ← loadX (F := F) arg8 0 5
  let s ← (s.pop 1 128 256 fits_128_256).accLhsLoaded 1 128 (rowsX x5) fits_128_256
  pure (scaleBits (F := F) e, s)

/-- Panel 63: the lora rows of the tile are staged behind it. -/
def panel63 (t : Fin k0_t1_loop.trips) (s : Mxu F) : Prog (TpuEff nD τ sig (Elt F) Λ₀ .tc) (Mxu F) := do
  let s ← accFirst (F := F) arg8 63 1 s
  let b : Vec F S256x256 .bf16 ← Prog.lift (.load arg1 (Rect.unit (s := S256x6144) (k0_off102 t) S256x256.size (k0_off102_inb t)).toLoadRect (View.loadsAt_vmem h_S256x256))
  let s ← s.pushRhs 0 0 false b
  let s ← s.pushRhs 1 0 false b
  accRest (F := F) arg8 63 s

/-- The last panel: the lora activations by the tile's lora rows; the next tile's first panel is staged behind it,
    or the select matrix after the last tile. -/
def panel64 (a18 : BitVec 32) (t : Fin k0_t1_loop.trips) (s : Mxu F) : Prog (TpuEff nD τ sig (Elt F) Λ₀ .tc) (Mxu F) := do
  let h0 ← loadH (F := F) arg0 0
  let s := s.accLhs 0 0 0 h0 fits_0_256
  let h3 ← loadH (F := F) arg0 3
  let s := s.accLhs 1 0 0 h3 fits_0_256
  let e ← loadE (F := F) arg10 (slotN t) (slotN_lt t) 0
  let w ← loadW (F := F) arg9 (slotN t) (slotN_lt t) 0
  let sel : Vec F S256x256 .bf16 ← Prog.lift (.load arg2 (Rect.unit (s := S256x256) ![0, 0] S256x256.size inb_S256x256_S256x256_0_0).toLoadRect (View.loadsAt_vmem h_S256x256))
  let v := Scalar.select (Scalar.cmpi .slt (Scalar.addi a18 1#32) 24#32) (widen w (scaleBits (F := F) e) 0) sel
  let s ← s.pushRhs 0 0 false v
  let s ← s.pushRhs 1 0 false v
  let h1 ← loadH (F := F) arg0 1
  let s ← s.accLhsLoaded 0 64 h1 fits_64_256
  let h4 ← loadH (F := F) arg0 4
  let s ← s.accLhsLoaded 1 64 h4 fits_64_256
  let h2 ← loadH (F := F) arg0 2
  let s ← s.accLhsLoaded 0 128 h2 fits_128_256
  let h5 ← loadH (F := F) arg0 5
  s.accLhsLoaded 1 128 h5 fits_128_256

/-- A tile after its guards. -/
def tile (a18 : BitVec 32) (t : Fin k0_t1_loop.trips) (s : Mxu F) : Prog (TpuEff nD τ sig (Elt F) Λ₀ .tc) (Mxu F) := do
  let st ← panel0 (F := F) arg8 arg9 arg10 arg11 harg11 t s
  let st ← panels (F := F) arg8 arg9 arg10 (slotC t) (slotC_lt t) 62 1 st
  let s ← panel63 (F := F) arg1 arg8 t st.2
  panel64 (F := F) arg0 arg2 arg9 arg10 a18 t s

end Cert.KernelIdeal.Prf
-- ==== Proof.Names.lean ====
/- The pieces of the kernel's arrays and buffers, by number: a tile's block of the weights, of the scales and of
   the result, a slot of each ring, a panel of activations, and the semaphores of each. The printed offsets are
   these at the tile's number. -/
module

public import proofs.«01_k».proof.Proof.Panel
public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.KernelIdeal.Prf

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

abbrev xM : Memref sig .tc .hbm S1536x16384 .bf16 := Memref.whole main_v0
abbrev wM : Memref sig .tc .hbm S2048x6144 .i32 := Memref.whole main_arg1
abbrev eM : Memref sig .tc .hbm S512x6144 .i8 := Memref.whole main_arg2
abbrev yM : Memref sig .tc .hbm S1536x6144 .bf16 := Memref.whole main_v1_0
abbrev hM : Memref sig .tc .hbm S1536x80 .bf16 := Memref.whole main_v1_1
abbrev xvM : Memref sig .tc .vmem S64x1536x256 .bf16 := Memref.whole cc0_scratch0
abbrev wvM : Memref sig .tc .vmem S3x2048x256 .i32 := Memref.whole cc0_scratch1
abbrev evM : Memref sig .tc .vmem S3x512x256 .i8 := Memref.whole cc0_scratch2
abbrev yvM : Memref sig .tc .vmem S2x1536x256 .bf16 := Memref.whole cc0_scratch3
abbrev hoM : Memref sig .tc .vmem S1536x80 .bf16 := Memref.whole cc0_scratch4

abbrev colOff (b : Fin 24) : Fin 2 → Nat := ![0, 256 * b.val]
abbrev xcolOff (k : Fin 64) : Fin 2 → Nat := ![0, 256 * k.val]
abbrev slotOff {n : Nat} (s : Fin n) : Fin 3 → Nat := ![s.val, 0, 0]
abbrev semOff {n : Nat} (s : Fin n) : Fin 1 → Nat := ![s.val]

theorem wblk_inb (b : Fin 24) : ∀ a, colOff b a + S2048x256.size a ≤ S2048x6144.size a := by revert b; decide
theorem eblk_inb (b : Fin 24) : ∀ a, colOff b a + S512x256.size a ≤ S512x6144.size a := by revert b; decide
theorem yblk_inb (b : Fin 24) : ∀ a, colOff b a + S1536x256.size a ≤ S1536x6144.size a := by revert b; decide
theorem xsrc_inb (k : Fin 64) : ∀ a, xcolOff k a + S1536x256.size a ≤ S1536x16384.size a := by revert k; decide
theorem xslot_inb (k : Fin 64) : ∀ a, slotOff k a + S1x1536x256.size a ≤ S64x1536x256.size a := by revert k; decide
theorem wslot_inb (s : Fin 3) : ∀ a, slotOff s a + S1x2048x256.size a ≤ S3x2048x256.size a := by revert s; decide
theorem eslot_inb (s : Fin 3) : ∀ a, slotOff s a + S1x512x256.size a ≤ S3x512x256.size a := by revert s; decide
theorem yslot_inb (s : Fin 2) : ∀ a, slotOff s a + S1x1536x256.size a ≤ S2x1536x256.size a := by revert s; decide
theorem sem64_inb (s : Fin 64) : ∀ a, semOff s a + S1.size a ≤ S64.size a := by revert s; decide
theorem sem3_inb (s : Fin 3) : ∀ a, semOff s a + S1.size a ≤ S3.size a := by revert s; decide
theorem sem2_inb (s : Fin 2) : ∀ a, semOff s a + S1.size a ≤ S2.size a := by revert s; decide
theorem sem1_inb (s : Fin 1) : ∀ a, semOff s a + S1.size a ≤ S1.size a := by revert s; decide

/-- Tile `b`'s block of the packed weights, of the scales, of the result. -/
def wblk (b : Fin 24) : Memref sig .tc .hbm S2048x256 .i32 := wM.slice (Rect.unit (s := S2048x6144) (colOff b) S2048x256.size (wblk_inb b)) (fun _ => rfl)
def eblk (b : Fin 24) : Memref sig .tc .hbm S512x256 .i8 := eM.slice (Rect.unit (s := S512x6144) (colOff b) S512x256.size (eblk_inb b)) (fun _ => rfl)
def yblk (b : Fin 24) : Memref sig .tc .hbm S1536x256 .bf16 := yM.slice (Rect.unit (s := S1536x6144) (colOff b) S1536x256.size (yblk_inb b)) (fun _ => rfl)
/-- Panel `k` of the activations, in memory and in its buffer. -/
def xsrc (k : Fin 64) : Memref sig .tc .hbm S1536x256 .bf16 := xM.slice (Rect.unit (s := S1536x16384) (xcolOff k) S1536x256.size (xsrc_inb k)) (fun _ => rfl)
def xslot (k : Fin 64) : Memref sig .tc .vmem S1536x256 .bf16 :=
  (xvM.slice (Rect.unit (s := S64x1536x256) (slotOff k) S1x1536x256.size (xslot_inb k)) (fun _ => rfl)).squeeze S1536x256 squeezes_S1x1536x256_S1536x256
/-- A slot of each ring. -/
def wslot (s : Fin 3) : Memref sig .tc .vmem S2048x256 .i32 :=
  (wvM.slice (Rect.unit (s := S3x2048x256) (slotOff s) S1x2048x256.size (wslot_inb s)) (fun _ => rfl)).squeeze S2048x256 squeezes_S1x2048x256_S2048x256
def eslot (s : Fin 3) : Memref sig .tc .vmem S512x256 .i8 :=
  (evM.slice (Rect.unit (s := S3x512x256) (slotOff s) S1x512x256.size (eslot_inb s)) (fun _ => rfl)).squeeze S512x256 squeezes_S1x512x256_S512x256
def yslot (s : Fin 2) : Memref sig .tc .vmem S1536x256 .bf16 :=
  (yvM.slice (Rect.unit (s := S2x1536x256) (slotOff s) S1x1536x256.size (yslot_inb s)) (fun _ => rfl)).squeeze S1536x256 squeezes_S1x1536x256_S1536x256
/-- The semaphores. -/
def xsem (k : Fin 64) : DmaSems sig S_ := (cc0_scratch5.slice (Rect.unit (s := S64) (semOff k) S1.size (sem64_inb k))).squeeze S_ squeezes_S1_S_
def wsem (s : Fin 3) : DmaSems sig S_ := (cc0_scratch6.slice (Rect.unit (s := S3) (semOff s) S1.size (sem3_inb s))).squeeze S_ squeezes_S1_S_
def esem (s : Fin 3) : DmaSems sig S_ := (cc0_scratch7.slice (Rect.unit (s := S3) (semOff s) S1.size (sem3_inb s))).squeeze S_ squeezes_S1_S_
def ysem (s : Fin 2) : DmaSems sig S_ := (cc0_scratch8.slice (Rect.unit (s := S2) (semOff s) S1.size (sem2_inb s))).squeeze S_ squeezes_S1_S_
def hsem (s : Fin 1) : DmaSems sig S_ := (cc0_scratch9.slice (Rect.unit (s := S1) (semOff s) S1.size (sem1_inb s))).squeeze S_ squeezes_S1_S_

instance {n : Nat} (s : Fin n) : ClosedOff (slotOff s) := ⟨slotOff s, rfl⟩
instance (b : Fin 24) : ClosedOff (colOff b) := ⟨colOff b, rfl⟩
instance (b : Fin 64) : ClosedOff (xcolOff b) := ⟨xcolOff b, rfl⟩

section Congr
theorem xsem_congr {off : Fin 1 → Nat} {s : Fin 64} (e : off = semOff s) (hh) : (cc0_scratch5.slice (Rect.unit (s := S64) off S1.size hh)).squeeze S_ squeezes_S1_S_ = xsem s :=
  congrArg (fun A : DmaSems sig S1 => A.squeeze S_ squeezes_S1_S_) (SemArray.slice_unit_congr _ e _ _)
theorem wsem_congr {off : Fin 1 → Nat} {s : Fin 3} (e : off = semOff s) (hh) : (cc0_scratch6.slice (Rect.unit (s := S3) off S1.size hh)).squeeze S_ squeezes_S1_S_ = wsem s :=
  congrArg (fun A : DmaSems sig S1 => A.squeeze S_ squeezes_S1_S_) (SemArray.slice_unit_congr _ e _ _)
theorem esem_congr {off : Fin 1 → Nat} {s : Fin 3} (e : off = semOff s) (hh) : (cc0_scratch7.slice (Rect.unit (s := S3) off S1.size hh)).squeeze S_ squeezes_S1_S_ = esem s :=
  congrArg (fun A : DmaSems sig S1 => A.squeeze S_ squeezes_S1_S_) (SemArray.slice_unit_congr _ e _ _)
theorem ysem_congr {off : Fin 1 → Nat} {s : Fin 2} (e : off = semOff s) (hh) : (cc0_scratch8.slice (Rect.unit (s := S2) off S1.size hh)).squeeze S_ squeezes_S1_S_ = ysem s :=
  congrArg (fun A : DmaSems sig S1 => A.squeeze S_ squeezes_S1_S_) (SemArray.slice_unit_congr _ e _ _)
theorem hsem_congr {off : Fin 1 → Nat} {s : Fin 1} (e : off = semOff s) (hh) : (cc0_scratch9.slice (Rect.unit (s := S1) off S1.size hh)).squeeze S_ squeezes_S1_S_ = hsem s :=
  congrArg (fun A : DmaSems sig S1 => A.squeeze S_ squeezes_S1_S_) (SemArray.slice_unit_congr _ e _ _)
theorem wblk_congr {off : Fin 2 → Nat} {b : Fin 24} (e : off = colOff b) (hh hs) : wM.slice (Rect.unit (s := S2048x6144) off S2048x256.size hh) hs = wblk b :=
  Memref.slice_unit_congr _ e _ _ _ (fun _ => rfl)
theorem eblk_congr {off : Fin 2 → Nat} {b : Fin 24} (e : off = colOff b) (hh hs) : eM.slice (Rect.unit (s := S512x6144) off S512x256.size hh) hs = eblk b :=
  Memref.slice_unit_congr _ e _ _ _ (fun _ => rfl)
theorem yblk_congr {off : Fin 2 → Nat} {b : Fin 24} (e : off = colOff b) (hh hs) : yM.slice (Rect.unit (s := S1536x6144) off S1536x256.size hh) hs = yblk b :=
  Memref.slice_unit_congr _ e _ _ _ (fun _ => rfl)
theorem xsrc_congr {off : Fin 2 → Nat} {b : Fin 64} (e : off = xcolOff b) (hh hs) : xM.slice (Rect.unit (s := S1536x16384) off S1536x256.size hh) hs = xsrc b :=
  Memref.slice_unit_congr _ e _ _ _ (fun _ => rfl)
theorem xslot_congr {off : Fin 3 → Nat} {s : Fin 64} (e : off = slotOff s) (hh hs) :
    (xvM.slice (Rect.unit (s := S64x1536x256) off S1x1536x256.size hh) hs).squeeze S1536x256 squeezes_S1x1536x256_S1536x256 = xslot s :=
  congrArg (fun M : Memref sig .tc .vmem S1x1536x256 .bf16 => M.squeeze S1536x256 squeezes_S1x1536x256_S1536x256) (Memref.slice_unit_congr _ e _ _ _ (fun _ => rfl))
theorem wslot_congr {off : Fin 3 → Nat} {s : Fin 3} (e : off = slotOff s) (hh hs) :
    (wvM.slice (Rect.unit (s := S3x2048x256) off S1x2048x256.size hh) hs).squeeze S2048x256 squeezes_S1x2048x256_S2048x256 = wslot s :=
  congrArg (fun M : Memref sig .tc .vmem S1x2048x256 .i32 => M.squeeze S2048x256 squeezes_S1x2048x256_S2048x256) (Memref.slice_unit_congr _ e _ _ _ (fun _ => rfl))
theorem eslot_congr {off : Fin 3 → Nat} {s : Fin 3} (e : off = slotOff s) (hh hs) :
    (evM.slice (Rect.unit (s := S3x512x256) off S1x512x256.size hh) hs).squeeze S512x256 squeezes_S1x512x256_S512x256 = eslot s :=
  congrArg (fun M : Memref sig .tc .vmem S1x512x256 .i8 => M.squeeze S512x256 squeezes_S1x512x256_S512x256) (Memref.slice_unit_congr _ e _ _ _ (fun _ => rfl))
theorem yslot_congr {off : Fin 3 → Nat} {s : Fin 2} (e : off = slotOff s) (hh hs) :
    (yvM.slice (Rect.unit (s := S2x1536x256) off S1x1536x256.size hh) hs).squeeze S1536x256 squeezes_S1x1536x256_S1536x256 = yslot s :=
  congrArg (fun M : Memref sig .tc .vmem S1x1536x256 .bf16 => M.squeeze S1536x256 squeezes_S1x1536x256_S1536x256) (Memref.slice_unit_congr _ e _ _ _ (fun _ => rfl))
end Congr

/-! ## The printed offsets and conditions at tile `t` -/

section Off
variable (t : Fin k0_t1_loop.trips)

theorem trips_eq : k0_t1_loop.trips = 24 := by decide +kernel
theorem t_lt : t.val < 24 := Nat.lt_of_lt_of_eq t.isLt trips_eq

theorem cond1_iff : ∀ t : Fin k0_t1_loop.trips, k0_cond1 t = 1#1 ↔ t.val + 1 < 24 := by decide +kernel
theorem cond2_iff : ∀ t : Fin k0_t1_loop.trips, k0_cond2 t = 1#1 ↔ t.val + 2 < 24 := by decide +kernel
theorem cond3_iff : ∀ t : Fin k0_t1_loop.trips, k0_cond3 t = 1#1 ↔ 3 ≤ t.val := by decide +kernel
theorem cond4_iff : ∀ t : Fin k0_t1_loop.trips, k0_cond4 t = 1#1 ↔ 2 ≤ t.val := by decide +kernel

theorem off1_eq : ∀ t : Fin k0_t1_loop.trips, k0_off1 t = semOff (Ring.sl 3 (t.val + 1)) := by decide +kernel
theorem off2_eq : ∀ t : Fin k0_t1_loop.trips, k0_off2 t = slotOff (Ring.sl 3 (t.val + 1)) := by decide +kernel
theorem off3_eq : ∀ t : Fin k0_t1_loop.trips, t.val + 1 < 24 → k0_off3 t = colOff (Ring.bk 24 (t.val + 1)) := by decide +kernel
theorem off4_eq : ∀ t : Fin k0_t1_loop.trips, k0_off4 t = slotOff (Ring.sl 3 (t.val + 1)) := by decide +kernel
theorem off5_eq : ∀ t : Fin k0_t1_loop.trips, t.val + 1 < 24 → k0_off5 t = colOff (Ring.bk 24 (t.val + 1)) := by decide +kernel
theorem off6_eq : ∀ t : Fin k0_t1_loop.trips, k0_off6 t = semOff (Ring.sl 3 (t.val + 2)) := by decide +kernel
theorem off7_eq : ∀ t : Fin k0_t1_loop.trips, k0_off7 t = slotOff (Ring.sl 3 (t.val + 2)) := by decide +kernel
theorem off8_eq : ∀ t : Fin k0_t1_loop.trips, t.val + 2 < 24 → k0_off8 t = colOff (Ring.bk 24 (t.val + 2)) := by decide +kernel
theorem off9_eq : ∀ t : Fin k0_t1_loop.trips, k0_off9 t = slotOff (Ring.sl 3 (t.val + 2)) := by decide +kernel
theorem off10_eq : ∀ t : Fin k0_t1_loop.trips, t.val + 2 < 24 → k0_off10 t = colOff (Ring.bk 24 (t.val + 2)) := by decide +kernel
theorem off11_eq : ∀ t : Fin k0_t1_loop.trips, 3 ≤ t.val → k0_off11 t = semOff (Ring.sl 2 (t.val + 1)) := by decide +kernel
theorem off12_eq : ∀ t : Fin k0_t1_loop.trips, 3 ≤ t.val → k0_off12 t = colOff (Ring.bk 24 (t.val - 3)) := by decide +kernel
theorem off13_eq : ∀ t : Fin k0_t1_loop.trips, 3 ≤ t.val → k0_off13 t = slotOff (Ring.sl 2 (t.val + 1)) := by decide +kernel
theorem off14_eq : ∀ t : Fin k0_t1_loop.trips, 2 ≤ t.val → k0_off14 t = semOff (Ring.sl 2 t.val) := by decide +kernel
theorem off15_eq : ∀ t : Fin k0_t1_loop.trips, 2 ≤ t.val → k0_off15 t = colOff (Ring.bk 24 (t.val - 2)) := by decide +kernel
theorem off16_eq : ∀ t : Fin k0_t1_loop.trips, 2 ≤ t.val → k0_off16 t = slotOff (Ring.sl 2 t.val) := by decide +kernel
theorem off17_eq : ∀ t : Fin k0_t1_loop.trips, k0_off17 t = ![(Ring.sl 2 (t.val + 1)).val, 0, 0] := by decide +kernel
theorem off18_eq : ∀ t : Fin k0_t1_loop.trips, k0_off18 t = ![(Ring.sl 2 (t.val + 1)).val, 768, 0] := by decide +kernel
theorem off21_eq : ∀ t : Fin k0_t1_loop.trips, k0_off21 t = ![(Ring.sl 2 (t.val + 1)).val, 256, 0] := by decide +kernel
theorem off22_eq : ∀ t : Fin k0_t1_loop.trips, k0_off22 t = ![(Ring.sl 2 (t.val + 1)).val, 1024, 0] := by decide +kernel
theorem off23_eq : ∀ t : Fin k0_t1_loop.trips, k0_off23 t = ![(Ring.sl 2 (t.val + 1)).val, 512, 0] := by decide +kernel
theorem off24_eq : ∀ t : Fin k0_t1_loop.trips, k0_off24 t = ![(Ring.sl 2 (t.val + 1)).val, 1280, 0] := by decide +kernel
theorem slotC_eq : ∀ t : Fin k0_t1_loop.trips, slotC t = (Ring.sl 3 t.val).val := by decide +kernel
theorem slotN_eq : ∀ t : Fin k0_t1_loop.trips, slotN t = (Ring.sl 3 (t.val + 1)).val := by decide +kernel
end Off

end Cert.KernelIdeal.Prf
-- ==== Proof.Tile.lean ====
/- The printed tile body is its guards followed by the fold of `Panel.lean`. -/
module

public import proofs.«01_k».proof.Proof.Panel
public import Idealize.ShloMosaic.Lib.Tactic

@[expose] public section

noncomputable section

namespace Cert.KernelIdeal.Prf

open Idealize.ShloMosaic Idealize.SL.Sem
open Cert.KernelIdeal Cert.KernelIdeal.Gen

variable {F : FTy → Type} [FloatOps F]

/-- The fourth guard: the copy of a finished tile's results out, two tiles on. -/
def guardY (arg6 : Memref sig .tc .hbm S1536x6144 .bf16) (harg6 : arg6.IsWhole)
    (arg11 : Memref sig .tc .vmem S2x1536x256 .bf16) (harg11 : arg11.IsWhole) (arg16 : DmaSems sig S2)
    (k0_t1 : Fin k0_t1_loop.trips) : Prog (TpuEff nD τ sig (Elt F) Λ₀ .tc) PUnit :=
  if k0_h4 : k0_cond4 k0_t1 = 1#1 then do
    Prog.lift (.enqueueDma ((arg11.slice (Rect.unit (s := S2x1536x256) (k0_off16 k0_t1) S1x1536x256.size (k0_off16_inb k0_t1 k0_h4)) (fun _ => rfl)).squeeze S1536x256 squeezes_S1x1536x256_S1536x256)
      (.here (arg6.slice (Rect.unit (s := S1536x6144) (k0_off15 k0_t1) S1536x256.size (k0_off15_inb k0_t1 k0_h4)) (fun _ => rfl)))
      (.dma ((arg16.slice (Rect.unit (s := S2) (k0_off14 k0_t1) S1.size (k0_off14_inb k0_t1 k0_h4))).squeeze S_ squeezes_S1_S_).sem)
      ((harg11.wordExact_slice rfl _ (k0_off16_wordsbf16 k0_t1 k0_h4)).reshape _ _) (harg6.wordExact_slice rfl _ (k0_off15_wordsbf16 k0_t1 k0_h4)) ⟨Or.inl rfl, trivial⟩)
    pure ⟨⟩
  else do
    pure ⟨⟩

/-- The part of the printed body that follows the fourth guard in its window. -/
def part4Tail (arg8 : Memref sig .tc .vmem S64x1536x256 .bf16) (arg10 : Memref sig .tc .vmem S3x512x256 .i8) (arg11 : Memref sig .tc .vmem S2x1536x256 .bf16) (harg11 : arg11.IsWhole)
    (k0_t1 : Fin k0_t1_loop.trips) (k0_mxu10 : Mxu F) (arg18_r0 : BitVec 32) (v881_r0 : BitVec 32) (v905_r0 : BitVec 32) :
    Prog (TpuEff nD τ sig (Elt F) Λ₀ .tc) (Σ' (v917_r0 : BitVec 32) (k0_mxu15 : Mxu F) (v937_r0 : IVec S32x256 32), BitVec 32) := do
  let c1_i32_785_r0 : BitVec 32 := 1#32
  let v907_r0 : BitVec 32 := Scalar.addi arg18_r0 c1_i32_785_r0
  let c2_i32_786_r0 : BitVec 32 := 2#32
  let c0_i32_787_r0 : BitVec 32 := 0#32
  let v908_r0 : BitVec 1 := Scalar.cmpi .eq c2_i32_786_r0 c0_i32_787_r0
  let c1_i32_788_r0 : BitVec 32 := 1#32
  let v909_r0 : BitVec 32 := Scalar.select v908_r0 c1_i32_788_r0 c2_i32_786_r0
  let v910_r0 : BitVec 32 := Scalar.remsi v907_r0 v909_r0
  let c0_i32_789_r0 : BitVec 32 := 0#32
  let v911_r0 : BitVec 1 := Scalar.cmpi .ne v910_r0 c0_i32_789_r0
  let c0_i32_790_r0 : BitVec 32 := 0#32
  let v912_r0 : BitVec 1 := Scalar.cmpi .slt v910_r0 c0_i32_790_r0
  let c0_i32_791_r0 : BitVec 32 := 0#32
  let v913_r0 : BitVec 1 := Scalar.cmpi .slt v909_r0 c0_i32_791_r0
  let v914_r0 : BitVec 1 := Scalar.xori v912_r0 v913_r0
  let v915_r0 : BitVec 1 := Scalar.andi v914_r0 v911_r0
  let v916_r0 : BitVec 32 := Scalar.addi v910_r0 v909_r0
  let v917_r0 : BitVec 32 := Scalar.select v915_r0 v916_r0 v910_r0
  have v918_r0 : FVec F S256x256 .f32 := k0_mxu10.read 0 0 fits_0_256
  have k0_mxu12 : Mxu F := k0_mxu10.pop 0 0 256 fits_0_256
  have v919_r0 : FVec F S256x256 .bf16 := truncf .bf16 v918_r0 bitsLt_bf16_f32
  let v920_r0 : Index := Scalar.indexCast v917_r0
  let c0_792_r0 : Index := 0#32
  let c0_793_r0 : Index := 0#32
  let v921_r0 : Vec F S1x256x256 .bf16 ← Prog.lift (.load arg11 (Rect.unit (s := S2x1536x256) (k0_off17 k0_t1) S1x256x256.size (k0_off17_inb k0_t1)).toLoadRect (View.loadsAt_vmem h_S1x256x256))
  have v922_r0 : FVec F S256x256 .bf16 := shapeCast S256x256 v921_r0 shapeCasts_S1x256x256_S256x256
  have v923_r0 : FVec F S1x256x256 .bf16 := shapeCast S1x256x256 v919_r0 shapeCasts_S256x256_S1x256x256
  Prog.lift (.store arg11 (Rect.unit (s := S2x1536x256) (k0_off17 k0_t1) S1x256x256.size (k0_off17_inb k0_t1)) v923_r0 Finset.univ (View.stores_vmem h_S1x256x256 (harg11.storeExact_slice rfl _ (k0_off17_packedbf16 k0_t1)) (fun _ => rfl)) (.inl rfl))
  let c0_794_r0 : Index := 0#32
  let c0_795_r0 : Index := 0#32
  let c0_796_r0 : Index := 0#32
  let v924_r0 : Vec F S1x256x256 .bf16 ← Prog.lift (.load arg8 (Rect.unit (s := S64x1536x256) ![0, 0, 0] S1x256x256.size inb_S64x1536x256_S1x256x256_0_0_0).toLoadRect (View.loadsAt_vmem h_S1x256x256))
  have v925_r0 : FVec F S256x256 .bf16 := shapeCast S256x256 v924_r0 shapeCasts_S1x256x256_S256x256
  have k0_mxu13 : Mxu F := k0_mxu12.accLhs 0 0 0 v925_r0 fits_0_256
  have v926_r0 : FVec F S256x256 .f32 := k0_mxu13.read 1 0 fits_0_256
  have k0_mxu14 : Mxu F := k0_mxu13.pop 1 0 256 fits_0_256
  have v927_r0 : FVec F S256x256 .bf16 := truncf .bf16 v926_r0 bitsLt_bf16_f32
  let v928_r0 : Index := Scalar.indexCast v917_r0
  let c768_797_r0 : Index := 768#32
  let c0_798_r0 : Index := 0#32
  let v929_r0 : Vec F S1x256x256 .bf16 ← Prog.lift (.load arg11 (Rect.unit (s := S2x1536x256) (k0_off18 k0_t1) S1x256x256.size (k0_off18_inb k0_t1)).toLoadRect (View.loadsAt_vmem h_S1x256x256))
  have v930_r0 : FVec F S256x256 .bf16 := shapeCast S256x256 v929_r0 shapeCasts_S1x256x256_S256x256
  have v931_r0 : FVec F S1x256x256 .bf16 := shapeCast S1x256x256 v927_r0 shapeCasts_S256x256_S1x256x256
  Prog.lift (.store arg11 (Rect.unit (s := S2x1536x256) (k0_off18 k0_t1) S1x256x256.size (k0_off18_inb k0_t1)) v931_r0 Finset.univ (View.stores_vmem h_S1x256x256 (harg11.storeExact_slice rfl _ (k0_off18_packedbf16 k0_t1)) (fun _ => rfl)) (.inl rfl))
  let c0_799_r0 : Index := 0#32
  let c768_800_r0 : Index := 768#32
  let c0_801_r0 : Index := 0#32
  let v932_r0 : Vec F S1x256x256 .bf16 ← Prog.lift (.load arg8 (Rect.unit (s := S64x1536x256) ![0, 768, 0] S1x256x256.size inb_S64x1536x256_S1x256x256_0_768_0).toLoadRect (View.loadsAt_vmem h_S1x256x256))
  have v933_r0 : FVec F S256x256 .bf16 := shapeCast S256x256 v932_r0 shapeCasts_S1x256x256_S256x256
  have k0_mxu15 : Mxu F := k0_mxu14.accLhs 1 0 0 v933_r0 fits_0_256
  let v934_r0 : Index := Scalar.indexCast v881_r0
  let c0_802_r0 : Index := 0#32
  let c0_803_r0 : Index := 0#32
  let v935_r0 : Vec F S1x32x256 .i8 ← Prog.lift (.load arg10 (Rect.unit (s := S3x512x256) (k0_off19 k0_t1) S1x32x256.size (k0_off19_inb k0_t1)).toLoadRect (View.loadsAt_vmem h_S1x32x256))
  have v936_r0 : IVec S32x256 8 := shapeCast S32x256 v935_r0 shapeCasts_S1x32x256_S32x256
  have v937_r0 : IVec S32x256 32 := extui 32 v936_r0 natLt_8_32
  let c7_i32_804_r0 : BitVec 32 := 7#32
  pure ⟨v917_r0, k0_mxu15, v937_r0, c7_i32_804_r0⟩

set_option maxRecDepth 65536 in
theorem part4_eq
    (arg0 : Memref sig .tc .vmem S1536x256 .bf16) (harg0 : arg0.IsWhole) (arg1 : Memref sig .tc .vmem S256x6144 .bf16) (harg1 : arg1.IsWhole) (arg2 : Memref sig .tc .vmem S256x256 .bf16) (harg2 : arg2.IsWhole) (arg3 : Memref sig .tc .hbm S1536x16384 .bf16) (harg3 : arg3.IsWhole) (arg4 : Memref sig .tc .hbm S2048x6144 .i32) (harg4 : arg4.IsWhole) (arg5 : Memref sig .tc .hbm S512x6144 .i8) (harg5 : arg5.IsWhole) (arg6 : Memref sig .tc .hbm S1536x6144 .bf16) (harg6 : arg6.IsWhole) (arg7 : Memref sig .tc .hbm S1536x80 .bf16) (harg7 : arg7.IsWhole) (arg8 : Memref sig .tc .vmem S64x1536x256 .bf16) (harg8 : arg8.IsWhole) (arg9 : Memref sig .tc .vmem S3x2048x256 .i32) (harg9 : arg9.IsWhole) (arg10 : Memref sig .tc .vmem S3x512x256 .i8) (harg10 : arg10.IsWhole) (arg11 : Memref sig .tc .vmem S2x1536x256 .bf16) (harg11 : arg11.IsWhole) (arg12 : Memref sig .tc .vmem S1536x80 .bf16) (harg12 : arg12.IsWhole) (arg13 : DmaSems sig S64) (arg14 : DmaSems sig S3) (arg15 : DmaSems sig S3) (arg16 : DmaSems sig S2) (arg17 : DmaSems sig S1)

    (k0_t1 : Fin k0_t1_loop.trips) (k0_mxu10 : Mxu F) (arg18_r0 : BitVec 32) (v881_r0 : BitVec 32) (v905_r0 : BitVec 32) :
    k0_part4 arg0 harg0 arg1 harg1 arg2 harg2 arg3 harg3 arg4 harg4 arg5 harg5 arg6 harg6 arg7 harg7 arg8 harg8 arg9 harg9 arg10 harg10 arg11 harg11 arg12 harg12 arg13 arg14 arg15 arg16 arg17 k0_t1 k0_mxu10 arg18_r0 v881_r0 v905_r0
      = (guardY (F := F) arg6 harg6 arg11 harg11 arg16 k0_t1 >>= fun _ => part4Tail arg8 arg10 arg11 harg11 k0_t1 k0_mxu10 arg18_r0 v881_r0 v905_r0) := by
  unfold k0_part4 guardY
  by_cases h : k0_cond4 k0_t1 = 1#1
  · refine (dif_pos h).trans (Eq.trans ?_ (congrArg (fun g => g >>= fun _ => part4Tail arg8 arg10 arg11 harg11 k0_t1 k0_mxu10 arg18_r0 v881_r0 v905_r0) (dif_pos h)).symm)
    sl_kernel_rfl
  · refine (dif_neg h).trans (Eq.trans ?_ (congrArg (fun g => g >>= fun _ => part4Tail arg8 arg10 arg11 harg11 k0_t1 k0_mxu10 arg18_r0 v881_r0 v905_r0) (dif_neg h)).symm)
    sl_kernel_rfl

theorem bind_bind {E : Type → Type} {α β γ : Type} (p : Prog E α) (f : α → Prog E β) (g : β → Prog E γ) :
    ((p >>= f) >>= g) = (p >>= fun x => f x >>= g) := Prog.bind_assoc p f g

theorem assoc3 {E : Type → Type} {α γ δ : Type} (A : Prog E α) (M : α → Prog E γ) (D : γ → Prog E δ) (G : Prog E PUnit) (K : α → Prog E δ)
    (hM : ∀ r, (M r >>= D) = (G >>= fun _ => K r)) :
    ((A >>= M) >>= D) = (A >>= fun r => G >>= fun _ => K r) := by
  rw [bind_bind]
  exact congrArg (A >>= ·) (funext hM)

theorem assoc4 {E : Type → Type} {β γ δ : Type} (B : Prog E β) (T : Prog E β) (C : β → Prog E γ) (D : γ → Prog E δ) (G : Prog E PUnit) (K : Prog E δ)
    (hB : B = (G >>= fun _ => T)) (hK : ((T >>= C) >>= D) = K) :
    ((B >>= C) >>= D) = (G >>= fun _ => K) := by
  rw [hB, bind_bind, bind_bind]
  refine congrArg (G >>= ·) (funext fun _ => ?_)
  rw [← bind_bind]
  exact hK

set_option maxRecDepth 65536 in
theorem body_eq
    (arg0 : Memref sig .tc .vmem S1536x256 .bf16) (harg0 : arg0.IsWhole) (arg1 : Memref sig .tc .vmem S256x6144 .bf16) (harg1 : arg1.IsWhole) (arg2 : Memref sig .tc .vmem S256x256 .bf16) (harg2 : arg2.IsWhole) (arg3 : Memref sig .tc .hbm S1536x16384 .bf16) (harg3 : arg3.IsWhole) (arg4 : Memref sig .tc .hbm S2048x6144 .i32) (harg4 : arg4.IsWhole) (arg5 : Memref sig .tc .hbm S512x6144 .i8) (harg5 : arg5.IsWhole) (arg6 : Memref sig .tc .hbm S1536x6144 .bf16) (harg6 : arg6.IsWhole) (arg7 : Memref sig .tc .hbm S1536x80 .bf16) (harg7 : arg7.IsWhole) (arg8 : Memref sig .tc .vmem S64x1536x256 .bf16) (harg8 : arg8.IsWhole) (arg9 : Memref sig .tc .vmem S3x2048x256 .i32) (harg9 : arg9.IsWhole) (arg10 : Memref sig .tc .vmem S3x512x256 .i8) (harg10 : arg10.IsWhole) (arg11 : Memref sig .tc .vmem S2x1536x256 .bf16) (harg11 : arg11.IsWhole) (arg12 : Memref sig .tc .vmem S1536x80 .bf16) (harg12 : arg12.IsWhole) (arg13 : DmaSems sig S64) (arg14 : DmaSems sig S3) (arg15 : DmaSems sig S3) (arg16 : DmaSems sig S2) (arg17 : DmaSems sig S1)
    (k0_mxu7 : Mxu F) (v683_r0 : IVec S32x256 32) (v712_r0 : FVec F S256x256 .bf16) (v717_r0 : FVec F S32x256 .bf16) (v718_r0 : FVec F S32x256 .bf16)
    (t : Fin k0_t1_loop.trips) (s : Mxu F) :
    k0_t1_body arg0 harg0 arg1 harg1 arg2 harg2 arg3 harg3 arg4 harg4 arg5 harg5 arg6 harg6 arg7 harg7 arg8 harg8 arg9 harg9 arg10 harg10 arg11 harg11 arg12 harg12 arg13 arg14 arg15 arg16 arg17 k0_mxu7 v683_r0 v712_r0 v717_r0 v718_r0 t s
      = (k0_part3 (F := F) arg0 harg0 arg1 harg1 arg2 harg2 arg3 harg3 arg4 harg4 arg5 harg5 arg6 harg6 arg7 harg7 arg8 harg8 arg9 harg9 arg10 harg10 arg11 harg11 arg12 harg12 arg13 arg14 arg15 arg16 arg17 0#32 1#32 t >>= fun r => guardY (F := F) arg6 harg6 arg11 harg11 arg16 t >>= fun _ =>
          tile (F := F) arg0 arg1 arg2 arg8 arg9 arg10 arg11 harg11 r.1 t s) := by
  unfold k0_t1_body k0_part153
  refine assoc3 _ _ _ _ _ ?_
  rintro ⟨a, b, c, d⟩
  dsimp only
  refine assoc4 _ _ _ _ _ _ (part4_eq ..) ?_
  sl_kernel_rfl

end Cert.KernelIdeal.Prf
-- ==== Proof.Guards.lean ====
/- The copies of a tile: the weights and scales of the tiles ahead are waited for and started, the result blocks of
   the tiles behind are waited for and started. -/
module

public import proofs.«01_k».proof.Proof.Names
public import proofs.«01_k».proof.Proof.Tile

@[expose] public section

noncomputable section

namespace Cert.KernelIdeal.Prf

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

section Pieces
variable (c : Dev nD)

/-- Contents of a memref's buffer on core `c`. -/
abbrev Cont {sp : Space} {s : Shape} {e : EltTy} (M : Memref sig .tc sp s e) : Type := Buf (Elt F) (M.view.loc (c : Thread nD τ))
/-- A memref's elements held at contents `f`. -/
abbrev held {sp : Space} {s : Shape} {e : EltTy} (M : Memref sig .tc sp s e) (f : Buf (Elt F) (M.view.loc (c : Thread nD τ))) : sProp 𝕄 :=
  M.view.loc (c : Thread nD τ) ↦[M.view.set]{fullShare} f
abbrev cellP (s : DmaSems sig S_) : sProp 𝕄 := semVal ((c : Thread nD τ), SemLoc.dma s.sem) 0
/-- A copy of `src`, at contents `g`, over `dst`, whose contents were `f`, in flight on semaphore `sm`. -/
abbrev flight {sp sp' : Space} {s : Shape} {e : EltTy} (sm : DmaSems sig S_) (n : ℕ) (src : Memref sig .tc sp s e) (dst : Memref sig .tc sp' s e)
    (g : Buf (Elt F) (src.view.loc (c : Thread nD τ))) (f : Buf (Elt F) (dst.view.loc (c : Thread nD τ))) : sProp 𝕄 :=
  Transfers.Flight countersEmb (c : Thread nD τ) (SemLoc.dma sm.sem) () n
    iprop(held c dst (dst.view.writes (Elt F) f [⟨Rect.whole s, ReadAs.same.apply (src.view.read (Elt F) g)⟩]) ∗ held c src g)

end Pieces

/-! ### The names of the tile's slices -/
section Canon
variable (t : Fin k0_t1_loop.trips)
@[sl_canon] theorem wsemA (hh) : (cc0_scratch6.slice (Rect.unit (s := S3) (k0_off1 t) S1.size hh)).squeeze S_ squeezes_S1_S_ = wsem (Ring.sl 3 (t.val + 1)) := wsem_congr (off1_eq t) _
@[sl_canon] theorem esemA (hh) : (cc0_scratch7.slice (Rect.unit (s := S3) (k0_off1 t) S1.size hh)).squeeze S_ squeezes_S1_S_ = esem (Ring.sl 3 (t.val + 1)) := esem_congr (off1_eq t) _
@[sl_canon] theorem wsemB (hh) : (cc0_scratch6.slice (Rect.unit (s := S3) (k0_off6 t) S1.size hh)).squeeze S_ squeezes_S1_S_ = wsem (Ring.sl 3 (t.val + 2)) := wsem_congr (off6_eq t) _
@[sl_canon] theorem esemB (hh) : (cc0_scratch7.slice (Rect.unit (s := S3) (k0_off6 t) S1.size hh)).squeeze S_ squeezes_S1_S_ = esem (Ring.sl 3 (t.val + 2)) := esem_congr (off6_eq t) _
@[sl_canon] theorem wslotA (hh hs) : (wvM.slice (Rect.unit (s := S3x2048x256) (k0_off2 t) S1x2048x256.size hh) hs).squeeze S2048x256 squeezes_S1x2048x256_S2048x256 = wslot (Ring.sl 3 (t.val + 1)) := wslot_congr (off2_eq t) _ _
@[sl_canon] theorem eslotA (hh hs) : (evM.slice (Rect.unit (s := S3x512x256) (k0_off4 t) S1x512x256.size hh) hs).squeeze S512x256 squeezes_S1x512x256_S512x256 = eslot (Ring.sl 3 (t.val + 1)) := eslot_congr (off4_eq t) _ _
@[sl_canon] theorem wslotB (hh hs) : (wvM.slice (Rect.unit (s := S3x2048x256) (k0_off7 t) S1x2048x256.size hh) hs).squeeze S2048x256 squeezes_S1x2048x256_S2048x256 = wslot (Ring.sl 3 (t.val + 2)) := wslot_congr (off7_eq t) _ _
@[sl_canon] theorem eslotB (hh hs) : (evM.slice (Rect.unit (s := S3x512x256) (k0_off9 t) S1x512x256.size hh) hs).squeeze S512x256 squeezes_S1x512x256_S512x256 = eslot (Ring.sl 3 (t.val + 2)) := eslot_congr (off9_eq t) _ _
@[sl_canon] theorem wblkA (h : t.val + 1 < 24) (hh hs) : wM.slice (Rect.unit (s := S2048x6144) (k0_off3 t) S2048x256.size hh) hs = wblk (Ring.bk 24 (t.val + 1)) := wblk_congr (off3_eq t h) _ _
@[sl_canon] theorem eblkA (h : t.val + 1 < 24) (hh hs) : eM.slice (Rect.unit (s := S512x6144) (k0_off5 t) S512x256.size hh) hs = eblk (Ring.bk 24 (t.val + 1)) := eblk_congr (off5_eq t h) _ _
@[sl_canon] theorem wblkB (h : t.val + 2 < 24) (hh hs) : wM.slice (Rect.unit (s := S2048x6144) (k0_off8 t) S2048x256.size hh) hs = wblk (Ring.bk 24 (t.val + 2)) := wblk_congr (off8_eq t h) _ _
@[sl_canon] theorem eblkB (h : t.val + 2 < 24) (hh hs) : eM.slice (Rect.unit (s := S512x6144) (k0_off10 t) S512x256.size hh) hs = eblk (Ring.bk 24 (t.val + 2)) := eblk_congr (off10_eq t h) _ _
@[sl_canon] theorem ysemA (h : 3 ≤ t.val) (hh) : (cc0_scratch8.slice (Rect.unit (s := S2) (k0_off11 t) S1.size hh)).squeeze S_ squeezes_S1_S_ = ysem (Ring.sl 2 (t.val + 1)) := ysem_congr (off11_eq t h) _
@[sl_canon] theorem yblkA (h : 3 ≤ t.val) (hh hs) : yM.slice (Rect.unit (s := S1536x6144) (k0_off12 t) S1536x256.size hh) hs = yblk (Ring.bk 24 (t.val - 3)) := yblk_congr (off12_eq t h) _ _
@[sl_canon] theorem yslotA (h : 3 ≤ t.val) (hh hs) : (yvM.slice (Rect.unit (s := S2x1536x256) (k0_off13 t) S1x1536x256.size hh) hs).squeeze S1536x256 squeezes_S1x1536x256_S1536x256 = yslot (Ring.sl 2 (t.val + 1)) := yslot_congr (off13_eq t h) _ _
@[sl_canon] theorem ysemB (h : 2 ≤ t.val) (hh) : (cc0_scratch8.slice (Rect.unit (s := S2) (k0_off14 t) S1.size hh)).squeeze S_ squeezes_S1_S_ = ysem (Ring.sl 2 t.val) := ysem_congr (off14_eq t h) _
@[sl_canon] theorem yblkB (h : 2 ≤ t.val) (hh hs) : yM.slice (Rect.unit (s := S1536x6144) (k0_off15 t) S1536x256.size hh) hs = yblk (Ring.bk 24 (t.val - 2)) := yblk_congr (off15_eq t h) _ _
@[sl_canon] theorem yslotB (h : 2 ≤ t.val) (hh hs) : (yvM.slice (Rect.unit (s := S2x1536x256) (k0_off16 t) S1x1536x256.size hh) hs).squeeze S1536x256 squeezes_S1x1536x256_S1536x256 = yslot (Ring.sl 2 t.val) := yslot_congr (off16_eq t h) _ _
end Canon

/-! ### What a tile's copies hand over -/
section Roles
variable (c : Dev nD)
  (W : Buf (Elt F) ((c : Thread nD τ).loc main_arg1)) (E : Buf (Elt F) ((c : Thread nD τ).loc main_arg2))
  (Y : Fin 24 → S1536x256.Idx → Elt F .bf16)

/-- The weights' contents, as those of one of its blocks. -/
abbrev wAt (b : Fin 24) : Buf (Elt F) ((wblk b).view.loc (c : Thread nD τ)) := W
abbrev eAt (b : Fin 24) : Buf (Elt F) ((eblk b).view.loc (c : Thread nD τ)) := E

/-- The blocks other than number `k`. -/
def others (k : ℕ) : Finset (Fin 24) := Finset.univ.filter (fun b => b.val ≠ k)
def others2 (k : ℕ) : Finset (Fin 24) := Finset.univ.filter (fun b => b.val ≠ k ∧ b.val ≠ k + 1)

theorem others_out (k : ℕ) (h : k + 1 < 24) : others k = insert (Ring.bk 24 (k + 1)) (others2 k) := by
  ext b; simp only [others, others2, Finset.mem_insert, Finset.mem_filter, Finset.mem_univ, true_and, Fin.ext_iff, Ring.bk_val h]; omega
theorem others_in (k : ℕ) (h : k < 24) : others (k + 1) = insert (Ring.bk 24 k) (others2 k) := by
  ext b; simp only [others, others2, Finset.mem_insert, Finset.mem_filter, Finset.mem_univ, true_and, Fin.ext_iff, Ring.bk_val h]; omega
theorem others_last (k : ℕ) (h : 24 ≤ k + 1) : others2 k = others k := by
  ext b; simp only [others, others2, Finset.mem_filter, Finset.mem_univ, true_and]; have := b.isLt; omega
theorem others_past (k : ℕ) (h : 24 ≤ k) : others (k + 1) = others k := by
  ext b; simp only [others, Finset.mem_filter, Finset.mem_univ, true_and]; have := b.isLt; omega
theorem others2_out (k : ℕ) (h : k + 1 < 24) : Ring.bk 24 (k + 1) ∉ others2 k := by
  simp only [others2, Finset.mem_filter, Finset.mem_univ, true_and, Ring.bk_val h]; omega
theorem others2_in (k : ℕ) (h : k < 24) : Ring.bk 24 k ∉ others2 k := by
  simp only [others2, Finset.mem_filter, Finset.mem_univ, true_and, Ring.bk_val h]; omega

/-- Tile `k`'s weights in flight, or past the last tile their slot idle. -/
def wNext (k : ℕ) : sProp 𝕄 :=
  if k < 24 then iprop(∃ f, flight c (wsem (Ring.sl 3 k)) 65536 (wblk (Ring.bk 24 k)) (wslot (Ring.sl 3 k)) (wAt c W (Ring.bk 24 k)) f)
  else iprop((∃ f, held c (wslot (Ring.sl 3 k)) f) ∗ cellP c (wsem (Ring.sl 3 k)))
def eNext (k : ℕ) : sProp 𝕄 :=
  if k < 24 then iprop(∃ f, flight c (esem (Ring.sl 3 k)) 4096 (eblk (Ring.bk 24 k)) (eslot (Ring.sl 3 k)) (eAt c E (Ring.bk 24 k)) f)
  else iprop((∃ f, held c (eslot (Ring.sl 3 k)) f) ∗ cellP c (esem (Ring.sl 3 k)))
/-- Tile `k`'s weights landed in their slot. -/
def wHave (k : ℕ) : sProp 𝕄 :=
  iprop((∃ f, ⌜k < 24 → (wslot (Ring.sl 3 k)).view.read (Elt F) f = (wblk (Ring.bk 24 k)).view.read (Elt F) (wAt c W (Ring.bk 24 k))⌝ ∗ held c (wslot (Ring.sl 3 k)) f)
    ∗ cellP c (wsem (Ring.sl 3 k)))
def eHave (k : ℕ) : sProp 𝕄 :=
  iprop((∃ f, ⌜k < 24 → (eslot (Ring.sl 3 k)).view.read (Elt F) f = (eblk (Ring.bk 24 k)).view.read (Elt F) (eAt c E (Ring.bk 24 k))⌝ ∗ held c (eslot (Ring.sl 3 k)) f)
    ∗ cellP c (esem (Ring.sl 3 k)))
/-- Tile `k`'s slots idle. -/
def wFree (k : ℕ) : sProp 𝕄 := iprop((∃ f, held c (wslot (Ring.sl 3 k)) f) ∗ cellP c (wsem (Ring.sl 3 k)))
def eFree (k : ℕ) : sProp 𝕄 := iprop((∃ f, held c (eslot (Ring.sl 3 k)) f) ∗ cellP c (esem (Ring.sl 3 k)))
/-- The blocks at home while number `k`'s is away. -/
def wHomes (S : Finset (Fin 24)) : sProp 𝕄 := bigSep S (fun b => held c (wblk b) (wAt c W b))
def eHomes (S : Finset (Fin 24)) : sProp 𝕄 := bigSep S (fun b => held c (eblk b) (eAt c E b))

theorem wHomes_out (k : ℕ) (h : k + 1 < 24) : wHomes (F := F) c W (others k)
    = iprop(held c (wblk (Ring.bk 24 (k + 1))) (wAt c W (Ring.bk 24 (k + 1))) ∗ wHomes c W (others2 k)) := by
  unfold wHomes; rw [others_out k h, bigSep_insert (others2_out k h)]; rfl
theorem wHomes_in (k : ℕ) (h : k < 24) : wHomes (F := F) c W (others (k + 1))
    = iprop(held c (wblk (Ring.bk 24 k)) (wAt c W (Ring.bk 24 k)) ∗ wHomes c W (others2 k)) := by
  unfold wHomes; rw [others_in k h, bigSep_insert (others2_in k h)]; rfl
theorem eHomes_out (k : ℕ) (h : k + 1 < 24) : eHomes (F := F) c E (others k)
    = iprop(held c (eblk (Ring.bk 24 (k + 1))) (eAt c E (Ring.bk 24 (k + 1))) ∗ eHomes c E (others2 k)) := by
  unfold eHomes; rw [others_out k h, bigSep_insert (others2_out k h)]; rfl
theorem eHomes_in (k : ℕ) (h : k < 24) : eHomes (F := F) c E (others (k + 1))
    = iprop(held c (eblk (Ring.bk 24 k)) (eAt c E (Ring.bk 24 k)) ∗ eHomes c E (others2 k)) := by
  unfold eHomes; rw [others_in k h, bigSep_insert (others2_in k h)]; rfl

/-- A block of the result, written or not. -/
def yHome (b : Fin 24) (d : Prop) : sProp 𝕄 := iprop(∃ f, ⌜d → (yblk b).view.read (Elt F) f = Y b⌝ ∗ held c (yblk b) f)
/-- Before tile `k`: the copy of tile `k - 3`'s result in flight. -/
def yFly (k : ℕ) : sProp 𝕄 :=
  if 3 ≤ k then iprop(∃ f g, ⌜(yslot (Ring.sl 2 (k + 1))).view.read (Elt F) g = Y (Ring.bk 24 (k - 3))⌝
    ∗ flight c (ysem (Ring.sl 2 (k + 1))) 24576 (yslot (Ring.sl 2 (k + 1))) (yblk (Ring.bk 24 (k - 3))) g f)
  else iprop((∃ f, held c (yslot (Ring.sl 2 (k + 1))) f) ∗ cellP c (ysem (Ring.sl 2 (k + 1))))
/-- Before tile `k`: tile `k - 2`'s result in its slot. -/
def yPend (k : ℕ) : sProp 𝕄 :=
  iprop((∃ f, ⌜2 ≤ k → (yslot (Ring.sl 2 k)).view.read (Elt F) f = Y (Ring.bk 24 (k - 2))⌝ ∗ held c (yslot (Ring.sl 2 k)) f) ∗ cellP c (ysem (Ring.sl 2 k)))
def yFree (k : ℕ) : sProp 𝕄 := iprop((∃ f, held c (yslot (Ring.sl 2 k)) f) ∗ cellP c (ysem (Ring.sl 2 k)))
/-- The result's blocks at home before tile `k`. -/
def away (k : ℕ) : Finset (Fin 24) := Finset.univ.filter (fun b => b.val + 3 ≠ k)
def yHomes (k : ℕ) : sProp 𝕄 := bigSep (away k) (fun b => yHome c Y b (b.val + 3 < k))
def yAll (k : ℕ) : sProp 𝕄 := bigSep Finset.univ (fun b => yHome c Y b (b.val + 3 < k))

theorem away_in (k : ℕ) (h3 : 3 ≤ k) (h : k - 3 < 24) : Finset.univ = insert (Ring.bk 24 (k - 3)) (away k) := by
  ext b; simp only [away, Finset.mem_insert, Finset.mem_filter, Finset.mem_univ, true_and, Fin.ext_iff, Ring.bk_val h, true_iff]; omega
theorem away_not (k : ℕ) (h3 : 3 ≤ k) (h : k - 3 < 24) : Ring.bk 24 (k - 3) ∉ away k := by
  simp only [away, Finset.mem_filter, Finset.mem_univ, true_and, Ring.bk_val h]; omega
theorem away_low (k : ℕ) (h3 : k < 3) : away k = Finset.univ := by
  ext b; simp only [away, Finset.mem_filter, Finset.mem_univ, true_and, iff_true]; omega

/-- Once tile `k - 3`'s block is back, every block is at home. -/
theorem yAll_of (k : ℕ) (h3 : 3 ≤ k) (h : k - 3 < 24) : yAll (F := F) c Y (k + 1) = iprop(yHome c Y (Ring.bk 24 (k - 3)) True ∗ yHomes c Y k) := by
  unfold yAll; rw [away_in k h3 h, bigSep_insert (away_not k h3 h)]; unfold yHomes
  congr 1
  · congr 1; simp only [Ring.bk_val h, eq_iff_iff, iff_true]; omega
  · refine bigSep_congr fun b hb => ?_
    simp only [away, Finset.mem_filter, Finset.mem_univ, true_and] at hb
    congr 1; simp only [eq_iff_iff]; omega
theorem yAll_low (k : ℕ) (h3 : k < 3) : yAll (F := F) c Y (k + 1) = yHomes c Y k := by
  unfold yAll yHomes; rw [away_low k h3]
  refine bigSep_congr fun b hb => ?_
  congr 1; simp only [eq_iff_iff]; omega
/-- Tile `k - 3`'s block about to leave. -/
theorem yAll_out (k : ℕ) (h3 : 3 ≤ k) (h : k - 3 < 24) : yAll (F := F) c Y k = iprop(yHome c Y (Ring.bk 24 (k - 3)) False ∗ yHomes c Y k) := by
  unfold yAll; rw [away_in k h3 h, bigSep_insert (away_not k h3 h)]; unfold yHomes
  congr 1
  congr 1; simp only [Ring.bk_val h, eq_iff_iff, iff_false]; omega
theorem yAll_out_low (k : ℕ) (h3 : k < 3) : yAll (F := F) c Y k = yHomes c Y k := by
  unfold yAll yHomes; rw [away_low k h3]

end Roles

section Guards
variable (c : Dev nD)
  (arg0 : Memref sig .tc .vmem S1536x256 .bf16) (harg0 : arg0.IsWhole) (arg1 : Memref sig .tc .vmem S256x6144 .bf16) (harg1 : arg1.IsWhole)
  (arg2 : Memref sig .tc .vmem S256x256 .bf16) (harg2 : arg2.IsWhole)
  (W : Buf (Elt F) ((c : Thread nD τ).loc main_arg1)) (E : Buf (Elt F) ((c : Thread nD τ).loc main_arg2))
  (Y : Fin 24 → S1536x256.Idx → Elt F .bf16)

abbrev part3P (t : Fin k0_t1_loop.trips) :=
  k0_part3 (F := F) arg0 harg0 arg1 harg1 arg2 harg2 xM (Memref.isWhole_whole _) wM (Memref.isWhole_whole _) eM (Memref.isWhole_whole _) yM (Memref.isWhole_whole _) hM (Memref.isWhole_whole _)
    xvM (Memref.isWhole_whole _) wvM (Memref.isWhole_whole _) evM (Memref.isWhole_whole _) yvM (Memref.isWhole_whole _) hoM (Memref.isWhole_whole _)
    cc0_scratch5 cc0_scratch6 cc0_scratch7 cc0_scratch8 cc0_scratch9 0#32 1#32 t

def guardPre (k : ℕ) : sProp 𝕄 :=
  iprop((∃ W, owes (c : Thread nD τ) 0 W) ∗ wNext c W (k + 1) ∗ wFree c (k + 2) ∗ wHomes c W (others (k + 1))
    ∗ eNext c E (k + 1) ∗ eFree c (k + 2) ∗ eHomes c E (others (k + 1)) ∗ yFly c Y k ∗ yHomes c Y k)
def guardPost (k : ℕ) : sProp 𝕄 :=
  iprop((∃ W, owes (c : Thread nD τ) 0 W) ∗ wHave c W (k + 1) ∗ wNext c W (k + 2) ∗ wHomes c W (others (k + 2))
    ∗ eHave c E (k + 1) ∗ eNext c E (k + 2) ∗ eHomes c E (others (k + 2)) ∗ yFree c (k + 1) ∗ yAll c Y (k + 1))

theorem read_landed {sp sp' : Space} {s : Shape} {e : EltTy} (src : Memref sig .tc sp s e) (dst : Memref sig .tc sp' s e)
    (g : Buf (Elt F) (src.view.loc (c : Thread nD τ))) (f : Buf (Elt F) (dst.view.loc (c : Thread nD τ))) :
    dst.view.read (Elt F) (dst.view.writes (Elt F) f [⟨Rect.whole s, ReadAs.same.apply (src.view.read (Elt F) g)⟩]) = src.view.read (Elt F) g := by
  funext i
  have h := View.read_writes_cons_emb (Val := Elt F) dst.view f (Rect.whole s) (ReadAs.same.apply (src.view.read (Elt F) g)) [] i
  rw [Rect.emb_whole_apply] at h
  exact h

/-- The first three tiles' waits and starts: no result is in flight. -/
theorem part3_low (t : Fin k0_t1_loop.trips) (h3 : t.val < 3) :
    guardPre c W E Y t.val ⊢ wp frame (wpE (defs₀ (F := F)) 𝒱₀ (c : Thread nD τ) none) Set.univ (part3P arg0 harg0 arg1 harg1 arg2 harg2 t)
      (fun r => iprop(⌜r.1 = Scf.iv 0#32 1#32 t.val⌝ ∗ guardPost c W E Y t.val)) := by
  have h1 : t.val + 1 < 24 := by omega
  have h2 : t.val + 2 < 24 := by omega
  have hc1 : k0_cond1 t = 1#1 := (cond1_iff t).2 (by omega)
  have hc2 : k0_cond2 t = 1#1 := (cond2_iff t).2 h2
  have hc3 : ¬ k0_cond3 t = 1#1 := fun h => by have := (cond3_iff t).1 h; omega
  unfold guardPre guardPost wNext eNext yFly wFree eFree wHave eHave yFree
  rw [if_pos h1, if_pos h1, if_pos h2, if_pos h2, if_neg (show ¬ 3 ≤ t.val by omega), yAll_low c Y _ h3, wHomes_out c W _ h2, wHomes_in c W _ h1, eHomes_out c E _ h2, eHomes_in c E _ h1]
  iintro ⟨⟨%WW, HW⟩, ⟨%fw, HFw⟩, ⟨⟨%fw2, Hws⟩, Hcw⟩, ⟨Hwb, Hwr⟩, ⟨%fe, HFe⟩, ⟨⟨%fe2, Hes⟩, Hce⟩, ⟨Heb, Her⟩, ⟨Hys, Hcy⟩, Hyh⟩
  dsimp only [part3P]
  sl_unfold [k0_part3, k0_part1, k0_part2]
  sl_exec
  sl_step
  isplitr; · ipureintro; rfl
  isplitl [HW]; · iexists _; iexact HW
  isplitl [HFw_dst HFw]
  · isplitl [HFw_dst]
    · iexists _; isplitr
      · ipureintro; exact fun _ => read_landed c _ _ _ fw
      iexact HFw_dst
    iexact HFw
  isplitl [Hcw]; · iexists fw2; iexact Hcw
  isplitl [HFw_src Hwr]
  · isplitl [HFw_src] <;> iassumption
  isplitl [HFe_dst HFe]
  · isplitl [HFe_dst]
    · iexists _; isplitr
      · ipureintro; exact fun _ => read_landed c _ _ _ fe
      iexact HFe_dst
    iexact HFe
  isplitl [Hce]; · iexists fe2; iexact Hce
  isplitl [HFe_src Her]
  · isplitl [HFe_src] <;> iassumption
  isplitl [Hys Hcy]
  · isplitl [Hys] <;> iassumption
  iexact Hyh

/-- A middle tile's waits and starts. -/
theorem part3_mid (t : Fin k0_t1_loop.trips) (h3 : 3 ≤ t.val) (h2 : t.val + 2 < 24) :
    guardPre c W E Y t.val ⊢ wp frame (wpE (defs₀ (F := F)) 𝒱₀ (c : Thread nD τ) none) Set.univ (part3P arg0 harg0 arg1 harg1 arg2 harg2 t)
      (fun r => iprop(⌜r.1 = Scf.iv 0#32 1#32 t.val⌝ ∗ guardPost c W E Y t.val)) := by
  have h1 : t.val + 1 < 24 := by omega
  have hc1 : k0_cond1 t = 1#1 := (cond1_iff t).2 (by omega)
  have hc2 : k0_cond2 t = 1#1 := (cond2_iff t).2 h2
  have hc3 : k0_cond3 t = 1#1 := (cond3_iff t).2 h3
  unfold guardPre guardPost wNext eNext yFly wFree eFree wHave eHave yFree
  rw [if_pos h1, if_pos h1, if_pos h2, if_pos h2, if_pos h3, yAll_of c Y t.val h3 (show t.val - 3 < 24 by omega), wHomes_out c W _ h2, wHomes_in c W _ h1, eHomes_out c E _ h2, eHomes_in c E _ h1]
  iintro ⟨⟨%WW, HW⟩, ⟨%fw, HFw⟩, ⟨⟨%fw2, Hws⟩, Hcw⟩, ⟨Hwb, Hwr⟩, ⟨%fe, HFe⟩, ⟨⟨%fe2, Hes⟩, Hce⟩, ⟨Heb, Her⟩, ⟨%fy, %gy, %hgy, HFy⟩, Hyh⟩
  dsimp only [part3P]
  sl_unfold [k0_part3, k0_part1, k0_part2]
  sl_exec
  sl_step
  isplitr; · ipureintro; rfl
  isplitl [HW]; · iexists _; iexact HW
  isplitl [HFw_dst HFw]
  · isplitl [HFw_dst]
    · iexists _; isplitr
      · ipureintro; exact fun _ => read_landed c _ _ _ fw
      iexact HFw_dst
    iexact HFw
  isplitl [Hcw]; · iexists fw2; iexact Hcw
  isplitl [HFw_src Hwr]
  · isplitl [HFw_src] <;> iassumption
  isplitl [HFe_dst HFe]
  · isplitl [HFe_dst]
    · iexists _; isplitr
      · ipureintro; exact fun _ => read_landed c _ _ _ fe
      iexact HFe_dst
    iexact HFe
  isplitl [Hce]; · iexists fe2; iexact Hce
  isplitl [HFe_src Her]
  · isplitl [HFe_src] <;> iassumption
  isplitl [HFy_src HFy]
  · isplitl [HFy_src]; · iexists gy; iexact HFy_src
    iexact HFy
  isplitl [HFy_dst]
  · unfold yHome; iexists ((yblk (Ring.bk 24 (t.val - 3))).view.writes (Elt F) fy [⟨Rect.whole S1536x256, ReadAs.same.apply ((yslot (Ring.sl 2 (t.val + 1))).view.read (Elt F) gy)⟩]); isplitr
    · ipureintro; exact fun _ => (read_landed c _ _ _ fy).trans hgy
    iexact HFy_dst
  iexact Hyh

/-- The last tile but one: nothing more to start. -/
theorem part3_pen (t : Fin k0_t1_loop.trips) (h1 : t.val + 1 < 24) (h2 : 24 ≤ t.val + 2) :
    guardPre c W E Y t.val ⊢ wp frame (wpE (defs₀ (F := F)) 𝒱₀ (c : Thread nD τ) none) Set.univ (part3P arg0 harg0 arg1 harg1 arg2 harg2 t)
      (fun r => iprop(⌜r.1 = Scf.iv 0#32 1#32 t.val⌝ ∗ guardPost c W E Y t.val)) := by
  have h3 : 3 ≤ t.val := by omega
  have hc1 : k0_cond1 t = 1#1 := (cond1_iff t).2 (by omega)
  have hc2 : ¬ k0_cond2 t = 1#1 := fun h => by have := (cond2_iff t).1 h; omega
  have hc3 : k0_cond3 t = 1#1 := (cond3_iff t).2 h3
  unfold guardPre guardPost wNext eNext yFly wFree eFree wHave eHave yFree
  have n2 : ¬ t.val + 2 < 24 := by omega
  rw [if_pos h1, if_pos h1, if_neg n2, if_neg n2, if_pos h3, yAll_of c Y _ h3 (show t.val - 3 < 24 by omega), ← others_last (t.val + 1) h2, wHomes_in c W _ h1, eHomes_in c E _ h1]
  iintro ⟨⟨%WW, HW⟩, ⟨%fw, HFw⟩, ⟨Hws, Hcw⟩, Hwr, ⟨%fe, HFe⟩, ⟨Hes, Hce⟩, Her, ⟨%fy, %gy, %hgy, HFy⟩, Hyh⟩
  dsimp only [part3P]
  sl_unfold [k0_part3, k0_part1, k0_part2]
  sl_exec
  sl_step
  isplitr; · ipureintro; rfl
  isplitl [HW]; · iexists _; iexact HW
  isplitl [HFw_dst HFw]
  · isplitl [HFw_dst]
    · iexists _; isplitr
      · ipureintro; exact fun _ => read_landed c _ _ _ fw
      iexact HFw_dst
    iexact HFw
  isplitl [Hws Hcw]
  · isplitl [Hws] <;> iassumption
  isplitl [HFw_src Hwr]
  · isplitl [HFw_src] <;> iassumption
  isplitl [HFe_dst HFe]
  · isplitl [HFe_dst]
    · iexists _; isplitr
      · ipureintro; exact fun _ => read_landed c _ _ _ fe
      iexact HFe_dst
    iexact HFe
  isplitl [Hes Hce]
  · isplitl [Hes] <;> iassumption
  isplitl [HFe_src Her]
  · isplitl [HFe_src] <;> iassumption
  isplitl [HFy_src HFy]
  · isplitl [HFy_src]; · iexists gy; iexact HFy_src
    iexact HFy
  isplitl [HFy_dst]
  · unfold yHome; iexists ((yblk (Ring.bk 24 (t.val - 3))).view.writes (Elt F) fy [⟨Rect.whole S1536x256, ReadAs.same.apply ((yslot (Ring.sl 2 (t.val + 1))).view.read (Elt F) gy)⟩]); isplitr
    · ipureintro; exact fun _ => (read_landed c _ _ _ fy).trans hgy
    iexact HFy_dst
  iexact Hyh

/-- The last tile: nothing to wait for but a result. -/
theorem part3_last (t : Fin k0_t1_loop.trips) (h1 : 24 ≤ t.val + 1) :
    guardPre c W E Y t.val ⊢ wp frame (wpE (defs₀ (F := F)) 𝒱₀ (c : Thread nD τ) none) Set.univ (part3P arg0 harg0 arg1 harg1 arg2 harg2 t)
      (fun r => iprop(⌜r.1 = Scf.iv 0#32 1#32 t.val⌝ ∗ guardPost c W E Y t.val)) := by
  have h3 : 3 ≤ t.val := by omega
  have h24 := t_lt t
  have hc1 : ¬ k0_cond1 t = 1#1 := fun h => by have := (cond1_iff t).1 h; omega
  have hc2 : ¬ k0_cond2 t = 1#1 := fun h => by have := (cond2_iff t).1 h; omega
  have hc3 : k0_cond3 t = 1#1 := (cond3_iff t).2 h3
  unfold guardPre guardPost wNext eNext yFly wFree eFree wHave eHave yFree
  have n1 : ¬ t.val + 1 < 24 := by omega
  have h243 : t.val - 3 < 24 := by omega
  have n2 : ¬ t.val + 2 < 24 := by omega
  rw [if_neg n1, if_neg n1, if_neg n2, if_neg n2, if_pos h3, yAll_of c Y t.val h3 h243, show others (t.val + 2) = others (t.val + 1) from others_past (t.val + 1) h1]
  iintro ⟨⟨%WW, HW⟩, ⟨⟨%fw, Hw1⟩, Hcw1⟩, ⟨Hws, Hcw⟩, Hwr, ⟨⟨%fe, He1⟩, Hce1⟩, ⟨Hes, Hce⟩, Her, ⟨%fy, %gy, %hgy, HFy⟩, Hyh⟩
  dsimp only [part3P]
  sl_unfold [k0_part3, k0_part1, k0_part2]
  sl_exec
  sl_step
  isplitr; · ipureintro; rfl
  isplitl [HW]; · iexists _; iexact HW
  isplitl [Hw1 Hcw1]
  · isplitl [Hw1]
    · iexists fw; isplitr
      · ipureintro; exact fun h => (n1 h).elim
      iexact Hw1
    iexact Hcw1
  isplitl [Hws Hcw]
  · isplitl [Hws] <;> iassumption
  isplitl [Hwr]; · iexact Hwr
  isplitl [He1 Hce1]
  · isplitl [He1]
    · iexists fe; isplitr
      · ipureintro; exact fun h => (n1 h).elim
      iexact He1
    iexact Hce1
  isplitl [Hes Hce]
  · isplitl [Hes] <;> iassumption
  isplitl [Her]; · iexact Her
  isplitl [HFy_src HFy]
  · isplitl [HFy_src]; · iexists gy; iexact HFy_src
    iexact HFy
  isplitl [HFy_dst]
  · unfold yHome; iexists ((yblk (Ring.bk 24 (t.val - 3))).view.writes (Elt F) fy [⟨Rect.whole S1536x256, ReadAs.same.apply ((yslot (Ring.sl 2 (t.val + 1))).view.read (Elt F) gy)⟩]); isplitr
    · ipureintro; exact fun _ => (read_landed c _ _ _ fy).trans hgy
    iexact HFy_dst
  iexact Hyh

/-- A tile's waits and starts. -/
theorem part3_run (t : Fin k0_t1_loop.trips) :
    guardPre c W E Y t.val ⊢ wp frame (wpE (defs₀ (F := F)) 𝒱₀ (c : Thread nD τ) none) Set.univ (part3P arg0 harg0 arg1 harg1 arg2 harg2 t)
      (fun r => iprop(⌜r.1 = Scf.iv 0#32 1#32 t.val⌝ ∗ guardPost c W E Y t.val)) := by
  by_cases h3 : t.val < 3
  · exact part3_low c arg0 harg0 arg1 harg1 arg2 harg2 W E Y t h3
  by_cases h2 : t.val + 2 < 24
  · exact part3_mid c arg0 harg0 arg1 harg1 arg2 harg2 W E Y t (by omega) h2
  by_cases h1 : t.val + 1 < 24
  · exact part3_pen c arg0 harg0 arg1 harg1 arg2 harg2 W E Y t h1 (by omega)
  · exact part3_last c arg0 harg0 arg1 harg1 arg2 harg2 W E Y t (by omega)

abbrev guardYP (t : Fin k0_t1_loop.trips) := guardY (F := F) yM (Memref.isWhole_whole _) yvM (Memref.isWhole_whole _) cc0_scratch8 t

/-- The start of the copy of the result two tiles back. -/
theorem guardY_run (t : Fin k0_t1_loop.trips) :
    iprop((∃ W, owes (c : Thread nD τ) 0 W) ∗ yPend c Y t.val ∗ yAll c Y (t.val + 1)) ⊢ wp frame (wpE (defs₀ (F := F)) 𝒱₀ (c : Thread nD τ) none) Set.univ (guardYP t)
      (fun _ => iprop((∃ W, owes (c : Thread nD τ) 0 W) ∗ yFly c Y (t.val + 1) ∗ yHomes c Y (t.val + 1))) := by
  have h24 := t_lt t
  by_cases h2 : 2 ≤ t.val
  · have hc4 : k0_cond4 t = 1#1 := (cond4_iff t).2 h2
    have es : Ring.sl 2 (t.val + 1 + 1) = Ring.sl 2 t.val := by rw [show t.val + 1 + 1 = t.val + 2 from rfl, Ring.sl_add]
    unfold yPend yFly
    rw [if_pos (show 3 ≤ t.val + 1 by omega), yAll_out c Y _ (show 3 ≤ t.val + 1 by omega) (show t.val + 1 - 3 < 24 by omega), es, show t.val + 1 - 3 = t.val - 2 by omega]
    unfold yHome
    iintro ⟨⟨%WW, HW⟩, ⟨⟨%g, %hg, Hs⟩, Hc⟩, ⟨%f, -, Hb⟩, Hh⟩
    dsimp only [guardYP]
    sl_unfold [guardY]
    sl_exec
    sl_step
    isplitl [HW]; · iexists _; iexact HW
    isplitl [Hc]
    · iexists f; iexists g
      isplitr; · ipureintro; exact hg h2
      iexact Hc
    iexact Hh
  · have hc4 : ¬ k0_cond4 t = 1#1 := fun h => by have := (cond4_iff t).1 h; omega
    have es : Ring.sl 2 (t.val + 1 + 1) = Ring.sl 2 t.val := by rw [show t.val + 1 + 1 = t.val + 2 from rfl, Ring.sl_add]
    unfold yPend yFly
    rw [if_neg (show ¬ 3 ≤ t.val + 1 by omega), yAll_out_low c Y _ (show t.val + 1 < 3 by omega), es]
    iintro ⟨⟨%WW, HW⟩, ⟨⟨%g, %hg, Hs⟩, Hc⟩, Hh⟩
    dsimp only [guardYP]
    sl_unfold [guardY]
    sl_exec
    sl_step
    isplitl [HW]; · iexists _; iexact HW
    isplitl [Hs Hc]
    · isplitl [Hs]; · iexists g; iexact Hs
      iexact Hc
    iexact Hh

end Guards

end Cert.KernelIdeal.Prf
-- ==== Proof.Units.lean ====
/- What the operations of a panel leave in the matrix units. -/
module

public import proofs.«01_k».proof.Proof.Panel
public import Idealize.ShloMosaic.Lib.Mxu.Lemmas

@[expose] public section

noncomputable section

namespace Cert.KernelIdeal.Prf

open Idealize.ShloMosaic Idealize.SL.Sem
open Cert.KernelIdeal Cert.KernelIdeal.Gen

variable {F : FTy → Type} [FloatOps F]

abbrev Tile16 (F : FTy → Type) [FloatOps F] := FVec F (Mxu.STile 256) .bf16
abbrev Tile32 (F : FTy → Type) [FloatOps F] := FVec F (Mxu.STile 256) .f32

/-- A tile as a push stages it. -/
abbrev stg (T : Tile16 F) : Mxu.Staged F := ⟨.bf16, false, T⟩

/-- One pass of 256 rows by a staged tile. -/
def pass (x T : Tile16 F) : Tile32 F := FloatOps.mxuPass (DotDims.plain 256 256 256) x T

/-- The six blocks of sums, by unit and position. -/
abbrev Sums (F : FTy → Type) [FloatOps F] := Fin 2 → Fin 3 → Tile32 F

/-- Block `a` of unit `q` takes block `3·q + a` of the rows. -/
def blk6 (q : Fin 2) (a : Fin 3) : Fin 6 := ⟨3 * q.val + a.val, by omega⟩

/-- Both units have `T` in register `r`, nothing in `r'`, and, when `n`, the sums `S` in their first 768 rows; the other rows are never used. -/
structure Good (s : Mxu F) (r r' : Fin 2) (T : Tile16 F) (n : Bool) (S : Sums F) : Prop where
  reg : ∀ q, s.reg q r = some (stg T)
  oth : ∀ q, s.reg q r' = none
  live : ∀ q R, s.live q R = (decide (R.val < 768) && n)
  rd0 : n = true → ∀ q, s.read q 0 fits_0_256 = S q 0
  rd1 : n = true → ∀ q, s.read q 64 fits_64_256 = S q 1
  rd2 : n = true → ∀ q, s.read q 128 fits_128_256 = S q 2

/-- The states inside a panel. -/
def m2 (s : Mxu F) (r : Fin 2) (x : Fin 6 → Tile16 F) : Mxu F := (s.accLhs 0 r 0 (x 0) fits_0_256).accLhs 1 r 0 (x 3) fits_0_256
def m4 (s : Mxu F) (r : Fin 2) (v : Tile16 F) : Mxu F := (s.pushed 0 r false v).pushed 1 r false v
def m5 (s : Mxu F) (t : Mxu.Staged F) (x : Fin 6 → Tile16 F) : Mxu F := s.accBy 0 t 64 (x 1) fits_64_256
def m6 (s : Mxu F) (t : Mxu.Staged F) (x : Fin 6 → Tile16 F) : Mxu F := s.accBy 1 t 64 (x 4) fits_64_256
def m7 (s : Mxu F) (t : Mxu.Staged F) (x : Fin 6 → Tile16 F) : Mxu F := s.accBy 0 t 128 (x 2) fits_128_256
def m8 (s : Mxu F) (t : Mxu.Staged F) (x : Fin 6 → Tile16 F) : Mxu F := s.accBy 1 t 128 (x 5) fits_128_256

theorem row_lt {A : Nat} (h : Mxu.Fits A 256) (hA : A ≤ 128) (r : Fin 256) : (Mxu.row h r).val < 768 := by
  show 4 * A + r.val < 768; omega

theorem m2_reg_r (s : Mxu F) (r : Fin 2) (x : Fin 6 → Tile16 F) (q : Fin 2) : (m2 s r x).reg q r = none := by
  fin_cases q <;> simp [m2, Mxu.accLhs]

theorem m2_reg_ne (s : Mxu F) (r r' : Fin 2) (h : r' ≠ r) (x : Fin 6 → Tile16 F) (q : Fin 2) : (m2 s r x).reg q r' = s.reg q r' := by
  simp [m2, Mxu.accLhs, h]

theorem m2_gmr (s : Mxu F) (r : Fin 2) (x : Fin 6 → Tile16 F) (q : Fin 2) (T : Tile16 F) (h : ∀ q, s.reg q r = some (stg T)) : (m2 s r x).gmr q = some (stg T) := by
  fin_cases q <;> simp [m2, Mxu.accLhs, Mxu.staged, h]

theorem m2_live (s : Mxu F) (r : Fin 2) (x : Fin 6 → Tile16 F) (q : Fin 2) (R : Fin 1024) :
    (m2 s r x).live q R = if R.val < 256 then true else s.live q R := by
  unfold m2; rw [Mxu.live_accLhs, Mxu.live_accLhs]
  fin_cases q <;> simp

theorem m4_reg (s : Mxu F) (r : Fin 2) (v : Tile16 F) (q : Fin 2) (h : ∀ q, s.reg q r = none) : (m4 s r v).reg q r = some (stg v) := by
  fin_cases q
  · show (m4 s r v).reg 0 r = _
    unfold m4; rw [Mxu.reg_pushed_ne _ _ _ _ _ _ _ (by simp), Mxu.reg_pushed_of_none _ _ _ _ _ (h 0)]
  · show (m4 s r v).reg 1 r = _
    unfold m4; rw [Mxu.reg_pushed_of_none]
    rw [Mxu.reg_pushed_ne _ _ _ _ _ _ _ (by simp), h 1]

theorem m4_reg_ne (s : Mxu F) (r r' : Fin 2) (hr : r' ≠ r) (v : Tile16 F) (q : Fin 2) : (m4 s r v).reg q r' = s.reg q r' := by
  unfold m4
  rw [Mxu.reg_pushed_ne _ _ _ _ _ _ _ (by simp [hr]), Mxu.reg_pushed_ne _ _ _ _ _ _ _ (by simp [hr])]

theorem m4_gmr (s : Mxu F) (r : Fin 2) (v : Tile16 F) : (m4 s r v).gmr = s.gmr := by unfold m4; simp
theorem m4_live (s : Mxu F) (r : Fin 2) (v : Tile16 F) : (m4 s r v).live = s.live := by unfold m4; simp

/-- A panel as one step. -/
def step (s : Mxu F) (r r' : Fin 2) (T : Tile16 F) (x : Fin 6 → Tile16 F) (v : Tile16 F) : Mxu F :=
  m8 (m7 (m6 (m5 (m4 (m2 s r x) r' v) (stg T) x) (stg T) x) (stg T) x) (stg T) x

theorem step_of {s : Mxu F} {r ro r' r'' : Fin 2} {T v : Tile16 F} {S : Sums F} (x : Fin 6 → Tile16 F) (g : Good s r ro T true S)
    (h1 : ∀ q, (m2 s r x).reg q r' = none) (h2 : ∀ q, (m4 (m2 s r x) r' v).reg q r'' = none) :
    Good (step s r r' T x v) r' r'' v true (fun q a => addf (S q a) (pass (x (blk6 q a)) T)) := by
  have hlive : ∀ q R, R.val < 768 → s.live q R = true := fun q R h => by rw [g.live]; simp [h]
  have hst : ∀ q, s.staged q r = stg T := fun q => by rw [Mxu.staged_eq, g.reg]; rfl
  constructor
  · intro q
    show (m4 (m2 s r x) r' v).reg q r' = _
    exact m4_reg _ _ _ _ h1
  · exact fun q => h2 q
  · intro q R
    unfold step m8 m7 m6 m5
    simp only [Mxu.live_accBy, m4_live, m2_live, g.live]
    by_cases h1 : R.val < 256 <;> by_cases h2 : R.val < 512 <;> by_cases h3 : R.val < 768 <;> fin_cases q <;> simp [h1, h2, h3] <;> omega
  · intro _ q
    fin_cases q
    · show (step s r r' T x v).read 0 0 fits_0_256 = addf (S 0 0) (pass (x 0) T)
      unfold step m8 m7 m6 m5 m4 m2
      rw [Mxu.read_accBy_ne _ _ _ _ _ _ _ _ _ (by decide), Mxu.read_accBy_ne _ _ _ _ _ _ _ _ _ (by decide), Mxu.read_accBy_ne _ _ _ _ _ _ _ _ _ (by decide), Mxu.read_accBy_ne _ _ _ _ _ _ _ _ _ (by decide),
        Mxu.read_pushed, Mxu.read_pushed, Mxu.read_accLhs_ne _ _ _ _ _ _ _ _ _ (by decide), Mxu.read_accLhs_of_live _ _ _ _ _ _ (fun i => hlive _ _ (row_lt _ (by decide) i)), hst, g.rd0 rfl]
      rfl
    · show (step s r r' T x v).read 1 0 fits_0_256 = addf (S 1 0) (pass (x 3) T)
      unfold step m8 m7 m6 m5 m4 m2
      rw [Mxu.read_accBy_ne _ _ _ _ _ _ _ _ _ (by decide), Mxu.read_accBy_ne _ _ _ _ _ _ _ _ _ (by decide), Mxu.read_accBy_ne _ _ _ _ _ _ _ _ _ (by decide), Mxu.read_accBy_ne _ _ _ _ _ _ _ _ _ (by decide),
        Mxu.read_pushed, Mxu.read_pushed, Mxu.read_accLhs_of_live _ _ _ _ _ _ (fun i => ?_), Mxu.read_accLhs_ne _ _ _ _ _ _ _ _ _ (by decide), g.rd0 rfl]
      · rw [Mxu.staged_eq, Mxu.reg_accLhs_ne _ _ _ _ _ _ _ _ (by simp), ← Mxu.staged_eq, hst]; rfl
      · rw [Mxu.live_accLhs, hlive _ _ (row_lt _ (by decide) i)]; simp
  · intro _ q
    fin_cases q
    · show (step s r r' T x v).read 0 64 fits_64_256 = addf (S 0 1) (pass (x 1) T)
      unfold step m8 m7 m6 m5
      rw [Mxu.read_accBy_ne _ _ _ _ _ _ _ _ _ (by decide), Mxu.read_accBy_ne _ _ _ _ _ _ _ _ _ (by decide), Mxu.read_accBy_ne _ _ _ _ _ _ _ _ _ (by decide), Mxu.read_accBy_of_live _ _ _ _ _ _ (fun i => ?_)]
      · unfold m4 m2
        rw [Mxu.read_pushed, Mxu.read_pushed, Mxu.read_accLhs_ne _ _ _ _ _ _ _ _ _ (by decide), Mxu.read_accLhs_ne _ _ _ _ _ _ _ _ _ (by decide), g.rd1 rfl]
        rfl
      · rw [m4_live, m2_live, hlive _ _ (row_lt _ (by decide) i)]; simp
    · show (step s r r' T x v).read 1 64 fits_64_256 = addf (S 1 1) (pass (x 4) T)
      unfold step m8 m7 m6 m5
      rw [Mxu.read_accBy_ne _ _ _ _ _ _ _ _ _ (by decide), Mxu.read_accBy_ne _ _ _ _ _ _ _ _ _ (by decide), Mxu.read_accBy_of_live _ _ _ _ _ _ (fun i => ?_), Mxu.read_accBy_ne _ _ _ _ _ _ _ _ _ (by decide)]
      · unfold m4 m2
        rw [Mxu.read_pushed, Mxu.read_pushed, Mxu.read_accLhs_ne _ _ _ _ _ _ _ _ _ (by decide), Mxu.read_accLhs_ne _ _ _ _ _ _ _ _ _ (by decide), g.rd1 rfl]
        rfl
      · rw [Mxu.live_accBy, m4_live, m2_live, hlive _ _ (row_lt _ (by decide) i)]; simp
  · intro _ q
    fin_cases q
    · show (step s r r' T x v).read 0 128 fits_128_256 = addf (S 0 2) (pass (x 2) T)
      unfold step m8 m7 m6 m5
      rw [Mxu.read_accBy_ne _ _ _ _ _ _ _ _ _ (by decide), Mxu.read_accBy_of_live _ _ _ _ _ _ (fun i => ?_), Mxu.read_accBy_ne _ _ _ _ _ _ _ _ _ (by decide), Mxu.read_accBy_ne _ _ _ _ _ _ _ _ _ (by decide)]
      · unfold m4 m2
        rw [Mxu.read_pushed, Mxu.read_pushed, Mxu.read_accLhs_ne _ _ _ _ _ _ _ _ _ (by decide), Mxu.read_accLhs_ne _ _ _ _ _ _ _ _ _ (by decide), g.rd2 rfl]
        rfl
      · rw [Mxu.live_accBy, Mxu.live_accBy, m4_live, m2_live, hlive _ _ (row_lt _ (by decide) i)]; simp
    · show (step s r r' T x v).read 1 128 fits_128_256 = addf (S 1 2) (pass (x 5) T)
      unfold step m8 m7 m6 m5
      rw [Mxu.read_accBy_of_live _ _ _ _ _ _ (fun i => ?_), Mxu.read_accBy_ne _ _ _ _ _ _ _ _ _ (by decide), Mxu.read_accBy_ne _ _ _ _ _ _ _ _ _ (by decide), Mxu.read_accBy_ne _ _ _ _ _ _ _ _ _ (by decide)]
      · unfold m4 m2
        rw [Mxu.read_pushed, Mxu.read_pushed, Mxu.read_accLhs_ne _ _ _ _ _ _ _ _ _ (by decide), Mxu.read_accLhs_ne _ _ _ _ _ _ _ _ _ (by decide), g.rd2 rfl]
        rfl
      · rw [Mxu.live_accBy, Mxu.live_accBy, Mxu.live_accBy, m4_live, m2_live, hlive _ _ (row_lt _ (by decide) i)]; simp

theorem step_good {s : Mxu F} {r r' : Fin 2} (hr : r' ≠ r) {T v : Tile16 F} {S : Sums F} (x : Fin 6 → Tile16 F) (g : Good s r r' T true S) :
    Good (step s r r' T x v) r' r v true (fun q a => addf (S q a) (pass (x (blk6 q a)) T)) :=
  step_of x g (fun q => by rw [m2_reg_ne s r r' hr, g.oth]) (fun q => by rw [m4_reg_ne _ _ _ (Ne.symm hr), m2_reg_r])

/-- The same when the register the pass emptied is filled again. -/
theorem step_same {s : Mxu F} {r r' : Fin 2} (hr : r' ≠ r) {T v : Tile16 F} {S : Sums F} (x : Fin 6 → Tile16 F) (g : Good s r r' T true S) :
    Good (step s r r T x v) r r' v true (fun q a => addf (S q a) (pass (x (blk6 q a)) T)) :=
  step_of x g (fun q => by rw [m2_reg_r]) (fun q => by rw [m4_reg_ne _ _ _ hr, m2_reg_ne s r r' hr, g.oth])

/-! ## The sums of a tile -/

def f64 (n : ℕ) : Fin 64 := ⟨n % 64, Nat.mod_lt _ (by decide)⟩
theorem f64_val (p : Fin 64) : f64 p.val = p := Fin.ext (Nat.mod_eq_of_lt p.isLt)

/-- The sums after panel `n`. -/
def sumT (xs : Fin 64 → Fin 6 → Tile16 F) (ws : Fin 64 → Tile16 F) : ℕ → Sums F
  | 0 => fun q a => pass (xs (f64 0) (blk6 q a)) (ws (f64 0))
  | n + 1 => fun q a => addf (sumT xs ws n q a) (pass (xs (f64 (n + 1)) (blk6 q a)) (ws (f64 (n + 1))))

/-- The sums of a whole tile, the lora rows last. -/
def tileSums (xs : Fin 64 → Fin 6 → Tile16 F) (hs : Fin 6 → Tile16 F) (ws : Fin 64 → Tile16 F) (b : Tile16 F) : Sums F :=
  fun q a => addf (sumT xs ws 63 q a) (pass (hs (blk6 q a)) b)

/-! ## Panel 0, which pops the sums it finds before it starts its own -/

def f1 (s : Mxu F) (x : Fin 6 → Tile16 F) : Mxu F := (s.pop 0 0 256 fits_0_256).accLhs 0 0 0 (x 0) fits_0_256
def f2 (s : Mxu F) (x : Fin 6 → Tile16 F) : Mxu F := (s.pop 1 0 256 fits_0_256).accLhs 1 0 0 (x 3) fits_0_256
def f5 (s : Mxu F) (t : Mxu.Staged F) (x : Fin 6 → Tile16 F) : Mxu F := m5 (s.pop 0 64 256 fits_64_256) t x
def f6 (s : Mxu F) (t : Mxu.Staged F) (x : Fin 6 → Tile16 F) : Mxu F := m6 (s.pop 1 64 256 fits_64_256) t x
def f7 (s : Mxu F) (t : Mxu.Staged F) (x : Fin 6 → Tile16 F) : Mxu F := m7 (s.pop 0 128 256 fits_128_256) t x
def f8 (s : Mxu F) (t : Mxu.Staged F) (x : Fin 6 → Tile16 F) : Mxu F := m8 (s.pop 1 128 256 fits_128_256) t x

section First
variable (s : Mxu F) (T : Tile16 F) (x : Fin 6 → Tile16 F) (v : Tile16 F)

def s2 : Mxu F := f2 (f1 s x) x
def s4 : Mxu F := m4 (s2 s x) 1 v
def s5 : Mxu F := f5 (s4 s x v) (stg T) x
def s6 : Mxu F := f6 (s5 s T x v) (stg T) x
def s7 : Mxu F := f7 (s6 s T x v) (stg T) x
def s8 : Mxu F := f8 (s7 s T x v) (stg T) x

theorem s2_reg0 (q : Fin 2) : (s2 s x).reg q 0 = none := by
  fin_cases q <;> simp [s2, f2, f1, Mxu.accLhs, Mxu.pop]
theorem s2_reg1 (q : Fin 2) : (s2 s x).reg q 1 = s.reg q 1 := by
  simp [s2, f2, f1, Mxu.accLhs, Mxu.pop]
theorem s2_gmr (q : Fin 2) (h : ∀ q, s.reg q 0 = some (stg T)) : (s2 s x).gmr q = some (stg T) := by
  fin_cases q <;> simp [s2, f2, f1, Mxu.accLhs, Mxu.pop, Mxu.staged, h]
theorem s4_gmr (q : Fin 2) (h : ∀ q, s.reg q 0 = some (stg T)) : (s4 s x v).gmr q = some (stg T) := by
  unfold s4; rw [m4_gmr, s2_gmr s T x q h]
theorem s2_live (q : Fin 2) (R : Fin 1024) : (s2 s x).live q R = if R.val < 256 then true else s.live q R := by
  unfold s2 f2 f1; rw [Mxu.live_accLhs, Mxu.live_pop, Mxu.live_accLhs, Mxu.live_pop]
  fin_cases q <;> by_cases h : R.val < 256 <;> simp [h]

theorem read_f1 {n : Bool} {S : Sums F} (g : Good s 0 1 T n S) (hn : n = true) : (f1 s x).read 1 0 fits_0_256 = S 1 0 := by
  unfold f1
  rw [Mxu.read_accLhs_ne _ _ _ _ _ _ _ _ _ (by decide), Mxu.read_pop_ne _ _ _ _ _ _ _ (by decide), g.rd0 hn]

theorem read_s2 (q : Fin 2) {A : Nat} (h : Mxu.Fits A 256) (hA : 64 ≤ A) : (s2 s x).read q A h = s.read q A h := by
  unfold s2 f2 f1
  rw [Mxu.read_accLhs_ne _ _ _ _ _ _ _ _ _ (by omega), Mxu.read_pop_ne _ _ _ _ _ _ _ (by omega), Mxu.read_accLhs_ne _ _ _ _ _ _ _ _ _ (by omega), Mxu.read_pop_ne _ _ _ _ _ _ _ (by omega)]
theorem read_s4 (q : Fin 2) {A : Nat} (h : Mxu.Fits A 256) (hA : 64 ≤ A) : (s4 s x v).read q A h = s.read q A h := by
  unfold s4 m4; rw [Mxu.read_pushed, Mxu.read_pushed, read_s2 s x q h hA]
theorem read_s5 : (s5 s T x v).read 1 64 fits_64_256 = s.read 1 64 fits_64_256 := by
  unfold s5 f5 m5
  rw [Mxu.read_accBy_ne _ _ _ _ _ _ _ _ _ (by decide), Mxu.read_pop_ne _ _ _ _ _ _ _ (by decide), read_s4 s x v _ _ (by decide)]
theorem read_s6 (q : Fin 2) : (s6 s T x v).read q 128 fits_128_256 = s.read q 128 fits_128_256 := by
  unfold s6 f6 m6 s5 f5 m5
  rw [Mxu.read_accBy_ne _ _ _ _ _ _ _ _ _ (by omega), Mxu.read_pop_ne _ _ _ _ _ _ _ (by omega), Mxu.read_accBy_ne _ _ _ _ _ _ _ _ _ (by omega), Mxu.read_pop_ne _ _ _ _ _ _ _ (by omega), read_s4 s x v _ _ (by decide)]
theorem read_s7 : (s7 s T x v).read 1 128 fits_128_256 = s.read 1 128 fits_128_256 := by
  unfold s7 f7 m7
  rw [Mxu.read_accBy_ne _ _ _ _ _ _ _ _ _ (by decide), Mxu.read_pop_ne _ _ _ _ _ _ _ (by decide), read_s6 s T x v]

theorem gmr_s5 (q : Fin 2) (h : ∀ q, s.reg q 0 = some (stg T)) : (s5 s T x v).gmr q = some (stg T) := s4_gmr s T x v q h
theorem gmr_s6 (q : Fin 2) (h : ∀ q, s.reg q 0 = some (stg T)) : (s6 s T x v).gmr q = some (stg T) := s4_gmr s T x v q h
theorem gmr_s7 (q : Fin 2) (h : ∀ q, s.reg q 0 = some (stg T)) : (s7 s T x v).gmr q = some (stg T) := s4_gmr s T x v q h

theorem s8_good {n : Bool} {S : Sums F} (g : Good s 0 1 T n S) :
    Good (s8 s T x v) 1 0 v true (fun q a => pass (x (blk6 q a)) T) := by
  have hst : ∀ q, s.staged q 0 = stg T := fun q => by rw [Mxu.staged_eq, g.reg]; rfl
  constructor
  · intro q
    show (m4 (s2 s x) 1 v).reg q 1 = _
    refine m4_reg _ _ _ _ fun q => ?_
    rw [s2_reg1 s x, g.oth]
  · intro q
    show (m4 (s2 s x) 1 v).reg q 0 = _
    rw [m4_reg_ne _ _ _ (by decide), s2_reg0]
  · intro q R
    unfold s8 f8 m8 s7 f7 m7 s6 f6 m6 s5 f5 m5 s4
    simp only [Mxu.live_accBy, Mxu.live_pop, m4_live, s2_live, g.live]
    by_cases h1 : R.val < 256 <;> by_cases h2 : R.val < 512 <;> by_cases h3 : R.val < 768 <;> fin_cases q <;> simp [h1, h2, h3] <;> omega
  · intro _ q
    fin_cases q
    · show (s8 s T x v).read 0 0 fits_0_256 = pass (x 0) T
      unfold s8 f8 m8 s7 f7 m7 s6 f6 m6 s5 f5 m5 s4 m4 s2 f2
      rw [Mxu.read_accBy_ne _ _ _ _ _ _ _ _ _ (by decide), Mxu.read_pop_ne _ _ _ _ _ _ _ (by decide), Mxu.read_accBy_ne _ _ _ _ _ _ _ _ _ (by decide), Mxu.read_pop_ne _ _ _ _ _ _ _ (by decide),
        Mxu.read_accBy_ne _ _ _ _ _ _ _ _ _ (by decide), Mxu.read_pop_ne _ _ _ _ _ _ _ (by decide), Mxu.read_accBy_ne _ _ _ _ _ _ _ _ _ (by decide), Mxu.read_pop_ne _ _ _ _ _ _ _ (by decide),
        Mxu.read_pushed, Mxu.read_pushed, Mxu.read_accLhs_ne _ _ _ _ _ _ _ _ _ (by decide), Mxu.read_pop_ne _ _ _ _ _ _ _ (by decide)]
      unfold f1
      rw [Mxu.read_accLhs_of_not_live _ _ _ _ _ _ (fun i => Mxu.live_pop_row _ _ _ _ _), Mxu.staged_eq, Mxu.reg_pop, g.reg]
      rfl
    · show (s8 s T x v).read 1 0 fits_0_256 = pass (x 3) T
      unfold s8 f8 m8 s7 f7 m7 s6 f6 m6 s5 f5 m5 s4 m4 s2 f2
      rw [Mxu.read_accBy_ne _ _ _ _ _ _ _ _ _ (by decide), Mxu.read_pop_ne _ _ _ _ _ _ _ (by decide), Mxu.read_accBy_ne _ _ _ _ _ _ _ _ _ (by decide), Mxu.read_pop_ne _ _ _ _ _ _ _ (by decide),
        Mxu.read_accBy_ne _ _ _ _ _ _ _ _ _ (by decide), Mxu.read_pop_ne _ _ _ _ _ _ _ (by decide), Mxu.read_accBy_ne _ _ _ _ _ _ _ _ _ (by decide), Mxu.read_pop_ne _ _ _ _ _ _ _ (by decide),
        Mxu.read_pushed, Mxu.read_pushed, Mxu.read_accLhs_of_not_live _ _ _ _ _ _ (fun i => Mxu.live_pop_row _ _ _ _ _), Mxu.staged_eq, Mxu.reg_pop]
      unfold f1
      rw [Mxu.reg_accLhs_ne _ _ _ _ _ _ _ _ (by decide), Mxu.reg_pop, g.reg]
      rfl
  · intro _ q
    fin_cases q
    · show (s8 s T x v).read 0 64 fits_64_256 = pass (x 1) T
      unfold s8 f8 m8 s7 f7 m7 s6 f6 m6 s5 f5 m5
      rw [Mxu.read_accBy_ne _ _ _ _ _ _ _ _ _ (by decide), Mxu.read_pop_ne _ _ _ _ _ _ _ (by decide), Mxu.read_accBy_ne _ _ _ _ _ _ _ _ _ (by decide), Mxu.read_pop_ne _ _ _ _ _ _ _ (by decide),
        Mxu.read_accBy_ne _ _ _ _ _ _ _ _ _ (by decide), Mxu.read_pop_ne _ _ _ _ _ _ _ (by decide), Mxu.read_accBy_of_not_live _ _ _ _ _ _ (fun i => Mxu.live_pop_row _ _ _ _ _)]
      rfl
    · show (s8 s T x v).read 1 64 fits_64_256 = pass (x 4) T
      unfold s8 f8 m8 s7 f7 m7 s6 f6 m6
      rw [Mxu.read_accBy_ne _ _ _ _ _ _ _ _ _ (by decide), Mxu.read_pop_ne _ _ _ _ _ _ _ (by decide), Mxu.read_accBy_ne _ _ _ _ _ _ _ _ _ (by decide), Mxu.read_pop_ne _ _ _ _ _ _ _ (by decide),
        Mxu.read_accBy_of_not_live _ _ _ _ _ _ (fun i => Mxu.live_pop_row _ _ _ _ _)]
      rfl
  · intro _ q
    fin_cases q
    · show (s8 s T x v).read 0 128 fits_128_256 = pass (x 2) T
      unfold s8 f8 m8 s7 f7 m7
      rw [Mxu.read_accBy_ne _ _ _ _ _ _ _ _ _ (by decide), Mxu.read_pop_ne _ _ _ _ _ _ _ (by decide),
        Mxu.read_accBy_of_not_live _ _ _ _ _ _ (fun i => Mxu.live_pop_row _ _ _ _ _)]
      rfl
    · show (s8 s T x v).read 1 128 fits_128_256 = pass (x 5) T
      unfold s8 f8 m8
      rw [Mxu.read_accBy_of_not_live _ _ _ _ _ _ (fun i => Mxu.live_pop_row _ _ _ _ _)]
      rfl
end First

end Cert.KernelIdeal.Prf
-- ==== Proof.RunPanel.lean ====
/- The panels of a tile, run: what each leaves in the matrix units. -/
module

public import proofs.«01_k».proof.Proof.Guards
public import proofs.«01_k».proof.Proof.Units

@[expose] public section

noncomputable section

namespace Cert.KernelIdeal.Prf

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## Programs that keep what they hold -/
section Keeps
variable (c : Dev nD)

/-- From `P` the program ends with a value of which `φ` holds, `P` kept. -/
def Keeps (P : sProp 𝕄) {α : Type} (p : Prog (TpuEff nD τ sig (Elt F) Λ₀ .tc) α) (φ : α → Prop) : Prop :=
  P ⊢ wp frame (wpE (defs₀ (F := F)) 𝒱₀ (c : Thread nD τ) none) Set.univ p (fun a => iprop(⌜φ a⌝ ∗ P))

variable {c} {α β : Type}

theorem Keeps.bind {P : sProp (MT nD τ sig Unit (Elt F) ℕ (UU nD τ) ℕ)} {p : Prog (TpuEff nD τ sig (Elt F) Λ₀ .tc) α} {k : α → Prog (TpuEff nD τ sig (Elt F) Λ₀ .tc) β} {φ : α → Prop} {ψ : β → Prop}
    (h : Keeps c P p φ) (hk : ∀ a, φ a → Keeps c P (k a) ψ) : Keeps c P (p >>= k) ψ := by
  unfold Keeps at *
  rw [wp_bind]
  refine h.trans (wp_mono _ _ _ fun a => ?_)
  iintro ⟨%ha, H⟩
  iapply (hk a ha)
  iexact H

theorem Keeps.ret {P : sProp (MT nD τ sig Unit (Elt F) ℕ (UU nD τ) ℕ)} {a : α} {φ : α → Prop} (h : φ a) : Keeps c P (Prog.ret a) φ := by
  unfold Keeps
  rw [wp_ret]
  iintro H
  isplitr
  · ipureintro; exact h
  · iexact H

theorem Keeps.push {P : sProp (MT nD τ sig Unit (Elt F) ℕ (UU nD τ) ℕ)} {s : Mxu F} {q r : Fin 2} {v : FVec F (Mxu.STile 256) .bf16} (h : s.reg q r = none) :
    Keeps c P (s.pushRhs q r false v) (fun s' => s' = s.pushed q r false v) := by
  unfold Keeps
  have hp := Mxu.pushOk_of_none s q r false h
  iintro H
  rw [← Prog.bind_pure (s.pushRhs q r false v)]
  iapply (Mxu.wp_pushRhs v hp)
  sl_step
  isplitr; · ipureintro; rfl
  iexact H

theorem Keeps.acc {P : sProp (MT nD τ sig Unit (Elt F) ℕ (UU nD τ) ℕ)} {s : Mxu F} {q : Fin 2} {A M : Nat} {v : FVec F (Mxu.STile M) .bf16} {h : Mxu.Fits A M} {t : Mxu.Staged F} (ht : s.gmr q = some t) :
    Keeps c P (s.accLhsLoaded q A v h) (fun s' => s' = s.accBy q t A v h) := by
  unfold Keeps
  iintro H
  rw [← Prog.bind_pure (s.accLhsLoaded q A v h)]
  iapply (Mxu.wp_accLhsLoaded v h ht)
  sl_step
  isplitr; · ipureintro; rfl
  iexact H
end Keeps

/-! ## What a tile holds -/
section Held
variable (c : Dev nD) (arg0 : Memref sig .tc .vmem S1536x256 .bf16) (arg1 : Memref sig .tc .vmem S256x6144 .bf16) (arg2 : Memref sig .tc .vmem S256x256 .bf16)
  (X : Buf (Elt F) (xvM.view.loc (c : Thread nD τ))) (s s' : Fin 3)
  (G : Buf (Elt F) (wvM.view.loc (c : Thread nD τ))) (G' : Buf (Elt F) (wvM.view.loc (c : Thread nD τ)))
  (H : Buf (Elt F) (evM.view.loc (c : Thread nD τ))) (H' : Buf (Elt F) (evM.view.loc (c : Thread nD τ)))
  (g0 : Buf (Elt F) (arg0.view.loc (c : Thread nD τ))) (g1 : Buf (Elt F) (arg1.view.loc (c : Thread nD τ))) (g2 : Buf (Elt F) (arg2.view.loc (c : Thread nD τ)))

abbrev wsAt (s : Fin 3) (G : Buf (Elt F) (wvM.view.loc (c : Thread nD τ))) : Buf (Elt F) ((wslot s).view.loc (c : Thread nD τ)) := G
abbrev esAt (s : Fin 3) (G : Buf (Elt F) (evM.view.loc (c : Thread nD τ))) : Buf (Elt F) ((eslot s).view.loc (c : Thread nD τ)) := G

/-- The activations, this tile's and the next tile's weights and scales, and the lora operands. -/
def tileHeld : sProp 𝕄 :=
  iprop(held c xvM X ∗ held c (wslot s) (wsAt c s G) ∗ held c (wslot s') (wsAt c s' G') ∗ held c (eslot s) (esAt c s H) ∗ held c (eslot s') (esAt c s' H')
    ∗ held c arg0 g0 ∗ held c arg1 g1 ∗ held c arg2 g2)

/-- The values the loads give. -/
def xRaw (X : Buf (Elt F) (xvM.view.loc (c : Thread nD τ))) (p : Fin 64) (r : Fin 6) : Vec F S1x256x256 .bf16 :=
  xvM.view.readAt (Elt F) (Rect.unit (s := S64x1536x256) ![p.val, 256 * r.val, 0] S1x256x256.size (inbX p r)).toLoadRect X
def wRaw (s : Fin 3) (G : Buf (Elt F) (wvM.view.loc (c : Thread nD τ))) (p : Fin 64) : Vec F S1x32x256 .i32 :=
  wvM.view.readAt (Elt F) (Rect.unit (s := S3x2048x256) ![s.val, 32 * p.val, 0] S1x32x256.size (inbW s.val s.isLt p)).toLoadRect G
def eRaw (s : Fin 3) (H : Buf (Elt F) (evM.view.loc (c : Thread nD τ))) (g : Fin 16) : Vec F S1x32x256 .i8 :=
  evM.view.readAt (Elt F) (Rect.unit (s := S3x512x256) ![s.val, 32 * g.val, 0] S1x32x256.size (inbE s.val s.isLt g)).toLoadRect H
def hRaw (g0 : Buf (Elt F) (arg0.view.loc (c : Thread nD τ))) (r : Fin 6) : FVec F S256x256 .bf16 :=
  arg0.view.readAt (Elt F) (Rect.unit (s := S1536x256) ![256 * r.val, 0] S256x256.size (inbH r)).toLoadRect g0

def bRaw (g1 : Buf (Elt F) (arg1.view.loc (c : Thread nD τ))) (t : Fin k0_t1_loop.trips) : Vec F S256x256 .bf16 :=
  arg1.view.readAt (Elt F) (Rect.unit (s := S256x6144) (k0_off102 t) S256x256.size (k0_off102_inb t)).toLoadRect g1
def sRaw (g2 : Buf (Elt F) (arg2.view.loc (c : Thread nD τ))) : Vec F S256x256 .bf16 :=
  arg2.view.readAt (Elt F) (Rect.unit (s := S256x256) ![0, 0] S256x256.size inb_S256x256_S256x256_0_0).toLoadRect g2

instance (p : Fin 64) (r : Fin 6) : ClosedOff (![p.val, 256 * r.val, 0] : Fin 3 → Nat) := ⟨_, rfl⟩
instance (s : Fin 3) (p : Fin 64) : ClosedOff (![s.val, 32 * p.val, 0] : Fin 3 → Nat) := ⟨_, rfl⟩
instance (s : Fin 3) (p : Fin 16) : ClosedOff (![s.val, 32 * p.val, 0] : Fin 3 → Nat) := ⟨_, rfl⟩
instance (r : Fin 6) : ClosedOff (![256 * r.val, 0] : Fin 2 → Nat) := ⟨_, rfl⟩

theorem keeps_loadX (p : Fin 64) (r : Fin 6) : Keeps c (tileHeld c arg0 arg1 arg2 X s s' G G' H H' g0 g1 g2) (loadX xvM p r) (fun v => v = xRaw c X p r) := by
  unfold Keeps tileHeld loadX
  iintro ⟨Hx, Hw, Hw', He, He', H0, H1, H2⟩
  sl_exec
  sl_step
  isplitr; · ipureintro; rfl
  isplitl [Hx]; · iexact Hx
  isplitl [Hw]; · iexact Hw
  isplitl [Hw']; · iexact Hw'
  isplitl [He]; · iexact He
  isplitl [He']; · iexact He'
  isplitl [H0]; · iexact H0
  isplitl [H1]; · iexact H1
  iexact H2

theorem keeps_loadW (p : Fin 64) : Keeps c (tileHeld c arg0 arg1 arg2 X s s' G G' H H' g0 g1 g2) (loadW wvM s.val s.isLt p) (fun v => v = wRaw c s G p) := by
  unfold Keeps tileHeld loadW
  iintro ⟨Hx, Hw, Hw', He, He', H0, H1, H2⟩
  sl_exec
  sl_step
  isplitr; · ipureintro; rfl
  isplitl [Hx]; · iexact Hx
  isplitl [Hw]; · iexact Hw
  isplitl [Hw']; · iexact Hw'
  isplitl [He]; · iexact He
  isplitl [He']; · iexact He'
  isplitl [H0]; · iexact H0
  isplitl [H1]; · iexact H1
  iexact H2

theorem keeps_loadW' (p : Fin 64) : Keeps c (tileHeld c arg0 arg1 arg2 X s s' G G' H H' g0 g1 g2) (loadW wvM s'.val s'.isLt p) (fun v => v = wRaw c s' G' p) := by
  unfold Keeps tileHeld loadW
  iintro ⟨Hx, Hw, Hw', He, He', H0, H1, H2⟩
  sl_exec
  sl_step
  isplitr; · ipureintro; rfl
  isplitl [Hx]; · iexact Hx
  isplitl [Hw]; · iexact Hw
  isplitl [Hw']; · iexact Hw'
  isplitl [He]; · iexact He
  isplitl [He']; · iexact He'
  isplitl [H0]; · iexact H0
  isplitl [H1]; · iexact H1
  iexact H2

theorem keeps_loadE (p : Fin 16) : Keeps c (tileHeld c arg0 arg1 arg2 X s s' G G' H H' g0 g1 g2) (loadE evM s.val s.isLt p) (fun v => v = eRaw c s H p) := by
  unfold Keeps tileHeld loadE
  iintro ⟨Hx, Hw, Hw', He, He', H0, H1, H2⟩
  sl_exec
  sl_step
  isplitr; · ipureintro; rfl
  isplitl [Hx]; · iexact Hx
  isplitl [Hw]; · iexact Hw
  isplitl [Hw']; · iexact Hw'
  isplitl [He]; · iexact He
  isplitl [He']; · iexact He'
  isplitl [H0]; · iexact H0
  isplitl [H1]; · iexact H1
  iexact H2

theorem keeps_loadE' (p : Fin 16) : Keeps c (tileHeld c arg0 arg1 arg2 X s s' G G' H H' g0 g1 g2) (loadE evM s'.val s'.isLt p) (fun v => v = eRaw c s' H' p) := by
  unfold Keeps tileHeld loadE
  iintro ⟨Hx, Hw, Hw', He, He', H0, H1, H2⟩
  sl_exec
  sl_step
  isplitr; · ipureintro; rfl
  isplitl [Hx]; · iexact Hx
  isplitl [Hw]; · iexact Hw
  isplitl [Hw']; · iexact Hw'
  isplitl [He]; · iexact He
  isplitl [He']; · iexact He'
  isplitl [H0]; · iexact H0
  isplitl [H1]; · iexact H1
  iexact H2

theorem keeps_loadH (r : Fin 6) : Keeps c (tileHeld c arg0 arg1 arg2 X s s' G G' H H' g0 g1 g2) (loadH arg0 r) (fun v => v = hRaw c arg0 g0 r) := by
  unfold Keeps tileHeld loadH
  iintro ⟨Hx, Hw, Hw', He, He', H0, H1, H2⟩
  sl_exec
  sl_step
  isplitr; · ipureintro; rfl
  isplitl [Hx]; · iexact Hx
  isplitl [Hw]; · iexact Hw
  isplitl [Hw']; · iexact Hw'
  isplitl [He]; · iexact He
  isplitl [He']; · iexact He'
  isplitl [H0]; · iexact H0
  isplitl [H1]; · iexact H1
  iexact H2

theorem keeps_loadB (t : Fin k0_t1_loop.trips) : Keeps c (tileHeld c arg0 arg1 arg2 X s s' G G' H H' g0 g1 g2) (Prog.lift (.load arg1 (Rect.unit (s := S256x6144) (k0_off102 t) S256x256.size (k0_off102_inb t)).toLoadRect (View.loadsAt_vmem h_S256x256)))
    (fun v => v = bRaw c arg1 g1 t) := by
  unfold Keeps tileHeld
  iintro ⟨Hx, Hw, Hw', He, He', H0, H1, H2⟩
  sl_exec
  sl_step
  isplitr; · ipureintro; rfl
  isplitl [Hx]; · iexact Hx
  isplitl [Hw]; · iexact Hw
  isplitl [Hw']; · iexact Hw'
  isplitl [He]; · iexact He
  isplitl [He']; · iexact He'
  isplitl [H0]; · iexact H0
  isplitl [H1]; · iexact H1
  iexact H2

theorem keeps_loadS : Keeps c (tileHeld c arg0 arg1 arg2 X s s' G G' H H' g0 g1 g2) (Prog.lift (.load arg2 (Rect.unit (s := S256x256) ![0, 0] S256x256.size inb_S256x256_S256x256_0_0).toLoadRect (View.loadsAt_vmem h_S256x256)))
    (fun v => v = sRaw c arg2 g2) := by
  unfold Keeps tileHeld
  iintro ⟨Hx, Hw, Hw', He, He', H0, H1, H2⟩
  sl_exec
  sl_step
  isplitr; · ipureintro; rfl
  isplitl [Hx]; · iexact Hx
  isplitl [Hw]; · iexact Hw
  isplitl [Hw']; · iexact Hw'
  isplitl [He]; · iexact He
  isplitl [He']; · iexact He'
  isplitl [H0]; · iexact H0
  isplitl [H1]; · iexact H1
  iexact H2

end Held

end Cert.KernelIdeal.Prf
-- ==== Proof.RunTile.lean ====
/- The panels of a tile, run in order. -/
module

public import proofs.«01_k».proof.Proof.RunPanel
public import Idealize.ShloMosaic.Lib.Pipeline.Value
public import Idealize.ShloMosaic.Lib.ViewIndex

@[expose] public section

noncomputable section

namespace Cert.KernelIdeal.Prf

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Put
variable (c : Dev nD)

instance (j : Fin 2) (r : Fin 6) : ClosedOff (![j.val, 256 * r.val, 0] : Fin 3 → Nat) := ⟨_, rfl⟩

theorem castY : (⟨3, S1x1536x256.size⟩ : Shape).ShapeCasts S1536x256 := by decide

/-- A slot's element in the whole ring. -/
def yIx (j : Fin 2) (i : S1536x256.Idx) : S2x1536x256.Idx := Fin.cons j i

theorem read_yslot (j : Fin 2) (f : Buf (Elt F) (yvM.view.loc (c : Thread nD τ))) (i : S1536x256.Idx) :
    (yslot j).view.read (Elt F) f i = yvM.view.read (Elt F) f (yIx j i) := by
  have e : (yslot j).view.read (Elt F) f i = shapeCast S1536x256 (yvM.view.readAt (Elt F) (Rect.unit (s := S2x1536x256) (slotOff j) S1x1536x256.size (yslot_inb j)).toLoadRect f) castY i := rfl
  rw [e, shapeCast_dropUnit_apply (n := 2) ![1536, 256]]
  show yvM.view.read (Elt F) f _ = _
  congr 1
  refine Shape.idx3_ext ?_ ?_ ?_
  · show j.val + 1 * 0 = j.val; omega
  · show 0 + 1 * (i 0).val = (i 0).val; omega
  · show 0 + 1 * (i 1).val = (i 1).val; omega

/-- A block of sums rounded to the result's format. -/
def popT (v : Tile32 F) : Tile16 F := truncf .bf16 v bitsLt_bf16_f32

theorem popped_apply (v : FVec F S256x256 .f32) (x : S1x256x256.Idx) : popped (F := F) v x = popT v (Mxu.ix (x 1) (x 2)) := by
  unfold popped
  rw [shapeCast_addUnit_apply (n := 2) ![256, 256]]
  refine congrArg (popT v) (Shape.idx_ext₂ rfl rfl)

/-- What a store of block `r` leaves at row `i 0`. -/
def putAt (r : Fin 6) (v : Tile32 F) (old : S1536x256.Idx → Elt F .bf16) (i : S1536x256.Idx) : Elt F .bf16 :=
  if (i 0).val / 256 = r.val then popT v (Mxu.ix ⟨(i 0).val % 256, Nat.mod_lt _ (by decide)⟩ (i 1)) else old i

theorem read_put (j : Fin 2) (r : Fin 6) (hi : ∀ a, (![j.val, 256 * r.val, 0] : Fin 3 → Nat) a + S1x256x256.size a ≤ S2x1536x256.size a)
    (v : FVec F S256x256 .f32) (f : Buf (Elt F) (yvM.view.loc (c : Thread nD τ))) :
    (yslot j).view.read (Elt F) (View.write (Elt F) (yvM.access (Rect.unit (s := S2x1536x256) ![j.val, 256 * r.val, 0] S1x256x256.size hi)) f (popped v) Finset.univ)
      = putAt r v ((yslot j).view.read (Elt F) f) := by
  funext i
  rw [read_yslot c]
  unfold putAt
  split
  · next h =>
    have e := View.read_slice_write_emb (Val := Elt F) (v := yvM.view) (Rect.unit (s := S2x1536x256) ![j.val, 256 * r.val, 0] S1x256x256.size hi) f (popped v)
      (Finset.mem_univ (Fin.cons (0 : Fin 1) (Mxu.ix (⟨(i 0).val % 256, Nat.mod_lt _ (by decide)⟩ : Fin 256) (i 1)) : S1x256x256.Idx))
    rw [popped_apply] at e
    refine Eq.trans (congrArg _ ?_) e
    refine Shape.idx3_ext ?_ ?_ ?_
    · show j.val = j.val + 1 * 0; omega
    · show (i 0).val = 256 * r.val + 1 * ((i 0).val % 256); omega
    · show (i 1).val = 0 + 1 * (i 1).val; omega
  · next h =>
    rw [read_yslot c]
    refine View.read_slice_write_of_not_mem _ _ _ _ ?_
    rw [Rect.map_emb_univ, Rect.mem_set_unit]
    intro hall
    have := hall 1
    change 256 * r.val ≤ (i 0).val ∧ (i 0).val < 256 * r.val + 256 at this
    omega

theorem putY_run (j : Fin 2) (r : Fin 6) (o : Fin 3 → Nat) (ho : o = ![j.val, 256 * r.val, 0])
    (hi : ∀ a, o a + S1x256x256.size a ≤ S2x1536x256.size a)
    (hp : (Rect.unit (s := S2x1536x256) o S1x256x256.size hi).PackedRows (EltTy.packing .bf16)) (v : FVec F S256x256 .f32)
    (f : Buf (Elt F) (yvM.view.loc (c : Thread nD τ))) :
    held c (yslot j) f ⊢ wp frame (wpE (defs₀ (F := F)) 𝒱₀ (c : Thread nD τ) none) Set.univ (putY (F := F) yvM (Memref.isWhole_whole _) o hi hp v)
      (fun _ => iprop(∃ f', ⌜(yslot j).view.read (Elt F) f' = putAt r v ((yslot j).view.read (Elt F) f)⌝ ∗ held c (yslot j) f')) := by
  subst ho
  unfold putY
  iintro H
  sl_exec
  sl_step
  iexists _
  isplitr; swap
  · iexact H
  ipureintro
  unfold putY_run.sl.H_w1
  exact read_put c j r hi v f
end Put

/-! ## The panels -/
section Panels
variable (c : Dev nD) (arg0 : Memref sig .tc .vmem S1536x256 .bf16) (arg1 : Memref sig .tc .vmem S256x6144 .bf16) (arg2 : Memref sig .tc .vmem S256x256 .bf16)
  (X : Buf (Elt F) (xvM.view.loc (c : Thread nD τ))) (s s' : Fin 3)
  (G : Buf (Elt F) (wvM.view.loc (c : Thread nD τ))) (G' : Buf (Elt F) (wvM.view.loc (c : Thread nD τ)))
  (H : Buf (Elt F) (evM.view.loc (c : Thread nD τ))) (H' : Buf (Elt F) (evM.view.loc (c : Thread nD τ)))
  (g0 : Buf (Elt F) (arg0.view.loc (c : Thread nD τ))) (g1 : Buf (Elt F) (arg1.view.loc (c : Thread nD τ))) (g2 : Buf (Elt F) (arg2.view.loc (c : Thread nD τ)))

/-- The rows of the activations, a panel's tile of weights, the rows of the lora activations. -/
def xT (p : Fin 64) (r : Fin 6) : Tile16 F := rowsX (xRaw c X p r)
def wT (s : Fin 3) (G : Buf (Elt F) (wvM.view.loc (c : Thread nD τ))) (H : Buf (Elt F) (evM.view.loc (c : Thread nD τ))) (p : Fin 64) : Tile16 F :=
  widen (wRaw c s G p) (scaleBits (F := F) (eRaw c s H ⟨p.val / 4, by omega⟩)) ⟨p.val % 4, by omega⟩
def hT (r : Fin 6) : Tile16 F := hRaw c arg0 g0 r

theorem keeps_accFirst (p : Fin 64) (r : Fin 2) (u : Mxu F) :
    Keeps c (tileHeld c arg0 arg1 arg2 X s s' G G' H H' g0 g1 g2) (accFirst (F := F) xvM p r u) (fun u' => u' = m2 u r (xT c X p)) := by
  unfold accFirst
  refine Keeps.bind (keeps_loadX c arg0 arg1 arg2 X s s' G G' H H' g0 g1 g2 p 0) fun a ha => ?_
  refine Keeps.bind (keeps_loadX c arg0 arg1 arg2 X s s' G G' H H' g0 g1 g2 p 3) fun b hb => ?_
  subst ha hb
  exact Keeps.ret rfl

theorem keeps_accRest (p : Fin 64) (u : Mxu F) (t : Mxu.Staged F) (ht : ∀ q, u.gmr q = some t) :
    Keeps c (tileHeld c arg0 arg1 arg2 X s s' G G' H H' g0 g1 g2) (accRest (F := F) xvM p u) (fun u' => u' = m8 (m7 (m6 (m5 u t (xT c X p)) t (xT c X p)) t (xT c X p)) t (xT c X p)) := by
  unfold accRest
  refine Keeps.bind (keeps_loadX c arg0 arg1 arg2 X s s' G G' H H' g0 g1 g2 p 1) fun a ha => ?_
  refine Keeps.bind (Keeps.acc (t := t) (ht _)) fun u1 h1 => ?_
  refine Keeps.bind (keeps_loadX c arg0 arg1 arg2 X s s' G G' H H' g0 g1 g2 p 4) fun b hb => ?_
  refine Keeps.bind (Keeps.acc (t := t) (by rw [h1]; exact ht _)) fun u2 h2 => ?_
  refine Keeps.bind (keeps_loadX c arg0 arg1 arg2 X s s' G G' H H' g0 g1 g2 p 2) fun d hd => ?_
  refine Keeps.bind (Keeps.acc (t := t) (by rw [h2, h1]; exact ht _)) fun u3 h3 => ?_
  refine Keeps.bind (keeps_loadX c arg0 arg1 arg2 X s s' G G' H H' g0 g1 g2 p 5) fun e he => ?_
  subst h3 h2 h1 ha hb hd he
  exact Keeps.acc (t := t) (ht _)

/-- Two pushes of a tile, one to each unit. -/
theorem keeps_pushes {P : sProp (MT nD τ sig Unit (Elt F) ℕ (UU nD τ) ℕ)} (u : Mxu F) (r : Fin 2) (v : Tile16 F) (h : ∀ q, u.reg q r = none) {β : Type}
    {k : Mxu F → Prog (TpuEff nD τ sig (Elt F) Λ₀ .tc) β} {ψ : β → Prop} (hk : Keeps c P (k (m4 u r v)) ψ) :
    Keeps c P (u.pushRhs 0 r false v >>= fun u1 => u1.pushRhs 1 r false v >>= k) ψ := by
  refine Keeps.bind (Keeps.push (h 0)) fun u1 h1 => ?_
  refine Keeps.bind (Keeps.push (by rw [h1, Mxu.reg_pushed_ne _ _ _ _ _ _ _ (by simp)]; exact h 1)) fun u2 h2 => ?_
  subst h2 h1
  exact hk

theorem f_eq {p : ℕ} (hp : p < 64) : f64 p = ⟨p, hp⟩ := Fin.ext (Nat.mod_eq_of_lt hp)

def rg (n : ℕ) : Fin 2 := ⟨n % 2, Nat.mod_lt _ (by decide)⟩

theorem rg_ne (n : ℕ) : rg (n + 1) ≠ rg n := by
  intro h; have := congrArg Fin.val h; simp only [rg] at this; omega
theorem rg_two (n : ℕ) : rg (n + 1 + 1) = rg n := by
  apply Fin.ext; simp only [rg]; omega

theorem keeps_panel (p : Fin 63) (h1 : 1 ≤ p.val) (sc : IVec S32x256 32) (u : Mxu F)
    (hsc : sc = scaleBits (F := F) (eRaw c s H ⟨p.val / 4, by omega⟩))
    (g : Good u (rg p.val) (rg (p.val + 1)) (wT c s G H ⟨p.val, by omega⟩) true (sumT (xT c X) (wT c s G H) (p.val - 1))) :
    Keeps c (tileHeld c arg0 arg1 arg2 X s s' G G' H H' g0 g1 g2) (panel (F := F) xvM wvM evM s.val s.isLt p (sc, u))
      (fun st => st.1 = scaleBits (F := F) (eRaw c s H ⟨(p.val + 1) / 4, by omega⟩)
        ∧ Good st.2 (rg (p.val + 1)) (rg p.val) (wT c s G H ⟨p.val + 1, by omega⟩) true (sumT (xT c X) (wT c s G H) p.val)) := by
  have hp := p.isLt
  unfold panel
  refine Keeps.bind (keeps_accFirst c arg0 arg1 arg2 X s s' G G' H H' g0 g1 g2 _ _ _) fun u2 hu2 => ?_
  subst hu2
  extract_lets jp
  have hjp : Keeps c (tileHeld c arg0 arg1 arg2 X s s' G G' H H' g0 g1 g2) (jp (scaleBits (F := F) (eRaw c s H ⟨(p.val + 1) / 4, by omega⟩)))
      (fun st => st.1 = scaleBits (F := F) (eRaw c s H ⟨(p.val + 1) / 4, by omega⟩)
        ∧ Good st.2 (rg (p.val + 1)) (rg p.val) (wT c s G H ⟨p.val + 1, by omega⟩) true (sumT (xT c X) (wT c s G H) p.val)) := by
    dsimp only [jp]
    refine Keeps.bind (keeps_loadW c arg0 arg1 arg2 X s s' G G' H H' g0 g1 g2 _) fun w hw => ?_
    subst hw
    refine keeps_pushes (F := F) c _ (rg (p.val + 1)) _ (fun q => ?_) ?_
    · exact (m2_reg_ne u (rg p.val) (rg (p.val + 1)) (rg_ne _) _ q).trans (g.oth q)
    refine Keeps.bind (keeps_accRest c arg0 arg1 arg2 X s s' G G' H H' g0 g1 g2 _ _ (stg (wT c s G H ⟨p.val, by omega⟩)) (fun q => ?_)) fun u8 hu8 => ?_
    · rw [m4_gmr]; exact m2_gmr _ _ _ _ _ g.reg
    subst hu8
    refine Keeps.ret ⟨rfl, ?_⟩
    have k := step_good (v := wT c s G H ⟨p.val + 1, by omega⟩) (rg_ne p.val) (xT c X ⟨p.val, by omega⟩) g
    obtain ⟨n, hn⟩ : ∃ n, p.val = n + 1 := ⟨p.val - 1, by omega⟩
    have ee : sumT (xT c X) (wT c s G H) p.val = fun q a => addf (sumT (xT c X) (wT c s G H) (p.val - 1) q a) (pass (xT c X ⟨p.val, by omega⟩ (blk6 q a)) (wT c s G H ⟨p.val, by omega⟩)) := by
      have e2 : (⟨p.val, by omega⟩ : Fin 64) = f64 (n + 1) := Fin.ext (by rw [← hn]; exact (Nat.mod_eq_of_lt (show p.val < 64 by omega)).symm)
      rw [e2, hn]; rfl
    rw [ee]
    exact k
  split
  · refine Keeps.bind (keeps_loadE c arg0 arg1 arg2 X s s' G G' H H' g0 g1 g2 _) fun e he => ?_
    subst he
    exact hjp
  · next hm =>
    have e0 : sc = scaleBits (F := F) (eRaw c s H ⟨(p.val + 1) / 4, by omega⟩) := by
      rw [hsc]
      congr 3
      omega
    rw [← e0] at hjp
    simp only [← e0]
    exact hjp

theorem keeps_panels (n : ℕ) : ∀ (p : ℕ) (h1 : 1 ≤ p) (hn : p + n ≤ 63) (sc : IVec S32x256 32) (u : Mxu F)
    (hsc : sc = scaleBits (F := F) (eRaw c s H ⟨p / 4, by omega⟩))
    (g : Good u (rg p) (rg (p + 1)) (wT c s G H ⟨p, by omega⟩) true (sumT (xT c X) (wT c s G H) (p - 1))),
    Keeps c (tileHeld c arg0 arg1 arg2 X s s' G G' H H' g0 g1 g2) (panels (F := F) xvM wvM evM s.val s.isLt n p (sc, u))
      (fun st => Good st.2 (rg (p + n)) (rg (p + n + 1)) (wT c s G H ⟨p + n, by omega⟩) true (sumT (xT c X) (wT c s G H) (p + n - 1))) := by
  induction n with
  | zero => intro p h1 hn sc u hsc g; exact Keeps.ret g
  | succ n ih =>
    intro p h1 hn sc u hsc g
    have e : (⟨p % 63, by omega⟩ : Fin 63) = ⟨p, by omega⟩ := Fin.ext (Nat.mod_eq_of_lt (by omega))
    show Keeps c (tileHeld c arg0 arg1 arg2 X s s' G G' H H' g0 g1 g2) (panel (F := F) xvM wvM evM s.val s.isLt ⟨p % 63, by omega⟩ (sc, u) >>= panels (F := F) xvM wvM evM s.val s.isLt n (p + 1)) _
    rw [e]
    refine Keeps.bind (keeps_panel c arg0 arg1 arg2 X s s' G G' H H' g0 g1 g2 ⟨p, by omega⟩ h1 sc u hsc g) fun st hst => ?_
    have r := ih (p + 1) (by omega) (by omega) st.1 st.2 hst.1 (by rw [rg_two]; exact hst.2)
    have e3 : p + 1 + n = p + (n + 1) := by omega
    simp only [e3] at r
    exact r
end Panels

end Cert.KernelIdeal.Prf
-- ==== Proof.RunStep.lean ====
/- A whole tile, run. -/
module

public import proofs.«01_k».proof.Proof.RunTile
public import Idealize.ShloMosaic.Lib.Pipeline.Value
public import Idealize.ShloMosaic.Lib.ViewIndex

@[expose] public section

noncomputable section

namespace Cert.KernelIdeal.Prf

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- The rows of the result that six blocks of sums give. -/
def sumsY (S : Sums F) (i : S1536x256.Idx) : Elt F .bf16 :=
  popT (S ⟨(i 0).val / 256 / 3, by have : (i 0).val < 1536 := (i 0).isLt; omega⟩ ⟨(i 0).val / 256 % 3, Nat.mod_lt _ (by decide)⟩)
    (Mxu.ix ⟨(i 0).val % 256, Nat.mod_lt _ (by decide)⟩ (i 1))

theorem putAt_six (S : Sums F) (old : S1536x256.Idx → Elt F .bf16) :
    putAt 5 (S 1 2) (putAt 2 (S 0 2) (putAt 4 (S 1 1) (putAt 1 (S 0 1) (putAt 3 (S 1 0) (putAt 0 (S 0 0) old))))) = sumsY S := by
  funext i
  have h6 : (i 0).val / 256 < 6 := by have : (i 0).val < 1536 := (i 0).isLt; omega
  unfold putAt sumsY
  have hc : ∀ k (h : (i 0).val / 256 = k) (hk : k < 6), S ⟨(i 0).val / 256 / 3, by omega⟩ ⟨(i 0).val / 256 % 3, Nat.mod_lt _ (by decide)⟩ = S ⟨k / 3, by omega⟩ ⟨k % 3, Nat.mod_lt _ (by decide)⟩ := by
    intro k h hk; subst h; rfl
  obtain h | h | h | h | h | h : (i 0).val / 256 = 0 ∨ (i 0).val / 256 = 1 ∨ (i 0).val / 256 = 2 ∨ (i 0).val / 256 = 3 ∨ (i 0).val / 256 = 4 ∨ (i 0).val / 256 = 5 := by omega
  all_goals rw [hc _ h (by decide)]; simp only [h]; rfl

theorem Keeps.mono {c : Dev nD} {P : sProp (MT nD τ sig Unit (Elt F) ℕ (UU nD τ) ℕ)} {α : Type} {p : Prog (TpuEff nD τ sig (Elt F) Λ₀ .tc) α} {φ ψ : α → Prop}
    (h : Keeps c P p φ) (hm : ∀ a, φ a → ψ a) : Keeps c P p ψ := by
  unfold Keeps at *
  refine h.trans (wp_mono _ _ _ fun a => ?_)
  iintro ⟨%ha, H⟩
  isplitr [H]
  · ipureintro; exact hm a ha
  iexact H

section Step
variable (c : Dev nD) (arg0 : Memref sig .tc .vmem S1536x256 .bf16) (arg1 : Memref sig .tc .vmem S256x6144 .bf16) (arg2 : Memref sig .tc .vmem S256x256 .bf16)
  (X : Buf (Elt F) (xvM.view.loc (c : Thread nD τ))) (s s' : Fin 3)
  (G : Buf (Elt F) (wvM.view.loc (c : Thread nD τ))) (G' : Buf (Elt F) (wvM.view.loc (c : Thread nD τ)))
  (H : Buf (Elt F) (evM.view.loc (c : Thread nD τ))) (H' : Buf (Elt F) (evM.view.loc (c : Thread nD τ)))
  (g0 : Buf (Elt F) (arg0.view.loc (c : Thread nD τ))) (g1 : Buf (Elt F) (arg1.view.loc (c : Thread nD τ))) (g2 : Buf (Elt F) (arg2.view.loc (c : Thread nD τ)))

/-! ## The last two panels -/

theorem keeps_panel63 (t : Fin k0_t1_loop.trips) (u : Mxu F)
    (g : Good u 1 0 (wT c s G H (f64 63)) true (sumT (xT c X) (wT c s G H) 62)) :
    Keeps c (tileHeld c arg0 arg1 arg2 X s s' G G' H H' g0 g1 g2) (panel63 (F := F) arg1 xvM t u) (fun u' => Good u' 0 1 (bRaw c arg1 g1 t) true (sumT (xT c X) (wT c s G H) 63)) := by
  unfold panel63
  refine Keeps.bind (keeps_accFirst c arg0 arg1 arg2 X s s' G G' H H' g0 g1 g2 _ _ _) fun u2 hu2 => ?_
  subst hu2
  refine Keeps.bind (keeps_loadB c arg0 arg1 arg2 X s s' G G' H H' g0 g1 g2 t) fun b hb => ?_
  subst hb
  refine keeps_pushes (F := F) c _ 0 _ (fun q => ?_) ?_
  · exact (m2_reg_ne u 1 0 (by decide) _ q).trans (g.oth q)
  refine Keeps.mono (keeps_accRest c arg0 arg1 arg2 X s s' G G' H H' g0 g1 g2 63 _ (stg (wT c s G H (f64 63))) (fun q => ?_)) fun u8 hu8 => ?_
  · rw [m4_gmr]; exact m2_gmr _ _ _ _ _ g.reg
  subst hu8
  exact step_good (v := bRaw c arg1 g1 t) (by decide) (xT c X 63) g

/-- What is staged behind the last panel of tile `t`. -/
def nextT (t : Fin k0_t1_loop.trips) : Tile16 F := if t.val + 1 < 24 then wT c s' G' H' 0 else sRaw c arg2 g2

theorem nextCond : ∀ t : Fin k0_t1_loop.trips, Scalar.cmpi .slt (Scalar.addi (Scf.iv 0#32 1#32 t.val) 1#32) 24#32 = if t.val + 1 < 24 then 1#1 else 0#1 := by decide +kernel

theorem keeps_panel64 (t : Fin k0_t1_loop.trips) (hs' : slotN t = s'.val) (u : Mxu F) (S : Sums F)
    (g : Good u 0 1 (bRaw c arg1 g1 t) true S) :
    Keeps c (tileHeld c arg0 arg1 arg2 X s s' G G' H H' g0 g1 g2) (panel64 (F := F) arg0 arg2 wvM evM (Scf.iv 0#32 1#32 t.val) t u)
      (fun u' => Good u' 0 1 (nextT c arg2 s' G' H' g2 t) true (fun q a => addf (S q a) (pass (hT c arg0 g0 (blk6 q a)) (bRaw c arg1 g1 t)))) := by
  unfold panel64
  simp only [hs', nextCond]
  refine Keeps.bind (keeps_loadH c arg0 arg1 arg2 X s s' G G' H H' g0 g1 g2 0) fun h0 e0 => ?_
  refine Keeps.bind (keeps_loadH c arg0 arg1 arg2 X s s' G G' H H' g0 g1 g2 3) fun h3 e3 => ?_
  refine Keeps.bind (keeps_loadE' c arg0 arg1 arg2 X s s' G G' H H' g0 g1 g2 0) fun e he => ?_
  refine Keeps.bind (keeps_loadW' c arg0 arg1 arg2 X s s' G G' H H' g0 g1 g2 0) fun w hw => ?_
  refine Keeps.bind (keeps_loadS c arg0 arg1 arg2 X s s' G G' H H' g0 g1 g2) fun sl hsl => ?_
  have ev : Scalar.select (if t.val + 1 < 24 then 1#1 else 0#1) (widen (F := F) w (scaleBits (F := F) e) 0) sl = nextT c arg2 s' G' H' g2 t := by
    subst e0 e3 he hw hsl
    unfold nextT
    by_cases h : t.val + 1 < 24
    · rw [if_pos h, if_pos h]; rfl
    · rw [if_neg h, if_neg h]; rfl
  simp only [ev]
  have m2e : (u.accLhs 0 0 0 h0 fits_0_256).accLhs 1 0 0 h3 fits_0_256 = m2 u 0 (hT c arg0 g0) := by subst e0 e3; rfl
  rw [m2e]
  refine keeps_pushes (F := F) c _ 0 _ (fun q => m2_reg_r u 0 _ q) ?_
  have hg : ∀ q, (m4 (m2 u 0 (hT c arg0 g0)) 0 (nextT c arg2 s' G' H' g2 t)).gmr q = some (stg (bRaw c arg1 g1 t)) := fun q => by
    rw [m4_gmr]; exact m2_gmr _ _ _ _ _ g.reg
  refine Keeps.bind (keeps_loadH c arg0 arg1 arg2 X s s' G G' H H' g0 g1 g2 1) fun h1 e1 => ?_
  refine Keeps.bind (Keeps.acc (t := stg (bRaw c arg1 g1 t)) (hg _)) fun u1 hu1 => ?_
  refine Keeps.bind (keeps_loadH c arg0 arg1 arg2 X s s' G G' H H' g0 g1 g2 4) fun h4 e4 => ?_
  refine Keeps.bind (Keeps.acc (t := stg (bRaw c arg1 g1 t)) (by rw [hu1]; exact hg 1)) fun u2 hu2 => ?_
  refine Keeps.bind (keeps_loadH c arg0 arg1 arg2 X s s' G G' H H' g0 g1 g2 2) fun h2 e2 => ?_
  refine Keeps.bind (Keeps.acc (t := stg (bRaw c arg1 g1 t)) (by rw [hu2, hu1]; exact hg 0)) fun u3 hu3 => ?_
  refine Keeps.bind (keeps_loadH c arg0 arg1 arg2 X s s' G G' H H' g0 g1 g2 5) fun h5 e5 => ?_
  refine Keeps.mono (Keeps.acc (t := stg (bRaw c arg1 g1 t)) (s := u3) (q := 1) (by rw [hu3, hu2, hu1]; exact hg 1)) fun u4 hu4 => ?_
  subst hu4 hu3 hu2 hu1 e1 e2 e4 e5
  exact step_same (r' := 1) (by decide) (hT c arg0 g0) g

/-! ## Panel 0 -/

variable (j : Fin 2)

theorem keep_bind {R : sProp 𝕄} {α β : Type} {p : Prog (TpuEff nD τ sig (Elt F) Λ₀ .tc) α} {k : α → Prog (TpuEff nD τ sig (Elt F) Λ₀ .tc) β} {φ : α → Prop} {Q : β → sProp 𝕄}
    {P : sProp 𝕄} (h : Keeps c P p φ) (hk : ∀ a, φ a → iprop(P ∗ R) ⊢ wp frame (wpE (defs₀ (F := F)) 𝒱₀ (c : Thread nD τ) none) Set.univ (k a) Q) :
    iprop(P ∗ R) ⊢ wp frame (wpE (defs₀ (F := F)) 𝒱₀ (c : Thread nD τ) none) Set.univ (p >>= k) Q := by
  rw [wp_bind]
  refine (sep_mono h .refl).trans ((wp_frame_r frame (wpE (defs₀ (F := F)) 𝒱₀ (c : Thread nD τ) none) Set.univ).trans (wp_mono _ _ _ fun a => ?_))
  iintro ⟨⟨%ha, HP⟩, HR⟩
  iapply (hk a ha)
  isplitl [HP]; · iexact HP
  iexact HR

theorem put_bind {P : sProp 𝕄} {β : Type} {k : PUnit → Prog (TpuEff nD τ sig (Elt F) Λ₀ .tc) β} {Q : β → sProp 𝕄} (r : Fin 6) {o : Fin 3 → Nat} (ho : o = ![j.val, 256 * r.val, 0])
    {hi : ∀ a, o a + S1x256x256.size a ≤ S2x1536x256.size a}
    {hp : (Rect.unit (s := S2x1536x256) o S1x256x256.size hi).PackedRows (EltTy.packing .bf16)} {v : FVec F S256x256 .f32}
    {f : Buf (Elt F) (yvM.view.loc (c : Thread nD τ))}
    (hk : ∀ f', (yslot j).view.read (Elt F) f' = putAt r v ((yslot j).view.read (Elt F) f) →
      iprop(P ∗ held c (yslot j) f') ⊢ wp frame (wpE (defs₀ (F := F)) 𝒱₀ (c : Thread nD τ) none) Set.univ (k ⟨⟩) Q) :
    iprop(P ∗ held c (yslot j) f) ⊢ wp frame (wpE (defs₀ (F := F)) 𝒱₀ (c : Thread nD τ) none) Set.univ (putY (F := F) yvM (Memref.isWhole_whole _) o hi hp v >>= k) Q := by
  rw [wp_bind]
  refine (sep_mono .refl (putY_run c j r o ho hi hp v f)).trans ((wp_frame_l frame (wpE (defs₀ (F := F)) 𝒱₀ (c : Thread nD τ) none) Set.univ).trans (wp_mono _ _ _ fun a => ?_))
  iintro ⟨HP, %f', %hf', Hf⟩
  iapply (hk f' hf')
  isplitl [HP]; · iexact HP
  iexact Hf

theorem run_panel0 (t : Fin k0_t1_loop.trips) (hs : slotC t = s.val) (hj : j = Ring.sl 2 (t.val + 1)) (u : Mxu F) (n : Bool) (S : Sums F)
    (g : Good u 0 1 (wT c s G H 0) n S) (f : Buf (Elt F) (yvM.view.loc (c : Thread nD τ))) :
    iprop((tileHeld c arg0 arg1 arg2 X s s' G G' H H' g0 g1 g2) ∗ held c (yslot j) f) ⊢ wp frame (wpE (defs₀ (F := F)) 𝒱₀ (c : Thread nD τ) none) Set.univ (panel0 (F := F) xvM wvM evM yvM (Memref.isWhole_whole _) t u)
      (fun st => iprop((⌜st.1 = scaleBits (F := F) (eRaw c s H 0) ∧ Good st.2 1 0 (wT c s G H 1) true (sumT (xT c X) (wT c s G H) 0)⌝ ∗ (tileHeld c arg0 arg1 arg2 X s s' G G' H H' g0 g1 g2))
        ∗ ∃ f', ⌜n = true → (yslot j).view.read (Elt F) f' = sumsY S⌝ ∗ held c (yslot j) f')) := by
  subst hj
  unfold panel0
  simp only [hs]
  have gm := g.reg
  refine put_bind c _ 0 (off17_eq t) fun f1 hf1 => ?_
  refine keep_bind c (keeps_loadX c arg0 arg1 arg2 X s s' G G' H H' g0 g1 g2 0 0) fun x0 e0 => ?_
  refine put_bind c _ 3 (off18_eq t) fun f2 hf2 => ?_
  refine keep_bind c (keeps_loadX c arg0 arg1 arg2 X s s' G G' H H' g0 g1 g2 0 3) fun x3 e3 => ?_
  refine keep_bind c (keeps_loadE c arg0 arg1 arg2 X s s' G G' H H' g0 g1 g2 0) fun e he => ?_
  refine keep_bind c (keeps_loadW c arg0 arg1 arg2 X s s' G G' H H' g0 g1 g2 1) fun w hw => ?_
  subst e0 e3 he hw
  refine keep_bind c (Keeps.push ((s2_reg1 u (xT c X 0) 0).trans (g.oth 0))) fun u1 hu1 => ?_
  refine keep_bind c (Keeps.push ((by rw [hu1, Mxu.reg_pushed_ne _ _ _ _ _ _ _ (by decide)]; exact (s2_reg1 u (xT c X 0) 1).trans (g.oth 1)))) fun u2 hu2 => ?_
  have e2 : u2 = s4 u (xT c X 0) (wT c s G H 1) := by rw [hu2, hu1]; rfl
  clear hu2 hu1
  subst e2
  refine put_bind c _ 1 (off21_eq t) fun f3 hf3 => ?_
  refine keep_bind c (keeps_loadX c arg0 arg1 arg2 X s s' G G' H H' g0 g1 g2 0 1) fun x1 e1 => ?_
  refine keep_bind c (Keeps.acc (t := stg (wT c s G H 0)) (s4_gmr u (wT c s G H 0) (xT c X 0) (wT c s G H 1) 0 gm)) fun u3 hu3 => ?_
  have e2 : u3 = s5 u (wT c s G H 0) (xT c X 0) (wT c s G H 1) := by rw [hu3, e1]; rfl
  clear hu3
  subst e2
  refine put_bind c _ 4 (off22_eq t) fun f4 hf4 => ?_
  refine keep_bind c (keeps_loadX c arg0 arg1 arg2 X s s' G G' H H' g0 g1 g2 0 4) fun x4 e4 => ?_
  refine keep_bind c (Keeps.acc (t := stg (wT c s G H 0)) (gmr_s5 u (wT c s G H 0) (xT c X 0) (wT c s G H 1) 1 gm)) fun u3 hu3 => ?_
  have e2 : u3 = s6 u (wT c s G H 0) (xT c X 0) (wT c s G H 1) := by rw [hu3, e4]; rfl
  clear hu3
  subst e2
  refine put_bind c _ 2 (off23_eq t) fun f5 hf5 => ?_
  refine keep_bind c (keeps_loadX c arg0 arg1 arg2 X s s' G G' H H' g0 g1 g2 0 2) fun x2 e2' => ?_
  refine keep_bind c (Keeps.acc (t := stg (wT c s G H 0)) (gmr_s6 u (wT c s G H 0) (xT c X 0) (wT c s G H 1) 0 gm)) fun u3 hu3 => ?_
  have e2 : u3 = s7 u (wT c s G H 0) (xT c X 0) (wT c s G H 1) := by rw [hu3, e2']; rfl
  clear hu3
  subst e2
  refine put_bind c _ 5 (off24_eq t) fun f6 hf6 => ?_
  refine keep_bind c (keeps_loadX c arg0 arg1 arg2 X s s' G G' H H' g0 g1 g2 0 5) fun x5 e5 => ?_
  refine keep_bind c (Keeps.acc (t := stg (wT c s G H 0)) (gmr_s7 u (wT c s G H 0) (xT c X 0) (wT c s G H 1) 1 gm)) fun u3 hu3 => ?_
  have e2 : u3 = s8 u (wT c s G H 0) (xT c X 0) (wT c s G H 1) := by rw [hu3, e5]; rfl
  clear hu3
  subst e2
  have hY : n = true → (yslot (Ring.sl 2 (t.val + 1))).view.read (Elt F) f6 = sumsY S := fun hn => by
    rw [hf6, hf5, hf4, hf3, hf2, hf1, g.rd0 hn, ← putAt_six S ((yslot (Ring.sl 2 (t.val + 1))).view.read (Elt F) f)]
    rw [read_s7, read_s6, read_s5, read_s4 _ _ _ _ _ (by decide), g.rd1 hn, g.rd1 hn, g.rd2 hn, g.rd2 hn]
    rw [← read_f1 u (wT c s G H 0) (xT c X 0) g hn]
    rfl
  have hG := s8_good u (wT c s G H 0) (xT c X 0) (wT c s G H 1) g
  show _ ⊢ wp _ _ _ (Prog.ret _) _
  rw [wp_ret]
  iintro ⟨HT, Hy⟩
  isplitl [HT]
  · isplitr [HT]
    · ipureintro; exact ⟨rfl, hG⟩
    iexact HT
  iexists f6
  isplitr [Hy]
  · ipureintro; exact hY
  iexact Hy

/-- The whole tile: the sums found are left in the result slot, the tile's own in the units. -/
theorem run_tile (t : Fin k0_t1_loop.trips) (hs : slotC t = s.val) (hs' : slotN t = s'.val) (hj : j = Ring.sl 2 (t.val + 1)) (u : Mxu F) (n : Bool) (S : Sums F)
    (g : Good u 0 1 (wT c s G H 0) n S) (f : Buf (Elt F) (yvM.view.loc (c : Thread nD τ))) :
    iprop((tileHeld c arg0 arg1 arg2 X s s' G G' H H' g0 g1 g2) ∗ held c (yslot j) f) ⊢ wp frame (wpE (defs₀ (F := F)) 𝒱₀ (c : Thread nD τ) none) Set.univ
      (tile (F := F) arg0 arg1 arg2 xvM wvM evM yvM (Memref.isWhole_whole _) (Scf.iv 0#32 1#32 t.val) t u)
      (fun u' => iprop((⌜Good u' 0 1 (nextT c arg2 s' G' H' g2 t) true (tileSums (xT c X) (hT c arg0 g0) (wT c s G H) (bRaw c arg1 g1 t))⌝ ∗ (tileHeld c arg0 arg1 arg2 X s s' G G' H H' g0 g1 g2))
        ∗ ∃ f', ⌜n = true → (yslot j).view.read (Elt F) f' = sumsY S⌝ ∗ held c (yslot j) f')) := by
  unfold tile
  rw [wp_bind]
  refine (run_panel0 c arg0 arg1 arg2 X s s' G G' H H' g0 g1 g2 j t hs hj u n S g f).trans (wp_mono _ _ _ fun st => ?_)
  have hk : st.1 = scaleBits (F := F) (eRaw c s H 0) ∧ Good st.2 1 0 (wT c s G H 1) true (sumT (xT c X) (wT c s G H) 0) →
      Keeps c (tileHeld c arg0 arg1 arg2 X s s' G G' H H' g0 g1 g2) (panels (F := F) xvM wvM evM (slotC t) (slotC_lt t) 62 1 st >>= fun st => panel63 (F := F) arg1 xvM t st.2 >>= fun s => panel64 (F := F) arg0 arg2 wvM evM (Scf.iv 0#32 1#32 t.val) t s)
        (fun u' => Good u' 0 1 (nextT c arg2 s' G' H' g2 t) true (tileSums (xT c X) (hT c arg0 g0) (wT c s G H) (bRaw c arg1 g1 t))) := fun hst => by
    simp only [hs]
    refine Keeps.bind (keeps_panels c arg0 arg1 arg2 X s s' G G' H H' g0 g1 g2 62 1 (by decide) (by decide) st.1 st.2 hst.1 hst.2) fun st2 h2 => ?_
    refine Keeps.bind (keeps_panel63 c arg0 arg1 arg2 X s s' G G' H H' g0 g1 g2 t st2.2 h2) fun u3 h3 => ?_
    exact keeps_panel64 c arg0 arg1 arg2 X s s' G G' H H' g0 g1 g2 t hs' u3 _ h3
  iintro ⟨⟨%hst, HT⟩, Hy⟩
  iapply (wp_frame_r frame (wpE (defs₀ (F := F)) 𝒱₀ (c : Thread nD τ) none) Set.univ)
  isplitl [HT]
  · iapply (show _ ⊢ _ from hk hst)
    iexact HT
  iexact Hy
end Step

end Cert.KernelIdeal.Prf
-- ==== Proof.RunLoop.lean ====
/- The loop over the tiles: its invariant and one trip. -/
module

public import proofs.«01_k».proof.Proof.RunStep
public import Idealize.ShloMosaic.Lib.Pipeline.Value
public import Idealize.ShloMosaic.Lib.ViewIndex

@[expose] public section

noncomputable section

namespace Cert.KernelIdeal.Prf

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Loop
variable (c : Dev nD) (arg0 : Memref sig .tc .vmem S1536x256 .bf16) (harg0 : arg0.IsWhole) (arg1 : Memref sig .tc .vmem S256x6144 .bf16) (harg1 : arg1.IsWhole)
  (arg2 : Memref sig .tc .vmem S256x256 .bf16) (harg2 : arg2.IsWhole)
  (W : Buf (Elt F) ((c : Thread nD τ).loc main_arg1)) (E : Buf (Elt F) ((c : Thread nD τ).loc main_arg2))
  (X : Buf (Elt F) (xvM.view.loc (c : Thread nD τ)))
  (g0 : Buf (Elt F) (arg0.view.loc (c : Thread nD τ))) (g1 : Buf (Elt F) (arg1.view.loc (c : Thread nD τ))) (g2 : Buf (Elt F) (arg2.view.loc (c : Thread nD τ)))

theorem castW : (⟨3, S1x2048x256.size⟩ : Shape).ShapeCasts S2048x256 := by decide
theorem castE : (⟨3, S1x512x256.size⟩ : Shape).ShapeCasts S512x256 := by decide

theorem read_wslot (s : Fin 3) (f : Buf (Elt F) (wvM.view.loc (c : Thread nD τ))) (i : S2048x256.Idx) :
    (wslot s).view.read (Elt F) f i = wvM.view.read (Elt F) f (Fin.cons s i : S3x2048x256.Idx) := by
  have e : (wslot s).view.read (Elt F) f i = shapeCast S2048x256 (wvM.view.readAt (Elt F) (Rect.unit (s := S3x2048x256) (slotOff s) S1x2048x256.size (wslot_inb s)).toLoadRect f) castW i := rfl
  rw [e, shapeCast_dropUnit_apply (n := 2) ![2048, 256]]
  show wvM.view.read (Elt F) f _ = _
  congr 1
  refine Shape.idx3_ext ?_ ?_ ?_
  · show s.val + 1 * 0 = s.val; omega
  · show 0 + 1 * (i 0).val = (i 0).val; omega
  · show 0 + 1 * (i 1).val = (i 1).val; omega
theorem read_eslot (s : Fin 3) (f : Buf (Elt F) (evM.view.loc (c : Thread nD τ))) (i : S512x256.Idx) :
    (eslot s).view.read (Elt F) f i = evM.view.read (Elt F) f (Fin.cons s i : S3x512x256.Idx) := by
  have e : (eslot s).view.read (Elt F) f i = shapeCast S512x256 (evM.view.readAt (Elt F) (Rect.unit (s := S3x512x256) (slotOff s) S1x512x256.size (eslot_inb s)).toLoadRect f) castE i := rfl
  rw [e, shapeCast_dropUnit_apply (n := 2) ![512, 256]]
  show evM.view.read (Elt F) f _ = _
  congr 1
  refine Shape.idx3_ext ?_ ?_ ?_
  · show s.val + 1 * 0 = s.val; omega
  · show 0 + 1 * (i 0).val = (i 0).val; omega
  · show 0 + 1 * (i 1).val = (i 1).val; omega

/-- Panel `p`'s rows of a tile of packed weights, and group `g`'s of a tile of scales. -/
def rowsW (f : S2048x256.Idx → Elt F .i32) (p : Fin 64) : Vec F S1x32x256 .i32 :=
  fun i => f (Fin.cons (⟨32 * p.val + (i 1).val, by have : (i 1).val < 32 := (i 1).isLt; have := p.isLt; omega⟩ : Fin 2048) (Fin.cons (i 2) (fun x => x.elim0)))
def rowsE (f : S512x256.Idx → Elt F .i8) (g : Fin 16) : Vec F S1x32x256 .i8 :=
  fun i => f (Fin.cons (⟨32 * g.val + (i 1).val, by have : (i 1).val < 32 := (i 1).isLt; have := g.isLt; omega⟩ : Fin 512) (Fin.cons (i 2) (fun x => x.elim0)))

theorem wRaw_eq (s : Fin 3) (f : Buf (Elt F) (wvM.view.loc (c : Thread nD τ))) (p : Fin 64) : wRaw c s f p = rowsW ((wslot s).view.read (Elt F) f) p := by
  funext i
  unfold rowsW
  rw [read_wslot c]
  show wvM.view.read (Elt F) f _ = _
  congr 1
  refine Shape.idx3_ext ?_ ?_ ?_
  · have : (i 0).val < 1 := (i 0).isLt
    show s.val + 1 * (i 0).val = s.val; omega
  · show 32 * p.val + 1 * (i 1).val = 32 * p.val + (i 1).val; omega
  · show 0 + 1 * (i 2).val = (i 2).val; omega
theorem eRaw_eq (s : Fin 3) (f : Buf (Elt F) (evM.view.loc (c : Thread nD τ))) (p : Fin 16) : eRaw c s f p = rowsE ((eslot s).view.read (Elt F) f) p := by
  funext i
  unfold rowsE
  rw [read_eslot c]
  show evM.view.read (Elt F) f _ = _
  congr 1
  refine Shape.idx3_ext ?_ ?_ ?_
  · have : (i 0).val < 1 := (i 0).isLt
    show s.val + 1 * (i 0).val = s.val; omega
  · show 32 * p.val + 1 * (i 1).val = 32 * p.val + (i 1).val; omega
  · show 0 + 1 * (i 2).val = (i 2).val; omega

/-- Tile `b`'s weights at panel `p`, from the operands. -/
def wB (b : Fin 24) (p : Fin 64) : Tile16 F :=
  widen (rowsW ((wblk b).view.read (Elt F) (wAt c W b)) p) (scaleBits (F := F) (rowsE ((eblk b).view.read (Elt F) (eAt c E b)) ⟨p.val / 4, by omega⟩)) ⟨p.val % 4, by omega⟩

theorem wT_eq (s : Fin 3) (b : Fin 24) (G : Buf (Elt F) (wvM.view.loc (c : Thread nD τ))) (H : Buf (Elt F) (evM.view.loc (c : Thread nD τ)))
    (hG : (wslot s).view.read (Elt F) G = (wblk b).view.read (Elt F) (wAt c W b)) (hH : (eslot s).view.read (Elt F) H = (eblk b).view.read (Elt F) (eAt c E b)) :
    wT c s G H = wB c W E b := by
  funext p
  unfold wT wB
  rw [wRaw_eq, eRaw_eq, hG, hH]

/-- Tile `b`'s sums, and its block of the result. -/
def sumsB (b : Fin 24) : Sums F := tileSums (xT c X) (hT c arg0 g0) (wB c W E b) (bRaw c arg1 g1 (Fin.cast trips_eq.symm b))
def yB (b : Fin 24) : S1536x256.Idx → Elt F .bf16 := sumsY (sumsB c arg0 arg1 W E X g0 g1 b)

/-- What is staged before tile `k`: the tile's first panel, past the last tile the select matrix. -/
def staged (k : ℕ) : Tile16 F := if k < 24 then wB c W E (Ring.bk 24 k) 0 else sRaw c arg2 g2

/-- Before tile `k`. -/
def loopI (k : ℕ) (u : Mxu F) : sProp 𝕄 :=
  iprop(⌜Good u 0 1 (staged c arg2 W E g2 k) (decide (0 < k)) (sumsB c arg0 arg1 W E X g0 g1 (Ring.bk 24 (k - 1)))⌝
    ∗ held c xvM X ∗ held c arg0 g0 ∗ held c arg1 g1 ∗ held c arg2 g2
    ∗ wHave c W k ∗ eHave c E k ∗ yPend c (yB c arg0 arg1 W E X g0 g1) k
    ∗ guardPre c W E (yB c arg0 arg1 W E X g0 g1) k)

theorem loop_step (t : Fin k0_t1_loop.trips) (u : Mxu F)
    (k0_mxu7 : Mxu F) (v683_r0 : IVec S32x256 32) (v712_r0 : FVec F S256x256 .bf16) (v717_r0 : FVec F S32x256 .bf16) (v718_r0 : FVec F S32x256 .bf16) :
    loopI c arg0 arg1 arg2 W E X g0 g1 g2 t.val u ⊢ wp frame (wpE (defs₀ (F := F)) 𝒱₀ (c : Thread nD τ) none) Set.univ
      (k0_t1_body (F := F) arg0 harg0 arg1 harg1 arg2 harg2 xM (Memref.isWhole_whole _) wM (Memref.isWhole_whole _) eM (Memref.isWhole_whole _) yM (Memref.isWhole_whole _) hM (Memref.isWhole_whole _)
        xvM (Memref.isWhole_whole _) wvM (Memref.isWhole_whole _) evM (Memref.isWhole_whole _) yvM (Memref.isWhole_whole _) hoM (Memref.isWhole_whole _)
        cc0_scratch5 cc0_scratch6 cc0_scratch7 cc0_scratch8 cc0_scratch9 k0_mxu7 v683_r0 v712_r0 v717_r0 v718_r0 t u)
      (loopI c arg0 arg1 arg2 W E X g0 g1 g2 (t.val + 1)) := by
  have h24 := t_lt t
  rw [body_eq, wp_bind]
  unfold loopI
  iintro ⟨%hg, Hx, H0, H1, H2, Hw, He, Hyp, Hpre⟩
  iapply (wp_wand_r Idealize.ShloMosaic.frame (wpE (defs₀ (F := F)) 𝒱₀ (c : Thread nD τ) none) Set.univ)
  isplitl [Hpre]
  · iapply (part3_run c arg0 harg0 arg1 harg1 arg2 harg2 W E (yB c arg0 arg1 W E X g0 g1) t); iexact Hpre
  iintro %r ⟨%hr, Hpost⟩
  unfold guardPost
  icases Hpost with ⟨HW, Hw1, Hwn, Hwh, He1, Hen, Heh, Hyf, Hya⟩
  rw [wp_bind]
  iapply (wp_wand_r Idealize.ShloMosaic.frame (wpE (defs₀ (F := F)) 𝒱₀ (c : Thread nD τ) none) Set.univ)
  isplitl [HW Hyp Hya]
  · iapply (guardY_run c (yB c arg0 arg1 W E X g0 g1) t)
    isplitl [HW]; · iexact HW
    isplitl [Hyp]; · iexact Hyp
    iexact Hya
  iintro %_ ⟨HW, Hyfly, Hyh⟩
  rw [hr]
  unfold wHave eHave yFree
  icases Hw with ⟨⟨%G, %hG, Hw⟩, Hwc⟩
  icases He with ⟨⟨%H, %hH, He⟩, Hec⟩
  icases Hw1 with ⟨⟨%G', %hG', Hw1⟩, Hw1c⟩
  icases He1 with ⟨⟨%H', %hH', He1⟩, He1c⟩
  icases Hyf with ⟨⟨%f, Hys⟩, Hyc⟩
  have eT := wT_eq c W E (Ring.sl 3 t.val) (Ring.bk 24 t.val) G H (hG h24) (hH h24)
  have hst : staged c arg2 W E g2 t.val = wT c (Ring.sl 3 t.val) G H 0 := by rw [staged, if_pos h24, eT]
  rw [hst] at hg
  have hb : Fin.cast trips_eq.symm (Ring.bk 24 t.val) = t := Fin.ext (show (Ring.bk 24 t.val).val = t.val from Ring.bk_val h24)
  have eS : tileSums (xT c X) (hT c arg0 g0) (wT c (Ring.sl 3 t.val) G H) (bRaw c arg1 g1 t) = sumsB c arg0 arg1 W E X g0 g1 (Ring.bk 24 (t.val + 1 - 1)) := by
    unfold sumsB; rw [Nat.add_sub_cancel, eT, hb]
  have eN : nextT c arg2 (Ring.sl 3 (t.val + 1)) G' H' g2 t = staged c arg2 W E g2 (t.val + 1) := by
    unfold nextT staged
    split
    · next h => rw [wT_eq c W E (Ring.sl 3 (t.val + 1)) (Ring.bk 24 (t.val + 1)) G' H' (hG' h) (hH' h)]
    · rfl
  iapply (wp_wand_r Idealize.ShloMosaic.frame (wpE (defs₀ (F := F)) 𝒱₀ (c : Thread nD τ) none) Set.univ)
  isplitl [Hx Hw Hw1 He He1 H0 H1 H2 Hys]
  · iapply (run_tile c arg0 arg1 arg2 X (Ring.sl 3 t.val) (Ring.sl 3 (t.val + 1)) G G' H H' g0 g1 g2 (Ring.sl 2 (t.val + 1)) t (slotC_eq t) (slotN_eq t) rfl u _ _ hg f)
    isplitr [Hys]; swap
    · iexact Hys
    unfold tileHeld
    isplitl [Hx]; · iexact Hx
    isplitl [Hw]; · iexact Hw
    isplitl [Hw1]; · iexact Hw1
    isplitl [He]; · iexact He
    isplitl [He1]; · iexact He1
    isplitl [H0]; · iexact H0
    isplitl [H1]; · iexact H1
    iexact H2
  iintro %u' ⟨⟨%hg', HT⟩, %f', %hf', Hys⟩
  unfold tileHeld
  icases HT with ⟨Hx, Hw, Hw1, He, He1, H0, H1, H2⟩
  rw [eS, eN] at hg'
  isplitr
  · ipureintro; rw [show decide (0 < t.val + 1) = true from decide_eq_true (by omega)]; exact hg'
  isplitl [Hx]; · iexact Hx
  isplitl [H0]; · iexact H0
  isplitl [H1]; · iexact H1
  isplitl [H2]; · iexact H2
  isplitl [Hw1 Hw1c]
  · isplitl [Hw1]
    · iexists G'; isplitr; · ipureintro; exact hG'
      iexact Hw1
    iexact Hw1c
  isplitl [He1 He1c]
  · isplitl [He1]
    · iexists H'; isplitr; · ipureintro; exact hH'
      iexact He1
    iexact He1c
  isplitl [Hys Hyc]
  · unfold yPend
    isplitl [Hys]
    · iexists f'
      isplitr
      · ipureintro
        intro h2
        rw [hf' (decide_eq_true (by omega))]
        rfl
      iexact Hys
    iexact Hyc
  unfold guardPre
  isplitl [HW]; · iexact HW
  isplitl [Hwn]; · iexact Hwn
  isplitl [Hw Hwc]
  · unfold wFree
    rw [show t.val + 1 + 2 = t.val + 3 from rfl, Ring.sl_add]
    isplitl [Hw]; · iexists G; iexact Hw
    iexact Hwc
  isplitl [Hwh]; · iexact Hwh
  isplitl [Hen]; · iexact Hen
  isplitl [He Hec]
  · unfold eFree
    rw [show t.val + 1 + 2 = t.val + 3 from rfl, Ring.sl_add]
    isplitl [He]; · iexists H; iexact He
    iexact Hec
  isplitl [Heh]; · iexact Heh
  isplitl [Hyfly]; · iexact Hyfly
  iexact Hyh
end Loop

end Cert.KernelIdeal.Prf
-- ==== Proof.Copies.lean ====
/- The copies before the loop: the panels of the activations and the first two tiles, and the body cut into its phases. -/
module

public import proofs.«01_k».proof.Proof.RunLoop
public import Idealize.ShloMosaic.Lib.Pipeline.Value
public import Idealize.ShloMosaic.Lib.ViewIndex

@[expose] public section

noncomputable section

namespace Cert.KernelIdeal.Prf

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

theorem xsrc_words (k : Fin 64) : (Rect.unit (s := S1536x16384) (xcolOff k) S1536x256.size (xsrc_inb k)).WholeWords (EltTy.packing .bf16) := by revert k; decide
theorem xslot_words (k : Fin 64) : (Rect.unit (s := S64x1536x256) (slotOff k) S1x1536x256.size (xslot_inb k)).WholeWords (EltTy.packing .bf16) := by revert k; decide
theorem eblk_words (k : Fin 24) : (Rect.unit (s := S512x6144) (colOff k) S512x256.size (eblk_inb k)).WholeWords (EltTy.packing .i8) := by revert k; decide
theorem eslot_words (k : Fin 3) : (Rect.unit (s := S3x512x256) (slotOff k) S1x512x256.size (eslot_inb k)).WholeWords (EltTy.packing .i8) := by revert k; decide
theorem yblk_words (k : Fin 24) : (Rect.unit (s := S1536x6144) (colOff k) S1536x256.size (yblk_inb k)).WholeWords (EltTy.packing .bf16) := by revert k; decide
theorem yslot_words (k : Fin 2) : (Rect.unit (s := S2x1536x256) (slotOff k) S1x1536x256.size (yslot_inb k)).WholeWords (EltTy.packing .bf16) := by revert k; decide

/-- Start and await the copy of panel `k` of the activations. -/
def startX (k : Fin 64) : Prog (TpuEff nD τ sig (Elt F) Λ₀ .tc) PUnit :=
  Prog.lift (.enqueueDma (xsrc k) (.here (xslot k)) (.dma (xsem k).sem) ((Memref.isWhole_whole main_v0).wordExact_slice rfl _ (xsrc_words k)) (((Memref.isWhole_whole cc0_scratch0).wordExact_slice rfl _ (xslot_words k)).reshape _ _) ⟨Or.inl rfl, trivial⟩)
def waitX (k : Fin 64) : Prog (TpuEff nD τ sig (Elt F) Λ₀ .tc) PUnit :=
  Prog.lift (.waitDma2 (xsem k).sem (xsrc k) (xslot k) ((Memref.isWhole_whole main_v0).wordExact_slice rfl _ (xsrc_words k)) (((Memref.isWhole_whole cc0_scratch0).wordExact_slice rfl _ (xslot_words k)).reshape _ _))
def startXs : ℕ → ℕ → Prog (TpuEff nD τ sig (Elt F) Λ₀ .tc) PUnit
  | 0, _ => Prog.ret ⟨⟩
  | n + 1, k => startX (f64 k) >>= fun _ => startXs n (k + 1)
def waitXs : ℕ → ℕ → Prog (TpuEff nD τ sig (Elt F) Λ₀ .tc) PUnit
  | 0, _ => Prog.ret ⟨⟩
  | n + 1, k => waitX (f64 k) >>= fun _ => waitXs n (k + 1)

/-- Start and await the copies of a tile's weights and scales. -/
def startW (b : Fin 24) (s : Fin 3) : Prog (TpuEff nD τ sig (Elt F) Λ₀ .tc) PUnit :=
  Prog.lift (.enqueueDma (wblk b) (.here (wslot s)) (.dma (wsem s).sem) (View.wordExact_bits rfl) ((View.wordExact_bits rfl).reshape _ _) ⟨Or.inl rfl, trivial⟩)
def startE (b : Fin 24) (s : Fin 3) : Prog (TpuEff nD τ sig (Elt F) Λ₀ .tc) PUnit :=
  Prog.lift (.enqueueDma (eblk b) (.here (eslot s)) (.dma (esem s).sem) ((Memref.isWhole_whole main_arg2).wordExact_slice rfl _ (eblk_words b)) (((Memref.isWhole_whole cc0_scratch2).wordExact_slice rfl _ (eslot_words s)).reshape _ _) ⟨Or.inl rfl, trivial⟩)
def waitW (b : Fin 24) (s : Fin 3) : Prog (TpuEff nD τ sig (Elt F) Λ₀ .tc) PUnit :=
  Prog.lift (.waitDma2 (wsem s).sem (wblk b) (wslot s) (View.wordExact_bits rfl) ((View.wordExact_bits rfl).reshape _ _))
def waitE (b : Fin 24) (s : Fin 3) : Prog (TpuEff nD τ sig (Elt F) Λ₀ .tc) PUnit :=
  Prog.lift (.waitDma2 (esem s).sem (eblk b) (eslot s) ((Memref.isWhole_whole main_arg2).wordExact_slice rfl _ (eblk_words b)) (((Memref.isWhole_whole cc0_scratch2).wordExact_slice rfl _ (eslot_words s)).reshape _ _))
/-- The first two tiles' starts; -/
def mid : Prog (TpuEff nD τ sig (Elt F) Λ₀ .tc) PUnit :=
  startW 0 0 >>= fun _ => startE 0 0 >>= fun _ => startW 1 1 >>= fun _ => startE 1 1
/-- the first tile's arrival and its first panel's words and scales. -/
def last : Prog (TpuEff nD τ sig (Elt F) Λ₀ .tc) (Vec F S1x32x256 .i8 × Vec F S1x32x256 .i32) :=
  waitW 0 0 >>= fun _ => waitE 0 0 >>= fun _ => loadE evM (0 : Fin 3).val (0 : Fin 3).isLt 0 >>= fun e => loadW wvM (0 : Fin 3).val (0 : Fin 3).isLt 0 >>= fun w => Prog.ret (e, w)
/-- The matrix units after the six reads before the loop. -/
def cleared : Mxu F :=
  (((((Mxu.init.pop 0 0 256 fits_0_256).pop 0 64 256 fits_64_256).pop 0 128 256 fits_128_256).pop 1 0 256 fits_0_256).pop 1 64 256 fits_64_256).pop 1 128 256 fits_128_256

section Cut
variable (arg0 : Memref sig .tc .vmem S1536x256 .bf16) (harg0 : arg0.IsWhole) (arg1 : Memref sig .tc .vmem S256x6144 .bf16) (harg1 : arg1.IsWhole)
  (arg2 : Memref sig .tc .vmem S256x256 .bf16) (harg2 : arg2.IsWhole)

/-- What follows the loop. -/
def rest188 (k0_mxu11 : Mxu F) : Prog (TpuEff nD τ sig (Elt F) Λ₀ .tc) (Mxu F) := do
  let ⟨k0_mxu542, v794_r0⟩ : Σ' (k0_mxu542 : Mxu F), FVec F S256x256 .bf16 ← k0_part185 arg0 harg0 arg1 harg1 arg2 harg2 xM (Memref.isWhole_whole _) wM (Memref.isWhole_whole _) eM (Memref.isWhole_whole _) yM (Memref.isWhole_whole _) hM (Memref.isWhole_whole _) xvM (Memref.isWhole_whole _) wvM (Memref.isWhole_whole _) evM (Memref.isWhole_whole _) yvM (Memref.isWhole_whole _) hoM (Memref.isWhole_whole _) cc0_scratch5 cc0_scratch6 cc0_scratch7 cc0_scratch8 cc0_scratch9 k0_mxu11
  let k0_mxu549 : Mxu F ← k0_part186 arg0 harg0 arg1 harg1 arg2 harg2 xM (Memref.isWhole_whole _) wM (Memref.isWhole_whole _) eM (Memref.isWhole_whole _) yM (Memref.isWhole_whole _) hM (Memref.isWhole_whole _) xvM (Memref.isWhole_whole _) wvM (Memref.isWhole_whole _) evM (Memref.isWhole_whole _) yvM (Memref.isWhole_whole _) hoM (Memref.isWhole_whole _) cc0_scratch5 cc0_scratch6 cc0_scratch7 cc0_scratch8 cc0_scratch9 k0_mxu542 v794_r0
  let k0_mxu555 : Mxu F ← k0_part187 arg0 harg0 arg1 harg1 arg2 harg2 xM (Memref.isWhole_whole _) wM (Memref.isWhole_whole _) eM (Memref.isWhole_whole _) yM (Memref.isWhole_whole _) hM (Memref.isWhole_whole _) xvM (Memref.isWhole_whole _) wvM (Memref.isWhole_whole _) evM (Memref.isWhole_whole _) yvM (Memref.isWhole_whole _) hoM (Memref.isWhole_whole _) cc0_scratch5 cc0_scratch6 cc0_scratch7 cc0_scratch8 cc0_scratch9 k0_mxu549
  let c0_i32_748_r0 : BitVec 32 := 0#32
  let v858_r0 : DmaSems sig S1 := cc0_scratch9.slice (Rect.unit (s := S1) ![0] S1.size inb_S1_S1_0)
  let v859_r0 : DmaSems sig S_ := v858_r0.squeeze S_ squeezes_S1_S_
  Prog.lift (.enqueueDma hoM (.here hM) (.dma v859_r0.sem) (Memref.isWhole_whole cc0_scratch4).wordExact (Memref.isWhole_whole main_v1_1).wordExact ⟨Or.inl rfl, trivial⟩)
  let c0_i32_749_r0 : BitVec 32 := 0#32
  let c0_i32_750_r0 : BitVec 32 := 0#32
  let v860_r0 : DmaSems sig S1 := cc0_scratch8.slice (Rect.unit (s := S2) ![0] S1.size inb_S2_S1_0)
  let v861_r0 : DmaSems sig S_ := v860_r0.squeeze S_ squeezes_S1_S_
  let c0_i32_751_r0 : BitVec 32 := 0#32
  let c5632_i32_752_r0 : BitVec 32 := 5632#32
  let v862_r0 : Memref sig .tc .hbm S1536x256 .bf16 := yM.slice (Rect.unit (s := S1536x6144) ![0, 5632] S1536x256.size inb_S1536x6144_S1536x256_0_5632) (fun _ => rfl)
  let c0_i32_753_r0 : BitVec 32 := 0#32
  let c0_i32_754_r0 : BitVec 32 := 0#32
  let v863_r0 : Memref sig .tc .vmem S1x1536x256 .bf16 := yvM.slice (Rect.unit (s := S2x1536x256) ![0, 0, 0] S1x1536x256.size inb_S2x1536x256_S1x1536x256_0_0_0) (fun _ => rfl)
  let v864_r0 : Memref sig .tc .vmem S1536x256 .bf16 := v863_r0.squeeze S1536x256 squeezes_S1x1536x256_S1536x256
  Prog.lift (.waitDma2 v861_r0.sem v864_r0 v862_r0 (((Memref.isWhole_whole cc0_scratch3).wordExact_slice rfl _ wordsbf16_S2x1536x256_S1x1536x256_0_0_0).reshape _ _) ((Memref.isWhole_whole main_v1_0).wordExact_slice rfl _ wordsbf16_S1536x6144_S1536x256_0_5632))
  let c1_i32_755_r0 : BitVec 32 := 1#32
  let c1_i32_756_r0 : BitVec 32 := 1#32
  let v865_r0 : DmaSems sig S1 := cc0_scratch8.slice (Rect.unit (s := S2) ![1] S1.size inb_S2_S1_1)
  let v866_r0 : DmaSems sig S_ := v865_r0.squeeze S_ squeezes_S1_S_
  let c0_i32_757_r0 : BitVec 32 := 0#32
  let c5888_i32_758_r0 : BitVec 32 := 5888#32
  let v867_r0 : Memref sig .tc .hbm S1536x256 .bf16 := yM.slice (Rect.unit (s := S1536x6144) ![0, 5888] S1536x256.size inb_S1536x6144_S1536x256_0_5888) (fun _ => rfl)
  let c0_i32_759_r0 : BitVec 32 := 0#32
  let c0_i32_760_r0 : BitVec 32 := 0#32
  let v868_r0 : Memref sig .tc .vmem S1x1536x256 .bf16 := yvM.slice (Rect.unit (s := S2x1536x256) ![1, 0, 0] S1x1536x256.size inb_S2x1536x256_S1x1536x256_1_0_0) (fun _ => rfl)
  let v869_r0 : Memref sig .tc .vmem S1536x256 .bf16 := v868_r0.squeeze S1536x256 squeezes_S1x1536x256_S1536x256
  Prog.lift (.waitDma2 v866_r0.sem v869_r0 v867_r0 (((Memref.isWhole_whole cc0_scratch3).wordExact_slice rfl _ wordsbf16_S2x1536x256_S1x1536x256_1_0_0).reshape _ _) ((Memref.isWhole_whole main_v1_0).wordExact_slice rfl _ wordsbf16_S1536x6144_S1536x256_0_5888))
  pure k0_mxu555
-- func.func @multi_lora_mxfp4(%arg0: memref<1536x256xbf16, #tpu.memory_space<vmem>>, %arg1: memref<256x6144xbf16, #tpu.memory_space<vmem>>, %arg2: memref<256x256xbf16, #tpu.memory_space<vmem>>, %xM: memref<1536x16384xbf16, #tpu.memory_space<hbm>>, %wM: memref<2048x6144xi32, #tpu.memory_space<hbm>>, %eM: memref<512x6144xi8, #tpu.memory_space<hbm>>, %yM: memref<1536x6144xbf16, #tpu.memory_space<hbm>>, %hM: memref<1536x80xbf16, #tpu.memory_space<hbm>>, %xvM: memref<64x1536x256xbf16, #tpu.memory_space<vmem>>, %wvM: memref<3x2048x256xi32, #tpu.memory_space<vmem>>, %evM: memref<3x512x256xi8, #tpu.memory_space<vmem>>, %yvM: memref<2x1536x256xbf16, #tpu.memory_space<vmem>>, %hoM: memref<1536x80xbf16, #tpu.memory_space<vmem>>, %cc0_scratch5: memref<64x!tpu.dma_semaphore, #tpu.memory_space<semaphore_mem>>, %cc0_scratch6: memref<3x!tpu.dma_semaphore, #tpu.memory_space<semaphore_mem>>, %cc0_scratch7: memref<3x!tpu.dma_semaphore, #tpu.memory_space<semaphore_mem>>, %cc0_scratch8: memref<2x!tpu.dma_semaphore, #tpu.memory_space<semaphore_mem>>, %cc0_scratch9: memref<1x!tpu.dma_semaphore, #tpu.memory_space<semaphore_mem>>) attributes {dimension_semantics = [], scalar_prefetch = 0 : i64, scratch_operands = 10 : i64, tpu.core_type = #tpu.core_type<tc>}

set_option maxRecDepth 65536 in
theorem front_eq : k0_part188 (F := F) arg0 harg0 arg1 harg1 arg2 harg2 xM (Memref.isWhole_whole _) wM (Memref.isWhole_whole _) eM (Memref.isWhole_whole _) yM (Memref.isWhole_whole _) hM (Memref.isWhole_whole _) xvM (Memref.isWhole_whole _) wvM (Memref.isWhole_whole _) evM (Memref.isWhole_whole _) yvM (Memref.isWhole_whole _) hoM (Memref.isWhole_whole _) cc0_scratch5 cc0_scratch6 cc0_scratch7 cc0_scratch8 cc0_scratch9
    = (startXs 64 0 >>= fun _ => mid >>= fun _ => waitXs 64 0 >>= fun _ => last >>= fun ew =>
      k0_part184 arg0 harg0 arg1 harg1 arg2 harg2 xM (Memref.isWhole_whole _) wM (Memref.isWhole_whole _) eM (Memref.isWhole_whole _) yM (Memref.isWhole_whole _) hM (Memref.isWhole_whole _) xvM (Memref.isWhole_whole _) wvM (Memref.isWhole_whole _) evM (Memref.isWhole_whole _) yvM (Memref.isWhole_whole _) hoM (Memref.isWhole_whole _) cc0_scratch5 cc0_scratch6 cc0_scratch7 cc0_scratch8 cc0_scratch9 cleared (scaleBits (F := F) ew.1) (codes ew.2) (scaleRow (scaleBits (F := F) ew.1) 0 (slicesRow 0)) (extractStridedSlice S32x256 ![0, 0] (codes ew.2) (slicesBand 0))
        >>= fun u => rest188 arg0 harg0 arg1 harg1 arg2 harg2 u) := by
  sl_kernel_rfl

set_option maxRecDepth 65536 in
theorem loop_eq (e : Vec F S1x32x256 .i8) (w : Vec F S1x32x256 .i32) (u : Mxu F) : k0_part184 (F := F) arg0 harg0 arg1 harg1 arg2 harg2 xM (Memref.isWhole_whole _) wM (Memref.isWhole_whole _) eM (Memref.isWhole_whole _) yM (Memref.isWhole_whole _) hM (Memref.isWhole_whole _) xvM (Memref.isWhole_whole _) wvM (Memref.isWhole_whole _) evM (Memref.isWhole_whole _) yvM (Memref.isWhole_whole _) hoM (Memref.isWhole_whole _) cc0_scratch5 cc0_scratch6 cc0_scratch7 cc0_scratch8 cc0_scratch9 u (scaleBits (F := F) e) (codes w) (scaleRow (scaleBits (F := F) e) 0 (slicesRow 0)) (extractStridedSlice S32x256 ![0, 0] (codes w) (slicesBand 0))
    = (u.pushRhs 0 0 false (widen w (scaleBits (F := F) e) 0) >>= fun u8 => u8.pushRhs 1 0 false (widen w (scaleBits (F := F) e) 0) >>= fun u9 =>
      Scf.Loop.for k0_t1_loop k0_t1_ok u9 (fun t m => k0_t1_body (F := F) arg0 harg0 arg1 harg1 arg2 harg2 xM (Memref.isWhole_whole _) wM (Memref.isWhole_whole _) eM (Memref.isWhole_whole _) yM (Memref.isWhole_whole _) hM (Memref.isWhole_whole _) xvM (Memref.isWhole_whole _) wvM (Memref.isWhole_whole _) evM (Memref.isWhole_whole _) yvM (Memref.isWhole_whole _) hoM (Memref.isWhole_whole _) cc0_scratch5 cc0_scratch6 cc0_scratch7 cc0_scratch8 cc0_scratch9 u (scaleBits (F := F) e) (codes w) (scaleRow (scaleBits (F := F) e) 0 (slicesRow 0)) (extractStridedSlice S32x256 ![0, 0] (codes w) (slicesBand 0)) t m) >>= fun u11 => Prog.ret u11) := by
  sl_kernel_rfl
end Cut

end Cert.KernelIdeal.Prf
-- ==== Proof.CopiesRun.lean ====
/- The copies before the loop, run. -/
module

public import proofs.«01_k».proof.Proof.Copies

@[expose] public section

noncomputable section

namespace Cert.KernelIdeal.Prf

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

theorem held_congr (c : Dev nD) {sp : Space} {s : Shape} {e : EltTy} (M : Memref sig .tc sp s e) {f g : Buf (Elt F) (M.view.loc (c : Thread nD τ))}
    (h : M.view.read (Elt F) f = M.view.read (Elt F) g) : held c M f = held c M g := by
  refine pointsTo_congr fun i hi => ?_
  obtain ⟨x, -, rfl⟩ := Finset.mem_map.1 hi
  exact View.eq_of_read_eq (v := M.view) (congrFun h x)

section Copies
variable (c : Dev nD) (Xin : Buf (Elt F) ((c : Thread nD τ).loc main_v0))

abbrev xAt (j : Fin 64) : Buf (Elt F) ((xsrc j).view.loc (c : Thread nD τ)) := Xin

/-- The activations, panel by panel. -/
def xGlue : Buf (Elt F) (xvM.view.loc (c : Thread nD τ)) := fun i => (xsrc (i 0)).view.read (Elt F) (xAt c Xin (i 0)) (Fin.cons (i 1) (Fin.cons (i 2) (fun x => x.elim0)))

theorem castX : (⟨3, S1x1536x256.size⟩ : Shape).ShapeCasts S1536x256 := by decide
theorem read_xslot (s : Fin 64) (f : Buf (Elt F) (xvM.view.loc (c : Thread nD τ))) (i : S1536x256.Idx) :
    (xslot s).view.read (Elt F) f i = xvM.view.read (Elt F) f (Fin.cons s i : S64x1536x256.Idx) := by
  have e : (xslot s).view.read (Elt F) f i = shapeCast S1536x256 (xvM.view.readAt (Elt F) (Rect.unit (s := S64x1536x256) (slotOff s) S1x1536x256.size (xslot_inb s)).toLoadRect f) castX i := rfl
  rw [e, shapeCast_dropUnit_apply (n := 2) ![1536, 256]]
  show xvM.view.read (Elt F) f _ = _
  congr 1
  refine Shape.idx3_ext ?_ ?_ ?_
  · show s.val + 1 * 0 = s.val; omega
  · show 0 + 1 * (i 0).val = (i 0).val; omega
  · show 0 + 1 * (i 1).val = (i 1).val; omega
theorem read_xGlue (j : Fin 64) : (xslot j).view.read (Elt F) (xGlue c Xin) = (xsrc j).view.read (Elt F) (xAt c Xin j) := by
  funext i
  rw [read_xslot c]
  show xGlue c Xin (Fin.cons j i) = _
  unfold xGlue
  show (xsrc j).view.read (Elt F) (xAt c Xin j) _ = _
  congr 1
  exact Shape.idx_ext₂ rfl rfl

/-- A panel not yet copied, in flight, and copied. -/
def xIdle (j : Fin 64) : sProp 𝕄 := iprop(held c (xsrc j) (xAt c Xin j) ∗ (∃ f, held c (xslot j) f) ∗ cellP c (xsem j))
def xGo (j : Fin 64) : sProp 𝕄 := iprop(∃ f, flight c (xsem j) 24576 (xsrc j) (xslot j) (xAt c Xin j) f)
def xDone (j : Fin 64) : sProp 𝕄 := iprop(held c (xsrc j) (xAt c Xin j) ∗ held c (xslot j) (xGlue c Xin) ∗ cellP c (xsem j))
/-- Panels below `k` in state `A`, the others in state `B`. -/
def xs (A B : Fin 64 → sProp 𝕄) (k : ℕ) : sProp 𝕄 := bigSep Finset.univ (fun j : Fin 64 => if j.val < k then A j else B j)
def xRest (A B : Fin 64 → sProp 𝕄) (k : ℕ) : sProp 𝕄 := bigSep (Finset.univ.erase (f64 k)) (fun j : Fin 64 => if j.val < k then A j else B j)

theorem xs_out (A B : Fin 64 → sProp 𝕄) (k : ℕ) (h : k < 64) : xs A B k = iprop(B (f64 k) ∗ xRest A B k) := by
  have e : (Finset.univ : Finset (Fin 64)) = insert (f64 k) (Finset.univ.erase (f64 k)) := (Finset.insert_erase (Finset.mem_univ _)).symm
  have hv : (f64 k).val = k := Nat.mod_eq_of_lt h
  unfold xs xRest
  conv_lhs => rw [e]
  rw [bigSep_insert (Finset.notMem_erase _ _), if_neg (by omega)]; rfl
theorem xs_in (A B : Fin 64 → sProp 𝕄) (k : ℕ) (h : k < 64) : xs A B (k + 1) = iprop(A (f64 k) ∗ xRest A B k) := by
  have e : (Finset.univ : Finset (Fin 64)) = insert (f64 k) (Finset.univ.erase (f64 k)) := (Finset.insert_erase (Finset.mem_univ _)).symm
  have hv : (f64 k).val = k := Nat.mod_eq_of_lt h
  unfold xs xRest
  conv_lhs => rw [e]
  rw [bigSep_insert (Finset.notMem_erase _ _), if_pos (by omega)]
  have e2 : bigSep (Finset.univ.erase (f64 k)) (fun j : Fin 64 => if j.val < k + 1 then A j else B j)
      = bigSep (Finset.univ.erase (f64 k)) (fun j : Fin 64 => if j.val < k then A j else B j) := by
    refine bigSep_congr fun j hj => ?_
    have hne : j.val ≠ k := fun hk => (Finset.mem_erase.1 hj).1 (Fin.ext (hk.trans hv.symm))
    by_cases h1 : j.val < k
    · rw [if_pos h1, if_pos (by omega)]
    · rw [if_neg h1, if_neg (by omega)]
  rw [e2]; rfl
theorem xs_zero (A B : Fin 64 → sProp 𝕄) : xs A B 0 = bigSep Finset.univ B := bigSep_congr fun j _ => if_neg (by omega)
theorem xs_all (A B : Fin 64 → sProp 𝕄) : xs A B 64 = bigSep Finset.univ A := bigSep_congr fun j _ => if_pos j.isLt

abbrev owesP : sProp 𝕄 := iprop(∃ W, owes (c : Thread nD τ) 0 W)

theorem startX_run (k : Fin 64) : iprop(owesP (F := F) c ∗ xIdle c Xin k) ⊢ wp frame (wpE (defs₀ (F := F)) 𝒱₀ (c : Thread nD τ) none) Set.univ (startX (F := F) k)
    (fun _ => iprop(owesP (F := F) c ∗ xGo c Xin k)) := by
  unfold xIdle xGo startX
  iintro ⟨⟨%W, HW⟩, Hs, ⟨%f, Hd⟩, Hc⟩
  sl_exec
  sl_step
  isplitl [HW]; · iexists _; iexact HW
  iexists f; iexact Hc
theorem waitX_run (k : Fin 64) : iprop(owesP (F := F) c ∗ xGo c Xin k) ⊢ wp frame (wpE (defs₀ (F := F)) 𝒱₀ (c : Thread nD τ) none) Set.univ (waitX (F := F) k)
    (fun _ => iprop(owesP (F := F) c ∗ xDone c Xin k)) := by
  unfold xDone xGo waitX
  iintro ⟨⟨%W, HW⟩, ⟨%f, HF⟩⟩
  sl_exec
  sl_step
  isplitl [HW]; · iexists _; iexact HW
  isplitl [HF_src]; · iexact HF_src
  isplitl [HF_dst]
  · iapply (entails_of_eq (held_congr c (xslot k) ((read_landed c (xsrc k) (xslot k) (xAt c Xin k) f).trans (read_xGlue c Xin k).symm))); iexact HF_dst
  iexact HF

theorem startXs_run (n : ℕ) : ∀ k, k + n = 64 → (iprop(owesP (F := F) c ∗ xs (xGo c Xin) (xIdle c Xin) k) ⊢ wp frame (wpE (defs₀ (F := F)) 𝒱₀ (c : Thread nD τ) none) Set.univ (startXs (F := F) n k)
    (fun _ => iprop(owesP (F := F) c ∗ xs (xGo c Xin) (xIdle c Xin) 64))) := by
  induction n with
  | zero => intro k h; unfold startXs; rw [wp_ret, show k = 64 by omega]; iintro H; imodintro; iexact H
  | succ n ih =>
    intro k h
    unfold startXs
    rw [wp_bind, xs_out _ _ k (by omega)]
    iintro ⟨HW, Hb, Hr⟩
    iapply (wp_wand_r Idealize.ShloMosaic.frame (wpE (defs₀ (F := F)) 𝒱₀ (c : Thread nD τ) none) Set.univ)
    isplitl [HW Hb]
    · iapply (startX_run c Xin (f64 k)); isplitl [HW] <;> iassumption
    iintro %_ ⟨HW, Hg⟩
    iapply (ih (k + 1) (by omega))
    isplitl [HW]; · iexact HW
    iapply (entails_of_eq (xs_in (xGo c Xin) (xIdle c Xin) k (by omega)).symm)
    isplitl [Hg] <;> iassumption
theorem waitXs_run (n : ℕ) : ∀ k, k + n = 64 → (iprop(owesP (F := F) c ∗ xs (xDone c Xin) (xGo c Xin) k) ⊢ wp frame (wpE (defs₀ (F := F)) 𝒱₀ (c : Thread nD τ) none) Set.univ (waitXs (F := F) n k)
    (fun _ => iprop(owesP (F := F) c ∗ xs (xDone c Xin) (xGo c Xin) 64))) := by
  induction n with
  | zero => intro k h; unfold waitXs; rw [wp_ret, show k = 64 by omega]; iintro H; imodintro; iexact H
  | succ n ih =>
    intro k h
    unfold waitXs
    rw [wp_bind, xs_out _ _ k (by omega)]
    iintro ⟨HW, Hb, Hr⟩
    iapply (wp_wand_r Idealize.ShloMosaic.frame (wpE (defs₀ (F := F)) 𝒱₀ (c : Thread nD τ) none) Set.univ)
    isplitl [HW Hb]
    · iapply (waitX_run c Xin (f64 k)); isplitl [HW] <;> iassumption
    iintro %_ ⟨HW, Hg⟩
    iapply (ih (k + 1) (by omega))
    isplitl [HW]; · iexact HW
    iapply (entails_of_eq (xs_in (xDone c Xin) (xGo c Xin) k (by omega)).symm)
    isplitl [Hg] <;> iassumption
end Copies

section First
variable (c : Dev nD) (W : Buf (Elt F) ((c : Thread nD τ).loc main_arg1)) (E : Buf (Elt F) ((c : Thread nD τ).loc main_arg2))

/-- A tile's weights and scales at home and their slots idle; in flight; landed. -/
def wIdle (b : Fin 24) (s : Fin 3) : sProp 𝕄 := iprop(held c (wblk b) (wAt c W b) ∗ (∃ f, held c (wslot s) f) ∗ cellP c (wsem s))
def eIdle (b : Fin 24) (s : Fin 3) : sProp 𝕄 := iprop(held c (eblk b) (eAt c E b) ∗ (∃ f, held c (eslot s) f) ∗ cellP c (esem s))
def wGo (b : Fin 24) (s : Fin 3) : sProp 𝕄 := iprop(∃ f, flight c (wsem s) 65536 (wblk b) (wslot s) (wAt c W b) f)
def eGo (b : Fin 24) (s : Fin 3) : sProp 𝕄 := iprop(∃ f, flight c (esem s) 4096 (eblk b) (eslot s) (eAt c E b) f)

theorem mid_run : iprop(owesP (F := F) c ∗ wIdle c W 0 0 ∗ eIdle c E 0 0 ∗ wIdle c W 1 1 ∗ eIdle c E 1 1)
    ⊢ wp frame (wpE (defs₀ (F := F)) 𝒱₀ (c : Thread nD τ) none) Set.univ (mid (F := F))
      (fun _ => iprop(owesP (F := F) c ∗ wGo c W 0 0 ∗ eGo c E 0 0 ∗ wGo c W 1 1 ∗ eGo c E 1 1)) := by
  unfold wIdle eIdle wGo eGo mid startW startE
  iintro ⟨⟨%WW, HW⟩, ⟨H1, ⟨%f1, H2⟩, H3⟩, ⟨H4, ⟨%f2, H5⟩, H6⟩, ⟨H7, ⟨%f3, H8⟩, H9⟩, ⟨H10, ⟨%f4, H11⟩, H12⟩⟩
  sl_exec
  sl_step
  isplitl [HW]; · iexists _; iexact HW
  isplitl [H3]; · iexists f1; iexact H3
  isplitl [H6]; · iexists f2; iexact H6
  isplitl [H9]; · iexists f3; iexact H9
  iexists f4; iexact H12

/-- The first panel's words and scales, from the operands. -/
def firstW : Vec F S1x32x256 .i32 := rowsW ((wblk 0).view.read (Elt F) (wAt c W 0)) 0
def firstE : Vec F S1x32x256 .i8 := rowsE ((eblk 0).view.read (Elt F) (eAt c E 0)) 0

theorem loadW_run (s : Fin 3) (p : Fin 64) (f : Buf (Elt F) (wvM.view.loc (c : Thread nD τ))) : held c (wslot s) f
    ⊢ wp frame (wpE (defs₀ (F := F)) 𝒱₀ (c : Thread nD τ) none) Set.univ (loadW (F := F) wvM s.val s.isLt p) (fun v => iprop(⌜v = wRaw c s f p⌝ ∗ held c (wslot s) f)) := by
  unfold loadW
  iintro H
  sl_exec
  sl_step
  isplitr; · ipureintro; rfl
  iexact H
theorem loadE_run (s : Fin 3) (p : Fin 16) (f : Buf (Elt F) (evM.view.loc (c : Thread nD τ))) : held c (eslot s) f
    ⊢ wp frame (wpE (defs₀ (F := F)) 𝒱₀ (c : Thread nD τ) none) Set.univ (loadE (F := F) evM s.val s.isLt p) (fun v => iprop(⌜v = eRaw c s f p⌝ ∗ held c (eslot s) f)) := by
  unfold loadE
  iintro H
  sl_exec
  sl_step
  isplitr; · ipureintro; rfl
  iexact H

theorem waitW_run (b : Fin 24) (s : Fin 3) : iprop(owesP (F := F) c ∗ wGo c W b s)
    ⊢ wp frame (wpE (defs₀ (F := F)) 𝒱₀ (c : Thread nD τ) none) Set.univ (waitW (F := F) b s)
      (fun _ => iprop(owesP (F := F) c ∗ held c (wblk b) (wAt c W b)
        ∗ (∃ f, ⌜(wslot s).view.read (Elt F) f = (wblk b).view.read (Elt F) (wAt c W b)⌝ ∗ held c (wslot s) f) ∗ cellP c (wsem s))) := by
  unfold wGo waitW
  iintro ⟨⟨%WW, HW⟩, ⟨%f1, H1⟩⟩
  sl_exec
  sl_step
  isplitl [HW]; · iexists _; iexact HW
  isplitl [H1_src]; · iexact H1_src
  isplitl [H1_dst]
  · iexists _; isplitr
    · ipureintro; exact read_landed c (wblk b) (wslot s) (wAt c W b) f1
    iexact H1_dst
  iexact H1
theorem waitE_run (b : Fin 24) (s : Fin 3) : iprop(owesP (F := F) c ∗ eGo c E b s)
    ⊢ wp frame (wpE (defs₀ (F := F)) 𝒱₀ (c : Thread nD τ) none) Set.univ (waitE (F := F) b s)
      (fun _ => iprop(owesP (F := F) c ∗ held c (eblk b) (eAt c E b)
        ∗ (∃ f, ⌜(eslot s).view.read (Elt F) f = (eblk b).view.read (Elt F) (eAt c E b)⌝ ∗ held c (eslot s) f) ∗ cellP c (esem s))) := by
  unfold eGo waitE
  iintro ⟨⟨%WW, HW⟩, ⟨%f1, H1⟩⟩
  sl_exec
  sl_step
  isplitl [HW]; · iexists _; iexact HW
  isplitl [H1_src]; · iexact H1_src
  isplitl [H1_dst]
  · iexists _; isplitr
    · ipureintro; exact read_landed c (eblk b) (eslot s) (eAt c E b) f1
    iexact H1_dst
  iexact H1

theorem last_run : iprop(owesP (F := F) c ∗ wGo c W 0 0 ∗ eGo c E 0 0)
    ⊢ wp frame (wpE (defs₀ (F := F)) 𝒱₀ (c : Thread nD τ) none) Set.univ (last (F := F))
      (fun r => iprop(⌜r = (firstE c E, firstW c W)⌝ ∗ owesP (F := F) c ∗ held c (wblk 0) (wAt c W 0) ∗ held c (eblk 0) (eAt c E 0)
        ∗ (∃ f, ⌜(wslot 0).view.read (Elt F) f = (wblk 0).view.read (Elt F) (wAt c W 0)⌝ ∗ held c (wslot 0) f) ∗ cellP c (wsem 0)
        ∗ (∃ f, ⌜(eslot 0).view.read (Elt F) f = (eblk 0).view.read (Elt F) (eAt c E 0)⌝ ∗ held c (eslot 0) f) ∗ cellP c (esem 0))) := by
  unfold last
  iintro ⟨HW, H1, H2⟩
  rw [wp_bind]
  iapply (wp_wand_r Idealize.ShloMosaic.frame (wpE (defs₀ (F := F)) 𝒱₀ (c : Thread nD τ) none) Set.univ)
  isplitl [HW H1]
  · iapply (waitW_run c W 0 0); isplitl [HW] <;> iassumption
  iintro %_ ⟨HW, Hwb, ⟨%f1, %h1, Hws⟩, Hwc⟩
  rw [wp_bind]
  iapply (wp_wand_r Idealize.ShloMosaic.frame (wpE (defs₀ (F := F)) 𝒱₀ (c : Thread nD τ) none) Set.univ)
  isplitl [HW H2]
  · iapply (waitE_run c E 0 0); isplitl [HW] <;> iassumption
  iintro %_ ⟨HW, Heb, ⟨%f2, %h2, Hes⟩, Hec⟩
  rw [wp_bind]
  iapply (wp_wand_r Idealize.ShloMosaic.frame (wpE (defs₀ (F := F)) 𝒱₀ (c : Thread nD τ) none) Set.univ)
  isplitl [Hes]
  · iapply (loadE_run c 0 0 f2); iexact Hes
  iintro %e ⟨%he, Hes⟩
  rw [wp_bind]
  iapply (wp_wand_r Idealize.ShloMosaic.frame (wpE (defs₀ (F := F)) 𝒱₀ (c : Thread nD τ) none) Set.univ)
  isplitl [Hws]
  · iapply (loadW_run c 0 0 f1); iexact Hws
  iintro %w ⟨%hw, Hws⟩
  rw [wp_ret]
  imodintro
  isplitr
  · ipureintro
    rw [he, hw]
    refine Prod.ext ((eRaw_eq c 0 f2 0).trans ?_) ((wRaw_eq c 0 f1 0).trans ?_)
    · unfold firstE; exact congrArg (fun v => rowsE v 0) h2
    · unfold firstW; exact congrArg (fun v => rowsW v 0) h1
  isplitl [HW]; · iexact HW
  isplitl [Hwb]; · iexact Hwb
  isplitl [Heb]; · iexact Heb
  isplitl [Hws]
  · iexists f1; isplitr
    · ipureintro; exact h1
    iexact Hws
  isplitl [Hwc]; · iexact Hwc
  isplitl [Hes]
  · iexists f2; isplitr
    · ipureintro; exact h2
    iexact Hes
  iexact Hec
end First

end Cert.KernelIdeal.Prf
-- ==== Proof.Epilogue.lean ====
/- The end of the kernel: the last tile's sums, the lora activations, and the last copies. -/
module

public import proofs.«01_k».proof.Proof.CopiesRun

@[expose] public section

noncomputable section

namespace Cert.KernelIdeal.Prf

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The units after the loop -/

section Units
variable (s : Mxu F) (T : Tile16 F) (x : Fin 6 → Tile16 F)

def e5 : Mxu F := f5 (s2 s x) (stg T) x
def e6 : Mxu F := f6 (e5 s T x) (stg T) x
def e7 : Mxu F := f7 (e6 s T x) (stg T) x
def e8 : Mxu F := f8 (e7 s T x) (stg T) x

/-- Nothing staged, sums `S` to be read. -/
structure Ends (s : Mxu F) (S : Sums F) : Prop where
  reg0 : ∀ q, s.reg q 0 = none
  reg1 : ∀ q, s.reg q 1 = none
  live : ∀ q R, s.live q R = decide (R.val < 768)
  rd0 : ∀ q, s.read q 0 fits_0_256 = S q 0
  rd1 : ∀ q, s.read q 64 fits_64_256 = S q 1
  rd2 : ∀ q, s.read q 128 fits_128_256 = S q 2

theorem read_e5 : (e5 s T x).read 1 64 fits_64_256 = s.read 1 64 fits_64_256 := by
  unfold e5 f5 m5
  rw [Mxu.read_accBy_ne _ _ _ _ _ _ _ _ _ (by decide), Mxu.read_pop_ne _ _ _ _ _ _ _ (by decide), read_s2 s x _ _ (by decide)]
theorem read_e6 (q : Fin 2) : (e6 s T x).read q 128 fits_128_256 = s.read q 128 fits_128_256 := by
  unfold e6 f6 m6 e5 f5 m5
  rw [Mxu.read_accBy_ne _ _ _ _ _ _ _ _ _ (by omega), Mxu.read_pop_ne _ _ _ _ _ _ _ (by omega), Mxu.read_accBy_ne _ _ _ _ _ _ _ _ _ (by omega), Mxu.read_pop_ne _ _ _ _ _ _ _ (by omega), read_s2 s x _ _ (by decide)]
theorem read_e7 : (e7 s T x).read 1 128 fits_128_256 = s.read 1 128 fits_128_256 := by
  unfold e7 f7 m7
  rw [Mxu.read_accBy_ne _ _ _ _ _ _ _ _ _ (by decide), Mxu.read_pop_ne _ _ _ _ _ _ _ (by decide), read_e6 s T x]

theorem gmr_e5 (q : Fin 2) (h : ∀ q, s.reg q 0 = some (stg T)) : (e5 s T x).gmr q = some (stg T) := s2_gmr s T x q h
theorem gmr_e6 (q : Fin 2) (h : ∀ q, s.reg q 0 = some (stg T)) : (e6 s T x).gmr q = some (stg T) := s2_gmr s T x q h
theorem gmr_e7 (q : Fin 2) (h : ∀ q, s.reg q 0 = some (stg T)) : (e7 s T x).gmr q = some (stg T) := s2_gmr s T x q h

theorem e8_ends {n : Bool} {S : Sums F} (g : Good s 0 1 T n S) :
    Ends (e8 s T x) (fun q a => pass (x (blk6 q a)) T) := by
  have hst : ∀ q, s.staged q 0 = stg T := fun q => by rw [Mxu.staged_eq, g.reg]; rfl
  constructor
  · intro q
    show (s2 s x).reg q 0 = none
    exact s2_reg0 s x q
  · intro q
    show (s2 s x).reg q 1 = none
    rw [s2_reg1 s x, g.oth]
  · intro q R
    unfold e8 f8 m8 e7 f7 m7 e6 f6 m6 e5 f5 m5
    simp only [Mxu.live_accBy, Mxu.live_pop, s2_live, g.live]
    by_cases h1 : R.val < 256 <;> by_cases h2 : R.val < 512 <;> by_cases h3 : R.val < 768 <;> fin_cases q <;> simp [h1, h2, h3] <;> omega
  · intro q
    fin_cases q
    · show (e8 s T x).read 0 0 fits_0_256 = pass (x 0) T
      unfold e8 f8 m8 e7 f7 m7 e6 f6 m6 e5 f5 m5 s2 f2
      rw [Mxu.read_accBy_ne _ _ _ _ _ _ _ _ _ (by decide), Mxu.read_pop_ne _ _ _ _ _ _ _ (by decide), Mxu.read_accBy_ne _ _ _ _ _ _ _ _ _ (by decide), Mxu.read_pop_ne _ _ _ _ _ _ _ (by decide),
        Mxu.read_accBy_ne _ _ _ _ _ _ _ _ _ (by decide), Mxu.read_pop_ne _ _ _ _ _ _ _ (by decide), Mxu.read_accBy_ne _ _ _ _ _ _ _ _ _ (by decide), Mxu.read_pop_ne _ _ _ _ _ _ _ (by decide),
        Mxu.read_accLhs_ne _ _ _ _ _ _ _ _ _ (by decide), Mxu.read_pop_ne _ _ _ _ _ _ _ (by decide)]
      unfold f1
      rw [Mxu.read_accLhs_of_not_live _ _ _ _ _ _ (fun i => Mxu.live_pop_row _ _ _ _ _), Mxu.staged_eq, Mxu.reg_pop, g.reg]
      rfl
    · show (e8 s T x).read 1 0 fits_0_256 = pass (x 3) T
      unfold e8 f8 m8 e7 f7 m7 e6 f6 m6 e5 f5 m5 s2 f2
      rw [Mxu.read_accBy_ne _ _ _ _ _ _ _ _ _ (by decide), Mxu.read_pop_ne _ _ _ _ _ _ _ (by decide), Mxu.read_accBy_ne _ _ _ _ _ _ _ _ _ (by decide), Mxu.read_pop_ne _ _ _ _ _ _ _ (by decide),
        Mxu.read_accBy_ne _ _ _ _ _ _ _ _ _ (by decide), Mxu.read_pop_ne _ _ _ _ _ _ _ (by decide), Mxu.read_accBy_ne _ _ _ _ _ _ _ _ _ (by decide), Mxu.read_pop_ne _ _ _ _ _ _ _ (by decide),
        Mxu.read_accLhs_of_not_live _ _ _ _ _ _ (fun i => Mxu.live_pop_row _ _ _ _ _), Mxu.staged_eq, Mxu.reg_pop]
      unfold f1
      rw [Mxu.reg_accLhs_ne _ _ _ _ _ _ _ _ (by decide), Mxu.reg_pop, g.reg]
      rfl
  · intro q
    fin_cases q
    · show (e8 s T x).read 0 64 fits_64_256 = pass (x 1) T
      unfold e8 f8 m8 e7 f7 m7 e6 f6 m6 e5 f5 m5
      rw [Mxu.read_accBy_ne _ _ _ _ _ _ _ _ _ (by decide), Mxu.read_pop_ne _ _ _ _ _ _ _ (by decide), Mxu.read_accBy_ne _ _ _ _ _ _ _ _ _ (by decide), Mxu.read_pop_ne _ _ _ _ _ _ _ (by decide),
        Mxu.read_accBy_ne _ _ _ _ _ _ _ _ _ (by decide), Mxu.read_pop_ne _ _ _ _ _ _ _ (by decide), Mxu.read_accBy_of_not_live _ _ _ _ _ _ (fun i => Mxu.live_pop_row _ _ _ _ _)]
      rfl
    · show (e8 s T x).read 1 64 fits_64_256 = pass (x 4) T
      unfold e8 f8 m8 e7 f7 m7 e6 f6 m6
      rw [Mxu.read_accBy_ne _ _ _ _ _ _ _ _ _ (by decide), Mxu.read_pop_ne _ _ _ _ _ _ _ (by decide), Mxu.read_accBy_ne _ _ _ _ _ _ _ _ _ (by decide), Mxu.read_pop_ne _ _ _ _ _ _ _ (by decide),
        Mxu.read_accBy_of_not_live _ _ _ _ _ _ (fun i => Mxu.live_pop_row _ _ _ _ _)]
      rfl
  · intro q
    fin_cases q
    · show (e8 s T x).read 0 128 fits_128_256 = pass (x 2) T
      unfold e8 f8 m8 e7 f7 m7
      rw [Mxu.read_accBy_ne _ _ _ _ _ _ _ _ _ (by decide), Mxu.read_pop_ne _ _ _ _ _ _ _ (by decide),
        Mxu.read_accBy_of_not_live _ _ _ _ _ _ (fun i => Mxu.live_pop_row _ _ _ _ _)]
      rfl
    · show (e8 s T x).read 1 128 fits_128_256 = pass (x 5) T
      unfold e8 f8 m8
      rw [Mxu.read_accBy_of_not_live _ _ _ _ _ _ (fun i => Mxu.live_pop_row _ _ _ _ _)]
      rfl
/-- The six reads at the end. -/
def p1 : Mxu F := s.pop 0 0 256 fits_0_256
def p2 : Mxu F := (p1 s).pop 1 0 256 fits_0_256
def p3 : Mxu F := (p2 s).pop 0 64 256 fits_64_256
def p4 : Mxu F := (p3 s).pop 1 64 256 fits_64_256
def p5 : Mxu F := (p4 s).pop 0 128 256 fits_128_256
def p6 : Mxu F := (p5 s).pop 1 128 256 fits_128_256
theorem read_p1 : (p1 s).read 1 0 fits_0_256 = s.read 1 0 fits_0_256 := by
  unfold p1; rw [Mxu.read_pop_ne _ _ _ _ _ _ _ (by decide)]
theorem read_p2 : (p2 s).read 0 64 fits_64_256 = s.read 0 64 fits_64_256 := by
  unfold p2 p1; rw [Mxu.read_pop_ne _ _ _ _ _ _ _ (by decide), Mxu.read_pop_ne _ _ _ _ _ _ _ (by decide)]
theorem read_p3 : (p3 s).read 1 64 fits_64_256 = s.read 1 64 fits_64_256 := by
  unfold p3 p2 p1; rw [Mxu.read_pop_ne _ _ _ _ _ _ _ (by decide), Mxu.read_pop_ne _ _ _ _ _ _ _ (by decide), Mxu.read_pop_ne _ _ _ _ _ _ _ (by decide)]
theorem read_p4 : (p4 s).read 0 128 fits_128_256 = s.read 0 128 fits_128_256 := by
  unfold p4 p3 p2 p1; rw [Mxu.read_pop_ne _ _ _ _ _ _ _ (by decide), Mxu.read_pop_ne _ _ _ _ _ _ _ (by decide), Mxu.read_pop_ne _ _ _ _ _ _ _ (by decide), Mxu.read_pop_ne _ _ _ _ _ _ _ (by decide)]
theorem read_p5 : (p5 s).read 1 128 fits_128_256 = s.read 1 128 fits_128_256 := by
  unfold p5 p4 p3 p2 p1; rw [Mxu.read_pop_ne _ _ _ _ _ _ _ (by decide), Mxu.read_pop_ne _ _ _ _ _ _ _ (by decide), Mxu.read_pop_ne _ _ _ _ _ _ _ (by decide), Mxu.read_pop_ne _ _ _ _ _ _ _ (by decide), Mxu.read_pop_ne _ _ _ _ _ _ _ (by decide)]
theorem p6_drained {S : Sums F} (g : Ends s S) : (p6 s).Drained := by
  constructor
  · intro q r
    show (s.reg q r).isNone = true
    fin_cases r
    · show (s.reg q 0).isNone = true; rw [g.reg0]; rfl
    · show (s.reg q 1).isNone = true; rw [g.reg1]; rfl
  · intro q R
    unfold p6 p5 p4 p3 p2 p1
    simp only [Mxu.live_pop, g.live]
    by_cases h1 : R.val < 256 <;> by_cases h2 : R.val < 512 <;> by_cases h3 : R.val < 768 <;> fin_cases q <;> simp [h1, h2, h3] <;> omega
end Units

/-! ## The program after the loop -/

theorem inbY (j : Fin 2) (r : Fin 6) : ∀ a, (![j.val, 256 * r.val, 0] : Fin 3 → Nat) a + S1x256x256.size a ≤ S2x1536x256.size a := by revert j r; decide
theorem packY (j : Fin 2) (r : Fin 6) : (Rect.unit (s := S2x1536x256) ![j.val, 256 * r.val, 0] S1x256x256.size (inbY j r)).PackedRows (EltTy.packing .bf16) := by revert j r; decide
theorem inbO (r : Fin 6) : ∀ a, (![256 * r.val, 0] : Fin 2 → Nat) a + S256x80.size a ≤ S1536x80.size a := by revert r; decide
theorem packO (r : Fin 6) : (Rect.unit (s := S1536x80) ![256 * r.val, 0] S256x80.size (inbO r)).PackedRows (EltTy.packing .bf16) := by revert r; decide

def startY (b : Fin 24) (s : Fin 2) : Prog (TpuEff nD τ sig (Elt F) Λ₀ .tc) PUnit :=
  Prog.lift (.enqueueDma (yslot s) (.here (yblk b)) (.dma (ysem s).sem) (((Memref.isWhole_whole cc0_scratch3).wordExact_slice rfl _ (yslot_words s)).reshape _ _) ((Memref.isWhole_whole main_v1_0).wordExact_slice rfl _ (yblk_words b)) ⟨Or.inl rfl, trivial⟩)
def waitY (b : Fin 24) (s : Fin 2) : Prog (TpuEff nD τ sig (Elt F) Λ₀ .tc) PUnit :=
  Prog.lift (.waitDma2 (ysem s).sem (yslot s) (yblk b) (((Memref.isWhole_whole cc0_scratch3).wordExact_slice rfl _ (yslot_words s)).reshape _ _) ((Memref.isWhole_whole main_v1_0).wordExact_slice rfl _ (yblk_words b)))
def startH : Prog (TpuEff nD τ sig (Elt F) Λ₀ .tc) PUnit :=
  Prog.lift (.enqueueDma hoM (.here hM) (.dma (hsem 0).sem) (Memref.isWhole_whole cc0_scratch4).wordExact (Memref.isWhole_whole main_v1_1).wordExact ⟨Or.inl rfl, trivial⟩)
def waitH : Prog (TpuEff nD τ sig (Elt F) Λ₀ .tc) PUnit :=
  Prog.lift (.waitDma2 (hsem 0).sem hoM hM (Memref.isWhole_whole cc0_scratch4).wordExact (Memref.isWhole_whole main_v1_1).wordExact)

abbrev putYr (j : Fin 2) (r : Fin 6) (v : FVec F S256x256 .f32) : Prog (TpuEff nD τ sig (Elt F) Λ₀ .tc) PUnit :=
  putY (F := F) yvM (Memref.isWhole_whole _) ![j.val, 256 * r.val, 0] (inbY j r) (packY j r) v
/-- The first 80 columns of a block, rounded, into the lora activations' buffer. -/
def poppedH (v : FVec F S256x256 .f32) : FVec F S256x80 .bf16 :=
  shapeCast S256x80 (truncf .bf16 (extractStridedSlice S256x80 ![0, 0] v slices_S256x256_o0_0_S256x80) bitsLt_bf16_f32) shapeCasts_S256x80_S256x80
def putH (r : Fin 6) (v : FVec F S256x256 .f32) : Prog (TpuEff nD τ sig (Elt F) Λ₀ .tc) PUnit := do
  let _ ← Prog.lift (.load hoM (Rect.unit (s := S1536x80) ![256 * r.val, 0] S256x80.size (inbO r)).toLoadRect (View.loadsAt_vmem h_S256x80))
  Prog.lift (.store hoM (Rect.unit (s := S1536x80) ![256 * r.val, 0] S256x80.size (inbO r)) (poppedH v) Finset.univ (View.stores_vmem h_S256x80 ((Memref.isWhole_whole cc0_scratch4).storeExact_slice rfl _ (packO r)) (fun _ => rfl)) (.inl rfl))

section Prog
variable (arg0 : Memref sig .tc .vmem S1536x256 .bf16) (harg0 : arg0.IsWhole) (arg1 : Memref sig .tc .vmem S256x6144 .bf16) (harg1 : arg1.IsWhole)
  (arg2 : Memref sig .tc .vmem S256x256 .bf16) (harg2 : arg2.IsWhole)

/-- The last tile's sums out, the lora activations' in. -/
def epiY (s : Mxu F) : Prog (TpuEff nD τ sig (Elt F) Λ₀ .tc) (Mxu F) := do
  putYr (F := F) 1 0 (s.read 0 0 fits_0_256)
  let x0 ← loadH (F := F) arg0 0
  let s := (s.pop 0 0 256 fits_0_256).accLhs 0 0 0 x0 fits_0_256
  putYr (F := F) 1 3 (s.read 1 0 fits_0_256)
  let x3 ← loadH (F := F) arg0 3
  let s := (s.pop 1 0 256 fits_0_256).accLhs 1 0 0 x3 fits_0_256
  putYr (F := F) 1 1 (s.read 0 64 fits_64_256)
  let x1 ← loadH (F := F) arg0 1
  let s ← (s.pop 0 64 256 fits_64_256).accLhsLoaded 0 64 x1 fits_64_256
  putYr (F := F) 1 4 (s.read 1 64 fits_64_256)
  let x4 ← loadH (F := F) arg0 4
  let s ← (s.pop 1 64 256 fits_64_256).accLhsLoaded 1 64 x4 fits_64_256
  putYr (F := F) 1 2 (s.read 0 128 fits_128_256)
  let x2 ← loadH (F := F) arg0 2
  let s ← (s.pop 0 128 256 fits_128_256).accLhsLoaded 0 128 x2 fits_128_256
  putYr (F := F) 1 5 (s.read 1 128 fits_128_256)
  let x5 ← loadH (F := F) arg0 5
  let s ← (s.pop 1 128 256 fits_128_256).accLhsLoaded 1 128 x5 fits_128_256
  Prog.ret s
def epiH (s : Mxu F) : Prog (TpuEff nD τ sig (Elt F) Λ₀ .tc) (Mxu F) := do
  putH (F := F) 0 (s.read 0 0 fits_0_256)
  putH (F := F) 3 ((p1 s).read 1 0 fits_0_256)
  putH (F := F) 1 ((p2 s).read 0 64 fits_64_256)
  putH (F := F) 4 ((p3 s).read 1 64 fits_64_256)
  putH (F := F) 2 ((p4 s).read 0 128 fits_128_256)
  putH (F := F) 5 ((p5 s).read 1 128 fits_128_256)
  Prog.ret (p6 s)

set_option maxRecDepth 65536 in
theorem rest_eq (u : Mxu F) : rest188 arg0 harg0 arg1 harg1 arg2 harg2 u
    = (waitY 21 1 >>= fun _ => startY 22 0 >>= fun _ => epiY arg0 u >>= fun u1 => startY 23 1 >>= fun _ => epiH u1 >>= fun u2 =>
      startH >>= fun _ => waitY 22 0 >>= fun _ => waitY 23 1 >>= fun _ => Prog.ret u2) := by
  sl_kernel_rfl

set_option maxRecDepth 65536 in
theorem cc0_eq : cc0_multi_lora_mxfp4 (F := F) arg0 harg0 arg1 harg1 arg2 harg2 xM (Memref.isWhole_whole _) wM (Memref.isWhole_whole _) eM (Memref.isWhole_whole _) yM (Memref.isWhole_whole _) hM (Memref.isWhole_whole _) xvM (Memref.isWhole_whole _) wvM (Memref.isWhole_whole _) evM (Memref.isWhole_whole _) yvM (Memref.isWhole_whole _) hoM (Memref.isWhole_whole _) cc0_scratch5 cc0_scratch6 cc0_scratch7 cc0_scratch8 cc0_scratch9
    = (k0_part188 (F := F) arg0 harg0 arg1 harg1 arg2 harg2 xM (Memref.isWhole_whole _) wM (Memref.isWhole_whole _) eM (Memref.isWhole_whole _) yM (Memref.isWhole_whole _) hM (Memref.isWhole_whole _) xvM (Memref.isWhole_whole _) wvM (Memref.isWhole_whole _) evM (Memref.isWhole_whole _) yvM (Memref.isWhole_whole _) hoM (Memref.isWhole_whole _) cc0_scratch5 cc0_scratch6 cc0_scratch7 cc0_scratch8 cc0_scratch9 >>= fun u => waitH >>= fun _ => u.exit >>= fun _ => Prog.ret ⟨⟩) := by
  sl_kernel_rfl
end Prog

end Cert.KernelIdeal.Prf
-- ==== Proof.EpilogueRun.lean ====
/- The end of the kernel, run. -/
module

public import proofs.«01_k».proof.Proof.Epilogue

@[expose] public section

noncomputable section

namespace Cert.KernelIdeal.Prf

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Ends
variable (c : Dev nD) (arg0 : Memref sig .tc .vmem S1536x256 .bf16) (harg0 : arg0.IsWhole) (arg1 : Memref sig .tc .vmem S256x6144 .bf16) (harg1 : arg1.IsWhole)
  (arg2 : Memref sig .tc .vmem S256x256 .bf16) (harg2 : arg2.IsWhole)
  (g0 : Buf (Elt F) (arg0.view.loc (c : Thread nD τ)))

theorem startY_run (b : Fin 24) (s : Fin 2) (g : Buf (Elt F) ((yslot s).view.loc (c : Thread nD τ))) :
    iprop(owesP (F := F) c ∗ held c (yslot s) g ∗ cellP c (ysem s) ∗ ∃ f, held c (yblk b) f)
      ⊢ wp frame (wpE (defs₀ (F := F)) 𝒱₀ (c : Thread nD τ) none) Set.univ (startY (F := F) b s)
        (fun _ => iprop(owesP (F := F) c ∗ ∃ f, flight c (ysem s) 24576 (yslot s) (yblk b) g f)) := by
  unfold startY
  iintro ⟨⟨%W, HW⟩, Hs, Hc, ⟨%f, Hd⟩⟩
  sl_exec
  sl_step
  isplitl [HW]; · iexists _; iexact HW
  iexists f; iexact Hc
theorem waitY_run (b : Fin 24) (s : Fin 2) (g : Buf (Elt F) ((yslot s).view.loc (c : Thread nD τ))) :
    iprop(owesP (F := F) c ∗ ∃ f, flight c (ysem s) 24576 (yslot s) (yblk b) g f)
      ⊢ wp frame (wpE (defs₀ (F := F)) 𝒱₀ (c : Thread nD τ) none) Set.univ (waitY (F := F) b s)
        (fun _ => iprop(owesP (F := F) c ∗ held c (yslot s) g ∗ cellP c (ysem s) ∗ ∃ f, ⌜(yblk b).view.read (Elt F) f = (yslot s).view.read (Elt F) g⌝ ∗ held c (yblk b) f)) := by
  unfold waitY
  iintro ⟨⟨%W, HW⟩, ⟨%f, HF⟩⟩
  sl_exec
  sl_step
  isplitl [HW]; · iexists _; iexact HW
  isplitl [HF_src]; · iexact HF_src
  isplitl [HF]; · iexact HF
  iexists _; isplitr
  · ipureintro; exact read_landed c (yslot s) (yblk b) g f
  iexact HF_dst
theorem startH_run (g : Buf (Elt F) (hoM.view.loc (c : Thread nD τ))) :
    iprop(owesP (F := F) c ∗ held c hoM g ∗ cellP c (hsem 0) ∗ ∃ f, held c hM f)
      ⊢ wp frame (wpE (defs₀ (F := F)) 𝒱₀ (c : Thread nD τ) none) Set.univ (startH (F := F))
        (fun _ => iprop(owesP (F := F) c ∗ ∃ f, flight c (hsem 0) 12288 hoM hM g f)) := by
  unfold startH
  iintro ⟨⟨%W, HW⟩, Hs, Hc, ⟨%f, Hd⟩⟩
  sl_exec
  sl_step
  isplitl [HW]; · iexists _; iexact HW
  iexists f; iexact Hc
theorem waitH_run (g : Buf (Elt F) (hoM.view.loc (c : Thread nD τ))) :
    iprop(owesP (F := F) c ∗ ∃ f, flight c (hsem 0) 12288 hoM hM g f)
      ⊢ wp frame (wpE (defs₀ (F := F)) 𝒱₀ (c : Thread nD τ) none) Set.univ (waitH (F := F))
        (fun _ => iprop(owesP (F := F) c ∗ held c hoM g ∗ cellP c (hsem 0) ∗ ∃ f, ⌜hM.view.read (Elt F) f = hoM.view.read (Elt F) g⌝ ∗ held c hM f)) := by
  unfold waitH
  iintro ⟨⟨%W, HW⟩, ⟨%f, HF⟩⟩
  sl_exec
  sl_step
  isplitl [HW]; · iexists _; iexact HW
  isplitl [HF_src]; · iexact HF_src
  isplitl [HF]; · iexact HF
  iexists _; isplitr
  · ipureintro; exact read_landed c hoM hM g f
  iexact HF_dst

theorem keeps_hv (r : Fin 6) : Keeps c (held c arg0 g0) (loadH (F := F) arg0 r) (fun v => v = hRaw c arg0 g0 r) := by
  unfold Keeps loadH
  iintro H
  sl_exec
  sl_step
  isplitr; · ipureintro; rfl
  iexact H

theorem epiY_run (u : Mxu F) (T : Tile16 F) (S : Sums F) (g : Good u 0 1 T true S) (f : Buf (Elt F) (yvM.view.loc (c : Thread nD τ))) :
    iprop(held c arg0 g0 ∗ held c (yslot 1) f) ⊢ wp frame (wpE (defs₀ (F := F)) 𝒱₀ (c : Thread nD τ) none) Set.univ (epiY (F := F) arg0 u)
      (fun u' => iprop(⌜Ends u' (fun q a => pass (hT c arg0 g0 (blk6 q a)) T)⌝ ∗ held c arg0 g0 ∗ ∃ f', ⌜(yslot 1).view.read (Elt F) f' = sumsY S⌝ ∗ held c (yslot 1) f')) := by
  unfold epiY
  have gm := g.reg
  refine put_bind c _ 0 rfl fun f1 hf1 => ?_
  refine keep_bind c (keeps_hv c arg0 g0 0) fun x0 e0 => ?_
  refine put_bind c _ 3 rfl fun f2 hf2 => ?_
  refine keep_bind c (keeps_hv c arg0 g0 3) fun x3 e3 => ?_
  subst e0 e3
  refine put_bind c _ 1 rfl fun f3 hf3 => ?_
  refine keep_bind c (keeps_hv c arg0 g0 1) fun x1 e1 => ?_
  refine keep_bind c (Keeps.acc (t := stg T) (s2_gmr u T (hT c arg0 g0) 0 gm)) fun u3 hu3 => ?_
  have e2 : u3 = e5 u T (hT c arg0 g0) := by rw [hu3, e1]; rfl
  clear hu3
  subst e2
  refine put_bind c _ 4 rfl fun f4 hf4 => ?_
  refine keep_bind c (keeps_hv c arg0 g0 4) fun x4 e4 => ?_
  refine keep_bind c (Keeps.acc (t := stg T) (gmr_e5 u T (hT c arg0 g0) 1 gm)) fun u3 hu3 => ?_
  have e2 : u3 = e6 u T (hT c arg0 g0) := by rw [hu3, e4]; rfl
  clear hu3
  subst e2
  refine put_bind c _ 2 rfl fun f5 hf5 => ?_
  refine keep_bind c (keeps_hv c arg0 g0 2) fun x2 e2' => ?_
  refine keep_bind c (Keeps.acc (t := stg T) (gmr_e6 u T (hT c arg0 g0) 0 gm)) fun u3 hu3 => ?_
  have e2 : u3 = e7 u T (hT c arg0 g0) := by rw [hu3, e2']; rfl
  clear hu3
  subst e2
  refine put_bind c _ 5 rfl fun f6 hf6 => ?_
  refine keep_bind c (keeps_hv c arg0 g0 5) fun x5 e5' => ?_
  refine keep_bind c (Keeps.acc (t := stg T) (gmr_e7 u T (hT c arg0 g0) 1 gm)) fun u3 hu3 => ?_
  have e2 : u3 = e8 u T (hT c arg0 g0) := by rw [hu3, e5']; rfl
  clear hu3
  subst e2
  have hY : (yslot 1).view.read (Elt F) f6 = sumsY S := by
    have hf3' : (yslot 1).view.read (Elt F) f3 = putAt 1 (S 0 1) ((yslot 1).view.read (Elt F) f2) :=
      hf3.trans (congrArg (fun v => putAt 1 v ((yslot 1).view.read (Elt F) f2)) ((read_s2 u (hT c arg0 g0) 0 fits_64_256 (by decide)).trans (g.rd1 rfl 0)))
    rw [hf6, hf5, hf4, hf3', hf2, hf1, g.rd0 rfl, ← putAt_six S ((yslot 1).view.read (Elt F) f)]
    rw [read_e7, read_e6, read_e5, g.rd1 rfl, g.rd2 rfl, g.rd2 rfl]
    rw [← read_f1 u T (hT c arg0 g0) g rfl]
    rfl
  have hG := e8_ends u T (hT c arg0 g0) g
  rw [wp_ret]
  iintro ⟨HT, Hy⟩
  imodintro
  isplitr
  · ipureintro; exact hG
  isplitl [HT]; · iexact HT
  iexists f6
  isplitr [Hy]
  · ipureintro; exact hY
  iexact Hy

/-! ## The lora activations' buffer -/

def putHAt (r : Fin 6) (v : Tile32 F) (old : S1536x80.Idx → Elt F .bf16) (i : S1536x80.Idx) : Elt F .bf16 :=
  if (i 0).val / 256 = r.val then popT v (Mxu.ix ⟨(i 0).val % 256, Nat.mod_lt _ (by decide)⟩ ⟨(i 1).val, Nat.lt_of_lt_of_le (i 1).isLt (by decide)⟩) else old i
/-- The lora activations from the sums. -/
def sumsH (S : Sums F) (i : S1536x80.Idx) : Elt F .bf16 :=
  popT (S ⟨(i 0).val / 256 / 3, by have : (i 0).val < 1536 := (i 0).isLt; omega⟩ ⟨(i 0).val / 256 % 3, Nat.mod_lt _ (by decide)⟩)
    (Mxu.ix ⟨(i 0).val % 256, Nat.mod_lt _ (by decide)⟩ ⟨(i 1).val, Nat.lt_of_lt_of_le (i 1).isLt (by decide)⟩)

theorem putHAt_six (S : Sums F) (old : S1536x80.Idx → Elt F .bf16) :
    putHAt 5 (S 1 2) (putHAt 2 (S 0 2) (putHAt 4 (S 1 1) (putHAt 1 (S 0 1) (putHAt 3 (S 1 0) (putHAt 0 (S 0 0) old))))) = sumsH S := by
  funext i
  have h6 : (i 0).val / 256 < 6 := by have : (i 0).val < 1536 := (i 0).isLt; omega
  unfold putHAt sumsH
  have hc : ∀ k (h : (i 0).val / 256 = k) (hk : k < 6), S ⟨(i 0).val / 256 / 3, by omega⟩ ⟨(i 0).val / 256 % 3, Nat.mod_lt _ (by decide)⟩ = S ⟨k / 3, by omega⟩ ⟨k % 3, Nat.mod_lt _ (by decide)⟩ := by
    intro k h hk; subst h; rfl
  obtain h | h | h | h | h | h : (i 0).val / 256 = 0 ∨ (i 0).val / 256 = 1 ∨ (i 0).val / 256 = 2 ∨ (i 0).val / 256 = 3 ∨ (i 0).val / 256 = 4 ∨ (i 0).val / 256 = 5 := by omega
  all_goals rw [hc _ h (by decide)]; simp only [h]; rfl

theorem poppedH_apply (v : FVec F S256x256 .f32) (x : S256x80.Idx) : poppedH (F := F) v x = popT v (Mxu.ix (x 0) ⟨(x 1).val, Nat.lt_of_lt_of_le (x 1).isLt (by decide)⟩) := by
  unfold poppedH
  rw [shapeCast_self]
  refine congrArg (popT v) (Shape.idx_ext₂ ?_ ?_)
  · first | rfl | (show 0 + (x 0).val = (x 0).val; omega)
  · first | rfl | (show 0 + (x 1).val = (x 1).val; omega)

theorem read_putH (r : Fin 6) (v : FVec F S256x256 .f32) (f : Buf (Elt F) (hoM.view.loc (c : Thread nD τ))) :
    hoM.view.read (Elt F) (View.write (Elt F) (hoM.access (Rect.unit (s := S1536x80) ![256 * r.val, 0] S256x80.size (inbO r))) f (poppedH v) Finset.univ)
      = putHAt r v (hoM.view.read (Elt F) f) := by
  funext i
  unfold putHAt
  split
  · next h =>
    have e := View.read_slice_write_emb (Val := Elt F) (v := hoM.view) (Rect.unit (s := S1536x80) ![256 * r.val, 0] S256x80.size (inbO r)) f (poppedH v)
      (Finset.mem_univ (Fin.cons (⟨(i 0).val % 256, Nat.mod_lt _ (by decide)⟩ : Fin 256) (Fin.cons (i 1) (fun x => x.elim0)) : S256x80.Idx))
    rw [poppedH_apply] at e
    refine Eq.trans (congrArg _ ?_) e
    refine Shape.idx_ext₂ ?_ ?_
    · show (i 0).val = 256 * r.val + 1 * ((i 0).val % 256); omega
    · show (i 1).val = 0 + 1 * (i 1).val; omega
  · next h =>
    refine View.read_slice_write_of_not_mem _ _ _ _ ?_
    rw [Rect.map_emb_univ, Rect.mem_set_unit]
    intro hall
    have := hall 0
    change 256 * r.val ≤ (i 0).val ∧ (i 0).val < 256 * r.val + 256 at this
    omega

theorem putH_run (r : Fin 6) (v : FVec F S256x256 .f32) (f : Buf (Elt F) (hoM.view.loc (c : Thread nD τ))) :
    held c hoM f ⊢ wp frame (wpE (defs₀ (F := F)) 𝒱₀ (c : Thread nD τ) none) Set.univ (putH (F := F) r v)
      (fun _ => iprop(∃ f', ⌜hoM.view.read (Elt F) f' = putHAt r v (hoM.view.read (Elt F) f)⌝ ∗ held c hoM f')) := by
  unfold putH
  iintro H
  sl_exec
  sl_step
  iexists _
  isplitr; swap
  · iexact H
  ipureintro
  exact read_putH c r v f

theorem putH_bind {β : Type} {k : PUnit → Prog (TpuEff nD τ sig (Elt F) Λ₀ .tc) β} {Q : β → sProp 𝕄} (r : Fin 6) {v : FVec F S256x256 .f32}
    {f : Buf (Elt F) (hoM.view.loc (c : Thread nD τ))}
    (hk : ∀ f', hoM.view.read (Elt F) f' = putHAt r v (hoM.view.read (Elt F) f) →
      held c hoM f' ⊢ wp frame (wpE (defs₀ (F := F)) 𝒱₀ (c : Thread nD τ) none) Set.univ (k ⟨⟩) Q) :
    held c hoM f ⊢ wp frame (wpE (defs₀ (F := F)) 𝒱₀ (c : Thread nD τ) none) Set.univ (putH (F := F) r v >>= k) Q := by
  rw [wp_bind]
  refine (putH_run c r v f).trans (wp_mono _ _ _ fun a => ?_)
  iintro ⟨%f', %hf, H⟩
  iapply (hk f' hf)
  iexact H

theorem epiH_run (u : Mxu F) (S : Sums F) (g : Ends u S) (f : Buf (Elt F) (hoM.view.loc (c : Thread nD τ))) :
    held c hoM f ⊢ wp frame (wpE (defs₀ (F := F)) 𝒱₀ (c : Thread nD τ) none) Set.univ (epiH (F := F) u)
      (fun u' => iprop(⌜u'.Drained⌝ ∗ ∃ f', ⌜hoM.view.read (Elt F) f' = sumsH S⌝ ∗ held c hoM f')) := by
  unfold epiH
  refine putH_bind c 0 fun f1 hf1 => ?_
  refine putH_bind c 3 fun f2 hf2 => ?_
  refine putH_bind c 1 fun f3 hf3 => ?_
  refine putH_bind c 4 fun f4 hf4 => ?_
  refine putH_bind c 2 fun f5 hf5 => ?_
  refine putH_bind c 5 fun f6 hf6 => ?_
  have hY : hoM.view.read (Elt F) f6 = sumsH S := by
    rw [hf6, hf5, hf4, hf3, hf2, hf1, read_p5, read_p4, read_p3, read_p2, read_p1, g.rd0, g.rd0, g.rd1, g.rd1, g.rd2, g.rd2, putHAt_six]
  rw [wp_ret]
  iintro H
  imodintro
  isplitr
  · ipureintro; exact p6_drained u g
  iexists f6
  isplitr
  · ipureintro; exact hY
  iexact H
end Ends

end Cert.KernelIdeal.Prf
-- ==== Proof.Body.lean ====
/- The kernel's body from its first copy to its last. -/
module

public import proofs.«01_k».proof.Proof.EpilogueRun

@[expose] public section

noncomputable section

namespace Cert.KernelIdeal.Prf

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Body
variable (c : Dev nD) (arg0 : Memref sig .tc .vmem S1536x256 .bf16) (harg0 : arg0.IsWhole) (arg1 : Memref sig .tc .vmem S256x6144 .bf16) (harg1 : arg1.IsWhole)
  (arg2 : Memref sig .tc .vmem S256x256 .bf16) (harg2 : arg2.IsWhole)
  (Xin : Buf (Elt F) ((c : Thread nD τ).loc main_v0))
  (W : Buf (Elt F) ((c : Thread nD τ).loc main_arg1)) (E : Buf (Elt F) ((c : Thread nD τ).loc main_arg2))
  (g0 : Buf (Elt F) (arg0.view.loc (c : Thread nD τ))) (g1 : Buf (Elt F) (arg1.view.loc (c : Thread nD τ))) (g2 : Buf (Elt F) (arg2.view.loc (c : Thread nD τ)))

/-- Block `b` of the result, and the lora activations. -/
abbrev yOut (b : Fin 24) : S1536x256.Idx → Elt F .bf16 := yB c arg0 arg1 W E (xGlue c Xin) g0 g1 b
def hOut : S1536x80.Idx → Elt F .bf16 := sumsH (fun q a => pass (hT c arg0 g0 (blk6 q a)) (sRaw c arg2 g2))

/-! ## After the loop -/

def yDone (Y : Fin 24 → S1536x256.Idx → Elt F .bf16) : sProp 𝕄 := bigSep Finset.univ (fun b => yHome c Y b True)
def twoLess : Finset (Fin 24) := (Finset.univ.erase 22).erase 23
theorem two_split (Φ : Fin 24 → sProp 𝕄) : bigSep Finset.univ Φ = iprop(Φ 22 ∗ Φ 23 ∗ bigSep twoLess Φ) := by
  have e : (Finset.univ : Finset (Fin 24)) = insert 22 (insert 23 twoLess) := by decide
  rw [e, bigSep_insert (by decide), bigSep_insert (by decide)]; rfl
theorem yAll_last (Y : Fin 24 → S1536x256.Idx → Elt F .bf16) :
    yAll (F := F) c Y (24 + 1) = iprop(yHome c Y 22 False ∗ yHome c Y 23 False ∗ bigSep twoLess (fun b => yHome c Y b True)) := by
  unfold yAll
  rw [two_split]
  have e : bigSep twoLess (fun b => yHome (F := F) c Y b (b.val + 3 < 24 + 1)) = bigSep twoLess (fun b => yHome c Y b True) := by
    refine bigSep_congr fun b hb => ?_
    congr 1
    have : ∀ b : Fin 24, b ∈ twoLess → b.val + 3 < 24 + 1 := by decide
    exact eq_true (this b hb)
  rw [e]
  have e2 : ((22 : Fin 24).val + 3 < 24 + 1) = False := eq_false (by decide)
  have e3 : ((23 : Fin 24).val + 3 < 24 + 1) = False := eq_false (by decide)
  rw [e2, e3]
theorem yDone_eq (Y : Fin 24 → S1536x256.Idx → Elt F .bf16) :
    yDone (F := F) c Y = iprop(yHome c Y 22 True ∗ yHome c Y 23 True ∗ bigSep twoLess (fun b => yHome c Y b True)) := by
  unfold yDone; rw [two_split]

/-- The lora activations on their way out. -/
def hFly (H : S1536x80.Idx → Elt F .bf16) : sProp 𝕄 := iprop(∃ g, ⌜hoM.view.read (Elt F) g = H⌝ ∗ ∃ f, flight c (hsem 0) 12288 hoM hM g f)

theorem rest_run (Y : Fin 24 → S1536x256.Idx → Elt F .bf16) (S : Sums F) (hS : Y 23 = sumsY S) (u : Mxu F)
    (g : Good u 0 1 (sRaw c arg2 g2) true S) :
    iprop(owesP (F := F) c ∗ yFly c Y 24 ∗ yHomes c Y 24 ∗ yPend c Y 24 ∗ held c arg0 g0 ∗ (∃ f, held c hoM f) ∗ (∃ f, held c hM f) ∗ cellP c (hsem 0))
      ⊢ wp frame (wpE (defs₀ (F := F)) 𝒱₀ (c : Thread nD τ) none) Set.univ (rest188 (F := F) arg0 harg0 arg1 harg1 arg2 harg2 u)
        (fun u' => iprop(⌜u'.Drained⌝ ∗ owesP (F := F) c ∗ held c arg0 g0 ∗ yDone c Y ∗ yFree c 0 ∗ yFree c 1 ∗ hFly c (hOut c arg0 arg2 g0 g2))) := by
  rw [rest_eq]
  unfold yFly yPend
  rw [if_pos (by decide), show Ring.sl 2 (24 + 1) = 1 from rfl, show Ring.sl 2 24 = 0 from rfl, show Ring.bk 24 (24 - 3) = 21 from rfl, show Ring.bk 24 (24 - 2) = 22 from rfl]
  iintro ⟨HW, ⟨%f21, %gy, %hgy, HF⟩, Hh, ⟨⟨%f0, %hf0, Hs0⟩, Hc0⟩, H0, ⟨%fo, Ho⟩, Hhm, Hch⟩
  rw [wp_bind]
  iapply (wp_wand_r Idealize.ShloMosaic.frame (wpE (defs₀ (F := F)) 𝒱₀ (c : Thread nD τ) none) Set.univ)
  isplitl [HW HF]
  · iapply (waitY_run c 21 1 gy); isplitl [HW]; · iexact HW
    iexists f21; iexact HF
  iintro %_ ⟨HW, Hs1, Hc1, ⟨%fb, %hfb, Hb⟩⟩
  ihave Hy := (entails_of_eq (yAll_of (F := F) c Y 24 (by decide) (by decide)).symm) $$ [Hb Hh]
  · isplitl [Hb]
    · unfold yHome; iexists fb; isplitr
      · ipureintro; exact fun _ => hfb.trans hgy
      iexact Hb
    iexact Hh
  ihave Hy2 := (entails_of_eq (yAll_last (F := F) c Y)) $$ Hy
  icases Hy2 with ⟨H22, H23, Hrest⟩
  unfold yHome
  icases H22 with ⟨%f22, -, H22⟩
  icases H23 with ⟨%f23, -, H23⟩
  rw [wp_bind]
  iapply (wp_wand_r Idealize.ShloMosaic.frame (wpE (defs₀ (F := F)) 𝒱₀ (c : Thread nD τ) none) Set.univ)
  isplitl [HW Hs0 Hc0 H22]
  · iapply (startY_run c 22 0 f0); isplitl [HW]; · iexact HW
    isplitl [Hs0]; · iexact Hs0
    isplitl [Hc0]; · iexact Hc0
    iexists f22; iexact H22
  iintro %_ ⟨HW, HF22⟩
  rw [wp_bind]
  iapply (wp_wand_r Idealize.ShloMosaic.frame (wpE (defs₀ (F := F)) 𝒱₀ (c : Thread nD τ) none) Set.univ)
  isplitl [H0 Hs1]
  · iapply (epiY_run c arg0 g0 u (sRaw c arg2 g2) S g gy); isplitl [H0] <;> iassumption
  iintro %u1 ⟨%hu1, H0, ⟨%f1, %hf1, Hs1⟩⟩
  rw [wp_bind]
  iapply (wp_wand_r Idealize.ShloMosaic.frame (wpE (defs₀ (F := F)) 𝒱₀ (c : Thread nD τ) none) Set.univ)
  isplitl [HW Hs1 Hc1 H23]
  · iapply (startY_run c 23 1 f1); isplitl [HW]; · iexact HW
    isplitl [Hs1]; · iexact Hs1
    isplitl [Hc1]; · iexact Hc1
    iexists f23; iexact H23
  iintro %_ ⟨HW, HF23⟩
  rw [wp_bind]
  iapply (wp_wand_r Idealize.ShloMosaic.frame (wpE (defs₀ (F := F)) 𝒱₀ (c : Thread nD τ) none) Set.univ)
  isplitl [Ho]
  · iapply (epiH_run c u1 _ hu1 fo); iexact Ho
  iintro %u2 ⟨%hu2, ⟨%fh, %hfh, Ho⟩⟩
  rw [wp_bind]
  iapply (wp_wand_r Idealize.ShloMosaic.frame (wpE (defs₀ (F := F)) 𝒱₀ (c : Thread nD τ) none) Set.univ)
  isplitl [HW Ho Hch Hhm]
  · iapply (startH_run c fh); isplitl [HW]; · iexact HW
    isplitl [Ho]; · iexact Ho
    isplitl [Hch]; · iexact Hch
    iexact Hhm
  iintro %_ ⟨HW, HFh⟩
  rw [wp_bind]
  iapply (wp_wand_r Idealize.ShloMosaic.frame (wpE (defs₀ (F := F)) 𝒱₀ (c : Thread nD τ) none) Set.univ)
  isplitl [HW HF22]
  · iapply (waitY_run c 22 0 f0); isplitl [HW] <;> iassumption
  iintro %_ ⟨HW, Hs0, Hc0, ⟨%b22, %hb22, H22⟩⟩
  rw [wp_bind]
  iapply (wp_wand_r Idealize.ShloMosaic.frame (wpE (defs₀ (F := F)) 𝒱₀ (c : Thread nD τ) none) Set.univ)
  isplitl [HW HF23]
  · iapply (waitY_run c 23 1 f1); isplitl [HW] <;> iassumption
  iintro %_ ⟨HW, Hs1, Hc1, ⟨%b23, %hb23, H23⟩⟩
  rw [wp_ret]
  imodintro
  isplitr; · ipureintro; exact hu2
  isplitl [HW]; · iexact HW
  isplitl [H0]; · iexact H0
  isplitl [H22 H23 Hrest]
  · iapply (entails_of_eq (yDone_eq (F := F) c Y).symm)
    unfold yHome
    isplitl [H22]
    · iexists b22; isplitr
      · ipureintro; exact fun _ => hb22.trans (hf0 (by decide))
      iexact H22
    isplitl [H23]
    · iexists b23; isplitr
      · ipureintro; exact fun _ => hb23.trans (hf1.trans hS.symm)
      iexact H23
    iexact Hrest
  isplitl [Hs0 Hc0]
  · unfold yFree; isplitl [Hs0]; · iexists f0; iexact Hs0
    iexact Hc0
  isplitl [Hs1 Hc1]
  · unfold yFree; isplitl [Hs1]; · iexists f1; iexact Hs1
    iexact Hc1
  unfold hFly
  iexists fh
  isplitr
  · ipureintro; exact hfh
  iexact HFh

/-! ## Before the loop -/

theorem w_split : wHomes (F := F) c W Finset.univ = iprop(held c (wblk 0) (wAt c W 0) ∗ held c (wblk 1) (wAt c W 1) ∗ wHomes c W (others2 0)) := by
  have e : (Finset.univ : Finset (Fin 24)) = insert 0 (insert 1 (others2 0)) := by decide
  unfold wHomes; rw [e, bigSep_insert (by decide), bigSep_insert (by decide)]; rfl
theorem e_split : eHomes (F := F) c E Finset.univ = iprop(held c (eblk 0) (eAt c E 0) ∗ held c (eblk 1) (eAt c E 1) ∗ eHomes c E (others2 0)) := by
  have e : (Finset.univ : Finset (Fin 24)) = insert 0 (insert 1 (others2 0)) := by decide
  unfold eHomes; rw [e, bigSep_insert (by decide), bigSep_insert (by decide)]; rfl
theorem others_end : others (24 + 1) = Finset.univ := by decide

theorem good_start (v : Tile16 F) (S : Sums F) : Good (m4 cleared 0 v) 0 1 v false S := by
  have hreg : ∀ q r, (cleared : Mxu F).reg q r = none := fun q r => Mxu.reg_init (q := q) (r := r)
  constructor
  · intro q; exact m4_reg _ _ _ _ (fun q => hreg q 0)
  · intro q; rw [m4_reg_ne _ _ _ (by decide)]; exact hreg q 1
  · intro q R
    rw [m4_live]
    unfold cleared
    simp [Mxu.live_pop]
  · intro h; cases h
  · intro h; cases h
  · intro h; cases h

theorem yHome_of (Y : Fin 24 → S1536x256.Idx → Elt F .bf16) (b : Fin 24) (d : Prop) (hd : ¬ d) : iprop(∃ f, held (F := F) c (yblk b) f) ⊢ yHome c Y b d := by
  unfold yHome
  iintro ⟨%f, H⟩
  iexists f
  isplitr
  · ipureintro; intro h; exact absurd h hd
  iexact H
theorem yStart (Y : Fin 24 → S1536x256.Idx → Elt F .bf16) : bigSep Finset.univ (fun b => iprop(∃ f, held (F := F) c (yblk b) f)) ⊢ yHomes c Y 0 := by
  unfold yHomes
  rw [away_low 0 (by decide)]
  exact bigSep_mono fun b _ => yHome_of c Y b _ (by omega)

/-- What the body holds besides its windows: before, -/
def bodyIn : sProp 𝕄 :=
  iprop(bigSep Finset.univ (xIdle c Xin) ∗ wHomes c W Finset.univ ∗ eHomes c E Finset.univ
    ∗ (wFree c 0 ∗ wFree c 1 ∗ wFree c 2) ∗ (eFree c 0 ∗ eFree c 1 ∗ eFree c 2) ∗ (yFree c 0 ∗ yFree c 1)
    ∗ bigSep Finset.univ (fun b => iprop(∃ f, held c (yblk b) f)) ∗ (∃ f, held c hoM f) ∗ (∃ f, held c hM f) ∗ cellP c (hsem 0))
/-- and after. -/
def bodyEnd (Y : Fin 24 → S1536x256.Idx → Elt F .bf16) (H : S1536x80.Idx → Elt F .bf16) : sProp 𝕄 :=
  iprop(bigSep Finset.univ (xIdle c Xin) ∗ wHomes c W Finset.univ ∗ eHomes c E Finset.univ
    ∗ (wFree c 0 ∗ wFree c 1 ∗ wFree c 2) ∗ (eFree c 0 ∗ eFree c 1 ∗ eFree c 2) ∗ (yFree c 0 ∗ yFree c 1)
    ∗ yDone c Y ∗ (∃ f, held c hoM f) ∗ (∃ f, ⌜hM.view.read (Elt F) f = H⌝ ∗ held c hM f) ∗ cellP c (hsem 0))

theorem xIdle_of (j : Fin 64) : xDone (F := F) c Xin j ⊢ xIdle c Xin j := by
  unfold xDone xIdle
  iintro ⟨H1, H2, H3⟩
  isplitl [H1]; · iexact H1
  isplitl [H2]; · iexists _; iexact H2
  iexact H3

theorem xDone_out (j : Fin 64) : xDone (F := F) c Xin j ⊢ iprop(held c (xslot j) (xGlue c Xin) ∗ held c (xsrc j) (xAt c Xin j) ∗ cellP c (xsem j)) := by
  unfold xDone
  iintro ⟨H1, H2, H3⟩
  isplitl [H2]; · iexact H2
  isplitl [H1]; · iexact H1
  iexact H3
def xBack : sProp 𝕄 := bigSep Finset.univ (fun j => iprop(held c (xsrc j) (xAt c Xin j) ∗ cellP (F := F) c (xsem j)))

theorem wNext_one : wNext (F := F) c W (0 + 1) = wGo c W 1 1 := if_pos (by decide)
theorem eNext_one : eNext (F := F) c E (0 + 1) = eGo c E 1 1 := if_pos (by decide)
theorem yFly_zero (Y : Fin 24 → S1536x256.Idx → Elt F .bf16) : yFly (F := F) c Y 0 = yFree c 1 := if_neg (by decide)
theorem xDone_split (hX : bigSep Finset.univ (fun j => held c (xslot j) (xGlue (F := F) c Xin)) = held c xvM (xGlue c Xin)) :
    bigSep Finset.univ (xDone (F := F) c Xin) ⊢ iprop(held c xvM (xGlue c Xin) ∗ xBack c Xin) := by
  unfold xBack
  rw [← hX, ← bigSep_sep']
  exact bigSep_mono fun j _ => xDone_out c Xin j

/-- From the first copy to the loop. -/
theorem front_run (hX : bigSep Finset.univ (fun j => held c (xslot j) (xGlue (F := F) c Xin)) = held c xvM (xGlue c Xin)) {β : Type}
    (k : Vec F S1x32x256 .i8 → Vec F S1x32x256 .i32 → Prog (TpuEff nD τ sig (Elt F) Λ₀ .tc) β) {Q : β → sProp 𝕄} {R : sProp 𝕄}
    (Y : Fin 24 → S1536x256.Idx → Elt F .bf16)
    (hk : iprop((held c xvM (xGlue c Xin) ∗ xBack c Xin ∗ wHave c W 0 ∗ eHave c E 0 ∗ yPend c Y 0 ∗ guardPre c W E Y 0) ∗ R)
      ⊢ wp frame (wpE (defs₀ (F := F)) 𝒱₀ (c : Thread nD τ) none) Set.univ (k (firstE c E) (firstW c W)) Q) :
    iprop((owesP (F := F) c ∗ bigSep Finset.univ (xIdle c Xin) ∗ wHomes c W Finset.univ ∗ eHomes c E Finset.univ
      ∗ (wFree c 0 ∗ wFree c 1 ∗ wFree c 2) ∗ (eFree c 0 ∗ eFree c 1 ∗ eFree c 2) ∗ (yFree c 0 ∗ yFree c 1)
      ∗ bigSep Finset.univ (fun b => iprop(∃ f, held c (yblk b) f))) ∗ R)
      ⊢ wp frame (wpE (defs₀ (F := F)) 𝒱₀ (c : Thread nD τ) none) Set.univ
        (startXs 64 0 >>= fun _ => mid >>= fun _ => waitXs 64 0 >>= fun _ => last >>= fun ew => k ew.1 ew.2) Q := by
  rw [w_split, e_split]
  iintro ⟨⟨HW, Hx, ⟨Hw0, Hw1, Hwr⟩, ⟨He0, He1, Her⟩, ⟨Hws0, Hws1, Hws2⟩, ⟨Hes0, Hes1, Hes2⟩, ⟨Hy0, Hy1⟩, Hyb⟩, HR⟩
  rw [wp_bind]
  iapply (wp_wand_r Idealize.ShloMosaic.frame (wpE (defs₀ (F := F)) 𝒱₀ (c : Thread nD τ) none) Set.univ)
  isplitl [HW Hx]
  · iapply (startXs_run c Xin 64 0 rfl); isplitl [HW]; · iexact HW
    iapply (entails_of_eq (xs_zero (xGo c Xin) (xIdle c Xin)).symm); iexact Hx
  iintro %_ ⟨HW, Hx⟩
  rw [wp_bind]
  iapply (wp_wand_r Idealize.ShloMosaic.frame (wpE (defs₀ (F := F)) 𝒱₀ (c : Thread nD τ) none) Set.univ)
  isplitl [HW Hw0 Hws0 He0 Hes0 Hw1 Hws1 He1 Hes1]
  · iapply (mid_run c W E); isplitl [HW]; · iexact HW
    isplitl [Hw0 Hws0]
    · unfold wIdle; isplitl [Hw0]; · iexact Hw0
      iapply (entails_of_eq (show wFree (F := F) c 0 = iprop((∃ f, held c (wslot 0) f) ∗ cellP c (wsem 0)) from rfl)); iexact Hws0
    isplitl [He0 Hes0]
    · unfold eIdle; isplitl [He0]; · iexact He0
      iapply (entails_of_eq (show eFree (F := F) c 0 = iprop((∃ f, held c (eslot 0) f) ∗ cellP c (esem 0)) from rfl)); iexact Hes0
    isplitl [Hw1 Hws1]
    · unfold wIdle; isplitl [Hw1]; · iexact Hw1
      iapply (entails_of_eq (show wFree (F := F) c 1 = iprop((∃ f, held c (wslot 1) f) ∗ cellP c (wsem 1)) from rfl)); iexact Hws1
    unfold eIdle; isplitl [He1]; · iexact He1
    iapply (entails_of_eq (show eFree (F := F) c 1 = iprop((∃ f, held c (eslot 1) f) ∗ cellP c (esem 1)) from rfl)); iexact Hes1
  iintro %_ ⟨HW, Hw0, He0, Hw1, He1⟩
  rw [wp_bind]
  iapply (wp_wand_r Idealize.ShloMosaic.frame (wpE (defs₀ (F := F)) 𝒱₀ (c : Thread nD τ) none) Set.univ)
  isplitl [HW Hx]
  · iapply (waitXs_run c Xin 64 0 rfl); isplitl [HW]; · iexact HW
    iapply (entails_of_eq ((xs_all (xGo c Xin) (xIdle c Xin)).trans (xs_zero (xDone c Xin) (xGo c Xin)).symm)); iexact Hx
  iintro %_ ⟨HW, Hx⟩
  rw [wp_bind]
  iapply (wp_wand_r Idealize.ShloMosaic.frame (wpE (defs₀ (F := F)) 𝒱₀ (c : Thread nD τ) none) Set.univ)
  isplitl [HW Hw0 He0]
  · iapply (last_run c W E); isplitl [HW]; · iexact HW
    isplitl [Hw0] <;> iassumption
  iintro %ew ⟨%hew, HW, Hwb, Heb, Hws, Hwc, Hes, Hec⟩
  rw [hew]
  iapply hk
  isplitr [HR]; swap
  · iexact HR
  ihave Hx2 := (entails_of_eq (xs_all (xDone c Xin) (xGo c Xin))) $$ Hx
  ihave Hx3 := (xDone_split c Xin hX) $$ Hx2
  icases Hx3 with ⟨HX, HB⟩
  isplitl [HX]; · iexact HX
  isplitl [HB]; · iexact HB
  isplitl [Hws Hwc]
  · unfold wHave; isplitl [Hws]
    · icases Hws with ⟨%f, %hf, H⟩; iexists f; isplitr
      · ipureintro; exact fun _ => hf
      iexact H
    iexact Hwc
  isplitl [Hes Hec]
  · unfold eHave; isplitl [Hes]
    · icases Hes with ⟨%f, %hf, H⟩; iexists f; isplitr
      · ipureintro; exact fun _ => hf
      iexact H
    iexact Hec
  isplitl [Hy0]
  · unfold yFree yPend; icases Hy0 with ⟨⟨%f, H⟩, Hc⟩; isplitl [H]
    · iexists f; isplitr
      · ipureintro; intro h; exact absurd h (by decide)
      iexact H
    iexact Hc
  unfold guardPre
  isplitl [HW]; · iexact HW
  isplitl [Hw1]; · iapply (entails_of_eq (wNext_one c W).symm); iexact Hw1
  isplitl [Hws2]; · iexact Hws2
  isplitl [Hwb Hwr]
  · iapply (entails_of_eq (wHomes_in (F := F) c W 0 (by decide)).symm); isplitl [Hwb] <;> iassumption
  isplitl [He1]; · iapply (entails_of_eq (eNext_one c E).symm); iexact He1
  isplitl [Hes2]; · iexact Hes2
  isplitl [Heb Her]
  · iapply (entails_of_eq (eHomes_in (F := F) c E 0 (by decide)).symm); isplitl [Heb] <;> iassumption
  isplitl [Hy1]
  · iapply (entails_of_eq (yFly_zero (F := F) c Y).symm); iexact Hy1
  iapply (yStart c Y); iexact Hyb
end Body

end Cert.KernelIdeal.Prf
-- ==== Proof.Whole.lean ====
/- The whole body, from its arguments to its results. -/
module

public import proofs.«01_k».proof.Proof.Body

@[expose] public section

noncomputable section

namespace Cert.KernelIdeal.Prf

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Whole
variable (c : Dev nD) (arg0 : Memref sig .tc .vmem S1536x256 .bf16) (harg0 : arg0.IsWhole) (arg1 : Memref sig .tc .vmem S256x6144 .bf16) (harg1 : arg1.IsWhole)
  (arg2 : Memref sig .tc .vmem S256x256 .bf16) (harg2 : arg2.IsWhole)
  (Xin : Buf (Elt F) ((c : Thread nD τ).loc main_v0))
  (W : Buf (Elt F) ((c : Thread nD τ).loc main_arg1)) (E : Buf (Elt F) ((c : Thread nD τ).loc main_arg2))
  (g0 : Buf (Elt F) (arg0.view.loc (c : Thread nD τ))) (g1 : Buf (Elt F) (arg1.view.loc (c : Thread nD τ))) (g2 : Buf (Elt F) (arg2.view.loc (c : Thread nD τ)))

/-! ## The activations' buffer in its panels -/

abbrev SX (s : Fin 64) : Finset S64x1536x256.Idx := (Rect.unit (s := S64x1536x256) (slotOff s) S1x1536x256.size (xslot_inb s)).set
omit [FloatOps F] in
theorem xslot_set (s : Fin 64) : (xslot s).view.set = SX s := (View.set_reshape _ _).trans (View.set_slice_whole _ _)
theorem mem_SX (s : Fin 64) (y : S64x1536x256.Idx) : y ∈ SX s ↔ (y 0).val = s.val := by
  rw [Rect.mem_set_unit]
  have h1 : (y 1).val < 1536 := (y 1).isLt
  have h2 : (y 2).val < 256 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1536; omega
    · show 0 ≤ (y 2).val ∧ (y 2).val < 0 + 256; omega
theorem SX_disjoint : ∀ s s' : Fin 64, s ≠ s' → Disjoint (SX s) (SX s') := by
  intro s s' hne; rw [Finset.disjoint_left]; intro y hy hy'; rw [mem_SX] at hy hy'; exact hne (Fin.ext (hy.symm.trans hy'))
theorem SX_cover : (Finset.univ : Finset (Fin 64)).biUnion SX = Finset.univ := by
  ext y; simp only [Finset.mem_biUnion, Finset.mem_univ, true_and, iff_true]; exact ⟨(y 0).cast (by decide), by rw [mem_SX]; rfl⟩
theorem xslot_held (s : Fin 64) (X : Buf (Elt F) (xvM.view.loc (c : Thread nD τ))) :
    held c (xslot s) X = (((c : Thread nD τ).loc cc0_scratch0) ↦[SX s]{fullShare} X : sProp 𝕄) :=
  congrArg (fun S => (_ ↦[S]{fullShare} X : sProp 𝕄)) (xslot_set s)
theorem xv_held (X : Buf (Elt F) (xvM.view.loc (c : Thread nD τ))) :
    held c xvM X = (((c : Thread nD τ).loc cc0_scratch0) ↦{fullShare} X : sProp 𝕄) :=
  congrArg (fun S => (_ ↦[S]{fullShare} X : sProp 𝕄)) (View.set_whole _)
theorem xv_split (X : Buf (Elt F) (xvM.view.loc (c : Thread nD τ))) :
    bigSep Finset.univ (fun j => held c (xslot j) X) = held c xvM X := by
  rw [xv_held, Ring.pointsTo_blocks (Ix := Unit) (Name := ℕ) (U := UU nD τ) (Lvl := ℕ) (ℓ := (c : Thread nD τ).loc cc0_scratch0) SX SX_disjoint SX_cover X]
  exact bigSep_congr fun j _ => xslot_held c j X

theorem xIdle_back (j : Fin 64) : iprop(held c (xslot j) (xGlue (F := F) c Xin) ∗ held c (xsrc j) (xAt c Xin j) ∗ cellP c (xsem j)) ⊢ xIdle c Xin j := by
  unfold xIdle
  iintro ⟨H1, H2, H3⟩
  isplitl [H2]; · iexact H2
  isplitl [H1]; · iexists _; iexact H1
  iexact H3
theorem xs_back : iprop(held c xvM (xGlue (F := F) c Xin) ∗ xBack c Xin) ⊢ bigSep Finset.univ (xIdle c Xin) := by
  rw [← xv_split]
  unfold xBack
  rw [← bigSep_sep']
  exact bigSep_mono fun j _ => xIdle_back c Xin j

/-! ## The loop -/

theorem pushes_run {P : sProp (MT nD τ sig Unit (Elt F) ℕ (UU nD τ) ℕ)} (u : Mxu F) (r : Fin 2) (v : Tile16 F) (h : ∀ q, u.reg q r = none) {β : Type}
    {k : Mxu F → Prog (TpuEff nD τ sig (Elt F) Λ₀ .tc) β} {Q : β → sProp (MT nD τ sig Unit (Elt F) ℕ (UU nD τ) ℕ)}
    (hk : P ⊢ wp frame (wpE (defs₀ (F := F)) 𝒱₀ (c : Thread nD τ) none) Set.univ (k (m4 u r v)) Q) :
    P ⊢ wp frame (wpE (defs₀ (F := F)) 𝒱₀ (c : Thread nD τ) none) Set.univ (u.pushRhs 0 r false v >>= fun u1 => u1.pushRhs 1 r false v >>= k) Q := by
  rw [wp_bind]
  refine (Keeps.push (c := c) (P := P) (q := 0) (v := v) (h 0)).trans (wp_mono _ _ _ fun u1 => ?_)
  iintro ⟨%h1, H⟩
  rw [wp_bind]
  iapply ((Keeps.push (c := c) (P := P) (q := 1) (v := v) (by rw [h1, Mxu.reg_pushed_ne _ _ _ _ _ _ _ (by simp)]; exact h 1)).trans (wp_mono _ _ _ fun u2 => (show iprop(⌜u2 = u1.pushed 1 r false v⌝ ∗ P) ⊢ wp frame (wpE (defs₀ (F := F)) 𝒱₀ (c : Thread nD τ) none) Set.univ (k u2) Q from by
    iintro ⟨%h2, H⟩
    subst h1 h2
    iapply hk; iexact H)))
  iexact H

theorem cleared_reg (q r : Fin 2) : (cleared : Mxu F).reg q r = none := Mxu.reg_init (q := q) (r := r)

/-- What stands when the last read of the registers is done. -/
def lastly : sProp 𝕄 :=
  iprop(owesP (F := F) c ∗ held c xvM (xGlue c Xin) ∗ held c arg0 g0 ∗ held c arg1 g1 ∗ held c arg2 g2 ∗ wHave c W 24 ∗ eHave c E 24 ∗ wNext c W 25 ∗ wFree c 26 ∗ wHomes c W (others 25)
    ∗ eNext c E 25 ∗ eFree c 26 ∗ eHomes c E (others 25) ∗ yDone c (yOut c arg0 arg1 Xin W E g0 g1) ∗ yFree c 0 ∗ yFree c 1 ∗ hFly c (hOut c arg0 arg2 g0 g2))

theorem mainly_run (u0 : Mxu F) (hu0 : u0 = cleared) :
    iprop(held c xvM (xGlue c Xin) ∗ held c arg0 g0 ∗ held c arg1 g1 ∗ held c arg2 g2 ∗ wHave c W 0 ∗ eHave c E 0 ∗ yPend c (yOut c arg0 arg1 Xin W E g0 g1) 0 ∗ guardPre c W E (yOut c arg0 arg1 Xin W E g0 g1) 0
      ∗ (∃ f, held c hoM f) ∗ (∃ f, held c hM f) ∗ cellP (F := F) c (hsem 0))
    ⊢ wp frame (wpE (defs₀ (F := F)) 𝒱₀ (c : Thread nD τ) none) Set.univ (k0_part184 (F := F) arg0 harg0 arg1 harg1 arg2 harg2 xM (Memref.isWhole_whole _) wM (Memref.isWhole_whole _) eM (Memref.isWhole_whole _) yM (Memref.isWhole_whole _) hM (Memref.isWhole_whole _) xvM (Memref.isWhole_whole _) wvM (Memref.isWhole_whole _) evM (Memref.isWhole_whole _) yvM (Memref.isWhole_whole _) hoM (Memref.isWhole_whole _) cc0_scratch5 cc0_scratch6 cc0_scratch7 cc0_scratch8 cc0_scratch9 u0 (scaleBits (F := F) (firstE c E)) (codes (firstW c W)) (scaleRow (scaleBits (F := F) (firstE c E)) 0 (slicesRow 0)) (extractStridedSlice S32x256 ![0, 0] (codes (firstW c W)) (slicesBand 0))
        >>= fun u => rest188 (F := F) arg0 harg0 arg1 harg1 arg2 harg2 u)
      (fun u => iprop(⌜u.Drained⌝ ∗ lastly c arg0 arg1 arg2 Xin W E g0 g1 g2)) := by
  rw [wp_bind, loop_eq]
  refine pushes_run c u0 0 _ (fun q => by rw [hu0]; exact cleared_reg q 0) ?_
  rw [wp_bind]
  iintro ⟨Hx, H0, H1, H2, Hw, He, Hyp, Hpre, Ho, Hhm, Hch⟩
  iapply (Scf.wp_for Idealize.ShloMosaic.frame (wpE (defs₀ (F := F)) 𝒱₀ (c : Thread nD τ) none) Set.univ k0_t1_loop.lb k0_t1_loop.ub k0_t1_loop.st k0_t1_ok _ _
    (fun k u => loopI c arg0 arg1 arg2 W E (xGlue c Xin) g0 g1 g2 k u)
    (fun t u => loop_step c arg0 harg0 arg1 harg1 arg2 harg2 W E (xGlue c Xin) g0 g1 g2 t u _ _ _ _ _))
  isplitl [Hx H0 H1 H2 Hw He Hyp Hpre]
  · unfold loopI
    isplitr
    · ipureintro
      rw [hu0]
      exact good_start _ _
    isplitl [Hx]; · iexact Hx
    isplitl [H0]; · iexact H0
    isplitl [H1]; · iexact H1
    isplitl [H2]; · iexact H2
    isplitl [Hw]; · iexact Hw
    isplitl [He]; · iexact He
    isplitl [Hyp]; · iexact Hyp
    iexact Hpre
  iintro %u
  rw [show Scf.trips k0_t1_loop.lb k0_t1_loop.ub k0_t1_loop.st = 24 from trips_eq]
  unfold loopI guardPre
  iintro ⟨%hg, Hx, H0, H1, H2, Hw, He, Hyp, HW, Hwn, Hwf, Hwh, Hen, Hef, Heh, Hyf, Hyh⟩
  rw [wp_ret]
  imodintro
  have hg' : Good u 0 1 (sRaw c arg2 g2) true (sumsB c arg0 arg1 W E (xGlue c Xin) g0 g1 23) := hg
  iapply (wp_wand_r Idealize.ShloMosaic.frame (wpE (defs₀ (F := F)) 𝒱₀ (c : Thread nD τ) none) Set.univ)
  isplitl [HW Hyf Hyh Hyp H0 Ho Hhm Hch]
  · iapply (rest_run c arg0 harg0 arg1 harg1 arg2 harg2 g0 g2 (yOut c arg0 arg1 Xin W E g0 g1) _ rfl u hg')
    isplitl [HW]; · iexact HW
    isplitl [Hyf]; · iexact Hyf
    isplitl [Hyh]; · iexact Hyh
    isplitl [Hyp]; · iexact Hyp
    isplitl [H0]; · iexact H0
    isplitl [Ho]; · iexact Ho
    isplitl [Hhm] <;> iassumption
  iintro %u' ⟨%hd, HW, H0, Hyd, Hy0, Hy1, Hhf⟩
  isplitr; · ipureintro; exact hd
  unfold lastly
  isplitl [HW]; · iexact HW
  isplitl [Hx]; · iexact Hx
  isplitl [H0]; · iexact H0
  isplitl [H1]; · iexact H1
  isplitl [H2]; · iexact H2
  isplitl [Hw]; · iexact Hw
  isplitl [He]; · iexact He
  isplitl [Hwn]; · iexact Hwn
  isplitl [Hwf]; · iexact Hwf
  isplitl [Hwh]; · iexact Hwh
  isplitl [Hen]; · iexact Hen
  isplitl [Hef]; · iexact Hef
  isplitl [Heh]; · iexact Heh
  isplitl [Hyd]; · iexact Hyd
  isplitl [Hy0]; · iexact Hy0
  isplitl [Hy1] <;> iassumption

theorem wFree0_of : wHave (F := F) c W 24 ⊢ wFree c 0 := by
  unfold wHave wFree
  rw [show Ring.sl 3 24 = Ring.sl 3 0 from rfl]
  iintro ⟨⟨%f, %hf, H⟩, Hc⟩
  isplitl [H]; · iexists f; iexact H
  iexact Hc
theorem eFree0_of : eHave (F := F) c E 24 ⊢ eFree c 0 := by
  unfold eHave eFree
  rw [show Ring.sl 3 24 = Ring.sl 3 0 from rfl]
  iintro ⟨⟨%f, %hf, H⟩, Hc⟩
  isplitl [H]; · iexists f; iexact H
  iexact Hc
theorem wFree1_of : wNext (F := F) c W 25 = wFree c 1 := (if_neg (by decide)).trans rfl
theorem eFree1_of : eNext (F := F) c E 25 = eFree c 1 := (if_neg (by decide)).trans rfl

/-- Everything back in its place. -/
theorem home_run : iprop((held c xvM (xGlue (F := F) c Xin) ∗ xBack c Xin) ∗ wHave c W 24 ∗ eHave c E 24 ∗ wNext c W 25 ∗ wFree c 26 ∗ wHomes c W (others 25)
    ∗ eNext c E 25 ∗ eFree c 26 ∗ eHomes c E (others 25)) ⊢ iprop(bigSep Finset.univ (xIdle c Xin) ∗ wHomes c W Finset.univ ∗ eHomes c E Finset.univ
    ∗ (wFree c 0 ∗ wFree c 1 ∗ wFree c 2) ∗ (eFree c 0 ∗ eFree c 1 ∗ eFree c 2)) := by
  rw [wFree1_of, eFree1_of, show others 25 = Finset.univ from others_end]
  iintro ⟨Hx, Hw0, He0, Hw1, Hw2, Hwh, He1, He2, Heh⟩
  isplitl [Hx]; · iapply (xs_back c Xin); iexact Hx
  isplitl [Hwh]; · iexact Hwh
  isplitl [Heh]; · iexact Heh
  isplitl [Hw0 Hw1 Hw2]
  · isplitl [Hw0]; · iapply (wFree0_of c W); iexact Hw0
    isplitl [Hw1]; · iexact Hw1
    iapply (entails_of_eq (show wFree (F := F) c 26 = wFree c 2 from rfl)); iexact Hw2
  isplitl [He0]; · iapply (eFree0_of c E); iexact He0
  isplitl [He1]; · iexact He1
  iapply (entails_of_eq (show eFree (F := F) c 26 = eFree c 2 from rfl)); iexact He2

set_option maxRecDepth 65536 in
/-- THE BODY. -/
theorem body_run :
    iprop(owesP (F := F) c ∗ bodyIn c Xin W E ∗ held c arg0 g0 ∗ held c arg1 g1 ∗ held c arg2 g2)
    ⊢ wp frame (wpE (defs₀ (F := F)) 𝒱₀ (c : Thread nD τ) none) Set.univ (cc0_multi_lora_mxfp4 (F := F) arg0 harg0 arg1 harg1 arg2 harg2 xM (Memref.isWhole_whole _) wM (Memref.isWhole_whole _) eM (Memref.isWhole_whole _) yM (Memref.isWhole_whole _) hM (Memref.isWhole_whole _) xvM (Memref.isWhole_whole _) wvM (Memref.isWhole_whole _) evM (Memref.isWhole_whole _) yvM (Memref.isWhole_whole _) hoM (Memref.isWhole_whole _) cc0_scratch5 cc0_scratch6 cc0_scratch7 cc0_scratch8 cc0_scratch9)
      (fun _ => iprop(owesP (F := F) c ∗ bodyEnd c Xin W E (yOut c arg0 arg1 Xin W E g0 g1) (hOut c arg0 arg2 g0 g2) ∗ held c arg0 g0 ∗ held c arg1 g1 ∗ held c arg2 g2)) := by
  rw [cc0_eq, wp_bind, front_eq]
  unfold bodyIn
  iintro ⟨HW, ⟨Hx, Hw, He, Hwf, Hef, Hyf, Hyb, Ho, Hhm, Hch⟩, H0, H1, H2⟩
  iapply (wp_wand_r Idealize.ShloMosaic.frame (wpE (defs₀ (F := F)) 𝒱₀ (c : Thread nD τ) none) Set.univ)
  isplitl [HW Hx Hw He Hwf Hef Hyf Hyb Ho Hhm Hch H0 H1 H2]
  · iapply (front_run c Xin W E (xv_split c _) (fun e w => k0_part184 (F := F) arg0 harg0 arg1 harg1 arg2 harg2 xM (Memref.isWhole_whole _) wM (Memref.isWhole_whole _) eM (Memref.isWhole_whole _) yM (Memref.isWhole_whole _) hM (Memref.isWhole_whole _) xvM (Memref.isWhole_whole _) wvM (Memref.isWhole_whole _) evM (Memref.isWhole_whole _) yvM (Memref.isWhole_whole _) hoM (Memref.isWhole_whole _) cc0_scratch5 cc0_scratch6 cc0_scratch7 cc0_scratch8 cc0_scratch9 cleared (scaleBits (F := F) e) (codes w) (scaleRow (scaleBits (F := F) e) 0 (slicesRow 0)) (extractStridedSlice S32x256 ![0, 0] (codes w) (slicesBand 0))
        >>= fun u => rest188 (F := F) arg0 harg0 arg1 harg1 arg2 harg2 u)
      (Q := fun u => iprop((⌜u.Drained⌝ ∗ lastly c arg0 arg1 arg2 Xin W E g0 g1 g2) ∗ xBack c Xin))
      (R := iprop((held c arg0 g0 ∗ held c arg1 g1 ∗ held c arg2 g2) ∗ (∃ f, held c hoM f) ∗ (∃ f, held c hM f) ∗ cellP (F := F) c (hsem 0)))
      (yOut c arg0 arg1 Xin W E g0 g1) (by
        iintro ⟨⟨Hx, Hb, Hw, He, Hyp, Hpre⟩, ⟨H0, H1, H2⟩, Ho, Hhm, Hch⟩
        iapply (wp_wand_r Idealize.ShloMosaic.frame (wpE (defs₀ (F := F)) 𝒱₀ (c : Thread nD τ) none) Set.univ)
        isplitr [Hb]
        · iapply (mainly_run c arg0 harg0 arg1 harg1 arg2 harg2 Xin W E g0 g1 g2 cleared rfl)
          isplitl [Hx]; · iexact Hx
          isplitl [H0]; · iexact H0
          isplitl [H1]; · iexact H1
          isplitl [H2]; · iexact H2
          isplitl [Hw]; · iexact Hw
          isplitl [He]; · iexact He
          isplitl [Hyp]; · iexact Hyp
          isplitl [Hpre]; · iexact Hpre
          isplitl [Ho]; · iexact Ho
          isplitl [Hhm] <;> iassumption
        iintro %u H
        isplitl [H]; · iexact H
        iexact Hb))
    isplitr [Ho Hhm Hch H0 H1 H2]
    · isplitl [HW]; · iexact HW
      isplitl [Hx]; · iexact Hx
      isplitl [Hw]; · iexact Hw
      isplitl [He]; · iexact He
      isplitl [Hwf]; · iexact Hwf
      isplitl [Hef]; · iexact Hef
      isplitl [Hyf] <;> iassumption
    isplitl [H0 H1 H2]
    · isplitl [H0]; · iexact H0
      isplitl [H1] <;> iassumption
    isplitl [Ho]; · iexact Ho
    isplitl [Hhm] <;> iassumption
  unfold lastly hFly
  iintro %u ⟨⟨%hd, HW, Hx, H0, H1, H2, Hw, He, Hwn, Hwf, Hwh, Hen, Hef, Heh, Hyd, Hy0, Hy1, ⟨%g, %hg, Hhf⟩⟩, Hb⟩
  rw [wp_bind]
  iapply (wp_wand_r Idealize.ShloMosaic.frame (wpE (defs₀ (F := F)) 𝒱₀ (c : Thread nD τ) none) Set.univ)
  isplitl [HW Hhf]
  · iapply (waitH_run c g); isplitl [HW] <;> iassumption
  iintro %_ ⟨HW, Ho, Hch, ⟨%fh, %hfh, Hhm⟩⟩
  iapply (Mxu.wp_exit hd)
  rw [wp_ret]
  imodintro
  isplitl [HW]; · iexact HW
  ihave HH := (home_run c Xin W E) $$ [Hx Hb Hw He Hwn Hwf Hwh Hen Hef Heh]
  · isplitl [Hx Hb]
    · isplitl [Hx] <;> iassumption
    isplitl [Hw]; · iexact Hw
    isplitl [He]; · iexact He
    isplitl [Hwn]; · iexact Hwn
    isplitl [Hwf]; · iexact Hwf
    isplitl [Hwh]; · iexact Hwh
    isplitl [Hen]; · iexact Hen
    isplitl [Hef] <;> iassumption
  icases HH with ⟨HX, HWh, HEh, Hws, Hes⟩
  isplitl [HX HWh HEh Hws Hes Hyd Hy0 Hy1 Ho Hhm Hch]
  · unfold bodyEnd
    isplitl [HX]; · iexact HX
    isplitl [HWh]; · iexact HWh
    isplitl [HEh]; · iexact HEh
    isplitl [Hws]; · iexact Hws
    isplitl [Hes]; · iexact Hes
    isplitl [Hy0 Hy1]
    · isplitl [Hy0] <;> iassumption
    isplitl [Hyd]; · iexact Hyd
    isplitl [Ho]; · iexists g; iexact Ho
    isplitl [Hhm]
    · iexists fh
      isplitr; · ipureintro; exact hfh.trans hg
      iexact Hhm
    iexact Hch
  isplitl [H0]; · iexact H0
  isplitl [H1] <;> iassumption
end Whole

end Cert.KernelIdeal.Prf
-- ==== Proof.Pieces.lean ====
/- The kernel's arrays and buffers as the pieces the body moves. -/
module

public import proofs.«01_k».proof.Proof.Whole

@[expose] public section

noncomputable section

namespace Cert.KernelIdeal.Prf

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Pieces
variable (c : Dev nD)
theorem xslot_any (s : Fin 64) (X : Buf (Elt F) (xvM.view.loc (c : Thread nD τ))) : held c (xslot s) X ⊢ iprop(∃ f, held (F := F) c (xslot s) f) := by
  iintro H; iexists X; iexact H
theorem xslot_anyr (s : Fin 64) : iprop(∃ f, held (F := F) c (xslot s) f) ⊢ (iprop(∃ f : Buf (Elt F) ((c : Thread nD τ).loc cc0_scratch0), ((c : Thread nD τ).loc cc0_scratch0) ↦[SX s]{fullShare} f) : sProp 𝕄) := by
  iintro ⟨%f, H⟩; iexists f; iapply (entails_of_eq (xslot_held c s f)); iexact H
theorem xslot_split1 (f : Buf (Elt F) ((c : Thread nD τ).loc cc0_scratch0)) : (((c : Thread nD τ).loc cc0_scratch0) ↦{fullShare} f : sProp 𝕄)
    ⊢ bigSep Finset.univ (fun s => iprop(∃ f, held (F := F) c (xslot s) f)) := by
  refine (entails_of_eq (Ring.pointsTo_blocks (Ix := Unit) (Name := ℕ) (U := UU nD τ) (Lvl := ℕ) (q := fullShare) (ℓ := (c : Thread nD τ).loc cc0_scratch0) SX SX_disjoint SX_cover f)).trans ?_
  exact bigSep_mono fun s _ => (entails_of_eq (xslot_held c s f).symm).trans (xslot_any c s f)
theorem xslot_split : (iprop(∃ f : Buf (Elt F) ((c : Thread nD τ).loc cc0_scratch0), ((c : Thread nD τ).loc cc0_scratch0) ↦{fullShare} f) : sProp 𝕄)
    ⊢ bigSep Finset.univ (fun s => iprop(∃ f, held (F := F) c (xslot s) f)) := by
  iintro ⟨%f, H⟩
  iapply (xslot_split1 c f); iexact H
theorem xslot_join [Nonempty (Buf (Elt F) ((c : Thread nD τ).loc cc0_scratch0))] : bigSep Finset.univ (fun s => iprop(∃ f, held (F := F) c (xslot s) f))
    ⊢ (iprop(∃ f : Buf (Elt F) ((c : Thread nD τ).loc cc0_scratch0), ((c : Thread nD τ).loc cc0_scratch0) ↦{fullShare} f) : sProp 𝕄) :=
  (bigSep_mono fun s _ => xslot_anyr c s).trans (Ring.pointsTo_blocks_join_exists (ℓ := (c : Thread nD τ).loc cc0_scratch0) SX SX_disjoint SX_cover (Classical.arbitrary _))

/-! ## cc0_scratch1 in its slots -/
abbrev SW (s : Fin 3) : Finset S3x2048x256.Idx := (Rect.unit (s := S3x2048x256) (slotOff s) S1x2048x256.size (wslot_inb s)).set
omit [FloatOps F] in
theorem wslot_set (s : Fin 3) : (wslot s).view.set = SW s := (View.set_reshape _ _).trans (View.set_slice_whole _ _)
theorem mem_SW (s : Fin 3) (y : S3x2048x256.Idx) : y ∈ SW s ↔ (y 0).val = s.val := by
  rw [Rect.mem_set_unit]
  have h1 : (y 1).val < 2048 := (y 1).isLt
  have h2 : (y 2).val < 256 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2048; omega
    · show 0 ≤ (y 2).val ∧ (y 2).val < 0 + 256; omega
theorem SW_disjoint : ∀ s s' : Fin 3, s ≠ s' → Disjoint (SW s) (SW s') := by
  intro s s' hne; rw [Finset.disjoint_left]; intro y hy hy'; rw [mem_SW] at hy hy'; exact hne (Fin.ext (hy.symm.trans hy'))
theorem SW_cover : (Finset.univ : Finset (Fin 3)).biUnion SW = Finset.univ := by
  ext y; simp only [Finset.mem_biUnion, Finset.mem_univ, true_and, iff_true]; exact ⟨(y 0).cast (by decide), by rw [mem_SW]; rfl⟩
theorem wslot_held (s : Fin 3) (X : Buf (Elt F) (wvM.view.loc (c : Thread nD τ))) :
    held c (wslot s) X = (((c : Thread nD τ).loc cc0_scratch1) ↦[SW s]{fullShare} X : sProp 𝕄) :=
  congrArg (fun S => (_ ↦[S]{fullShare} X : sProp 𝕄)) (wslot_set s)
theorem wslot_any (s : Fin 3) (X : Buf (Elt F) (wvM.view.loc (c : Thread nD τ))) : held c (wslot s) X ⊢ iprop(∃ f, held (F := F) c (wslot s) f) := by
  iintro H; iexists X; iexact H
theorem wslot_anyr (s : Fin 3) : iprop(∃ f, held (F := F) c (wslot s) f) ⊢ (iprop(∃ f : Buf (Elt F) ((c : Thread nD τ).loc cc0_scratch1), ((c : Thread nD τ).loc cc0_scratch1) ↦[SW s]{fullShare} f) : sProp 𝕄) := by
  iintro ⟨%f, H⟩; iexists f; iapply (entails_of_eq (wslot_held c s f)); iexact H
theorem wslot_split1 (f : Buf (Elt F) ((c : Thread nD τ).loc cc0_scratch1)) : (((c : Thread nD τ).loc cc0_scratch1) ↦{fullShare} f : sProp 𝕄)
    ⊢ bigSep Finset.univ (fun s => iprop(∃ f, held (F := F) c (wslot s) f)) := by
  refine (entails_of_eq (Ring.pointsTo_blocks (Ix := Unit) (Name := ℕ) (U := UU nD τ) (Lvl := ℕ) (q := fullShare) (ℓ := (c : Thread nD τ).loc cc0_scratch1) SW SW_disjoint SW_cover f)).trans ?_
  exact bigSep_mono fun s _ => (entails_of_eq (wslot_held c s f).symm).trans (wslot_any c s f)
theorem wslot_split : (iprop(∃ f : Buf (Elt F) ((c : Thread nD τ).loc cc0_scratch1), ((c : Thread nD τ).loc cc0_scratch1) ↦{fullShare} f) : sProp 𝕄)
    ⊢ bigSep Finset.univ (fun s => iprop(∃ f, held (F := F) c (wslot s) f)) := by
  iintro ⟨%f, H⟩
  iapply (wslot_split1 c f); iexact H
theorem wslot_join [Nonempty (Buf (Elt F) ((c : Thread nD τ).loc cc0_scratch1))] : bigSep Finset.univ (fun s => iprop(∃ f, held (F := F) c (wslot s) f))
    ⊢ (iprop(∃ f : Buf (Elt F) ((c : Thread nD τ).loc cc0_scratch1), ((c : Thread nD τ).loc cc0_scratch1) ↦{fullShare} f) : sProp 𝕄) :=
  (bigSep_mono fun s _ => wslot_anyr c s).trans (Ring.pointsTo_blocks_join_exists (ℓ := (c : Thread nD τ).loc cc0_scratch1) SW SW_disjoint SW_cover (Classical.arbitrary _))

/-! ## cc0_scratch2 in its slots -/
abbrev SE (s : Fin 3) : Finset S3x512x256.Idx := (Rect.unit (s := S3x512x256) (slotOff s) S1x512x256.size (eslot_inb s)).set
omit [FloatOps F] in
theorem eslot_set (s : Fin 3) : (eslot s).view.set = SE s := (View.set_reshape _ _).trans (View.set_slice_whole _ _)
theorem mem_SE (s : Fin 3) (y : S3x512x256.Idx) : y ∈ SE s ↔ (y 0).val = s.val := by
  rw [Rect.mem_set_unit]
  have h1 : (y 1).val < 512 := (y 1).isLt
  have h2 : (y 2).val < 256 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 256; omega
theorem SE_disjoint : ∀ s s' : Fin 3, s ≠ s' → Disjoint (SE s) (SE s') := by
  intro s s' hne; rw [Finset.disjoint_left]; intro y hy hy'; rw [mem_SE] at hy hy'; exact hne (Fin.ext (hy.symm.trans hy'))
theorem SE_cover : (Finset.univ : Finset (Fin 3)).biUnion SE = Finset.univ := by
  ext y; simp only [Finset.mem_biUnion, Finset.mem_univ, true_and, iff_true]; exact ⟨(y 0).cast (by decide), by rw [mem_SE]; rfl⟩
theorem eslot_held (s : Fin 3) (X : Buf (Elt F) (evM.view.loc (c : Thread nD τ))) :
    held c (eslot s) X = (((c : Thread nD τ).loc cc0_scratch2) ↦[SE s]{fullShare} X : sProp 𝕄) :=
  congrArg (fun S => (_ ↦[S]{fullShare} X : sProp 𝕄)) (eslot_set s)
theorem eslot_any (s : Fin 3) (X : Buf (Elt F) (evM.view.loc (c : Thread nD τ))) : held c (eslot s) X ⊢ iprop(∃ f, held (F := F) c (eslot s) f) := by
  iintro H; iexists X; iexact H
theorem eslot_anyr (s : Fin 3) : iprop(∃ f, held (F := F) c (eslot s) f) ⊢ (iprop(∃ f : Buf (Elt F) ((c : Thread nD τ).loc cc0_scratch2), ((c : Thread nD τ).loc cc0_scratch2) ↦[SE s]{fullShare} f) : sProp 𝕄) := by
  iintro ⟨%f, H⟩; iexists f; iapply (entails_of_eq (eslot_held c s f)); iexact H
theorem eslot_split1 (f : Buf (Elt F) ((c : Thread nD τ).loc cc0_scratch2)) : (((c : Thread nD τ).loc cc0_scratch2) ↦{fullShare} f : sProp 𝕄)
    ⊢ bigSep Finset.univ (fun s => iprop(∃ f, held (F := F) c (eslot s) f)) := by
  refine (entails_of_eq (Ring.pointsTo_blocks (Ix := Unit) (Name := ℕ) (U := UU nD τ) (Lvl := ℕ) (q := fullShare) (ℓ := (c : Thread nD τ).loc cc0_scratch2) SE SE_disjoint SE_cover f)).trans ?_
  exact bigSep_mono fun s _ => (entails_of_eq (eslot_held c s f).symm).trans (eslot_any c s f)
theorem eslot_split : (iprop(∃ f : Buf (Elt F) ((c : Thread nD τ).loc cc0_scratch2), ((c : Thread nD τ).loc cc0_scratch2) ↦{fullShare} f) : sProp 𝕄)
    ⊢ bigSep Finset.univ (fun s => iprop(∃ f, held (F := F) c (eslot s) f)) := by
  iintro ⟨%f, H⟩
  iapply (eslot_split1 c f); iexact H
theorem eslot_join [Nonempty (Buf (Elt F) ((c : Thread nD τ).loc cc0_scratch2))] : bigSep Finset.univ (fun s => iprop(∃ f, held (F := F) c (eslot s) f))
    ⊢ (iprop(∃ f : Buf (Elt F) ((c : Thread nD τ).loc cc0_scratch2), ((c : Thread nD τ).loc cc0_scratch2) ↦{fullShare} f) : sProp 𝕄) :=
  (bigSep_mono fun s _ => eslot_anyr c s).trans (Ring.pointsTo_blocks_join_exists (ℓ := (c : Thread nD τ).loc cc0_scratch2) SE SE_disjoint SE_cover (Classical.arbitrary _))

/-! ## cc0_scratch3 in its slots -/
abbrev SY (s : Fin 2) : Finset S2x1536x256.Idx := (Rect.unit (s := S2x1536x256) (slotOff s) S1x1536x256.size (yslot_inb s)).set
omit [FloatOps F] in
theorem yslot_set (s : Fin 2) : (yslot s).view.set = SY s := (View.set_reshape _ _).trans (View.set_slice_whole _ _)
theorem mem_SY (s : Fin 2) (y : S2x1536x256.Idx) : y ∈ SY s ↔ (y 0).val = s.val := by
  rw [Rect.mem_set_unit]
  have h1 : (y 1).val < 1536 := (y 1).isLt
  have h2 : (y 2).val < 256 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1536; omega
    · show 0 ≤ (y 2).val ∧ (y 2).val < 0 + 256; omega
theorem SY_disjoint : ∀ s s' : Fin 2, s ≠ s' → Disjoint (SY s) (SY s') := by
  intro s s' hne; rw [Finset.disjoint_left]; intro y hy hy'; rw [mem_SY] at hy hy'; exact hne (Fin.ext (hy.symm.trans hy'))
theorem SY_cover : (Finset.univ : Finset (Fin 2)).biUnion SY = Finset.univ := by
  ext y; simp only [Finset.mem_biUnion, Finset.mem_univ, true_and, iff_true]; exact ⟨(y 0).cast (by decide), by rw [mem_SY]; rfl⟩
theorem yslot_held (s : Fin 2) (X : Buf (Elt F) (yvM.view.loc (c : Thread nD τ))) :
    held c (yslot s) X = (((c : Thread nD τ).loc cc0_scratch3) ↦[SY s]{fullShare} X : sProp 𝕄) :=
  congrArg (fun S => (_ ↦[S]{fullShare} X : sProp 𝕄)) (yslot_set s)
theorem yslot_any (s : Fin 2) (X : Buf (Elt F) (yvM.view.loc (c : Thread nD τ))) : held c (yslot s) X ⊢ iprop(∃ f, held (F := F) c (yslot s) f) := by
  iintro H; iexists X; iexact H
theorem yslot_anyr (s : Fin 2) : iprop(∃ f, held (F := F) c (yslot s) f) ⊢ (iprop(∃ f : Buf (Elt F) ((c : Thread nD τ).loc cc0_scratch3), ((c : Thread nD τ).loc cc0_scratch3) ↦[SY s]{fullShare} f) : sProp 𝕄) := by
  iintro ⟨%f, H⟩; iexists f; iapply (entails_of_eq (yslot_held c s f)); iexact H
theorem yslot_split1 (f : Buf (Elt F) ((c : Thread nD τ).loc cc0_scratch3)) : (((c : Thread nD τ).loc cc0_scratch3) ↦{fullShare} f : sProp 𝕄)
    ⊢ bigSep Finset.univ (fun s => iprop(∃ f, held (F := F) c (yslot s) f)) := by
  refine (entails_of_eq (Ring.pointsTo_blocks (Ix := Unit) (Name := ℕ) (U := UU nD τ) (Lvl := ℕ) (q := fullShare) (ℓ := (c : Thread nD τ).loc cc0_scratch3) SY SY_disjoint SY_cover f)).trans ?_
  exact bigSep_mono fun s _ => (entails_of_eq (yslot_held c s f).symm).trans (yslot_any c s f)
theorem yslot_split : (iprop(∃ f : Buf (Elt F) ((c : Thread nD τ).loc cc0_scratch3), ((c : Thread nD τ).loc cc0_scratch3) ↦{fullShare} f) : sProp 𝕄)
    ⊢ bigSep Finset.univ (fun s => iprop(∃ f, held (F := F) c (yslot s) f)) := by
  iintro ⟨%f, H⟩
  iapply (yslot_split1 c f); iexact H
theorem yslot_join [Nonempty (Buf (Elt F) ((c : Thread nD τ).loc cc0_scratch3))] : bigSep Finset.univ (fun s => iprop(∃ f, held (F := F) c (yslot s) f))
    ⊢ (iprop(∃ f : Buf (Elt F) ((c : Thread nD τ).loc cc0_scratch3), ((c : Thread nD τ).loc cc0_scratch3) ↦{fullShare} f) : sProp 𝕄) :=
  (bigSep_mono fun s _ => yslot_anyr c s).trans (Ring.pointsTo_blocks_join_exists (ℓ := (c : Thread nD τ).loc cc0_scratch3) SY SY_disjoint SY_cover (Classical.arbitrary _))

/-! ## main_v0 in its blocks of columns -/
abbrev CX (s : Fin 64) : Finset S1536x16384.Idx := (Rect.unit (s := S1536x16384) (xcolOff s) S1536x256.size (xsrc_inb s)).set
omit [FloatOps F] in
theorem xsrc_set (s : Fin 64) : (xsrc s).view.set = CX s := View.set_slice_whole _ _
theorem mem_CX (s : Fin 64) (y : S1536x16384.Idx) : y ∈ CX s ↔ (y 1).val / 256 = s.val := by
  rw [Rect.mem_set_unit]
  have h1 : (y 0).val < 1536 := (y 0).isLt
  constructor
  · intro H; have a0 : 256 * s.val ≤ (y 1).val ∧ (y 1).val < 256 * s.val + 256 := H 1; omega
  · intro H i; fin_cases i
    · show 0 ≤ (y 0).val ∧ (y 0).val < 0 + 1536; omega
    · show 256 * s.val ≤ (y 1).val ∧ (y 1).val < 256 * s.val + 256; omega
theorem CX_disjoint : ∀ s s' : Fin 64, s ≠ s' → Disjoint (CX s) (CX s') := by
  intro s s' hne; rw [Finset.disjoint_left]; intro y hy hy'; rw [mem_CX] at hy hy'; exact hne (Fin.ext (hy.symm.trans hy'))
theorem CX_cover : (Finset.univ : Finset (Fin 64)).biUnion CX = Finset.univ := by
  ext y; simp only [Finset.mem_biUnion, Finset.mem_univ, true_and, iff_true]
  exact ⟨⟨(y 1).val / 256, by have : (y 1).val < 16384 := (y 1).isLt; omega⟩, by rw [mem_CX]⟩
theorem xsrc_held (s : Fin 64) (X : Buf (Elt F) (xM.view.loc (c : Thread nD τ))) :
    held c (xsrc s) X = (((c : Thread nD τ).loc main_v0) ↦[CX s]{fullShare} X : sProp 𝕄) :=
  congrArg (fun S => (_ ↦[S]{fullShare} X : sProp 𝕄)) (xsrc_set s)
theorem xsrc_blocks (X : Buf (Elt F) (xM.view.loc (c : Thread nD τ))) :
    (((c : Thread nD τ).loc main_v0) ↦{fullShare} X : sProp 𝕄) = bigSep Finset.univ (fun s => held c (xsrc s) X) := by
  rw [Ring.pointsTo_blocks (Ix := Unit) (Name := ℕ) (U := UU nD τ) (Lvl := ℕ) (ℓ := (c : Thread nD τ).loc main_v0) CX CX_disjoint CX_cover X]
  exact bigSep_congr fun j _ => (xsrc_held c j X).symm

/-! ## main_arg1 in its blocks of columns -/
abbrev CW (s : Fin 24) : Finset S2048x6144.Idx := (Rect.unit (s := S2048x6144) (colOff s) S2048x256.size (wblk_inb s)).set
omit [FloatOps F] in
theorem wblk_set (s : Fin 24) : (wblk s).view.set = CW s := View.set_slice_whole _ _
theorem mem_CW (s : Fin 24) (y : S2048x6144.Idx) : y ∈ CW s ↔ (y 1).val / 256 = s.val := by
  rw [Rect.mem_set_unit]
  have h1 : (y 0).val < 2048 := (y 0).isLt
  constructor
  · intro H; have a0 : 256 * s.val ≤ (y 1).val ∧ (y 1).val < 256 * s.val + 256 := H 1; omega
  · intro H i; fin_cases i
    · show 0 ≤ (y 0).val ∧ (y 0).val < 0 + 2048; omega
    · show 256 * s.val ≤ (y 1).val ∧ (y 1).val < 256 * s.val + 256; omega
theorem CW_disjoint : ∀ s s' : Fin 24, s ≠ s' → Disjoint (CW s) (CW s') := by
  intro s s' hne; rw [Finset.disjoint_left]; intro y hy hy'; rw [mem_CW] at hy hy'; exact hne (Fin.ext (hy.symm.trans hy'))
theorem CW_cover : (Finset.univ : Finset (Fin 24)).biUnion CW = Finset.univ := by
  ext y; simp only [Finset.mem_biUnion, Finset.mem_univ, true_and, iff_true]
  exact ⟨⟨(y 1).val / 256, by have : (y 1).val < 6144 := (y 1).isLt; omega⟩, by rw [mem_CW]⟩
theorem wblk_held (s : Fin 24) (X : Buf (Elt F) (wM.view.loc (c : Thread nD τ))) :
    held c (wblk s) X = (((c : Thread nD τ).loc main_arg1) ↦[CW s]{fullShare} X : sProp 𝕄) :=
  congrArg (fun S => (_ ↦[S]{fullShare} X : sProp 𝕄)) (wblk_set s)
theorem wblk_blocks (X : Buf (Elt F) (wM.view.loc (c : Thread nD τ))) :
    (((c : Thread nD τ).loc main_arg1) ↦{fullShare} X : sProp 𝕄) = bigSep Finset.univ (fun s => held c (wblk s) X) := by
  rw [Ring.pointsTo_blocks (Ix := Unit) (Name := ℕ) (U := UU nD τ) (Lvl := ℕ) (ℓ := (c : Thread nD τ).loc main_arg1) CW CW_disjoint CW_cover X]
  exact bigSep_congr fun j _ => (wblk_held c j X).symm

/-! ## main_arg2 in its blocks of columns -/
abbrev CE (s : Fin 24) : Finset S512x6144.Idx := (Rect.unit (s := S512x6144) (colOff s) S512x256.size (eblk_inb s)).set
omit [FloatOps F] in
theorem eblk_set (s : Fin 24) : (eblk s).view.set = CE s := View.set_slice_whole _ _
theorem mem_CE (s : Fin 24) (y : S512x6144.Idx) : y ∈ CE s ↔ (y 1).val / 256 = s.val := by
  rw [Rect.mem_set_unit]
  have h1 : (y 0).val < 512 := (y 0).isLt
  constructor
  · intro H; have a0 : 256 * s.val ≤ (y 1).val ∧ (y 1).val < 256 * s.val + 256 := H 1; omega
  · intro H i; fin_cases i
    · show 0 ≤ (y 0).val ∧ (y 0).val < 0 + 512; omega
    · show 256 * s.val ≤ (y 1).val ∧ (y 1).val < 256 * s.val + 256; omega
theorem CE_disjoint : ∀ s s' : Fin 24, s ≠ s' → Disjoint (CE s) (CE s') := by
  intro s s' hne; rw [Finset.disjoint_left]; intro y hy hy'; rw [mem_CE] at hy hy'; exact hne (Fin.ext (hy.symm.trans hy'))
theorem CE_cover : (Finset.univ : Finset (Fin 24)).biUnion CE = Finset.univ := by
  ext y; simp only [Finset.mem_biUnion, Finset.mem_univ, true_and, iff_true]
  exact ⟨⟨(y 1).val / 256, by have : (y 1).val < 6144 := (y 1).isLt; omega⟩, by rw [mem_CE]⟩
theorem eblk_held (s : Fin 24) (X : Buf (Elt F) (eM.view.loc (c : Thread nD τ))) :
    held c (eblk s) X = (((c : Thread nD τ).loc main_arg2) ↦[CE s]{fullShare} X : sProp 𝕄) :=
  congrArg (fun S => (_ ↦[S]{fullShare} X : sProp 𝕄)) (eblk_set s)
theorem eblk_blocks (X : Buf (Elt F) (eM.view.loc (c : Thread nD τ))) :
    (((c : Thread nD τ).loc main_arg2) ↦{fullShare} X : sProp 𝕄) = bigSep Finset.univ (fun s => held c (eblk s) X) := by
  rw [Ring.pointsTo_blocks (Ix := Unit) (Name := ℕ) (U := UU nD τ) (Lvl := ℕ) (ℓ := (c : Thread nD τ).loc main_arg2) CE CE_disjoint CE_cover X]
  exact bigSep_congr fun j _ => (eblk_held c j X).symm

/-! ## main_v1_0 in its blocks of columns -/
abbrev CY (s : Fin 24) : Finset S1536x6144.Idx := (Rect.unit (s := S1536x6144) (colOff s) S1536x256.size (yblk_inb s)).set
omit [FloatOps F] in
theorem yblk_set (s : Fin 24) : (yblk s).view.set = CY s := View.set_slice_whole _ _
theorem mem_CY (s : Fin 24) (y : S1536x6144.Idx) : y ∈ CY s ↔ (y 1).val / 256 = s.val := by
  rw [Rect.mem_set_unit]
  have h1 : (y 0).val < 1536 := (y 0).isLt
  constructor
  · intro H; have a0 : 256 * s.val ≤ (y 1).val ∧ (y 1).val < 256 * s.val + 256 := H 1; omega
  · intro H i; fin_cases i
    · show 0 ≤ (y 0).val ∧ (y 0).val < 0 + 1536; omega
    · show 256 * s.val ≤ (y 1).val ∧ (y 1).val < 256 * s.val + 256; omega
theorem CY_disjoint : ∀ s s' : Fin 24, s ≠ s' → Disjoint (CY s) (CY s') := by
  intro s s' hne; rw [Finset.disjoint_left]; intro y hy hy'; rw [mem_CY] at hy hy'; exact hne (Fin.ext (hy.symm.trans hy'))
theorem CY_cover : (Finset.univ : Finset (Fin 24)).biUnion CY = Finset.univ := by
  ext y; simp only [Finset.mem_biUnion, Finset.mem_univ, true_and, iff_true]
  exact ⟨⟨(y 1).val / 256, by have : (y 1).val < 6144 := (y 1).isLt; omega⟩, by rw [mem_CY]⟩
theorem yblk_held (s : Fin 24) (X : Buf (Elt F) (yM.view.loc (c : Thread nD τ))) :
    held c (yblk s) X = (((c : Thread nD τ).loc main_v1_0) ↦[CY s]{fullShare} X : sProp 𝕄) :=
  congrArg (fun S => (_ ↦[S]{fullShare} X : sProp 𝕄)) (yblk_set s)
theorem yblk_blocks (X : Buf (Elt F) (yM.view.loc (c : Thread nD τ))) :
    (((c : Thread nD τ).loc main_v1_0) ↦{fullShare} X : sProp 𝕄) = bigSep Finset.univ (fun s => held c (yblk s) X) := by
  rw [Ring.pointsTo_blocks (Ix := Unit) (Name := ℕ) (U := UU nD τ) (Lvl := ℕ) (ℓ := (c : Thread nD τ).loc main_v1_0) CY CY_disjoint CY_cover X]
  exact bigSep_congr fun j _ => (yblk_held c j X).symm

theorem yblk_any (s : Fin 24) (X : Buf (Elt F) (yM.view.loc (c : Thread nD τ))) : held c (yblk s) X ⊢ iprop(∃ f, held (F := F) c (yblk s) f) := by
  iintro H; iexists X; iexact H
/-- The whole result, from its blocks. -/
def yGlue (Y : Fin 24 → S1536x256.Idx → Elt F .bf16) : Buf (Elt F) (yM.view.loc (c : Thread nD τ)) := fun i : S1536x6144.Idx =>
  Y ⟨(i 1).val / 256, by have : (i 1).val < 6144 := (i 1).isLt; omega⟩
    (Fin.cons (i 0) (Fin.cons (⟨(i 1).val % 256, Nat.mod_lt _ (by decide)⟩ : Fin 256) (fun x => x.elim0)))
theorem read_yGlue (Y : Fin 24 → S1536x256.Idx → Elt F .bf16) (b : Fin 24) : (yblk b).view.read (Elt F) (yGlue c Y) = Y b := by
  funext i
  have e : (yblk b).view.read (Elt F) (yGlue c Y) i = yGlue c Y ((Rect.unit (s := S1536x6144) (colOff b) S1536x256.size (yblk_inb b)).emb i) := rfl
  have h1 : (i 1).val < 256 := (i 1).isLt
  have hv : ((Rect.unit (s := S1536x6144) (colOff b) S1536x256.size (yblk_inb b)).emb i 1).val = 256 * b.val + 1 * (i 1).val := rfl
  rw [e]; unfold yGlue
  have hb : (⟨((Rect.unit (s := S1536x6144) (colOff b) S1536x256.size (yblk_inb b)).emb i 1).val / 256, by rw [hv]; omega⟩ : Fin 24) = b := Fin.ext (by show _ / 256 = _; rw [hv]; omega)
  refine (congrFun (congrArg Y hb) _).trans (congrArg (Y b) ?_)
  refine Shape.idx_ext₂ ?_ ?_
  · show 0 + 1 * (i 0).val = (i 0).val; omega
  · show ((Rect.unit (s := S1536x6144) (colOff b) S1536x256.size (yblk_inb b)).emb i 1).val % 256 = (i 1).val
    rw [hv]; omega
theorem yHome_glue (Y : Fin 24 → S1536x256.Idx → Elt F .bf16) (b : Fin 24) : yHome c Y b True ⊢ held c (yblk b) (yGlue c Y) := by
  unfold yHome
  iintro ⟨%f, %hf, H⟩
  iapply (entails_of_eq (held_congr c (yblk b) ((hf trivial).trans (read_yGlue c Y b).symm))); iexact H
theorem yDone_join (Y : Fin 24 → S1536x256.Idx → Elt F .bf16) : yDone c Y ⊢ (((c : Thread nD τ).loc main_v1_0) ↦{fullShare} yGlue c Y : sProp 𝕄) := by
  unfold yDone
  rw [yblk_blocks]
  exact bigSep_mono fun b _ => yHome_glue c Y b
theorem yStart_split (X : Buf (Elt F) ((c : Thread nD τ).loc main_v1_0)) : (((c : Thread nD τ).loc main_v1_0) ↦{fullShare} X : sProp 𝕄)
    ⊢ bigSep Finset.univ (fun s => iprop(∃ f, held (F := F) c (yblk s) f)) := by
  refine (entails_of_eq (yblk_blocks c X)).trans ?_
  exact bigSep_mono fun s _ => yblk_any c s X

/-! ## The semaphores -/

abbrev Cells : Type := Fin 64 ⊕ Fin 3 ⊕ Fin 3 ⊕ Fin 2 ⊕ Fin 1
def osem : Cells → SemLoc sig
  | .inl k => .dma (xsem k).sem
  | .inr (.inl s) => .dma (wsem s).sem
  | .inr (.inr (.inl s)) => .dma (esem s).sem
  | .inr (.inr (.inr (.inl s))) => .dma (ysem s).sem
  | .inr (.inr (.inr (.inr s))) => .dma (hsem s).sem
theorem ownSemFacts : Pipeline.OwnSemFacts spec0 osem := by decide +kernel

theorem bigSep_sum {α β : Type} [Fintype α] [Fintype β] [DecidableEq α] [DecidableEq β] {M : Type} [URA M] (Φ : α ⊕ β → sProp M) :
    bigSep Finset.univ Φ = iprop(bigSep Finset.univ (fun a => Φ (.inl a)) ∗ bigSep Finset.univ (fun b => Φ (.inr b))) := by
  have e : (Finset.univ : Finset (α ⊕ β)) = Finset.univ.map ⟨Sum.inl, Sum.inl_injective⟩ ∪ Finset.univ.map ⟨Sum.inr, Sum.inr_injective⟩ := by
    ext x; cases x <;> simp
  have hd : Disjoint (Finset.univ.map (⟨Sum.inl, Sum.inl_injective⟩ : α ↪ α ⊕ β)) (Finset.univ.map (⟨Sum.inr, Sum.inr_injective⟩ : β ↪ α ⊕ β)) := by
    rw [Finset.disjoint_left]; intro x hx hy
    simp only [Finset.mem_map, Finset.mem_univ, true_and, Function.Embedding.coeFn_mk] at hx hy
    obtain ⟨a, rfl⟩ := hx; obtain ⟨b, hb⟩ := hy; cases hb
  rw [e, bigSep_union hd, bigSep_map, bigSep_map]; rfl

theorem three {M : Type} [URA M] (Φ : Fin 3 → sProp M) : bigSep Finset.univ Φ = iprop(Φ 0 ∗ Φ 1 ∗ Φ 2) :=
  bigSep_univ_eq_bigSepL [(0 : Fin 3), 1, 2] (by decide) (by decide) Φ
theorem two {M : Type} [URA M] (Φ : Fin 2 → sProp M) : bigSep Finset.univ Φ = iprop(Φ 0 ∗ Φ 1) :=
  bigSep_univ_eq_bigSepL [(0 : Fin 2), 1] (by decide) (by decide) Φ
theorem one {M : Type} [URA M] (Φ : Fin 1 → sProp M) : bigSep Finset.univ Φ = Φ 0 := bigSep_univ_of_subsingleton 0

theorem ownSems0_eq : (Pipeline.ownSems0 (Ix := Unit) (Name := ℕ) (U := UU nD τ) (Lvl := ℕ) (Val := Elt F) (τ := τ) osem c : sProp 𝕄)
    = iprop(bigSep Finset.univ (fun k => cellP (F := F) c (xsem k)) ∗ (cellP c (wsem 0) ∗ cellP c (wsem 1) ∗ cellP c (wsem 2))
      ∗ (cellP c (esem 0) ∗ cellP c (esem 1) ∗ cellP c (esem 2)) ∗ (cellP c (ysem 0) ∗ cellP c (ysem 1)) ∗ cellP c (hsem 0)) := by
  unfold Pipeline.ownSems0
  rw [bigSep_sum, bigSep_sum, bigSep_sum, bigSep_sum, three, three, two, one]
  rfl
end Pieces

end Cert.KernelIdeal.Prf
-- ==== Proof.Launch.lean ====
/- The kernel's launch: from any memory it ends with its arguments unchanged, its results the body's and every semaphore at zero. -/
module

public import proofs.«01_k».proof.Proof.Pieces
public import proofs.«01_k».proof.Proof.Gen.KernelIdeal.Frame
public import Idealize.ShloMosaic.Adequacy
public import Idealize.ShloMosaic.Init

@[expose] public section

noncomputable section

namespace Cert.KernelIdeal.Prf

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

open Idealize.ShloMosaic.Pipeline (Dat Cfg Window BodyObligation cellOf)

section Launch
variable (m : (ℓ : Loc nD τ sig) → Buf (Elt F) ℓ) (ρ : Dev nD → PrngReg)

abbrev st0 (t : Fin cfg0.N) : Memref sig .tc .vmem S1536x256 .bf16 := win0_0.stage (cfg0.slots t 0)
abbrev st1 (t : Fin cfg0.N) : Memref sig .tc .vmem S256x6144 .bf16 := win0_1.stage (cfg0.slots t 1)
abbrev st2 (t : Fin cfg0.N) : Memref sig .tc .vmem S256x256 .bf16 := win0_2.stage (cfg0.slots t 2)
abbrev hst0 (t : Fin cfg0.N) : (st0 t).IsWhole := hstage0_0 0
abbrev hst1 (t : Fin cfg0.N) : (st1 t).IsWhole := hstage0_1 0
abbrev hst2 (t : Fin cfg0.N) : (st2 t).IsWhole := hstage0_2 0

/-- The contents the body runs at. -/
abbrev XV (c : Dev nD) : Buf (Elt F) ((c : Thread nD τ).loc main_v0) := V m c main_v0
abbrev WV (c : Dev nD) : Buf (Elt F) ((c : Thread nD τ).loc main_arg1) := V m c main_arg1
abbrev EV (c : Dev nD) : Buf (Elt F) ((c : Thread nD τ).loc main_arg2) := V m c main_arg2
def G0 (c : Dev nD) (t : Fin cfg0.N) : Buf (Elt F) ((st0 t).view.loc (c : Thread nD τ)) := (st0 t).view.rep (iblk m c 0 t)
def G1 (c : Dev nD) (t : Fin cfg0.N) : Buf (Elt F) ((st1 t).view.loc (c : Thread nD τ)) := (st1 t).view.rep (iblk m c 1 t)
def G2 (c : Dev nD) (t : Fin cfg0.N) : Buf (Elt F) ((st2 t).view.loc (c : Thread nD τ)) := (st2 t).view.rep (iblk m c 2 t)
/-- The results. -/
def YR (c : Dev nD) : Fin 24 → S1536x256.Idx → Elt F .bf16 := yOut c (st0 t0_0) (st1 t0_0) (XV m c) (WV m c) (EV m c) (G0 m c t0_0) (G1 m c t0_0)
def HR (c : Dev nD) : S1536x80.Idx → Elt F .bf16 := hOut c (st0 t0_0) (st2 t0_0) (G0 m c t0_0) (G2 m c t0_0)

def Φ0 (c : Dev nD) : sProp 𝕄 := bodyIn c (XV m c) (WV m c) (EV m c)
def Φ1 (c : Dev nD) : sProp 𝕄 := bodyEnd c (XV m c) (WV m c) (EV m c) (YR m c) (HR m c)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ k := if k.val = 0 then Φ0 m c else Φ1 m c
  q _ := fullShare
  owed _ := 0

theorem Φ_zero (c : Dev nD) (k : Fin (cfg0.N + 1)) (h : k.val = 0) : (dats m 0 c).Φ k = Φ0 m c := by dsimp only [dats]; rw [if_pos h]
theorem Φ_one (c : Dev nD) (k : Fin (cfg0.N + 1)) (h : k.val ≠ 0) : (dats m 0 c).Φ k = Φ1 m c := by dsimp only [dats]; rw [if_neg h]
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem before_w0 (c : Dev nD) (t : Fin cfg0.N) (d) : (dats m 0 c).before 0 t d = iblk m c 0 t :=
  ((dats m 0 c).before_in_eq_fetched 0 rfl (fun _ => rfl) (fun _ _ _ => rfl) (fun t => by rw [after_w0]; unfold Dat.blockOf iblk; rfl) t d).trans
    (by unfold Dat.fetched Dat.blockOf iblk; rfl)
theorem before_w1 (c : Dev nD) (t : Fin cfg0.N) (d) : (dats m 0 c).before 1 t d = iblk m c 1 t :=
  ((dats m 0 c).before_in_eq_fetched 1 rfl (fun _ => rfl) (fun _ _ _ => rfl) (fun t => by rw [after_w1]; unfold Dat.blockOf iblk; rfl) t d).trans
    (by unfold Dat.fetched Dat.blockOf iblk; rfl)
theorem before_w2 (c : Dev nD) (t : Fin cfg0.N) (d) : (dats m 0 c).before 2 t d = iblk m c 2 t :=
  ((dats m 0 c).before_in_eq_fetched 2 rfl (fun _ => rfl) (fun _ _ _ => rfl) (fun t => by rw [after_w2]; unfold Dat.blockOf iblk; rfl) t d).trans
    (by unfold Dat.fetched Dat.blockOf iblk; rfl)

abbrev bodyG (arg0 : Memref sig .tc .vmem S1536x256 .bf16) (harg0 : arg0.IsWhole) (arg1 : Memref sig .tc .vmem S256x6144 .bf16) (harg1 : arg1.IsWhole)
    (arg2 : Memref sig .tc .vmem S256x256 .bf16) (harg2 : arg2.IsWhole) : Prog (TpuEff nD τ sig (Elt F) Λ₀ .tc) PUnit :=
  cc0_multi_lora_mxfp4 (F := F) arg0 harg0 arg1 harg1 arg2 harg2 xM (Memref.isWhole_whole _) wM (Memref.isWhole_whole _) eM (Memref.isWhole_whole _) yM (Memref.isWhole_whole _) hM (Memref.isWhole_whole _) xvM (Memref.isWhole_whole _) wvM (Memref.isWhole_whole _) evM (Memref.isWhole_whole _) yvM (Memref.isWhole_whole _) hoM (Memref.isWhole_whole _) cc0_scratch5 cc0_scratch6 cc0_scratch7 cc0_scratch8 cc0_scratch9
theorem defs_tc : (defs₀ (F := F)) .tc cfg0.body
    = fun a => bodyG (win0_0.stage (a.2 0)) (hstage0_0 0) (win0_1.stage (a.2 1)) (hstage0_1 0) (win0_2.stage (a.2 2)) (hstage0_2 0) := rfl
theorem prog_eq (t : Fin cfg0.N) : (defs₀ (F := F)) .tc cfg0.body (cfg0.bodyArgs t (cfg0.slots t)) = bodyG (st0 t) (hst0 t) (st1 t) (hst1 t) (st2 t) (hst2 t) :=
  (congrFun defs_tc _).trans rfl

set_option backward.isDefEq.respectTransparency.types false in
theorem body_obligation (c : Dev nD) : BodyObligation (dats (F := F) m 0 c) (defs₀ (F := F)) 𝒱₀ () Set.univ := fun t => by
  rw [fin_N0 t]
  rw [bigSep_W0, bigSep_W0]
  dsimp only
  simp only [before_w0, before_w1, before_w2, after_w0, after_w1, after_w2]
  rw [Φ_zero m c _ rfl, Φ_one m c _ (by decide)]
  unfold Dat.owesAt Pipeline.owesWithin
  rw [show (dats m 0 c).owed (t0_0 : Fin cfg0.N).castSucc = 0 from rfl, show (dats m 0 c).owed (t0_0 : Fin cfg0.N).succ = 0 from rfl]
  unfold owns Φ0 Φ1
  iintro ⟨HΦ, ⟨%W, -, HW⟩, ⟨%d0, %g0, %hg0, H0⟩, ⟨%d1, %g1, %hg1, H1⟩, ⟨%d2, %g2, %hg2, H2⟩⟩
  ihave H0' := (pointsTo_rep_entails (c : Thread nD τ) (st0 t0_0) g0 fullShare) $$ H0
  ihave H1' := (pointsTo_rep_entails (c : Thread nD τ) (st1 t0_0) g1 fullShare) $$ H1
  ihave H2' := (pointsTo_rep_entails (c : Thread nD τ) (st2 t0_0) g2 fullShare) $$ H2
  rw [hg0, hg1, hg2]
  sl_rw [prog_eq t0_0]
  iapply (wp_wand_r Idealize.ShloMosaic.frame (wpE (defs₀ (F := F)) 𝒱₀ (c : Thread nD τ) none) Set.univ)
  isplitl [HΦ HW H0' H1' H2']
  · iapply (body_run c (st0 t0_0) (hst0 t0_0) (st1 t0_0) (hst1 t0_0) (st2 t0_0) (hst2 t0_0) (XV m c) (WV m c) (EV m c) (G0 m c t0_0) (G1 m c t0_0) (G2 m c t0_0))
    isplitl [HW]; · iexists W; iexact HW
    isplitl [HΦ]; · iexact HΦ
    isplitl [H0']; · iexact H0'
    isplitl [H1']; · iexact H1'
    iexact H2'
  iintro %r ⟨⟨%W', HW⟩, HΦ, H0, H1, H2⟩
  isplitl [HΦ]; · iexact HΦ
  isplitl [HW]
  · iexists W'; isplitr; · ipureintro; exact fun _ _ => Or.inl trivial
    iexact HW
  isplitl [H0]
  · iexists _; isplitr; · ipureintro; exact View.read_rep _ _
    iexact H0
  isplitl [H1]
  · iexists _; isplitr; · ipureintro; exact View.read_rep _ _
    iexact H1
  iexists _; isplitr; · ipureintro; exact View.read_rep _ _
  iexact H2

/-! ## The run -/

theorem xIdle_mk (c : Dev nD) (Xin : Buf (Elt F) ((c : Thread nD τ).loc main_v0)) :
    bigSep Finset.univ (xIdle c Xin) = iprop(bigSep Finset.univ (fun j => held c (xsrc j) (xAt c Xin j)) ∗ bigSep Finset.univ (fun j => iprop(∃ f, held (F := F) c (xslot j) f)) ∗ bigSep Finset.univ (fun j => cellP (F := F) c (xsem j))) := by
  rw [← bigSep_sep', ← bigSep_sep']; rfl

/-- The arrays the body reads, at their contents, and the kernel's own semaphores. -/
def ins (c : Dev nD) : sProp 𝕄 :=
  iprop((((c : Thread nD τ).loc main_arg1) ↦{fullShare} WV m c) ∗ (((c : Thread nD τ).loc main_arg2) ↦{fullShare} EV m c) ∗ (((c : Thread nD τ).loc main_v0) ↦{fullShare} XV m c))
def intoΦ (c : Dev nD) : sProp 𝕄 :=
  iprop(ins m c ∗ (((c : Thread nD τ).loc main_v1_0) ↦{fullShare} V m c main_v1_0) ∗ (((c : Thread nD τ).loc main_v1_1) ↦{fullShare} V m c main_v1_1) ∗ Pipeline.ownSems0 osem c)
def outOfΦ (c : Dev nD) : sProp 𝕄 :=
  iprop(ins m c ∗ (((c : Thread nD τ).loc main_v1_0) ↦{fullShare} yGlue c (YR m c)) ∗ ∃ f : Buf (Elt F) ((c : Thread nD τ).loc main_v1_1), ⌜hM.view.read (Elt F) f = HR m c⌝ ∗ (((c : Thread nD τ).loc main_v1_1) ↦{fullShare} f))
def kept (c : Dev nD) : sProp 𝕄 := ((c : Thread nD τ).loc main_arg0) ↦{fullShare} V m c main_arg0

theorem hM_held (c : Dev nD) (X : Buf (Elt F) (hM.view.loc (c : Thread nD τ))) : held c hM X = (((c : Thread nD τ).loc main_v1_1) ↦{fullShare} X : sProp 𝕄) :=
  congrArg (fun S => (_ ↦[S]{fullShare} X : sProp 𝕄)) (View.set_whole _)
theorem hoM_held (c : Dev nD) (X : Buf (Elt F) (hoM.view.loc (c : Thread nD τ))) : held c hoM X = (((c : Thread nD τ).loc cc0_scratch4) ↦{fullShare} X : sProp 𝕄) :=
  congrArg (fun S => (_ ↦[S]{fullShare} X : sProp 𝕄)) (View.set_whole _)

theorem into_in (c : Dev nD) : iprop(intoΦ m c ∗ Pipeline.scopedRest (Ix := Unit) (Name := ℕ) (U := UU nD τ) (Lvl := ℕ) (Val := Elt F) spec0 c) ⊢ Φ0 m c := by
  rw [scopedRest0_eq]
  unfold intoΦ ins Φ0 bodyIn
  rw [ownSems0_eq, xIdle_mk]
  iintro ⟨⟨⟨HW, HE, HX⟩, HY, HH, HCx, ⟨Hcw0, Hcw1, Hcw2⟩, ⟨Hce0, Hce1, Hce2⟩, ⟨Hcy0, Hcy1⟩, Hch⟩, S0, S1, S2, S3, ⟨%fo, S4⟩⟩
  ihave S0' := (xslot_split c) $$ S0
  ihave S1' := ((wslot_split c).trans (entails_of_eq (three _))) $$ S1
  icases S1' with ⟨Hw0, Hw1, Hw2⟩
  ihave S2' := ((eslot_split c).trans (entails_of_eq (three _))) $$ S2
  icases S2' with ⟨He0, He1, He2⟩
  ihave S3' := ((yslot_split c).trans (entails_of_eq (two _))) $$ S3
  icases S3' with ⟨Hy0, Hy1⟩
  isplitl [HX S0' HCx]
  · isplitl [HX]; · iapply (entails_of_eq (xsrc_blocks c (XV m c))); iexact HX
    isplitl [S0'] <;> iassumption
  isplitl [HW]; · iapply (entails_of_eq ((wblk_blocks c (WV m c)).trans (show _ = wHomes c (WV m c) Finset.univ from rfl))); iexact HW
  isplitl [HE]; · iapply (entails_of_eq ((eblk_blocks c (EV m c)).trans (show _ = eHomes c (EV m c) Finset.univ from rfl))); iexact HE
  isplitl [Hw0 Hw1 Hw2 Hcw0 Hcw1 Hcw2]
  · isplitl [Hw0 Hcw0]
    · iapply (entails_of_eq (show iprop((∃ f, held (F := F) c (wslot 0) f) ∗ cellP c (wsem 0)) = wFree c 0 from rfl)); isplitl [Hw0] <;> iassumption
    isplitl [Hw1 Hcw1]
    · iapply (entails_of_eq (show iprop((∃ f, held (F := F) c (wslot 1) f) ∗ cellP c (wsem 1)) = wFree c 1 from rfl)); isplitl [Hw1] <;> iassumption
    iapply (entails_of_eq (show iprop((∃ f, held (F := F) c (wslot 2) f) ∗ cellP c (wsem 2)) = wFree c 2 from rfl)); isplitl [Hw2] <;> iassumption
  isplitl [He0 He1 He2 Hce0 Hce1 Hce2]
  · isplitl [He0 Hce0]
    · iapply (entails_of_eq (show iprop((∃ f, held (F := F) c (eslot 0) f) ∗ cellP c (esem 0)) = eFree c 0 from rfl)); isplitl [He0] <;> iassumption
    isplitl [He1 Hce1]
    · iapply (entails_of_eq (show iprop((∃ f, held (F := F) c (eslot 1) f) ∗ cellP c (esem 1)) = eFree c 1 from rfl)); isplitl [He1] <;> iassumption
    iapply (entails_of_eq (show iprop((∃ f, held (F := F) c (eslot 2) f) ∗ cellP c (esem 2)) = eFree c 2 from rfl)); isplitl [He2] <;> iassumption
  isplitl [Hy0 Hy1 Hcy0 Hcy1]
  · isplitl [Hy0 Hcy0]
    · iapply (entails_of_eq (show iprop((∃ f, held (F := F) c (yslot 0) f) ∗ cellP c (ysem 0)) = yFree c 0 from rfl)); isplitl [Hy0] <;> iassumption
    iapply (entails_of_eq (show iprop((∃ f, held (F := F) c (yslot 1) f) ∗ cellP c (ysem 1)) = yFree c 1 from rfl)); isplitl [Hy1] <;> iassumption
  isplitl [HY]; · iapply (yStart_split c (V m c main_v1_0)); iexact HY
  isplitl [S4]; · iexists fo; iapply (entails_of_eq (hoM_held c fo).symm); iexact S4
  isplitl [HH]; · iexists (V m c main_v1_1); iapply (entails_of_eq (hM_held c (V m c main_v1_1)).symm); iexact HH
  iexact Hch

theorem out_of (c : Dev nD) : Φ1 m c ⊢ iprop(outOfΦ m c ∗ Pipeline.ownSems0 osem c ∗ Pipeline.scopedRest (Ix := Unit) (Name := ℕ) (U := UU nD τ) (Lvl := ℕ) (Val := Elt F) spec0 c) := by
  rw [scopedRest0_eq, ownSems0_eq]
  unfold outOfΦ ins Φ1 bodyEnd wFree eFree yFree
  rw [xIdle_mk]
  iintro ⟨⟨HX, S0, HCx⟩, HW, HE, ⟨⟨Hw0, Hcw0⟩, ⟨Hw1, Hcw1⟩, ⟨Hw2, Hcw2⟩⟩, ⟨⟨He0, Hce0⟩, ⟨He1, Hce1⟩, ⟨He2, Hce2⟩⟩, ⟨⟨Hy0, Hcy0⟩, ⟨Hy1, Hcy1⟩⟩, HY, ⟨%fo, Ho⟩, ⟨%fh, %hfh, HH⟩, Hch⟩
  isplitl [HX HW HE HY HH]
  · isplitl [HX HW HE]
    · isplitl [HW]; · iapply (entails_of_eq ((wblk_blocks c (WV m c)).trans (show _ = wHomes c (WV m c) Finset.univ from rfl)).symm); iexact HW
      isplitl [HE]; · iapply (entails_of_eq ((eblk_blocks c (EV m c)).trans (show _ = eHomes c (EV m c) Finset.univ from rfl)).symm); iexact HE
      iapply (entails_of_eq (xsrc_blocks c (XV m c)).symm); iexact HX
    isplitl [HY]; · iapply (yDone_join c (YR m c)); iexact HY
    iexists fh
    isplitr; · ipureintro; exact hfh
    iapply (entails_of_eq (hM_held c fh)); iexact HH
  isplitl [HCx Hcw0 Hcw1 Hcw2 Hce0 Hce1 Hce2 Hcy0 Hcy1 Hch]
  · isplitl [HCx]; · iexact HCx
    isplitl [Hcw0 Hcw1 Hcw2]
    · isplitl [Hcw0]; · iexact Hcw0
      isplitl [Hcw1]; · iexact Hcw1
      iexact Hcw2
    isplitl [Hce0 Hce1 Hce2]
    · isplitl [Hce0]; · iexact Hce0
      isplitl [Hce1]; · iexact Hce1
      iexact Hce2
    isplitl [Hcy0 Hcy1]
    · isplitl [Hcy0]; · iexact Hcy0
      iexact Hcy1
    iexact Hch
  isplitl [S0]; · iapply (xslot_join c); iexact S0
  isplitl [Hw0 Hw1 Hw2]
  · iapply ((entails_of_eq (three (fun s => iprop(∃ f, held (F := F) c (wslot s) f))).symm).trans (wslot_join c))
    isplitl [Hw0]; · iexact Hw0
    isplitl [Hw1]; · iexact Hw1
    iexact Hw2
  isplitl [He0 He1 He2]
  · iapply ((entails_of_eq (three (fun s => iprop(∃ f, held (F := F) c (eslot s) f))).symm).trans (eslot_join c))
    isplitl [He0]; · iexact He0
    isplitl [He1]; · iexact He1
    iexact He2
  isplitl [Hy0 Hy1]
  · iapply ((entails_of_eq (two (fun s => iprop(∃ f, held (F := F) c (yslot s) f))).symm).trans (yslot_join c))
    isplitl [Hy0]; · iexact Hy0
    iexact Hy1
  iexists fo; iapply (entails_of_eq (hoM_held c fo)); iexact Ho

def u₀ : UU nD τ := (initOf (Pipeline.cells cfgs cellOf_inj) (Pipeline.launchToks cfgs cellOf_inj), 1)

/-- What holds at the end of core `c`'s arrays that the pipeline does not stage. -/
def QY (c : Dev nD) (s : MemSt nD τ sig (Elt F)) : Prop :=
  s.mem ((c : Thread nD τ).loc main_arg0) = V m c main_arg0 ∧ s.mem ((c : Thread nD τ).loc main_arg1) = V m c main_arg1 ∧ s.mem ((c : Thread nD τ).loc main_arg2) = V m c main_arg2
    ∧ s.mem ((c : Thread nD τ).loc main_v1_0) = yGlue c (YR m c) ∧ hM.view.read (Elt F) (s.mem ((c : Thread nD τ).loc main_v1_1)) = HR m c
def QC : PUnit × MemSt nD τ sig (Elt F) → Prop := fun r =>
  ∀ c : Dev nD, (∀ w : Fin cfg0.W, r.2.mem ((cfg0.win w).arr.view.loc (c : Thread nD τ)) = (dats m 0 c).arrAt w cfg0.N) ∧ QY m c r.2

theorem read_out (c : Dev nD) (s' : Phys nD τ sig (Elt F)) : iprop(outOfΦ m c ∗ kept m c ∗ SI s') ⊢ |={Set.univ}=> iprop(⌜QY m c s'.mem⌝ ∗ SI s') := by
  unfold outOfΦ ins kept
  iintro ⟨⟨⟨HW, HE, -⟩, HY, ⟨%fh, %hfh, HH⟩⟩, H0, HSI⟩
  icombine HSI HW gives %hw
  icombine HSI HE gives %he
  icombine HSI HY gives %hy
  icombine HSI HH gives %hh
  icombine HSI H0 gives %h0
  imodintro
  isplitr
  · ipureintro
    exact ⟨Buf.eq_of_forall_mem_univ h0, Buf.eq_of_forall_mem_univ hw, Buf.eq_of_forall_mem_univ he, Buf.eq_of_forall_mem_univ hy,
      (congrArg (hM.view.read (Elt F)) (Buf.eq_of_forall_mem_univ hh)).trans hfh⟩
  iexact HSI

theorem hmain' : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The run. -/
theorem run_main : θ_run defs (onTc (τ := τ) (main (F := F))) ⟨m, fun _ => 0, ρ⟩ (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmain' m)
    (hA := fun _ _ => rfl)
    (X := intoΦ m) (Y := outOfΦ m) (Z := kept m)
    (hX := fun c => by
      rw [unscopedRest0_eq]
      unfold intoΦ ins kept
      iintro ⟨⟨H0, H1, H2, H3, H4, H5⟩, HS, -, -, -⟩; imodintro
      isplitr [H0]; swap
      · iexact H0
      isplitl [H1 H2 H3]
      · isplitl [H1]; · iexact H1
        isplitl [H2]; · iexact H2
        iexact H3
      isplitl [H4]; · iexact H4
      isplitl [H5]; · iexact H5
      iexact HS)
    (hin := fun c => by
      rw [Φ_zero m c _ rfl]
      exact into_in m c)
    (hout := fun c => by
      rw [Φ_one m c _ (by decide)]
      exact out_of m c)
    (QY := QY m)
    (hY := fun c s' => read_out m c s')
    (hQ := fun _ hh hz => ⟨hh, hz⟩)

/-- The run's end, in terms of the memory it began with. -/
theorem run_ends : θ_run defs (onTc (τ := τ) (main (F := F))) ⟨m, fun _ => 0, ρ⟩ (fun r => (∀ c : Dev nD,
      (r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.mem ((c : Thread nD τ).loc main_v1_0) = yGlue c (YR m c) ∧ hM.view.read (Elt F) (r.2.mem ((c : Thread nD τ).loc main_v1_1)) = HR m c)
      ∧ r.2.sem = fun _ => 0) :=
  (θ_run defs _ _).mono (fun r (hh : QC m r ∧ r.2.sem = fun _ => 0) => ⟨fun c =>
    have h := hh.1 c
    ⟨⟨h.2.1.trans (V_main_arg0 m c), h.2.2.1.trans (V_main_arg1 m c), h.2.2.2.1.trans (V_main_arg2 m c),
      (h.1 0).trans (((dats m 0 c).arrAt_in 0 rfl _).trans (V_main_arg3 m c)),
      (h.1 1).trans (((dats m 0 c).arrAt_in 1 rfl _).trans (V_main_arg4 m c)),
      (h.1 2).trans (((dats m 0 c).arrAt_in 2 rfl _).trans (V_main_arg5 m c))⟩, h.2.2.2.2⟩, hh.2⟩) (run_main m ρ)
end Launch

end Cert.KernelIdeal.Prf
-- ==== Proof.KPanel.lean ====
/- One tile of the kernel as a fold over its panels.

   The printed tile body is 65 panels written out one after another. Here one panel is written once, over
   its number, and `tile_eq` says the printed body is the guards followed by the fold. -/
module

public import proofs.«01_k».proof.Proof.Launch
public import proofs.«01_k».proof.Proof.Gen.Kernel.Skeleton

@[expose] public section

noncomputable section

namespace Cert.Kernel.Prf

open Idealize.ShloMosaic Idealize.SL.Sem
open Cert.Kernel Cert.Kernel.Gen

variable {F : FTy → Type} [FloatOps F]

/-! ## The widening of a panel's weights -/

/-- The exponents of sixteen words' worth of scales, doubled up as the bits of two bf16 scales each. -/
def scaleBits (e : Vec F S1x32x256 .i8) : IVec S32x256 32 :=
  have v936 : IVec S32x256 8 := shapeCast S32x256 e shapeCasts_S1x32x256_S32x256
  have v937 : IVec S32x256 32 := extui 32 v936 natLt_8_32
  ori (shli v937 (broadcast S32x256 7#32)) (shli v937 (broadcast S32x256 23#32))

/-- The four-bit codes of a panel's packed words, as values. -/
def codes (w : Vec F S1x32x256 .i32) : FVec F S256x256 .bf16 :=
  have v945 : IVec S32x256 32 := shapeCast S32x256 w shapeCasts_S1x32x256_S32x256
  have v946 : IVec S32x1x256 32 := shapeCast S32x1x256 v945 shapeCasts_S32x256_S32x1x256
  have v947 : IVec S32x1x256 32 := shapeCast S32x1x256 v946 shapeCasts_S32x1x256_S32x1x256
  have v948 : IVec S32x8x256 32 := broadcastTo S32x8x256 v947 broadcasts_S32x1x256_S32x8x256
  have v949 : IVec S256x256 32 := shapeCast S256x256 v948 shapeCasts_S32x8x256_S256x256
  have v950 : IVec S256x256 32 := iota .tc S256x256 32 [0] iota_S256x256_d0_w32
  have v952 : IVec S256x256 32 := andi v950 (broadcast S256x256 7#32)
  have v954 : IVec S256x256 32 := shli v952 (broadcast S256x256 2#32)
  have v956 : IVec S256x256 32 := subi (broadcast S256x256 28#32) v954
  have v957 : IVec S256x256 32 := shli v949 v956
  have v959 : IVec S256x256 32 := shrsi v957 (broadcast S256x256 28#32)
  have v960 : IVec S256x256 8 := trunci 8 v959 natLt_8_32
  have v961 : IVec S64x256 32 := bitcast S64x256 32 v960 bitcasts_S256x256_w8_S64x256_w32
  have v963 : IVec S64x256 32 := andi v961 (broadcast S64x256 2155905152#32)
  have v965 : IVec S64x256 32 := shli v961 (broadcast S64x256 2#32)
  have v967 : IVec S64x256 32 := andi v965 (broadcast S64x256 471604252#32)
  have v968 : IVec S64x256 32 := ori v963 v967
  have v969 : FVec F S256x256 .fp8e4m3 := bitcastToFloat .fp8e4m3 (bitcast S256x256 8 v968 bitcasts_S64x256_w32_S256x256_w8)
  have v970 : FVec F S256x256 .bf16 := extf .bf16 v969 bitsLt_fp8e4m3_bf16
  mulf v970 (broadcast S256x256 (Scalar.ofBits .bf16 0x4280#16))

/-- Row `r` of the scale bits, spread over the 32 rows it scales. -/
def scaleRow (sc : IVec S32x256 32) (r : Nat) (h : S32x256.Slices ![r, 0] S1x256) : FVec F S32x256 .bf16 :=
  have v973 : IVec S1x256 32 := extractStridedSlice S1x256 ![r, 0] sc h
  have v974 : IVec S1x256 32 := shapeCast S1x256 v973 shapeCasts_S1x256_S1x256
  have v975 : IVec S8x256 32 := broadcastTo S8x256 v974 broadcasts_S1x256_S8x256
  have v976 : FVec F S16x256 .bf16 := bitcastToFloat .bf16 (bitcast S16x256 16 v975 bitcasts_S8x256_w32_S16x256_w16)
  concatenate S32x256 0 [⟨S16x256, v976⟩, ⟨S16x256, v976⟩] concatenates_S16x256_S16x256_S32x256_d0

theorem slicesRow (r : Fin 32) : S32x256.Slices ![r.val, 0] S1x256 := by revert r; decide

theorem slicesBand (b : Fin 8) : S256x256.Slices ![32 * b.val, 0] S32x256 := by revert b; decide

/-- Band `b` of a panel: 32 rows of codes by their scales. -/
def band (d : FVec F S256x256 .bf16) (sc : IVec S32x256 32) (g : Fin 4) (b : Fin 8) : FVec F S32x256 .bf16 :=
  mulf (extractStridedSlice S32x256 ![32 * b.val, 0] d (slicesBand b))
    (scaleRow sc (8 * g.val + b.val) (slicesRow ⟨8 * g.val + b.val, by omega⟩))

/-- A panel's 256 rows of weights. -/
def widen (w : Vec F S1x32x256 .i32) (sc : IVec S32x256 32) (g : Fin 4) : FVec F S256x256 .bf16 :=
  have d := codes w
  concatenate S256x256 0 [⟨S32x256, band d sc g 0⟩, ⟨S32x256, band d sc g 1⟩, ⟨S32x256, band d sc g 2⟩, ⟨S32x256, band d sc g 3⟩,
    ⟨S32x256, band d sc g 4⟩, ⟨S32x256, band d sc g 5⟩, ⟨S32x256, band d sc g 6⟩, ⟨S32x256, band d sc g 7⟩]
    concatenates_S32x256_S32x256_S32x256_S32x256_S32x256_S32x256_S32x256_S32x256_S256x256_d0

/-! ## Rows of the buffers -/

/-- The `p`-th panel of activations, 256 rows from `256·r`. -/
theorem inbX (p : Fin 64) (r : Fin 6) : ∀ a, (![p.val, 256 * r.val, 0] : Fin 3 → Nat) a + S1x256x256.size a ≤ S64x1536x256.size a := by
  intro a; fin_cases a
  · show p.val + 1 ≤ 64; omega
  · show 256 * r.val + 256 ≤ 1536; omega
  · show 0 + 256 ≤ 256; omega

theorem inbW (s : Nat) (hs : s < 3) (p : Fin 64) : ∀ a, (![s, 32 * p.val, 0] : Fin 3 → Nat) a + S1x32x256.size a ≤ S3x2048x256.size a := by
  intro a; fin_cases a
  · show s + 1 ≤ 3; omega
  · show 32 * p.val + 32 ≤ 2048; omega
  · show 0 + 256 ≤ 256; omega

theorem inbE (s : Nat) (hs : s < 3) (g : Fin 16) : ∀ a, (![s, 32 * g.val, 0] : Fin 3 → Nat) a + S1x32x256.size a ≤ S3x512x256.size a := by
  intro a; fin_cases a
  · show s + 1 ≤ 3; omega
  · show 32 * g.val + 32 ≤ 512; omega
  · show 0 + 256 ≤ 256; omega

theorem inbH (r : Fin 6) : ∀ a, (![256 * r.val, 0] : Fin 2 → Nat) a + S256x256.size a ≤ S1536x256.size a := by
  intro a; fin_cases a
  · show 256 * r.val + 256 ≤ 1536; omega
  · show 0 + 256 ≤ 256; omega

/-- The slot of the weight and scale rings a tile reads, and the slot of the next tile. -/
def slotC (t : Fin k0_t1_loop.trips) : Nat := k0_off19 t 0
def slotN (t : Fin k0_t1_loop.trips) : Nat := k0_off103 t 0

theorem slotC_lt (t : Fin k0_t1_loop.trips) : slotC t < 3 := by
  have := k0_off19_inb t 0
  change _ + 1 ≤ 3 at this; unfold slotC; omega
theorem slotN_lt (t : Fin k0_t1_loop.trips) : slotN t < 3 := by
  have := k0_off103_inb t 0
  change _ + 1 ≤ 3 at this; unfold slotN; omega

variable (arg0 : Memref sig .tc .vmem S1536x256 .bf16) (arg1 : Memref sig .tc .vmem S256x6144 .bf16)
  (arg2 : Memref sig .tc .vmem S256x256 .bf16) (arg8 : Memref sig .tc .vmem S64x1536x256 .bf16)
  (arg9 : Memref sig .tc .vmem S3x2048x256 .i32) (arg10 : Memref sig .tc .vmem S3x512x256 .i8)
  (arg11 : Memref sig .tc .vmem S2x1536x256 .bf16) (harg11 : arg11.IsWhole)

def loadX (p : Fin 64) (r : Fin 6) : Prog (TpuEff nD τ sig (Elt F) Λ₀ .tc) (Vec F S1x256x256 .bf16) :=
  Prog.lift (.load arg8 (Rect.unit (s := S64x1536x256) ![p.val, 256 * r.val, 0] S1x256x256.size (inbX p r)).toLoadRect (View.loadsAt_vmem h_S1x256x256))

def loadW (s : Nat) (hs : s < 3) (p : Fin 64) : Prog (TpuEff nD τ sig (Elt F) Λ₀ .tc) (Vec F S1x32x256 .i32) :=
  Prog.lift (.load arg9 (Rect.unit (s := S3x2048x256) ![s, 32 * p.val, 0] S1x32x256.size (inbW s hs p)).toLoadRect (View.loadsAt_vmem h_S1x32x256))

def loadE (s : Nat) (hs : s < 3) (g : Fin 16) : Prog (TpuEff nD τ sig (Elt F) Λ₀ .tc) (Vec F S1x32x256 .i8) :=
  Prog.lift (.load arg10 (Rect.unit (s := S3x512x256) ![s, 32 * g.val, 0] S1x32x256.size (inbE s hs g)).toLoadRect (View.loadsAt_vmem h_S1x32x256))

def loadH (r : Fin 6) : Prog (TpuEff nD τ sig (Elt F) Λ₀ .tc) (Vec F S256x256 .bf16) :=
  Prog.lift (.load arg0 (Rect.unit (s := S1536x256) ![256 * r.val, 0] S256x256.size (inbH r)).toLoadRect (View.loadsAt_vmem h_S256x256))

/-- The rows a load of the activations' panel gives, as a matrix. -/
def rowsX (v : Vec F S1x256x256 .bf16) : FVec F S256x256 .bf16 := shapeCast S256x256 v shapeCasts_S1x256x256_S256x256

/-! ## A panel -/

/-- The loads and accumulates of a panel after its first pair. -/
def accRest (p : Fin 64) (s : Mxu F) : Prog (TpuEff nD τ sig (Elt F) Λ₀ .tc) (Mxu F) := do
  let x1 ← loadX (F := F) arg8 p 1
  let s ← s.accLhsLoaded 0 64 (rowsX x1) fits_64_256
  let x4 ← loadX (F := F) arg8 p 4
  let s ← s.accLhsLoaded 1 64 (rowsX x4) fits_64_256
  let x2 ← loadX (F := F) arg8 p 2
  let s ← s.accLhsLoaded 0 128 (rowsX x2) fits_128_256
  let x5 ← loadX (F := F) arg8 p 5
  s.accLhsLoaded 1 128 (rowsX x5) fits_128_256

/-- A panel's first pair of accumulates: register `r`'s tile is loaded by them. -/
def accFirst (p : Fin 64) (r : Fin 2) (s : Mxu F) : Prog (TpuEff nD τ sig (Elt F) Λ₀ .tc) (Mxu F) := do
  let x0 ← loadX (F := F) arg8 p 0
  let s := s.accLhs 0 r 0 (rowsX x0) fits_0_256
  let x3 ← loadX (F := F) arg8 p 3
  pure (s.accLhs 1 r 0 (rowsX x3) fits_0_256)

/-- Panels 1 to 62: panel `p + 1`'s weights are widened and staged while panel `p` is multiplied. -/
def panel (sl : Nat) (hsl : sl < 3) (p : Fin 63) (st : IVec S32x256 32 × Mxu F) : Prog (TpuEff nD τ sig (Elt F) Λ₀ .tc) (IVec S32x256 32 × Mxu F) := do
  let s ← accFirst (F := F) arg8 ⟨p.val, by omega⟩ ⟨p.val % 2, by omega⟩ st.2
  let sc ← if (p.val + 1) % 4 = 0 then do
      let e ← loadE (F := F) arg10 sl hsl ⟨(p.val + 1) / 4, by omega⟩
      pure (scaleBits (F := F) e)
    else pure st.1
  let w ← loadW (F := F) arg9 sl hsl ⟨p.val + 1, by omega⟩
  let s ← s.pushRhs 0 ⟨(p.val + 1) % 2, by omega⟩ false (widen w sc ⟨(p.val + 1) % 4, by omega⟩)
  let s ← s.pushRhs 1 ⟨(p.val + 1) % 2, by omega⟩ false (widen w sc ⟨(p.val + 1) % 4, by omega⟩)
  let s ← accRest (F := F) arg8 ⟨p.val, by omega⟩ s
  pure (sc, s)

/-- `n` panels from panel `p`. -/
def panels (sl : Nat) (hsl : sl < 3) : Nat → Nat → IVec S32x256 32 × Mxu F → Prog (TpuEff nD τ sig (Elt F) Λ₀ .tc) (IVec S32x256 32 × Mxu F)
  | 0, _, st => pure st
  | n + 1, p, st => panel (F := F) arg8 arg9 arg10 sl hsl ⟨p % 63, by omega⟩ st >>= panels sl hsl n (p + 1)

/-- The store of a popped block of sums into rows of the result ring, after the load the store's text makes. -/
def popped (v : FVec F S256x256 .f32) : FVec F S1x256x256 .bf16 :=
  shapeCast S1x256x256 (truncf .bf16 v bitsLt_bf16_f32) shapeCasts_S256x256_S1x256x256

def putY (o : Fin 3 → Nat) (hi : ∀ a, o a + S1x256x256.size a ≤ S2x1536x256.size a)
    (hp : (Rect.unit (s := S2x1536x256) o S1x256x256.size hi).PackedRows (EltTy.packing .bf16)) (v : FVec F S256x256 .f32) : Prog (TpuEff nD τ sig (Elt F) Λ₀ .tc) PUnit := do
  let _ ← Prog.lift (.load arg11 (Rect.unit (s := S2x1536x256) o S1x256x256.size hi).toLoadRect (View.loadsAt_vmem h_S1x256x256))
  Prog.lift (.store arg11 (Rect.unit (s := S2x1536x256) o S1x256x256.size hi) (popped v) Finset.univ (View.stores_vmem h_S1x256x256 (harg11.storeExact_slice rfl _ hp) (fun _ => rfl)) (.inl rfl))

/-- Panel 0: the sums of the tile before are popped and stored, each just before its rows are reused. -/
def panel0 (t : Fin k0_t1_loop.trips) (s : Mxu F) : Prog (TpuEff nD τ sig (Elt F) Λ₀ .tc) (IVec S32x256 32 × Mxu F) := do
  putY (F := F) arg11 harg11 (k0_off17 t) (k0_off17_inb t) (k0_off17_packedbf16 t) (s.read 0 0 fits_0_256)
  let x0 ← loadX (F := F) arg8 0 0
  let s := (s.pop 0 0 256 fits_0_256).accLhs 0 0 0 (rowsX x0) fits_0_256
  putY (F := F) arg11 harg11 (k0_off18 t) (k0_off18_inb t) (k0_off18_packedbf16 t) (s.read 1 0 fits_0_256)
  let x3 ← loadX (F := F) arg8 0 3
  let s := (s.pop 1 0 256 fits_0_256).accLhs 1 0 0 (rowsX x3) fits_0_256
  let e ← loadE (F := F) arg10 (slotC t) (slotC_lt t) 0
  let w ← loadW (F := F) arg9 (slotC t) (slotC_lt t) 1
  let s ← s.pushRhs 0 1 false (widen w (scaleBits (F := F) e) 1)
  let s ← s.pushRhs 1 1 false (widen w (scaleBits (F := F) e) 1)
  putY (F := F) arg11 harg11 (k0_off21 t) (k0_off21_inb t) (k0_off21_packedbf16 t) (s.read 0 64 fits_64_256)
  let x1 ← loadX (F := F) arg8 0 1
  let s ← (s.pop 0 64 256 fits_64_256).accLhsLoaded 0 64 (rowsX x1) fits_64_256
  putY (F := F) arg11 harg11 (k0_off22 t) (k0_off22_inb t) (k0_off22_packedbf16 t) (s.read 1 64 fits_64_256)
  let x4 ← loadX (F := F) arg8 0 4
  let s ← (s.pop 1 64 256 fits_64_256).accLhsLoaded 1 64 (rowsX x4) fits_64_256
  putY (F := F) arg11 harg11 (k0_off23 t) (k0_off23_inb t) (k0_off23_packedbf16 t) (s.read 0 128 fits_128_256)
  let x2 ← loadX (F := F) arg8 0 2
  let s ← (s.pop 0 128 256 fits_128_256).accLhsLoaded 0 128 (rowsX x2) fits_128_256
  putY (F := F) arg11 harg11 (k0_off24 t) (k0_off24_inb t) (k0_off24_packedbf16 t) (s.read 1 128 fits_128_256)
  let x5 ← loadX (F := F) arg8 0 5
  let s ← (s.pop 1 128 256 fits_128_256).accLhsLoaded 1 128 (rowsX x5) fits_128_256
  pure (scaleBits (F := F) e, s)

/-- Panel 63: the lora rows of the tile are staged behind it. -/
def panel63 (t : Fin k0_t1_loop.trips) (s : Mxu F) : Prog (TpuEff nD τ sig (Elt F) Λ₀ .tc) (Mxu F) := do
  let s ← accFirst (F := F) arg8 63 1 s
  let b : Vec F S256x256 .bf16 ← Prog.lift (.load arg1 (Rect.unit (s := S256x6144) (k0_off102 t) S256x256.size (k0_off102_inb t)).toLoadRect (View.loadsAt_vmem h_S256x256))
  let s ← s.pushRhs 0 0 false b
  let s ← s.pushRhs 1 0 false b
  accRest (F := F) arg8 63 s

/-- The last panel: the lora activations by the tile's lora rows; the next tile's first panel is staged behind it,
    or the select matrix after the last tile. -/
def panel64 (a18 : BitVec 32) (t : Fin k0_t1_loop.trips) (s : Mxu F) : Prog (TpuEff nD τ sig (Elt F) Λ₀ .tc) (Mxu F) := do
  let h0 ← loadH (F := F) arg0 0
  let s := s.accLhs 0 0 0 h0 fits_0_256
  let h3 ← loadH (F := F) arg0 3
  let s := s.accLhs 1 0 0 h3 fits_0_256
  let e ← loadE (F := F) arg10 (slotN t) (slotN_lt t) 0
  let w ← loadW (F := F) arg9 (slotN t) (slotN_lt t) 0
  let sel : Vec F S256x256 .bf16 ← Prog.lift (.load arg2 (Rect.unit (s := S256x256) ![0, 0] S256x256.size inb_S256x256_S256x256_0_0).toLoadRect (View.loadsAt_vmem h_S256x256))
  let v := Scalar.select (Scalar.cmpi .slt (Scalar.addi a18 1#32) 24#32) (widen w (scaleBits (F := F) e) 0) sel
  let s ← s.pushRhs 0 0 false v
  let s ← s.pushRhs 1 0 false v
  let h1 ← loadH (F := F) arg0 1
  let s ← s.accLhsLoaded 0 64 h1 fits_64_256
  let h4 ← loadH (F := F) arg0 4
  let s ← s.accLhsLoaded 1 64 h4 fits_64_256
  let h2 ← loadH (F := F) arg0 2
  let s ← s.accLhsLoaded 0 128 h2 fits_128_256
  let h5 ← loadH (F := F) arg0 5
  s.accLhsLoaded 1 128 h5 fits_128_256

/-- A tile after its guards. -/
def tile (a18 : BitVec 32) (t : Fin k0_t1_loop.trips) (s : Mxu F) : Prog (TpuEff nD τ sig (Elt F) Λ₀ .tc) (Mxu F) := do
  let st ← panel0 (F := F) arg8 arg9 arg10 arg11 harg11 t s
  let st ← panels (F := F) arg8 arg9 arg10 (slotC t) (slotC_lt t) 62 1 st
  let s ← panel63 (F := F) arg1 arg8 t st.2
  panel64 (F := F) arg0 arg2 arg9 arg10 a18 t s

end Cert.Kernel.Prf
-- ==== Proof.KNames.lean ====
/- The pieces of the kernel's arrays and buffers, by number: a tile's block of the weights, of the scales and of
   the result, a slot of each ring, a panel of activations, and the semaphores of each. The printed offsets are
   these at the tile's number. -/
module

public import proofs.«01_k».proof.Proof.KPanel
public import proofs.«01_k».proof.Proof.Gen.Kernel.Launch
public import proofs.«01_k».proof.Proof.Gen.Kernel.Loops
public import proofs.«01_k».proof.Proof.Gen.Kernel.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Kernel.Prf

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

abbrev xM : Memref sig .tc .hbm S1536x16384 .bf16 := Memref.whole main_v0
abbrev wM : Memref sig .tc .hbm S2048x6144 .i32 := Memref.whole main_arg1
abbrev eM : Memref sig .tc .hbm S512x6144 .i8 := Memref.whole main_arg2
abbrev yM : Memref sig .tc .hbm S1536x6144 .bf16 := Memref.whole main_v1_0
abbrev hM : Memref sig .tc .hbm S1536x80 .bf16 := Memref.whole main_v1_1
abbrev xvM : Memref sig .tc .vmem S64x1536x256 .bf16 := Memref.whole cc0_scratch0
abbrev wvM : Memref sig .tc .vmem S3x2048x256 .i32 := Memref.whole cc0_scratch1
abbrev evM : Memref sig .tc .vmem S3x512x256 .i8 := Memref.whole cc0_scratch2
abbrev yvM : Memref sig .tc .vmem S2x1536x256 .bf16 := Memref.whole cc0_scratch3
abbrev hoM : Memref sig .tc .vmem S1536x80 .bf16 := Memref.whole cc0_scratch4

abbrev colOff (b : Fin 24) : Fin 2 → Nat := ![0, 256 * b.val]
abbrev xcolOff (k : Fin 64) : Fin 2 → Nat := ![0, 256 * k.val]
abbrev slotOff {n : Nat} (s : Fin n) : Fin 3 → Nat := ![s.val, 0, 0]
abbrev semOff {n : Nat} (s : Fin n) : Fin 1 → Nat := ![s.val]

theorem wblk_inb (b : Fin 24) : ∀ a, colOff b a + S2048x256.size a ≤ S2048x6144.size a := by revert b; decide
theorem eblk_inb (b : Fin 24) : ∀ a, colOff b a + S512x256.size a ≤ S512x6144.size a := by revert b; decide
theorem yblk_inb (b : Fin 24) : ∀ a, colOff b a + S1536x256.size a ≤ S1536x6144.size a := by revert b; decide
theorem xsrc_inb (k : Fin 64) : ∀ a, xcolOff k a + S1536x256.size a ≤ S1536x16384.size a := by revert k; decide
theorem xslot_inb (k : Fin 64) : ∀ a, slotOff k a + S1x1536x256.size a ≤ S64x1536x256.size a := by revert k; decide
theorem wslot_inb (s : Fin 3) : ∀ a, slotOff s a + S1x2048x256.size a ≤ S3x2048x256.size a := by revert s; decide
theorem eslot_inb (s : Fin 3) : ∀ a, slotOff s a + S1x512x256.size a ≤ S3x512x256.size a := by revert s; decide
theorem yslot_inb (s : Fin 2) : ∀ a, slotOff s a + S1x1536x256.size a ≤ S2x1536x256.size a := by revert s; decide
theorem sem64_inb (s : Fin 64) : ∀ a, semOff s a + S1.size a ≤ S64.size a := by revert s; decide
theorem sem3_inb (s : Fin 3) : ∀ a, semOff s a + S1.size a ≤ S3.size a := by revert s; decide
theorem sem2_inb (s : Fin 2) : ∀ a, semOff s a + S1.size a ≤ S2.size a := by revert s; decide
theorem sem1_inb (s : Fin 1) : ∀ a, semOff s a + S1.size a ≤ S1.size a := by revert s; decide

/-- Tile `b`'s block of the packed weights, of the scales, of the result. -/
def wblk (b : Fin 24) : Memref sig .tc .hbm S2048x256 .i32 := wM.slice (Rect.unit (s := S2048x6144) (colOff b) S2048x256.size (wblk_inb b)) (fun _ => rfl)
def eblk (b : Fin 24) : Memref sig .tc .hbm S512x256 .i8 := eM.slice (Rect.unit (s := S512x6144) (colOff b) S512x256.size (eblk_inb b)) (fun _ => rfl)
def yblk (b : Fin 24) : Memref sig .tc .hbm S1536x256 .bf16 := yM.slice (Rect.unit (s := S1536x6144) (colOff b) S1536x256.size (yblk_inb b)) (fun _ => rfl)
/-- Panel `k` of the activations, in memory and in its buffer. -/
def xsrc (k : Fin 64) : Memref sig .tc .hbm S1536x256 .bf16 := xM.slice (Rect.unit (s := S1536x16384) (xcolOff k) S1536x256.size (xsrc_inb k)) (fun _ => rfl)
def xslot (k : Fin 64) : Memref sig .tc .vmem S1536x256 .bf16 :=
  (xvM.slice (Rect.unit (s := S64x1536x256) (slotOff k) S1x1536x256.size (xslot_inb k)) (fun _ => rfl)).squeeze S1536x256 squeezes_S1x1536x256_S1536x256
/-- A slot of each ring. -/
def wslot (s : Fin 3) : Memref sig .tc .vmem S2048x256 .i32 :=
  (wvM.slice (Rect.unit (s := S3x2048x256) (slotOff s) S1x2048x256.size (wslot_inb s)) (fun _ => rfl)).squeeze S2048x256 squeezes_S1x2048x256_S2048x256
def eslot (s : Fin 3) : Memref sig .tc .vmem S512x256 .i8 :=
  (evM.slice (Rect.unit (s := S3x512x256) (slotOff s) S1x512x256.size (eslot_inb s)) (fun _ => rfl)).squeeze S512x256 squeezes_S1x512x256_S512x256
def yslot (s : Fin 2) : Memref sig .tc .vmem S1536x256 .bf16 :=
  (yvM.slice (Rect.unit (s := S2x1536x256) (slotOff s) S1x1536x256.size (yslot_inb s)) (fun _ => rfl)).squeeze S1536x256 squeezes_S1x1536x256_S1536x256
/-- The semaphores. -/
def xsem (k : Fin 64) : DmaSems sig S_ := (cc0_scratch5.slice (Rect.unit (s := S64) (semOff k) S1.size (sem64_inb k))).squeeze S_ squeezes_S1_S_
def wsem (s : Fin 3) : DmaSems sig S_ := (cc0_scratch6.slice (Rect.unit (s := S3) (semOff s) S1.size (sem3_inb s))).squeeze S_ squeezes_S1_S_
def esem (s : Fin 3) : DmaSems sig S_ := (cc0_scratch7.slice (Rect.unit (s := S3) (semOff s) S1.size (sem3_inb s))).squeeze S_ squeezes_S1_S_
def ysem (s : Fin 2) : DmaSems sig S_ := (cc0_scratch8.slice (Rect.unit (s := S2) (semOff s) S1.size (sem2_inb s))).squeeze S_ squeezes_S1_S_
def hsem (s : Fin 1) : DmaSems sig S_ := (cc0_scratch9.slice (Rect.unit (s := S1) (semOff s) S1.size (sem1_inb s))).squeeze S_ squeezes_S1_S_

instance {n : Nat} (s : Fin n) : ClosedOff (slotOff s) := ⟨slotOff s, rfl⟩
instance (b : Fin 24) : ClosedOff (colOff b) := ⟨colOff b, rfl⟩
instance (b : Fin 64) : ClosedOff (xcolOff b) := ⟨xcolOff b, rfl⟩

section Congr
theorem xsem_congr {off : Fin 1 → Nat} {s : Fin 64} (e : off = semOff s) (hh) : (cc0_scratch5.slice (Rect.unit (s := S64) off S1.size hh)).squeeze S_ squeezes_S1_S_ = xsem s :=
  congrArg (fun A : DmaSems sig S1 => A.squeeze S_ squeezes_S1_S_) (SemArray.slice_unit_congr _ e _ _)
theorem wsem_congr {off : Fin 1 → Nat} {s : Fin 3} (e : off = semOff s) (hh) : (cc0_scratch6.slice (Rect.unit (s := S3) off S1.size hh)).squeeze S_ squeezes_S1_S_ = wsem s :=
  congrArg (fun A : DmaSems sig S1 => A.squeeze S_ squeezes_S1_S_) (SemArray.slice_unit_congr _ e _ _)
theorem esem_congr {off : Fin 1 → Nat} {s : Fin 3} (e : off = semOff s) (hh) : (cc0_scratch7.slice (Rect.unit (s := S3) off S1.size hh)).squeeze S_ squeezes_S1_S_ = esem s :=
  congrArg (fun A : DmaSems sig S1 => A.squeeze S_ squeezes_S1_S_) (SemArray.slice_unit_congr _ e _ _)
theorem ysem_congr {off : Fin 1 → Nat} {s : Fin 2} (e : off = semOff s) (hh) : (cc0_scratch8.slice (Rect.unit (s := S2) off S1.size hh)).squeeze S_ squeezes_S1_S_ = ysem s :=
  congrArg (fun A : DmaSems sig S1 => A.squeeze S_ squeezes_S1_S_) (SemArray.slice_unit_congr _ e _ _)
theorem hsem_congr {off : Fin 1 → Nat} {s : Fin 1} (e : off = semOff s) (hh) : (cc0_scratch9.slice (Rect.unit (s := S1) off S1.size hh)).squeeze S_ squeezes_S1_S_ = hsem s :=
  congrArg (fun A : DmaSems sig S1 => A.squeeze S_ squeezes_S1_S_) (SemArray.slice_unit_congr _ e _ _)
theorem wblk_congr {off : Fin 2 → Nat} {b : Fin 24} (e : off = colOff b) (hh hs) : wM.slice (Rect.unit (s := S2048x6144) off S2048x256.size hh) hs = wblk b :=
  Memref.slice_unit_congr _ e _ _ _ (fun _ => rfl)
theorem eblk_congr {off : Fin 2 → Nat} {b : Fin 24} (e : off = colOff b) (hh hs) : eM.slice (Rect.unit (s := S512x6144) off S512x256.size hh) hs = eblk b :=
  Memref.slice_unit_congr _ e _ _ _ (fun _ => rfl)
theorem yblk_congr {off : Fin 2 → Nat} {b : Fin 24} (e : off = colOff b) (hh hs) : yM.slice (Rect.unit (s := S1536x6144) off S1536x256.size hh) hs = yblk b :=
  Memref.slice_unit_congr _ e _ _ _ (fun _ => rfl)
theorem xsrc_congr {off : Fin 2 → Nat} {b : Fin 64} (e : off = xcolOff b) (hh hs) : xM.slice (Rect.unit (s := S1536x16384) off S1536x256.size hh) hs = xsrc b :=
  Memref.slice_unit_congr _ e _ _ _ (fun _ => rfl)
theorem xslot_congr {off : Fin 3 → Nat} {s : Fin 64} (e : off = slotOff s) (hh hs) :
    (xvM.slice (Rect.unit (s := S64x1536x256) off S1x1536x256.size hh) hs).squeeze S1536x256 squeezes_S1x1536x256_S1536x256 = xslot s :=
  congrArg (fun M : Memref sig .tc .vmem S1x1536x256 .bf16 => M.squeeze S1536x256 squeezes_S1x1536x256_S1536x256) (Memref.slice_unit_congr _ e _ _ _ (fun _ => rfl))
theorem wslot_congr {off : Fin 3 → Nat} {s : Fin 3} (e : off = slotOff s) (hh hs) :
    (wvM.slice (Rect.unit (s := S3x2048x256) off S1x2048x256.size hh) hs).squeeze S2048x256 squeezes_S1x2048x256_S2048x256 = wslot s :=
  congrArg (fun M : Memref sig .tc .vmem S1x2048x256 .i32 => M.squeeze S2048x256 squeezes_S1x2048x256_S2048x256) (Memref.slice_unit_congr _ e _ _ _ (fun _ => rfl))
theorem eslot_congr {off : Fin 3 → Nat} {s : Fin 3} (e : off = slotOff s) (hh hs) :
    (evM.slice (Rect.unit (s := S3x512x256) off S1x512x256.size hh) hs).squeeze S512x256 squeezes_S1x512x256_S512x256 = eslot s :=
  congrArg (fun M : Memref sig .tc .vmem S1x512x256 .i8 => M.squeeze S512x256 squeezes_S1x512x256_S512x256) (Memref.slice_unit_congr _ e _ _ _ (fun _ => rfl))
theorem yslot_congr {off : Fin 3 → Nat} {s : Fin 2} (e : off = slotOff s) (hh hs) :
    (yvM.slice (Rect.unit (s := S2x1536x256) off S1x1536x256.size hh) hs).squeeze S1536x256 squeezes_S1x1536x256_S1536x256 = yslot s :=
  congrArg (fun M : Memref sig .tc .vmem S1x1536x256 .bf16 => M.squeeze S1536x256 squeezes_S1x1536x256_S1536x256) (Memref.slice_unit_congr _ e _ _ _ (fun _ => rfl))
end Congr

/-! ## The printed offsets and conditions at tile `t` -/

section Off
variable (t : Fin k0_t1_loop.trips)

theorem trips_eq : k0_t1_loop.trips = 24 := by decide +kernel
theorem t_lt : t.val < 24 := Nat.lt_of_lt_of_eq t.isLt trips_eq

theorem cond1_iff : ∀ t : Fin k0_t1_loop.trips, k0_cond1 t = 1#1 ↔ t.val + 1 < 24 := by decide +kernel
theorem cond2_iff : ∀ t : Fin k0_t1_loop.trips, k0_cond2 t = 1#1 ↔ t.val + 2 < 24 := by decide +kernel
theorem cond3_iff : ∀ t : Fin k0_t1_loop.trips, k0_cond3 t = 1#1 ↔ 3 ≤ t.val := by decide +kernel
theorem cond4_iff : ∀ t : Fin k0_t1_loop.trips, k0_cond4 t = 1#1 ↔ 2 ≤ t.val := by decide +kernel

theorem off1_eq : ∀ t : Fin k0_t1_loop.trips, k0_off1 t = semOff (Ring.sl 3 (t.val + 1)) := by decide +kernel
theorem off2_eq : ∀ t : Fin k0_t1_loop.trips, k0_off2 t = slotOff (Ring.sl 3 (t.val + 1)) := by decide +kernel
theorem off3_eq : ∀ t : Fin k0_t1_loop.trips, t.val + 1 < 24 → k0_off3 t = colOff (Ring.bk 24 (t.val + 1)) := by decide +kernel
theorem off4_eq : ∀ t : Fin k0_t1_loop.trips, k0_off4 t = slotOff (Ring.sl 3 (t.val + 1)) := by decide +kernel
theorem off5_eq : ∀ t : Fin k0_t1_loop.trips, t.val + 1 < 24 → k0_off5 t = colOff (Ring.bk 24 (t.val + 1)) := by decide +kernel
theorem off6_eq : ∀ t : Fin k0_t1_loop.trips, k0_off6 t = semOff (Ring.sl 3 (t.val + 2)) := by decide +kernel
theorem off7_eq : ∀ t : Fin k0_t1_loop.trips, k0_off7 t = slotOff (Ring.sl 3 (t.val + 2)) := by decide +kernel
theorem off8_eq : ∀ t : Fin k0_t1_loop.trips, t.val + 2 < 24 → k0_off8 t = colOff (Ring.bk 24 (t.val + 2)) := by decide +kernel
theorem off9_eq : ∀ t : Fin k0_t1_loop.trips, k0_off9 t = slotOff (Ring.sl 3 (t.val + 2)) := by decide +kernel
theorem off10_eq : ∀ t : Fin k0_t1_loop.trips, t.val + 2 < 24 → k0_off10 t = colOff (Ring.bk 24 (t.val + 2)) := by decide +kernel
theorem off11_eq : ∀ t : Fin k0_t1_loop.trips, 3 ≤ t.val → k0_off11 t = semOff (Ring.sl 2 (t.val + 1)) := by decide +kernel
theorem off12_eq : ∀ t : Fin k0_t1_loop.trips, 3 ≤ t.val → k0_off12 t = colOff (Ring.bk 24 (t.val - 3)) := by decide +kernel
theorem off13_eq : ∀ t : Fin k0_t1_loop.trips, 3 ≤ t.val → k0_off13 t = slotOff (Ring.sl 2 (t.val + 1)) := by decide +kernel
theorem off14_eq : ∀ t : Fin k0_t1_loop.trips, 2 ≤ t.val → k0_off14 t = semOff (Ring.sl 2 t.val) := by decide +kernel
theorem off15_eq : ∀ t : Fin k0_t1_loop.trips, 2 ≤ t.val → k0_off15 t = colOff (Ring.bk 24 (t.val - 2)) := by decide +kernel
theorem off16_eq : ∀ t : Fin k0_t1_loop.trips, 2 ≤ t.val → k0_off16 t = slotOff (Ring.sl 2 t.val) := by decide +kernel
theorem off17_eq : ∀ t : Fin k0_t1_loop.trips, k0_off17 t = ![(Ring.sl 2 (t.val + 1)).val, 0, 0] := by decide +kernel
theorem off18_eq : ∀ t : Fin k0_t1_loop.trips, k0_off18 t = ![(Ring.sl 2 (t.val + 1)).val, 768, 0] := by decide +kernel
theorem off21_eq : ∀ t : Fin k0_t1_loop.trips, k0_off21 t = ![(Ring.sl 2 (t.val + 1)).val, 256, 0] := by decide +kernel
theorem off22_eq : ∀ t : Fin k0_t1_loop.trips, k0_off22 t = ![(Ring.sl 2 (t.val + 1)).val, 1024, 0] := by decide +kernel
theorem off23_eq : ∀ t : Fin k0_t1_loop.trips, k0_off23 t = ![(Ring.sl 2 (t.val + 1)).val, 512, 0] := by decide +kernel
theorem off24_eq : ∀ t : Fin k0_t1_loop.trips, k0_off24 t = ![(Ring.sl 2 (t.val + 1)).val, 1280, 0] := by decide +kernel
theorem slotC_eq : ∀ t : Fin k0_t1_loop.trips, slotC t = (Ring.sl 3 t.val).val := by decide +kernel
theorem slotN_eq : ∀ t : Fin k0_t1_loop.trips, slotN t = (Ring.sl 3 (t.val + 1)).val := by decide +kernel
end Off

end Cert.Kernel.Prf
-- ==== Proof.KTile.lean ====
/- The printed tile body is its guards followed by the fold of `Panel.lean`. -/
module

public import proofs.«01_k».proof.Proof.KPanel
public import Idealize.ShloMosaic.Lib.Tactic

@[expose] public section

noncomputable section

namespace Cert.Kernel.Prf

open Idealize.ShloMosaic Idealize.SL.Sem
open Cert.Kernel Cert.Kernel.Gen

variable {F : FTy → Type} [FloatOps F]

/-- The fourth guard: the copy of a finished tile's results out, two tiles on. -/
def guardY (arg6 : Memref sig .tc .hbm S1536x6144 .bf16) (harg6 : arg6.IsWhole)
    (arg11 : Memref sig .tc .vmem S2x1536x256 .bf16) (harg11 : arg11.IsWhole) (arg16 : DmaSems sig S2)
    (k0_t1 : Fin k0_t1_loop.trips) : Prog (TpuEff nD τ sig (Elt F) Λ₀ .tc) PUnit :=
  if k0_h4 : k0_cond4 k0_t1 = 1#1 then do
    Prog.lift (.enqueueDma ((arg11.slice (Rect.unit (s := S2x1536x256) (k0_off16 k0_t1) S1x1536x256.size (k0_off16_inb k0_t1 k0_h4)) (fun _ => rfl)).squeeze S1536x256 squeezes_S1x1536x256_S1536x256)
      (.here (arg6.slice (Rect.unit (s := S1536x6144) (k0_off15 k0_t1) S1536x256.size (k0_off15_inb k0_t1 k0_h4)) (fun _ => rfl)))
      (.dma ((arg16.slice (Rect.unit (s := S2) (k0_off14 k0_t1) S1.size (k0_off14_inb k0_t1 k0_h4))).squeeze S_ squeezes_S1_S_).sem)
      ((harg11.wordExact_slice rfl _ (k0_off16_wordsbf16 k0_t1 k0_h4)).reshape _ _) (harg6.wordExact_slice rfl _ (k0_off15_wordsbf16 k0_t1 k0_h4)) ⟨Or.inl rfl, trivial⟩)
    pure ⟨⟩
  else do
    pure ⟨⟩

/-- The part of the printed body that follows the fourth guard in its window. -/
def part4Tail (arg8 : Memref sig .tc .vmem S64x1536x256 .bf16) (arg10 : Memref sig .tc .vmem S3x512x256 .i8) (arg11 : Memref sig .tc .vmem S2x1536x256 .bf16) (harg11 : arg11.IsWhole)
    (k0_t1 : Fin k0_t1_loop.trips) (k0_mxu10 : Mxu F) (arg18_r0 : BitVec 32) (v881_r0 : BitVec 32) (v905_r0 : BitVec 32) :
    Prog (TpuEff nD τ sig (Elt F) Λ₀ .tc) (Σ' (v917_r0 : BitVec 32) (k0_mxu15 : Mxu F) (v937_r0 : IVec S32x256 32), BitVec 32) := do
  let c1_i32_785_r0 : BitVec 32 := 1#32
  let v907_r0 : BitVec 32 := Scalar.addi arg18_r0 c1_i32_785_r0
  let c2_i32_786_r0 : BitVec 32 := 2#32
  let c0_i32_787_r0 : BitVec 32 := 0#32
  let v908_r0 : BitVec 1 := Scalar.cmpi .eq c2_i32_786_r0 c0_i32_787_r0
  let c1_i32_788_r0 : BitVec 32 := 1#32
  let v909_r0 : BitVec 32 := Scalar.select v908_r0 c1_i32_788_r0 c2_i32_786_r0
  let v910_r0 : BitVec 32 := Scalar.remsi v907_r0 v909_r0
  let c0_i32_789_r0 : BitVec 32 := 0#32
  let v911_r0 : BitVec 1 := Scalar.cmpi .ne v910_r0 c0_i32_789_r0
  let c0_i32_790_r0 : BitVec 32 := 0#32
  let v912_r0 : BitVec 1 := Scalar.cmpi .slt v910_r0 c0_i32_790_r0
  let c0_i32_791_r0 : BitVec 32 := 0#32
  let v913_r0 : BitVec 1 := Scalar.cmpi .slt v909_r0 c0_i32_791_r0
  let v914_r0 : BitVec 1 := Scalar.xori v912_r0 v913_r0
  let v915_r0 : BitVec 1 := Scalar.andi v914_r0 v911_r0
  let v916_r0 : BitVec 32 := Scalar.addi v910_r0 v909_r0
  let v917_r0 : BitVec 32 := Scalar.select v915_r0 v916_r0 v910_r0
  have v918_r0 : FVec F S256x256 .f32 := k0_mxu10.read 0 0 fits_0_256
  have k0_mxu12 : Mxu F := k0_mxu10.pop 0 0 256 fits_0_256
  have v919_r0 : FVec F S256x256 .bf16 := truncf .bf16 v918_r0 bitsLt_bf16_f32
  let v920_r0 : Index := Scalar.indexCast v917_r0
  let c0_792_r0 : Index := 0#32
  let c0_793_r0 : Index := 0#32
  let v921_r0 : Vec F S1x256x256 .bf16 ← Prog.lift (.load arg11 (Rect.unit (s := S2x1536x256) (k0_off17 k0_t1) S1x256x256.size (k0_off17_inb k0_t1)).toLoadRect (View.loadsAt_vmem h_S1x256x256))
  have v922_r0 : FVec F S256x256 .bf16 := shapeCast S256x256 v921_r0 shapeCasts_S1x256x256_S256x256
  have v923_r0 : FVec F S1x256x256 .bf16 := shapeCast S1x256x256 v919_r0 shapeCasts_S256x256_S1x256x256
  Prog.lift (.store arg11 (Rect.unit (s := S2x1536x256) (k0_off17 k0_t1) S1x256x256.size (k0_off17_inb k0_t1)) v923_r0 Finset.univ (View.stores_vmem h_S1x256x256 (harg11.storeExact_slice rfl _ (k0_off17_packedbf16 k0_t1)) (fun _ => rfl)) (.inl rfl))
  let c0_794_r0 : Index := 0#32
  let c0_795_r0 : Index := 0#32
  let c0_796_r0 : Index := 0#32
  let v924_r0 : Vec F S1x256x256 .bf16 ← Prog.lift (.load arg8 (Rect.unit (s := S64x1536x256) ![0, 0, 0] S1x256x256.size inb_S64x1536x256_S1x256x256_0_0_0).toLoadRect (View.loadsAt_vmem h_S1x256x256))
  have v925_r0 : FVec F S256x256 .bf16 := shapeCast S256x256 v924_r0 shapeCasts_S1x256x256_S256x256
  have k0_mxu13 : Mxu F := k0_mxu12.accLhs 0 0 0 v925_r0 fits_0_256
  have v926_r0 : FVec F S256x256 .f32 := k0_mxu13.read 1 0 fits_0_256
  have k0_mxu14 : Mxu F := k0_mxu13.pop 1 0 256 fits_0_256
  have v927_r0 : FVec F S256x256 .bf16 := truncf .bf16 v926_r0 bitsLt_bf16_f32
  let v928_r0 : Index := Scalar.indexCast v917_r0
  let c768_797_r0 : Index := 768#32
  let c0_798_r0 : Index := 0#32
  let v929_r0 : Vec F S1x256x256 .bf16 ← Prog.lift (.load arg11 (Rect.unit (s := S2x1536x256) (k0_off18 k0_t1) S1x256x256.size (k0_off18_inb k0_t1)).toLoadRect (View.loadsAt_vmem h_S1x256x256))
  have v930_r0 : FVec F S256x256 .bf16 := shapeCast S256x256 v929_r0 shapeCasts_S1x256x256_S256x256
  have v931_r0 : FVec F S1x256x256 .bf16 := shapeCast S1x256x256 v927_r0 shapeCasts_S256x256_S1x256x256
  Prog.lift (.store arg11 (Rect.unit (s := S2x1536x256) (k0_off18 k0_t1) S1x256x256.size (k0_off18_inb k0_t1)) v931_r0 Finset.univ (View.stores_vmem h_S1x256x256 (harg11.storeExact_slice rfl _ (k0_off18_packedbf16 k0_t1)) (fun _ => rfl)) (.inl rfl))
  let c0_799_r0 : Index := 0#32
  let c768_800_r0 : Index := 768#32
  let c0_801_r0 : Index := 0#32
  let v932_r0 : Vec F S1x256x256 .bf16 ← Prog.lift (.load arg8 (Rect.unit (s := S64x1536x256) ![0, 768, 0] S1x256x256.size inb_S64x1536x256_S1x256x256_0_768_0).toLoadRect (View.loadsAt_vmem h_S1x256x256))
  have v933_r0 : FVec F S256x256 .bf16 := shapeCast S256x256 v932_r0 shapeCasts_S1x256x256_S256x256
  have k0_mxu15 : Mxu F := k0_mxu14.accLhs 1 0 0 v933_r0 fits_0_256
  let v934_r0 : Index := Scalar.indexCast v881_r0
  let c0_802_r0 : Index := 0#32
  let c0_803_r0 : Index := 0#32
  let v935_r0 : Vec F S1x32x256 .i8 ← Prog.lift (.load arg10 (Rect.unit (s := S3x512x256) (k0_off19 k0_t1) S1x32x256.size (k0_off19_inb k0_t1)).toLoadRect (View.loadsAt_vmem h_S1x32x256))
  have v936_r0 : IVec S32x256 8 := shapeCast S32x256 v935_r0 shapeCasts_S1x32x256_S32x256
  have v937_r0 : IVec S32x256 32 := extui 32 v936_r0 natLt_8_32
  let c7_i32_804_r0 : BitVec 32 := 7#32
  pure ⟨v917_r0, k0_mxu15, v937_r0, c7_i32_804_r0⟩

set_option maxRecDepth 65536 in
theorem part4_eq
    (arg0 : Memref sig .tc .vmem S1536x256 .bf16) (harg0 : arg0.IsWhole) (arg1 : Memref sig .tc .vmem S256x6144 .bf16) (harg1 : arg1.IsWhole) (arg2 : Memref sig .tc .vmem S256x256 .bf16) (harg2 : arg2.IsWhole) (arg3 : Memref sig .tc .hbm S1536x16384 .bf16) (harg3 : arg3.IsWhole) (arg4 : Memref sig .tc .hbm S2048x6144 .i32) (harg4 : arg4.IsWhole) (arg5 : Memref sig .tc .hbm S512x6144 .i8) (harg5 : arg5.IsWhole) (arg6 : Memref sig .tc .hbm S1536x6144 .bf16) (harg6 : arg6.IsWhole) (arg7 : Memref sig .tc .hbm S1536x80 .bf16) (harg7 : arg7.IsWhole) (arg8 : Memref sig .tc .vmem S64x1536x256 .bf16) (harg8 : arg8.IsWhole) (arg9 : Memref sig .tc .vmem S3x2048x256 .i32) (harg9 : arg9.IsWhole) (arg10 : Memref sig .tc .vmem S3x512x256 .i8) (harg10 : arg10.IsWhole) (arg11 : Memref sig .tc .vmem S2x1536x256 .bf16) (harg11 : arg11.IsWhole) (arg12 : Memref sig .tc .vmem S1536x80 .bf16) (harg12 : arg12.IsWhole) (arg13 : DmaSems sig S64) (arg14 : DmaSems sig S3) (arg15 : DmaSems sig S3) (arg16 : DmaSems sig S2) (arg17 : DmaSems sig S1)

    (k0_t1 : Fin k0_t1_loop.trips) (k0_mxu10 : Mxu F) (arg18_r0 : BitVec 32) (v881_r0 : BitVec 32) (v905_r0 : BitVec 32) :
    k0_part4 arg0 harg0 arg1 harg1 arg2 harg2 arg3 harg3 arg4 harg4 arg5 harg5 arg6 harg6 arg7 harg7 arg8 harg8 arg9 harg9 arg10 harg10 arg11 harg11 arg12 harg12 arg13 arg14 arg15 arg16 arg17 k0_t1 k0_mxu10 arg18_r0 v881_r0 v905_r0
      = (guardY (F := F) arg6 harg6 arg11 harg11 arg16 k0_t1 >>= fun _ => part4Tail arg8 arg10 arg11 harg11 k0_t1 k0_mxu10 arg18_r0 v881_r0 v905_r0) := by
  unfold k0_part4 guardY
  by_cases h : k0_cond4 k0_t1 = 1#1
  · refine (dif_pos h).trans (Eq.trans ?_ (congrArg (fun g => g >>= fun _ => part4Tail arg8 arg10 arg11 harg11 k0_t1 k0_mxu10 arg18_r0 v881_r0 v905_r0) (dif_pos h)).symm)
    sl_kernel_rfl
  · refine (dif_neg h).trans (Eq.trans ?_ (congrArg (fun g => g >>= fun _ => part4Tail arg8 arg10 arg11 harg11 k0_t1 k0_mxu10 arg18_r0 v881_r0 v905_r0) (dif_neg h)).symm)
    sl_kernel_rfl

theorem bind_bind {E : Type → Type} {α β γ : Type} (p : Prog E α) (f : α → Prog E β) (g : β → Prog E γ) :
    ((p >>= f) >>= g) = (p >>= fun x => f x >>= g) := Prog.bind_assoc p f g

theorem assoc3 {E : Type → Type} {α γ δ : Type} (A : Prog E α) (M : α → Prog E γ) (D : γ → Prog E δ) (G : Prog E PUnit) (K : α → Prog E δ)
    (hM : ∀ r, (M r >>= D) = (G >>= fun _ => K r)) :
    ((A >>= M) >>= D) = (A >>= fun r => G >>= fun _ => K r) := by
  rw [bind_bind]
  exact congrArg (A >>= ·) (funext hM)

theorem assoc4 {E : Type → Type} {β γ δ : Type} (B : Prog E β) (T : Prog E β) (C : β → Prog E γ) (D : γ → Prog E δ) (G : Prog E PUnit) (K : Prog E δ)
    (hB : B = (G >>= fun _ => T)) (hK : ((T >>= C) >>= D) = K) :
    ((B >>= C) >>= D) = (G >>= fun _ => K) := by
  rw [hB, bind_bind, bind_bind]
  refine congrArg (G >>= ·) (funext fun _ => ?_)
  rw [← bind_bind]
  exact hK

set_option maxRecDepth 65536 in
theorem body_eq
    (arg0 : Memref sig .tc .vmem S1536x256 .bf16) (harg0 : arg0.IsWhole) (arg1 : Memref sig .tc .vmem S256x6144 .bf16) (harg1 : arg1.IsWhole) (arg2 : Memref sig .tc .vmem S256x256 .bf16) (harg2 : arg2.IsWhole) (arg3 : Memref sig .tc .hbm S1536x16384 .bf16) (harg3 : arg3.IsWhole) (arg4 : Memref sig .tc .hbm S2048x6144 .i32) (harg4 : arg4.IsWhole) (arg5 : Memref sig .tc .hbm S512x6144 .i8) (harg5 : arg5.IsWhole) (arg6 : Memref sig .tc .hbm S1536x6144 .bf16) (harg6 : arg6.IsWhole) (arg7 : Memref sig .tc .hbm S1536x80 .bf16) (harg7 : arg7.IsWhole) (arg8 : Memref sig .tc .vmem S64x1536x256 .bf16) (harg8 : arg8.IsWhole) (arg9 : Memref sig .tc .vmem S3x2048x256 .i32) (harg9 : arg9.IsWhole) (arg10 : Memref sig .tc .vmem S3x512x256 .i8) (harg10 : arg10.IsWhole) (arg11 : Memref sig .tc .vmem S2x1536x256 .bf16) (harg11 : arg11.IsWhole) (arg12 : Memref sig .tc .vmem S1536x80 .bf16) (harg12 : arg12.IsWhole) (arg13 : DmaSems sig S64) (arg14 : DmaSems sig S3) (arg15 : DmaSems sig S3) (arg16 : DmaSems sig S2) (arg17 : DmaSems sig S1)
    (k0_mxu7 : Mxu F) (v683_r0 : IVec S32x256 32) (v712_r0 : FVec F S256x256 .bf16) (v717_r0 : FVec F S32x256 .bf16) (v718_r0 : FVec F S32x256 .bf16)
    (t : Fin k0_t1_loop.trips) (s : Mxu F) :
    k0_t1_body arg0 harg0 arg1 harg1 arg2 harg2 arg3 harg3 arg4 harg4 arg5 harg5 arg6 harg6 arg7 harg7 arg8 harg8 arg9 harg9 arg10 harg10 arg11 harg11 arg12 harg12 arg13 arg14 arg15 arg16 arg17 k0_mxu7 v683_r0 v712_r0 v717_r0 v718_r0 t s
      = (k0_part3 (F := F) arg0 harg0 arg1 harg1 arg2 harg2 arg3 harg3 arg4 harg4 arg5 harg5 arg6 harg6 arg7 harg7 arg8 harg8 arg9 harg9 arg10 harg10 arg11 harg11 arg12 harg12 arg13 arg14 arg15 arg16 arg17 0#32 1#32 t >>= fun r => guardY (F := F) arg6 harg6 arg11 harg11 arg16 t >>= fun _ =>
          tile (F := F) arg0 arg1 arg2 arg8 arg9 arg10 arg11 harg11 r.1 t s) := by
  unfold k0_t1_body k0_part153
  refine assoc3 _ _ _ _ _ ?_
  rintro ⟨a, b, c, d⟩
  dsimp only
  refine assoc4 _ _ _ _ _ _ (part4_eq ..) ?_
  sl_kernel_rfl

end Cert.Kernel.Prf
-- ==== Proof.KGuards.lean ====
/- The copies of a tile: the weights and scales of the tiles ahead are waited for and started, the result blocks of
   the tiles behind are waited for and started. -/
module

public import proofs.«01_k».proof.Proof.KNames
public import proofs.«01_k».proof.Proof.KTile

@[expose] public section

noncomputable section

namespace Cert.Kernel.Prf

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

section Pieces
variable (c : Dev nD)

/-- Contents of a memref's buffer on core `c`. -/
abbrev Cont {sp : Space} {s : Shape} {e : EltTy} (M : Memref sig .tc sp s e) : Type := Buf (Elt F) (M.view.loc (c : Thread nD τ))
/-- A memref's elements held at contents `f`. -/
abbrev held {sp : Space} {s : Shape} {e : EltTy} (M : Memref sig .tc sp s e) (f : Buf (Elt F) (M.view.loc (c : Thread nD τ))) : sProp 𝕄 :=
  M.view.loc (c : Thread nD τ) ↦[M.view.set]{fullShare} f
abbrev cellP (s : DmaSems sig S_) : sProp 𝕄 := semVal ((c : Thread nD τ), SemLoc.dma s.sem) 0
/-- A copy of `src`, at contents `g`, over `dst`, whose contents were `f`, in flight on semaphore `sm`. -/
abbrev flight {sp sp' : Space} {s : Shape} {e : EltTy} (sm : DmaSems sig S_) (n : ℕ) (src : Memref sig .tc sp s e) (dst : Memref sig .tc sp' s e)
    (g : Buf (Elt F) (src.view.loc (c : Thread nD τ))) (f : Buf (Elt F) (dst.view.loc (c : Thread nD τ))) : sProp 𝕄 :=
  Transfers.Flight countersEmb (c : Thread nD τ) (SemLoc.dma sm.sem) () n
    iprop(held c dst (dst.view.writes (Elt F) f [⟨Rect.whole s, ReadAs.same.apply (src.view.read (Elt F) g)⟩]) ∗ held c src g)

end Pieces

/-! ### The names of the tile's slices -/
section Canon
variable (t : Fin k0_t1_loop.trips)
@[sl_canon] theorem wsemA (hh) : (cc0_scratch6.slice (Rect.unit (s := S3) (k0_off1 t) S1.size hh)).squeeze S_ squeezes_S1_S_ = wsem (Ring.sl 3 (t.val + 1)) := wsem_congr (off1_eq t) _
@[sl_canon] theorem esemA (hh) : (cc0_scratch7.slice (Rect.unit (s := S3) (k0_off1 t) S1.size hh)).squeeze S_ squeezes_S1_S_ = esem (Ring.sl 3 (t.val + 1)) := esem_congr (off1_eq t) _
@[sl_canon] theorem wsemB (hh) : (cc0_scratch6.slice (Rect.unit (s := S3) (k0_off6 t) S1.size hh)).squeeze S_ squeezes_S1_S_ = wsem (Ring.sl 3 (t.val + 2)) := wsem_congr (off6_eq t) _
@[sl_canon] theorem esemB (hh) : (cc0_scratch7.slice (Rect.unit (s := S3) (k0_off6 t) S1.size hh)).squeeze S_ squeezes_S1_S_ = esem (Ring.sl 3 (t.val + 2)) := esem_congr (off6_eq t) _
@[sl_canon] theorem wslotA (hh hs) : (wvM.slice (Rect.unit (s := S3x2048x256) (k0_off2 t) S1x2048x256.size hh) hs).squeeze S2048x256 squeezes_S1x2048x256_S2048x256 = wslot (Ring.sl 3 (t.val + 1)) := wslot_congr (off2_eq t) _ _
@[sl_canon] theorem eslotA (hh hs) : (evM.slice (Rect.unit (s := S3x512x256) (k0_off4 t) S1x512x256.size hh) hs).squeeze S512x256 squeezes_S1x512x256_S512x256 = eslot (Ring.sl 3 (t.val + 1)) := eslot_congr (off4_eq t) _ _
@[sl_canon] theorem wslotB (hh hs) : (wvM.slice (Rect.unit (s := S3x2048x256) (k0_off7 t) S1x2048x256.size hh) hs).squeeze S2048x256 squeezes_S1x2048x256_S2048x256 = wslot (Ring.sl 3 (t.val + 2)) := wslot_congr (off7_eq t) _ _
@[sl_canon] theorem eslotB (hh hs) : (evM.slice (Rect.unit (s := S3x512x256) (k0_off9 t) S1x512x256.size hh) hs).squeeze S512x256 squeezes_S1x512x256_S512x256 = eslot (Ring.sl 3 (t.val + 2)) := eslot_congr (off9_eq t) _ _
@[sl_canon] theorem wblkA (h : t.val + 1 < 24) (hh hs) : wM.slice (Rect.unit (s := S2048x6144) (k0_off3 t) S2048x256.size hh) hs = wblk (Ring.bk 24 (t.val + 1)) := wblk_congr (off3_eq t h) _ _
@[sl_canon] theorem eblkA (h : t.val + 1 < 24) (hh hs) : eM.slice (Rect.unit (s := S512x6144) (k0_off5 t) S512x256.size hh) hs = eblk (Ring.bk 24 (t.val + 1)) := eblk_congr (off5_eq t h) _ _
@[sl_canon] theorem wblkB (h : t.val + 2 < 24) (hh hs) : wM.slice (Rect.unit (s := S2048x6144) (k0_off8 t) S2048x256.size hh) hs = wblk (Ring.bk 24 (t.val + 2)) := wblk_congr (off8_eq t h) _ _
@[sl_canon] theorem eblkB (h : t.val + 2 < 24) (hh hs) : eM.slice (Rect.unit (s := S512x6144) (k0_off10 t) S512x256.size hh) hs = eblk (Ring.bk 24 (t.val + 2)) := eblk_congr (off10_eq t h) _ _
@[sl_canon] theorem ysemA (h : 3 ≤ t.val) (hh) : (cc0_scratch8.slice (Rect.unit (s := S2) (k0_off11 t) S1.size hh)).squeeze S_ squeezes_S1_S_ = ysem (Ring.sl 2 (t.val + 1)) := ysem_congr (off11_eq t h) _
@[sl_canon] theorem yblkA (h : 3 ≤ t.val) (hh hs) : yM.slice (Rect.unit (s := S1536x6144) (k0_off12 t) S1536x256.size hh) hs = yblk (Ring.bk 24 (t.val - 3)) := yblk_congr (off12_eq t h) _ _
@[sl_canon] theorem yslotA (h : 3 ≤ t.val) (hh hs) : (yvM.slice (Rect.unit (s := S2x1536x256) (k0_off13 t) S1x1536x256.size hh) hs).squeeze S1536x256 squeezes_S1x1536x256_S1536x256 = yslot (Ring.sl 2 (t.val + 1)) := yslot_congr (off13_eq t h) _ _
@[sl_canon] theorem ysemB (h : 2 ≤ t.val) (hh) : (cc0_scratch8.slice (Rect.unit (s := S2) (k0_off14 t) S1.size hh)).squeeze S_ squeezes_S1_S_ = ysem (Ring.sl 2 t.val) := ysem_congr (off14_eq t h) _
@[sl_canon] theorem yblkB (h : 2 ≤ t.val) (hh hs) : yM.slice (Rect.unit (s := S1536x6144) (k0_off15 t) S1536x256.size hh) hs = yblk (Ring.bk 24 (t.val - 2)) := yblk_congr (off15_eq t h) _ _
@[sl_canon] theorem yslotB (h : 2 ≤ t.val) (hh hs) : (yvM.slice (Rect.unit (s := S2x1536x256) (k0_off16 t) S1x1536x256.size hh) hs).squeeze S1536x256 squeezes_S1x1536x256_S1536x256 = yslot (Ring.sl 2 t.val) := yslot_congr (off16_eq t h) _ _
end Canon

/-! ### What a tile's copies hand over -/
section Roles
variable (c : Dev nD)
  (W : Buf (Elt F) ((c : Thread nD τ).loc main_arg1)) (E : Buf (Elt F) ((c : Thread nD τ).loc main_arg2))
  (Y : Fin 24 → S1536x256.Idx → Elt F .bf16)

/-- The weights' contents, as those of one of its blocks. -/
abbrev wAt (b : Fin 24) : Buf (Elt F) ((wblk b).view.loc (c : Thread nD τ)) := W
abbrev eAt (b : Fin 24) : Buf (Elt F) ((eblk b).view.loc (c : Thread nD τ)) := E

/-- The blocks other than number `k`. -/
def others (k : ℕ) : Finset (Fin 24) := Finset.univ.filter (fun b => b.val ≠ k)
def others2 (k : ℕ) : Finset (Fin 24) := Finset.univ.filter (fun b => b.val ≠ k ∧ b.val ≠ k + 1)

theorem others_out (k : ℕ) (h : k + 1 < 24) : others k = insert (Ring.bk 24 (k + 1)) (others2 k) := by
  ext b; simp only [others, others2, Finset.mem_insert, Finset.mem_filter, Finset.mem_univ, true_and, Fin.ext_iff, Ring.bk_val h]; omega
theorem others_in (k : ℕ) (h : k < 24) : others (k + 1) = insert (Ring.bk 24 k) (others2 k) := by
  ext b; simp only [others, others2, Finset.mem_insert, Finset.mem_filter, Finset.mem_univ, true_and, Fin.ext_iff, Ring.bk_val h]; omega
theorem others_last (k : ℕ) (h : 24 ≤ k + 1) : others2 k = others k := by
  ext b; simp only [others, others2, Finset.mem_filter, Finset.mem_univ, true_and]; have := b.isLt; omega
theorem others_past (k : ℕ) (h : 24 ≤ k) : others (k + 1) = others k := by
  ext b; simp only [others, Finset.mem_filter, Finset.mem_univ, true_and]; have := b.isLt; omega
theorem others2_out (k : ℕ) (h : k + 1 < 24) : Ring.bk 24 (k + 1) ∉ others2 k := by
  simp only [others2, Finset.mem_filter, Finset.mem_univ, true_and, Ring.bk_val h]; omega
theorem others2_in (k : ℕ) (h : k < 24) : Ring.bk 24 k ∉ others2 k := by
  simp only [others2, Finset.mem_filter, Finset.mem_univ, true_and, Ring.bk_val h]; omega

/-- Tile `k`'s weights in flight, or past the last tile their slot idle. -/
def wNext (k : ℕ) : sProp 𝕄 :=
  if k < 24 then iprop(∃ f, flight c (wsem (Ring.sl 3 k)) 65536 (wblk (Ring.bk 24 k)) (wslot (Ring.sl 3 k)) (wAt c W (Ring.bk 24 k)) f)
  else iprop((∃ f, held c (wslot (Ring.sl 3 k)) f) ∗ cellP c (wsem (Ring.sl 3 k)))
def eNext (k : ℕ) : sProp 𝕄 :=
  if k < 24 then iprop(∃ f, flight c (esem (Ring.sl 3 k)) 4096 (eblk (Ring.bk 24 k)) (eslot (Ring.sl 3 k)) (eAt c E (Ring.bk 24 k)) f)
  else iprop((∃ f, held c (eslot (Ring.sl 3 k)) f) ∗ cellP c (esem (Ring.sl 3 k)))
/-- Tile `k`'s weights landed in their slot. -/
def wHave (k : ℕ) : sProp 𝕄 :=
  iprop((∃ f, ⌜k < 24 → (wslot (Ring.sl 3 k)).view.read (Elt F) f = (wblk (Ring.bk 24 k)).view.read (Elt F) (wAt c W (Ring.bk 24 k))⌝ ∗ held c (wslot (Ring.sl 3 k)) f)
    ∗ cellP c (wsem (Ring.sl 3 k)))
def eHave (k : ℕ) : sProp 𝕄 :=
  iprop((∃ f, ⌜k < 24 → (eslot (Ring.sl 3 k)).view.read (Elt F) f = (eblk (Ring.bk 24 k)).view.read (Elt F) (eAt c E (Ring.bk 24 k))⌝ ∗ held c (eslot (Ring.sl 3 k)) f)
    ∗ cellP c (esem (Ring.sl 3 k)))
/-- Tile `k`'s slots idle. -/
def wFree (k : ℕ) : sProp 𝕄 := iprop((∃ f, held c (wslot (Ring.sl 3 k)) f) ∗ cellP c (wsem (Ring.sl 3 k)))
def eFree (k : ℕ) : sProp 𝕄 := iprop((∃ f, held c (eslot (Ring.sl 3 k)) f) ∗ cellP c (esem (Ring.sl 3 k)))
/-- The blocks at home while number `k`'s is away. -/
def wHomes (S : Finset (Fin 24)) : sProp 𝕄 := bigSep S (fun b => held c (wblk b) (wAt c W b))
def eHomes (S : Finset (Fin 24)) : sProp 𝕄 := bigSep S (fun b => held c (eblk b) (eAt c E b))

theorem wHomes_out (k : ℕ) (h : k + 1 < 24) : wHomes (F := F) c W (others k)
    = iprop(held c (wblk (Ring.bk 24 (k + 1))) (wAt c W (Ring.bk 24 (k + 1))) ∗ wHomes c W (others2 k)) := by
  unfold wHomes; rw [others_out k h, bigSep_insert (others2_out k h)]; rfl
theorem wHomes_in (k : ℕ) (h : k < 24) : wHomes (F := F) c W (others (k + 1))
    = iprop(held c (wblk (Ring.bk 24 k)) (wAt c W (Ring.bk 24 k)) ∗ wHomes c W (others2 k)) := by
  unfold wHomes; rw [others_in k h, bigSep_insert (others2_in k h)]; rfl
theorem eHomes_out (k : ℕ) (h : k + 1 < 24) : eHomes (F := F) c E (others k)
    = iprop(held c (eblk (Ring.bk 24 (k + 1))) (eAt c E (Ring.bk 24 (k + 1))) ∗ eHomes c E (others2 k)) := by
  unfold eHomes; rw [others_out k h, bigSep_insert (others2_out k h)]; rfl
theorem eHomes_in (k : ℕ) (h : k < 24) : eHomes (F := F) c E (others (k + 1))
    = iprop(held c (eblk (Ring.bk 24 k)) (eAt c E (Ring.bk 24 k)) ∗ eHomes c E (others2 k)) := by
  unfold eHomes; rw [others_in k h, bigSep_insert (others2_in k h)]; rfl

/-- A block of the result, written or not. -/
def yHome (b : Fin 24) (d : Prop) : sProp 𝕄 := iprop(∃ f, ⌜d → (yblk b).view.read (Elt F) f = Y b⌝ ∗ held c (yblk b) f)
/-- Before tile `k`: the copy of tile `k - 3`'s result in flight. -/
def yFly (k : ℕ) : sProp 𝕄 :=
  if 3 ≤ k then iprop(∃ f g, ⌜(yslot (Ring.sl 2 (k + 1))).view.read (Elt F) g = Y (Ring.bk 24 (k - 3))⌝
    ∗ flight c (ysem (Ring.sl 2 (k + 1))) 24576 (yslot (Ring.sl 2 (k + 1))) (yblk (Ring.bk 24 (k - 3))) g f)
  else iprop((∃ f, held c (yslot (Ring.sl 2 (k + 1))) f) ∗ cellP c (ysem (Ring.sl 2 (k + 1))))
/-- Before tile `k`: tile `k - 2`'s result in its slot. -/
def yPend (k : ℕ) : sProp 𝕄 :=
  iprop((∃ f, ⌜2 ≤ k → (yslot (Ring.sl 2 k)).view.read (Elt F) f = Y (Ring.bk 24 (k - 2))⌝ ∗ held c (yslot (Ring.sl 2 k)) f) ∗ cellP c (ysem (Ring.sl 2 k)))
def yFree (k : ℕ) : sProp 𝕄 := iprop((∃ f, held c (yslot (Ring.sl 2 k)) f) ∗ cellP c (ysem (Ring.sl 2 k)))
/-- The result's blocks at home before tile `k`. -/
def away (k : ℕ) : Finset (Fin 24) := Finset.univ.filter (fun b => b.val + 3 ≠ k)
def yHomes (k : ℕ) : sProp 𝕄 := bigSep (away k) (fun b => yHome c Y b (b.val + 3 < k))
def yAll (k : ℕ) : sProp 𝕄 := bigSep Finset.univ (fun b => yHome c Y b (b.val + 3 < k))

theorem away_in (k : ℕ) (h3 : 3 ≤ k) (h : k - 3 < 24) : Finset.univ = insert (Ring.bk 24 (k - 3)) (away k) := by
  ext b; simp only [away, Finset.mem_insert, Finset.mem_filter, Finset.mem_univ, true_and, Fin.ext_iff, Ring.bk_val h, true_iff]; omega
theorem away_not (k : ℕ) (h3 : 3 ≤ k) (h : k - 3 < 24) : Ring.bk 24 (k - 3) ∉ away k := by
  simp only [away, Finset.mem_filter, Finset.mem_univ, true_and, Ring.bk_val h]; omega
theorem away_low (k : ℕ) (h3 : k < 3) : away k = Finset.univ := by
  ext b; simp only [away, Finset.mem_filter, Finset.mem_univ, true_and, iff_true]; omega

/-- Once tile `k - 3`'s block is back, every block is at home. -/
theorem yAll_of (k : ℕ) (h3 : 3 ≤ k) (h : k - 3 < 24) : yAll (F := F) c Y (k + 1) = iprop(yHome c Y (Ring.bk 24 (k - 3)) True ∗ yHomes c Y k) := by
  unfold yAll; rw [away_in k h3 h, bigSep_insert (away_not k h3 h)]; unfold yHomes
  congr 1
  · congr 1; simp only [Ring.bk_val h, eq_iff_iff, iff_true]; omega
  · refine bigSep_congr fun b hb => ?_
    simp only [away, Finset.mem_filter, Finset.mem_univ, true_and] at hb
    congr 1; simp only [eq_iff_iff]; omega
theorem yAll_low (k : ℕ) (h3 : k < 3) : yAll (F := F) c Y (k + 1) = yHomes c Y k := by
  unfold yAll yHomes; rw [away_low k h3]
  refine bigSep_congr fun b hb => ?_
  congr 1; simp only [eq_iff_iff]; omega
/-- Tile `k - 3`'s block about to leave. -/
theorem yAll_out (k : ℕ) (h3 : 3 ≤ k) (h : k - 3 < 24) : yAll (F := F) c Y k = iprop(yHome c Y (Ring.bk 24 (k - 3)) False ∗ yHomes c Y k) := by
  unfold yAll; rw [away_in k h3 h, bigSep_insert (away_not k h3 h)]; unfold yHomes
  congr 1
  congr 1; simp only [Ring.bk_val h, eq_iff_iff, iff_false]; omega
theorem yAll_out_low (k : ℕ) (h3 : k < 3) : yAll (F := F) c Y k = yHomes c Y k := by
  unfold yAll yHomes; rw [away_low k h3]

end Roles

section Guards
variable (c : Dev nD)
  (arg0 : Memref sig .tc .vmem S1536x256 .bf16) (harg0 : arg0.IsWhole) (arg1 : Memref sig .tc .vmem S256x6144 .bf16) (harg1 : arg1.IsWhole)
  (arg2 : Memref sig .tc .vmem S256x256 .bf16) (harg2 : arg2.IsWhole)
  (W : Buf (Elt F) ((c : Thread nD τ).loc main_arg1)) (E : Buf (Elt F) ((c : Thread nD τ).loc main_arg2))
  (Y : Fin 24 → S1536x256.Idx → Elt F .bf16)

abbrev part3P (t : Fin k0_t1_loop.trips) :=
  k0_part3 (F := F) arg0 harg0 arg1 harg1 arg2 harg2 xM (Memref.isWhole_whole _) wM (Memref.isWhole_whole _) eM (Memref.isWhole_whole _) yM (Memref.isWhole_whole _) hM (Memref.isWhole_whole _)
    xvM (Memref.isWhole_whole _) wvM (Memref.isWhole_whole _) evM (Memref.isWhole_whole _) yvM (Memref.isWhole_whole _) hoM (Memref.isWhole_whole _)
    cc0_scratch5 cc0_scratch6 cc0_scratch7 cc0_scratch8 cc0_scratch9 0#32 1#32 t

def guardPre (k : ℕ) : sProp 𝕄 :=
  iprop((∃ W, owes (c : Thread nD τ) 0 W) ∗ wNext c W (k + 1) ∗ wFree c (k + 2) ∗ wHomes c W (others (k + 1))
    ∗ eNext c E (k + 1) ∗ eFree c (k + 2) ∗ eHomes c E (others (k + 1)) ∗ yFly c Y k ∗ yHomes c Y k)
def guardPost (k : ℕ) : sProp 𝕄 :=
  iprop((∃ W, owes (c : Thread nD τ) 0 W) ∗ wHave c W (k + 1) ∗ wNext c W (k + 2) ∗ wHomes c W (others (k + 2))
    ∗ eHave c E (k + 1) ∗ eNext c E (k + 2) ∗ eHomes c E (others (k + 2)) ∗ yFree c (k + 1) ∗ yAll c Y (k + 1))

theorem read_landed {sp sp' : Space} {s : Shape} {e : EltTy} (src : Memref sig .tc sp s e) (dst : Memref sig .tc sp' s e)
    (g : Buf (Elt F) (src.view.loc (c : Thread nD τ))) (f : Buf (Elt F) (dst.view.loc (c : Thread nD τ))) :
    dst.view.read (Elt F) (dst.view.writes (Elt F) f [⟨Rect.whole s, ReadAs.same.apply (src.view.read (Elt F) g)⟩]) = src.view.read (Elt F) g := by
  funext i
  have h := View.read_writes_cons_emb (Val := Elt F) dst.view f (Rect.whole s) (ReadAs.same.apply (src.view.read (Elt F) g)) [] i
  rw [Rect.emb_whole_apply] at h
  exact h

/-- The first three tiles' waits and starts: no result is in flight. -/
theorem part3_low (t : Fin k0_t1_loop.trips) (h3 : t.val < 3) :
    guardPre c W E Y t.val ⊢ wp frame (wpE (defs₀ (F := F)) 𝒱₀ (c : Thread nD τ) none) Set.univ (part3P arg0 harg0 arg1 harg1 arg2 harg2 t)
      (fun r => iprop(⌜r.1 = Scf.iv 0#32 1#32 t.val⌝ ∗ guardPost c W E Y t.val)) := by
  have h1 : t.val + 1 < 24 := by omega
  have h2 : t.val + 2 < 24 := by omega
  have hc1 : k0_cond1 t = 1#1 := (cond1_iff t).2 (by omega)
  have hc2 : k0_cond2 t = 1#1 := (cond2_iff t).2 h2
  have hc3 : ¬ k0_cond3 t = 1#1 := fun h => by have := (cond3_iff t).1 h; omega
  unfold guardPre guardPost wNext eNext yFly wFree eFree wHave eHave yFree
  rw [if_pos h1, if_pos h1, if_pos h2, if_pos h2, if_neg (show ¬ 3 ≤ t.val by omega), yAll_low c Y _ h3, wHomes_out c W _ h2, wHomes_in c W _ h1, eHomes_out c E _ h2, eHomes_in c E _ h1]
  iintro ⟨⟨%WW, HW⟩, ⟨%fw, HFw⟩, ⟨⟨%fw2, Hws⟩, Hcw⟩, ⟨Hwb, Hwr⟩, ⟨%fe, HFe⟩, ⟨⟨%fe2, Hes⟩, Hce⟩, ⟨Heb, Her⟩, ⟨Hys, Hcy⟩, Hyh⟩
  dsimp only [part3P]
  sl_unfold [k0_part3, k0_part1, k0_part2]
  sl_exec
  sl_step
  isplitr; · ipureintro; rfl
  isplitl [HW]; · iexists _; iexact HW
  isplitl [HFw_dst HFw]
  · isplitl [HFw_dst]
    · iexists _; isplitr
      · ipureintro; exact fun _ => read_landed c _ _ _ fw
      iexact HFw_dst
    iexact HFw
  isplitl [Hcw]; · iexists fw2; iexact Hcw
  isplitl [HFw_src Hwr]
  · isplitl [HFw_src] <;> iassumption
  isplitl [HFe_dst HFe]
  · isplitl [HFe_dst]
    · iexists _; isplitr
      · ipureintro; exact fun _ => read_landed c _ _ _ fe
      iexact HFe_dst
    iexact HFe
  isplitl [Hce]; · iexists fe2; iexact Hce
  isplitl [HFe_src Her]
  · isplitl [HFe_src] <;> iassumption
  isplitl [Hys Hcy]
  · isplitl [Hys] <;> iassumption
  iexact Hyh

/-- A middle tile's waits and starts. -/
theorem part3_mid (t : Fin k0_t1_loop.trips) (h3 : 3 ≤ t.val) (h2 : t.val + 2 < 24) :
    guardPre c W E Y t.val ⊢ wp frame (wpE (defs₀ (F := F)) 𝒱₀ (c : Thread nD τ) none) Set.univ (part3P arg0 harg0 arg1 harg1 arg2 harg2 t)
      (fun r => iprop(⌜r.1 = Scf.iv 0#32 1#32 t.val⌝ ∗ guardPost c W E Y t.val)) := by
  have h1 : t.val + 1 < 24 := by omega
  have hc1 : k0_cond1 t = 1#1 := (cond1_iff t).2 (by omega)
  have hc2 : k0_cond2 t = 1#1 := (cond2_iff t).2 h2
  have hc3 : k0_cond3 t = 1#1 := (cond3_iff t).2 h3
  unfold guardPre guardPost wNext eNext yFly wFree eFree wHave eHave yFree
  rw [if_pos h1, if_pos h1, if_pos h2, if_pos h2, if_pos h3, yAll_of c Y t.val h3 (show t.val - 3 < 24 by omega), wHomes_out c W _ h2, wHomes_in c W _ h1, eHomes_out c E _ h2, eHomes_in c E _ h1]
  iintro ⟨⟨%WW, HW⟩, ⟨%fw, HFw⟩, ⟨⟨%fw2, Hws⟩, Hcw⟩, ⟨Hwb, Hwr⟩, ⟨%fe, HFe⟩, ⟨⟨%fe2, Hes⟩, Hce⟩, ⟨Heb, Her⟩, ⟨%fy, %gy, %hgy, HFy⟩, Hyh⟩
  dsimp only [part3P]
  sl_unfold [k0_part3, k0_part1, k0_part2]
  sl_exec
  sl_step
  isplitr; · ipureintro; rfl
  isplitl [HW]; · iexists _; iexact HW
  isplitl [HFw_dst HFw]
  · isplitl [HFw_dst]
    · iexists _; isplitr
      · ipureintro; exact fun _ => read_landed c _ _ _ fw
      iexact HFw_dst
    iexact HFw
  isplitl [Hcw]; · iexists fw2; iexact Hcw
  isplitl [HFw_src Hwr]
  · isplitl [HFw_src] <;> iassumption
  isplitl [HFe_dst HFe]
  · isplitl [HFe_dst]
    · iexists _; isplitr
      · ipureintro; exact fun _ => read_landed c _ _ _ fe
      iexact HFe_dst
    iexact HFe
  isplitl [Hce]; · iexists fe2; iexact Hce
  isplitl [HFe_src Her]
  · isplitl [HFe_src] <;> iassumption
  isplitl [HFy_src HFy]
  · isplitl [HFy_src]; · iexists gy; iexact HFy_src
    iexact HFy
  isplitl [HFy_dst]
  · unfold yHome; iexists ((yblk (Ring.bk 24 (t.val - 3))).view.writes (Elt F) fy [⟨Rect.whole S1536x256, ReadAs.same.apply ((yslot (Ring.sl 2 (t.val + 1))).view.read (Elt F) gy)⟩]); isplitr
    · ipureintro; exact fun _ => (read_landed c _ _ _ fy).trans hgy
    iexact HFy_dst
  iexact Hyh

/-- The last tile but one: nothing more to start. -/
theorem part3_pen (t : Fin k0_t1_loop.trips) (h1 : t.val + 1 < 24) (h2 : 24 ≤ t.val + 2) :
    guardPre c W E Y t.val ⊢ wp frame (wpE (defs₀ (F := F)) 𝒱₀ (c : Thread nD τ) none) Set.univ (part3P arg0 harg0 arg1 harg1 arg2 harg2 t)
      (fun r => iprop(⌜r.1 = Scf.iv 0#32 1#32 t.val⌝ ∗ guardPost c W E Y t.val)) := by
  have h3 : 3 ≤ t.val := by omega
  have hc1 : k0_cond1 t = 1#1 := (cond1_iff t).2 (by omega)
  have hc2 : ¬ k0_cond2 t = 1#1 := fun h => by have := (cond2_iff t).1 h; omega
  have hc3 : k0_cond3 t = 1#1 := (cond3_iff t).2 h3
  unfold guardPre guardPost wNext eNext yFly wFree eFree wHave eHave yFree
  have n2 : ¬ t.val + 2 < 24 := by omega
  rw [if_pos h1, if_pos h1, if_neg n2, if_neg n2, if_pos h3, yAll_of c Y _ h3 (show t.val - 3 < 24 by omega), ← others_last (t.val + 1) h2, wHomes_in c W _ h1, eHomes_in c E _ h1]
  iintro ⟨⟨%WW, HW⟩, ⟨%fw, HFw⟩, ⟨Hws, Hcw⟩, Hwr, ⟨%fe, HFe⟩, ⟨Hes, Hce⟩, Her, ⟨%fy, %gy, %hgy, HFy⟩, Hyh⟩
  dsimp only [part3P]
  sl_unfold [k0_part3, k0_part1, k0_part2]
  sl_exec
  sl_step
  isplitr; · ipureintro; rfl
  isplitl [HW]; · iexists _; iexact HW
  isplitl [HFw_dst HFw]
  · isplitl [HFw_dst]
    · iexists _; isplitr
      · ipureintro; exact fun _ => read_landed c _ _ _ fw
      iexact HFw_dst
    iexact HFw
  isplitl [Hws Hcw]
  · isplitl [Hws] <;> iassumption
  isplitl [HFw_src Hwr]
  · isplitl [HFw_src] <;> iassumption
  isplitl [HFe_dst HFe]
  · isplitl [HFe_dst]
    · iexists _; isplitr
      · ipureintro; exact fun _ => read_landed c _ _ _ fe
      iexact HFe_dst
    iexact HFe
  isplitl [Hes Hce]
  · isplitl [Hes] <;> iassumption
  isplitl [HFe_src Her]
  · isplitl [HFe_src] <;> iassumption
  isplitl [HFy_src HFy]
  · isplitl [HFy_src]; · iexists gy; iexact HFy_src
    iexact HFy
  isplitl [HFy_dst]
  · unfold yHome; iexists ((yblk (Ring.bk 24 (t.val - 3))).view.writes (Elt F) fy [⟨Rect.whole S1536x256, ReadAs.same.apply ((yslot (Ring.sl 2 (t.val + 1))).view.read (Elt F) gy)⟩]); isplitr
    · ipureintro; exact fun _ => (read_landed c _ _ _ fy).trans hgy
    iexact HFy_dst
  iexact Hyh

/-- The last tile: nothing to wait for but a result. -/
theorem part3_last (t : Fin k0_t1_loop.trips) (h1 : 24 ≤ t.val + 1) :
    guardPre c W E Y t.val ⊢ wp frame (wpE (defs₀ (F := F)) 𝒱₀ (c : Thread nD τ) none) Set.univ (part3P arg0 harg0 arg1 harg1 arg2 harg2 t)
      (fun r => iprop(⌜r.1 = Scf.iv 0#32 1#32 t.val⌝ ∗ guardPost c W E Y t.val)) := by
  have h3 : 3 ≤ t.val := by omega
  have h24 := t_lt t
  have hc1 : ¬ k0_cond1 t = 1#1 := fun h => by have := (cond1_iff t).1 h; omega
  have hc2 : ¬ k0_cond2 t = 1#1 := fun h => by have := (cond2_iff t).1 h; omega
  have hc3 : k0_cond3 t = 1#1 := (cond3_iff t).2 h3
  unfold guardPre guardPost wNext eNext yFly wFree eFree wHave eHave yFree
  have n1 : ¬ t.val + 1 < 24 := by omega
  have h243 : t.val - 3 < 24 := by omega
  have n2 : ¬ t.val + 2 < 24 := by omega
  rw [if_neg n1, if_neg n1, if_neg n2, if_neg n2, if_pos h3, yAll_of c Y t.val h3 h243, show others (t.val + 2) = others (t.val + 1) from others_past (t.val + 1) h1]
  iintro ⟨⟨%WW, HW⟩, ⟨⟨%fw, Hw1⟩, Hcw1⟩, ⟨Hws, Hcw⟩, Hwr, ⟨⟨%fe, He1⟩, Hce1⟩, ⟨Hes, Hce⟩, Her, ⟨%fy, %gy, %hgy, HFy⟩, Hyh⟩
  dsimp only [part3P]
  sl_unfold [k0_part3, k0_part1, k0_part2]
  sl_exec
  sl_step
  isplitr; · ipureintro; rfl
  isplitl [HW]; · iexists _; iexact HW
  isplitl [Hw1 Hcw1]
  · isplitl [Hw1]
    · iexists fw; isplitr
      · ipureintro; exact fun h => (n1 h).elim
      iexact Hw1
    iexact Hcw1
  isplitl [Hws Hcw]
  · isplitl [Hws] <;> iassumption
  isplitl [Hwr]; · iexact Hwr
  isplitl [He1 Hce1]
  · isplitl [He1]
    · iexists fe; isplitr
      · ipureintro; exact fun h => (n1 h).elim
      iexact He1
    iexact Hce1
  isplitl [Hes Hce]
  · isplitl [Hes] <;> iassumption
  isplitl [Her]; · iexact Her
  isplitl [HFy_src HFy]
  · isplitl [HFy_src]; · iexists gy; iexact HFy_src
    iexact HFy
  isplitl [HFy_dst]
  · unfold yHome; iexists ((yblk (Ring.bk 24 (t.val - 3))).view.writes (Elt F) fy [⟨Rect.whole S1536x256, ReadAs.same.apply ((yslot (Ring.sl 2 (t.val + 1))).view.read (Elt F) gy)⟩]); isplitr
    · ipureintro; exact fun _ => (read_landed c _ _ _ fy).trans hgy
    iexact HFy_dst
  iexact Hyh

/-- A tile's waits and starts. -/
theorem part3_run (t : Fin k0_t1_loop.trips) :
    guardPre c W E Y t.val ⊢ wp frame (wpE (defs₀ (F := F)) 𝒱₀ (c : Thread nD τ) none) Set.univ (part3P arg0 harg0 arg1 harg1 arg2 harg2 t)
      (fun r => iprop(⌜r.1 = Scf.iv 0#32 1#32 t.val⌝ ∗ guardPost c W E Y t.val)) := by
  by_cases h3 : t.val < 3
  · exact part3_low c arg0 harg0 arg1 harg1 arg2 harg2 W E Y t h3
  by_cases h2 : t.val + 2 < 24
  · exact part3_mid c arg0 harg0 arg1 harg1 arg2 harg2 W E Y t (by omega) h2
  by_cases h1 : t.val + 1 < 24
  · exact part3_pen c arg0 harg0 arg1 harg1 arg2 harg2 W E Y t h1 (by omega)
  · exact part3_last c arg0 harg0 arg1 harg1 arg2 harg2 W E Y t (by omega)

abbrev guardYP (t : Fin k0_t1_loop.trips) := guardY (F := F) yM (Memref.isWhole_whole _) yvM (Memref.isWhole_whole _) cc0_scratch8 t

/-- The start of the copy of the result two tiles back. -/
theorem guardY_run (t : Fin k0_t1_loop.trips) :
    iprop((∃ W, owes (c : Thread nD τ) 0 W) ∗ yPend c Y t.val ∗ yAll c Y (t.val + 1)) ⊢ wp frame (wpE (defs₀ (F := F)) 𝒱₀ (c : Thread nD τ) none) Set.univ (guardYP t)
      (fun _ => iprop((∃ W, owes (c : Thread nD τ) 0 W) ∗ yFly c Y (t.val + 1) ∗ yHomes c Y (t.val + 1))) := by
  have h24 := t_lt t
  by_cases h2 : 2 ≤ t.val
  · have hc4 : k0_cond4 t = 1#1 := (cond4_iff t).2 h2
    have es : Ring.sl 2 (t.val + 1 + 1) = Ring.sl 2 t.val := by rw [show t.val + 1 + 1 = t.val + 2 from rfl, Ring.sl_add]
    unfold yPend yFly
    rw [if_pos (show 3 ≤ t.val + 1 by omega), yAll_out c Y _ (show 3 ≤ t.val + 1 by omega) (show t.val + 1 - 3 < 24 by omega), es, show t.val + 1 - 3 = t.val - 2 by omega]
    unfold yHome
    iintro ⟨⟨%WW, HW⟩, ⟨⟨%g, %hg, Hs⟩, Hc⟩, ⟨%f, -, Hb⟩, Hh⟩
    dsimp only [guardYP]
    sl_unfold [guardY]
    sl_exec
    sl_step
    isplitl [HW]; · iexists _; iexact HW
    isplitl [Hc]
    · iexists f; iexists g
      isplitr; · ipureintro; exact hg h2
      iexact Hc
    iexact Hh
  · have hc4 : ¬ k0_cond4 t = 1#1 := fun h => by have := (cond4_iff t).1 h; omega
    have es : Ring.sl 2 (t.val + 1 + 1) = Ring.sl 2 t.val := by rw [show t.val + 1 + 1 = t.val + 2 from rfl, Ring.sl_add]
    unfold yPend yFly
    rw [if_neg (show ¬ 3 ≤ t.val + 1 by omega), yAll_out_low c Y _ (show t.val + 1 < 3 by omega), es]
    iintro ⟨⟨%WW, HW⟩, ⟨⟨%g, %hg, Hs⟩, Hc⟩, Hh⟩
    dsimp only [guardYP]
    sl_unfold [guardY]
    sl_exec
    sl_step
    isplitl [HW]; · iexists _; iexact HW
    isplitl [Hs Hc]
    · isplitl [Hs]; · iexists g; iexact Hs
      iexact Hc
    iexact Hh

end Guards

end Cert.Kernel.Prf
-- ==== Proof.KUnits.lean ====
/- What the operations of a panel leave in the matrix units. -/
module

public import proofs.«01_k».proof.Proof.KPanel
public import Idealize.ShloMosaic.Lib.Mxu.Lemmas

@[expose] public section

noncomputable section

namespace Cert.Kernel.Prf

open Idealize.ShloMosaic Idealize.SL.Sem
open Cert.Kernel Cert.Kernel.Gen

variable {F : FTy → Type} [FloatOps F]

abbrev Tile16 (F : FTy → Type) [FloatOps F] := FVec F (Mxu.STile 256) .bf16
abbrev Tile32 (F : FTy → Type) [FloatOps F] := FVec F (Mxu.STile 256) .f32

/-- A tile as a push stages it. -/
abbrev stg (T : Tile16 F) : Mxu.Staged F := ⟨.bf16, false, T⟩

/-- One pass of 256 rows by a staged tile. -/
def pass (x T : Tile16 F) : Tile32 F := FloatOps.mxuPass (DotDims.plain 256 256 256) x T

/-- The six blocks of sums, by unit and position. -/
abbrev Sums (F : FTy → Type) [FloatOps F] := Fin 2 → Fin 3 → Tile32 F

/-- Block `a` of unit `q` takes block `3·q + a` of the rows. -/
def blk6 (q : Fin 2) (a : Fin 3) : Fin 6 := ⟨3 * q.val + a.val, by omega⟩

/-- Both units have `T` in register `r`, nothing in `r'`, and, when `n`, the sums `S` in their first 768 rows; the other rows are never used. -/
structure Good (s : Mxu F) (r r' : Fin 2) (T : Tile16 F) (n : Bool) (S : Sums F) : Prop where
  reg : ∀ q, s.reg q r = some (stg T)
  oth : ∀ q, s.reg q r' = none
  live : ∀ q R, s.live q R = (decide (R.val < 768) && n)
  rd0 : n = true → ∀ q, s.read q 0 fits_0_256 = S q 0
  rd1 : n = true → ∀ q, s.read q 64 fits_64_256 = S q 1
  rd2 : n = true → ∀ q, s.read q 128 fits_128_256 = S q 2

/-- The states inside a panel. -/
def m2 (s : Mxu F) (r : Fin 2) (x : Fin 6 → Tile16 F) : Mxu F := (s.accLhs 0 r 0 (x 0) fits_0_256).accLhs 1 r 0 (x 3) fits_0_256
def m4 (s : Mxu F) (r : Fin 2) (v : Tile16 F) : Mxu F := (s.pushed 0 r false v).pushed 1 r false v
def m5 (s : Mxu F) (t : Mxu.Staged F) (x : Fin 6 → Tile16 F) : Mxu F := s.accBy 0 t 64 (x 1) fits_64_256
def m6 (s : Mxu F) (t : Mxu.Staged F) (x : Fin 6 → Tile16 F) : Mxu F := s.accBy 1 t 64 (x 4) fits_64_256
def m7 (s : Mxu F) (t : Mxu.Staged F) (x : Fin 6 → Tile16 F) : Mxu F := s.accBy 0 t 128 (x 2) fits_128_256
def m8 (s : Mxu F) (t : Mxu.Staged F) (x : Fin 6 → Tile16 F) : Mxu F := s.accBy 1 t 128 (x 5) fits_128_256

theorem row_lt {A : Nat} (h : Mxu.Fits A 256) (hA : A ≤ 128) (r : Fin 256) : (Mxu.row h r).val < 768 := by
  show 4 * A + r.val < 768; omega

theorem m2_reg_r (s : Mxu F) (r : Fin 2) (x : Fin 6 → Tile16 F) (q : Fin 2) : (m2 s r x).reg q r = none := by
  fin_cases q <;> simp [m2, Mxu.accLhs]

theorem m2_reg_ne (s : Mxu F) (r r' : Fin 2) (h : r' ≠ r) (x : Fin 6 → Tile16 F) (q : Fin 2) : (m2 s r x).reg q r' = s.reg q r' := by
  simp [m2, Mxu.accLhs, h]

theorem m2_gmr (s : Mxu F) (r : Fin 2) (x : Fin 6 → Tile16 F) (q : Fin 2) (T : Tile16 F) (h : ∀ q, s.reg q r = some (stg T)) : (m2 s r x).gmr q = some (stg T) := by
  fin_cases q <;> simp [m2, Mxu.accLhs, Mxu.staged, h]

theorem m2_live (s : Mxu F) (r : Fin 2) (x : Fin 6 → Tile16 F) (q : Fin 2) (R : Fin 1024) :
    (m2 s r x).live q R = if R.val < 256 then true else s.live q R := by
  unfold m2; rw [Mxu.live_accLhs, Mxu.live_accLhs]
  fin_cases q <;> simp

theorem m4_reg (s : Mxu F) (r : Fin 2) (v : Tile16 F) (q : Fin 2) (h : ∀ q, s.reg q r = none) : (m4 s r v).reg q r = some (stg v) := by
  fin_cases q
  · show (m4 s r v).reg 0 r = _
    unfold m4; rw [Mxu.reg_pushed_ne _ _ _ _ _ _ _ (by simp), Mxu.reg_pushed_of_none _ _ _ _ _ (h 0)]
  · show (m4 s r v).reg 1 r = _
    unfold m4; rw [Mxu.reg_pushed_of_none]
    rw [Mxu.reg_pushed_ne _ _ _ _ _ _ _ (by simp), h 1]

theorem m4_reg_ne (s : Mxu F) (r r' : Fin 2) (hr : r' ≠ r) (v : Tile16 F) (q : Fin 2) : (m4 s r v).reg q r' = s.reg q r' := by
  unfold m4
  rw [Mxu.reg_pushed_ne _ _ _ _ _ _ _ (by simp [hr]), Mxu.reg_pushed_ne _ _ _ _ _ _ _ (by simp [hr])]

theorem m4_gmr (s : Mxu F) (r : Fin 2) (v : Tile16 F) : (m4 s r v).gmr = s.gmr := by unfold m4; simp
theorem m4_live (s : Mxu F) (r : Fin 2) (v : Tile16 F) : (m4 s r v).live = s.live := by unfold m4; simp

/-- A panel as one step. -/
def step (s : Mxu F) (r r' : Fin 2) (T : Tile16 F) (x : Fin 6 → Tile16 F) (v : Tile16 F) : Mxu F :=
  m8 (m7 (m6 (m5 (m4 (m2 s r x) r' v) (stg T) x) (stg T) x) (stg T) x) (stg T) x

theorem step_of {s : Mxu F} {r ro r' r'' : Fin 2} {T v : Tile16 F} {S : Sums F} (x : Fin 6 → Tile16 F) (g : Good s r ro T true S)
    (h1 : ∀ q, (m2 s r x).reg q r' = none) (h2 : ∀ q, (m4 (m2 s r x) r' v).reg q r'' = none) :
    Good (step s r r' T x v) r' r'' v true (fun q a => addf (S q a) (pass (x (blk6 q a)) T)) := by
  have hlive : ∀ q R, R.val < 768 → s.live q R = true := fun q R h => by rw [g.live]; simp [h]
  have hst : ∀ q, s.staged q r = stg T := fun q => by rw [Mxu.staged_eq, g.reg]; rfl
  constructor
  · intro q
    show (m4 (m2 s r x) r' v).reg q r' = _
    exact m4_reg _ _ _ _ h1
  · exact fun q => h2 q
  · intro q R
    unfold step m8 m7 m6 m5
    simp only [Mxu.live_accBy, m4_live, m2_live, g.live]
    by_cases h1 : R.val < 256 <;> by_cases h2 : R.val < 512 <;> by_cases h3 : R.val < 768 <;> fin_cases q <;> simp [h1, h2, h3] <;> omega
  · intro _ q
    fin_cases q
    · show (step s r r' T x v).read 0 0 fits_0_256 = addf (S 0 0) (pass (x 0) T)
      unfold step m8 m7 m6 m5 m4 m2
      rw [Mxu.read_accBy_ne _ _ _ _ _ _ _ _ _ (by decide), Mxu.read_accBy_ne _ _ _ _ _ _ _ _ _ (by decide), Mxu.read_accBy_ne _ _ _ _ _ _ _ _ _ (by decide), Mxu.read_accBy_ne _ _ _ _ _ _ _ _ _ (by decide),
        Mxu.read_pushed, Mxu.read_pushed, Mxu.read_accLhs_ne _ _ _ _ _ _ _ _ _ (by decide), Mxu.read_accLhs_of_live _ _ _ _ _ _ (fun i => hlive _ _ (row_lt _ (by decide) i)), hst, g.rd0 rfl]
      rfl
    · show (step s r r' T x v).read 1 0 fits_0_256 = addf (S 1 0) (pass (x 3) T)
      unfold step m8 m7 m6 m5 m4 m2
      rw [Mxu.read_accBy_ne _ _ _ _ _ _ _ _ _ (by decide), Mxu.read_accBy_ne _ _ _ _ _ _ _ _ _ (by decide), Mxu.read_accBy_ne _ _ _ _ _ _ _ _ _ (by decide), Mxu.read_accBy_ne _ _ _ _ _ _ _ _ _ (by decide),
        Mxu.read_pushed, Mxu.read_pushed, Mxu.read_accLhs_of_live _ _ _ _ _ _ (fun i => ?_), Mxu.read_accLhs_ne _ _ _ _ _ _ _ _ _ (by decide), g.rd0 rfl]
      · rw [Mxu.staged_eq, Mxu.reg_accLhs_ne _ _ _ _ _ _ _ _ (by simp), ← Mxu.staged_eq, hst]; rfl
      · rw [Mxu.live_accLhs, hlive _ _ (row_lt _ (by decide) i)]; simp
  · intro _ q
    fin_cases q
    · show (step s r r' T x v).read 0 64 fits_64_256 = addf (S 0 1) (pass (x 1) T)
      unfold step m8 m7 m6 m5
      rw [Mxu.read_accBy_ne _ _ _ _ _ _ _ _ _ (by decide), Mxu.read_accBy_ne _ _ _ _ _ _ _ _ _ (by decide), Mxu.read_accBy_ne _ _ _ _ _ _ _ _ _ (by decide), Mxu.read_accBy_of_live _ _ _ _ _ _ (fun i => ?_)]
      · unfold m4 m2
        rw [Mxu.read_pushed, Mxu.read_pushed, Mxu.read_accLhs_ne _ _ _ _ _ _ _ _ _ (by decide), Mxu.read_accLhs_ne _ _ _ _ _ _ _ _ _ (by decide), g.rd1 rfl]
        rfl
      · rw [m4_live, m2_live, hlive _ _ (row_lt _ (by decide) i)]; simp
    · show (step s r r' T x v).read 1 64 fits_64_256 = addf (S 1 1) (pass (x 4) T)
      unfold step m8 m7 m6 m5
      rw [Mxu.read_accBy_ne _ _ _ _ _ _ _ _ _ (by decide), Mxu.read_accBy_ne _ _ _ _ _ _ _ _ _ (by decide), Mxu.read_accBy_of_live _ _ _ _ _ _ (fun i => ?_), Mxu.read_accBy_ne _ _ _ _ _ _ _ _ _ (by decide)]
      · unfold m4 m2
        rw [Mxu.read_pushed, Mxu.read_pushed, Mxu.read_accLhs_ne _ _ _ _ _ _ _ _ _ (by decide), Mxu.read_accLhs_ne _ _ _ _ _ _ _ _ _ (by decide), g.rd1 rfl]
        rfl
      · rw [Mxu.live_accBy, m4_live, m2_live, hlive _ _ (row_lt _ (by decide) i)]; simp
  · intro _ q
    fin_cases q
    · show (step s r r' T x v).read 0 128 fits_128_256 = addf (S 0 2) (pass (x 2) T)
      unfold step m8 m7 m6 m5
      rw [Mxu.read_accBy_ne _ _ _ _ _ _ _ _ _ (by decide), Mxu.read_accBy_of_live _ _ _ _ _ _ (fun i => ?_), Mxu.read_accBy_ne _ _ _ _ _ _ _ _ _ (by decide), Mxu.read_accBy_ne _ _ _ _ _ _ _ _ _ (by decide)]
      · unfold m4 m2
        rw [Mxu.read_pushed, Mxu.read_pushed, Mxu.read_accLhs_ne _ _ _ _ _ _ _ _ _ (by decide), Mxu.read_accLhs_ne _ _ _ _ _ _ _ _ _ (by decide), g.rd2 rfl]
        rfl
      · rw [Mxu.live_accBy, Mxu.live_accBy, m4_live, m2_live, hlive _ _ (row_lt _ (by decide) i)]; simp
    · show (step s r r' T x v).read 1 128 fits_128_256 = addf (S 1 2) (pass (x 5) T)
      unfold step m8 m7 m6 m5
      rw [Mxu.read_accBy_of_live _ _ _ _ _ _ (fun i => ?_), Mxu.read_accBy_ne _ _ _ _ _ _ _ _ _ (by decide), Mxu.read_accBy_ne _ _ _ _ _ _ _ _ _ (by decide), Mxu.read_accBy_ne _ _ _ _ _ _ _ _ _ (by decide)]
      · unfold m4 m2
        rw [Mxu.read_pushed, Mxu.read_pushed, Mxu.read_accLhs_ne _ _ _ _ _ _ _ _ _ (by decide), Mxu.read_accLhs_ne _ _ _ _ _ _ _ _ _ (by decide), g.rd2 rfl]
        rfl
      · rw [Mxu.live_accBy, Mxu.live_accBy, Mxu.live_accBy, m4_live, m2_live, hlive _ _ (row_lt _ (by decide) i)]; simp

theorem step_good {s : Mxu F} {r r' : Fin 2} (hr : r' ≠ r) {T v : Tile16 F} {S : Sums F} (x : Fin 6 → Tile16 F) (g : Good s r r' T true S) :
    Good (step s r r' T x v) r' r v true (fun q a => addf (S q a) (pass (x (blk6 q a)) T)) :=
  step_of x g (fun q => by rw [m2_reg_ne s r r' hr, g.oth]) (fun q => by rw [m4_reg_ne _ _ _ (Ne.symm hr), m2_reg_r])

/-- The same when the register the pass emptied is filled again. -/
theorem step_same {s : Mxu F} {r r' : Fin 2} (hr : r' ≠ r) {T v : Tile16 F} {S : Sums F} (x : Fin 6 → Tile16 F) (g : Good s r r' T true S) :
    Good (step s r r T x v) r r' v true (fun q a => addf (S q a) (pass (x (blk6 q a)) T)) :=
  step_of x g (fun q => by rw [m2_reg_r]) (fun q => by rw [m4_reg_ne _ _ _ hr, m2_reg_ne s r r' hr, g.oth])

/-! ## The sums of a tile -/

def f64 (n : ℕ) : Fin 64 := ⟨n % 64, Nat.mod_lt _ (by decide)⟩
theorem f64_val (p : Fin 64) : f64 p.val = p := Fin.ext (Nat.mod_eq_of_lt p.isLt)

/-- The sums after panel `n`. -/
def sumT (xs : Fin 64 → Fin 6 → Tile16 F) (ws : Fin 64 → Tile16 F) : ℕ → Sums F
  | 0 => fun q a => pass (xs (f64 0) (blk6 q a)) (ws (f64 0))
  | n + 1 => fun q a => addf (sumT xs ws n q a) (pass (xs (f64 (n + 1)) (blk6 q a)) (ws (f64 (n + 1))))

/-- The sums of a whole tile, the lora rows last. -/
def tileSums (xs : Fin 64 → Fin 6 → Tile16 F) (hs : Fin 6 → Tile16 F) (ws : Fin 64 → Tile16 F) (b : Tile16 F) : Sums F :=
  fun q a => addf (sumT xs ws 63 q a) (pass (hs (blk6 q a)) b)

/-! ## Panel 0, which pops the sums it finds before it starts its own -/

def f1 (s : Mxu F) (x : Fin 6 → Tile16 F) : Mxu F := (s.pop 0 0 256 fits_0_256).accLhs 0 0 0 (x 0) fits_0_256
def f2 (s : Mxu F) (x : Fin 6 → Tile16 F) : Mxu F := (s.pop 1 0 256 fits_0_256).accLhs 1 0 0 (x 3) fits_0_256
def f5 (s : Mxu F) (t : Mxu.Staged F) (x : Fin 6 → Tile16 F) : Mxu F := m5 (s.pop 0 64 256 fits_64_256) t x
def f6 (s : Mxu F) (t : Mxu.Staged F) (x : Fin 6 → Tile16 F) : Mxu F := m6 (s.pop 1 64 256 fits_64_256) t x
def f7 (s : Mxu F) (t : Mxu.Staged F) (x : Fin 6 → Tile16 F) : Mxu F := m7 (s.pop 0 128 256 fits_128_256) t x
def f8 (s : Mxu F) (t : Mxu.Staged F) (x : Fin 6 → Tile16 F) : Mxu F := m8 (s.pop 1 128 256 fits_128_256) t x

section First
variable (s : Mxu F) (T : Tile16 F) (x : Fin 6 → Tile16 F) (v : Tile16 F)

def s2 : Mxu F := f2 (f1 s x) x
def s4 : Mxu F := m4 (s2 s x) 1 v
def s5 : Mxu F := f5 (s4 s x v) (stg T) x
def s6 : Mxu F := f6 (s5 s T x v) (stg T) x
def s7 : Mxu F := f7 (s6 s T x v) (stg T) x
def s8 : Mxu F := f8 (s7 s T x v) (stg T) x

theorem s2_reg0 (q : Fin 2) : (s2 s x).reg q 0 = none := by
  fin_cases q <;> simp [s2, f2, f1, Mxu.accLhs, Mxu.pop]
theorem s2_reg1 (q : Fin 2) : (s2 s x).reg q 1 = s.reg q 1 := by
  simp [s2, f2, f1, Mxu.accLhs, Mxu.pop]
theorem s2_gmr (q : Fin 2) (h : ∀ q, s.reg q 0 = some (stg T)) : (s2 s x).gmr q = some (stg T) := by
  fin_cases q <;> simp [s2, f2, f1, Mxu.accLhs, Mxu.pop, Mxu.staged, h]
theorem s4_gmr (q : Fin 2) (h : ∀ q, s.reg q 0 = some (stg T)) : (s4 s x v).gmr q = some (stg T) := by
  unfold s4; rw [m4_gmr, s2_gmr s T x q h]
theorem s2_live (q : Fin 2) (R : Fin 1024) : (s2 s x).live q R = if R.val < 256 then true else s.live q R := by
  unfold s2 f2 f1; rw [Mxu.live_accLhs, Mxu.live_pop, Mxu.live_accLhs, Mxu.live_pop]
  fin_cases q <;> by_cases h : R.val < 256 <;> simp [h]

theorem read_f1 {n : Bool} {S : Sums F} (g : Good s 0 1 T n S) (hn : n = true) : (f1 s x).read 1 0 fits_0_256 = S 1 0 := by
  unfold f1
  rw [Mxu.read_accLhs_ne _ _ _ _ _ _ _ _ _ (by decide), Mxu.read_pop_ne _ _ _ _ _ _ _ (by decide), g.rd0 hn]

theorem read_s2 (q : Fin 2) {A : Nat} (h : Mxu.Fits A 256) (hA : 64 ≤ A) : (s2 s x).read q A h = s.read q A h := by
  unfold s2 f2 f1
  rw [Mxu.read_accLhs_ne _ _ _ _ _ _ _ _ _ (by omega), Mxu.read_pop_ne _ _ _ _ _ _ _ (by omega), Mxu.read_accLhs_ne _ _ _ _ _ _ _ _ _ (by omega), Mxu.read_pop_ne _ _ _ _ _ _ _ (by omega)]
theorem read_s4 (q : Fin 2) {A : Nat} (h : Mxu.Fits A 256) (hA : 64 ≤ A) : (s4 s x v).read q A h = s.read q A h := by
  unfold s4 m4; rw [Mxu.read_pushed, Mxu.read_pushed, read_s2 s x q h hA]
theorem read_s5 : (s5 s T x v).read 1 64 fits_64_256 = s.read 1 64 fits_64_256 := by
  unfold s5 f5 m5
  rw [Mxu.read_accBy_ne _ _ _ _ _ _ _ _ _ (by decide), Mxu.read_pop_ne _ _ _ _ _ _ _ (by decide), read_s4 s x v _ _ (by decide)]
theorem read_s6 (q : Fin 2) : (s6 s T x v).read q 128 fits_128_256 = s.read q 128 fits_128_256 := by
  unfold s6 f6 m6 s5 f5 m5
  rw [Mxu.read_accBy_ne _ _ _ _ _ _ _ _ _ (by omega), Mxu.read_pop_ne _ _ _ _ _ _ _ (by omega), Mxu.read_accBy_ne _ _ _ _ _ _ _ _ _ (by omega), Mxu.read_pop_ne _ _ _ _ _ _ _ (by omega), read_s4 s x v _ _ (by decide)]
theorem read_s7 : (s7 s T x v).read 1 128 fits_128_256 = s.read 1 128 fits_128_256 := by
  unfold s7 f7 m7
  rw [Mxu.read_accBy_ne _ _ _ _ _ _ _ _ _ (by decide), Mxu.read_pop_ne _ _ _ _ _ _ _ (by decide), read_s6 s T x v]

theorem gmr_s5 (q : Fin 2) (h : ∀ q, s.reg q 0 = some (stg T)) : (s5 s T x v).gmr q = some (stg T) := s4_gmr s T x v q h
theorem gmr_s6 (q : Fin 2) (h : ∀ q, s.reg q 0 = some (stg T)) : (s6 s T x v).gmr q = some (stg T) := s4_gmr s T x v q h
theorem gmr_s7 (q : Fin 2) (h : ∀ q, s.reg q 0 = some (stg T)) : (s7 s T x v).gmr q = some (stg T) := s4_gmr s T x v q h

theorem s8_good {n : Bool} {S : Sums F} (g : Good s 0 1 T n S) :
    Good (s8 s T x v) 1 0 v true (fun q a => pass (x (blk6 q a)) T) := by
  have hst : ∀ q, s.staged q 0 = stg T := fun q => by rw [Mxu.staged_eq, g.reg]; rfl
  constructor
  · intro q
    show (m4 (s2 s x) 1 v).reg q 1 = _
    refine m4_reg _ _ _ _ fun q => ?_
    rw [s2_reg1 s x, g.oth]
  · intro q
    show (m4 (s2 s x) 1 v).reg q 0 = _
    rw [m4_reg_ne _ _ _ (by decide), s2_reg0]
  · intro q R
    unfold s8 f8 m8 s7 f7 m7 s6 f6 m6 s5 f5 m5 s4
    simp only [Mxu.live_accBy, Mxu.live_pop, m4_live, s2_live, g.live]
    by_cases h1 : R.val < 256 <;> by_cases h2 : R.val < 512 <;> by_cases h3 : R.val < 768 <;> fin_cases q <;> simp [h1, h2, h3] <;> omega
  · intro _ q
    fin_cases q
    · show (s8 s T x v).read 0 0 fits_0_256 = pass (x 0) T
      unfold s8 f8 m8 s7 f7 m7 s6 f6 m6 s5 f5 m5 s4 m4 s2 f2
      rw [Mxu.read_accBy_ne _ _ _ _ _ _ _ _ _ (by decide), Mxu.read_pop_ne _ _ _ _ _ _ _ (by decide), Mxu.read_accBy_ne _ _ _ _ _ _ _ _ _ (by decide), Mxu.read_pop_ne _ _ _ _ _ _ _ (by decide),
        Mxu.read_accBy_ne _ _ _ _ _ _ _ _ _ (by decide), Mxu.read_pop_ne _ _ _ _ _ _ _ (by decide), Mxu.read_accBy_ne _ _ _ _ _ _ _ _ _ (by decide), Mxu.read_pop_ne _ _ _ _ _ _ _ (by decide),
        Mxu.read_pushed, Mxu.read_pushed, Mxu.read_accLhs_ne _ _ _ _ _ _ _ _ _ (by decide), Mxu.read_pop_ne _ _ _ _ _ _ _ (by decide)]
      unfold f1
      rw [Mxu.read_accLhs_of_not_live _ _ _ _ _ _ (fun i => Mxu.live_pop_row _ _ _ _ _), Mxu.staged_eq, Mxu.reg_pop, g.reg]
      rfl
    · show (s8 s T x v).read 1 0 fits_0_256 = pass (x 3) T
      unfold s8 f8 m8 s7 f7 m7 s6 f6 m6 s5 f5 m5 s4 m4 s2 f2
      rw [Mxu.read_accBy_ne _ _ _ _ _ _ _ _ _ (by decide), Mxu.read_pop_ne _ _ _ _ _ _ _ (by decide), Mxu.read_accBy_ne _ _ _ _ _ _ _ _ _ (by decide), Mxu.read_pop_ne _ _ _ _ _ _ _ (by decide),
        Mxu.read_accBy_ne _ _ _ _ _ _ _ _ _ (by decide), Mxu.read_pop_ne _ _ _ _ _ _ _ (by decide), Mxu.read_accBy_ne _ _ _ _ _ _ _ _ _ (by decide), Mxu.read_pop_ne _ _ _ _ _ _ _ (by decide),
        Mxu.read_pushed, Mxu.read_pushed, Mxu.read_accLhs_of_not_live _ _ _ _ _ _ (fun i => Mxu.live_pop_row _ _ _ _ _), Mxu.staged_eq, Mxu.reg_pop]
      unfold f1
      rw [Mxu.reg_accLhs_ne _ _ _ _ _ _ _ _ (by decide), Mxu.reg_pop, g.reg]
      rfl
  · intro _ q
    fin_cases q
    · show (s8 s T x v).read 0 64 fits_64_256 = pass (x 1) T
      unfold s8 f8 m8 s7 f7 m7 s6 f6 m6 s5 f5 m5
      rw [Mxu.read_accBy_ne _ _ _ _ _ _ _ _ _ (by decide), Mxu.read_pop_ne _ _ _ _ _ _ _ (by decide), Mxu.read_accBy_ne _ _ _ _ _ _ _ _ _ (by decide), Mxu.read_pop_ne _ _ _ _ _ _ _ (by decide),
        Mxu.read_accBy_ne _ _ _ _ _ _ _ _ _ (by decide), Mxu.read_pop_ne _ _ _ _ _ _ _ (by decide), Mxu.read_accBy_of_not_live _ _ _ _ _ _ (fun i => Mxu.live_pop_row _ _ _ _ _)]
      rfl
    · show (s8 s T x v).read 1 64 fits_64_256 = pass (x 4) T
      unfold s8 f8 m8 s7 f7 m7 s6 f6 m6
      rw [Mxu.read_accBy_ne _ _ _ _ _ _ _ _ _ (by decide), Mxu.read_pop_ne _ _ _ _ _ _ _ (by decide), Mxu.read_accBy_ne _ _ _ _ _ _ _ _ _ (by decide), Mxu.read_pop_ne _ _ _ _ _ _ _ (by decide),
        Mxu.read_accBy_of_not_live _ _ _ _ _ _ (fun i => Mxu.live_pop_row _ _ _ _ _)]
      rfl
  · intro _ q
    fin_cases q
    · show (s8 s T x v).read 0 128 fits_128_256 = pass (x 2) T
      unfold s8 f8 m8 s7 f7 m7
      rw [Mxu.read_accBy_ne _ _ _ _ _ _ _ _ _ (by decide), Mxu.read_pop_ne _ _ _ _ _ _ _ (by decide),
        Mxu.read_accBy_of_not_live _ _ _ _ _ _ (fun i => Mxu.live_pop_row _ _ _ _ _)]
      rfl
    · show (s8 s T x v).read 1 128 fits_128_256 = pass (x 5) T
      unfold s8 f8 m8
      rw [Mxu.read_accBy_of_not_live _ _ _ _ _ _ (fun i => Mxu.live_pop_row _ _ _ _ _)]
      rfl
end First

end Cert.Kernel.Prf
-- ==== Proof.KRunPanel.lean ====
/- The panels of a tile, run: what each leaves in the matrix units. -/
module

public import proofs.«01_k».proof.Proof.KGuards
public import proofs.«01_k».proof.Proof.KUnits

@[expose] public section

noncomputable section

namespace Cert.Kernel.Prf

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## Programs that keep what they hold -/
section Keeps
variable (c : Dev nD)

/-- From `P` the program ends with a value of which `φ` holds, `P` kept. -/
def Keeps (P : sProp 𝕄) {α : Type} (p : Prog (TpuEff nD τ sig (Elt F) Λ₀ .tc) α) (φ : α → Prop) : Prop :=
  P ⊢ wp frame (wpE (defs₀ (F := F)) 𝒱₀ (c : Thread nD τ) none) Set.univ p (fun a => iprop(⌜φ a⌝ ∗ P))

variable {c} {α β : Type}

theorem Keeps.bind {P : sProp (MT nD τ sig Unit (Elt F) ℕ (UU nD τ) ℕ)} {p : Prog (TpuEff nD τ sig (Elt F) Λ₀ .tc) α} {k : α → Prog (TpuEff nD τ sig (Elt F) Λ₀ .tc) β} {φ : α → Prop} {ψ : β → Prop}
    (h : Keeps c P p φ) (hk : ∀ a, φ a → Keeps c P (k a) ψ) : Keeps c P (p >>= k) ψ := by
  unfold Keeps at *
  rw [wp_bind]
  refine h.trans (wp_mono _ _ _ fun a => ?_)
  iintro ⟨%ha, H⟩
  iapply (hk a ha)
  iexact H

theorem Keeps.ret {P : sProp (MT nD τ sig Unit (Elt F) ℕ (UU nD τ) ℕ)} {a : α} {φ : α → Prop} (h : φ a) : Keeps c P (Prog.ret a) φ := by
  unfold Keeps
  rw [wp_ret]
  iintro H
  isplitr
  · ipureintro; exact h
  · iexact H

theorem Keeps.push {P : sProp (MT nD τ sig Unit (Elt F) ℕ (UU nD τ) ℕ)} {s : Mxu F} {q r : Fin 2} {v : FVec F (Mxu.STile 256) .bf16} (h : s.reg q r = none) :
    Keeps c P (s.pushRhs q r false v) (fun s' => s' = s.pushed q r false v) := by
  unfold Keeps
  have hp := Mxu.pushOk_of_none s q r false h
  iintro H
  rw [← Prog.bind_pure (s.pushRhs q r false v)]
  iapply (Mxu.wp_pushRhs v hp)
  sl_step
  isplitr; · ipureintro; rfl
  iexact H

theorem Keeps.acc {P : sProp (MT nD τ sig Unit (Elt F) ℕ (UU nD τ) ℕ)} {s : Mxu F} {q : Fin 2} {A M : Nat} {v : FVec F (Mxu.STile M) .bf16} {h : Mxu.Fits A M} {t : Mxu.Staged F} (ht : s.gmr q = some t) :
    Keeps c P (s.accLhsLoaded q A v h) (fun s' => s' = s.accBy q t A v h) := by
  unfold Keeps
  iintro H
  rw [← Prog.bind_pure (s.accLhsLoaded q A v h)]
  iapply (Mxu.wp_accLhsLoaded v h ht)
  sl_step
  isplitr; · ipureintro; rfl
  iexact H
end Keeps

/-! ## What a tile holds -/
section Held
variable (c : Dev nD) (arg0 : Memref sig .tc .vmem S1536x256 .bf16) (arg1 : Memref sig .tc .vmem S256x6144 .bf16) (arg2 : Memref sig .tc .vmem S256x256 .bf16)
  (X : Buf (Elt F) (xvM.view.loc (c : Thread nD τ))) (s s' : Fin 3)
  (G : Buf (Elt F) (wvM.view.loc (c : Thread nD τ))) (G' : Buf (Elt F) (wvM.view.loc (c : Thread nD τ)))
  (H : Buf (Elt F) (evM.view.loc (c : Thread nD τ))) (H' : Buf (Elt F) (evM.view.loc (c : Thread nD τ)))
  (g0 : Buf (Elt F) (arg0.view.loc (c : Thread nD τ))) (g1 : Buf (Elt F) (arg1.view.loc (c : Thread nD τ))) (g2 : Buf (Elt F) (arg2.view.loc (c : Thread nD τ)))

abbrev wsAt (s : Fin 3) (G : Buf (Elt F) (wvM.view.loc (c : Thread nD τ))) : Buf (Elt F) ((wslot s).view.loc (c : Thread nD τ)) := G
abbrev esAt (s : Fin 3) (G : Buf (Elt F) (evM.view.loc (c : Thread nD τ))) : Buf (Elt F) ((eslot s).view.loc (c : Thread nD τ)) := G

/-- The activations, this tile's and the next tile's weights and scales, and the lora operands. -/
def tileHeld : sProp 𝕄 :=
  iprop(held c xvM X ∗ held c (wslot s) (wsAt c s G) ∗ held c (wslot s') (wsAt c s' G') ∗ held c (eslot s) (esAt c s H) ∗ held c (eslot s') (esAt c s' H')
    ∗ held c arg0 g0 ∗ held c arg1 g1 ∗ held c arg2 g2)

/-- The values the loads give. -/
def xRaw (X : Buf (Elt F) (xvM.view.loc (c : Thread nD τ))) (p : Fin 64) (r : Fin 6) : Vec F S1x256x256 .bf16 :=
  xvM.view.readAt (Elt F) (Rect.unit (s := S64x1536x256) ![p.val, 256 * r.val, 0] S1x256x256.size (inbX p r)).toLoadRect X
def wRaw (s : Fin 3) (G : Buf (Elt F) (wvM.view.loc (c : Thread nD τ))) (p : Fin 64) : Vec F S1x32x256 .i32 :=
  wvM.view.readAt (Elt F) (Rect.unit (s := S3x2048x256) ![s.val, 32 * p.val, 0] S1x32x256.size (inbW s.val s.isLt p)).toLoadRect G
def eRaw (s : Fin 3) (H : Buf (Elt F) (evM.view.loc (c : Thread nD τ))) (g : Fin 16) : Vec F S1x32x256 .i8 :=
  evM.view.readAt (Elt F) (Rect.unit (s := S3x512x256) ![s.val, 32 * g.val, 0] S1x32x256.size (inbE s.val s.isLt g)).toLoadRect H
def hRaw (g0 : Buf (Elt F) (arg0.view.loc (c : Thread nD τ))) (r : Fin 6) : FVec F S256x256 .bf16 :=
  arg0.view.readAt (Elt F) (Rect.unit (s := S1536x256) ![256 * r.val, 0] S256x256.size (inbH r)).toLoadRect g0

def bRaw (g1 : Buf (Elt F) (arg1.view.loc (c : Thread nD τ))) (t : Fin k0_t1_loop.trips) : Vec F S256x256 .bf16 :=
  arg1.view.readAt (Elt F) (Rect.unit (s := S256x6144) (k0_off102 t) S256x256.size (k0_off102_inb t)).toLoadRect g1
def sRaw (g2 : Buf (Elt F) (arg2.view.loc (c : Thread nD τ))) : Vec F S256x256 .bf16 :=
  arg2.view.readAt (Elt F) (Rect.unit (s := S256x256) ![0, 0] S256x256.size inb_S256x256_S256x256_0_0).toLoadRect g2

instance (p : Fin 64) (r : Fin 6) : ClosedOff (![p.val, 256 * r.val, 0] : Fin 3 → Nat) := ⟨_, rfl⟩
instance (s : Fin 3) (p : Fin 64) : ClosedOff (![s.val, 32 * p.val, 0] : Fin 3 → Nat) := ⟨_, rfl⟩
instance (s : Fin 3) (p : Fin 16) : ClosedOff (![s.val, 32 * p.val, 0] : Fin 3 → Nat) := ⟨_, rfl⟩
instance (r : Fin 6) : ClosedOff (![256 * r.val, 0] : Fin 2 → Nat) := ⟨_, rfl⟩

theorem keeps_loadX (p : Fin 64) (r : Fin 6) : Keeps c (tileHeld c arg0 arg1 arg2 X s s' G G' H H' g0 g1 g2) (loadX xvM p r) (fun v => v = xRaw c X p r) := by
  unfold Keeps tileHeld loadX
  iintro ⟨Hx, Hw, Hw', He, He', H0, H1, H2⟩
  sl_exec
  sl_step
  isplitr; · ipureintro; rfl
  isplitl [Hx]; · iexact Hx
  isplitl [Hw]; · iexact Hw
  isplitl [Hw']; · iexact Hw'
  isplitl [He]; · iexact He
  isplitl [He']; · iexact He'
  isplitl [H0]; · iexact H0
  isplitl [H1]; · iexact H1
  iexact H2

theorem keeps_loadW (p : Fin 64) : Keeps c (tileHeld c arg0 arg1 arg2 X s s' G G' H H' g0 g1 g2) (loadW wvM s.val s.isLt p) (fun v => v = wRaw c s G p) := by
  unfold Keeps tileHeld loadW
  iintro ⟨Hx, Hw, Hw', He, He', H0, H1, H2⟩
  sl_exec
  sl_step
  isplitr; · ipureintro; rfl
  isplitl [Hx]; · iexact Hx
  isplitl [Hw]; · iexact Hw
  isplitl [Hw']; · iexact Hw'
  isplitl [He]; · iexact He
  isplitl [He']; · iexact He'
  isplitl [H0]; · iexact H0
  isplitl [H1]; · iexact H1
  iexact H2

theorem keeps_loadW' (p : Fin 64) : Keeps c (tileHeld c arg0 arg1 arg2 X s s' G G' H H' g0 g1 g2) (loadW wvM s'.val s'.isLt p) (fun v => v = wRaw c s' G' p) := by
  unfold Keeps tileHeld loadW
  iintro ⟨Hx, Hw, Hw', He, He', H0, H1, H2⟩
  sl_exec
  sl_step
  isplitr; · ipureintro; rfl
  isplitl [Hx]; · iexact Hx
  isplitl [Hw]; · iexact Hw
  isplitl [Hw']; · iexact Hw'
  isplitl [He]; · iexact He
  isplitl [He']; · iexact He'
  isplitl [H0]; · iexact H0
  isplitl [H1]; · iexact H1
  iexact H2

theorem keeps_loadE (p : Fin 16) : Keeps c (tileHeld c arg0 arg1 arg2 X s s' G G' H H' g0 g1 g2) (loadE evM s.val s.isLt p) (fun v => v = eRaw c s H p) := by
  unfold Keeps tileHeld loadE
  iintro ⟨Hx, Hw, Hw', He, He', H0, H1, H2⟩
  sl_exec
  sl_step
  isplitr; · ipureintro; rfl
  isplitl [Hx]; · iexact Hx
  isplitl [Hw]; · iexact Hw
  isplitl [Hw']; · iexact Hw'
  isplitl [He]; · iexact He
  isplitl [He']; · iexact He'
  isplitl [H0]; · iexact H0
  isplitl [H1]; · iexact H1
  iexact H2

theorem keeps_loadE' (p : Fin 16) : Keeps c (tileHeld c arg0 arg1 arg2 X s s' G G' H H' g0 g1 g2) (loadE evM s'.val s'.isLt p) (fun v => v = eRaw c s' H' p) := by
  unfold Keeps tileHeld loadE
  iintro ⟨Hx, Hw, Hw', He, He', H0, H1, H2⟩
  sl_exec
  sl_step
  isplitr; · ipureintro; rfl
  isplitl [Hx]; · iexact Hx
  isplitl [Hw]; · iexact Hw
  isplitl [Hw']; · iexact Hw'
  isplitl [He]; · iexact He
  isplitl [He']; · iexact He'
  isplitl [H0]; · iexact H0
  isplitl [H1]; · iexact H1
  iexact H2

theorem keeps_loadH (r : Fin 6) : Keeps c (tileHeld c arg0 arg1 arg2 X s s' G G' H H' g0 g1 g2) (loadH arg0 r) (fun v => v = hRaw c arg0 g0 r) := by
  unfold Keeps tileHeld loadH
  iintro ⟨Hx, Hw, Hw', He, He', H0, H1, H2⟩
  sl_exec
  sl_step
  isplitr; · ipureintro; rfl
  isplitl [Hx]; · iexact Hx
  isplitl [Hw]; · iexact Hw
  isplitl [Hw']; · iexact Hw'
  isplitl [He]; · iexact He
  isplitl [He']; · iexact He'
  isplitl [H0]; · iexact H0
  isplitl [H1]; · iexact H1
  iexact H2

theorem keeps_loadB (t : Fin k0_t1_loop.trips) : Keeps c (tileHeld c arg0 arg1 arg2 X s s' G G' H H' g0 g1 g2) (Prog.lift (.load arg1 (Rect.unit (s := S256x6144) (k0_off102 t) S256x256.size (k0_off102_inb t)).toLoadRect (View.loadsAt_vmem h_S256x256)))
    (fun v => v = bRaw c arg1 g1 t) := by
  unfold Keeps tileHeld
  iintro ⟨Hx, Hw, Hw', He, He', H0, H1, H2⟩
  sl_exec
  sl_step
  isplitr; · ipureintro; rfl
  isplitl [Hx]; · iexact Hx
  isplitl [Hw]; · iexact Hw
  isplitl [Hw']; · iexact Hw'
  isplitl [He]; · iexact He
  isplitl [He']; · iexact He'
  isplitl [H0]; · iexact H0
  isplitl [H1]; · iexact H1
  iexact H2

theorem keeps_loadS : Keeps c (tileHeld c arg0 arg1 arg2 X s s' G G' H H' g0 g1 g2) (Prog.lift (.load arg2 (Rect.unit (s := S256x256) ![0, 0] S256x256.size inb_S256x256_S256x256_0_0).toLoadRect (View.loadsAt_vmem h_S256x256)))
    (fun v => v = sRaw c arg2 g2) := by
  unfold Keeps tileHeld
  iintro ⟨Hx, Hw, Hw', He, He', H0, H1, H2⟩
  sl_exec
  sl_step
  isplitr; · ipureintro; rfl
  isplitl [Hx]; · iexact Hx
  isplitl [Hw]; · iexact Hw
  isplitl [Hw']; · iexact Hw'
  isplitl [He]; · iexact He
  isplitl [He']; · iexact He'
  isplitl [H0]; · iexact H0
  isplitl [H1]; · iexact H1
  iexact H2

end Held

end Cert.Kernel.Prf
-- ==== Proof.KRunTile.lean ====
/- The panels of a tile, run in order. -/
module

public import proofs.«01_k».proof.Proof.KRunPanel
public import Idealize.ShloMosaic.Lib.Pipeline.Value
public import Idealize.ShloMosaic.Lib.ViewIndex

@[expose] public section

noncomputable section

namespace Cert.Kernel.Prf

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Put
variable (c : Dev nD)

instance (j : Fin 2) (r : Fin 6) : ClosedOff (![j.val, 256 * r.val, 0] : Fin 3 → Nat) := ⟨_, rfl⟩

theorem castY : (⟨3, S1x1536x256.size⟩ : Shape).ShapeCasts S1536x256 := by decide

/-- A slot's element in the whole ring. -/
def yIx (j : Fin 2) (i : S1536x256.Idx) : S2x1536x256.Idx := Fin.cons j i

theorem read_yslot (j : Fin 2) (f : Buf (Elt F) (yvM.view.loc (c : Thread nD τ))) (i : S1536x256.Idx) :
    (yslot j).view.read (Elt F) f i = yvM.view.read (Elt F) f (yIx j i) := by
  have e : (yslot j).view.read (Elt F) f i = shapeCast S1536x256 (yvM.view.readAt (Elt F) (Rect.unit (s := S2x1536x256) (slotOff j) S1x1536x256.size (yslot_inb j)).toLoadRect f) castY i := rfl
  rw [e, shapeCast_dropUnit_apply (n := 2) ![1536, 256]]
  show yvM.view.read (Elt F) f _ = _
  congr 1
  refine Shape.idx3_ext ?_ ?_ ?_
  · show j.val + 1 * 0 = j.val; omega
  · show 0 + 1 * (i 0).val = (i 0).val; omega
  · show 0 + 1 * (i 1).val = (i 1).val; omega

/-- A block of sums rounded to the result's format. -/
def popT (v : Tile32 F) : Tile16 F := truncf .bf16 v bitsLt_bf16_f32

theorem popped_apply (v : FVec F S256x256 .f32) (x : S1x256x256.Idx) : popped (F := F) v x = popT v (Mxu.ix (x 1) (x 2)) := by
  unfold popped
  rw [shapeCast_addUnit_apply (n := 2) ![256, 256]]
  refine congrArg (popT v) (Shape.idx_ext₂ rfl rfl)

/-- What a store of block `r` leaves at row `i 0`. -/
def putAt (r : Fin 6) (v : Tile32 F) (old : S1536x256.Idx → Elt F .bf16) (i : S1536x256.Idx) : Elt F .bf16 :=
  if (i 0).val / 256 = r.val then popT v (Mxu.ix ⟨(i 0).val % 256, Nat.mod_lt _ (by decide)⟩ (i 1)) else old i

theorem read_put (j : Fin 2) (r : Fin 6) (hi : ∀ a, (![j.val, 256 * r.val, 0] : Fin 3 → Nat) a + S1x256x256.size a ≤ S2x1536x256.size a)
    (v : FVec F S256x256 .f32) (f : Buf (Elt F) (yvM.view.loc (c : Thread nD τ))) :
    (yslot j).view.read (Elt F) (View.write (Elt F) (yvM.access (Rect.unit (s := S2x1536x256) ![j.val, 256 * r.val, 0] S1x256x256.size hi)) f (popped v) Finset.univ)
      = putAt r v ((yslot j).view.read (Elt F) f) := by
  funext i
  rw [read_yslot c]
  unfold putAt
  split
  · next h =>
    have e := View.read_slice_write_emb (Val := Elt F) (v := yvM.view) (Rect.unit (s := S2x1536x256) ![j.val, 256 * r.val, 0] S1x256x256.size hi) f (popped v)
      (Finset.mem_univ (Fin.cons (0 : Fin 1) (Mxu.ix (⟨(i 0).val % 256, Nat.mod_lt _ (by decide)⟩ : Fin 256) (i 1)) : S1x256x256.Idx))
    rw [popped_apply] at e
    refine Eq.trans (congrArg _ ?_) e
    refine Shape.idx3_ext ?_ ?_ ?_
    · show j.val = j.val + 1 * 0; omega
    · show (i 0).val = 256 * r.val + 1 * ((i 0).val % 256); omega
    · show (i 1).val = 0 + 1 * (i 1).val; omega
  · next h =>
    rw [read_yslot c]
    refine View.read_slice_write_of_not_mem _ _ _ _ ?_
    rw [Rect.map_emb_univ, Rect.mem_set_unit]
    intro hall
    have := hall 1
    change 256 * r.val ≤ (i 0).val ∧ (i 0).val < 256 * r.val + 256 at this
    omega

theorem putY_run (j : Fin 2) (r : Fin 6) (o : Fin 3 → Nat) (ho : o = ![j.val, 256 * r.val, 0])
    (hi : ∀ a, o a + S1x256x256.size a ≤ S2x1536x256.size a)
    (hp : (Rect.unit (s := S2x1536x256) o S1x256x256.size hi).PackedRows (EltTy.packing .bf16)) (v : FVec F S256x256 .f32)
    (f : Buf (Elt F) (yvM.view.loc (c : Thread nD τ))) :
    held c (yslot j) f ⊢ wp frame (wpE (defs₀ (F := F)) 𝒱₀ (c : Thread nD τ) none) Set.univ (putY (F := F) yvM (Memref.isWhole_whole _) o hi hp v)
      (fun _ => iprop(∃ f', ⌜(yslot j).view.read (Elt F) f' = putAt r v ((yslot j).view.read (Elt F) f)⌝ ∗ held c (yslot j) f')) := by
  subst ho
  unfold putY
  iintro H
  sl_exec
  sl_step
  iexists _
  isplitr; swap
  · iexact H
  ipureintro
  unfold putY_run.sl.H_w1
  exact read_put c j r hi v f
end Put

/-! ## The panels -/
section Panels
variable (c : Dev nD) (arg0 : Memref sig .tc .vmem S1536x256 .bf16) (arg1 : Memref sig .tc .vmem S256x6144 .bf16) (arg2 : Memref sig .tc .vmem S256x256 .bf16)
  (X : Buf (Elt F) (xvM.view.loc (c : Thread nD τ))) (s s' : Fin 3)
  (G : Buf (Elt F) (wvM.view.loc (c : Thread nD τ))) (G' : Buf (Elt F) (wvM.view.loc (c : Thread nD τ)))
  (H : Buf (Elt F) (evM.view.loc (c : Thread nD τ))) (H' : Buf (Elt F) (evM.view.loc (c : Thread nD τ)))
  (g0 : Buf (Elt F) (arg0.view.loc (c : Thread nD τ))) (g1 : Buf (Elt F) (arg1.view.loc (c : Thread nD τ))) (g2 : Buf (Elt F) (arg2.view.loc (c : Thread nD τ)))

/-- The rows of the activations, a panel's tile of weights, the rows of the lora activations. -/
def xT (p : Fin 64) (r : Fin 6) : Tile16 F := rowsX (xRaw c X p r)
def wT (s : Fin 3) (G : Buf (Elt F) (wvM.view.loc (c : Thread nD τ))) (H : Buf (Elt F) (evM.view.loc (c : Thread nD τ))) (p : Fin 64) : Tile16 F :=
  widen (wRaw c s G p) (scaleBits (F := F) (eRaw c s H ⟨p.val / 4, by omega⟩)) ⟨p.val % 4, by omega⟩
def hT (r : Fin 6) : Tile16 F := hRaw c arg0 g0 r

theorem keeps_accFirst (p : Fin 64) (r : Fin 2) (u : Mxu F) :
    Keeps c (tileHeld c arg0 arg1 arg2 X s s' G G' H H' g0 g1 g2) (accFirst (F := F) xvM p r u) (fun u' => u' = m2 u r (xT c X p)) := by
  unfold accFirst
  refine Keeps.bind (keeps_loadX c arg0 arg1 arg2 X s s' G G' H H' g0 g1 g2 p 0) fun a ha => ?_
  refine Keeps.bind (keeps_loadX c arg0 arg1 arg2 X s s' G G' H H' g0 g1 g2 p 3) fun b hb => ?_
  subst ha hb
  exact Keeps.ret rfl

theorem keeps_accRest (p : Fin 64) (u : Mxu F) (t : Mxu.Staged F) (ht : ∀ q, u.gmr q = some t) :
    Keeps c (tileHeld c arg0 arg1 arg2 X s s' G G' H H' g0 g1 g2) (accRest (F := F) xvM p u) (fun u' => u' = m8 (m7 (m6 (m5 u t (xT c X p)) t (xT c X p)) t (xT c X p)) t (xT c X p)) := by
  unfold accRest
  refine Keeps.bind (keeps_loadX c arg0 arg1 arg2 X s s' G G' H H' g0 g1 g2 p 1) fun a ha => ?_
  refine Keeps.bind (Keeps.acc (t := t) (ht _)) fun u1 h1 => ?_
  refine Keeps.bind (keeps_loadX c arg0 arg1 arg2 X s s' G G' H H' g0 g1 g2 p 4) fun b hb => ?_
  refine Keeps.bind (Keeps.acc (t := t) (by rw [h1]; exact ht _)) fun u2 h2 => ?_
  refine Keeps.bind (keeps_loadX c arg0 arg1 arg2 X s s' G G' H H' g0 g1 g2 p 2) fun d hd => ?_
  refine Keeps.bind (Keeps.acc (t := t) (by rw [h2, h1]; exact ht _)) fun u3 h3 => ?_
  refine Keeps.bind (keeps_loadX c arg0 arg1 arg2 X s s' G G' H H' g0 g1 g2 p 5) fun e he => ?_
  subst h3 h2 h1 ha hb hd he
  exact Keeps.acc (t := t) (ht _)

/-- Two pushes of a tile, one to each unit. -/
theorem keeps_pushes {P : sProp (MT nD τ sig Unit (Elt F) ℕ (UU nD τ) ℕ)} (u : Mxu F) (r : Fin 2) (v : Tile16 F) (h : ∀ q, u.reg q r = none) {β : Type}
    {k : Mxu F → Prog (TpuEff nD τ sig (Elt F) Λ₀ .tc) β} {ψ : β → Prop} (hk : Keeps c P (k (m4 u r v)) ψ) :
    Keeps c P (u.pushRhs 0 r false v >>= fun u1 => u1.pushRhs 1 r false v >>= k) ψ := by
  refine Keeps.bind (Keeps.push (h 0)) fun u1 h1 => ?_
  refine Keeps.bind (Keeps.push (by rw [h1, Mxu.reg_pushed_ne _ _ _ _ _ _ _ (by simp)]; exact h 1)) fun u2 h2 => ?_
  subst h2 h1
  exact hk

theorem f_eq {p : ℕ} (hp : p < 64) : f64 p = ⟨p, hp⟩ := Fin.ext (Nat.mod_eq_of_lt hp)

def rg (n : ℕ) : Fin 2 := ⟨n % 2, Nat.mod_lt _ (by decide)⟩

theorem rg_ne (n : ℕ) : rg (n + 1) ≠ rg n := by
  intro h; have := congrArg Fin.val h; simp only [rg] at this; omega
theorem rg_two (n : ℕ) : rg (n + 1 + 1) = rg n := by
  apply Fin.ext; simp only [rg]; omega

theorem keeps_panel (p : Fin 63) (h1 : 1 ≤ p.val) (sc : IVec S32x256 32) (u : Mxu F)
    (hsc : sc = scaleBits (F := F) (eRaw c s H ⟨p.val / 4, by omega⟩))
    (g : Good u (rg p.val) (rg (p.val + 1)) (wT c s G H ⟨p.val, by omega⟩) true (sumT (xT c X) (wT c s G H) (p.val - 1))) :
    Keeps c (tileHeld c arg0 arg1 arg2 X s s' G G' H H' g0 g1 g2) (panel (F := F) xvM wvM evM s.val s.isLt p (sc, u))
      (fun st => st.1 = scaleBits (F := F) (eRaw c s H ⟨(p.val + 1) / 4, by omega⟩)
        ∧ Good st.2 (rg (p.val + 1)) (rg p.val) (wT c s G H ⟨p.val + 1, by omega⟩) true (sumT (xT c X) (wT c s G H) p.val)) := by
  have hp := p.isLt
  unfold panel
  refine Keeps.bind (keeps_accFirst c arg0 arg1 arg2 X s s' G G' H H' g0 g1 g2 _ _ _) fun u2 hu2 => ?_
  subst hu2
  extract_lets jp
  have hjp : Keeps c (tileHeld c arg0 arg1 arg2 X s s' G G' H H' g0 g1 g2) (jp (scaleBits (F := F) (eRaw c s H ⟨(p.val + 1) / 4, by omega⟩)))
      (fun st => st.1 = scaleBits (F := F) (eRaw c s H ⟨(p.val + 1) / 4, by omega⟩)
        ∧ Good st.2 (rg (p.val + 1)) (rg p.val) (wT c s G H ⟨p.val + 1, by omega⟩) true (sumT (xT c X) (wT c s G H) p.val)) := by
    dsimp only [jp]
    refine Keeps.bind (keeps_loadW c arg0 arg1 arg2 X s s' G G' H H' g0 g1 g2 _) fun w hw => ?_
    subst hw
    refine keeps_pushes (F := F) c _ (rg (p.val + 1)) _ (fun q => ?_) ?_
    · exact (m2_reg_ne u (rg p.val) (rg (p.val + 1)) (rg_ne _) _ q).trans (g.oth q)
    refine Keeps.bind (keeps_accRest c arg0 arg1 arg2 X s s' G G' H H' g0 g1 g2 _ _ (stg (wT c s G H ⟨p.val, by omega⟩)) (fun q => ?_)) fun u8 hu8 => ?_
    · rw [m4_gmr]; exact m2_gmr _ _ _ _ _ g.reg
    subst hu8
    refine Keeps.ret ⟨rfl, ?_⟩
    have k := step_good (v := wT c s G H ⟨p.val + 1, by omega⟩) (rg_ne p.val) (xT c X ⟨p.val, by omega⟩) g
    obtain ⟨n, hn⟩ : ∃ n, p.val = n + 1 := ⟨p.val - 1, by omega⟩
    have ee : sumT (xT c X) (wT c s G H) p.val = fun q a => addf (sumT (xT c X) (wT c s G H) (p.val - 1) q a) (pass (xT c X ⟨p.val, by omega⟩ (blk6 q a)) (wT c s G H ⟨p.val, by omega⟩)) := by
      have e2 : (⟨p.val, by omega⟩ : Fin 64) = f64 (n + 1) := Fin.ext (by rw [← hn]; exact (Nat.mod_eq_of_lt (show p.val < 64 by omega)).symm)
      rw [e2, hn]; rfl
    rw [ee]
    exact k
  split
  · refine Keeps.bind (keeps_loadE c arg0 arg1 arg2 X s s' G G' H H' g0 g1 g2 _) fun e he => ?_
    subst he
    exact hjp
  · next hm =>
    have e0 : sc = scaleBits (F := F) (eRaw c s H ⟨(p.val + 1) / 4, by omega⟩) := by
      rw [hsc]
      congr 3
      omega
    rw [← e0] at hjp
    simp only [← e0]
    exact hjp

theorem keeps_panels (n : ℕ) : ∀ (p : ℕ) (h1 : 1 ≤ p) (hn : p + n ≤ 63) (sc : IVec S32x256 32) (u : Mxu F)
    (hsc : sc = scaleBits (F := F) (eRaw c s H ⟨p / 4, by omega⟩))
    (g : Good u (rg p) (rg (p + 1)) (wT c s G H ⟨p, by omega⟩) true (sumT (xT c X) (wT c s G H) (p - 1))),
    Keeps c (tileHeld c arg0 arg1 arg2 X s s' G G' H H' g0 g1 g2) (panels (F := F) xvM wvM evM s.val s.isLt n p (sc, u))
      (fun st => Good st.2 (rg (p + n)) (rg (p + n + 1)) (wT c s G H ⟨p + n, by omega⟩) true (sumT (xT c X) (wT c s G H) (p + n - 1))) := by
  induction n with
  | zero => intro p h1 hn sc u hsc g; exact Keeps.ret g
  | succ n ih =>
    intro p h1 hn sc u hsc g
    have e : (⟨p % 63, by omega⟩ : Fin 63) = ⟨p, by omega⟩ := Fin.ext (Nat.mod_eq_of_lt (by omega))
    show Keeps c (tileHeld c arg0 arg1 arg2 X s s' G G' H H' g0 g1 g2) (panel (F := F) xvM wvM evM s.val s.isLt ⟨p % 63, by omega⟩ (sc, u) >>= panels (F := F) xvM wvM evM s.val s.isLt n (p + 1)) _
    rw [e]
    refine Keeps.bind (keeps_panel c arg0 arg1 arg2 X s s' G G' H H' g0 g1 g2 ⟨p, by omega⟩ h1 sc u hsc g) fun st hst => ?_
    have r := ih (p + 1) (by omega) (by omega) st.1 st.2 hst.1 (by rw [rg_two]; exact hst.2)
    have e3 : p + 1 + n = p + (n + 1) := by omega
    simp only [e3] at r
    exact r
end Panels

end Cert.Kernel.Prf
-- ==== Proof.KRunStep.lean ====
/- A whole tile, run. -/
module

public import proofs.«01_k».proof.Proof.KRunTile
public import Idealize.ShloMosaic.Lib.Pipeline.Value
public import Idealize.ShloMosaic.Lib.ViewIndex

@[expose] public section

noncomputable section

namespace Cert.Kernel.Prf

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- The rows of the result that six blocks of sums give. -/
def sumsY (S : Sums F) (i : S1536x256.Idx) : Elt F .bf16 :=
  popT (S ⟨(i 0).val / 256 / 3, by have : (i 0).val < 1536 := (i 0).isLt; omega⟩ ⟨(i 0).val / 256 % 3, Nat.mod_lt _ (by decide)⟩)
    (Mxu.ix ⟨(i 0).val % 256, Nat.mod_lt _ (by decide)⟩ (i 1))

theorem putAt_six (S : Sums F) (old : S1536x256.Idx → Elt F .bf16) :
    putAt 5 (S 1 2) (putAt 2 (S 0 2) (putAt 4 (S 1 1) (putAt 1 (S 0 1) (putAt 3 (S 1 0) (putAt 0 (S 0 0) old))))) = sumsY S := by
  funext i
  have h6 : (i 0).val / 256 < 6 := by have : (i 0).val < 1536 := (i 0).isLt; omega
  unfold putAt sumsY
  have hc : ∀ k (h : (i 0).val / 256 = k) (hk : k < 6), S ⟨(i 0).val / 256 / 3, by omega⟩ ⟨(i 0).val / 256 % 3, Nat.mod_lt _ (by decide)⟩ = S ⟨k / 3, by omega⟩ ⟨k % 3, Nat.mod_lt _ (by decide)⟩ := by
    intro k h hk; subst h; rfl
  obtain h | h | h | h | h | h : (i 0).val / 256 = 0 ∨ (i 0).val / 256 = 1 ∨ (i 0).val / 256 = 2 ∨ (i 0).val / 256 = 3 ∨ (i 0).val / 256 = 4 ∨ (i 0).val / 256 = 5 := by omega
  all_goals rw [hc _ h (by decide)]; simp only [h]; rfl

theorem Keeps.mono {c : Dev nD} {P : sProp (MT nD τ sig Unit (Elt F) ℕ (UU nD τ) ℕ)} {α : Type} {p : Prog (TpuEff nD τ sig (Elt F) Λ₀ .tc) α} {φ ψ : α → Prop}
    (h : Keeps c P p φ) (hm : ∀ a, φ a → ψ a) : Keeps c P p ψ := by
  unfold Keeps at *
  refine h.trans (wp_mono _ _ _ fun a => ?_)
  iintro ⟨%ha, H⟩
  isplitr [H]
  · ipureintro; exact hm a ha
  iexact H

section Step
variable (c : Dev nD) (arg0 : Memref sig .tc .vmem S1536x256 .bf16) (arg1 : Memref sig .tc .vmem S256x6144 .bf16) (arg2 : Memref sig .tc .vmem S256x256 .bf16)
  (X : Buf (Elt F) (xvM.view.loc (c : Thread nD τ))) (s s' : Fin 3)
  (G : Buf (Elt F) (wvM.view.loc (c : Thread nD τ))) (G' : Buf (Elt F) (wvM.view.loc (c : Thread nD τ)))
  (H : Buf (Elt F) (evM.view.loc (c : Thread nD τ))) (H' : Buf (Elt F) (evM.view.loc (c : Thread nD τ)))
  (g0 : Buf (Elt F) (arg0.view.loc (c : Thread nD τ))) (g1 : Buf (Elt F) (arg1.view.loc (c : Thread nD τ))) (g2 : Buf (Elt F) (arg2.view.loc (c : Thread nD τ)))

/-! ## The last two panels -/

theorem keeps_panel63 (t : Fin k0_t1_loop.trips) (u : Mxu F)
    (g : Good u 1 0 (wT c s G H (f64 63)) true (sumT (xT c X) (wT c s G H) 62)) :
    Keeps c (tileHeld c arg0 arg1 arg2 X s s' G G' H H' g0 g1 g2) (panel63 (F := F) arg1 xvM t u) (fun u' => Good u' 0 1 (bRaw c arg1 g1 t) true (sumT (xT c X) (wT c s G H) 63)) := by
  unfold panel63
  refine Keeps.bind (keeps_accFirst c arg0 arg1 arg2 X s s' G G' H H' g0 g1 g2 _ _ _) fun u2 hu2 => ?_
  subst hu2
  refine Keeps.bind (keeps_loadB c arg0 arg1 arg2 X s s' G G' H H' g0 g1 g2 t) fun b hb => ?_
  subst hb
  refine keeps_pushes (F := F) c _ 0 _ (fun q => ?_) ?_
  · exact (m2_reg_ne u 1 0 (by decide) _ q).trans (g.oth q)
  refine Keeps.mono (keeps_accRest c arg0 arg1 arg2 X s s' G G' H H' g0 g1 g2 63 _ (stg (wT c s G H (f64 63))) (fun q => ?_)) fun u8 hu8 => ?_
  · rw [m4_gmr]; exact m2_gmr _ _ _ _ _ g.reg
  subst hu8
  exact step_good (v := bRaw c arg1 g1 t) (by decide) (xT c X 63) g

/-- What is staged behind the last panel of tile `t`. -/
def nextT (t : Fin k0_t1_loop.trips) : Tile16 F := if t.val + 1 < 24 then wT c s' G' H' 0 else sRaw c arg2 g2

theorem nextCond : ∀ t : Fin k0_t1_loop.trips, Scalar.cmpi .slt (Scalar.addi (Scf.iv 0#32 1#32 t.val) 1#32) 24#32 = if t.val + 1 < 24 then 1#1 else 0#1 := by decide +kernel

theorem keeps_panel64 (t : Fin k0_t1_loop.trips) (hs' : slotN t = s'.val) (u : Mxu F) (S : Sums F)
    (g : Good u 0 1 (bRaw c arg1 g1 t) true S) :
    Keeps c (tileHeld c arg0 arg1 arg2 X s s' G G' H H' g0 g1 g2) (panel64 (F := F) arg0 arg2 wvM evM (Scf.iv 0#32 1#32 t.val) t u)
      (fun u' => Good u' 0 1 (nextT c arg2 s' G' H' g2 t) true (fun q a => addf (S q a) (pass (hT c arg0 g0 (blk6 q a)) (bRaw c arg1 g1 t)))) := by
  unfold panel64
  simp only [hs', nextCond]
  refine Keeps.bind (keeps_loadH c arg0 arg1 arg2 X s s' G G' H H' g0 g1 g2 0) fun h0 e0 => ?_
  refine Keeps.bind (keeps_loadH c arg0 arg1 arg2 X s s' G G' H H' g0 g1 g2 3) fun h3 e3 => ?_
  refine Keeps.bind (keeps_loadE' c arg0 arg1 arg2 X s s' G G' H H' g0 g1 g2 0) fun e he => ?_
  refine Keeps.bind (keeps_loadW' c arg0 arg1 arg2 X s s' G G' H H' g0 g1 g2 0) fun w hw => ?_
  refine Keeps.bind (keeps_loadS c arg0 arg1 arg2 X s s' G G' H H' g0 g1 g2) fun sl hsl => ?_
  have ev : Scalar.select (if t.val + 1 < 24 then 1#1 else 0#1) (widen (F := F) w (scaleBits (F := F) e) 0) sl = nextT c arg2 s' G' H' g2 t := by
    subst e0 e3 he hw hsl
    unfold nextT
    by_cases h : t.val + 1 < 24
    · rw [if_pos h, if_pos h]; rfl
    · rw [if_neg h, if_neg h]; rfl
  simp only [ev]
  have m2e : (u.accLhs 0 0 0 h0 fits_0_256).accLhs 1 0 0 h3 fits_0_256 = m2 u 0 (hT c arg0 g0) := by subst e0 e3; rfl
  rw [m2e]
  refine keeps_pushes (F := F) c _ 0 _ (fun q => m2_reg_r u 0 _ q) ?_
  have hg : ∀ q, (m4 (m2 u 0 (hT c arg0 g0)) 0 (nextT c arg2 s' G' H' g2 t)).gmr q = some (stg (bRaw c arg1 g1 t)) := fun q => by
    rw [m4_gmr]; exact m2_gmr _ _ _ _ _ g.reg
  refine Keeps.bind (keeps_loadH c arg0 arg1 arg2 X s s' G G' H H' g0 g1 g2 1) fun h1 e1 => ?_
  refine Keeps.bind (Keeps.acc (t := stg (bRaw c arg1 g1 t)) (hg _)) fun u1 hu1 => ?_
  refine Keeps.bind (keeps_loadH c arg0 arg1 arg2 X s s' G G' H H' g0 g1 g2 4) fun h4 e4 => ?_
  refine Keeps.bind (Keeps.acc (t := stg (bRaw c arg1 g1 t)) (by rw [hu1]; exact hg 1)) fun u2 hu2 => ?_
  refine Keeps.bind (keeps_loadH c arg0 arg1 arg2 X s s' G G' H H' g0 g1 g2 2) fun h2 e2 => ?_
  refine Keeps.bind (Keeps.acc (t := stg (bRaw c arg1 g1 t)) (by rw [hu2, hu1]; exact hg 0)) fun u3 hu3 => ?_
  refine Keeps.bind (keeps_loadH c arg0 arg1 arg2 X s s' G G' H H' g0 g1 g2 5) fun h5 e5 => ?_
  refine Keeps.mono (Keeps.acc (t := stg (bRaw c arg1 g1 t)) (s := u3) (q := 1) (by rw [hu3, hu2, hu1]; exact hg 1)) fun u4 hu4 => ?_
  subst hu4 hu3 hu2 hu1 e1 e2 e4 e5
  exact step_same (r' := 1) (by decide) (hT c arg0 g0) g

/-! ## Panel 0 -/

variable (j : Fin 2)

theorem keep_bind {R : sProp 𝕄} {α β : Type} {p : Prog (TpuEff nD τ sig (Elt F) Λ₀ .tc) α} {k : α → Prog (TpuEff nD τ sig (Elt F) Λ₀ .tc) β} {φ : α → Prop} {Q : β → sProp 𝕄}
    {P : sProp 𝕄} (h : Keeps c P p φ) (hk : ∀ a, φ a → iprop(P ∗ R) ⊢ wp frame (wpE (defs₀ (F := F)) 𝒱₀ (c : Thread nD τ) none) Set.univ (k a) Q) :
    iprop(P ∗ R) ⊢ wp frame (wpE (defs₀ (F := F)) 𝒱₀ (c : Thread nD τ) none) Set.univ (p >>= k) Q := by
  rw [wp_bind]
  refine (sep_mono h .refl).trans ((wp_frame_r frame (wpE (defs₀ (F := F)) 𝒱₀ (c : Thread nD τ) none) Set.univ).trans (wp_mono _ _ _ fun a => ?_))
  iintro ⟨⟨%ha, HP⟩, HR⟩
  iapply (hk a ha)
  isplitl [HP]; · iexact HP
  iexact HR

theorem put_bind {P : sProp 𝕄} {β : Type} {k : PUnit → Prog (TpuEff nD τ sig (Elt F) Λ₀ .tc) β} {Q : β → sProp 𝕄} (r : Fin 6) {o : Fin 3 → Nat} (ho : o = ![j.val, 256 * r.val, 0])
    {hi : ∀ a, o a + S1x256x256.size a ≤ S2x1536x256.size a}
    {hp : (Rect.unit (s := S2x1536x256) o S1x256x256.size hi).PackedRows (EltTy.packing .bf16)} {v : FVec F S256x256 .f32}
    {f : Buf (Elt F) (yvM.view.loc (c : Thread nD τ))}
    (hk : ∀ f', (yslot j).view.read (Elt F) f' = putAt r v ((yslot j).view.read (Elt F) f) →
      iprop(P ∗ held c (yslot j) f') ⊢ wp frame (wpE (defs₀ (F := F)) 𝒱₀ (c : Thread nD τ) none) Set.univ (k ⟨⟩) Q) :
    iprop(P ∗ held c (yslot j) f) ⊢ wp frame (wpE (defs₀ (F := F)) 𝒱₀ (c : Thread nD τ) none) Set.univ (putY (F := F) yvM (Memref.isWhole_whole _) o hi hp v >>= k) Q := by
  rw [wp_bind]
  refine (sep_mono .refl (putY_run c j r o ho hi hp v f)).trans ((wp_frame_l frame (wpE (defs₀ (F := F)) 𝒱₀ (c : Thread nD τ) none) Set.univ).trans (wp_mono _ _ _ fun a => ?_))
  iintro ⟨HP, %f', %hf', Hf⟩
  iapply (hk f' hf')
  isplitl [HP]; · iexact HP
  iexact Hf

theorem run_panel0 (t : Fin k0_t1_loop.trips) (hs : slotC t = s.val) (hj : j = Ring.sl 2 (t.val + 1)) (u : Mxu F) (n : Bool) (S : Sums F)
    (g : Good u 0 1 (wT c s G H 0) n S) (f : Buf (Elt F) (yvM.view.loc (c : Thread nD τ))) :
    iprop((tileHeld c arg0 arg1 arg2 X s s' G G' H H' g0 g1 g2) ∗ held c (yslot j) f) ⊢ wp frame (wpE (defs₀ (F := F)) 𝒱₀ (c : Thread nD τ) none) Set.univ (panel0 (F := F) xvM wvM evM yvM (Memref.isWhole_whole _) t u)
      (fun st => iprop((⌜st.1 = scaleBits (F := F) (eRaw c s H 0) ∧ Good st.2 1 0 (wT c s G H 1) true (sumT (xT c X) (wT c s G H) 0)⌝ ∗ (tileHeld c arg0 arg1 arg2 X s s' G G' H H' g0 g1 g2))
        ∗ ∃ f', ⌜n = true → (yslot j).view.read (Elt F) f' = sumsY S⌝ ∗ held c (yslot j) f')) := by
  subst hj
  unfold panel0
  simp only [hs]
  have gm := g.reg
  refine put_bind c _ 0 (off17_eq t) fun f1 hf1 => ?_
  refine keep_bind c (keeps_loadX c arg0 arg1 arg2 X s s' G G' H H' g0 g1 g2 0 0) fun x0 e0 => ?_
  refine put_bind c _ 3 (off18_eq t) fun f2 hf2 => ?_
  refine keep_bind c (keeps_loadX c arg0 arg1 arg2 X s s' G G' H H' g0 g1 g2 0 3) fun x3 e3 => ?_
  refine keep_bind c (keeps_loadE c arg0 arg1 arg2 X s s' G G' H H' g0 g1 g2 0) fun e he => ?_
  refine keep_bind c (keeps_loadW c arg0 arg1 arg2 X s s' G G' H H' g0 g1 g2 1) fun w hw => ?_
  subst e0 e3 he hw
  refine keep_bind c (Keeps.push ((s2_reg1 u (xT c X 0) 0).trans (g.oth 0))) fun u1 hu1 => ?_
  refine keep_bind c (Keeps.push ((by rw [hu1, Mxu.reg_pushed_ne _ _ _ _ _ _ _ (by decide)]; exact (s2_reg1 u (xT c X 0) 1).trans (g.oth 1)))) fun u2 hu2 => ?_
  have e2 : u2 = s4 u (xT c X 0) (wT c s G H 1) := by rw [hu2, hu1]; rfl
  clear hu2 hu1
  subst e2
  refine put_bind c _ 1 (off21_eq t) fun f3 hf3 => ?_
  refine keep_bind c (keeps_loadX c arg0 arg1 arg2 X s s' G G' H H' g0 g1 g2 0 1) fun x1 e1 => ?_
  refine keep_bind c (Keeps.acc (t := stg (wT c s G H 0)) (s4_gmr u (wT c s G H 0) (xT c X 0) (wT c s G H 1) 0 gm)) fun u3 hu3 => ?_
  have e2 : u3 = s5 u (wT c s G H 0) (xT c X 0) (wT c s G H 1) := by rw [hu3, e1]; rfl
  clear hu3
  subst e2
  refine put_bind c _ 4 (off22_eq t) fun f4 hf4 => ?_
  refine keep_bind c (keeps_loadX c arg0 arg1 arg2 X s s' G G' H H' g0 g1 g2 0 4) fun x4 e4 => ?_
  refine keep_bind c (Keeps.acc (t := stg (wT c s G H 0)) (gmr_s5 u (wT c s G H 0) (xT c X 0) (wT c s G H 1) 1 gm)) fun u3 hu3 => ?_
  have e2 : u3 = s6 u (wT c s G H 0) (xT c X 0) (wT c s G H 1) := by rw [hu3, e4]; rfl
  clear hu3
  subst e2
  refine put_bind c _ 2 (off23_eq t) fun f5 hf5 => ?_
  refine keep_bind c (keeps_loadX c arg0 arg1 arg2 X s s' G G' H H' g0 g1 g2 0 2) fun x2 e2' => ?_
  refine keep_bind c (Keeps.acc (t := stg (wT c s G H 0)) (gmr_s6 u (wT c s G H 0) (xT c X 0) (wT c s G H 1) 0 gm)) fun u3 hu3 => ?_
  have e2 : u3 = s7 u (wT c s G H 0) (xT c X 0) (wT c s G H 1) := by rw [hu3, e2']; rfl
  clear hu3
  subst e2
  refine put_bind c _ 5 (off24_eq t) fun f6 hf6 => ?_
  refine keep_bind c (keeps_loadX c arg0 arg1 arg2 X s s' G G' H H' g0 g1 g2 0 5) fun x5 e5 => ?_
  refine keep_bind c (Keeps.acc (t := stg (wT c s G H 0)) (gmr_s7 u (wT c s G H 0) (xT c X 0) (wT c s G H 1) 1 gm)) fun u3 hu3 => ?_
  have e2 : u3 = s8 u (wT c s G H 0) (xT c X 0) (wT c s G H 1) := by rw [hu3, e5]; rfl
  clear hu3
  subst e2
  have hY : n = true → (yslot (Ring.sl 2 (t.val + 1))).view.read (Elt F) f6 = sumsY S := fun hn => by
    rw [hf6, hf5, hf4, hf3, hf2, hf1, g.rd0 hn, ← putAt_six S ((yslot (Ring.sl 2 (t.val + 1))).view.read (Elt F) f)]
    rw [read_s7, read_s6, read_s5, read_s4 _ _ _ _ _ (by decide), g.rd1 hn, g.rd1 hn, g.rd2 hn, g.rd2 hn]
    rw [← read_f1 u (wT c s G H 0) (xT c X 0) g hn]
    rfl
  have hG := s8_good u (wT c s G H 0) (xT c X 0) (wT c s G H 1) g
  show _ ⊢ wp _ _ _ (Prog.ret _) _
  rw [wp_ret]
  iintro ⟨HT, Hy⟩
  isplitl [HT]
  · isplitr [HT]
    · ipureintro; exact ⟨rfl, hG⟩
    iexact HT
  iexists f6
  isplitr [Hy]
  · ipureintro; exact hY
  iexact Hy

/-- The whole tile: the sums found are left in the result slot, the tile's own in the units. -/
theorem run_tile (t : Fin k0_t1_loop.trips) (hs : slotC t = s.val) (hs' : slotN t = s'.val) (hj : j = Ring.sl 2 (t.val + 1)) (u : Mxu F) (n : Bool) (S : Sums F)
    (g : Good u 0 1 (wT c s G H 0) n S) (f : Buf (Elt F) (yvM.view.loc (c : Thread nD τ))) :
    iprop((tileHeld c arg0 arg1 arg2 X s s' G G' H H' g0 g1 g2) ∗ held c (yslot j) f) ⊢ wp frame (wpE (defs₀ (F := F)) 𝒱₀ (c : Thread nD τ) none) Set.univ
      (tile (F := F) arg0 arg1 arg2 xvM wvM evM yvM (Memref.isWhole_whole _) (Scf.iv 0#32 1#32 t.val) t u)
      (fun u' => iprop((⌜Good u' 0 1 (nextT c arg2 s' G' H' g2 t) true (tileSums (xT c X) (hT c arg0 g0) (wT c s G H) (bRaw c arg1 g1 t))⌝ ∗ (tileHeld c arg0 arg1 arg2 X s s' G G' H H' g0 g1 g2))
        ∗ ∃ f', ⌜n = true → (yslot j).view.read (Elt F) f' = sumsY S⌝ ∗ held c (yslot j) f')) := by
  unfold tile
  rw [wp_bind]
  refine (run_panel0 c arg0 arg1 arg2 X s s' G G' H H' g0 g1 g2 j t hs hj u n S g f).trans (wp_mono _ _ _ fun st => ?_)
  have hk : st.1 = scaleBits (F := F) (eRaw c s H 0) ∧ Good st.2 1 0 (wT c s G H 1) true (sumT (xT c X) (wT c s G H) 0) →
      Keeps c (tileHeld c arg0 arg1 arg2 X s s' G G' H H' g0 g1 g2) (panels (F := F) xvM wvM evM (slotC t) (slotC_lt t) 62 1 st >>= fun st => panel63 (F := F) arg1 xvM t st.2 >>= fun s => panel64 (F := F) arg0 arg2 wvM evM (Scf.iv 0#32 1#32 t.val) t s)
        (fun u' => Good u' 0 1 (nextT c arg2 s' G' H' g2 t) true (tileSums (xT c X) (hT c arg0 g0) (wT c s G H) (bRaw c arg1 g1 t))) := fun hst => by
    simp only [hs]
    refine Keeps.bind (keeps_panels c arg0 arg1 arg2 X s s' G G' H H' g0 g1 g2 62 1 (by decide) (by decide) st.1 st.2 hst.1 hst.2) fun st2 h2 => ?_
    refine Keeps.bind (keeps_panel63 c arg0 arg1 arg2 X s s' G G' H H' g0 g1 g2 t st2.2 h2) fun u3 h3 => ?_
    exact keeps_panel64 c arg0 arg1 arg2 X s s' G G' H H' g0 g1 g2 t hs' u3 _ h3
  iintro ⟨⟨%hst, HT⟩, Hy⟩
  iapply (wp_frame_r frame (wpE (defs₀ (F := F)) 𝒱₀ (c : Thread nD τ) none) Set.univ)
  isplitl [HT]
  · iapply (show _ ⊢ _ from hk hst)
    iexact HT
  iexact Hy
end Step

end Cert.Kernel.Prf
-- ==== Proof.KRunLoop.lean ====
/- The loop over the tiles: its invariant and one trip. -/
module

public import proofs.«01_k».proof.Proof.KRunStep
public import Idealize.ShloMosaic.Lib.Pipeline.Value
public import Idealize.ShloMosaic.Lib.ViewIndex

@[expose] public section

noncomputable section

namespace Cert.Kernel.Prf

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Loop
variable (c : Dev nD) (arg0 : Memref sig .tc .vmem S1536x256 .bf16) (harg0 : arg0.IsWhole) (arg1 : Memref sig .tc .vmem S256x6144 .bf16) (harg1 : arg1.IsWhole)
  (arg2 : Memref sig .tc .vmem S256x256 .bf16) (harg2 : arg2.IsWhole)
  (W : Buf (Elt F) ((c : Thread nD τ).loc main_arg1)) (E : Buf (Elt F) ((c : Thread nD τ).loc main_arg2))
  (X : Buf (Elt F) (xvM.view.loc (c : Thread nD τ)))
  (g0 : Buf (Elt F) (arg0.view.loc (c : Thread nD τ))) (g1 : Buf (Elt F) (arg1.view.loc (c : Thread nD τ))) (g2 : Buf (Elt F) (arg2.view.loc (c : Thread nD τ)))

theorem castW : (⟨3, S1x2048x256.size⟩ : Shape).ShapeCasts S2048x256 := by decide
theorem castE : (⟨3, S1x512x256.size⟩ : Shape).ShapeCasts S512x256 := by decide

theorem read_wslot (s : Fin 3) (f : Buf (Elt F) (wvM.view.loc (c : Thread nD τ))) (i : S2048x256.Idx) :
    (wslot s).view.read (Elt F) f i = wvM.view.read (Elt F) f (Fin.cons s i : S3x2048x256.Idx) := by
  have e : (wslot s).view.read (Elt F) f i = shapeCast S2048x256 (wvM.view.readAt (Elt F) (Rect.unit (s := S3x2048x256) (slotOff s) S1x2048x256.size (wslot_inb s)).toLoadRect f) castW i := rfl
  rw [e, shapeCast_dropUnit_apply (n := 2) ![2048, 256]]
  show wvM.view.read (Elt F) f _ = _
  congr 1
  refine Shape.idx3_ext ?_ ?_ ?_
  · show s.val + 1 * 0 = s.val; omega
  · show 0 + 1 * (i 0).val = (i 0).val; omega
  · show 0 + 1 * (i 1).val = (i 1).val; omega
theorem read_eslot (s : Fin 3) (f : Buf (Elt F) (evM.view.loc (c : Thread nD τ))) (i : S512x256.Idx) :
    (eslot s).view.read (Elt F) f i = evM.view.read (Elt F) f (Fin.cons s i : S3x512x256.Idx) := by
  have e : (eslot s).view.read (Elt F) f i = shapeCast S512x256 (evM.view.readAt (Elt F) (Rect.unit (s := S3x512x256) (slotOff s) S1x512x256.size (eslot_inb s)).toLoadRect f) castE i := rfl
  rw [e, shapeCast_dropUnit_apply (n := 2) ![512, 256]]
  show evM.view.read (Elt F) f _ = _
  congr 1
  refine Shape.idx3_ext ?_ ?_ ?_
  · show s.val + 1 * 0 = s.val; omega
  · show 0 + 1 * (i 0).val = (i 0).val; omega
  · show 0 + 1 * (i 1).val = (i 1).val; omega

/-- Panel `p`'s rows of a tile of packed weights, and group `g`'s of a tile of scales. -/
def rowsW (f : S2048x256.Idx → Elt F .i32) (p : Fin 64) : Vec F S1x32x256 .i32 :=
  fun i => f (Fin.cons (⟨32 * p.val + (i 1).val, by have : (i 1).val < 32 := (i 1).isLt; have := p.isLt; omega⟩ : Fin 2048) (Fin.cons (i 2) (fun x => x.elim0)))
def rowsE (f : S512x256.Idx → Elt F .i8) (g : Fin 16) : Vec F S1x32x256 .i8 :=
  fun i => f (Fin.cons (⟨32 * g.val + (i 1).val, by have : (i 1).val < 32 := (i 1).isLt; have := g.isLt; omega⟩ : Fin 512) (Fin.cons (i 2) (fun x => x.elim0)))

theorem wRaw_eq (s : Fin 3) (f : Buf (Elt F) (wvM.view.loc (c : Thread nD τ))) (p : Fin 64) : wRaw c s f p = rowsW ((wslot s).view.read (Elt F) f) p := by
  funext i
  unfold rowsW
  rw [read_wslot c]
  show wvM.view.read (Elt F) f _ = _
  congr 1
  refine Shape.idx3_ext ?_ ?_ ?_
  · have : (i 0).val < 1 := (i 0).isLt
    show s.val + 1 * (i 0).val = s.val; omega
  · show 32 * p.val + 1 * (i 1).val = 32 * p.val + (i 1).val; omega
  · show 0 + 1 * (i 2).val = (i 2).val; omega
theorem eRaw_eq (s : Fin 3) (f : Buf (Elt F) (evM.view.loc (c : Thread nD τ))) (p : Fin 16) : eRaw c s f p = rowsE ((eslot s).view.read (Elt F) f) p := by
  funext i
  unfold rowsE
  rw [read_eslot c]
  show evM.view.read (Elt F) f _ = _
  congr 1
  refine Shape.idx3_ext ?_ ?_ ?_
  · have : (i 0).val < 1 := (i 0).isLt
    show s.val + 1 * (i 0).val = s.val; omega
  · show 32 * p.val + 1 * (i 1).val = 32 * p.val + (i 1).val; omega
  · show 0 + 1 * (i 2).val = (i 2).val; omega

/-- Tile `b`'s weights at panel `p`, from the operands. -/
def wB (b : Fin 24) (p : Fin 64) : Tile16 F :=
  widen (rowsW ((wblk b).view.read (Elt F) (wAt c W b)) p) (scaleBits (F := F) (rowsE ((eblk b).view.read (Elt F) (eAt c E b)) ⟨p.val / 4, by omega⟩)) ⟨p.val % 4, by omega⟩

theorem wT_eq (s : Fin 3) (b : Fin 24) (G : Buf (Elt F) (wvM.view.loc (c : Thread nD τ))) (H : Buf (Elt F) (evM.view.loc (c : Thread nD τ)))
    (hG : (wslot s).view.read (Elt F) G = (wblk b).view.read (Elt F) (wAt c W b)) (hH : (eslot s).view.read (Elt F) H = (eblk b).view.read (Elt F) (eAt c E b)) :
    wT c s G H = wB c W E b := by
  funext p
  unfold wT wB
  rw [wRaw_eq, eRaw_eq, hG, hH]

/-- Tile `b`'s sums, and its block of the result. -/
def sumsB (b : Fin 24) : Sums F := tileSums (xT c X) (hT c arg0 g0) (wB c W E b) (bRaw c arg1 g1 (Fin.cast trips_eq.symm b))
def yB (b : Fin 24) : S1536x256.Idx → Elt F .bf16 := sumsY (sumsB c arg0 arg1 W E X g0 g1 b)

/-- What is staged before tile `k`: the tile's first panel, past the last tile the select matrix. -/
def staged (k : ℕ) : Tile16 F := if k < 24 then wB c W E (Ring.bk 24 k) 0 else sRaw c arg2 g2

/-- Before tile `k`. -/
def loopI (k : ℕ) (u : Mxu F) : sProp 𝕄 :=
  iprop(⌜Good u 0 1 (staged c arg2 W E g2 k) (decide (0 < k)) (sumsB c arg0 arg1 W E X g0 g1 (Ring.bk 24 (k - 1)))⌝
    ∗ held c xvM X ∗ held c arg0 g0 ∗ held c arg1 g1 ∗ held c arg2 g2
    ∗ wHave c W k ∗ eHave c E k ∗ yPend c (yB c arg0 arg1 W E X g0 g1) k
    ∗ guardPre c W E (yB c arg0 arg1 W E X g0 g1) k)

theorem loop_step (t : Fin k0_t1_loop.trips) (u : Mxu F)
    (k0_mxu7 : Mxu F) (v683_r0 : IVec S32x256 32) (v712_r0 : FVec F S256x256 .bf16) (v717_r0 : FVec F S32x256 .bf16) (v718_r0 : FVec F S32x256 .bf16) :
    loopI c arg0 arg1 arg2 W E X g0 g1 g2 t.val u ⊢ wp frame (wpE (defs₀ (F := F)) 𝒱₀ (c : Thread nD τ) none) Set.univ
      (k0_t1_body (F := F) arg0 harg0 arg1 harg1 arg2 harg2 xM (Memref.isWhole_whole _) wM (Memref.isWhole_whole _) eM (Memref.isWhole_whole _) yM (Memref.isWhole_whole _) hM (Memref.isWhole_whole _)
        xvM (Memref.isWhole_whole _) wvM (Memref.isWhole_whole _) evM (Memref.isWhole_whole _) yvM (Memref.isWhole_whole _) hoM (Memref.isWhole_whole _)
        cc0_scratch5 cc0_scratch6 cc0_scratch7 cc0_scratch8 cc0_scratch9 k0_mxu7 v683_r0 v712_r0 v717_r0 v718_r0 t u)
      (loopI c arg0 arg1 arg2 W E X g0 g1 g2 (t.val + 1)) := by
  have h24 := t_lt t
  rw [body_eq, wp_bind]
  unfold loopI
  iintro ⟨%hg, Hx, H0, H1, H2, Hw, He, Hyp, Hpre⟩
  iapply (wp_wand_r Idealize.ShloMosaic.frame (wpE (defs₀ (F := F)) 𝒱₀ (c : Thread nD τ) none) Set.univ)
  isplitl [Hpre]
  · iapply (part3_run c arg0 harg0 arg1 harg1 arg2 harg2 W E (yB c arg0 arg1 W E X g0 g1) t); iexact Hpre
  iintro %r ⟨%hr, Hpost⟩
  unfold guardPost
  icases Hpost with ⟨HW, Hw1, Hwn, Hwh, He1, Hen, Heh, Hyf, Hya⟩
  rw [wp_bind]
  iapply (wp_wand_r Idealize.ShloMosaic.frame (wpE (defs₀ (F := F)) 𝒱₀ (c : Thread nD τ) none) Set.univ)
  isplitl [HW Hyp Hya]
  · iapply (guardY_run c (yB c arg0 arg1 W E X g0 g1) t)
    isplitl [HW]; · iexact HW
    isplitl [Hyp]; · iexact Hyp
    iexact Hya
  iintro %_ ⟨HW, Hyfly, Hyh⟩
  rw [hr]
  unfold wHave eHave yFree
  icases Hw with ⟨⟨%G, %hG, Hw⟩, Hwc⟩
  icases He with ⟨⟨%H, %hH, He⟩, Hec⟩
  icases Hw1 with ⟨⟨%G', %hG', Hw1⟩, Hw1c⟩
  icases He1 with ⟨⟨%H', %hH', He1⟩, He1c⟩
  icases Hyf with ⟨⟨%f, Hys⟩, Hyc⟩
  have eT := wT_eq c W E (Ring.sl 3 t.val) (Ring.bk 24 t.val) G H (hG h24) (hH h24)
  have hst : staged c arg2 W E g2 t.val = wT c (Ring.sl 3 t.val) G H 0 := by rw [staged, if_pos h24, eT]
  rw [hst] at hg
  have hb : Fin.cast trips_eq.symm (Ring.bk 24 t.val) = t := Fin.ext (show (Ring.bk 24 t.val).val = t.val from Ring.bk_val h24)
  have eS : tileSums (xT c X) (hT c arg0 g0) (wT c (Ring.sl 3 t.val) G H) (bRaw c arg1 g1 t) = sumsB c arg0 arg1 W E X g0 g1 (Ring.bk 24 (t.val + 1 - 1)) := by
    unfold sumsB; rw [Nat.add_sub_cancel, eT, hb]
  have eN : nextT c arg2 (Ring.sl 3 (t.val + 1)) G' H' g2 t = staged c arg2 W E g2 (t.val + 1) := by
    unfold nextT staged
    split
    · next h => rw [wT_eq c W E (Ring.sl 3 (t.val + 1)) (Ring.bk 24 (t.val + 1)) G' H' (hG' h) (hH' h)]
    · rfl
  iapply (wp_wand_r Idealize.ShloMosaic.frame (wpE (defs₀ (F := F)) 𝒱₀ (c : Thread nD τ) none) Set.univ)
  isplitl [Hx Hw Hw1 He He1 H0 H1 H2 Hys]
  · iapply (run_tile c arg0 arg1 arg2 X (Ring.sl 3 t.val) (Ring.sl 3 (t.val + 1)) G G' H H' g0 g1 g2 (Ring.sl 2 (t.val + 1)) t (slotC_eq t) (slotN_eq t) rfl u _ _ hg f)
    isplitr [Hys]; swap
    · iexact Hys
    unfold tileHeld
    isplitl [Hx]; · iexact Hx
    isplitl [Hw]; · iexact Hw
    isplitl [Hw1]; · iexact Hw1
    isplitl [He]; · iexact He
    isplitl [He1]; · iexact He1
    isplitl [H0]; · iexact H0
    isplitl [H1]; · iexact H1
    iexact H2
  iintro %u' ⟨⟨%hg', HT⟩, %f', %hf', Hys⟩
  unfold tileHeld
  icases HT with ⟨Hx, Hw, Hw1, He, He1, H0, H1, H2⟩
  rw [eS, eN] at hg'
  isplitr
  · ipureintro; rw [show decide (0 < t.val + 1) = true from decide_eq_true (by omega)]; exact hg'
  isplitl [Hx]; · iexact Hx
  isplitl [H0]; · iexact H0
  isplitl [H1]; · iexact H1
  isplitl [H2]; · iexact H2
  isplitl [Hw1 Hw1c]
  · isplitl [Hw1]
    · iexists G'; isplitr; · ipureintro; exact hG'
      iexact Hw1
    iexact Hw1c
  isplitl [He1 He1c]
  · isplitl [He1]
    · iexists H'; isplitr; · ipureintro; exact hH'
      iexact He1
    iexact He1c
  isplitl [Hys Hyc]
  · unfold yPend
    isplitl [Hys]
    · iexists f'
      isplitr
      · ipureintro
        intro h2
        rw [hf' (decide_eq_true (by omega))]
        rfl
      iexact Hys
    iexact Hyc
  unfold guardPre
  isplitl [HW]; · iexact HW
  isplitl [Hwn]; · iexact Hwn
  isplitl [Hw Hwc]
  · unfold wFree
    rw [show t.val + 1 + 2 = t.val + 3 from rfl, Ring.sl_add]
    isplitl [Hw]; · iexists G; iexact Hw
    iexact Hwc
  isplitl [Hwh]; · iexact Hwh
  isplitl [Hen]; · iexact Hen
  isplitl [He Hec]
  · unfold eFree
    rw [show t.val + 1 + 2 = t.val + 3 from rfl, Ring.sl_add]
    isplitl [He]; · iexists H; iexact He
    iexact Hec
  isplitl [Heh]; · iexact Heh
  isplitl [Hyfly]; · iexact Hyfly
  iexact Hyh
end Loop

end Cert.Kernel.Prf
-- ==== Proof.KCopies.lean ====
/- The copies before the loop: the panels of the activations and the first two tiles, and the body cut into its phases. -/
module

public import proofs.«01_k».proof.Proof.KRunLoop
public import Idealize.ShloMosaic.Lib.Pipeline.Value
public import Idealize.ShloMosaic.Lib.ViewIndex

@[expose] public section

noncomputable section

namespace Cert.Kernel.Prf

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

theorem xsrc_words (k : Fin 64) : (Rect.unit (s := S1536x16384) (xcolOff k) S1536x256.size (xsrc_inb k)).WholeWords (EltTy.packing .bf16) := by revert k; decide
theorem xslot_words (k : Fin 64) : (Rect.unit (s := S64x1536x256) (slotOff k) S1x1536x256.size (xslot_inb k)).WholeWords (EltTy.packing .bf16) := by revert k; decide
theorem eblk_words (k : Fin 24) : (Rect.unit (s := S512x6144) (colOff k) S512x256.size (eblk_inb k)).WholeWords (EltTy.packing .i8) := by revert k; decide
theorem eslot_words (k : Fin 3) : (Rect.unit (s := S3x512x256) (slotOff k) S1x512x256.size (eslot_inb k)).WholeWords (EltTy.packing .i8) := by revert k; decide
theorem yblk_words (k : Fin 24) : (Rect.unit (s := S1536x6144) (colOff k) S1536x256.size (yblk_inb k)).WholeWords (EltTy.packing .bf16) := by revert k; decide
theorem yslot_words (k : Fin 2) : (Rect.unit (s := S2x1536x256) (slotOff k) S1x1536x256.size (yslot_inb k)).WholeWords (EltTy.packing .bf16) := by revert k; decide

/-- Start and await the copy of panel `k` of the activations. -/
def startX (k : Fin 64) : Prog (TpuEff nD τ sig (Elt F) Λ₀ .tc) PUnit :=
  Prog.lift (.enqueueDma (xsrc k) (.here (xslot k)) (.dma (xsem k).sem) ((Memref.isWhole_whole main_v0).wordExact_slice rfl _ (xsrc_words k)) (((Memref.isWhole_whole cc0_scratch0).wordExact_slice rfl _ (xslot_words k)).reshape _ _) ⟨Or.inl rfl, trivial⟩)
def waitX (k : Fin 64) : Prog (TpuEff nD τ sig (Elt F) Λ₀ .tc) PUnit :=
  Prog.lift (.waitDma2 (xsem k).sem (xsrc k) (xslot k) ((Memref.isWhole_whole main_v0).wordExact_slice rfl _ (xsrc_words k)) (((Memref.isWhole_whole cc0_scratch0).wordExact_slice rfl _ (xslot_words k)).reshape _ _))
def startXs : ℕ → ℕ → Prog (TpuEff nD τ sig (Elt F) Λ₀ .tc) PUnit
  | 0, _ => Prog.ret ⟨⟩
  | n + 1, k => startX (f64 k) >>= fun _ => startXs n (k + 1)
def waitXs : ℕ → ℕ → Prog (TpuEff nD τ sig (Elt F) Λ₀ .tc) PUnit
  | 0, _ => Prog.ret ⟨⟩
  | n + 1, k => waitX (f64 k) >>= fun _ => waitXs n (k + 1)

/-- Start and await the copies of a tile's weights and scales. -/
def startW (b : Fin 24) (s : Fin 3) : Prog (TpuEff nD τ sig (Elt F) Λ₀ .tc) PUnit :=
  Prog.lift (.enqueueDma (wblk b) (.here (wslot s)) (.dma (wsem s).sem) (View.wordExact_bits rfl) ((View.wordExact_bits rfl).reshape _ _) ⟨Or.inl rfl, trivial⟩)
def startE (b : Fin 24) (s : Fin 3) : Prog (TpuEff nD τ sig (Elt F) Λ₀ .tc) PUnit :=
  Prog.lift (.enqueueDma (eblk b) (.here (eslot s)) (.dma (esem s).sem) ((Memref.isWhole_whole main_arg2).wordExact_slice rfl _ (eblk_words b)) (((Memref.isWhole_whole cc0_scratch2).wordExact_slice rfl _ (eslot_words s)).reshape _ _) ⟨Or.inl rfl, trivial⟩)
def waitW (b : Fin 24) (s : Fin 3) : Prog (TpuEff nD τ sig (Elt F) Λ₀ .tc) PUnit :=
  Prog.lift (.waitDma2 (wsem s).sem (wblk b) (wslot s) (View.wordExact_bits rfl) ((View.wordExact_bits rfl).reshape _ _))
def waitE (b : Fin 24) (s : Fin 3) : Prog (TpuEff nD τ sig (Elt F) Λ₀ .tc) PUnit :=
  Prog.lift (.waitDma2 (esem s).sem (eblk b) (eslot s) ((Memref.isWhole_whole main_arg2).wordExact_slice rfl _ (eblk_words b)) (((Memref.isWhole_whole cc0_scratch2).wordExact_slice rfl _ (eslot_words s)).reshape _ _))
/-- The first two tiles' starts; -/
def mid : Prog (TpuEff nD τ sig (Elt F) Λ₀ .tc) PUnit :=
  startW 0 0 >>= fun _ => startE 0 0 >>= fun _ => startW 1 1 >>= fun _ => startE 1 1
/-- the first tile's arrival and its first panel's words and scales. -/
def last : Prog (TpuEff nD τ sig (Elt F) Λ₀ .tc) (Vec F S1x32x256 .i8 × Vec F S1x32x256 .i32) :=
  waitW 0 0 >>= fun _ => waitE 0 0 >>= fun _ => loadE evM (0 : Fin 3).val (0 : Fin 3).isLt 0 >>= fun e => loadW wvM (0 : Fin 3).val (0 : Fin 3).isLt 0 >>= fun w => Prog.ret (e, w)
/-- The matrix units after the six reads before the loop. -/
def cleared : Mxu F :=
  (((((Mxu.init.pop 0 0 256 fits_0_256).pop 0 64 256 fits_64_256).pop 0 128 256 fits_128_256).pop 1 0 256 fits_0_256).pop 1 64 256 fits_64_256).pop 1 128 256 fits_128_256

section Cut
variable (arg0 : Memref sig .tc .vmem S1536x256 .bf16) (harg0 : arg0.IsWhole) (arg1 : Memref sig .tc .vmem S256x6144 .bf16) (harg1 : arg1.IsWhole)
  (arg2 : Memref sig .tc .vmem S256x256 .bf16) (harg2 : arg2.IsWhole)

/-- What follows the loop. -/
def rest188 (k0_mxu11 : Mxu F) : Prog (TpuEff nD τ sig (Elt F) Λ₀ .tc) (Mxu F) := do
  let ⟨k0_mxu542, v794_r0⟩ : Σ' (k0_mxu542 : Mxu F), FVec F S256x256 .bf16 ← k0_part185 arg0 harg0 arg1 harg1 arg2 harg2 xM (Memref.isWhole_whole _) wM (Memref.isWhole_whole _) eM (Memref.isWhole_whole _) yM (Memref.isWhole_whole _) hM (Memref.isWhole_whole _) xvM (Memref.isWhole_whole _) wvM (Memref.isWhole_whole _) evM (Memref.isWhole_whole _) yvM (Memref.isWhole_whole _) hoM (Memref.isWhole_whole _) cc0_scratch5 cc0_scratch6 cc0_scratch7 cc0_scratch8 cc0_scratch9 k0_mxu11
  let k0_mxu549 : Mxu F ← k0_part186 arg0 harg0 arg1 harg1 arg2 harg2 xM (Memref.isWhole_whole _) wM (Memref.isWhole_whole _) eM (Memref.isWhole_whole _) yM (Memref.isWhole_whole _) hM (Memref.isWhole_whole _) xvM (Memref.isWhole_whole _) wvM (Memref.isWhole_whole _) evM (Memref.isWhole_whole _) yvM (Memref.isWhole_whole _) hoM (Memref.isWhole_whole _) cc0_scratch5 cc0_scratch6 cc0_scratch7 cc0_scratch8 cc0_scratch9 k0_mxu542 v794_r0
  let k0_mxu555 : Mxu F ← k0_part187 arg0 harg0 arg1 harg1 arg2 harg2 xM (Memref.isWhole_whole _) wM (Memref.isWhole_whole _) eM (Memref.isWhole_whole _) yM (Memref.isWhole_whole _) hM (Memref.isWhole_whole _) xvM (Memref.isWhole_whole _) wvM (Memref.isWhole_whole _) evM (Memref.isWhole_whole _) yvM (Memref.isWhole_whole _) hoM (Memref.isWhole_whole _) cc0_scratch5 cc0_scratch6 cc0_scratch7 cc0_scratch8 cc0_scratch9 k0_mxu549
  let c0_i32_748_r0 : BitVec 32 := 0#32
  let v858_r0 : DmaSems sig S1 := cc0_scratch9.slice (Rect.unit (s := S1) ![0] S1.size inb_S1_S1_0)
  let v859_r0 : DmaSems sig S_ := v858_r0.squeeze S_ squeezes_S1_S_
  Prog.lift (.enqueueDma hoM (.here hM) (.dma v859_r0.sem) (Memref.isWhole_whole cc0_scratch4).wordExact (Memref.isWhole_whole main_v1_1).wordExact ⟨Or.inl rfl, trivial⟩)
  let c0_i32_749_r0 : BitVec 32 := 0#32
  let c0_i32_750_r0 : BitVec 32 := 0#32
  let v860_r0 : DmaSems sig S1 := cc0_scratch8.slice (Rect.unit (s := S2) ![0] S1.size inb_S2_S1_0)
  let v861_r0 : DmaSems sig S_ := v860_r0.squeeze S_ squeezes_S1_S_
  let c0_i32_751_r0 : BitVec 32 := 0#32
  let c5632_i32_752_r0 : BitVec 32 := 5632#32
  let v862_r0 : Memref sig .tc .hbm S1536x256 .bf16 := yM.slice (Rect.unit (s := S1536x6144) ![0, 5632] S1536x256.size inb_S1536x6144_S1536x256_0_5632) (fun _ => rfl)
  let c0_i32_753_r0 : BitVec 32 := 0#32
  let c0_i32_754_r0 : BitVec 32 := 0#32
  let v863_r0 : Memref sig .tc .vmem S1x1536x256 .bf16 := yvM.slice (Rect.unit (s := S2x1536x256) ![0, 0, 0] S1x1536x256.size inb_S2x1536x256_S1x1536x256_0_0_0) (fun _ => rfl)
  let v864_r0 : Memref sig .tc .vmem S1536x256 .bf16 := v863_r0.squeeze S1536x256 squeezes_S1x1536x256_S1536x256
  Prog.lift (.waitDma2 v861_r0.sem v864_r0 v862_r0 (((Memref.isWhole_whole cc0_scratch3).wordExact_slice rfl _ wordsbf16_S2x1536x256_S1x1536x256_0_0_0).reshape _ _) ((Memref.isWhole_whole main_v1_0).wordExact_slice rfl _ wordsbf16_S1536x6144_S1536x256_0_5632))
  let c1_i32_755_r0 : BitVec 32 := 1#32
  let c1_i32_756_r0 : BitVec 32 := 1#32
  let v865_r0 : DmaSems sig S1 := cc0_scratch8.slice (Rect.unit (s := S2) ![1] S1.size inb_S2_S1_1)
  let v866_r0 : DmaSems sig S_ := v865_r0.squeeze S_ squeezes_S1_S_
  let c0_i32_757_r0 : BitVec 32 := 0#32
  let c5888_i32_758_r0 : BitVec 32 := 5888#32
  let v867_r0 : Memref sig .tc .hbm S1536x256 .bf16 := yM.slice (Rect.unit (s := S1536x6144) ![0, 5888] S1536x256.size inb_S1536x6144_S1536x256_0_5888) (fun _ => rfl)
  let c0_i32_759_r0 : BitVec 32 := 0#32
  let c0_i32_760_r0 : BitVec 32 := 0#32
  let v868_r0 : Memref sig .tc .vmem S1x1536x256 .bf16 := yvM.slice (Rect.unit (s := S2x1536x256) ![1, 0, 0] S1x1536x256.size inb_S2x1536x256_S1x1536x256_1_0_0) (fun _ => rfl)
  let v869_r0 : Memref sig .tc .vmem S1536x256 .bf16 := v868_r0.squeeze S1536x256 squeezes_S1x1536x256_S1536x256
  Prog.lift (.waitDma2 v866_r0.sem v869_r0 v867_r0 (((Memref.isWhole_whole cc0_scratch3).wordExact_slice rfl _ wordsbf16_S2x1536x256_S1x1536x256_1_0_0).reshape _ _) ((Memref.isWhole_whole main_v1_0).wordExact_slice rfl _ wordsbf16_S1536x6144_S1536x256_0_5888))
  pure k0_mxu555
-- func.func @multi_lora_mxfp4(%arg0: memref<1536x256xbf16, #tpu.memory_space<vmem>>, %arg1: memref<256x6144xbf16, #tpu.memory_space<vmem>>, %arg2: memref<256x256xbf16, #tpu.memory_space<vmem>>, %xM: memref<1536x16384xbf16, #tpu.memory_space<hbm>>, %wM: memref<2048x6144xi32, #tpu.memory_space<hbm>>, %eM: memref<512x6144xi8, #tpu.memory_space<hbm>>, %yM: memref<1536x6144xbf16, #tpu.memory_space<hbm>>, %hM: memref<1536x80xbf16, #tpu.memory_space<hbm>>, %xvM: memref<64x1536x256xbf16, #tpu.memory_space<vmem>>, %wvM: memref<3x2048x256xi32, #tpu.memory_space<vmem>>, %evM: memref<3x512x256xi8, #tpu.memory_space<vmem>>, %yvM: memref<2x1536x256xbf16, #tpu.memory_space<vmem>>, %hoM: memref<1536x80xbf16, #tpu.memory_space<vmem>>, %cc0_scratch5: memref<64x!tpu.dma_semaphore, #tpu.memory_space<semaphore_mem>>, %cc0_scratch6: memref<3x!tpu.dma_semaphore, #tpu.memory_space<semaphore_mem>>, %cc0_scratch7: memref<3x!tpu.dma_semaphore, #tpu.memory_space<semaphore_mem>>, %cc0_scratch8: memref<2x!tpu.dma_semaphore, #tpu.memory_space<semaphore_mem>>, %cc0_scratch9: memref<1x!tpu.dma_semaphore, #tpu.memory_space<semaphore_mem>>) attributes {dimension_semantics = [], scalar_prefetch = 0 : i64, scratch_operands = 10 : i64, tpu.core_type = #tpu.core_type<tc>}

set_option maxRecDepth 65536 in
theorem front_eq : k0_part188 (F := F) arg0 harg0 arg1 harg1 arg2 harg2 xM (Memref.isWhole_whole _) wM (Memref.isWhole_whole _) eM (Memref.isWhole_whole _) yM (Memref.isWhole_whole _) hM (Memref.isWhole_whole _) xvM (Memref.isWhole_whole _) wvM (Memref.isWhole_whole _) evM (Memref.isWhole_whole _) yvM (Memref.isWhole_whole _) hoM (Memref.isWhole_whole _) cc0_scratch5 cc0_scratch6 cc0_scratch7 cc0_scratch8 cc0_scratch9
    = (startXs 64 0 >>= fun _ => mid >>= fun _ => waitXs 64 0 >>= fun _ => last >>= fun ew =>
      k0_part184 arg0 harg0 arg1 harg1 arg2 harg2 xM (Memref.isWhole_whole _) wM (Memref.isWhole_whole _) eM (Memref.isWhole_whole _) yM (Memref.isWhole_whole _) hM (Memref.isWhole_whole _) xvM (Memref.isWhole_whole _) wvM (Memref.isWhole_whole _) evM (Memref.isWhole_whole _) yvM (Memref.isWhole_whole _) hoM (Memref.isWhole_whole _) cc0_scratch5 cc0_scratch6 cc0_scratch7 cc0_scratch8 cc0_scratch9 cleared (scaleBits (F := F) ew.1) (codes ew.2) (scaleRow (scaleBits (F := F) ew.1) 0 (slicesRow 0)) (extractStridedSlice S32x256 ![0, 0] (codes ew.2) (slicesBand 0))
        >>= fun u => rest188 arg0 harg0 arg1 harg1 arg2 harg2 u) := by
  sl_kernel_rfl

set_option maxRecDepth 65536 in
theorem loop_eq (e : Vec F S1x32x256 .i8) (w : Vec F S1x32x256 .i32) (u : Mxu F) : k0_part184 (F := F) arg0 harg0 arg1 harg1 arg2 harg2 xM (Memref.isWhole_whole _) wM (Memref.isWhole_whole _) eM (Memref.isWhole_whole _) yM (Memref.isWhole_whole _) hM (Memref.isWhole_whole _) xvM (Memref.isWhole_whole _) wvM (Memref.isWhole_whole _) evM (Memref.isWhole_whole _) yvM (Memref.isWhole_whole _) hoM (Memref.isWhole_whole _) cc0_scratch5 cc0_scratch6 cc0_scratch7 cc0_scratch8 cc0_scratch9 u (scaleBits (F := F) e) (codes w) (scaleRow (scaleBits (F := F) e) 0 (slicesRow 0)) (extractStridedSlice S32x256 ![0, 0] (codes w) (slicesBand 0))
    = (u.pushRhs 0 0 false (widen w (scaleBits (F := F) e) 0) >>= fun u8 => u8.pushRhs 1 0 false (widen w (scaleBits (F := F) e) 0) >>= fun u9 =>
      Scf.Loop.for k0_t1_loop k0_t1_ok u9 (fun t m => k0_t1_body (F := F) arg0 harg0 arg1 harg1 arg2 harg2 xM (Memref.isWhole_whole _) wM (Memref.isWhole_whole _) eM (Memref.isWhole_whole _) yM (Memref.isWhole_whole _) hM (Memref.isWhole_whole _) xvM (Memref.isWhole_whole _) wvM (Memref.isWhole_whole _) evM (Memref.isWhole_whole _) yvM (Memref.isWhole_whole _) hoM (Memref.isWhole_whole _) cc0_scratch5 cc0_scratch6 cc0_scratch7 cc0_scratch8 cc0_scratch9 u (scaleBits (F := F) e) (codes w) (scaleRow (scaleBits (F := F) e) 0 (slicesRow 0)) (extractStridedSlice S32x256 ![0, 0] (codes w) (slicesBand 0)) t m) >>= fun u11 => Prog.ret u11) := by
  sl_kernel_rfl
end Cut

end Cert.Kernel.Prf
-- ==== Proof.KCopiesRun.lean ====
/- The copies before the loop, run. -/
module

public import proofs.«01_k».proof.Proof.KCopies

@[expose] public section

noncomputable section

namespace Cert.Kernel.Prf

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

theorem held_congr (c : Dev nD) {sp : Space} {s : Shape} {e : EltTy} (M : Memref sig .tc sp s e) {f g : Buf (Elt F) (M.view.loc (c : Thread nD τ))}
    (h : M.view.read (Elt F) f = M.view.read (Elt F) g) : held c M f = held c M g := by
  refine pointsTo_congr fun i hi => ?_
  obtain ⟨x, -, rfl⟩ := Finset.mem_map.1 hi
  exact View.eq_of_read_eq (v := M.view) (congrFun h x)

section Copies
variable (c : Dev nD) (Xin : Buf (Elt F) ((c : Thread nD τ).loc main_v0))

abbrev xAt (j : Fin 64) : Buf (Elt F) ((xsrc j).view.loc (c : Thread nD τ)) := Xin

/-- The activations, panel by panel. -/
def xGlue : Buf (Elt F) (xvM.view.loc (c : Thread nD τ)) := fun i => (xsrc (i 0)).view.read (Elt F) (xAt c Xin (i 0)) (Fin.cons (i 1) (Fin.cons (i 2) (fun x => x.elim0)))

theorem castX : (⟨3, S1x1536x256.size⟩ : Shape).ShapeCasts S1536x256 := by decide
theorem read_xslot (s : Fin 64) (f : Buf (Elt F) (xvM.view.loc (c : Thread nD τ))) (i : S1536x256.Idx) :
    (xslot s).view.read (Elt F) f i = xvM.view.read (Elt F) f (Fin.cons s i : S64x1536x256.Idx) := by
  have e : (xslot s).view.read (Elt F) f i = shapeCast S1536x256 (xvM.view.readAt (Elt F) (Rect.unit (s := S64x1536x256) (slotOff s) S1x1536x256.size (xslot_inb s)).toLoadRect f) castX i := rfl
  rw [e, shapeCast_dropUnit_apply (n := 2) ![1536, 256]]
  show xvM.view.read (Elt F) f _ = _
  congr 1
  refine Shape.idx3_ext ?_ ?_ ?_
  · show s.val + 1 * 0 = s.val; omega
  · show 0 + 1 * (i 0).val = (i 0).val; omega
  · show 0 + 1 * (i 1).val = (i 1).val; omega
theorem read_xGlue (j : Fin 64) : (xslot j).view.read (Elt F) (xGlue c Xin) = (xsrc j).view.read (Elt F) (xAt c Xin j) := by
  funext i
  rw [read_xslot c]
  show xGlue c Xin (Fin.cons j i) = _
  unfold xGlue
  show (xsrc j).view.read (Elt F) (xAt c Xin j) _ = _
  congr 1
  exact Shape.idx_ext₂ rfl rfl

/-- A panel not yet copied, in flight, and copied. -/
def xIdle (j : Fin 64) : sProp 𝕄 := iprop(held c (xsrc j) (xAt c Xin j) ∗ (∃ f, held c (xslot j) f) ∗ cellP c (xsem j))
def xGo (j : Fin 64) : sProp 𝕄 := iprop(∃ f, flight c (xsem j) 24576 (xsrc j) (xslot j) (xAt c Xin j) f)
def xDone (j : Fin 64) : sProp 𝕄 := iprop(held c (xsrc j) (xAt c Xin j) ∗ held c (xslot j) (xGlue c Xin) ∗ cellP c (xsem j))
/-- Panels below `k` in state `A`, the others in state `B`. -/
def xs (A B : Fin 64 → sProp 𝕄) (k : ℕ) : sProp 𝕄 := bigSep Finset.univ (fun j : Fin 64 => if j.val < k then A j else B j)
def xRest (A B : Fin 64 → sProp 𝕄) (k : ℕ) : sProp 𝕄 := bigSep (Finset.univ.erase (f64 k)) (fun j : Fin 64 => if j.val < k then A j else B j)

theorem xs_out (A B : Fin 64 → sProp 𝕄) (k : ℕ) (h : k < 64) : xs A B k = iprop(B (f64 k) ∗ xRest A B k) := by
  have e : (Finset.univ : Finset (Fin 64)) = insert (f64 k) (Finset.univ.erase (f64 k)) := (Finset.insert_erase (Finset.mem_univ _)).symm
  have hv : (f64 k).val = k := Nat.mod_eq_of_lt h
  unfold xs xRest
  conv_lhs => rw [e]
  rw [bigSep_insert (Finset.notMem_erase _ _), if_neg (by omega)]; rfl
theorem xs_in (A B : Fin 64 → sProp 𝕄) (k : ℕ) (h : k < 64) : xs A B (k + 1) = iprop(A (f64 k) ∗ xRest A B k) := by
  have e : (Finset.univ : Finset (Fin 64)) = insert (f64 k) (Finset.univ.erase (f64 k)) := (Finset.insert_erase (Finset.mem_univ _)).symm
  have hv : (f64 k).val = k := Nat.mod_eq_of_lt h
  unfold xs xRest
  conv_lhs => rw [e]
  rw [bigSep_insert (Finset.notMem_erase _ _), if_pos (by omega)]
  have e2 : bigSep (Finset.univ.erase (f64 k)) (fun j : Fin 64 => if j.val < k + 1 then A j else B j)
      = bigSep (Finset.univ.erase (f64 k)) (fun j : Fin 64 => if j.val < k then A j else B j) := by
    refine bigSep_congr fun j hj => ?_
    have hne : j.val ≠ k := fun hk => (Finset.mem_erase.1 hj).1 (Fin.ext (hk.trans hv.symm))
    by_cases h1 : j.val < k
    · rw [if_pos h1, if_pos (by omega)]
    · rw [if_neg h1, if_neg (by omega)]
  rw [e2]; rfl
theorem xs_zero (A B : Fin 64 → sProp 𝕄) : xs A B 0 = bigSep Finset.univ B := bigSep_congr fun j _ => if_neg (by omega)
theorem xs_all (A B : Fin 64 → sProp 𝕄) : xs A B 64 = bigSep Finset.univ A := bigSep_congr fun j _ => if_pos j.isLt

abbrev owesP : sProp 𝕄 := iprop(∃ W, owes (c : Thread nD τ) 0 W)

theorem startX_run (k : Fin 64) : iprop(owesP (F := F) c ∗ xIdle c Xin k) ⊢ wp frame (wpE (defs₀ (F := F)) 𝒱₀ (c : Thread nD τ) none) Set.univ (startX (F := F) k)
    (fun _ => iprop(owesP (F := F) c ∗ xGo c Xin k)) := by
  unfold xIdle xGo startX
  iintro ⟨⟨%W, HW⟩, Hs, ⟨%f, Hd⟩, Hc⟩
  sl_exec
  sl_step
  isplitl [HW]; · iexists _; iexact HW
  iexists f; iexact Hc
theorem waitX_run (k : Fin 64) : iprop(owesP (F := F) c ∗ xGo c Xin k) ⊢ wp frame (wpE (defs₀ (F := F)) 𝒱₀ (c : Thread nD τ) none) Set.univ (waitX (F := F) k)
    (fun _ => iprop(owesP (F := F) c ∗ xDone c Xin k)) := by
  unfold xDone xGo waitX
  iintro ⟨⟨%W, HW⟩, ⟨%f, HF⟩⟩
  sl_exec
  sl_step
  isplitl [HW]; · iexists _; iexact HW
  isplitl [HF_src]; · iexact HF_src
  isplitl [HF_dst]
  · iapply (entails_of_eq (held_congr c (xslot k) ((read_landed c (xsrc k) (xslot k) (xAt c Xin k) f).trans (read_xGlue c Xin k).symm))); iexact HF_dst
  iexact HF

theorem startXs_run (n : ℕ) : ∀ k, k + n = 64 → (iprop(owesP (F := F) c ∗ xs (xGo c Xin) (xIdle c Xin) k) ⊢ wp frame (wpE (defs₀ (F := F)) 𝒱₀ (c : Thread nD τ) none) Set.univ (startXs (F := F) n k)
    (fun _ => iprop(owesP (F := F) c ∗ xs (xGo c Xin) (xIdle c Xin) 64))) := by
  induction n with
  | zero => intro k h; unfold startXs; rw [wp_ret, show k = 64 by omega]; iintro H; imodintro; iexact H
  | succ n ih =>
    intro k h
    unfold startXs
    rw [wp_bind, xs_out _ _ k (by omega)]
    iintro ⟨HW, Hb, Hr⟩
    iapply (wp_wand_r Idealize.ShloMosaic.frame (wpE (defs₀ (F := F)) 𝒱₀ (c : Thread nD τ) none) Set.univ)
    isplitl [HW Hb]
    · iapply (startX_run c Xin (f64 k)); isplitl [HW] <;> iassumption
    iintro %_ ⟨HW, Hg⟩
    iapply (ih (k + 1) (by omega))
    isplitl [HW]; · iexact HW
    iapply (entails_of_eq (xs_in (xGo c Xin) (xIdle c Xin) k (by omega)).symm)
    isplitl [Hg] <;> iassumption
theorem waitXs_run (n : ℕ) : ∀ k, k + n = 64 → (iprop(owesP (F := F) c ∗ xs (xDone c Xin) (xGo c Xin) k) ⊢ wp frame (wpE (defs₀ (F := F)) 𝒱₀ (c : Thread nD τ) none) Set.univ (waitXs (F := F) n k)
    (fun _ => iprop(owesP (F := F) c ∗ xs (xDone c Xin) (xGo c Xin) 64))) := by
  induction n with
  | zero => intro k h; unfold waitXs; rw [wp_ret, show k = 64 by omega]; iintro H; imodintro; iexact H
  | succ n ih =>
    intro k h
    unfold waitXs
    rw [wp_bind, xs_out _ _ k (by omega)]
    iintro ⟨HW, Hb, Hr⟩
    iapply (wp_wand_r Idealize.ShloMosaic.frame (wpE (defs₀ (F := F)) 𝒱₀ (c : Thread nD τ) none) Set.univ)
    isplitl [HW Hb]
    · iapply (waitX_run c Xin (f64 k)); isplitl [HW] <;> iassumption
    iintro %_ ⟨HW, Hg⟩
    iapply (ih (k + 1) (by omega))
    isplitl [HW]; · iexact HW
    iapply (entails_of_eq (xs_in (xDone c Xin) (xGo c Xin) k (by omega)).symm)
    isplitl [Hg] <;> iassumption
end Copies

section First
variable (c : Dev nD) (W : Buf (Elt F) ((c : Thread nD τ).loc main_arg1)) (E : Buf (Elt F) ((c : Thread nD τ).loc main_arg2))

/-- A tile's weights and scales at home and their slots idle; in flight; landed. -/
def wIdle (b : Fin 24) (s : Fin 3) : sProp 𝕄 := iprop(held c (wblk b) (wAt c W b) ∗ (∃ f, held c (wslot s) f) ∗ cellP c (wsem s))
def eIdle (b : Fin 24) (s : Fin 3) : sProp 𝕄 := iprop(held c (eblk b) (eAt c E b) ∗ (∃ f, held c (eslot s) f) ∗ cellP c (esem s))
def wGo (b : Fin 24) (s : Fin 3) : sProp 𝕄 := iprop(∃ f, flight c (wsem s) 65536 (wblk b) (wslot s) (wAt c W b) f)
def eGo (b : Fin 24) (s : Fin 3) : sProp 𝕄 := iprop(∃ f, flight c (esem s) 4096 (eblk b) (eslot s) (eAt c E b) f)

theorem mid_run : iprop(owesP (F := F) c ∗ wIdle c W 0 0 ∗ eIdle c E 0 0 ∗ wIdle c W 1 1 ∗ eIdle c E 1 1)
    ⊢ wp frame (wpE (defs₀ (F := F)) 𝒱₀ (c : Thread nD τ) none) Set.univ (mid (F := F))
      (fun _ => iprop(owesP (F := F) c ∗ wGo c W 0 0 ∗ eGo c E 0 0 ∗ wGo c W 1 1 ∗ eGo c E 1 1)) := by
  unfold wIdle eIdle wGo eGo mid startW startE
  iintro ⟨⟨%WW, HW⟩, ⟨H1, ⟨%f1, H2⟩, H3⟩, ⟨H4, ⟨%f2, H5⟩, H6⟩, ⟨H7, ⟨%f3, H8⟩, H9⟩, ⟨H10, ⟨%f4, H11⟩, H12⟩⟩
  sl_exec
  sl_step
  isplitl [HW]; · iexists _; iexact HW
  isplitl [H3]; · iexists f1; iexact H3
  isplitl [H6]; · iexists f2; iexact H6
  isplitl [H9]; · iexists f3; iexact H9
  iexists f4; iexact H12

/-- The first panel's words and scales, from the operands. -/
def firstW : Vec F S1x32x256 .i32 := rowsW ((wblk 0).view.read (Elt F) (wAt c W 0)) 0
def firstE : Vec F S1x32x256 .i8 := rowsE ((eblk 0).view.read (Elt F) (eAt c E 0)) 0

theorem loadW_run (s : Fin 3) (p : Fin 64) (f : Buf (Elt F) (wvM.view.loc (c : Thread nD τ))) : held c (wslot s) f
    ⊢ wp frame (wpE (defs₀ (F := F)) 𝒱₀ (c : Thread nD τ) none) Set.univ (loadW (F := F) wvM s.val s.isLt p) (fun v => iprop(⌜v = wRaw c s f p⌝ ∗ held c (wslot s) f)) := by
  unfold loadW
  iintro H
  sl_exec
  sl_step
  isplitr; · ipureintro; rfl
  iexact H
theorem loadE_run (s : Fin 3) (p : Fin 16) (f : Buf (Elt F) (evM.view.loc (c : Thread nD τ))) : held c (eslot s) f
    ⊢ wp frame (wpE (defs₀ (F := F)) 𝒱₀ (c : Thread nD τ) none) Set.univ (loadE (F := F) evM s.val s.isLt p) (fun v => iprop(⌜v = eRaw c s f p⌝ ∗ held c (eslot s) f)) := by
  unfold loadE
  iintro H
  sl_exec
  sl_step
  isplitr; · ipureintro; rfl
  iexact H

theorem waitW_run (b : Fin 24) (s : Fin 3) : iprop(owesP (F := F) c ∗ wGo c W b s)
    ⊢ wp frame (wpE (defs₀ (F := F)) 𝒱₀ (c : Thread nD τ) none) Set.univ (waitW (F := F) b s)
      (fun _ => iprop(owesP (F := F) c ∗ held c (wblk b) (wAt c W b)
        ∗ (∃ f, ⌜(wslot s).view.read (Elt F) f = (wblk b).view.read (Elt F) (wAt c W b)⌝ ∗ held c (wslot s) f) ∗ cellP c (wsem s))) := by
  unfold wGo waitW
  iintro ⟨⟨%WW, HW⟩, ⟨%f1, H1⟩⟩
  sl_exec
  sl_step
  isplitl [HW]; · iexists _; iexact HW
  isplitl [H1_src]; · iexact H1_src
  isplitl [H1_dst]
  · iexists _; isplitr
    · ipureintro; exact read_landed c (wblk b) (wslot s) (wAt c W b) f1
    iexact H1_dst
  iexact H1
theorem waitE_run (b : Fin 24) (s : Fin 3) : iprop(owesP (F := F) c ∗ eGo c E b s)
    ⊢ wp frame (wpE (defs₀ (F := F)) 𝒱₀ (c : Thread nD τ) none) Set.univ (waitE (F := F) b s)
      (fun _ => iprop(owesP (F := F) c ∗ held c (eblk b) (eAt c E b)
        ∗ (∃ f, ⌜(eslot s).view.read (Elt F) f = (eblk b).view.read (Elt F) (eAt c E b)⌝ ∗ held c (eslot s) f) ∗ cellP c (esem s))) := by
  unfold eGo waitE
  iintro ⟨⟨%WW, HW⟩, ⟨%f1, H1⟩⟩
  sl_exec
  sl_step
  isplitl [HW]; · iexists _; iexact HW
  isplitl [H1_src]; · iexact H1_src
  isplitl [H1_dst]
  · iexists _; isplitr
    · ipureintro; exact read_landed c (eblk b) (eslot s) (eAt c E b) f1
    iexact H1_dst
  iexact H1

theorem last_run : iprop(owesP (F := F) c ∗ wGo c W 0 0 ∗ eGo c E 0 0)
    ⊢ wp frame (wpE (defs₀ (F := F)) 𝒱₀ (c : Thread nD τ) none) Set.univ (last (F := F))
      (fun r => iprop(⌜r = (firstE c E, firstW c W)⌝ ∗ owesP (F := F) c ∗ held c (wblk 0) (wAt c W 0) ∗ held c (eblk 0) (eAt c E 0)
        ∗ (∃ f, ⌜(wslot 0).view.read (Elt F) f = (wblk 0).view.read (Elt F) (wAt c W 0)⌝ ∗ held c (wslot 0) f) ∗ cellP c (wsem 0)
        ∗ (∃ f, ⌜(eslot 0).view.read (Elt F) f = (eblk 0).view.read (Elt F) (eAt c E 0)⌝ ∗ held c (eslot 0) f) ∗ cellP c (esem 0))) := by
  unfold last
  iintro ⟨HW, H1, H2⟩
  rw [wp_bind]
  iapply (wp_wand_r Idealize.ShloMosaic.frame (wpE (defs₀ (F := F)) 𝒱₀ (c : Thread nD τ) none) Set.univ)
  isplitl [HW H1]
  · iapply (waitW_run c W 0 0); isplitl [HW] <;> iassumption
  iintro %_ ⟨HW, Hwb, ⟨%f1, %h1, Hws⟩, Hwc⟩
  rw [wp_bind]
  iapply (wp_wand_r Idealize.ShloMosaic.frame (wpE (defs₀ (F := F)) 𝒱₀ (c : Thread nD τ) none) Set.univ)
  isplitl [HW H2]
  · iapply (waitE_run c E 0 0); isplitl [HW] <;> iassumption
  iintro %_ ⟨HW, Heb, ⟨%f2, %h2, Hes⟩, Hec⟩
  rw [wp_bind]
  iapply (wp_wand_r Idealize.ShloMosaic.frame (wpE (defs₀ (F := F)) 𝒱₀ (c : Thread nD τ) none) Set.univ)
  isplitl [Hes]
  · iapply (loadE_run c 0 0 f2); iexact Hes
  iintro %e ⟨%he, Hes⟩
  rw [wp_bind]
  iapply (wp_wand_r Idealize.ShloMosaic.frame (wpE (defs₀ (F := F)) 𝒱₀ (c : Thread nD τ) none) Set.univ)
  isplitl [Hws]
  · iapply (loadW_run c 0 0 f1); iexact Hws
  iintro %w ⟨%hw, Hws⟩
  rw [wp_ret]
  imodintro
  isplitr
  · ipureintro
    rw [he, hw]
    refine Prod.ext ((eRaw_eq c 0 f2 0).trans ?_) ((wRaw_eq c 0 f1 0).trans ?_)
    · unfold firstE; exact congrArg (fun v => rowsE v 0) h2
    · unfold firstW; exact congrArg (fun v => rowsW v 0) h1
  isplitl [HW]; · iexact HW
  isplitl [Hwb]; · iexact Hwb
  isplitl [Heb]; · iexact Heb
  isplitl [Hws]
  · iexists f1; isplitr
    · ipureintro; exact h1
    iexact Hws
  isplitl [Hwc]; · iexact Hwc
  isplitl [Hes]
  · iexists f2; isplitr
    · ipureintro; exact h2
    iexact Hes
  iexact Hec
end First

end Cert.Kernel.Prf
-- ==== Proof.KEpilogue.lean ====
/- The end of the kernel: the last tile's sums, the lora activations, and the last copies. -/
module

public import proofs.«01_k».proof.Proof.KCopiesRun

@[expose] public section

noncomputable section

namespace Cert.Kernel.Prf

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The units after the loop -/

section Units
variable (s : Mxu F) (T : Tile16 F) (x : Fin 6 → Tile16 F)

def e5 : Mxu F := f5 (s2 s x) (stg T) x
def e6 : Mxu F := f6 (e5 s T x) (stg T) x
def e7 : Mxu F := f7 (e6 s T x) (stg T) x
def e8 : Mxu F := f8 (e7 s T x) (stg T) x

/-- Nothing staged, sums `S` to be read. -/
structure Ends (s : Mxu F) (S : Sums F) : Prop where
  reg0 : ∀ q, s.reg q 0 = none
  reg1 : ∀ q, s.reg q 1 = none
  live : ∀ q R, s.live q R = decide (R.val < 768)
  rd0 : ∀ q, s.read q 0 fits_0_256 = S q 0
  rd1 : ∀ q, s.read q 64 fits_64_256 = S q 1
  rd2 : ∀ q, s.read q 128 fits_128_256 = S q 2

theorem read_e5 : (e5 s T x).read 1 64 fits_64_256 = s.read 1 64 fits_64_256 := by
  unfold e5 f5 m5
  rw [Mxu.read_accBy_ne _ _ _ _ _ _ _ _ _ (by decide), Mxu.read_pop_ne _ _ _ _ _ _ _ (by decide), read_s2 s x _ _ (by decide)]
theorem read_e6 (q : Fin 2) : (e6 s T x).read q 128 fits_128_256 = s.read q 128 fits_128_256 := by
  unfold e6 f6 m6 e5 f5 m5
  rw [Mxu.read_accBy_ne _ _ _ _ _ _ _ _ _ (by omega), Mxu.read_pop_ne _ _ _ _ _ _ _ (by omega), Mxu.read_accBy_ne _ _ _ _ _ _ _ _ _ (by omega), Mxu.read_pop_ne _ _ _ _ _ _ _ (by omega), read_s2 s x _ _ (by decide)]
theorem read_e7 : (e7 s T x).read 1 128 fits_128_256 = s.read 1 128 fits_128_256 := by
  unfold e7 f7 m7
  rw [Mxu.read_accBy_ne _ _ _ _ _ _ _ _ _ (by decide), Mxu.read_pop_ne _ _ _ _ _ _ _ (by decide), read_e6 s T x]

theorem gmr_e5 (q : Fin 2) (h : ∀ q, s.reg q 0 = some (stg T)) : (e5 s T x).gmr q = some (stg T) := s2_gmr s T x q h
theorem gmr_e6 (q : Fin 2) (h : ∀ q, s.reg q 0 = some (stg T)) : (e6 s T x).gmr q = some (stg T) := s2_gmr s T x q h
theorem gmr_e7 (q : Fin 2) (h : ∀ q, s.reg q 0 = some (stg T)) : (e7 s T x).gmr q = some (stg T) := s2_gmr s T x q h

theorem e8_ends {n : Bool} {S : Sums F} (g : Good s 0 1 T n S) :
    Ends (e8 s T x) (fun q a => pass (x (blk6 q a)) T) := by
  have hst : ∀ q, s.staged q 0 = stg T := fun q => by rw [Mxu.staged_eq, g.reg]; rfl
  constructor
  · intro q
    show (s2 s x).reg q 0 = none
    exact s2_reg0 s x q
  · intro q
    show (s2 s x).reg q 1 = none
    rw [s2_reg1 s x, g.oth]
  · intro q R
    unfold e8 f8 m8 e7 f7 m7 e6 f6 m6 e5 f5 m5
    simp only [Mxu.live_accBy, Mxu.live_pop, s2_live, g.live]
    by_cases h1 : R.val < 256 <;> by_cases h2 : R.val < 512 <;> by_cases h3 : R.val < 768 <;> fin_cases q <;> simp [h1, h2, h3] <;> omega
  · intro q
    fin_cases q
    · show (e8 s T x).read 0 0 fits_0_256 = pass (x 0) T
      unfold e8 f8 m8 e7 f7 m7 e6 f6 m6 e5 f5 m5 s2 f2
      rw [Mxu.read_accBy_ne _ _ _ _ _ _ _ _ _ (by decide), Mxu.read_pop_ne _ _ _ _ _ _ _ (by decide), Mxu.read_accBy_ne _ _ _ _ _ _ _ _ _ (by decide), Mxu.read_pop_ne _ _ _ _ _ _ _ (by decide),
        Mxu.read_accBy_ne _ _ _ _ _ _ _ _ _ (by decide), Mxu.read_pop_ne _ _ _ _ _ _ _ (by decide), Mxu.read_accBy_ne _ _ _ _ _ _ _ _ _ (by decide), Mxu.read_pop_ne _ _ _ _ _ _ _ (by decide),
        Mxu.read_accLhs_ne _ _ _ _ _ _ _ _ _ (by decide), Mxu.read_pop_ne _ _ _ _ _ _ _ (by decide)]
      unfold f1
      rw [Mxu.read_accLhs_of_not_live _ _ _ _ _ _ (fun i => Mxu.live_pop_row _ _ _ _ _), Mxu.staged_eq, Mxu.reg_pop, g.reg]
      rfl
    · show (e8 s T x).read 1 0 fits_0_256 = pass (x 3) T
      unfold e8 f8 m8 e7 f7 m7 e6 f6 m6 e5 f5 m5 s2 f2
      rw [Mxu.read_accBy_ne _ _ _ _ _ _ _ _ _ (by decide), Mxu.read_pop_ne _ _ _ _ _ _ _ (by decide), Mxu.read_accBy_ne _ _ _ _ _ _ _ _ _ (by decide), Mxu.read_pop_ne _ _ _ _ _ _ _ (by decide),
        Mxu.read_accBy_ne _ _ _ _ _ _ _ _ _ (by decide), Mxu.read_pop_ne _ _ _ _ _ _ _ (by decide), Mxu.read_accBy_ne _ _ _ _ _ _ _ _ _ (by decide), Mxu.read_pop_ne _ _ _ _ _ _ _ (by decide),
        Mxu.read_accLhs_of_not_live _ _ _ _ _ _ (fun i => Mxu.live_pop_row _ _ _ _ _), Mxu.staged_eq, Mxu.reg_pop]
      unfold f1
      rw [Mxu.reg_accLhs_ne _ _ _ _ _ _ _ _ (by decide), Mxu.reg_pop, g.reg]
      rfl
  · intro q
    fin_cases q
    · show (e8 s T x).read 0 64 fits_64_256 = pass (x 1) T
      unfold e8 f8 m8 e7 f7 m7 e6 f6 m6 e5 f5 m5
      rw [Mxu.read_accBy_ne _ _ _ _ _ _ _ _ _ (by decide), Mxu.read_pop_ne _ _ _ _ _ _ _ (by decide), Mxu.read_accBy_ne _ _ _ _ _ _ _ _ _ (by decide), Mxu.read_pop_ne _ _ _ _ _ _ _ (by decide),
        Mxu.read_accBy_ne _ _ _ _ _ _ _ _ _ (by decide), Mxu.read_pop_ne _ _ _ _ _ _ _ (by decide), Mxu.read_accBy_of_not_live _ _ _ _ _ _ (fun i => Mxu.live_pop_row _ _ _ _ _)]
      rfl
    · show (e8 s T x).read 1 64 fits_64_256 = pass (x 4) T
      unfold e8 f8 m8 e7 f7 m7 e6 f6 m6
      rw [Mxu.read_accBy_ne _ _ _ _ _ _ _ _ _ (by decide), Mxu.read_pop_ne _ _ _ _ _ _ _ (by decide), Mxu.read_accBy_ne _ _ _ _ _ _ _ _ _ (by decide), Mxu.read_pop_ne _ _ _ _ _ _ _ (by decide),
        Mxu.read_accBy_of_not_live _ _ _ _ _ _ (fun i => Mxu.live_pop_row _ _ _ _ _)]
      rfl
  · intro q
    fin_cases q
    · show (e8 s T x).read 0 128 fits_128_256 = pass (x 2) T
      unfold e8 f8 m8 e7 f7 m7
      rw [Mxu.read_accBy_ne _ _ _ _ _ _ _ _ _ (by decide), Mxu.read_pop_ne _ _ _ _ _ _ _ (by decide),
        Mxu.read_accBy_of_not_live _ _ _ _ _ _ (fun i => Mxu.live_pop_row _ _ _ _ _)]
      rfl
    · show (e8 s T x).read 1 128 fits_128_256 = pass (x 5) T
      unfold e8 f8 m8
      rw [Mxu.read_accBy_of_not_live _ _ _ _ _ _ (fun i => Mxu.live_pop_row _ _ _ _ _)]
      rfl
/-- The six reads at the end. -/
def p1 : Mxu F := s.pop 0 0 256 fits_0_256
def p2 : Mxu F := (p1 s).pop 1 0 256 fits_0_256
def p3 : Mxu F := (p2 s).pop 0 64 256 fits_64_256
def p4 : Mxu F := (p3 s).pop 1 64 256 fits_64_256
def p5 : Mxu F := (p4 s).pop 0 128 256 fits_128_256
def p6 : Mxu F := (p5 s).pop 1 128 256 fits_128_256
theorem read_p1 : (p1 s).read 1 0 fits_0_256 = s.read 1 0 fits_0_256 := by
  unfold p1; rw [Mxu.read_pop_ne _ _ _ _ _ _ _ (by decide)]
theorem read_p2 : (p2 s).read 0 64 fits_64_256 = s.read 0 64 fits_64_256 := by
  unfold p2 p1; rw [Mxu.read_pop_ne _ _ _ _ _ _ _ (by decide), Mxu.read_pop_ne _ _ _ _ _ _ _ (by decide)]
theorem read_p3 : (p3 s).read 1 64 fits_64_256 = s.read 1 64 fits_64_256 := by
  unfold p3 p2 p1; rw [Mxu.read_pop_ne _ _ _ _ _ _ _ (by decide), Mxu.read_pop_ne _ _ _ _ _ _ _ (by decide), Mxu.read_pop_ne _ _ _ _ _ _ _ (by decide)]
theorem read_p4 : (p4 s).read 0 128 fits_128_256 = s.read 0 128 fits_128_256 := by
  unfold p4 p3 p2 p1; rw [Mxu.read_pop_ne _ _ _ _ _ _ _ (by decide), Mxu.read_pop_ne _ _ _ _ _ _ _ (by decide), Mxu.read_pop_ne _ _ _ _ _ _ _ (by decide), Mxu.read_pop_ne _ _ _ _ _ _ _ (by decide)]
theorem read_p5 : (p5 s).read 1 128 fits_128_256 = s.read 1 128 fits_128_256 := by
  unfold p5 p4 p3 p2 p1; rw [Mxu.read_pop_ne _ _ _ _ _ _ _ (by decide), Mxu.read_pop_ne _ _ _ _ _ _ _ (by decide), Mxu.read_pop_ne _ _ _ _ _ _ _ (by decide), Mxu.read_pop_ne _ _ _ _ _ _ _ (by decide), Mxu.read_pop_ne _ _ _ _ _ _ _ (by decide)]
theorem p6_drained {S : Sums F} (g : Ends s S) : (p6 s).Drained := by
  constructor
  · intro q r
    show (s.reg q r).isNone = true
    fin_cases r
    · show (s.reg q 0).isNone = true; rw [g.reg0]; rfl
    · show (s.reg q 1).isNone = true; rw [g.reg1]; rfl
  · intro q R
    unfold p6 p5 p4 p3 p2 p1
    simp only [Mxu.live_pop, g.live]
    by_cases h1 : R.val < 256 <;> by_cases h2 : R.val < 512 <;> by_cases h3 : R.val < 768 <;> fin_cases q <;> simp [h1, h2, h3] <;> omega
end Units

/-! ## The program after the loop -/

theorem inbY (j : Fin 2) (r : Fin 6) : ∀ a, (![j.val, 256 * r.val, 0] : Fin 3 → Nat) a + S1x256x256.size a ≤ S2x1536x256.size a := by revert j r; decide
theorem packY (j : Fin 2) (r : Fin 6) : (Rect.unit (s := S2x1536x256) ![j.val, 256 * r.val, 0] S1x256x256.size (inbY j r)).PackedRows (EltTy.packing .bf16) := by revert j r; decide
theorem inbO (r : Fin 6) : ∀ a, (![256 * r.val, 0] : Fin 2 → Nat) a + S256x80.size a ≤ S1536x80.size a := by revert r; decide
theorem packO (r : Fin 6) : (Rect.unit (s := S1536x80) ![256 * r.val, 0] S256x80.size (inbO r)).PackedRows (EltTy.packing .bf16) := by revert r; decide

def startY (b : Fin 24) (s : Fin 2) : Prog (TpuEff nD τ sig (Elt F) Λ₀ .tc) PUnit :=
  Prog.lift (.enqueueDma (yslot s) (.here (yblk b)) (.dma (ysem s).sem) (((Memref.isWhole_whole cc0_scratch3).wordExact_slice rfl _ (yslot_words s)).reshape _ _) ((Memref.isWhole_whole main_v1_0).wordExact_slice rfl _ (yblk_words b)) ⟨Or.inl rfl, trivial⟩)
def waitY (b : Fin 24) (s : Fin 2) : Prog (TpuEff nD τ sig (Elt F) Λ₀ .tc) PUnit :=
  Prog.lift (.waitDma2 (ysem s).sem (yslot s) (yblk b) (((Memref.isWhole_whole cc0_scratch3).wordExact_slice rfl _ (yslot_words s)).reshape _ _) ((Memref.isWhole_whole main_v1_0).wordExact_slice rfl _ (yblk_words b)))
def startH : Prog (TpuEff nD τ sig (Elt F) Λ₀ .tc) PUnit :=
  Prog.lift (.enqueueDma hoM (.here hM) (.dma (hsem 0).sem) (Memref.isWhole_whole cc0_scratch4).wordExact (Memref.isWhole_whole main_v1_1).wordExact ⟨Or.inl rfl, trivial⟩)
def waitH : Prog (TpuEff nD τ sig (Elt F) Λ₀ .tc) PUnit :=
  Prog.lift (.waitDma2 (hsem 0).sem hoM hM (Memref.isWhole_whole cc0_scratch4).wordExact (Memref.isWhole_whole main_v1_1).wordExact)

abbrev putYr (j : Fin 2) (r : Fin 6) (v : FVec F S256x256 .f32) : Prog (TpuEff nD τ sig (Elt F) Λ₀ .tc) PUnit :=
  putY (F := F) yvM (Memref.isWhole_whole _) ![j.val, 256 * r.val, 0] (inbY j r) (packY j r) v
/-- The first 80 columns of a block, rounded, into the lora activations' buffer. -/
def poppedH (v : FVec F S256x256 .f32) : FVec F S256x80 .bf16 :=
  shapeCast S256x80 (truncf .bf16 (extractStridedSlice S256x80 ![0, 0] v slices_S256x256_o0_0_S256x80) bitsLt_bf16_f32) shapeCasts_S256x80_S256x80
def putH (r : Fin 6) (v : FVec F S256x256 .f32) : Prog (TpuEff nD τ sig (Elt F) Λ₀ .tc) PUnit := do
  let _ ← Prog.lift (.load hoM (Rect.unit (s := S1536x80) ![256 * r.val, 0] S256x80.size (inbO r)).toLoadRect (View.loadsAt_vmem h_S256x80))
  Prog.lift (.store hoM (Rect.unit (s := S1536x80) ![256 * r.val, 0] S256x80.size (inbO r)) (poppedH v) Finset.univ (View.stores_vmem h_S256x80 ((Memref.isWhole_whole cc0_scratch4).storeExact_slice rfl _ (packO r)) (fun _ => rfl)) (.inl rfl))

section Prog
variable (arg0 : Memref sig .tc .vmem S1536x256 .bf16) (harg0 : arg0.IsWhole) (arg1 : Memref sig .tc .vmem S256x6144 .bf16) (harg1 : arg1.IsWhole)
  (arg2 : Memref sig .tc .vmem S256x256 .bf16) (harg2 : arg2.IsWhole)

/-- The last tile's sums out, the lora activations' in. -/
def epiY (s : Mxu F) : Prog (TpuEff nD τ sig (Elt F) Λ₀ .tc) (Mxu F) := do
  putYr (F := F) 1 0 (s.read 0 0 fits_0_256)
  let x0 ← loadH (F := F) arg0 0
  let s := (s.pop 0 0 256 fits_0_256).accLhs 0 0 0 x0 fits_0_256
  putYr (F := F) 1 3 (s.read 1 0 fits_0_256)
  let x3 ← loadH (F := F) arg0 3
  let s := (s.pop 1 0 256 fits_0_256).accLhs 1 0 0 x3 fits_0_256
  putYr (F := F) 1 1 (s.read 0 64 fits_64_256)
  let x1 ← loadH (F := F) arg0 1
  let s ← (s.pop 0 64 256 fits_64_256).accLhsLoaded 0 64 x1 fits_64_256
  putYr (F := F) 1 4 (s.read 1 64 fits_64_256)
  let x4 ← loadH (F := F) arg0 4
  let s ← (s.pop 1 64 256 fits_64_256).accLhsLoaded 1 64 x4 fits_64_256
  putYr (F := F) 1 2 (s.read 0 128 fits_128_256)
  let x2 ← loadH (F := F) arg0 2
  let s ← (s.pop 0 128 256 fits_128_256).accLhsLoaded 0 128 x2 fits_128_256
  putYr (F := F) 1 5 (s.read 1 128 fits_128_256)
  let x5 ← loadH (F := F) arg0 5
  let s ← (s.pop 1 128 256 fits_128_256).accLhsLoaded 1 128 x5 fits_128_256
  Prog.ret s
def epiH (s : Mxu F) : Prog (TpuEff nD τ sig (Elt F) Λ₀ .tc) (Mxu F) := do
  putH (F := F) 0 (s.read 0 0 fits_0_256)
  putH (F := F) 3 ((p1 s).read 1 0 fits_0_256)
  putH (F := F) 1 ((p2 s).read 0 64 fits_64_256)
  putH (F := F) 4 ((p3 s).read 1 64 fits_64_256)
  putH (F := F) 2 ((p4 s).read 0 128 fits_128_256)
  putH (F := F) 5 ((p5 s).read 1 128 fits_128_256)
  Prog.ret (p6 s)

set_option maxRecDepth 65536 in
theorem rest_eq (u : Mxu F) : rest188 arg0 harg0 arg1 harg1 arg2 harg2 u
    = (waitY 21 1 >>= fun _ => startY 22 0 >>= fun _ => epiY arg0 u >>= fun u1 => startY 23 1 >>= fun _ => epiH u1 >>= fun u2 =>
      startH >>= fun _ => waitY 22 0 >>= fun _ => waitY 23 1 >>= fun _ => Prog.ret u2) := by
  sl_kernel_rfl

set_option maxRecDepth 65536 in
theorem cc0_eq : cc0_multi_lora_mxfp4 (F := F) arg0 harg0 arg1 harg1 arg2 harg2 xM (Memref.isWhole_whole _) wM (Memref.isWhole_whole _) eM (Memref.isWhole_whole _) yM (Memref.isWhole_whole _) hM (Memref.isWhole_whole _) xvM (Memref.isWhole_whole _) wvM (Memref.isWhole_whole _) evM (Memref.isWhole_whole _) yvM (Memref.isWhole_whole _) hoM (Memref.isWhole_whole _) cc0_scratch5 cc0_scratch6 cc0_scratch7 cc0_scratch8 cc0_scratch9
    = (k0_part188 (F := F) arg0 harg0 arg1 harg1 arg2 harg2 xM (Memref.isWhole_whole _) wM (Memref.isWhole_whole _) eM (Memref.isWhole_whole _) yM (Memref.isWhole_whole _) hM (Memref.isWhole_whole _) xvM (Memref.isWhole_whole _) wvM (Memref.isWhole_whole _) evM (Memref.isWhole_whole _) yvM (Memref.isWhole_whole _) hoM (Memref.isWhole_whole _) cc0_scratch5 cc0_scratch6 cc0_scratch7 cc0_scratch8 cc0_scratch9 >>= fun u => waitH >>= fun _ => u.exit >>= fun _ => Prog.ret ⟨⟩) := by
  sl_kernel_rfl
end Prog

end Cert.Kernel.Prf
-- ==== Proof.KEpilogueRun.lean ====
/- The end of the kernel, run. -/
module

public import proofs.«01_k».proof.Proof.KEpilogue

@[expose] public section

noncomputable section

namespace Cert.Kernel.Prf

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Ends
variable (c : Dev nD) (arg0 : Memref sig .tc .vmem S1536x256 .bf16) (harg0 : arg0.IsWhole) (arg1 : Memref sig .tc .vmem S256x6144 .bf16) (harg1 : arg1.IsWhole)
  (arg2 : Memref sig .tc .vmem S256x256 .bf16) (harg2 : arg2.IsWhole)
  (g0 : Buf (Elt F) (arg0.view.loc (c : Thread nD τ)))

theorem startY_run (b : Fin 24) (s : Fin 2) (g : Buf (Elt F) ((yslot s).view.loc (c : Thread nD τ))) :
    iprop(owesP (F := F) c ∗ held c (yslot s) g ∗ cellP c (ysem s) ∗ ∃ f, held c (yblk b) f)
      ⊢ wp frame (wpE (defs₀ (F := F)) 𝒱₀ (c : Thread nD τ) none) Set.univ (startY (F := F) b s)
        (fun _ => iprop(owesP (F := F) c ∗ ∃ f, flight c (ysem s) 24576 (yslot s) (yblk b) g f)) := by
  unfold startY
  iintro ⟨⟨%W, HW⟩, Hs, Hc, ⟨%f, Hd⟩⟩
  sl_exec
  sl_step
  isplitl [HW]; · iexists _; iexact HW
  iexists f; iexact Hc
theorem waitY_run (b : Fin 24) (s : Fin 2) (g : Buf (Elt F) ((yslot s).view.loc (c : Thread nD τ))) :
    iprop(owesP (F := F) c ∗ ∃ f, flight c (ysem s) 24576 (yslot s) (yblk b) g f)
      ⊢ wp frame (wpE (defs₀ (F := F)) 𝒱₀ (c : Thread nD τ) none) Set.univ (waitY (F := F) b s)
        (fun _ => iprop(owesP (F := F) c ∗ held c (yslot s) g ∗ cellP c (ysem s) ∗ ∃ f, ⌜(yblk b).view.read (Elt F) f = (yslot s).view.read (Elt F) g⌝ ∗ held c (yblk b) f)) := by
  unfold waitY
  iintro ⟨⟨%W, HW⟩, ⟨%f, HF⟩⟩
  sl_exec
  sl_step
  isplitl [HW]; · iexists _; iexact HW
  isplitl [HF_src]; · iexact HF_src
  isplitl [HF]; · iexact HF
  iexists _; isplitr
  · ipureintro; exact read_landed c (yslot s) (yblk b) g f
  iexact HF_dst
theorem startH_run (g : Buf (Elt F) (hoM.view.loc (c : Thread nD τ))) :
    iprop(owesP (F := F) c ∗ held c hoM g ∗ cellP c (hsem 0) ∗ ∃ f, held c hM f)
      ⊢ wp frame (wpE (defs₀ (F := F)) 𝒱₀ (c : Thread nD τ) none) Set.univ (startH (F := F))
        (fun _ => iprop(owesP (F := F) c ∗ ∃ f, flight c (hsem 0) 12288 hoM hM g f)) := by
  unfold startH
  iintro ⟨⟨%W, HW⟩, Hs, Hc, ⟨%f, Hd⟩⟩
  sl_exec
  sl_step
  isplitl [HW]; · iexists _; iexact HW
  iexists f; iexact Hc
theorem waitH_run (g : Buf (Elt F) (hoM.view.loc (c : Thread nD τ))) :
    iprop(owesP (F := F) c ∗ ∃ f, flight c (hsem 0) 12288 hoM hM g f)
      ⊢ wp frame (wpE (defs₀ (F := F)) 𝒱₀ (c : Thread nD τ) none) Set.univ (waitH (F := F))
        (fun _ => iprop(owesP (F := F) c ∗ held c hoM g ∗ cellP c (hsem 0) ∗ ∃ f, ⌜hM.view.read (Elt F) f = hoM.view.read (Elt F) g⌝ ∗ held c hM f)) := by
  unfold waitH
  iintro ⟨⟨%W, HW⟩, ⟨%f, HF⟩⟩
  sl_exec
  sl_step
  isplitl [HW]; · iexists _; iexact HW
  isplitl [HF_src]; · iexact HF_src
  isplitl [HF]; · iexact HF
  iexists _; isplitr
  · ipureintro; exact read_landed c hoM hM g f
  iexact HF_dst

theorem keeps_hv (r : Fin 6) : Keeps c (held c arg0 g0) (loadH (F := F) arg0 r) (fun v => v = hRaw c arg0 g0 r) := by
  unfold Keeps loadH
  iintro H
  sl_exec
  sl_step
  isplitr; · ipureintro; rfl
  iexact H

theorem epiY_run (u : Mxu F) (T : Tile16 F) (S : Sums F) (g : Good u 0 1 T true S) (f : Buf (Elt F) (yvM.view.loc (c : Thread nD τ))) :
    iprop(held c arg0 g0 ∗ held c (yslot 1) f) ⊢ wp frame (wpE (defs₀ (F := F)) 𝒱₀ (c : Thread nD τ) none) Set.univ (epiY (F := F) arg0 u)
      (fun u' => iprop(⌜Ends u' (fun q a => pass (hT c arg0 g0 (blk6 q a)) T)⌝ ∗ held c arg0 g0 ∗ ∃ f', ⌜(yslot 1).view.read (Elt F) f' = sumsY S⌝ ∗ held c (yslot 1) f')) := by
  unfold epiY
  have gm := g.reg
  refine put_bind c _ 0 rfl fun f1 hf1 => ?_
  refine keep_bind c (keeps_hv c arg0 g0 0) fun x0 e0 => ?_
  refine put_bind c _ 3 rfl fun f2 hf2 => ?_
  refine keep_bind c (keeps_hv c arg0 g0 3) fun x3 e3 => ?_
  subst e0 e3
  refine put_bind c _ 1 rfl fun f3 hf3 => ?_
  refine keep_bind c (keeps_hv c arg0 g0 1) fun x1 e1 => ?_
  refine keep_bind c (Keeps.acc (t := stg T) (s2_gmr u T (hT c arg0 g0) 0 gm)) fun u3 hu3 => ?_
  have e2 : u3 = e5 u T (hT c arg0 g0) := by rw [hu3, e1]; rfl
  clear hu3
  subst e2
  refine put_bind c _ 4 rfl fun f4 hf4 => ?_
  refine keep_bind c (keeps_hv c arg0 g0 4) fun x4 e4 => ?_
  refine keep_bind c (Keeps.acc (t := stg T) (gmr_e5 u T (hT c arg0 g0) 1 gm)) fun u3 hu3 => ?_
  have e2 : u3 = e6 u T (hT c arg0 g0) := by rw [hu3, e4]; rfl
  clear hu3
  subst e2
  refine put_bind c _ 2 rfl fun f5 hf5 => ?_
  refine keep_bind c (keeps_hv c arg0 g0 2) fun x2 e2' => ?_
  refine keep_bind c (Keeps.acc (t := stg T) (gmr_e6 u T (hT c arg0 g0) 0 gm)) fun u3 hu3 => ?_
  have e2 : u3 = e7 u T (hT c arg0 g0) := by rw [hu3, e2']; rfl
  clear hu3
  subst e2
  refine put_bind c _ 5 rfl fun f6 hf6 => ?_
  refine keep_bind c (keeps_hv c arg0 g0 5) fun x5 e5' => ?_
  refine keep_bind c (Keeps.acc (t := stg T) (gmr_e7 u T (hT c arg0 g0) 1 gm)) fun u3 hu3 => ?_
  have e2 : u3 = e8 u T (hT c arg0 g0) := by rw [hu3, e5']; rfl
  clear hu3
  subst e2
  have hY : (yslot 1).view.read (Elt F) f6 = sumsY S := by
    have hf3' : (yslot 1).view.read (Elt F) f3 = putAt 1 (S 0 1) ((yslot 1).view.read (Elt F) f2) :=
      hf3.trans (congrArg (fun v => putAt 1 v ((yslot 1).view.read (Elt F) f2)) ((read_s2 u (hT c arg0 g0) 0 fits_64_256 (by decide)).trans (g.rd1 rfl 0)))
    rw [hf6, hf5, hf4, hf3', hf2, hf1, g.rd0 rfl, ← putAt_six S ((yslot 1).view.read (Elt F) f)]
    rw [read_e7, read_e6, read_e5, g.rd1 rfl, g.rd2 rfl, g.rd2 rfl]
    rw [← read_f1 u T (hT c arg0 g0) g rfl]
    rfl
  have hG := e8_ends u T (hT c arg0 g0) g
  rw [wp_ret]
  iintro ⟨HT, Hy⟩
  imodintro
  isplitr
  · ipureintro; exact hG
  isplitl [HT]; · iexact HT
  iexists f6
  isplitr [Hy]
  · ipureintro; exact hY
  iexact Hy

/-! ## The lora activations' buffer -/

def putHAt (r : Fin 6) (v : Tile32 F) (old : S1536x80.Idx → Elt F .bf16) (i : S1536x80.Idx) : Elt F .bf16 :=
  if (i 0).val / 256 = r.val then popT v (Mxu.ix ⟨(i 0).val % 256, Nat.mod_lt _ (by decide)⟩ ⟨(i 1).val, Nat.lt_of_lt_of_le (i 1).isLt (by decide)⟩) else old i
/-- The lora activations from the sums. -/
def sumsH (S : Sums F) (i : S1536x80.Idx) : Elt F .bf16 :=
  popT (S ⟨(i 0).val / 256 / 3, by have : (i 0).val < 1536 := (i 0).isLt; omega⟩ ⟨(i 0).val / 256 % 3, Nat.mod_lt _ (by decide)⟩)
    (Mxu.ix ⟨(i 0).val % 256, Nat.mod_lt _ (by decide)⟩ ⟨(i 1).val, Nat.lt_of_lt_of_le (i 1).isLt (by decide)⟩)

theorem putHAt_six (S : Sums F) (old : S1536x80.Idx → Elt F .bf16) :
    putHAt 5 (S 1 2) (putHAt 2 (S 0 2) (putHAt 4 (S 1 1) (putHAt 1 (S 0 1) (putHAt 3 (S 1 0) (putHAt 0 (S 0 0) old))))) = sumsH S := by
  funext i
  have h6 : (i 0).val / 256 < 6 := by have : (i 0).val < 1536 := (i 0).isLt; omega
  unfold putHAt sumsH
  have hc : ∀ k (h : (i 0).val / 256 = k) (hk : k < 6), S ⟨(i 0).val / 256 / 3, by omega⟩ ⟨(i 0).val / 256 % 3, Nat.mod_lt _ (by decide)⟩ = S ⟨k / 3, by omega⟩ ⟨k % 3, Nat.mod_lt _ (by decide)⟩ := by
    intro k h hk; subst h; rfl
  obtain h | h | h | h | h | h : (i 0).val / 256 = 0 ∨ (i 0).val / 256 = 1 ∨ (i 0).val / 256 = 2 ∨ (i 0).val / 256 = 3 ∨ (i 0).val / 256 = 4 ∨ (i 0).val / 256 = 5 := by omega
  all_goals rw [hc _ h (by decide)]; simp only [h]; rfl

theorem poppedH_apply (v : FVec F S256x256 .f32) (x : S256x80.Idx) : poppedH (F := F) v x = popT v (Mxu.ix (x 0) ⟨(x 1).val, Nat.lt_of_lt_of_le (x 1).isLt (by decide)⟩) := by
  unfold poppedH
  rw [shapeCast_self]
  refine congrArg (popT v) (Shape.idx_ext₂ ?_ ?_)
  · first | rfl | (show 0 + (x 0).val = (x 0).val; omega)
  · first | rfl | (show 0 + (x 1).val = (x 1).val; omega)

theorem read_putH (r : Fin 6) (v : FVec F S256x256 .f32) (f : Buf (Elt F) (hoM.view.loc (c : Thread nD τ))) :
    hoM.view.read (Elt F) (View.write (Elt F) (hoM.access (Rect.unit (s := S1536x80) ![256 * r.val, 0] S256x80.size (inbO r))) f (poppedH v) Finset.univ)
      = putHAt r v (hoM.view.read (Elt F) f) := by
  funext i
  unfold putHAt
  split
  · next h =>
    have e := View.read_slice_write_emb (Val := Elt F) (v := hoM.view) (Rect.unit (s := S1536x80) ![256 * r.val, 0] S256x80.size (inbO r)) f (poppedH v)
      (Finset.mem_univ (Fin.cons (⟨(i 0).val % 256, Nat.mod_lt _ (by decide)⟩ : Fin 256) (Fin.cons (i 1) (fun x => x.elim0)) : S256x80.Idx))
    rw [poppedH_apply] at e
    refine Eq.trans (congrArg _ ?_) e
    refine Shape.idx_ext₂ ?_ ?_
    · show (i 0).val = 256 * r.val + 1 * ((i 0).val % 256); omega
    · show (i 1).val = 0 + 1 * (i 1).val; omega
  · next h =>
    refine View.read_slice_write_of_not_mem _ _ _ _ ?_
    rw [Rect.map_emb_univ, Rect.mem_set_unit]
    intro hall
    have := hall 0
    change 256 * r.val ≤ (i 0).val ∧ (i 0).val < 256 * r.val + 256 at this
    omega

theorem putH_run (r : Fin 6) (v : FVec F S256x256 .f32) (f : Buf (Elt F) (hoM.view.loc (c : Thread nD τ))) :
    held c hoM f ⊢ wp frame (wpE (defs₀ (F := F)) 𝒱₀ (c : Thread nD τ) none) Set.univ (putH (F := F) r v)
      (fun _ => iprop(∃ f', ⌜hoM.view.read (Elt F) f' = putHAt r v (hoM.view.read (Elt F) f)⌝ ∗ held c hoM f')) := by
  unfold putH
  iintro H
  sl_exec
  sl_step
  iexists _
  isplitr; swap
  · iexact H
  ipureintro
  exact read_putH c r v f

theorem putH_bind {β : Type} {k : PUnit → Prog (TpuEff nD τ sig (Elt F) Λ₀ .tc) β} {Q : β → sProp 𝕄} (r : Fin 6) {v : FVec F S256x256 .f32}
    {f : Buf (Elt F) (hoM.view.loc (c : Thread nD τ))}
    (hk : ∀ f', hoM.view.read (Elt F) f' = putHAt r v (hoM.view.read (Elt F) f) →
      held c hoM f' ⊢ wp frame (wpE (defs₀ (F := F)) 𝒱₀ (c : Thread nD τ) none) Set.univ (k ⟨⟩) Q) :
    held c hoM f ⊢ wp frame (wpE (defs₀ (F := F)) 𝒱₀ (c : Thread nD τ) none) Set.univ (putH (F := F) r v >>= k) Q := by
  rw [wp_bind]
  refine (putH_run c r v f).trans (wp_mono _ _ _ fun a => ?_)
  iintro ⟨%f', %hf, H⟩
  iapply (hk f' hf)
  iexact H

theorem epiH_run (u : Mxu F) (S : Sums F) (g : Ends u S) (f : Buf (Elt F) (hoM.view.loc (c : Thread nD τ))) :
    held c hoM f ⊢ wp frame (wpE (defs₀ (F := F)) 𝒱₀ (c : Thread nD τ) none) Set.univ (epiH (F := F) u)
      (fun u' => iprop(⌜u'.Drained⌝ ∗ ∃ f', ⌜hoM.view.read (Elt F) f' = sumsH S⌝ ∗ held c hoM f')) := by
  unfold epiH
  refine putH_bind c 0 fun f1 hf1 => ?_
  refine putH_bind c 3 fun f2 hf2 => ?_
  refine putH_bind c 1 fun f3 hf3 => ?_
  refine putH_bind c 4 fun f4 hf4 => ?_
  refine putH_bind c 2 fun f5 hf5 => ?_
  refine putH_bind c 5 fun f6 hf6 => ?_
  have hY : hoM.view.read (Elt F) f6 = sumsH S := by
    rw [hf6, hf5, hf4, hf3, hf2, hf1, read_p5, read_p4, read_p3, read_p2, read_p1, g.rd0, g.rd0, g.rd1, g.rd1, g.rd2, g.rd2, putHAt_six]
  rw [wp_ret]
  iintro H
  imodintro
  isplitr
  · ipureintro; exact p6_drained u g
  iexists f6
  isplitr
  · ipureintro; exact hY
  iexact H
end Ends

end Cert.Kernel.Prf
-- ==== Proof.KBody.lean ====
/- The kernel's body from its first copy to its last. -/
module

public import proofs.«01_k».proof.Proof.KEpilogueRun

@[expose] public section

noncomputable section

namespace Cert.Kernel.Prf

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Body
variable (c : Dev nD) (arg0 : Memref sig .tc .vmem S1536x256 .bf16) (harg0 : arg0.IsWhole) (arg1 : Memref sig .tc .vmem S256x6144 .bf16) (harg1 : arg1.IsWhole)
  (arg2 : Memref sig .tc .vmem S256x256 .bf16) (harg2 : arg2.IsWhole)
  (Xin : Buf (Elt F) ((c : Thread nD τ).loc main_v0))
  (W : Buf (Elt F) ((c : Thread nD τ).loc main_arg1)) (E : Buf (Elt F) ((c : Thread nD τ).loc main_arg2))
  (g0 : Buf (Elt F) (arg0.view.loc (c : Thread nD τ))) (g1 : Buf (Elt F) (arg1.view.loc (c : Thread nD τ))) (g2 : Buf (Elt F) (arg2.view.loc (c : Thread nD τ)))

/-- Block `b` of the result, and the lora activations. -/
abbrev yOut (b : Fin 24) : S1536x256.Idx → Elt F .bf16 := yB c arg0 arg1 W E (xGlue c Xin) g0 g1 b
def hOut : S1536x80.Idx → Elt F .bf16 := sumsH (fun q a => pass (hT c arg0 g0 (blk6 q a)) (sRaw c arg2 g2))

/-! ## After the loop -/

def yDone (Y : Fin 24 → S1536x256.Idx → Elt F .bf16) : sProp 𝕄 := bigSep Finset.univ (fun b => yHome c Y b True)
def twoLess : Finset (Fin 24) := (Finset.univ.erase 22).erase 23
theorem two_split (Φ : Fin 24 → sProp 𝕄) : bigSep Finset.univ Φ = iprop(Φ 22 ∗ Φ 23 ∗ bigSep twoLess Φ) := by
  have e : (Finset.univ : Finset (Fin 24)) = insert 22 (insert 23 twoLess) := by decide
  rw [e, bigSep_insert (by decide), bigSep_insert (by decide)]; rfl
theorem yAll_last (Y : Fin 24 → S1536x256.Idx → Elt F .bf16) :
    yAll (F := F) c Y (24 + 1) = iprop(yHome c Y 22 False ∗ yHome c Y 23 False ∗ bigSep twoLess (fun b => yHome c Y b True)) := by
  unfold yAll
  rw [two_split]
  have e : bigSep twoLess (fun b => yHome (F := F) c Y b (b.val + 3 < 24 + 1)) = bigSep twoLess (fun b => yHome c Y b True) := by
    refine bigSep_congr fun b hb => ?_
    congr 1
    have : ∀ b : Fin 24, b ∈ twoLess → b.val + 3 < 24 + 1 := by decide
    exact eq_true (this b hb)
  rw [e]
  have e2 : ((22 : Fin 24).val + 3 < 24 + 1) = False := eq_false (by decide)
  have e3 : ((23 : Fin 24).val + 3 < 24 + 1) = False := eq_false (by decide)
  rw [e2, e3]
theorem yDone_eq (Y : Fin 24 → S1536x256.Idx → Elt F .bf16) :
    yDone (F := F) c Y = iprop(yHome c Y 22 True ∗ yHome c Y 23 True ∗ bigSep twoLess (fun b => yHome c Y b True)) := by
  unfold yDone; rw [two_split]

/-- The lora activations on their way out. -/
def hFly (H : S1536x80.Idx → Elt F .bf16) : sProp 𝕄 := iprop(∃ g, ⌜hoM.view.read (Elt F) g = H⌝ ∗ ∃ f, flight c (hsem 0) 12288 hoM hM g f)

theorem rest_run (Y : Fin 24 → S1536x256.Idx → Elt F .bf16) (S : Sums F) (hS : Y 23 = sumsY S) (u : Mxu F)
    (g : Good u 0 1 (sRaw c arg2 g2) true S) :
    iprop(owesP (F := F) c ∗ yFly c Y 24 ∗ yHomes c Y 24 ∗ yPend c Y 24 ∗ held c arg0 g0 ∗ (∃ f, held c hoM f) ∗ (∃ f, held c hM f) ∗ cellP c (hsem 0))
      ⊢ wp frame (wpE (defs₀ (F := F)) 𝒱₀ (c : Thread nD τ) none) Set.univ (rest188 (F := F) arg0 harg0 arg1 harg1 arg2 harg2 u)
        (fun u' => iprop(⌜u'.Drained⌝ ∗ owesP (F := F) c ∗ held c arg0 g0 ∗ yDone c Y ∗ yFree c 0 ∗ yFree c 1 ∗ hFly c (hOut c arg0 arg2 g0 g2))) := by
  rw [rest_eq]
  unfold yFly yPend
  rw [if_pos (by decide), show Ring.sl 2 (24 + 1) = 1 from rfl, show Ring.sl 2 24 = 0 from rfl, show Ring.bk 24 (24 - 3) = 21 from rfl, show Ring.bk 24 (24 - 2) = 22 from rfl]
  iintro ⟨HW, ⟨%f21, %gy, %hgy, HF⟩, Hh, ⟨⟨%f0, %hf0, Hs0⟩, Hc0⟩, H0, ⟨%fo, Ho⟩, Hhm, Hch⟩
  rw [wp_bind]
  iapply (wp_wand_r Idealize.ShloMosaic.frame (wpE (defs₀ (F := F)) 𝒱₀ (c : Thread nD τ) none) Set.univ)
  isplitl [HW HF]
  · iapply (waitY_run c 21 1 gy); isplitl [HW]; · iexact HW
    iexists f21; iexact HF
  iintro %_ ⟨HW, Hs1, Hc1, ⟨%fb, %hfb, Hb⟩⟩
  ihave Hy := (entails_of_eq (yAll_of (F := F) c Y 24 (by decide) (by decide)).symm) $$ [Hb Hh]
  · isplitl [Hb]
    · unfold yHome; iexists fb; isplitr
      · ipureintro; exact fun _ => hfb.trans hgy
      iexact Hb
    iexact Hh
  ihave Hy2 := (entails_of_eq (yAll_last (F := F) c Y)) $$ Hy
  icases Hy2 with ⟨H22, H23, Hrest⟩
  unfold yHome
  icases H22 with ⟨%f22, -, H22⟩
  icases H23 with ⟨%f23, -, H23⟩
  rw [wp_bind]
  iapply (wp_wand_r Idealize.ShloMosaic.frame (wpE (defs₀ (F := F)) 𝒱₀ (c : Thread nD τ) none) Set.univ)
  isplitl [HW Hs0 Hc0 H22]
  · iapply (startY_run c 22 0 f0); isplitl [HW]; · iexact HW
    isplitl [Hs0]; · iexact Hs0
    isplitl [Hc0]; · iexact Hc0
    iexists f22; iexact H22
  iintro %_ ⟨HW, HF22⟩
  rw [wp_bind]
  iapply (wp_wand_r Idealize.ShloMosaic.frame (wpE (defs₀ (F := F)) 𝒱₀ (c : Thread nD τ) none) Set.univ)
  isplitl [H0 Hs1]
  · iapply (epiY_run c arg0 g0 u (sRaw c arg2 g2) S g gy); isplitl [H0] <;> iassumption
  iintro %u1 ⟨%hu1, H0, ⟨%f1, %hf1, Hs1⟩⟩
  rw [wp_bind]
  iapply (wp_wand_r Idealize.ShloMosaic.frame (wpE (defs₀ (F := F)) 𝒱₀ (c : Thread nD τ) none) Set.univ)
  isplitl [HW Hs1 Hc1 H23]
  · iapply (startY_run c 23 1 f1); isplitl [HW]; · iexact HW
    isplitl [Hs1]; · iexact Hs1
    isplitl [Hc1]; · iexact Hc1
    iexists f23; iexact H23
  iintro %_ ⟨HW, HF23⟩
  rw [wp_bind]
  iapply (wp_wand_r Idealize.ShloMosaic.frame (wpE (defs₀ (F := F)) 𝒱₀ (c : Thread nD τ) none) Set.univ)
  isplitl [Ho]
  · iapply (epiH_run c u1 _ hu1 fo); iexact Ho
  iintro %u2 ⟨%hu2, ⟨%fh, %hfh, Ho⟩⟩
  rw [wp_bind]
  iapply (wp_wand_r Idealize.ShloMosaic.frame (wpE (defs₀ (F := F)) 𝒱₀ (c : Thread nD τ) none) Set.univ)
  isplitl [HW Ho Hch Hhm]
  · iapply (startH_run c fh); isplitl [HW]; · iexact HW
    isplitl [Ho]; · iexact Ho
    isplitl [Hch]; · iexact Hch
    iexact Hhm
  iintro %_ ⟨HW, HFh⟩
  rw [wp_bind]
  iapply (wp_wand_r Idealize.ShloMosaic.frame (wpE (defs₀ (F := F)) 𝒱₀ (c : Thread nD τ) none) Set.univ)
  isplitl [HW HF22]
  · iapply (waitY_run c 22 0 f0); isplitl [HW] <;> iassumption
  iintro %_ ⟨HW, Hs0, Hc0, ⟨%b22, %hb22, H22⟩⟩
  rw [wp_bind]
  iapply (wp_wand_r Idealize.ShloMosaic.frame (wpE (defs₀ (F := F)) 𝒱₀ (c : Thread nD τ) none) Set.univ)
  isplitl [HW HF23]
  · iapply (waitY_run c 23 1 f1); isplitl [HW] <;> iassumption
  iintro %_ ⟨HW, Hs1, Hc1, ⟨%b23, %hb23, H23⟩⟩
  rw [wp_ret]
  imodintro
  isplitr; · ipureintro; exact hu2
  isplitl [HW]; · iexact HW
  isplitl [H0]; · iexact H0
  isplitl [H22 H23 Hrest]
  · iapply (entails_of_eq (yDone_eq (F := F) c Y).symm)
    unfold yHome
    isplitl [H22]
    · iexists b22; isplitr
      · ipureintro; exact fun _ => hb22.trans (hf0 (by decide))
      iexact H22
    isplitl [H23]
    · iexists b23; isplitr
      · ipureintro; exact fun _ => hb23.trans (hf1.trans hS.symm)
      iexact H23
    iexact Hrest
  isplitl [Hs0 Hc0]
  · unfold yFree; isplitl [Hs0]; · iexists f0; iexact Hs0
    iexact Hc0
  isplitl [Hs1 Hc1]
  · unfold yFree; isplitl [Hs1]; · iexists f1; iexact Hs1
    iexact Hc1
  unfold hFly
  iexists fh
  isplitr
  · ipureintro; exact hfh
  iexact HFh

/-! ## Before the loop -/

theorem w_split : wHomes (F := F) c W Finset.univ = iprop(held c (wblk 0) (wAt c W 0) ∗ held c (wblk 1) (wAt c W 1) ∗ wHomes c W (others2 0)) := by
  have e : (Finset.univ : Finset (Fin 24)) = insert 0 (insert 1 (others2 0)) := by decide
  unfold wHomes; rw [e, bigSep_insert (by decide), bigSep_insert (by decide)]; rfl
theorem e_split : eHomes (F := F) c E Finset.univ = iprop(held c (eblk 0) (eAt c E 0) ∗ held c (eblk 1) (eAt c E 1) ∗ eHomes c E (others2 0)) := by
  have e : (Finset.univ : Finset (Fin 24)) = insert 0 (insert 1 (others2 0)) := by decide
  unfold eHomes; rw [e, bigSep_insert (by decide), bigSep_insert (by decide)]; rfl
theorem others_end : others (24 + 1) = Finset.univ := by decide

theorem good_start (v : Tile16 F) (S : Sums F) : Good (m4 cleared 0 v) 0 1 v false S := by
  have hreg : ∀ q r, (cleared : Mxu F).reg q r = none := fun q r => Mxu.reg_init (q := q) (r := r)
  constructor
  · intro q; exact m4_reg _ _ _ _ (fun q => hreg q 0)
  · intro q; rw [m4_reg_ne _ _ _ (by decide)]; exact hreg q 1
  · intro q R
    rw [m4_live]
    unfold cleared
    simp [Mxu.live_pop]
  · intro h; cases h
  · intro h; cases h
  · intro h; cases h

theorem yHome_of (Y : Fin 24 → S1536x256.Idx → Elt F .bf16) (b : Fin 24) (d : Prop) (hd : ¬ d) : iprop(∃ f, held (F := F) c (yblk b) f) ⊢ yHome c Y b d := by
  unfold yHome
  iintro ⟨%f, H⟩
  iexists f
  isplitr
  · ipureintro; intro h; exact absurd h hd
  iexact H
theorem yStart (Y : Fin 24 → S1536x256.Idx → Elt F .bf16) : bigSep Finset.univ (fun b => iprop(∃ f, held (F := F) c (yblk b) f)) ⊢ yHomes c Y 0 := by
  unfold yHomes
  rw [away_low 0 (by decide)]
  exact bigSep_mono fun b _ => yHome_of c Y b _ (by omega)

/-- What the body holds besides its windows: before, -/
def bodyIn : sProp 𝕄 :=
  iprop(bigSep Finset.univ (xIdle c Xin) ∗ wHomes c W Finset.univ ∗ eHomes c E Finset.univ
    ∗ (wFree c 0 ∗ wFree c 1 ∗ wFree c 2) ∗ (eFree c 0 ∗ eFree c 1 ∗ eFree c 2) ∗ (yFree c 0 ∗ yFree c 1)
    ∗ bigSep Finset.univ (fun b => iprop(∃ f, held c (yblk b) f)) ∗ (∃ f, held c hoM f) ∗ (∃ f, held c hM f) ∗ cellP c (hsem 0))
/-- and after. -/
def bodyEnd (Y : Fin 24 → S1536x256.Idx → Elt F .bf16) (H : S1536x80.Idx → Elt F .bf16) : sProp 𝕄 :=
  iprop(bigSep Finset.univ (xIdle c Xin) ∗ wHomes c W Finset.univ ∗ eHomes c E Finset.univ
    ∗ (wFree c 0 ∗ wFree c 1 ∗ wFree c 2) ∗ (eFree c 0 ∗ eFree c 1 ∗ eFree c 2) ∗ (yFree c 0 ∗ yFree c 1)
    ∗ yDone c Y ∗ (∃ f, held c hoM f) ∗ (∃ f, ⌜hM.view.read (Elt F) f = H⌝ ∗ held c hM f) ∗ cellP c (hsem 0))

theorem xIdle_of (j : Fin 64) : xDone (F := F) c Xin j ⊢ xIdle c Xin j := by
  unfold xDone xIdle
  iintro ⟨H1, H2, H3⟩
  isplitl [H1]; · iexact H1
  isplitl [H2]; · iexists _; iexact H2
  iexact H3

theorem xDone_out (j : Fin 64) : xDone (F := F) c Xin j ⊢ iprop(held c (xslot j) (xGlue c Xin) ∗ held c (xsrc j) (xAt c Xin j) ∗ cellP c (xsem j)) := by
  unfold xDone
  iintro ⟨H1, H2, H3⟩
  isplitl [H2]; · iexact H2
  isplitl [H1]; · iexact H1
  iexact H3
def xBack : sProp 𝕄 := bigSep Finset.univ (fun j => iprop(held c (xsrc j) (xAt c Xin j) ∗ cellP (F := F) c (xsem j)))

theorem wNext_one : wNext (F := F) c W (0 + 1) = wGo c W 1 1 := if_pos (by decide)
theorem eNext_one : eNext (F := F) c E (0 + 1) = eGo c E 1 1 := if_pos (by decide)
theorem yFly_zero (Y : Fin 24 → S1536x256.Idx → Elt F .bf16) : yFly (F := F) c Y 0 = yFree c 1 := if_neg (by decide)
theorem xDone_split (hX : bigSep Finset.univ (fun j => held c (xslot j) (xGlue (F := F) c Xin)) = held c xvM (xGlue c Xin)) :
    bigSep Finset.univ (xDone (F := F) c Xin) ⊢ iprop(held c xvM (xGlue c Xin) ∗ xBack c Xin) := by
  unfold xBack
  rw [← hX, ← bigSep_sep']
  exact bigSep_mono fun j _ => xDone_out c Xin j

/-- From the first copy to the loop. -/
theorem front_run (hX : bigSep Finset.univ (fun j => held c (xslot j) (xGlue (F := F) c Xin)) = held c xvM (xGlue c Xin)) {β : Type}
    (k : Vec F S1x32x256 .i8 → Vec F S1x32x256 .i32 → Prog (TpuEff nD τ sig (Elt F) Λ₀ .tc) β) {Q : β → sProp 𝕄} {R : sProp 𝕄}
    (Y : Fin 24 → S1536x256.Idx → Elt F .bf16)
    (hk : iprop((held c xvM (xGlue c Xin) ∗ xBack c Xin ∗ wHave c W 0 ∗ eHave c E 0 ∗ yPend c Y 0 ∗ guardPre c W E Y 0) ∗ R)
      ⊢ wp frame (wpE (defs₀ (F := F)) 𝒱₀ (c : Thread nD τ) none) Set.univ (k (firstE c E) (firstW c W)) Q) :
    iprop((owesP (F := F) c ∗ bigSep Finset.univ (xIdle c Xin) ∗ wHomes c W Finset.univ ∗ eHomes c E Finset.univ
      ∗ (wFree c 0 ∗ wFree c 1 ∗ wFree c 2) ∗ (eFree c 0 ∗ eFree c 1 ∗ eFree c 2) ∗ (yFree c 0 ∗ yFree c 1)
      ∗ bigSep Finset.univ (fun b => iprop(∃ f, held c (yblk b) f))) ∗ R)
      ⊢ wp frame (wpE (defs₀ (F := F)) 𝒱₀ (c : Thread nD τ) none) Set.univ
        (startXs 64 0 >>= fun _ => mid >>= fun _ => waitXs 64 0 >>= fun _ => last >>= fun ew => k ew.1 ew.2) Q := by
  rw [w_split, e_split]
  iintro ⟨⟨HW, Hx, ⟨Hw0, Hw1, Hwr⟩, ⟨He0, He1, Her⟩, ⟨Hws0, Hws1, Hws2⟩, ⟨Hes0, Hes1, Hes2⟩, ⟨Hy0, Hy1⟩, Hyb⟩, HR⟩
  rw [wp_bind]
  iapply (wp_wand_r Idealize.ShloMosaic.frame (wpE (defs₀ (F := F)) 𝒱₀ (c : Thread nD τ) none) Set.univ)
  isplitl [HW Hx]
  · iapply (startXs_run c Xin 64 0 rfl); isplitl [HW]; · iexact HW
    iapply (entails_of_eq (xs_zero (xGo c Xin) (xIdle c Xin)).symm); iexact Hx
  iintro %_ ⟨HW, Hx⟩
  rw [wp_bind]
  iapply (wp_wand_r Idealize.ShloMosaic.frame (wpE (defs₀ (F := F)) 𝒱₀ (c : Thread nD τ) none) Set.univ)
  isplitl [HW Hw0 Hws0 He0 Hes0 Hw1 Hws1 He1 Hes1]
  · iapply (mid_run c W E); isplitl [HW]; · iexact HW
    isplitl [Hw0 Hws0]
    · unfold wIdle; isplitl [Hw0]; · iexact Hw0
      iapply (entails_of_eq (show wFree (F := F) c 0 = iprop((∃ f, held c (wslot 0) f) ∗ cellP c (wsem 0)) from rfl)); iexact Hws0
    isplitl [He0 Hes0]
    · unfold eIdle; isplitl [He0]; · iexact He0
      iapply (entails_of_eq (show eFree (F := F) c 0 = iprop((∃ f, held c (eslot 0) f) ∗ cellP c (esem 0)) from rfl)); iexact Hes0
    isplitl [Hw1 Hws1]
    · unfold wIdle; isplitl [Hw1]; · iexact Hw1
      iapply (entails_of_eq (show wFree (F := F) c 1 = iprop((∃ f, held c (wslot 1) f) ∗ cellP c (wsem 1)) from rfl)); iexact Hws1
    unfold eIdle; isplitl [He1]; · iexact He1
    iapply (entails_of_eq (show eFree (F := F) c 1 = iprop((∃ f, held c (eslot 1) f) ∗ cellP c (esem 1)) from rfl)); iexact Hes1
  iintro %_ ⟨HW, Hw0, He0, Hw1, He1⟩
  rw [wp_bind]
  iapply (wp_wand_r Idealize.ShloMosaic.frame (wpE (defs₀ (F := F)) 𝒱₀ (c : Thread nD τ) none) Set.univ)
  isplitl [HW Hx]
  · iapply (waitXs_run c Xin 64 0 rfl); isplitl [HW]; · iexact HW
    iapply (entails_of_eq ((xs_all (xGo c Xin) (xIdle c Xin)).trans (xs_zero (xDone c Xin) (xGo c Xin)).symm)); iexact Hx
  iintro %_ ⟨HW, Hx⟩
  rw [wp_bind]
  iapply (wp_wand_r Idealize.ShloMosaic.frame (wpE (defs₀ (F := F)) 𝒱₀ (c : Thread nD τ) none) Set.univ)
  isplitl [HW Hw0 He0]
  · iapply (last_run c W E); isplitl [HW]; · iexact HW
    isplitl [Hw0] <;> iassumption
  iintro %ew ⟨%hew, HW, Hwb, Heb, Hws, Hwc, Hes, Hec⟩
  rw [hew]
  iapply hk
  isplitr [HR]; swap
  · iexact HR
  ihave Hx2 := (entails_of_eq (xs_all (xDone c Xin) (xGo c Xin))) $$ Hx
  ihave Hx3 := (xDone_split c Xin hX) $$ Hx2
  icases Hx3 with ⟨HX, HB⟩
  isplitl [HX]; · iexact HX
  isplitl [HB]; · iexact HB
  isplitl [Hws Hwc]
  · unfold wHave; isplitl [Hws]
    · icases Hws with ⟨%f, %hf, H⟩; iexists f; isplitr
      · ipureintro; exact fun _ => hf
      iexact H
    iexact Hwc
  isplitl [Hes Hec]
  · unfold eHave; isplitl [Hes]
    · icases Hes with ⟨%f, %hf, H⟩; iexists f; isplitr
      · ipureintro; exact fun _ => hf
      iexact H
    iexact Hec
  isplitl [Hy0]
  · unfold yFree yPend; icases Hy0 with ⟨⟨%f, H⟩, Hc⟩; isplitl [H]
    · iexists f; isplitr
      · ipureintro; intro h; exact absurd h (by decide)
      iexact H
    iexact Hc
  unfold guardPre
  isplitl [HW]; · iexact HW
  isplitl [Hw1]; · iapply (entails_of_eq (wNext_one c W).symm); iexact Hw1
  isplitl [Hws2]; · iexact Hws2
  isplitl [Hwb Hwr]
  · iapply (entails_of_eq (wHomes_in (F := F) c W 0 (by decide)).symm); isplitl [Hwb] <;> iassumption
  isplitl [He1]; · iapply (entails_of_eq (eNext_one c E).symm); iexact He1
  isplitl [Hes2]; · iexact Hes2
  isplitl [Heb Her]
  · iapply (entails_of_eq (eHomes_in (F := F) c E 0 (by decide)).symm); isplitl [Heb] <;> iassumption
  isplitl [Hy1]
  · iapply (entails_of_eq (yFly_zero (F := F) c Y).symm); iexact Hy1
  iapply (yStart c Y); iexact Hyb
end Body

end Cert.Kernel.Prf
-- ==== Proof.KWhole.lean ====
/- The whole body, from its arguments to its results. -/
module

public import proofs.«01_k».proof.Proof.KBody

@[expose] public section

noncomputable section

namespace Cert.Kernel.Prf

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Whole
variable (c : Dev nD) (arg0 : Memref sig .tc .vmem S1536x256 .bf16) (harg0 : arg0.IsWhole) (arg1 : Memref sig .tc .vmem S256x6144 .bf16) (harg1 : arg1.IsWhole)
  (arg2 : Memref sig .tc .vmem S256x256 .bf16) (harg2 : arg2.IsWhole)
  (Xin : Buf (Elt F) ((c : Thread nD τ).loc main_v0))
  (W : Buf (Elt F) ((c : Thread nD τ).loc main_arg1)) (E : Buf (Elt F) ((c : Thread nD τ).loc main_arg2))
  (g0 : Buf (Elt F) (arg0.view.loc (c : Thread nD τ))) (g1 : Buf (Elt F) (arg1.view.loc (c : Thread nD τ))) (g2 : Buf (Elt F) (arg2.view.loc (c : Thread nD τ)))

/-! ## The activations' buffer in its panels -/

abbrev SX (s : Fin 64) : Finset S64x1536x256.Idx := (Rect.unit (s := S64x1536x256) (slotOff s) S1x1536x256.size (xslot_inb s)).set
omit [FloatOps F] in
theorem xslot_set (s : Fin 64) : (xslot s).view.set = SX s := (View.set_reshape _ _).trans (View.set_slice_whole _ _)
theorem mem_SX (s : Fin 64) (y : S64x1536x256.Idx) : y ∈ SX s ↔ (y 0).val = s.val := by
  rw [Rect.mem_set_unit]
  have h1 : (y 1).val < 1536 := (y 1).isLt
  have h2 : (y 2).val < 256 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1536; omega
    · show 0 ≤ (y 2).val ∧ (y 2).val < 0 + 256; omega
theorem SX_disjoint : ∀ s s' : Fin 64, s ≠ s' → Disjoint (SX s) (SX s') := by
  intro s s' hne; rw [Finset.disjoint_left]; intro y hy hy'; rw [mem_SX] at hy hy'; exact hne (Fin.ext (hy.symm.trans hy'))
theorem SX_cover : (Finset.univ : Finset (Fin 64)).biUnion SX = Finset.univ := by
  ext y; simp only [Finset.mem_biUnion, Finset.mem_univ, true_and, iff_true]; exact ⟨(y 0).cast (by decide), by rw [mem_SX]; rfl⟩
theorem xslot_held (s : Fin 64) (X : Buf (Elt F) (xvM.view.loc (c : Thread nD τ))) :
    held c (xslot s) X = (((c : Thread nD τ).loc cc0_scratch0) ↦[SX s]{fullShare} X : sProp 𝕄) :=
  congrArg (fun S => (_ ↦[S]{fullShare} X : sProp 𝕄)) (xslot_set s)
theorem xv_held (X : Buf (Elt F) (xvM.view.loc (c : Thread nD τ))) :
    held c xvM X = (((c : Thread nD τ).loc cc0_scratch0) ↦{fullShare} X : sProp 𝕄) :=
  congrArg (fun S => (_ ↦[S]{fullShare} X : sProp 𝕄)) (View.set_whole _)
theorem xv_split (X : Buf (Elt F) (xvM.view.loc (c : Thread nD τ))) :
    bigSep Finset.univ (fun j => held c (xslot j) X) = held c xvM X := by
  rw [xv_held, Ring.pointsTo_blocks (Ix := Unit) (Name := ℕ) (U := UU nD τ) (Lvl := ℕ) (ℓ := (c : Thread nD τ).loc cc0_scratch0) SX SX_disjoint SX_cover X]
  exact bigSep_congr fun j _ => xslot_held c j X

theorem xIdle_back (j : Fin 64) : iprop(held c (xslot j) (xGlue (F := F) c Xin) ∗ held c (xsrc j) (xAt c Xin j) ∗ cellP c (xsem j)) ⊢ xIdle c Xin j := by
  unfold xIdle
  iintro ⟨H1, H2, H3⟩
  isplitl [H2]; · iexact H2
  isplitl [H1]; · iexists _; iexact H1
  iexact H3
theorem xs_back : iprop(held c xvM (xGlue (F := F) c Xin) ∗ xBack c Xin) ⊢ bigSep Finset.univ (xIdle c Xin) := by
  rw [← xv_split]
  unfold xBack
  rw [← bigSep_sep']
  exact bigSep_mono fun j _ => xIdle_back c Xin j

/-! ## The loop -/

theorem pushes_run {P : sProp (MT nD τ sig Unit (Elt F) ℕ (UU nD τ) ℕ)} (u : Mxu F) (r : Fin 2) (v : Tile16 F) (h : ∀ q, u.reg q r = none) {β : Type}
    {k : Mxu F → Prog (TpuEff nD τ sig (Elt F) Λ₀ .tc) β} {Q : β → sProp (MT nD τ sig Unit (Elt F) ℕ (UU nD τ) ℕ)}
    (hk : P ⊢ wp frame (wpE (defs₀ (F := F)) 𝒱₀ (c : Thread nD τ) none) Set.univ (k (m4 u r v)) Q) :
    P ⊢ wp frame (wpE (defs₀ (F := F)) 𝒱₀ (c : Thread nD τ) none) Set.univ (u.pushRhs 0 r false v >>= fun u1 => u1.pushRhs 1 r false v >>= k) Q := by
  rw [wp_bind]
  refine (Keeps.push (c := c) (P := P) (q := 0) (v := v) (h 0)).trans (wp_mono _ _ _ fun u1 => ?_)
  iintro ⟨%h1, H⟩
  rw [wp_bind]
  iapply ((Keeps.push (c := c) (P := P) (q := 1) (v := v) (by rw [h1, Mxu.reg_pushed_ne _ _ _ _ _ _ _ (by simp)]; exact h 1)).trans (wp_mono _ _ _ fun u2 => (show iprop(⌜u2 = u1.pushed 1 r false v⌝ ∗ P) ⊢ wp frame (wpE (defs₀ (F := F)) 𝒱₀ (c : Thread nD τ) none) Set.univ (k u2) Q from by
    iintro ⟨%h2, H⟩
    subst h1 h2
    iapply hk; iexact H)))
  iexact H

theorem cleared_reg (q r : Fin 2) : (cleared : Mxu F).reg q r = none := Mxu.reg_init (q := q) (r := r)

/-- What stands when the last read of the registers is done. -/
def lastly : sProp 𝕄 :=
  iprop(owesP (F := F) c ∗ held c xvM (xGlue c Xin) ∗ held c arg0 g0 ∗ held c arg1 g1 ∗ held c arg2 g2 ∗ wHave c W 24 ∗ eHave c E 24 ∗ wNext c W 25 ∗ wFree c 26 ∗ wHomes c W (others 25)
    ∗ eNext c E 25 ∗ eFree c 26 ∗ eHomes c E (others 25) ∗ yDone c (yOut c arg0 arg1 Xin W E g0 g1) ∗ yFree c 0 ∗ yFree c 1 ∗ hFly c (hOut c arg0 arg2 g0 g2))

theorem mainly_run (u0 : Mxu F) (hu0 : u0 = cleared) :
    iprop(held c xvM (xGlue c Xin) ∗ held c arg0 g0 ∗ held c arg1 g1 ∗ held c arg2 g2 ∗ wHave c W 0 ∗ eHave c E 0 ∗ yPend c (yOut c arg0 arg1 Xin W E g0 g1) 0 ∗ guardPre c W E (yOut c arg0 arg1 Xin W E g0 g1) 0
      ∗ (∃ f, held c hoM f) ∗ (∃ f, held c hM f) ∗ cellP (F := F) c (hsem 0))
    ⊢ wp frame (wpE (defs₀ (F := F)) 𝒱₀ (c : Thread nD τ) none) Set.univ (k0_part184 (F := F) arg0 harg0 arg1 harg1 arg2 harg2 xM (Memref.isWhole_whole _) wM (Memref.isWhole_whole _) eM (Memref.isWhole_whole _) yM (Memref.isWhole_whole _) hM (Memref.isWhole_whole _) xvM (Memref.isWhole_whole _) wvM (Memref.isWhole_whole _) evM (Memref.isWhole_whole _) yvM (Memref.isWhole_whole _) hoM (Memref.isWhole_whole _) cc0_scratch5 cc0_scratch6 cc0_scratch7 cc0_scratch8 cc0_scratch9 u0 (scaleBits (F := F) (firstE c E)) (codes (firstW c W)) (scaleRow (scaleBits (F := F) (firstE c E)) 0 (slicesRow 0)) (extractStridedSlice S32x256 ![0, 0] (codes (firstW c W)) (slicesBand 0))
        >>= fun u => rest188 (F := F) arg0 harg0 arg1 harg1 arg2 harg2 u)
      (fun u => iprop(⌜u.Drained⌝ ∗ lastly c arg0 arg1 arg2 Xin W E g0 g1 g2)) := by
  rw [wp_bind, loop_eq]
  refine pushes_run c u0 0 _ (fun q => by rw [hu0]; exact cleared_reg q 0) ?_
  rw [wp_bind]
  iintro ⟨Hx, H0, H1, H2, Hw, He, Hyp, Hpre, Ho, Hhm, Hch⟩
  iapply (Scf.wp_for Idealize.ShloMosaic.frame (wpE (defs₀ (F := F)) 𝒱₀ (c : Thread nD τ) none) Set.univ k0_t1_loop.lb k0_t1_loop.ub k0_t1_loop.st k0_t1_ok _ _
    (fun k u => loopI c arg0 arg1 arg2 W E (xGlue c Xin) g0 g1 g2 k u)
    (fun t u => loop_step c arg0 harg0 arg1 harg1 arg2 harg2 W E (xGlue c Xin) g0 g1 g2 t u _ _ _ _ _))
  isplitl [Hx H0 H1 H2 Hw He Hyp Hpre]
  · unfold loopI
    isplitr
    · ipureintro
      rw [hu0]
      exact good_start _ _
    isplitl [Hx]; · iexact Hx
    isplitl [H0]; · iexact H0
    isplitl [H1]; · iexact H1
    isplitl [H2]; · iexact H2
    isplitl [Hw]; · iexact Hw
    isplitl [He]; · iexact He
    isplitl [Hyp]; · iexact Hyp
    iexact Hpre
  iintro %u
  rw [show Scf.trips k0_t1_loop.lb k0_t1_loop.ub k0_t1_loop.st = 24 from trips_eq]
  unfold loopI guardPre
  iintro ⟨%hg, Hx, H0, H1, H2, Hw, He, Hyp, HW, Hwn, Hwf, Hwh, Hen, Hef, Heh, Hyf, Hyh⟩
  rw [wp_ret]
  imodintro
  have hg' : Good u 0 1 (sRaw c arg2 g2) true (sumsB c arg0 arg1 W E (xGlue c Xin) g0 g1 23) := hg
  iapply (wp_wand_r Idealize.ShloMosaic.frame (wpE (defs₀ (F := F)) 𝒱₀ (c : Thread nD τ) none) Set.univ)
  isplitl [HW Hyf Hyh Hyp H0 Ho Hhm Hch]
  · iapply (rest_run c arg0 harg0 arg1 harg1 arg2 harg2 g0 g2 (yOut c arg0 arg1 Xin W E g0 g1) _ rfl u hg')
    isplitl [HW]; · iexact HW
    isplitl [Hyf]; · iexact Hyf
    isplitl [Hyh]; · iexact Hyh
    isplitl [Hyp]; · iexact Hyp
    isplitl [H0]; · iexact H0
    isplitl [Ho]; · iexact Ho
    isplitl [Hhm] <;> iassumption
  iintro %u' ⟨%hd, HW, H0, Hyd, Hy0, Hy1, Hhf⟩
  isplitr; · ipureintro; exact hd
  unfold lastly
  isplitl [HW]; · iexact HW
  isplitl [Hx]; · iexact Hx
  isplitl [H0]; · iexact H0
  isplitl [H1]; · iexact H1
  isplitl [H2]; · iexact H2
  isplitl [Hw]; · iexact Hw
  isplitl [He]; · iexact He
  isplitl [Hwn]; · iexact Hwn
  isplitl [Hwf]; · iexact Hwf
  isplitl [Hwh]; · iexact Hwh
  isplitl [Hen]; · iexact Hen
  isplitl [Hef]; · iexact Hef
  isplitl [Heh]; · iexact Heh
  isplitl [Hyd]; · iexact Hyd
  isplitl [Hy0]; · iexact Hy0
  isplitl [Hy1] <;> iassumption

theorem wFree0_of : wHave (F := F) c W 24 ⊢ wFree c 0 := by
  unfold wHave wFree
  rw [show Ring.sl 3 24 = Ring.sl 3 0 from rfl]
  iintro ⟨⟨%f, %hf, H⟩, Hc⟩
  isplitl [H]; · iexists f; iexact H
  iexact Hc
theorem eFree0_of : eHave (F := F) c E 24 ⊢ eFree c 0 := by
  unfold eHave eFree
  rw [show Ring.sl 3 24 = Ring.sl 3 0 from rfl]
  iintro ⟨⟨%f, %hf, H⟩, Hc⟩
  isplitl [H]; · iexists f; iexact H
  iexact Hc
theorem wFree1_of : wNext (F := F) c W 25 = wFree c 1 := (if_neg (by decide)).trans rfl
theorem eFree1_of : eNext (F := F) c E 25 = eFree c 1 := (if_neg (by decide)).trans rfl

/-- Everything back in its place. -/
theorem home_run : iprop((held c xvM (xGlue (F := F) c Xin) ∗ xBack c Xin) ∗ wHave c W 24 ∗ eHave c E 24 ∗ wNext c W 25 ∗ wFree c 26 ∗ wHomes c W (others 25)
    ∗ eNext c E 25 ∗ eFree c 26 ∗ eHomes c E (others 25)) ⊢ iprop(bigSep Finset.univ (xIdle c Xin) ∗ wHomes c W Finset.univ ∗ eHomes c E Finset.univ
    ∗ (wFree c 0 ∗ wFree c 1 ∗ wFree c 2) ∗ (eFree c 0 ∗ eFree c 1 ∗ eFree c 2)) := by
  rw [wFree1_of, eFree1_of, show others 25 = Finset.univ from others_end]
  iintro ⟨Hx, Hw0, He0, Hw1, Hw2, Hwh, He1, He2, Heh⟩
  isplitl [Hx]; · iapply (xs_back c Xin); iexact Hx
  isplitl [Hwh]; · iexact Hwh
  isplitl [Heh]; · iexact Heh
  isplitl [Hw0 Hw1 Hw2]
  · isplitl [Hw0]; · iapply (wFree0_of c W); iexact Hw0
    isplitl [Hw1]; · iexact Hw1
    iapply (entails_of_eq (show wFree (F := F) c 26 = wFree c 2 from rfl)); iexact Hw2
  isplitl [He0]; · iapply (eFree0_of c E); iexact He0
  isplitl [He1]; · iexact He1
  iapply (entails_of_eq (show eFree (F := F) c 26 = eFree c 2 from rfl)); iexact He2

set_option maxRecDepth 65536 in
/-- THE BODY. -/
theorem body_run :
    iprop(owesP (F := F) c ∗ bodyIn c Xin W E ∗ held c arg0 g0 ∗ held c arg1 g1 ∗ held c arg2 g2)
    ⊢ wp frame (wpE (defs₀ (F := F)) 𝒱₀ (c : Thread nD τ) none) Set.univ (cc0_multi_lora_mxfp4 (F := F) arg0 harg0 arg1 harg1 arg2 harg2 xM (Memref.isWhole_whole _) wM (Memref.isWhole_whole _) eM (Memref.isWhole_whole _) yM (Memref.isWhole_whole _) hM (Memref.isWhole_whole _) xvM (Memref.isWhole_whole _) wvM (Memref.isWhole_whole _) evM (Memref.isWhole_whole _) yvM (Memref.isWhole_whole _) hoM (Memref.isWhole_whole _) cc0_scratch5 cc0_scratch6 cc0_scratch7 cc0_scratch8 cc0_scratch9)
      (fun _ => iprop(owesP (F := F) c ∗ bodyEnd c Xin W E (yOut c arg0 arg1 Xin W E g0 g1) (hOut c arg0 arg2 g0 g2) ∗ held c arg0 g0 ∗ held c arg1 g1 ∗ held c arg2 g2)) := by
  rw [cc0_eq, wp_bind, front_eq]
  unfold bodyIn
  iintro ⟨HW, ⟨Hx, Hw, He, Hwf, Hef, Hyf, Hyb, Ho, Hhm, Hch⟩, H0, H1, H2⟩
  iapply (wp_wand_r Idealize.ShloMosaic.frame (wpE (defs₀ (F := F)) 𝒱₀ (c : Thread nD τ) none) Set.univ)
  isplitl [HW Hx Hw He Hwf Hef Hyf Hyb Ho Hhm Hch H0 H1 H2]
  · iapply (front_run c Xin W E (xv_split c _) (fun e w => k0_part184 (F := F) arg0 harg0 arg1 harg1 arg2 harg2 xM (Memref.isWhole_whole _) wM (Memref.isWhole_whole _) eM (Memref.isWhole_whole _) yM (Memref.isWhole_whole _) hM (Memref.isWhole_whole _) xvM (Memref.isWhole_whole _) wvM (Memref.isWhole_whole _) evM (Memref.isWhole_whole _) yvM (Memref.isWhole_whole _) hoM (Memref.isWhole_whole _) cc0_scratch5 cc0_scratch6 cc0_scratch7 cc0_scratch8 cc0_scratch9 cleared (scaleBits (F := F) e) (codes w) (scaleRow (scaleBits (F := F) e) 0 (slicesRow 0)) (extractStridedSlice S32x256 ![0, 0] (codes w) (slicesBand 0))
        >>= fun u => rest188 (F := F) arg0 harg0 arg1 harg1 arg2 harg2 u)
      (Q := fun u => iprop((⌜u.Drained⌝ ∗ lastly c arg0 arg1 arg2 Xin W E g0 g1 g2) ∗ xBack c Xin))
      (R := iprop((held c arg0 g0 ∗ held c arg1 g1 ∗ held c arg2 g2) ∗ (∃ f, held c hoM f) ∗ (∃ f, held c hM f) ∗ cellP (F := F) c (hsem 0)))
      (yOut c arg0 arg1 Xin W E g0 g1) (by
        iintro ⟨⟨Hx, Hb, Hw, He, Hyp, Hpre⟩, ⟨H0, H1, H2⟩, Ho, Hhm, Hch⟩
        iapply (wp_wand_r Idealize.ShloMosaic.frame (wpE (defs₀ (F := F)) 𝒱₀ (c : Thread nD τ) none) Set.univ)
        isplitr [Hb]
        · iapply (mainly_run c arg0 harg0 arg1 harg1 arg2 harg2 Xin W E g0 g1 g2 cleared rfl)
          isplitl [Hx]; · iexact Hx
          isplitl [H0]; · iexact H0
          isplitl [H1]; · iexact H1
          isplitl [H2]; · iexact H2
          isplitl [Hw]; · iexact Hw
          isplitl [He]; · iexact He
          isplitl [Hyp]; · iexact Hyp
          isplitl [Hpre]; · iexact Hpre
          isplitl [Ho]; · iexact Ho
          isplitl [Hhm] <;> iassumption
        iintro %u H
        isplitl [H]; · iexact H
        iexact Hb))
    isplitr [Ho Hhm Hch H0 H1 H2]
    · isplitl [HW]; · iexact HW
      isplitl [Hx]; · iexact Hx
      isplitl [Hw]; · iexact Hw
      isplitl [He]; · iexact He
      isplitl [Hwf]; · iexact Hwf
      isplitl [Hef]; · iexact Hef
      isplitl [Hyf] <;> iassumption
    isplitl [H0 H1 H2]
    · isplitl [H0]; · iexact H0
      isplitl [H1] <;> iassumption
    isplitl [Ho]; · iexact Ho
    isplitl [Hhm] <;> iassumption
  unfold lastly hFly
  iintro %u ⟨⟨%hd, HW, Hx, H0, H1, H2, Hw, He, Hwn, Hwf, Hwh, Hen, Hef, Heh, Hyd, Hy0, Hy1, ⟨%g, %hg, Hhf⟩⟩, Hb⟩
  rw [wp_bind]
  iapply (wp_wand_r Idealize.ShloMosaic.frame (wpE (defs₀ (F := F)) 𝒱₀ (c : Thread nD τ) none) Set.univ)
  isplitl [HW Hhf]
  · iapply (waitH_run c g); isplitl [HW] <;> iassumption
  iintro %_ ⟨HW, Ho, Hch, ⟨%fh, %hfh, Hhm⟩⟩
  iapply (Mxu.wp_exit hd)
  rw [wp_ret]
  imodintro
  isplitl [HW]; · iexact HW
  ihave HH := (home_run c Xin W E) $$ [Hx Hb Hw He Hwn Hwf Hwh Hen Hef Heh]
  · isplitl [Hx Hb]
    · isplitl [Hx] <;> iassumption
    isplitl [Hw]; · iexact Hw
    isplitl [He]; · iexact He
    isplitl [Hwn]; · iexact Hwn
    isplitl [Hwf]; · iexact Hwf
    isplitl [Hwh]; · iexact Hwh
    isplitl [Hen]; · iexact Hen
    isplitl [Hef] <;> iassumption
  icases HH with ⟨HX, HWh, HEh, Hws, Hes⟩
  isplitl [HX HWh HEh Hws Hes Hyd Hy0 Hy1 Ho Hhm Hch]
  · unfold bodyEnd
    isplitl [HX]; · iexact HX
    isplitl [HWh]; · iexact HWh
    isplitl [HEh]; · iexact HEh
    isplitl [Hws]; · iexact Hws
    isplitl [Hes]; · iexact Hes
    isplitl [Hy0 Hy1]
    · isplitl [Hy0] <;> iassumption
    isplitl [Hyd]; · iexact Hyd
    isplitl [Ho]; · iexists g; iexact Ho
    isplitl [Hhm]
    · iexists fh
      isplitr; · ipureintro; exact hfh.trans hg
      iexact Hhm
    iexact Hch
  isplitl [H0]; · iexact H0
  isplitl [H1] <;> iassumption
end Whole

end Cert.Kernel.Prf
-- ==== Proof.KPieces.lean ====
/- The kernel's arrays and buffers as the pieces the body moves. -/
module

public import proofs.«01_k».proof.Proof.KWhole

@[expose] public section

noncomputable section

namespace Cert.Kernel.Prf

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Pieces
variable (c : Dev nD)
theorem xslot_any (s : Fin 64) (X : Buf (Elt F) (xvM.view.loc (c : Thread nD τ))) : held c (xslot s) X ⊢ iprop(∃ f, held (F := F) c (xslot s) f) := by
  iintro H; iexists X; iexact H
theorem xslot_anyr (s : Fin 64) : iprop(∃ f, held (F := F) c (xslot s) f) ⊢ (iprop(∃ f : Buf (Elt F) ((c : Thread nD τ).loc cc0_scratch0), ((c : Thread nD τ).loc cc0_scratch0) ↦[SX s]{fullShare} f) : sProp 𝕄) := by
  iintro ⟨%f, H⟩; iexists f; iapply (entails_of_eq (xslot_held c s f)); iexact H
theorem xslot_split1 (f : Buf (Elt F) ((c : Thread nD τ).loc cc0_scratch0)) : (((c : Thread nD τ).loc cc0_scratch0) ↦{fullShare} f : sProp 𝕄)
    ⊢ bigSep Finset.univ (fun s => iprop(∃ f, held (F := F) c (xslot s) f)) := by
  refine (entails_of_eq (Ring.pointsTo_blocks (Ix := Unit) (Name := ℕ) (U := UU nD τ) (Lvl := ℕ) (q := fullShare) (ℓ := (c : Thread nD τ).loc cc0_scratch0) SX SX_disjoint SX_cover f)).trans ?_
  exact bigSep_mono fun s _ => (entails_of_eq (xslot_held c s f).symm).trans (xslot_any c s f)
theorem xslot_split : (iprop(∃ f : Buf (Elt F) ((c : Thread nD τ).loc cc0_scratch0), ((c : Thread nD τ).loc cc0_scratch0) ↦{fullShare} f) : sProp 𝕄)
    ⊢ bigSep Finset.univ (fun s => iprop(∃ f, held (F := F) c (xslot s) f)) := by
  iintro ⟨%f, H⟩
  iapply (xslot_split1 c f); iexact H
theorem xslot_join [Nonempty (Buf (Elt F) ((c : Thread nD τ).loc cc0_scratch0))] : bigSep Finset.univ (fun s => iprop(∃ f, held (F := F) c (xslot s) f))
    ⊢ (iprop(∃ f : Buf (Elt F) ((c : Thread nD τ).loc cc0_scratch0), ((c : Thread nD τ).loc cc0_scratch0) ↦{fullShare} f) : sProp 𝕄) :=
  (bigSep_mono fun s _ => xslot_anyr c s).trans (Ring.pointsTo_blocks_join_exists (ℓ := (c : Thread nD τ).loc cc0_scratch0) SX SX_disjoint SX_cover (Classical.arbitrary _))

/-! ## cc0_scratch1 in its slots -/
abbrev SW (s : Fin 3) : Finset S3x2048x256.Idx := (Rect.unit (s := S3x2048x256) (slotOff s) S1x2048x256.size (wslot_inb s)).set
omit [FloatOps F] in
theorem wslot_set (s : Fin 3) : (wslot s).view.set = SW s := (View.set_reshape _ _).trans (View.set_slice_whole _ _)
theorem mem_SW (s : Fin 3) (y : S3x2048x256.Idx) : y ∈ SW s ↔ (y 0).val = s.val := by
  rw [Rect.mem_set_unit]
  have h1 : (y 1).val < 2048 := (y 1).isLt
  have h2 : (y 2).val < 256 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2048; omega
    · show 0 ≤ (y 2).val ∧ (y 2).val < 0 + 256; omega
theorem SW_disjoint : ∀ s s' : Fin 3, s ≠ s' → Disjoint (SW s) (SW s') := by
  intro s s' hne; rw [Finset.disjoint_left]; intro y hy hy'; rw [mem_SW] at hy hy'; exact hne (Fin.ext (hy.symm.trans hy'))
theorem SW_cover : (Finset.univ : Finset (Fin 3)).biUnion SW = Finset.univ := by
  ext y; simp only [Finset.mem_biUnion, Finset.mem_univ, true_and, iff_true]; exact ⟨(y 0).cast (by decide), by rw [mem_SW]; rfl⟩
theorem wslot_held (s : Fin 3) (X : Buf (Elt F) (wvM.view.loc (c : Thread nD τ))) :
    held c (wslot s) X = (((c : Thread nD τ).loc cc0_scratch1) ↦[SW s]{fullShare} X : sProp 𝕄) :=
  congrArg (fun S => (_ ↦[S]{fullShare} X : sProp 𝕄)) (wslot_set s)
theorem wslot_any (s : Fin 3) (X : Buf (Elt F) (wvM.view.loc (c : Thread nD τ))) : held c (wslot s) X ⊢ iprop(∃ f, held (F := F) c (wslot s) f) := by
  iintro H; iexists X; iexact H
theorem wslot_anyr (s : Fin 3) : iprop(∃ f, held (F := F) c (wslot s) f) ⊢ (iprop(∃ f : Buf (Elt F) ((c : Thread nD τ).loc cc0_scratch1), ((c : Thread nD τ).loc cc0_scratch1) ↦[SW s]{fullShare} f) : sProp 𝕄) := by
  iintro ⟨%f, H⟩; iexists f; iapply (entails_of_eq (wslot_held c s f)); iexact H
theorem wslot_split1 (f : Buf (Elt F) ((c : Thread nD τ).loc cc0_scratch1)) : (((c : Thread nD τ).loc cc0_scratch1) ↦{fullShare} f : sProp 𝕄)
    ⊢ bigSep Finset.univ (fun s => iprop(∃ f, held (F := F) c (wslot s) f)) := by
  refine (entails_of_eq (Ring.pointsTo_blocks (Ix := Unit) (Name := ℕ) (U := UU nD τ) (Lvl := ℕ) (q := fullShare) (ℓ := (c : Thread nD τ).loc cc0_scratch1) SW SW_disjoint SW_cover f)).trans ?_
  exact bigSep_mono fun s _ => (entails_of_eq (wslot_held c s f).symm).trans (wslot_any c s f)
theorem wslot_split : (iprop(∃ f : Buf (Elt F) ((c : Thread nD τ).loc cc0_scratch1), ((c : Thread nD τ).loc cc0_scratch1) ↦{fullShare} f) : sProp 𝕄)
    ⊢ bigSep Finset.univ (fun s => iprop(∃ f, held (F := F) c (wslot s) f)) := by
  iintro ⟨%f, H⟩
  iapply (wslot_split1 c f); iexact H
theorem wslot_join [Nonempty (Buf (Elt F) ((c : Thread nD τ).loc cc0_scratch1))] : bigSep Finset.univ (fun s => iprop(∃ f, held (F := F) c (wslot s) f))
    ⊢ (iprop(∃ f : Buf (Elt F) ((c : Thread nD τ).loc cc0_scratch1), ((c : Thread nD τ).loc cc0_scratch1) ↦{fullShare} f) : sProp 𝕄) :=
  (bigSep_mono fun s _ => wslot_anyr c s).trans (Ring.pointsTo_blocks_join_exists (ℓ := (c : Thread nD τ).loc cc0_scratch1) SW SW_disjoint SW_cover (Classical.arbitrary _))

/-! ## cc0_scratch2 in its slots -/
abbrev SE (s : Fin 3) : Finset S3x512x256.Idx := (Rect.unit (s := S3x512x256) (slotOff s) S1x512x256.size (eslot_inb s)).set
omit [FloatOps F] in
theorem eslot_set (s : Fin 3) : (eslot s).view.set = SE s := (View.set_reshape _ _).trans (View.set_slice_whole _ _)
theorem mem_SE (s : Fin 3) (y : S3x512x256.Idx) : y ∈ SE s ↔ (y 0).val = s.val := by
  rw [Rect.mem_set_unit]
  have h1 : (y 1).val < 512 := (y 1).isLt
  have h2 : (y 2).val < 256 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 256; omega
theorem SE_disjoint : ∀ s s' : Fin 3, s ≠ s' → Disjoint (SE s) (SE s') := by
  intro s s' hne; rw [Finset.disjoint_left]; intro y hy hy'; rw [mem_SE] at hy hy'; exact hne (Fin.ext (hy.symm.trans hy'))
theorem SE_cover : (Finset.univ : Finset (Fin 3)).biUnion SE = Finset.univ := by
  ext y; simp only [Finset.mem_biUnion, Finset.mem_univ, true_and, iff_true]; exact ⟨(y 0).cast (by decide), by rw [mem_SE]; rfl⟩
theorem eslot_held (s : Fin 3) (X : Buf (Elt F) (evM.view.loc (c : Thread nD τ))) :
    held c (eslot s) X = (((c : Thread nD τ).loc cc0_scratch2) ↦[SE s]{fullShare} X : sProp 𝕄) :=
  congrArg (fun S => (_ ↦[S]{fullShare} X : sProp 𝕄)) (eslot_set s)
theorem eslot_any (s : Fin 3) (X : Buf (Elt F) (evM.view.loc (c : Thread nD τ))) : held c (eslot s) X ⊢ iprop(∃ f, held (F := F) c (eslot s) f) := by
  iintro H; iexists X; iexact H
theorem eslot_anyr (s : Fin 3) : iprop(∃ f, held (F := F) c (eslot s) f) ⊢ (iprop(∃ f : Buf (Elt F) ((c : Thread nD τ).loc cc0_scratch2), ((c : Thread nD τ).loc cc0_scratch2) ↦[SE s]{fullShare} f) : sProp 𝕄) := by
  iintro ⟨%f, H⟩; iexists f; iapply (entails_of_eq (eslot_held c s f)); iexact H
theorem eslot_split1 (f : Buf (Elt F) ((c : Thread nD τ).loc cc0_scratch2)) : (((c : Thread nD τ).loc cc0_scratch2) ↦{fullShare} f : sProp 𝕄)
    ⊢ bigSep Finset.univ (fun s => iprop(∃ f, held (F := F) c (eslot s) f)) := by
  refine (entails_of_eq (Ring.pointsTo_blocks (Ix := Unit) (Name := ℕ) (U := UU nD τ) (Lvl := ℕ) (q := fullShare) (ℓ := (c : Thread nD τ).loc cc0_scratch2) SE SE_disjoint SE_cover f)).trans ?_
  exact bigSep_mono fun s _ => (entails_of_eq (eslot_held c s f).symm).trans (eslot_any c s f)
theorem eslot_split : (iprop(∃ f : Buf (Elt F) ((c : Thread nD τ).loc cc0_scratch2), ((c : Thread nD τ).loc cc0_scratch2) ↦{fullShare} f) : sProp 𝕄)
    ⊢ bigSep Finset.univ (fun s => iprop(∃ f, held (F := F) c (eslot s) f)) := by
  iintro ⟨%f, H⟩
  iapply (eslot_split1 c f); iexact H
theorem eslot_join [Nonempty (Buf (Elt F) ((c : Thread nD τ).loc cc0_scratch2))] : bigSep Finset.univ (fun s => iprop(∃ f, held (F := F) c (eslot s) f))
    ⊢ (iprop(∃ f : Buf (Elt F) ((c : Thread nD τ).loc cc0_scratch2), ((c : Thread nD τ).loc cc0_scratch2) ↦{fullShare} f) : sProp 𝕄) :=
  (bigSep_mono fun s _ => eslot_anyr c s).trans (Ring.pointsTo_blocks_join_exists (ℓ := (c : Thread nD τ).loc cc0_scratch2) SE SE_disjoint SE_cover (Classical.arbitrary _))

/-! ## cc0_scratch3 in its slots -/
abbrev SY (s : Fin 2) : Finset S2x1536x256.Idx := (Rect.unit (s := S2x1536x256) (slotOff s) S1x1536x256.size (yslot_inb s)).set
omit [FloatOps F] in
theorem yslot_set (s : Fin 2) : (yslot s).view.set = SY s := (View.set_reshape _ _).trans (View.set_slice_whole _ _)
theorem mem_SY (s : Fin 2) (y : S2x1536x256.Idx) : y ∈ SY s ↔ (y 0).val = s.val := by
  rw [Rect.mem_set_unit]
  have h1 : (y 1).val < 1536 := (y 1).isLt
  have h2 : (y 2).val < 256 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1536; omega
    · show 0 ≤ (y 2).val ∧ (y 2).val < 0 + 256; omega
theorem SY_disjoint : ∀ s s' : Fin 2, s ≠ s' → Disjoint (SY s) (SY s') := by
  intro s s' hne; rw [Finset.disjoint_left]; intro y hy hy'; rw [mem_SY] at hy hy'; exact hne (Fin.ext (hy.symm.trans hy'))
theorem SY_cover : (Finset.univ : Finset (Fin 2)).biUnion SY = Finset.univ := by
  ext y; simp only [Finset.mem_biUnion, Finset.mem_univ, true_and, iff_true]; exact ⟨(y 0).cast (by decide), by rw [mem_SY]; rfl⟩
theorem yslot_held (s : Fin 2) (X : Buf (Elt F) (yvM.view.loc (c : Thread nD τ))) :
    held c (yslot s) X = (((c : Thread nD τ).loc cc0_scratch3) ↦[SY s]{fullShare} X : sProp 𝕄) :=
  congrArg (fun S => (_ ↦[S]{fullShare} X : sProp 𝕄)) (yslot_set s)
theorem yslot_any (s : Fin 2) (X : Buf (Elt F) (yvM.view.loc (c : Thread nD τ))) : held c (yslot s) X ⊢ iprop(∃ f, held (F := F) c (yslot s) f) := by
  iintro H; iexists X; iexact H
theorem yslot_anyr (s : Fin 2) : iprop(∃ f, held (F := F) c (yslot s) f) ⊢ (iprop(∃ f : Buf (Elt F) ((c : Thread nD τ).loc cc0_scratch3), ((c : Thread nD τ).loc cc0_scratch3) ↦[SY s]{fullShare} f) : sProp 𝕄) := by
  iintro ⟨%f, H⟩; iexists f; iapply (entails_of_eq (yslot_held c s f)); iexact H
theorem yslot_split1 (f : Buf (Elt F) ((c : Thread nD τ).loc cc0_scratch3)) : (((c : Thread nD τ).loc cc0_scratch3) ↦{fullShare} f : sProp 𝕄)
    ⊢ bigSep Finset.univ (fun s => iprop(∃ f, held (F := F) c (yslot s) f)) := by
  refine (entails_of_eq (Ring.pointsTo_blocks (Ix := Unit) (Name := ℕ) (U := UU nD τ) (Lvl := ℕ) (q := fullShare) (ℓ := (c : Thread nD τ).loc cc0_scratch3) SY SY_disjoint SY_cover f)).trans ?_
  exact bigSep_mono fun s _ => (entails_of_eq (yslot_held c s f).symm).trans (yslot_any c s f)
theorem yslot_split : (iprop(∃ f : Buf (Elt F) ((c : Thread nD τ).loc cc0_scratch3), ((c : Thread nD τ).loc cc0_scratch3) ↦{fullShare} f) : sProp 𝕄)
    ⊢ bigSep Finset.univ (fun s => iprop(∃ f, held (F := F) c (yslot s) f)) := by
  iintro ⟨%f, H⟩
  iapply (yslot_split1 c f); iexact H
theorem yslot_join [Nonempty (Buf (Elt F) ((c : Thread nD τ).loc cc0_scratch3))] : bigSep Finset.univ (fun s => iprop(∃ f, held (F := F) c (yslot s) f))
    ⊢ (iprop(∃ f : Buf (Elt F) ((c : Thread nD τ).loc cc0_scratch3), ((c : Thread nD τ).loc cc0_scratch3) ↦{fullShare} f) : sProp 𝕄) :=
  (bigSep_mono fun s _ => yslot_anyr c s).trans (Ring.pointsTo_blocks_join_exists (ℓ := (c : Thread nD τ).loc cc0_scratch3) SY SY_disjoint SY_cover (Classical.arbitrary _))

/-! ## main_v0 in its blocks of columns -/
abbrev CX (s : Fin 64) : Finset S1536x16384.Idx := (Rect.unit (s := S1536x16384) (xcolOff s) S1536x256.size (xsrc_inb s)).set
omit [FloatOps F] in
theorem xsrc_set (s : Fin 64) : (xsrc s).view.set = CX s := View.set_slice_whole _ _
theorem mem_CX (s : Fin 64) (y : S1536x16384.Idx) : y ∈ CX s ↔ (y 1).val / 256 = s.val := by
  rw [Rect.mem_set_unit]
  have h1 : (y 0).val < 1536 := (y 0).isLt
  constructor
  · intro H; have a0 : 256 * s.val ≤ (y 1).val ∧ (y 1).val < 256 * s.val + 256 := H 1; omega
  · intro H i; fin_cases i
    · show 0 ≤ (y 0).val ∧ (y 0).val < 0 + 1536; omega
    · show 256 * s.val ≤ (y 1).val ∧ (y 1).val < 256 * s.val + 256; omega
theorem CX_disjoint : ∀ s s' : Fin 64, s ≠ s' → Disjoint (CX s) (CX s') := by
  intro s s' hne; rw [Finset.disjoint_left]; intro y hy hy'; rw [mem_CX] at hy hy'; exact hne (Fin.ext (hy.symm.trans hy'))
theorem CX_cover : (Finset.univ : Finset (Fin 64)).biUnion CX = Finset.univ := by
  ext y; simp only [Finset.mem_biUnion, Finset.mem_univ, true_and, iff_true]
  exact ⟨⟨(y 1).val / 256, by have : (y 1).val < 16384 := (y 1).isLt; omega⟩, by rw [mem_CX]⟩
theorem xsrc_held (s : Fin 64) (X : Buf (Elt F) (xM.view.loc (c : Thread nD τ))) :
    held c (xsrc s) X = (((c : Thread nD τ).loc main_v0) ↦[CX s]{fullShare} X : sProp 𝕄) :=
  congrArg (fun S => (_ ↦[S]{fullShare} X : sProp 𝕄)) (xsrc_set s)
theorem xsrc_blocks (X : Buf (Elt F) (xM.view.loc (c : Thread nD τ))) :
    (((c : Thread nD τ).loc main_v0) ↦{fullShare} X : sProp 𝕄) = bigSep Finset.univ (fun s => held c (xsrc s) X) := by
  rw [Ring.pointsTo_blocks (Ix := Unit) (Name := ℕ) (U := UU nD τ) (Lvl := ℕ) (ℓ := (c : Thread nD τ).loc main_v0) CX CX_disjoint CX_cover X]
  exact bigSep_congr fun j _ => (xsrc_held c j X).symm

/-! ## main_arg1 in its blocks of columns -/
abbrev CW (s : Fin 24) : Finset S2048x6144.Idx := (Rect.unit (s := S2048x6144) (colOff s) S2048x256.size (wblk_inb s)).set
omit [FloatOps F] in
theorem wblk_set (s : Fin 24) : (wblk s).view.set = CW s := View.set_slice_whole _ _
theorem mem_CW (s : Fin 24) (y : S2048x6144.Idx) : y ∈ CW s ↔ (y 1).val / 256 = s.val := by
  rw [Rect.mem_set_unit]
  have h1 : (y 0).val < 2048 := (y 0).isLt
  constructor
  · intro H; have a0 : 256 * s.val ≤ (y 1).val ∧ (y 1).val < 256 * s.val + 256 := H 1; omega
  · intro H i; fin_cases i
    · show 0 ≤ (y 0).val ∧ (y 0).val < 0 + 2048; omega
    · show 256 * s.val ≤ (y 1).val ∧ (y 1).val < 256 * s.val + 256; omega
theorem CW_disjoint : ∀ s s' : Fin 24, s ≠ s' → Disjoint (CW s) (CW s') := by
  intro s s' hne; rw [Finset.disjoint_left]; intro y hy hy'; rw [mem_CW] at hy hy'; exact hne (Fin.ext (hy.symm.trans hy'))
theorem CW_cover : (Finset.univ : Finset (Fin 24)).biUnion CW = Finset.univ := by
  ext y; simp only [Finset.mem_biUnion, Finset.mem_univ, true_and, iff_true]
  exact ⟨⟨(y 1).val / 256, by have : (y 1).val < 6144 := (y 1).isLt; omega⟩, by rw [mem_CW]⟩
theorem wblk_held (s : Fin 24) (X : Buf (Elt F) (wM.view.loc (c : Thread nD τ))) :
    held c (wblk s) X = (((c : Thread nD τ).loc main_arg1) ↦[CW s]{fullShare} X : sProp 𝕄) :=
  congrArg (fun S => (_ ↦[S]{fullShare} X : sProp 𝕄)) (wblk_set s)
theorem wblk_blocks (X : Buf (Elt F) (wM.view.loc (c : Thread nD τ))) :
    (((c : Thread nD τ).loc main_arg1) ↦{fullShare} X : sProp 𝕄) = bigSep Finset.univ (fun s => held c (wblk s) X) := by
  rw [Ring.pointsTo_blocks (Ix := Unit) (Name := ℕ) (U := UU nD τ) (Lvl := ℕ) (ℓ := (c : Thread nD τ).loc main_arg1) CW CW_disjoint CW_cover X]
  exact bigSep_congr fun j _ => (wblk_held c j X).symm

/-! ## main_arg2 in its blocks of columns -/
abbrev CE (s : Fin 24) : Finset S512x6144.Idx := (Rect.unit (s := S512x6144) (colOff s) S512x256.size (eblk_inb s)).set
omit [FloatOps F] in
theorem eblk_set (s : Fin 24) : (eblk s).view.set = CE s := View.set_slice_whole _ _
theorem mem_CE (s : Fin 24) (y : S512x6144.Idx) : y ∈ CE s ↔ (y 1).val / 256 = s.val := by
  rw [Rect.mem_set_unit]
  have h1 : (y 0).val < 512 := (y 0).isLt
  constructor
  · intro H; have a0 : 256 * s.val ≤ (y 1).val ∧ (y 1).val < 256 * s.val + 256 := H 1; omega
  · intro H i; fin_cases i
    · show 0 ≤ (y 0).val ∧ (y 0).val < 0 + 512; omega
    · show 256 * s.val ≤ (y 1).val ∧ (y 1).val < 256 * s.val + 256; omega
theorem CE_disjoint : ∀ s s' : Fin 24, s ≠ s' → Disjoint (CE s) (CE s') := by
  intro s s' hne; rw [Finset.disjoint_left]; intro y hy hy'; rw [mem_CE] at hy hy'; exact hne (Fin.ext (hy.symm.trans hy'))
theorem CE_cover : (Finset.univ : Finset (Fin 24)).biUnion CE = Finset.univ := by
  ext y; simp only [Finset.mem_biUnion, Finset.mem_univ, true_and, iff_true]
  exact ⟨⟨(y 1).val / 256, by have : (y 1).val < 6144 := (y 1).isLt; omega⟩, by rw [mem_CE]⟩
theorem eblk_held (s : Fin 24) (X : Buf (Elt F) (eM.view.loc (c : Thread nD τ))) :
    held c (eblk s) X = (((c : Thread nD τ).loc main_arg2) ↦[CE s]{fullShare} X : sProp 𝕄) :=
  congrArg (fun S => (_ ↦[S]{fullShare} X : sProp 𝕄)) (eblk_set s)
theorem eblk_blocks (X : Buf (Elt F) (eM.view.loc (c : Thread nD τ))) :
    (((c : Thread nD τ).loc main_arg2) ↦{fullShare} X : sProp 𝕄) = bigSep Finset.univ (fun s => held c (eblk s) X) := by
  rw [Ring.pointsTo_blocks (Ix := Unit) (Name := ℕ) (U := UU nD τ) (Lvl := ℕ) (ℓ := (c : Thread nD τ).loc main_arg2) CE CE_disjoint CE_cover X]
  exact bigSep_congr fun j _ => (eblk_held c j X).symm

/-! ## main_v1_0 in its blocks of columns -/
abbrev CY (s : Fin 24) : Finset S1536x6144.Idx := (Rect.unit (s := S1536x6144) (colOff s) S1536x256.size (yblk_inb s)).set
omit [FloatOps F] in
theorem yblk_set (s : Fin 24) : (yblk s).view.set = CY s := View.set_slice_whole _ _
theorem mem_CY (s : Fin 24) (y : S1536x6144.Idx) : y ∈ CY s ↔ (y 1).val / 256 = s.val := by
  rw [Rect.mem_set_unit]
  have h1 : (y 0).val < 1536 := (y 0).isLt
  constructor
  · intro H; have a0 : 256 * s.val ≤ (y 1).val ∧ (y 1).val < 256 * s.val + 256 := H 1; omega
  · intro H i; fin_cases i
    · show 0 ≤ (y 0).val ∧ (y 0).val < 0 + 1536; omega
    · show 256 * s.val ≤ (y 1).val ∧ (y 1).val < 256 * s.val + 256; omega
theorem CY_disjoint : ∀ s s' : Fin 24, s ≠ s' → Disjoint (CY s) (CY s') := by
  intro s s' hne; rw [Finset.disjoint_left]; intro y hy hy'; rw [mem_CY] at hy hy'; exact hne (Fin.ext (hy.symm.trans hy'))
theorem CY_cover : (Finset.univ : Finset (Fin 24)).biUnion CY = Finset.univ := by
  ext y; simp only [Finset.mem_biUnion, Finset.mem_univ, true_and, iff_true]
  exact ⟨⟨(y 1).val / 256, by have : (y 1).val < 6144 := (y 1).isLt; omega⟩, by rw [mem_CY]⟩
theorem yblk_held (s : Fin 24) (X : Buf (Elt F) (yM.view.loc (c : Thread nD τ))) :
    held c (yblk s) X = (((c : Thread nD τ).loc main_v1_0) ↦[CY s]{fullShare} X : sProp 𝕄) :=
  congrArg (fun S => (_ ↦[S]{fullShare} X : sProp 𝕄)) (yblk_set s)
theorem yblk_blocks (X : Buf (Elt F) (yM.view.loc (c : Thread nD τ))) :
    (((c : Thread nD τ).loc main_v1_0) ↦{fullShare} X : sProp 𝕄) = bigSep Finset.univ (fun s => held c (yblk s) X) := by
  rw [Ring.pointsTo_blocks (Ix := Unit) (Name := ℕ) (U := UU nD τ) (Lvl := ℕ) (ℓ := (c : Thread nD τ).loc main_v1_0) CY CY_disjoint CY_cover X]
  exact bigSep_congr fun j _ => (yblk_held c j X).symm

theorem yblk_any (s : Fin 24) (X : Buf (Elt F) (yM.view.loc (c : Thread nD τ))) : held c (yblk s) X ⊢ iprop(∃ f, held (F := F) c (yblk s) f) := by
  iintro H; iexists X; iexact H
/-- The whole result, from its blocks. -/
def yGlue (Y : Fin 24 → S1536x256.Idx → Elt F .bf16) : Buf (Elt F) (yM.view.loc (c : Thread nD τ)) := fun i : S1536x6144.Idx =>
  Y ⟨(i 1).val / 256, by have : (i 1).val < 6144 := (i 1).isLt; omega⟩
    (Fin.cons (i 0) (Fin.cons (⟨(i 1).val % 256, Nat.mod_lt _ (by decide)⟩ : Fin 256) (fun x => x.elim0)))
theorem read_yGlue (Y : Fin 24 → S1536x256.Idx → Elt F .bf16) (b : Fin 24) : (yblk b).view.read (Elt F) (yGlue c Y) = Y b := by
  funext i
  have e : (yblk b).view.read (Elt F) (yGlue c Y) i = yGlue c Y ((Rect.unit (s := S1536x6144) (colOff b) S1536x256.size (yblk_inb b)).emb i) := rfl
  have h1 : (i 1).val < 256 := (i 1).isLt
  have hv : ((Rect.unit (s := S1536x6144) (colOff b) S1536x256.size (yblk_inb b)).emb i 1).val = 256 * b.val + 1 * (i 1).val := rfl
  rw [e]; unfold yGlue
  have hb : (⟨((Rect.unit (s := S1536x6144) (colOff b) S1536x256.size (yblk_inb b)).emb i 1).val / 256, by rw [hv]; omega⟩ : Fin 24) = b := Fin.ext (by show _ / 256 = _; rw [hv]; omega)
  refine (congrFun (congrArg Y hb) _).trans (congrArg (Y b) ?_)
  refine Shape.idx_ext₂ ?_ ?_
  · show 0 + 1 * (i 0).val = (i 0).val; omega
  · show ((Rect.unit (s := S1536x6144) (colOff b) S1536x256.size (yblk_inb b)).emb i 1).val % 256 = (i 1).val
    rw [hv]; omega
theorem yHome_glue (Y : Fin 24 → S1536x256.Idx → Elt F .bf16) (b : Fin 24) : yHome c Y b True ⊢ held c (yblk b) (yGlue c Y) := by
  unfold yHome
  iintro ⟨%f, %hf, H⟩
  iapply (entails_of_eq (held_congr c (yblk b) ((hf trivial).trans (read_yGlue c Y b).symm))); iexact H
theorem yDone_join (Y : Fin 24 → S1536x256.Idx → Elt F .bf16) : yDone c Y ⊢ (((c : Thread nD τ).loc main_v1_0) ↦{fullShare} yGlue c Y : sProp 𝕄) := by
  unfold yDone
  rw [yblk_blocks]
  exact bigSep_mono fun b _ => yHome_glue c Y b
theorem yStart_split (X : Buf (Elt F) ((c : Thread nD τ).loc main_v1_0)) : (((c : Thread nD τ).loc main_v1_0) ↦{fullShare} X : sProp 𝕄)
    ⊢ bigSep Finset.univ (fun s => iprop(∃ f, held (F := F) c (yblk s) f)) := by
  refine (entails_of_eq (yblk_blocks c X)).trans ?_
  exact bigSep_mono fun s _ => yblk_any c s X

/-! ## The semaphores -/

abbrev Cells : Type := Fin 64 ⊕ Fin 3 ⊕ Fin 3 ⊕ Fin 2 ⊕ Fin 1
def osem : Cells → SemLoc sig
  | .inl k => .dma (xsem k).sem
  | .inr (.inl s) => .dma (wsem s).sem
  | .inr (.inr (.inl s)) => .dma (esem s).sem
  | .inr (.inr (.inr (.inl s))) => .dma (ysem s).sem
  | .inr (.inr (.inr (.inr s))) => .dma (hsem s).sem
theorem ownSemFacts : Pipeline.OwnSemFacts spec0 osem := by decide +kernel

theorem bigSep_sum {α β : Type} [Fintype α] [Fintype β] [DecidableEq α] [DecidableEq β] {M : Type} [URA M] (Φ : α ⊕ β → sProp M) :
    bigSep Finset.univ Φ = iprop(bigSep Finset.univ (fun a => Φ (.inl a)) ∗ bigSep Finset.univ (fun b => Φ (.inr b))) := by
  have e : (Finset.univ : Finset (α ⊕ β)) = Finset.univ.map ⟨Sum.inl, Sum.inl_injective⟩ ∪ Finset.univ.map ⟨Sum.inr, Sum.inr_injective⟩ := by
    ext x; cases x <;> simp
  have hd : Disjoint (Finset.univ.map (⟨Sum.inl, Sum.inl_injective⟩ : α ↪ α ⊕ β)) (Finset.univ.map (⟨Sum.inr, Sum.inr_injective⟩ : β ↪ α ⊕ β)) := by
    rw [Finset.disjoint_left]; intro x hx hy
    simp only [Finset.mem_map, Finset.mem_univ, true_and, Function.Embedding.coeFn_mk] at hx hy
    obtain ⟨a, rfl⟩ := hx; obtain ⟨b, hb⟩ := hy; cases hb
  rw [e, bigSep_union hd, bigSep_map, bigSep_map]; rfl

theorem three {M : Type} [URA M] (Φ : Fin 3 → sProp M) : bigSep Finset.univ Φ = iprop(Φ 0 ∗ Φ 1 ∗ Φ 2) :=
  bigSep_univ_eq_bigSepL [(0 : Fin 3), 1, 2] (by decide) (by decide) Φ
theorem two {M : Type} [URA M] (Φ : Fin 2 → sProp M) : bigSep Finset.univ Φ = iprop(Φ 0 ∗ Φ 1) :=
  bigSep_univ_eq_bigSepL [(0 : Fin 2), 1] (by decide) (by decide) Φ
theorem one {M : Type} [URA M] (Φ : Fin 1 → sProp M) : bigSep Finset.univ Φ = Φ 0 := bigSep_univ_of_subsingleton 0

theorem ownSems0_eq : (Pipeline.ownSems0 (Ix := Unit) (Name := ℕ) (U := UU nD τ) (Lvl := ℕ) (Val := Elt F) (τ := τ) osem c : sProp 𝕄)
    = iprop(bigSep Finset.univ (fun k => cellP (F := F) c (xsem k)) ∗ (cellP c (wsem 0) ∗ cellP c (wsem 1) ∗ cellP c (wsem 2))
      ∗ (cellP c (esem 0) ∗ cellP c (esem 1) ∗ cellP c (esem 2)) ∗ (cellP c (ysem 0) ∗ cellP c (ysem 1)) ∗ cellP c (hsem 0)) := by
  unfold Pipeline.ownSems0
  rw [bigSep_sum, bigSep_sum, bigSep_sum, bigSep_sum, three, three, two, one]
  rfl
end Pieces

end Cert.Kernel.Prf
-- ==== Proof.KLaunch.lean ====
/- The kernel's launch: from any memory it ends with its arguments unchanged, its results the body's and every semaphore at zero. -/
module

public import proofs.«01_k».proof.Proof.KPieces
public import proofs.«01_k».proof.Proof.Gen.Kernel.Frame
public import Idealize.ShloMosaic.Adequacy
public import Idealize.ShloMosaic.Init

@[expose] public section

noncomputable section

namespace Cert.Kernel.Prf

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

open Idealize.ShloMosaic.Pipeline (Dat Cfg Window BodyObligation cellOf)

section Launch
variable (m : (ℓ : Loc nD τ sig) → Buf (Elt F) ℓ) (ρ : Dev nD → PrngReg)

abbrev st0 (t : Fin cfg0.N) : Memref sig .tc .vmem S1536x256 .bf16 := win0_0.stage (cfg0.slots t 0)
abbrev st1 (t : Fin cfg0.N) : Memref sig .tc .vmem S256x6144 .bf16 := win0_1.stage (cfg0.slots t 1)
abbrev st2 (t : Fin cfg0.N) : Memref sig .tc .vmem S256x256 .bf16 := win0_2.stage (cfg0.slots t 2)
abbrev hst0 (t : Fin cfg0.N) : (st0 t).IsWhole := hstage0_0 0
abbrev hst1 (t : Fin cfg0.N) : (st1 t).IsWhole := hstage0_1 0
abbrev hst2 (t : Fin cfg0.N) : (st2 t).IsWhole := hstage0_2 0

/-- The contents the body runs at. -/
abbrev XV (c : Dev nD) : Buf (Elt F) ((c : Thread nD τ).loc main_v0) := V m c main_v0
abbrev WV (c : Dev nD) : Buf (Elt F) ((c : Thread nD τ).loc main_arg1) := V m c main_arg1
abbrev EV (c : Dev nD) : Buf (Elt F) ((c : Thread nD τ).loc main_arg2) := V m c main_arg2
def G0 (c : Dev nD) (t : Fin cfg0.N) : Buf (Elt F) ((st0 t).view.loc (c : Thread nD τ)) := (st0 t).view.rep (iblk m c 0 t)
def G1 (c : Dev nD) (t : Fin cfg0.N) : Buf (Elt F) ((st1 t).view.loc (c : Thread nD τ)) := (st1 t).view.rep (iblk m c 1 t)
def G2 (c : Dev nD) (t : Fin cfg0.N) : Buf (Elt F) ((st2 t).view.loc (c : Thread nD τ)) := (st2 t).view.rep (iblk m c 2 t)
/-- The results. -/
def YR (c : Dev nD) : Fin 24 → S1536x256.Idx → Elt F .bf16 := yOut c (st0 t0_0) (st1 t0_0) (XV m c) (WV m c) (EV m c) (G0 m c t0_0) (G1 m c t0_0)
def HR (c : Dev nD) : S1536x80.Idx → Elt F .bf16 := hOut c (st0 t0_0) (st2 t0_0) (G0 m c t0_0) (G2 m c t0_0)

def Φ0 (c : Dev nD) : sProp 𝕄 := bodyIn c (XV m c) (WV m c) (EV m c)
def Φ1 (c : Dev nD) : sProp 𝕄 := bodyEnd c (XV m c) (WV m c) (EV m c) (YR m c) (HR m c)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ k := if k.val = 0 then Φ0 m c else Φ1 m c
  q _ := fullShare
  owed _ := 0

theorem Φ_zero (c : Dev nD) (k : Fin (cfg0.N + 1)) (h : k.val = 0) : (dats m 0 c).Φ k = Φ0 m c := by dsimp only [dats]; rw [if_pos h]
theorem Φ_one (c : Dev nD) (k : Fin (cfg0.N + 1)) (h : k.val ≠ 0) : (dats m 0 c).Φ k = Φ1 m c := by dsimp only [dats]; rw [if_neg h]
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem before_w0 (c : Dev nD) (t : Fin cfg0.N) (d) : (dats m 0 c).before 0 t d = iblk m c 0 t :=
  ((dats m 0 c).before_in_eq_fetched 0 rfl (fun _ => rfl) (fun _ _ _ => rfl) (fun t => by rw [after_w0]; unfold Dat.blockOf iblk; rfl) t d).trans
    (by unfold Dat.fetched Dat.blockOf iblk; rfl)
theorem before_w1 (c : Dev nD) (t : Fin cfg0.N) (d) : (dats m 0 c).before 1 t d = iblk m c 1 t :=
  ((dats m 0 c).before_in_eq_fetched 1 rfl (fun _ => rfl) (fun _ _ _ => rfl) (fun t => by rw [after_w1]; unfold Dat.blockOf iblk; rfl) t d).trans
    (by unfold Dat.fetched Dat.blockOf iblk; rfl)
theorem before_w2 (c : Dev nD) (t : Fin cfg0.N) (d) : (dats m 0 c).before 2 t d = iblk m c 2 t :=
  ((dats m 0 c).before_in_eq_fetched 2 rfl (fun _ => rfl) (fun _ _ _ => rfl) (fun t => by rw [after_w2]; unfold Dat.blockOf iblk; rfl) t d).trans
    (by unfold Dat.fetched Dat.blockOf iblk; rfl)

abbrev bodyG (arg0 : Memref sig .tc .vmem S1536x256 .bf16) (harg0 : arg0.IsWhole) (arg1 : Memref sig .tc .vmem S256x6144 .bf16) (harg1 : arg1.IsWhole)
    (arg2 : Memref sig .tc .vmem S256x256 .bf16) (harg2 : arg2.IsWhole) : Prog (TpuEff nD τ sig (Elt F) Λ₀ .tc) PUnit :=
  cc0_multi_lora_mxfp4 (F := F) arg0 harg0 arg1 harg1 arg2 harg2 xM (Memref.isWhole_whole _) wM (Memref.isWhole_whole _) eM (Memref.isWhole_whole _) yM (Memref.isWhole_whole _) hM (Memref.isWhole_whole _) xvM (Memref.isWhole_whole _) wvM (Memref.isWhole_whole _) evM (Memref.isWhole_whole _) yvM (Memref.isWhole_whole _) hoM (Memref.isWhole_whole _) cc0_scratch5 cc0_scratch6 cc0_scratch7 cc0_scratch8 cc0_scratch9
theorem defs_tc : (defs₀ (F := F)) .tc cfg0.body
    = fun a => bodyG (win0_0.stage (a.2 0)) (hstage0_0 0) (win0_1.stage (a.2 1)) (hstage0_1 0) (win0_2.stage (a.2 2)) (hstage0_2 0) := rfl
theorem prog_eq (t : Fin cfg0.N) : (defs₀ (F := F)) .tc cfg0.body (cfg0.bodyArgs t (cfg0.slots t)) = bodyG (st0 t) (hst0 t) (st1 t) (hst1 t) (st2 t) (hst2 t) :=
  (congrFun defs_tc _).trans rfl

set_option backward.isDefEq.respectTransparency.types false in
theorem body_obligation (c : Dev nD) : BodyObligation (dats (F := F) m 0 c) (defs₀ (F := F)) 𝒱₀ () Set.univ := fun t => by
  rw [fin_N0 t]
  rw [bigSep_W0, bigSep_W0]
  dsimp only
  simp only [before_w0, before_w1, before_w2, after_w0, after_w1, after_w2]
  rw [Φ_zero m c _ rfl, Φ_one m c _ (by decide)]
  unfold Dat.owesAt Pipeline.owesWithin
  rw [show (dats m 0 c).owed (t0_0 : Fin cfg0.N).castSucc = 0 from rfl, show (dats m 0 c).owed (t0_0 : Fin cfg0.N).succ = 0 from rfl]
  unfold owns Φ0 Φ1
  iintro ⟨HΦ, ⟨%W, -, HW⟩, ⟨%d0, %g0, %hg0, H0⟩, ⟨%d1, %g1, %hg1, H1⟩, ⟨%d2, %g2, %hg2, H2⟩⟩
  ihave H0' := (pointsTo_rep_entails (c : Thread nD τ) (st0 t0_0) g0 fullShare) $$ H0
  ihave H1' := (pointsTo_rep_entails (c : Thread nD τ) (st1 t0_0) g1 fullShare) $$ H1
  ihave H2' := (pointsTo_rep_entails (c : Thread nD τ) (st2 t0_0) g2 fullShare) $$ H2
  rw [hg0, hg1, hg2]
  sl_rw [prog_eq t0_0]
  iapply (wp_wand_r Idealize.ShloMosaic.frame (wpE (defs₀ (F := F)) 𝒱₀ (c : Thread nD τ) none) Set.univ)
  isplitl [HΦ HW H0' H1' H2']
  · iapply (body_run c (st0 t0_0) (hst0 t0_0) (st1 t0_0) (hst1 t0_0) (st2 t0_0) (hst2 t0_0) (XV m c) (WV m c) (EV m c) (G0 m c t0_0) (G1 m c t0_0) (G2 m c t0_0))
    isplitl [HW]; · iexists W; iexact HW
    isplitl [HΦ]; · iexact HΦ
    isplitl [H0']; · iexact H0'
    isplitl [H1']; · iexact H1'
    iexact H2'
  iintro %r ⟨⟨%W', HW⟩, HΦ, H0, H1, H2⟩
  isplitl [HΦ]; · iexact HΦ
  isplitl [HW]
  · iexists W'; isplitr; · ipureintro; exact fun _ _ => Or.inl trivial
    iexact HW
  isplitl [H0]
  · iexists _; isplitr; · ipureintro; exact View.read_rep _ _
    iexact H0
  isplitl [H1]
  · iexists _; isplitr; · ipureintro; exact View.read_rep _ _
    iexact H1
  iexists _; isplitr; · ipureintro; exact View.read_rep _ _
  iexact H2

/-! ## The run -/

theorem xIdle_mk (c : Dev nD) (Xin : Buf (Elt F) ((c : Thread nD τ).loc main_v0)) :
    bigSep Finset.univ (xIdle c Xin) = iprop(bigSep Finset.univ (fun j => held c (xsrc j) (xAt c Xin j)) ∗ bigSep Finset.univ (fun j => iprop(∃ f, held (F := F) c (xslot j) f)) ∗ bigSep Finset.univ (fun j => cellP (F := F) c (xsem j))) := by
  rw [← bigSep_sep', ← bigSep_sep']; rfl

/-- The arrays the body reads, at their contents, and the kernel's own semaphores. -/
def ins (c : Dev nD) : sProp 𝕄 :=
  iprop((((c : Thread nD τ).loc main_arg1) ↦{fullShare} WV m c) ∗ (((c : Thread nD τ).loc main_arg2) ↦{fullShare} EV m c) ∗ (((c : Thread nD τ).loc main_v0) ↦{fullShare} XV m c))
def intoΦ (c : Dev nD) : sProp 𝕄 :=
  iprop(ins m c ∗ (((c : Thread nD τ).loc main_v1_0) ↦{fullShare} V m c main_v1_0) ∗ (((c : Thread nD τ).loc main_v1_1) ↦{fullShare} V m c main_v1_1) ∗ Pipeline.ownSems0 osem c)
def outOfΦ (c : Dev nD) : sProp 𝕄 :=
  iprop(ins m c ∗ (((c : Thread nD τ).loc main_v1_0) ↦{fullShare} yGlue c (YR m c)) ∗ ∃ f : Buf (Elt F) ((c : Thread nD τ).loc main_v1_1), ⌜hM.view.read (Elt F) f = HR m c⌝ ∗ (((c : Thread nD τ).loc main_v1_1) ↦{fullShare} f))
def kept (c : Dev nD) : sProp 𝕄 := ((c : Thread nD τ).loc main_arg0) ↦{fullShare} V m c main_arg0

theorem hM_held (c : Dev nD) (X : Buf (Elt F) (hM.view.loc (c : Thread nD τ))) : held c hM X = (((c : Thread nD τ).loc main_v1_1) ↦{fullShare} X : sProp 𝕄) :=
  congrArg (fun S => (_ ↦[S]{fullShare} X : sProp 𝕄)) (View.set_whole _)
theorem hoM_held (c : Dev nD) (X : Buf (Elt F) (hoM.view.loc (c : Thread nD τ))) : held c hoM X = (((c : Thread nD τ).loc cc0_scratch4) ↦{fullShare} X : sProp 𝕄) :=
  congrArg (fun S => (_ ↦[S]{fullShare} X : sProp 𝕄)) (View.set_whole _)

theorem into_in (c : Dev nD) : iprop(intoΦ m c ∗ Pipeline.scopedRest (Ix := Unit) (Name := ℕ) (U := UU nD τ) (Lvl := ℕ) (Val := Elt F) spec0 c) ⊢ Φ0 m c := by
  rw [scopedRest0_eq]
  unfold intoΦ ins Φ0 bodyIn
  rw [ownSems0_eq, xIdle_mk]
  iintro ⟨⟨⟨HW, HE, HX⟩, HY, HH, HCx, ⟨Hcw0, Hcw1, Hcw2⟩, ⟨Hce0, Hce1, Hce2⟩, ⟨Hcy0, Hcy1⟩, Hch⟩, S0, S1, S2, S3, ⟨%fo, S4⟩⟩
  ihave S0' := (xslot_split c) $$ S0
  ihave S1' := ((wslot_split c).trans (entails_of_eq (three _))) $$ S1
  icases S1' with ⟨Hw0, Hw1, Hw2⟩
  ihave S2' := ((eslot_split c).trans (entails_of_eq (three _))) $$ S2
  icases S2' with ⟨He0, He1, He2⟩
  ihave S3' := ((yslot_split c).trans (entails_of_eq (two _))) $$ S3
  icases S3' with ⟨Hy0, Hy1⟩
  isplitl [HX S0' HCx]
  · isplitl [HX]; · iapply (entails_of_eq (xsrc_blocks c (XV m c))); iexact HX
    isplitl [S0'] <;> iassumption
  isplitl [HW]; · iapply (entails_of_eq ((wblk_blocks c (WV m c)).trans (show _ = wHomes c (WV m c) Finset.univ from rfl))); iexact HW
  isplitl [HE]; · iapply (entails_of_eq ((eblk_blocks c (EV m c)).trans (show _ = eHomes c (EV m c) Finset.univ from rfl))); iexact HE
  isplitl [Hw0 Hw1 Hw2 Hcw0 Hcw1 Hcw2]
  · isplitl [Hw0 Hcw0]
    · iapply (entails_of_eq (show iprop((∃ f, held (F := F) c (wslot 0) f) ∗ cellP c (wsem 0)) = wFree c 0 from rfl)); isplitl [Hw0] <;> iassumption
    isplitl [Hw1 Hcw1]
    · iapply (entails_of_eq (show iprop((∃ f, held (F := F) c (wslot 1) f) ∗ cellP c (wsem 1)) = wFree c 1 from rfl)); isplitl [Hw1] <;> iassumption
    iapply (entails_of_eq (show iprop((∃ f, held (F := F) c (wslot 2) f) ∗ cellP c (wsem 2)) = wFree c 2 from rfl)); isplitl [Hw2] <;> iassumption
  isplitl [He0 He1 He2 Hce0 Hce1 Hce2]
  · isplitl [He0 Hce0]
    · iapply (entails_of_eq (show iprop((∃ f, held (F := F) c (eslot 0) f) ∗ cellP c (esem 0)) = eFree c 0 from rfl)); isplitl [He0] <;> iassumption
    isplitl [He1 Hce1]
    · iapply (entails_of_eq (show iprop((∃ f, held (F := F) c (eslot 1) f) ∗ cellP c (esem 1)) = eFree c 1 from rfl)); isplitl [He1] <;> iassumption
    iapply (entails_of_eq (show iprop((∃ f, held (F := F) c (eslot 2) f) ∗ cellP c (esem 2)) = eFree c 2 from rfl)); isplitl [He2] <;> iassumption
  isplitl [Hy0 Hy1 Hcy0 Hcy1]
  · isplitl [Hy0 Hcy0]
    · iapply (entails_of_eq (show iprop((∃ f, held (F := F) c (yslot 0) f) ∗ cellP c (ysem 0)) = yFree c 0 from rfl)); isplitl [Hy0] <;> iassumption
    iapply (entails_of_eq (show iprop((∃ f, held (F := F) c (yslot 1) f) ∗ cellP c (ysem 1)) = yFree c 1 from rfl)); isplitl [Hy1] <;> iassumption
  isplitl [HY]; · iapply (yStart_split c (V m c main_v1_0)); iexact HY
  isplitl [S4]; · iexists fo; iapply (entails_of_eq (hoM_held c fo).symm); iexact S4
  isplitl [HH]; · iexists (V m c main_v1_1); iapply (entails_of_eq (hM_held c (V m c main_v1_1)).symm); iexact HH
  iexact Hch

theorem out_of (c : Dev nD) : Φ1 m c ⊢ iprop(outOfΦ m c ∗ Pipeline.ownSems0 osem c ∗ Pipeline.scopedRest (Ix := Unit) (Name := ℕ) (U := UU nD τ) (Lvl := ℕ) (Val := Elt F) spec0 c) := by
  rw [scopedRest0_eq, ownSems0_eq]
  unfold outOfΦ ins Φ1 bodyEnd wFree eFree yFree
  rw [xIdle_mk]
  iintro ⟨⟨HX, S0, HCx⟩, HW, HE, ⟨⟨Hw0, Hcw0⟩, ⟨Hw1, Hcw1⟩, ⟨Hw2, Hcw2⟩⟩, ⟨⟨He0, Hce0⟩, ⟨He1, Hce1⟩, ⟨He2, Hce2⟩⟩, ⟨⟨Hy0, Hcy0⟩, ⟨Hy1, Hcy1⟩⟩, HY, ⟨%fo, Ho⟩, ⟨%fh, %hfh, HH⟩, Hch⟩
  isplitl [HX HW HE HY HH]
  · isplitl [HX HW HE]
    · isplitl [HW]; · iapply (entails_of_eq ((wblk_blocks c (WV m c)).trans (show _ = wHomes c (WV m c) Finset.univ from rfl)).symm); iexact HW
      isplitl [HE]; · iapply (entails_of_eq ((eblk_blocks c (EV m c)).trans (show _ = eHomes c (EV m c) Finset.univ from rfl)).symm); iexact HE
      iapply (entails_of_eq (xsrc_blocks c (XV m c)).symm); iexact HX
    isplitl [HY]; · iapply (yDone_join c (YR m c)); iexact HY
    iexists fh
    isplitr; · ipureintro; exact hfh
    iapply (entails_of_eq (hM_held c fh)); iexact HH
  isplitl [HCx Hcw0 Hcw1 Hcw2 Hce0 Hce1 Hce2 Hcy0 Hcy1 Hch]
  · isplitl [HCx]; · iexact HCx
    isplitl [Hcw0 Hcw1 Hcw2]
    · isplitl [Hcw0]; · iexact Hcw0
      isplitl [Hcw1]; · iexact Hcw1
      iexact Hcw2
    isplitl [Hce0 Hce1 Hce2]
    · isplitl [Hce0]; · iexact Hce0
      isplitl [Hce1]; · iexact Hce1
      iexact Hce2
    isplitl [Hcy0 Hcy1]
    · isplitl [Hcy0]; · iexact Hcy0
      iexact Hcy1
    iexact Hch
  isplitl [S0]; · iapply (xslot_join c); iexact S0
  isplitl [Hw0 Hw1 Hw2]
  · iapply ((entails_of_eq (three (fun s => iprop(∃ f, held (F := F) c (wslot s) f))).symm).trans (wslot_join c))
    isplitl [Hw0]; · iexact Hw0
    isplitl [Hw1]; · iexact Hw1
    iexact Hw2
  isplitl [He0 He1 He2]
  · iapply ((entails_of_eq (three (fun s => iprop(∃ f, held (F := F) c (eslot s) f))).symm).trans (eslot_join c))
    isplitl [He0]; · iexact He0
    isplitl [He1]; · iexact He1
    iexact He2
  isplitl [Hy0 Hy1]
  · iapply ((entails_of_eq (two (fun s => iprop(∃ f, held (F := F) c (yslot s) f))).symm).trans (yslot_join c))
    isplitl [Hy0]; · iexact Hy0
    iexact Hy1
  iexists fo; iapply (entails_of_eq (hoM_held c fo)); iexact Ho

def u₀ : UU nD τ := (initOf (Pipeline.cells cfgs cellOf_inj) (Pipeline.launchToks cfgs cellOf_inj), 1)

/-- What holds at the end of core `c`'s arrays that the pipeline does not stage. -/
def QY (c : Dev nD) (s : MemSt nD τ sig (Elt F)) : Prop :=
  s.mem ((c : Thread nD τ).loc main_arg0) = V m c main_arg0 ∧ s.mem ((c : Thread nD τ).loc main_arg1) = V m c main_arg1 ∧ s.mem ((c : Thread nD τ).loc main_arg2) = V m c main_arg2
    ∧ s.mem ((c : Thread nD τ).loc main_v1_0) = yGlue c (YR m c) ∧ hM.view.read (Elt F) (s.mem ((c : Thread nD τ).loc main_v1_1)) = HR m c
def QC : PUnit × MemSt nD τ sig (Elt F) → Prop := fun r =>
  ∀ c : Dev nD, (∀ w : Fin cfg0.W, r.2.mem ((cfg0.win w).arr.view.loc (c : Thread nD τ)) = (dats m 0 c).arrAt w cfg0.N) ∧ QY m c r.2

theorem read_out (c : Dev nD) (s' : Phys nD τ sig (Elt F)) : iprop(outOfΦ m c ∗ kept m c ∗ SI s') ⊢ |={Set.univ}=> iprop(⌜QY m c s'.mem⌝ ∗ SI s') := by
  unfold outOfΦ ins kept
  iintro ⟨⟨⟨HW, HE, -⟩, HY, ⟨%fh, %hfh, HH⟩⟩, H0, HSI⟩
  icombine HSI HW gives %hw
  icombine HSI HE gives %he
  icombine HSI HY gives %hy
  icombine HSI HH gives %hh
  icombine HSI H0 gives %h0
  imodintro
  isplitr
  · ipureintro
    exact ⟨Buf.eq_of_forall_mem_univ h0, Buf.eq_of_forall_mem_univ hw, Buf.eq_of_forall_mem_univ he, Buf.eq_of_forall_mem_univ hy,
      (congrArg (hM.view.read (Elt F)) (Buf.eq_of_forall_mem_univ hh)).trans hfh⟩
  iexact HSI

theorem hmain' : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The run. -/
theorem run_main : θ_run defs (onTc (τ := τ) (main (F := F))) ⟨m, fun _ => 0, ρ⟩ (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmain' m)
    (hA := fun _ _ => rfl)
    (X := intoΦ m) (Y := outOfΦ m) (Z := kept m)
    (hX := fun c => by
      rw [unscopedRest0_eq]
      unfold intoΦ ins kept
      iintro ⟨⟨H0, H1, H2, H3, H4, H5⟩, HS, -, -, -⟩; imodintro
      isplitr [H0]; swap
      · iexact H0
      isplitl [H1 H2 H3]
      · isplitl [H1]; · iexact H1
        isplitl [H2]; · iexact H2
        iexact H3
      isplitl [H4]; · iexact H4
      isplitl [H5]; · iexact H5
      iexact HS)
    (hin := fun c => by
      rw [Φ_zero m c _ rfl]
      exact into_in m c)
    (hout := fun c => by
      rw [Φ_one m c _ (by decide)]
      exact out_of m c)
    (QY := QY m)
    (hY := fun c s' => read_out m c s')
    (hQ := fun _ hh hz => ⟨hh, hz⟩)

/-- The run's end, in terms of the memory it began with. -/
theorem run_ends : θ_run defs (onTc (τ := τ) (main (F := F))) ⟨m, fun _ => 0, ρ⟩ (fun r => (∀ c : Dev nD,
      (r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.mem ((c : Thread nD τ).loc main_v1_0) = yGlue c (YR m c) ∧ hM.view.read (Elt F) (r.2.mem ((c : Thread nD τ).loc main_v1_1)) = HR m c)
      ∧ r.2.sem = fun _ => 0) :=
  (θ_run defs _ _).mono (fun r (hh : QC m r ∧ r.2.sem = fun _ => 0) => ⟨fun c =>
    have h := hh.1 c
    ⟨⟨h.2.1.trans (V_main_arg0 m c), h.2.2.1.trans (V_main_arg1 m c), h.2.2.2.1.trans (V_main_arg2 m c),
      (h.1 0).trans (((dats m 0 c).arrAt_in 0 rfl _).trans (V_main_arg3 m c)),
      (h.1 1).trans (((dats m 0 c).arrAt_in 1 rfl _).trans (V_main_arg4 m c)),
      (h.1 2).trans (((dats m 0 c).arrAt_in 2 rfl _).trans (V_main_arg5 m c))⟩, h.2.2.2.2⟩, hh.2⟩) (run_main m ρ)
end Launch

end Cert.Kernel.Prf
-- ==== Proof.Frames.lean ====
/- The frames: each program runs to its end, leaves its arguments as they were and its semaphores at zero. -/
module

public import proofs.«01_k».proof.Defs
public import proofs.«01_k».proof.Proof.KLaunch
public import proofs.«01_k».proof.Proof.Gen.ReferenceIdeal
public import proofs.«01_k».proof.Proof.Gen.ReferenceIdeal.Run

@[expose] public section

noncomputable section

namespace Cert.Proof

open Idealize.ShloMosaic Idealize.SL.Sem

/-- The kernel's frame. -/
theorem frame_k : Cert.quiescent_Kernel (hKernel := Cert.Kernel.Gen.facts) := by
  intro m g _
  exact (θ_run Cert.Kernel.defs _ _).mono (fun r h => ⟨fun c => (h.1 c).1, h.2⟩) (Cert.Kernel.Prf.run_ends m g)

/-- The idealized kernel's frame. -/
theorem frame_ki : Cert.quiescent_KernelIdeal (hKernelIdeal := Cert.KernelIdeal.Gen.facts) := by
  intro m g _
  exact (θ_run Cert.KernelIdeal.defs _ _).mono (fun r h => ⟨fun c => (h.1 c).1, h.2⟩) (Cert.KernelIdeal.Prf.run_ends m g)

/-- The idealized reference's frame. -/
theorem frame_r : Cert.quiescent_ReferenceIdeal (hReferenceIdeal := Cert.ReferenceIdeal.Gen.facts) := by
  intro m g _
  exact (θ_run Cert.ReferenceIdeal.defs _ _).mono (fun r h => ⟨fun c => (h c).2.2,
    Idealize.ShloMosaic.sem_eq_zero_of_no_sems (by decide) r.2⟩) (Cert.ReferenceIdeal.Value.run m g)

end Cert.Proof

end
-- ==== Proof.FramesPre.lean ====
/- The frames once more, under the precondition of the value claim: it is not needed for them. -/
module

public import proofs.«01_k».proof.Proof.Frames
public import proofs.«01_k».proof.Proof.Gen.Pre_normal_scales

@[expose] public section

noncomputable section

namespace Cert.Proof

open Idealize.ShloMosaic Idealize.SL.Sem

/-- The idealized kernel's frame, under the precondition. -/
theorem frame_ki_pre : Cert.quiescent_KernelIdeal_pre_normal_scales (hKernelIdeal := Cert.KernelIdeal.Gen.facts)
    (hPre_normal_scales := Cert.Pre_normal_scales.Gen.facts) := by
  intro m g _
  exact (θ_run Cert.KernelIdeal.defs _ _).mono (fun r h => ⟨fun c => (h.1 c).1, h.2⟩) (Cert.KernelIdeal.Prf.run_ends m g)

/-- The idealized reference's frame, under the precondition. -/
theorem frame_r_pre : Cert.quiescent_ReferenceIdeal_pre_normal_scales (hReferenceIdeal := Cert.ReferenceIdeal.Gen.facts)
    (hPre_normal_scales := Cert.Pre_normal_scales.Gen.facts) := by
  intro m g _
  exact (θ_run Cert.ReferenceIdeal.defs _ _).mono (fun r h => ⟨fun c => (h c).2.2,
    Idealize.ShloMosaic.sem_eq_zero_of_no_sems (by decide) r.2⟩) (Cert.ReferenceIdeal.Value.run m g)

end Cert.Proof

end
-- ==== Proof.ValSum.lean ====
/- The kernel's sums as sums of products. -/
module

public import proofs.«01_k».proof.Proof.RunLoop
public import Idealize.ShloMosaic.PureOps.Ideal
public import Idealize.ShloMosaic.Lib.MatmulPlain

@[expose] public section

noncomputable section

namespace Cert.KernelIdeal.Prf

open Idealize.ShloMosaic

/-- One pass is 256 products added up. -/
theorem pass_apply (x T : Tile16 Ideal) (r j : Fin 256) :
    pass x T (Mxu.ix r j) = ∑ k : Fin 256, x (Mxu.ix r k) * T (Mxu.ix k j) := by
  have h := Ideal.matmul_plain_apply (M := 256) (K := 256) (N := 256) (φ₁ := .bf16) (φ₂ := .bf16) none x T (fun _ => 0) r j
  rw [zero_add] at h
  have e : ∀ a b : Fin 256, (ValueIdx.ix2 a b : S256x256.Idx) = Mxu.ix a b := fun a b => Shape.idx_ext₂ rfl rfl
  simp only [e] at h
  refine Eq.trans ?_ h
  show Ideal.mxuPass _ x T _ = Ideal.matmul _ x T (fun _ => 0) _
  simp [Ideal.mxuPass, Ideal.matmul]

theorem sumT_apply (xs : Fin 64 → Fin 6 → Tile16 Ideal) (ws : Fin 64 → Tile16 Ideal) (q : Fin 2) (a : Fin 3) (r j : Fin 256) : ∀ n : ℕ,
    sumT xs ws n q a (Mxu.ix r j) = ∑ p ∈ Finset.range (n + 1), ∑ k : Fin 256, xs (f64 p) (blk6 q a) (Mxu.ix r k) * ws (f64 p) (Mxu.ix k j)
  | 0 => by
    rw [Finset.sum_range_one]
    exact pass_apply _ _ r j
  | n + 1 => by
    rw [Finset.sum_range_succ, ← sumT_apply xs ws q a r j n, ← pass_apply]
    rfl

theorem sum_split (m n N : ℕ) (h : m * n = N) (hb : ∀ (p : Fin m) (k : Fin n), n * p.val + k.val < N) (f : Fin N → EReal) :
    ∑ p : Fin m, ∑ k : Fin n, f ⟨n * p.val + k.val, hb p k⟩ = ∑ K : Fin N, f K := by
  subst h
  rw [← Fintype.sum_prod_type' (fun (p : Fin m) (k : Fin n) => f ⟨n * p.val + k.val, hb p k⟩)]
  refine Fintype.sum_equiv finProdFinEquiv _ _ fun x => ?_
  refine congrArg f (Fin.ext ?_)
  show n * x.1.val + x.2.val = x.2.val + n * x.1.val
  exact Nat.add_comm _ _

/-- A whole tile's sum is the sum over the whole depth, and the lora rows. -/
theorem tileSums_apply (xs : Fin 64 → Fin 6 → Tile16 Ideal) (hs : Fin 6 → Tile16 Ideal) (ws : Fin 64 → Tile16 Ideal) (b : Tile16 Ideal) (q : Fin 2) (a : Fin 3) (r j : Fin 256)
    (f : Fin 16384 → EReal) (hf : ∀ (p : Fin 64) (k : Fin 256), xs p (blk6 q a) (Mxu.ix r k) * ws p (Mxu.ix k j) = f ⟨256 * p.val + k.val, by omega⟩) :
    tileSums xs hs ws b q a (Mxu.ix r j) = (∑ K : Fin 16384, f K) + ∑ k : Fin 256, hs (blk6 q a) (Mxu.ix r k) * b (Mxu.ix k j) := by
  have h : tileSums xs hs ws b q a (Mxu.ix r j) = sumT xs ws 63 q a (Mxu.ix r j) + pass (hs (blk6 q a)) b (Mxu.ix r j) := rfl
  rw [h, sumT_apply, pass_apply]
  refine congrArg₂ (· + ·) ?_ rfl
  rw [← Fin.sum_univ_eq_sum_range (fun p => ∑ k : Fin 256, xs (f64 p) (blk6 q a) (Mxu.ix r k) * ws (f64 p) (Mxu.ix k j)) 64]
  have e64 : ∀ p : Fin 64, f64 p.val = p := fun p => Fin.ext (Nat.mod_eq_of_lt p.isLt)
  simp only [e64, hf]
  exact sum_split 64 256 16384 (by decide) (fun p k => by omega) f

end Cert.KernelIdeal.Prf

end
-- ==== Proof.ValBits.lean ====
/- The bits of a packed weight and of a shared exponent, and the numbers they stand for. -/
module

public import Idealize.ShloMosaic.PureOps.Ideal
public import Idealize.ShloMosaic.Lib.BitcastPair

@[expose] public section

noncomputable section

namespace Cert.Val

open Idealize.ShloMosaic

/-- The e2m1 number of a four-bit field, by its bits. -/
def e2m1 (b0 b1 b2 b3 : Bool) : EReal :=
  (((if b3 then -1 else 1) * (if b2 then (if b1 then (if b0 then 6 else 4) else (if b0 then 3 else 2))
    else (if b1 then (if b0 then 3 / 2 else 1) else (if b0 then 1 / 2 else 0))) : ℝ) : EReal)

/-- Field `n` of a word. -/
def fieldVal (w : BitVec 32) (n : ℕ) : EReal :=
  e2m1 (w.getLsbD (4 * n)) (w.getLsbD (4 * n + 1)) (w.getLsbD (4 * n + 2)) (w.getLsbD (4 * n + 3))

/-- The byte the kernel reads as an eight-bit float. -/
def byteOf (b0 b1 b2 b3 : Bool) : BitVec 8 :=
  BitVec.ofBool b3 ++ (0#2 ++ (BitVec.ofBool b2 ++ (BitVec.ofBool b1 ++ (BitVec.ofBool b0 ++ 0#2))))

theorem byteOf_val (b0 b1 b2 b3 : Bool) :
    Ideal.ofBits .fp8e4m3 (byteOf b0 b1 b2 b3) * Ideal.ofBits .bf16 0x4280#16 = e2m1 b0 b1 b2 b3 := by
  have h64 : Ideal.ofBits .bf16 0x4280#16 = ((64 : ℝ) : EReal) := by
    simp [Ideal.ofBits, Ideal.ieee, -EReal.coe_mul]; norm_num
  rw [h64]
  have hb : ∀ r s : ℝ, Ideal.ofBits .fp8e4m3 (byteOf b0 b1 b2 b3) = (r : EReal) → r * 64 = s →
      Ideal.ofBits .fp8e4m3 (byteOf b0 b1 b2 b3) * ((64 : ℝ) : EReal) = (s : EReal) := by
    intro r s h1 h2; rw [h1, ← h2, EReal.coe_mul]
  cases b0 <;> cases b1 <;> cases b2 <;> cases b3 <;>
  · refine hb _ _ (by simp [byteOf, Ideal.ofBits, Ideal.e4m3fn, -EReal.coe_mul]; rfl) ?_
    norm_num

/-! ## The code of a row -/

/-- How far a row's field is shifted up. -/
def up (k : ℕ) : BitVec 32 := IntOp.subi 28#32 (IntOp.shli .vector (IntOp.andi (BitVec.ofNat 32 k) 7#32) 2#32)

theorem up_eq : ∀ k : Fin 256, up k.val = BitVec.ofNat 32 (28 - 4 * (k.val % 8)) := by decide +kernel

/-- A row's signed code. -/
def codeByte (w : BitVec 32) (k : ℕ) : BitVec 8 :=
  (IntOp.shrsi .vector (IntOp.shli .vector w (up k)) 28#32).setWidth 8

theorem codeByte_bits (w : BitVec 32) (k : ℕ) (hk : k < 256) :
    (codeByte w k).getLsbD 0 = w.getLsbD (4 * (k % 8)) ∧ (codeByte w k).getLsbD 1 = w.getLsbD (4 * (k % 8) + 1)
    ∧ (codeByte w k).getLsbD 2 = w.getLsbD (4 * (k % 8) + 2) ∧ (codeByte w k).getLsbD 7 = w.getLsbD (4 * (k % 8) + 3) := by
  unfold codeByte
  rw [show up k = BitVec.ofNat 32 (28 - 4 * (k % 8)) from up_eq ⟨k, hk⟩]
  have hn : k % 8 < 8 := Nat.mod_lt _ (by decide)
  generalize k % 8 = n at hn ⊢
  interval_cases n <;>
    simp [IntOp.shrsi, IntOp.shli, BitVec.getLsbD_setWidth, BitVec.getLsbD_sshiftRight, BitVec.getLsbD_shiftLeft, BitVec.sshiftRight', BitVec.msb_eq_getLsbD_last, BitVec.getElem_sshiftRight]

/-! ## The scale of a row -/

/-- The word a shared exponent is spread to. -/
def scaleWord (e : BitVec 8) : BitVec 32 :=
  IntOp.ori (IntOp.shli .vector (e.setWidth 32) 7#32) (IntOp.shli .vector (e.setWidth 32) 23#32)

theorem scaleWord_half : ∀ e : BitVec 8, (scaleWord e).extractLsb' 0 16 = e.setWidth 16 <<< 7 ∧ (scaleWord e).extractLsb' 16 16 = e.setWidth 16 <<< 7 := by
  decide +kernel

theorem half_fields : ∀ e : BitVec 8, ((e.setWidth 16 <<< 7 : BitVec 16).extractLsb' 15 1 == 1#1) = false
    ∧ ((e.setWidth 16 <<< 7 : BitVec 16).extractLsb' 7 8).toNat = e.toNat
    ∧ ((e.setWidth 16 <<< 7 : BitVec 16).extractLsb' 0 7).toNat = 0
    ∧ ((e.setWidth 32) - 127#32).toInt = (e.toNat : ℤ) - 127 := by
  decide +kernel

theorem scale_val (e : BitVec 8) (h1 : 1 ≤ e.toNat) (h2 : e.toNat ≤ 254) :
    Ideal.ofBits .bf16 (e.setWidth 16 <<< 7) = ((Real.rpow 2 ((((e.setWidth 32) - 127#32).toInt : ℤ) : ℝ) : ℝ) : EReal) := by
  obtain ⟨a, b, c, d⟩ := half_fields e
  show Ideal.ieee 8 7 _ = _
  unfold Ideal.ieee
  simp only [Nat.reduceAdd] at a b c ⊢
  rw [a, b, c, d]
  rw [if_neg (by omega), if_neg (by omega)]
  congr 1
  have e1 : Real.rpow 2 (((e.toNat : ℤ) - 127 : ℤ) : ℝ) = (2 : ℝ) ^ ((e.toNat : ℤ) - 127) := Real.rpow_intCast 2 _
  rw [e1]
  simp only [Bool.false_eq_true, if_false, one_mul]
  have e2 : ((2 ^ 7 + 0 : ℕ) : ℝ) = (2 : ℝ) ^ (7 : ℤ) := by norm_num
  rw [e2, ← zpow_add₀ (by norm_num : (2 : ℝ) ≠ 0)]
  congr 1
  norm_num

/-! ## The reference's cases -/

theorem test_bit (f : BitVec 32) (n : ℕ) (hn : n < 32) :
    IntOp.cmpi .ne (IntOp.andi f (BitVec.twoPow 32 n)) 0#32 = BitVec.ofBool (f.getLsbD n) := by
  unfold IntOp.cmpi IntOp.andi
  congr 1
  rw [BitVec.and_twoPow]
  cases h : f.getLsbD n
  · simp
  · simp only [if_true]
    have : BitVec.twoPow 32 n ≠ 0#32 := by
      intro h; have := congrArg (fun x => x.getLsbD n) h; simp [hn] at this
    simp [this]

theorem field_bits (w : BitVec 32) (n : ℕ) (hn : n < 8) (q : ℕ) (hq : q < 4) :
    (IntOp.andi (IntOp.shrsi .host w (BitVec.ofNat 32 (4 * n))) 15#32).getLsbD q = w.getLsbD (4 * n + q) := by
  interval_cases n <;> interval_cases q <;>
    simp [IntOp.andi, IntOp.shrsi, BitVec.getLsbD_sshiftRight, BitVec.sshiftRight', BitVec.getElem_sshiftRight]

theorem shift_amount : ∀ n : Fin 8, IntOp.muli 4#32 (BitVec.ofNat 32 n.val) = BitVec.ofNat 32 (4 * n.val) := by decide

end Cert.Val

end
-- ==== Proof.ValWiden.lean ====
/- The kernel's widened weights, element by element. -/
module

public import proofs.«01_k».proof.Proof.Panel
public import proofs.«01_k».proof.Proof.ValBits
public import Idealize.ShloMosaic.Lib.BitcastPair
public import Idealize.ShloMosaic.Lib.BitcastFour
public import Idealize.ShloMosaic.Lib.ValueIdx
public import Idealize.ShloMosaic.Lib.Pipeline.Value

@[expose] public section

noncomputable section

namespace Cert.KernelIdeal.Prf

open Idealize.ShloMosaic
open Cert.KernelIdeal Cert.KernelIdeal.Gen Cert.Val

/-! ## The codes -/

theorem byteOf_bit (b0 b1 b2 b3 : Bool) (q : ℕ) (hq : q < 8) :
    (byteOf b0 b1 b2 b3).getLsbD q = (if q = 2 then b0 else if q = 3 then b1 else if q = 4 then b2 else if q = 7 then b3 else false) := by
  interval_cases q <;> cases b0 <;> cases b1 <;> cases b2 <;> cases b3 <;> rfl

theorem mask_bits (W : BitVec 32) (r q : ℕ) (hr : r < 4) (hq : q < 8) :
    (IntOp.ori (IntOp.andi W 2155905152#32) (IntOp.andi (IntOp.shli .vector W 2#32) 471604252#32)).getLsbD (8 * r + q)
      = (byteOf (W.getLsbD (8 * r)) (W.getLsbD (8 * r + 1)) (W.getLsbD (8 * r + 2)) (W.getLsbD (8 * r + 7))).getLsbD q := by
  rw [byteOf_bit _ _ _ _ q hq]
  interval_cases r <;> interval_cases q <;>
    simp [IntOp.ori, IntOp.andi, IntOp.shli, BitVec.getLsbD_shiftLeft]

/-- A panel's word at a row of codes. -/
theorem word_apply (w : IVec S1x32x256 32) (k j : Fin 256) (v : BitVec 32) (hv : ∀ x : S1x32x256.Idx, (x 1).val = k.val / 8 → (x 2).val = j.val → w x = v) :
    shapeCast S256x256 (broadcastTo S32x8x256 (shapeCast S32x1x256 (shapeCast S32x1x256 (shapeCast S32x256 w shapeCasts_S1x32x256_S32x256) shapeCasts_S32x256_S32x1x256) shapeCasts_S32x1x256_S32x1x256) broadcasts_S32x1x256_S32x8x256) shapeCasts_S32x8x256_S256x256 (ValueIdx.ix2 k j) = v := by
  have hk := k.isLt
  have hj := j.isLt
  rw [shapeCast_apply _ shapeCasts_S32x8x256_S256x256 (ValueIdx.ix2 k j) (ValueIdx.ix3 (⟨k.val / 8, by omega⟩ : Fin 32) (⟨k.val % 8, by omega⟩ : Fin 8) j)
    (by rw [Shape.rowMajor_val_three, Shape.rowMajor_val_two]; show (k.val / 8 * 8 + k.val % 8) * 256 + j.val = k.val * 256 + j.val; omega)]
  rw [broadcastTo_apply _ broadcasts_S32x1x256_S32x8x256 _ (ValueIdx.ix3 (⟨k.val / 8, by omega⟩ : Fin 32) (0 : Fin 1) j)
    (by intro a; match a with
        | ⟨0, _⟩ => rfl
        | ⟨1, _⟩ => rfl
        | ⟨2, _⟩ => rfl)]
  rw [shapeCast_self]
  rw [shapeCast_apply _ shapeCasts_S32x256_S32x1x256 _ (ValueIdx.ix2 (⟨k.val / 8, by omega⟩ : Fin 32) j)
    (by rw [Shape.rowMajor_val_three, Shape.rowMajor_val_two]; show k.val / 8 * 256 + j.val = (k.val / 8 * 1 + 0) * 256 + j.val; omega)]
  rw [shapeCast_apply _ shapeCasts_S1x32x256_S32x256 _ (ValueIdx.ix3 (0 : Fin 1) (⟨k.val / 8, by omega⟩ : Fin 32) j)
    (by rw [Shape.rowMajor_val_three, Shape.rowMajor_val_two]; show (0 * 32 + k.val / 8) * 256 + j.val = k.val / 8 * 256 + j.val; omega)]
  exact hv _ rfl rfl

/-- The eight-bit codes before the masks. -/
def rawCodes (w : IVec S1x32x256 32) : IVec S256x256 8 :=
  trunci 8 (shrsi (shli (shapeCast S256x256 (broadcastTo S32x8x256 (shapeCast S32x1x256 (shapeCast S32x1x256 (shapeCast S32x256 w shapeCasts_S1x32x256_S32x256) shapeCasts_S32x256_S32x1x256) shapeCasts_S32x1x256_S32x1x256) broadcasts_S32x1x256_S32x8x256) shapeCasts_S32x8x256_S256x256)
    (subi (broadcast S256x256 28#32) (shli (andi (iota .tc S256x256 32 [0] iota_S256x256_d0_w32) (broadcast S256x256 7#32)) (broadcast S256x256 2#32)))) (broadcast S256x256 28#32)) natLt_8_32

theorem rawCodes_apply (w : IVec S1x32x256 32) (k j : Fin 256) (v : BitVec 32) (hv : ∀ x : S1x32x256.Idx, (x 1).val = k.val / 8 → (x 2).val = j.val → w x = v) :
    rawCodes w (ValueIdx.ix2 k j) = codeByte v k.val := by
  have h := word_apply w k j v hv
  have hi : iota .tc S256x256 32 [0] iota_S256x256_d0_w32 (ValueIdx.ix2 k j) = BitVec.ofNat 32 k.val := iota_single_apply .tc S256x256 32 0 _ _
  unfold codeByte up
  rw [← hi, ← h]
  rfl

/-- The masked words. -/
def maskWords (u : IVec S64x256 32) : IVec S64x256 32 :=
  ori (andi u (broadcast S64x256 2155905152#32)) (andi (shli u (broadcast S64x256 2#32)) (broadcast S64x256 471604252#32))

theorem codeBytes (x : IVec S256x256 8) (k j : Fin 256) :
    bitcast S256x256 8 (maskWords (bitcast S64x256 32 x bitcasts_S256x256_w8_S64x256_w32)) bitcasts_S64x256_w32_S256x256_w8 (ValueIdx.ix2 k j)
      = byteOf ((x (ValueIdx.ix2 k j)).getLsbD 0) ((x (ValueIdx.ix2 k j)).getLsbD 1) ((x (ValueIdx.ix2 k j)).getLsbD 2) ((x (ValueIdx.ix2 k j)).getLsbD 7) := by
  have hk := k.isLt
  have hrow : S256x256.row (ValueIdx.ix2 k j) = k.val := rfl
  apply BitVec.eq_of_getLsbD_eq
  intro q hq
  rw [bitcast_getLsbD _ _ _ q hq (by decide)]
  have hs : ∀ (p : ℕ) (hp : ∀ a : Fin S64x256.rank, a.val + 2 = S64x256.rank → p < S64x256.size a), p = k.val / 4 →
      Shape.Bitcasts.srcIdx bitcasts_S64x256_w32_S256x256_w8 (ValueIdx.ix2 k j) p hp = ValueIdx.ix2 (⟨k.val / 4, by omega⟩ : Fin 64) j := by
    intro p hp e
    refine Shape.idx_ext₂ ?_ ?_
    · exact (Shape.Bitcasts.srcIdx_row bitcasts_S64x256_w32_S256x256_w8 _ p hp (0 : Fin 2) rfl).trans e
    · exact Shape.Bitcasts.srcIdx_other bitcasts_S64x256_w32_S256x256_w8 _ p hp (1 : Fin 2) (by decide)
  rw [hs _ _ (by rw [hrow]; omega), hrow]
  have hp : (k.val * 8 + q) % 32 = 8 * (k.val % 4) + q := by omega
  rw [hp]
  refine (mask_bits (bitcast S64x256 32 x bitcasts_S256x256_w8_S64x256_w32 (ValueIdx.ix2 (⟨k.val / 4, by omega⟩ : Fin 64) j)) (k.val % 4) q (by omega) hq).trans ?_
  have hb : ∀ b : ℕ, b < 8 → (bitcast S64x256 32 x bitcasts_S256x256_w8_S64x256_w32 (ValueIdx.ix2 (⟨k.val / 4, by omega⟩ : Fin 64) j)).getLsbD (8 * (k.val % 4) + b) = (x (ValueIdx.ix2 k j)).getLsbD b := by
    intro b hb
    have := bitcast_8_32_getLsbD_ix2 x bitcasts_S256x256_w8_S64x256_w32 (⟨k.val / 4, by omega⟩ : Fin 64) j (8 * (k.val % 4) + b) (by omega) k (by show k.val = 4 * (k.val / 4) + (8 * (k.val % 4) + b) / 8; omega)
    rw [show (8 * (k.val % 4) + b) % 8 = b by omega] at this
    exact this
  have h0 := hb 0 (by decide)
  rw [Nat.add_zero] at h0
  rw [h0, hb 1 (by decide), hb 2 (by decide), hb 7 (by decide)]

theorem codes_apply (w : Vec Ideal S1x32x256 .i32) (k j : Fin 256) (v : BitVec 32) (hv : ∀ x : S1x32x256.Idx, (x 1).val = k.val / 8 → (x 2).val = j.val → w x = v) :
    codes (F := Ideal) w (ValueIdx.ix2 k j) = fieldVal v (k.val % 8) := by
  have h : codes (F := Ideal) w (ValueIdx.ix2 k j) = Ideal.ofBits .fp8e4m3 (bitcast S256x256 8 (maskWords (bitcast S64x256 32 (rawCodes w) bitcasts_S256x256_w8_S64x256_w32)) bitcasts_S64x256_w32_S256x256_w8 (ValueIdx.ix2 k j)) * Ideal.ofBits .bf16 0x4280#16 := rfl
  rw [h, codeBytes, byteOf_val, rawCodes_apply w k j v hv]
  obtain ⟨a, b, c, d⟩ := codeByte_bits v k.val k.isLt
  rw [a, b, c, d]
  rfl

/-! ## The scales -/

theorem scaleBits_apply (e : Vec Ideal S1x32x256 .i8) (r : Fin 32) (j : Fin 256) (v : BitVec 8) (hv : ∀ x : S1x32x256.Idx, (x 1).val = r.val → (x 2).val = j.val → e x = v) :
    scaleBits (F := Ideal) e (ValueIdx.ix2 r j) = scaleWord v := by
  have h : shapeCast S32x256 e shapeCasts_S1x32x256_S32x256 (ValueIdx.ix2 r j) = v := by
    rw [shapeCast_apply _ shapeCasts_S1x32x256_S32x256 _ (ValueIdx.ix3 (0 : Fin 1) r j)
      (by rw [Shape.rowMajor_val_three, Shape.rowMajor_val_two]; show (0 * 32 + r.val) * 256 + j.val = r.val * 256 + j.val; omega)]
    exact hv _ rfl rfl
  unfold scaleWord
  rw [← h]
  rfl

theorem scaleRow_apply (sc : IVec S32x256 32) (r : ℕ) (hr : r < 32) (h : S32x256.Slices ![r, 0] S1x256) (i : Fin 32) (j : Fin 256) (v : BitVec 8)
    (hv : sc (ValueIdx.ix2 (⟨r, hr⟩ : Fin 32) j) = scaleWord v) :
    scaleRow (F := Ideal) sc r h (ValueIdx.ix2 i j) = Ideal.ofBits .bf16 (v.setWidth 16 <<< 7) := by
  have hi := i.isLt
  unfold scaleRow
  refine (concatenate_ofFn_apply (t := S32x256) (s₁ := S16x256) (0 : Fin 2) (N := 2) (fun _ => _) concatenates_S16x256_S16x256_S32x256_d0 rfl 16 rfl (ValueIdx.ix2 i j) (⟨i.val / 16, by omega⟩ : Fin 2) rfl
    (ValueIdx.ix2 (⟨i.val % 16, by omega⟩ : Fin 16) j) rfl ?_).trans ?_
  · intro b hb
    match b with
    | ⟨0, _⟩ => exact absurd rfl hb
    | ⟨1, _⟩ => rfl
  show Ideal.ofBits .bf16 (bitcast S16x256 16 _ bitcasts_S8x256_w32_S16x256_w16 (ValueIdx.ix2 (⟨i.val % 16, by omega⟩ : Fin 16) j)) = _
  congr 1
  rw [bitcast_32_16]
  have hrow : S16x256.row (ValueIdx.ix2 (⟨i.val % 16, by omega⟩ : Fin 16) j) = i.val % 16 := rfl
  have hs : ∀ (p : ℕ) (hp : ∀ a : Fin S8x256.rank, a.val + 2 = S8x256.rank → p < S8x256.size a), p = i.val % 16 / 2 →
      Shape.Bitcasts.srcIdx bitcasts_S8x256_w32_S16x256_w16 (ValueIdx.ix2 (⟨i.val % 16, by omega⟩ : Fin 16) j) p hp = ValueIdx.ix2 (⟨i.val % 16 / 2, by omega⟩ : Fin 8) j := by
    intro p hp e
    refine Shape.idx_ext₂ ?_ ?_
    · exact (Shape.Bitcasts.srcIdx_row bitcasts_S8x256_w32_S16x256_w16 _ p hp (0 : Fin 2) rfl).trans e
    · exact Shape.Bitcasts.srcIdx_other bitcasts_S8x256_w32_S16x256_w16 _ p hp (1 : Fin 2) (by decide)
  rw [hs _ _ (by rw [hrow]), hrow]
  rw [broadcastTo_apply _ broadcasts_S1x256_S8x256 _ (ValueIdx.ix2 (0 : Fin 1) j)
    (by intro a; match a with
        | ⟨0, _⟩ => rfl
        | ⟨1, _⟩ => rfl)]
  rw [shapeCast_self]
  rw [extractStridedSlice_apply ![r, 0] sc h _ (ValueIdx.ix2 (⟨r, hr⟩ : Fin 32) j)
    (by intro a; match a with
        | ⟨0, _⟩ => show r = r + 0; rfl
        | ⟨1, _⟩ => show j.val = 0 + j.val; omega)]
  rw [hv]
  obtain ⟨a, b⟩ := scaleWord_half v
  rcases Nat.mod_two_eq_zero_or_one (i.val % 16) with h2 | h2 <;> rw [h2]
  · exact a
  · exact b

/-! ## A panel -/

theorem widen_apply (w : Vec Ideal S1x32x256 .i32) (e : Vec Ideal S1x32x256 .i8) (g : Fin 4) (k j : Fin 256) (v : BitVec 32) (u : BitVec 8)
    (hv : ∀ x : S1x32x256.Idx, (x 1).val = k.val / 8 → (x 2).val = j.val → w x = v)
    (hu : ∀ x : S1x32x256.Idx, (x 1).val = 8 * g.val + k.val / 32 → (x 2).val = j.val → e x = u) :
    widen (F := Ideal) w (scaleBits (F := Ideal) e) g (ValueIdx.ix2 k j) = fieldVal v (k.val % 8) * Ideal.ofBits .bf16 (u.setWidth 16 <<< 7) := by
  have hk := k.isLt
  have hg := g.isLt
  unfold widen
  refine (concatenate_ofFn_apply (t := S256x256) (s₁ := S32x256) (0 : Fin 2) (N := 8) (fun b => band (F := Ideal) (codes w) (scaleBits (F := Ideal) e) g b) concatenates_S32x256_S32x256_S32x256_S32x256_S32x256_S32x256_S32x256_S32x256_S256x256_d0 rfl 32 rfl (ValueIdx.ix2 k j) (⟨k.val / 32, by omega⟩ : Fin 8) rfl
    (ValueIdx.ix2 (⟨k.val % 32, by omega⟩ : Fin 32) j) rfl ?_).trans ?_
  · intro b hb
    match b with
    | ⟨0, _⟩ => exact absurd rfl hb
    | ⟨1, _⟩ => rfl
  unfold band
  show (extractStridedSlice S32x256 ![32 * (k.val / 32), 0] (codes (F := Ideal) w) _ (ValueIdx.ix2 (⟨k.val % 32, by omega⟩ : Fin 32) j) : EReal)
    * scaleRow (F := Ideal) (scaleBits (F := Ideal) e) (8 * g.val + k.val / 32) _ (ValueIdx.ix2 (⟨k.val % 32, by omega⟩ : Fin 32) j) = _
  rw [extractStridedSlice_apply ![32 * (k.val / 32), 0] (codes (F := Ideal) w) _ _ (ValueIdx.ix2 k j)
    (by intro a; match a with
        | ⟨0, _⟩ => show k.val = 32 * (k.val / 32) + k.val % 32; omega
        | ⟨1, _⟩ => show j.val = 0 + j.val; omega)]
  rw [codes_apply w k j v hv]
  rw [scaleRow_apply (scaleBits (F := Ideal) e) (8 * g.val + k.val / 32) (by omega) _ _ j u (scaleBits_apply e ⟨8 * g.val + k.val / 32, by omega⟩ j u hu)]

end Cert.KernelIdeal.Prf

end
-- ==== Proof.ValRef.lean ====
/- The reference's results, element by element. -/
module

public import proofs.«01_k».proof.Proof.Gen.ReferenceIdeal.Read
public import proofs.«01_k».proof.Proof.ValBits

@[expose] public section

noncomputable section

namespace Cert.Val

open Idealize.ShloMosaic
open Cert.ReferenceIdeal Cert.ReferenceIdeal.Read

/-- The number a shared exponent stands for. -/
def scaleOf (e : BitVec 8) : EReal := ((Real.rpow 2 ((((e.setWidth 32) - 127#32).toInt : ℤ) : ℝ) : ℝ) : EReal)

theorem bfc (v : BitVec 16) (r : ℝ) (h : Ideal.ofBits .bf16 v = (r : EReal)) (s : ℝ) (hs : r = s) : Ideal.ofBits .bf16 v = (s : EReal) := hs ▸ h

theorem select_ofBool {α : Type} (b : Bool) (x y : α) : Scalar.select (BitVec.ofBool b) x y = if b then x else y := by
  cases b <;> rfl

theorem codeTree (b0 b1 b2 b3 : Bool) :
    (if b3 then (if b2 then (if b1 then (if b0 then Ideal.ofBits .bf16 0xC0C0#16 else Ideal.ofBits .bf16 0xC080#16) else (if b0 then Ideal.ofBits .bf16 0xC040#16 else Ideal.ofBits .bf16 0xC000#16))
        else (if b1 then (if b0 then Ideal.ofBits .bf16 0xBFC0#16 else Ideal.ofBits .bf16 0xBF80#16) else (if b0 then Ideal.ofBits .bf16 0xBF00#16 else Ideal.ofBits .bf16 0x8000#16)))
      else (if b2 then (if b1 then (if b0 then Ideal.ofBits .bf16 0x40C0#16 else Ideal.ofBits .bf16 0x4080#16) else (if b0 then Ideal.ofBits .bf16 0x4040#16 else Ideal.ofBits .bf16 0x4000#16))
        else (if b1 then (if b0 then Ideal.ofBits .bf16 0x3FC0#16 else Ideal.ofBits .bf16 0x3F80#16) else (if b0 then Ideal.ofBits .bf16 0x3F00#16 else Ideal.ofBits .bf16 0x0000#16))))
    = e2m1 b0 b1 b2 b3 := by
  cases b0 <;> cases b1 <;> cases b2 <;> cases b3 <;> simp only [if_true, if_false, Bool.false_eq_true, e2m1] <;>
  · refine bfc _ _ (by simp [Ideal.ofBits, Ideal.ieee, -EReal.coe_mul]; rfl) _ ?_
    norm_num

/-- The reference's word, shifted to a row's field. -/
theorem field_eq (x1 : (⟨S2048x6144, .i32⟩ : BufTy).Contents (Elt Ideal)) (i : S16384x6144.Idx) (w : BitVec 32)
    (hw : ∀ j : S2048x6144.Idx, (j 0).val = (i 0).val / 8 → (j 1).val = (i 1).val → x1 j = w) :
    val_main_v10 (F := Ideal) x1 i = IntOp.andi (IntOp.shrsi .host w (BitVec.ofNat 32 (4 * ((i 0).val % 8)))) 15#32 := by
  have h0 : (i 0).val < 16384 := (i 0).isLt
  have h1 : (i 1).val < 6144 := (i 1).isLt
  rw [val_main_v10_apply, val_main_v9_apply, val_main_v7_apply, val_main_v5_apply, val_main_v3_apply, val_main_v6_apply, val_main_v4_apply, val_main_v2_apply]
  rw [hw _ (by show ((i 0).val * 6144 + (i 1).val) / 49152 = _; omega) (by show ((i 0).val * 6144 + (i 1).val) % 6144 = _; omega)]
  rw [← shift_amount ⟨(i 0).val % 8, Nat.mod_lt _ (by decide)⟩]
  have hi : ((i 0).val * 6144 + (i 1).val) / 6144 % 8 = (i 0).val % 8 := by omega
  have hv : ∀ j : S8.Idx, (j 0).val = (i 0).val % 8 → val_main_v0 (F := Ideal) j = BitVec.ofNat 32 ((i 0).val % 8) := by
    intro j hj
    rw [val_main_v0_apply, hj]
  rw [hv _ hi]
  rfl

theorem code_eq (x1 : (⟨S2048x6144, .i32⟩ : BufTy).Contents (Elt Ideal)) (i : S16384x6144.Idx) (w : BitVec 32)
    (hw : ∀ j : S2048x6144.Idx, (j 0).val = (i 0).val / 8 → (j 1).val = (i 1).val → x1 j = w) :
    val_main_v48 (F := Ideal) x1 i = fieldVal w ((i 0).val % 8) := by
  have hn : (i 0).val % 8 < 8 := Nat.mod_lt _ (by decide)
  have h10 := field_eq x1 i w hw
  have t0 : val_main_v21 (F := Ideal) x1 i = BitVec.ofBool (w.getLsbD (4 * ((i 0).val % 8) + 0)) := by
    rw [val_main_v21_apply, val_main_v19_apply, h10, ← field_bits w _ hn 0 (by decide)]; exact test_bit _ 0 (by decide)
  have t1 : val_main_v25 (F := Ideal) x1 i = BitVec.ofBool (w.getLsbD (4 * ((i 0).val % 8) + 1)) := by
    rw [val_main_v25_apply, val_main_v23_apply, h10, ← field_bits w _ hn 1 (by decide)]; exact test_bit _ 1 (by decide)
  have t2 : val_main_v29 (F := Ideal) x1 i = BitVec.ofBool (w.getLsbD (4 * ((i 0).val % 8) + 2)) := by
    rw [val_main_v29_apply, val_main_v27_apply, h10, ← field_bits w _ hn 2 (by decide)]; exact test_bit _ 2 (by decide)
  have t3 : val_main_v33 (F := Ideal) x1 i = BitVec.ofBool (w.getLsbD (4 * ((i 0).val % 8) + 3)) := by
    rw [val_main_v33_apply, val_main_v31_apply, h10, ← field_bits w _ hn 3 (by decide)]; exact test_bit _ 3 (by decide)
  simp only [val_main_v48_apply, val_main_v47_apply, val_main_v46_apply, val_main_v45_apply, val_main_v44_apply, val_main_v43_apply, val_main_v42_apply, val_main_v41_apply,
    val_main_v40_apply, val_main_v39_apply, val_main_v38_apply, val_main_v37_apply, val_main_v36_apply, val_main_v35_apply, val_main_v34_apply, t0, t1, t2, t3, select_ofBool,
    val_main_call0_v0_apply, val_main_call0_v1_apply, val_main_call1_v0_apply, val_main_call1_v1_apply, val_main_call3_v0_apply, val_main_call3_v1_apply, val_main_call4_v0_apply, val_main_call4_v1_apply,
    val_main_call7_v0_apply, val_main_call7_v1_apply, val_main_call8_v0_apply, val_main_call8_v1_apply, val_main_call10_v0_apply, val_main_call10_v1_apply, val_main_call11_v0_apply, val_main_call11_v1_apply,
    val_main_cst_10_apply, val_main_cst_11_apply, val_main_cst_12_apply, val_main_cst_13_apply, val_main_cst_14_apply, val_main_cst_15_apply, val_main_cst_16_apply, val_main_cst_17_apply,
    val_main_cst_18_apply, val_main_cst_19_apply, val_main_cst_20_apply, val_main_cst_21_apply, val_main_cst_22_apply, val_main_cst_23_apply, val_main_cst_24_apply, val_main_cst_25_apply]
  exact codeTree _ _ _ _

theorem scale_eq (x2 : (⟨S512x6144, .i8⟩ : BufTy).Contents (Elt Ideal)) (i : S16384x6144.Idx) (e : BitVec 8)
    (he : ∀ j : S512x6144.Idx, (j 0).val = (i 0).val / 32 → (j 1).val = (i 1).val → x2 j = e) :
    val_main_v50 (F := Ideal) x2 i = scaleOf e := by
  have h0 : (i 0).val < 16384 := (i 0).isLt
  have h1 : (i 1).val < 6144 := (i 1).isLt
  rw [val_main_v50_apply, val_main_v49_apply, val_main_v17_apply, val_main_v16_apply, val_main_v15_apply, val_main_cst_apply, val_main_v14_apply, val_main_v13_apply, val_main_v11_apply, val_main_v12_apply, val_main_c_1_apply]
  rw [he _ (by show ((i 0).val * 6144 + (i 1).val) / 196608 = _; omega) (by show ((i 0).val * 6144 + (i 1).val) % 6144 = _; omega)]
  have h2 : Ideal.ofBits .f32 0x40000000#32 = ((2 : ℝ) : EReal) := by
    simp [Ideal.ofBits, Ideal.ieee, -EReal.coe_mul]; norm_num
  show Ideal.pow (Ideal.ofBits .f32 0x40000000#32) (((IntOp.subi (e.setWidth 32) 127#32).toInt : ℝ) : EReal) = _
  rw [h2]
  rfl

/-- The reference's weight. -/
theorem weight_eq (x1 : (⟨S2048x6144, .i32⟩ : BufTy).Contents (Elt Ideal)) (x2 : (⟨S512x6144, .i8⟩ : BufTy).Contents (Elt Ideal)) (i : S16384x6144.Idx) (w : BitVec 32) (e : BitVec 8)
    (hw : ∀ j : S2048x6144.Idx, (j 0).val = (i 0).val / 8 → (j 1).val = (i 1).val → x1 j = w)
    (he : ∀ j : S512x6144.Idx, (j 0).val = (i 0).val / 32 → (j 1).val = (i 1).val → x2 j = e) :
    val_main_v51 (F := Ideal) x1 x2 i = fieldVal w ((i 0).val % 8) * scaleOf e := by
  rw [val_main_v51_apply, code_eq x1 i w hw, scale_eq x2 i e he]
  rfl

end Cert.Val

end
-- ==== Proof.ValReads.lean ====
/- What the kernel's tiles read, in terms of the arguments. -/
module

public import proofs.«01_k».proof.Proof.Launch
public import proofs.«01_k».proof.Proof.ValSum
public import proofs.«01_k».proof.Proof.ValWiden
public import proofs.«01_k».proof.Proof.ValRef

@[expose] public section

noncomputable section

namespace Cert.KernelIdeal.Prf

open Cert.KernelIdeal Cert.KernelIdeal.Gen Cert.Val
open Idealize.ShloMosaic
open Idealize.ShloMosaic.TcCoe Idealize.ShloMosaic.Tactic
open Idealize.SL Idealize.SL.Sem

variable (m : (ℓ : Loc nD τ sig) → Buf (Elt Ideal) ℓ) (c : Dev nD)

/-- The arguments as arrays. -/
abbrev A0 : (⟨S1x1536x16384, .bf16⟩ : BufTy).Contents (Elt Ideal) := m ((c : Thread nD τ).loc main_arg0)
abbrev A1 : (⟨S2048x6144, .i32⟩ : BufTy).Contents (Elt Ideal) := m ((c : Thread nD τ).loc main_arg1)
abbrev A2 : (⟨S512x6144, .i8⟩ : BufTy).Contents (Elt Ideal) := m ((c : Thread nD τ).loc main_arg2)
abbrev A3 : (⟨S1536x256, .bf16⟩ : BufTy).Contents (Elt Ideal) := m ((c : Thread nD τ).loc main_arg3)
abbrev A4 : (⟨S256x6144, .bf16⟩ : BufTy).Contents (Elt Ideal) := m ((c : Thread nD τ).loc main_arg4)
abbrev A5 : (⟨S256x256, .bf16⟩ : BufTy).Contents (Elt Ideal) := m ((c : Thread nD τ).loc main_arg5)

theorem XV_eq : XV m c = Cert.ReferenceIdeal.Read.val_main_v52 (F := Ideal) (A0 m c) := by
  unfold XV V
  rw [StableHlo.after_cons, StableHlo.after_nil]
  exact StableHlo.reshape_result ..

theorem G0_read (i : S1536x256.Idx) : (st0 t0_0).view.read (Elt Ideal) (G0 m c t0_0) i = A3 m c i := by
  unfold G0
  rw [View.read_rep]
  unfold iblk
  show V m c main_arg3 _ = _
  rw [V_main_arg3]
  refine congrArg (A3 m c) (Shape.idx_ext₂ ?_ ?_)
  · show 0 + 1 * (i 0).val = (i 0).val; omega
  · show 0 + 1 * (i 1).val = (i 1).val; omega

theorem G1_read (i : S256x6144.Idx) : (st1 t0_0).view.read (Elt Ideal) (G1 m c t0_0) i = A4 m c i := by
  unfold G1
  rw [View.read_rep]
  unfold iblk
  show V m c main_arg4 _ = _
  rw [V_main_arg4]
  refine congrArg (A4 m c) (Shape.idx_ext₂ ?_ ?_)
  · show 0 + 1 * (i 0).val = (i 0).val; omega
  · show 0 + 1 * (i 1).val = (i 1).val; omega

theorem G2_read (i : S256x256.Idx) : (st2 t0_0).view.read (Elt Ideal) (G2 m c t0_0) i = A5 m c i := by
  unfold G2
  rw [View.read_rep]
  unfold iblk
  show V m c main_arg5 _ = _
  rw [V_main_arg5]
  refine congrArg (A5 m c) (Shape.idx_ext₂ ?_ ?_)
  · show 0 + 1 * (i 0).val = (i 0).val; omega
  · show 0 + 1 * (i 1).val = (i 1).val; omega

theorem hT_apply (r : Fin 6) (i k : Fin 256) (J : S1536x256.Idx) (h0 : (J 0).val = 256 * r.val + i.val) (h1 : (J 1).val = k.val) :
    hT c (st0 t0_0) (G0 m c t0_0) r (Mxu.ix i k) = A3 m c J := by
  unfold hT hRaw
  rw [View.readAt_apply, G0_read]
  refine congrArg (A3 m c) (Shape.idx_ext₂ ?_ ?_)
  · rw [h0]; show 256 * r.val + 1 * i.val = _; omega
  · rw [h1]; show 0 + 1 * k.val = _; omega

theorem bRaw_apply (t : Fin k0_t1_loop.trips) (k j : Fin 256) (J : S256x6144.Idx) (h0 : (J 0).val = k.val) (h1 : (J 1).val = 256 * t.val + j.val) :
    bRaw c (st1 t0_0) (G1 m c t0_0) t (Mxu.ix k j) = A4 m c J := by
  unfold bRaw
  rw [View.readAt_apply, G1_read]
  refine congrArg (A4 m c) (Shape.idx_ext₂ ?_ ?_)
  · rw [h0]
    show k0_off102 t 0 + 1 * k.val = _
    rw [k0_off102_eq]; show 0 + 1 * k.val = _; omega
  · rw [h1]
    show k0_off102 t 1 + 1 * j.val = _
    rw [k0_off102_eq]; show 256 * t.val + 1 * j.val = _; omega

theorem sRaw_apply (k j : Fin 256) : sRaw c (st2 t0_0) (G2 m c t0_0) (Mxu.ix k j) = A5 m c (ValueIdx.ix2 k j) := by
  unfold sRaw
  rw [View.readAt_apply, G2_read]
  refine congrArg (A5 m c) (Shape.idx_ext₂ ?_ ?_)
  · show 0 + 1 * k.val = k.val; omega
  · show 0 + 1 * j.val = j.val; omega

theorem xT_apply (p : Fin 64) (r : Fin 6) (i k : Fin 256) (J : S1536x16384.Idx) (h0 : (J 0).val = 256 * r.val + i.val) (h1 : (J 1).val = 256 * p.val + k.val) :
    xT c (xGlue c (XV m c)) p r (Mxu.ix i k) = XV m c J := by
  unfold xT rowsX
  rw [shapeCast_dropUnit_apply (n := 2) ![256, 256]]
  unfold xRaw
  rw [View.readAt_apply]
  show xGlue c (XV m c) _ = _
  unfold xGlue
  show XV m c _ = _
  refine congrArg (XV m c) (Shape.idx_ext₂ ?_ ?_)
  · rw [h0]; show 0 + 1 * (256 * r.val + 1 * i.val) = _; omega
  · rw [h1]; show 256 * (p.val + 1 * 0) + 1 * (0 + 1 * k.val) = _; omega

theorem wB_apply (b : Fin 24) (p : Fin 64) (k j : Fin 256) (J : S2048x6144.Idx) (L : S512x6144.Idx)
    (h0 : (J 0).val = 32 * p.val + k.val / 8) (h1 : (J 1).val = 256 * b.val + j.val)
    (l0 : (L 0).val = 8 * p.val + k.val / 32) (l1 : (L 1).val = 256 * b.val + j.val) :
    wB c (WV m c) (EV m c) b p (Mxu.ix k j) = fieldVal (A1 m c J) (k.val % 8) * Ideal.ofBits .bf16 ((A2 m c L).setWidth 16 <<< 7) := by
  have e : (Mxu.ix k j : S256x256.Idx) = ValueIdx.ix2 k j := Shape.idx_ext₂ rfl rfl
  rw [e]
  unfold wB
  refine widen_apply _ _ _ k j _ _ ?_ ?_
  · intro x x1 x2
    unfold rowsW
    show WV m c _ = _
    rw [show WV m c = A1 m c from V_main_arg1 m c]
    refine congrArg (A1 m c) (Shape.idx_ext₂ ?_ ?_)
    · rw [h0]; show 0 + 1 * (32 * p.val + (x 1).val) = _; rw [x1]; omega
    · rw [h1]; show 256 * b.val + 1 * (x 2).val = _; rw [x2]; omega
  · intro x x1 x2
    unfold rowsE
    show EV m c _ = _
    rw [show EV m c = A2 m c from V_main_arg2 m c]
    refine congrArg (A2 m c) (Shape.idx_ext₂ ?_ ?_)
    · rw [l0]; show 0 + 1 * (32 * (p.val / 4) + (x 1).val) = _; rw [x1]; show 0 + 1 * (32 * (p.val / 4) + (8 * (p.val % 4) + k.val / 32)) = _; omega
    · rw [l1]; show 256 * b.val + 1 * (x 2).val = _; rw [x2]; omega

end Cert.KernelIdeal.Prf

end
-- ==== Proof.ValAlg.lean ====
/- The kernel's results are the reference's, under the precondition on the scales. -/
module

public import proofs.«01_k».proof.Defs
public import proofs.«01_k».proof.Proof.ValReads
public import proofs.«01_k».proof.Proof.Gen.KernelIdeal
public import proofs.«01_k».proof.Proof.Gen.ReferenceIdeal
public import proofs.«01_k».proof.Proof.Gen.Pre_normal_scales
public import Idealize.ShloMosaic.Lib.ReduceAll

@[expose] public section

noncomputable section

namespace Cert.KernelIdeal.Prf

open Cert.KernelIdeal Cert.KernelIdeal.Gen Cert.Val
open Idealize.ShloMosaic
open Idealize.ShloMosaic.TcCoe Idealize.ShloMosaic.Tactic
open Idealize.SL Idealize.SL.Sem
open Cert.ReferenceIdeal.Read

variable (m : (ℓ : Loc nD τ sig) → Buf (Elt Ideal) ℓ) (c : Dev nD)

/-- The shared exponents the claim takes: neither all zeros nor all ones. -/
def Normal : Prop := ∀ i : S512x6144.Idx, 1 ≤ (A2 m c i : BitVec 8).toNat ∧ (A2 m c i : BitVec 8).toNat ≤ 254

theorem y_elem (hn : Normal m c) (i : S1536x6144.Idx) :
    yGlue c (YR m c) i = val_main_v56 (F := Ideal) (A0 m c) (A1 m c) (A2 m c) (A3 m c) (A4 m c) i := by
  have i0 : (i 0).val < 1536 := (i 0).isLt
  have i1 : (i 1).val < 6144 := (i 1).isLt
  have hL : yGlue c (YR m c) i = tileSums (F := Ideal) (xT c (xGlue c (XV m c))) (hT c (st0 t0_0) (G0 m c t0_0)) (wB c (WV m c) (EV m c) ⟨(i 1).val / 256, by omega⟩)
      (bRaw c (st1 t0_0) (G1 m c t0_0) (Fin.cast trips_eq.symm ⟨(i 1).val / 256, by omega⟩)) ⟨(i 0).val / 256 / 3, by omega⟩ ⟨(i 0).val / 256 % 3, by omega⟩
      (Mxu.ix ⟨(i 0).val % 256, by omega⟩ ⟨(i 1).val % 256, by omega⟩) := rfl
  have hR : val_main_v56 (F := Ideal) (A0 m c) (A1 m c) (A2 m c) (A3 m c) (A4 m c) i
      = val_main_v53 (F := Ideal) (A0 m c) (A1 m c) (A2 m c) i + val_main_v54 (F := Ideal) (A3 m c) (A4 m c) i := rfl
  have hb6 : (blk6 (⟨(i 0).val / 256 / 3, by omega⟩ : Fin 2) (⟨(i 0).val / 256 % 3, by omega⟩ : Fin 3)).val = (i 0).val / 256 := by
    show 3 * ((i 0).val / 256 / 3) + (i 0).val / 256 % 3 = _; omega
  rw [hL, hR, val_main_v53_apply, val_main_v54_apply]
  rw [tileSums_apply _ _ _ _ _ _ _ _ (fun K => val_main_v52 (F := Ideal) (A0 m c) (lidx_main_v53 i K) * val_main_v51 (F := Ideal) (A1 m c) (A2 m c) (ridx_main_v53 i K)) ?_]
  · refine congrArg₂ (· + ·) rfl (Finset.sum_congr rfl fun k _ => ?_)
    rw [hT_apply m c _ _ k (lidx_main_v54 i k) (by rw [hb6]; show (i 0).val = 256 * ((i 0).val / 256) + (i 0).val % 256; omega) rfl]
    rw [bRaw_apply m c _ k _ (ridx_main_v54 i k) rfl (by show (i 1).val = 256 * ((i 1).val / 256) + (i 1).val % 256; omega)]
  · intro p k
    have hp := p.isLt
    have hk := k.isLt
    have hK : 256 * p.val + k.val < 16384 := by omega
    rw [xT_apply m c p _ _ k (lidx_main_v53 i ⟨256 * p.val + k.val, hK⟩) (by rw [hb6]; show (i 0).val = 256 * ((i 0).val / 256) + (i 0).val % 256; omega) rfl, XV_eq]
    have hw := wB_apply m c ⟨(i 1).val / 256, by omega⟩ p k ⟨(i 1).val % 256, by omega⟩
      (ValueIdx.ix2 (⟨32 * p.val + k.val / 8, by omega⟩ : Fin 2048) (i 1)) (ValueIdx.ix2 (⟨8 * p.val + k.val / 32, by omega⟩ : Fin 512) (i 1)) rfl
      (by show (i 1).val = 256 * ((i 1).val / 256) + (i 1).val % 256; omega) rfl (by show (i 1).val = 256 * ((i 1).val / 256) + (i 1).val % 256; omega)
    rw [hw, scale_val _ (hn _).1 (hn _).2]
    rw [weight_eq (A1 m c) (A2 m c) (ridx_main_v53 i ⟨256 * p.val + k.val, hK⟩) (A1 m c (ValueIdx.ix2 (⟨32 * p.val + k.val / 8, by omega⟩ : Fin 2048) (i 1)))
      (A2 m c (ValueIdx.ix2 (⟨8 * p.val + k.val / 32, by omega⟩ : Fin 512) (i 1))) ?_ ?_]
    · have e8 : ((ridx_main_v53 i ⟨256 * p.val + k.val, hK⟩) 0).val % 8 = k.val % 8 := by
        show (256 * p.val + k.val) % 8 = _; omega
      rw [e8]
      rfl
    · intro j j0 j1
      refine congrArg (A1 m c) (Shape.idx_ext₂ ?_ ?_)
      · rw [j0]; show (256 * p.val + k.val) / 8 = 32 * p.val + k.val / 8; omega
      · rw [j1]
    · intro j j0 j1
      refine congrArg (A2 m c) (Shape.idx_ext₂ ?_ ?_)
      · rw [j0]; show (256 * p.val + k.val) / 32 = 8 * p.val + k.val / 32; omega
      · rw [j1]

theorem h_elem (i : S1536x80.Idx) : HR m c i = val_main_v59 (F := Ideal) (A3 m c) (A5 m c) i := by
  have i0 : (i 0).val < 1536 := (i 0).isLt
  have i1 : (i 1).val < 80 := (i 1).isLt
  have hL : HR m c i = pass (F := Ideal) (hT c (st0 t0_0) (G0 m c t0_0) (blk6 ⟨(i 0).val / 256 / 3, by omega⟩ ⟨(i 0).val / 256 % 3, by omega⟩)) (sRaw c (st2 t0_0) (G2 m c t0_0))
      (Mxu.ix ⟨(i 0).val % 256, by omega⟩ ⟨(i 1).val, by omega⟩) := rfl
  have hR : val_main_v59 (F := Ideal) (A3 m c) (A5 m c) i = val_main_v58 (F := Ideal) (A3 m c) (A5 m c) i := rfl
  have hb6 : (blk6 (⟨(i 0).val / 256 / 3, by omega⟩ : Fin 2) (⟨(i 0).val / 256 % 3, by omega⟩ : Fin 3)).val = (i 0).val / 256 := by
    show 3 * ((i 0).val / 256 / 3) + (i 0).val / 256 % 3 = _; omega
  rw [hL, hR, pass_apply, val_main_v58_apply]
  refine Finset.sum_congr rfl fun k _ => ?_
  rw [hT_apply m c _ _ k (lidx_main_v58 i k) (by rw [hb6]; show (i 0).val = 256 * ((i 0).val / 256) + (i 0).val % 256; omega) rfl]
  rw [sRaw_apply, val_main_v57_apply]
  refine congrArg (A3 m c _ * ·) (congrArg (A5 m c) (Shape.idx_ext₂ ?_ ?_))
  · rfl
  · rfl

/-- The precondition, read. -/
theorem normal_of_pre (h : Cert.Pre_KernelIdeal_normal_scales (hPre_normal_scales := Cert.Pre_normal_scales.Gen.facts) m) : Normal m c := by
  intro i
  have e := congrFun (h c) (fun a => a.elim0)
  haveI : Subsingleton (Cert.Pre_normal_scales.S_).Idx := ⟨fun a b => funext fun x => x.elim0⟩
  have e' := Host.reduce_andi_all _ _ _ _ _ e i
  have key : ∀ v : BitVec 8, IntOp.andi (IntOp.cmpi .uge v 1#8) (IntOp.cmpi .ule v 254#8) = 1#1 → 1 ≤ v.toNat ∧ v.toNat ≤ 254 := by decide +kernel
  exact key _ e'

/-- The value claim. -/
theorem algebraic : Cert.algebraic_KernelIdeal_ReferenceIdeal_pre_normal_scales (hKernelIdeal := Cert.KernelIdeal.Gen.facts)
    (hReferenceIdeal := Cert.ReferenceIdeal.Gen.facts) (hPre_normal_scales := Cert.Pre_normal_scales.Gen.facts) := by
  intro m g m' g' hpre hargs
  refine ⟨fun c => val_main_v56 (F := Ideal) (A0 m c) (A1 m c) (A2 m c) (A3 m c) (A4 m c), fun c => val_main_v59 (F := Ideal) (A3 m c) (A5 m c), ?_, ?_⟩
  · refine (θ_run Cert.KernelIdeal.defs _ _).mono (fun r h c => ?_) (run_ends m g)
    obtain ⟨hargs, hy, hh⟩ := h.1 c
    refine ⟨?_, ?_, hargs⟩
    · exact hy.trans (funext fun i => y_elem m c (normal_of_pre m c hpre) i)
    · exact (show _ = HR m c from hh).trans (funext fun i => h_elem m c i)
  · refine (θ_run Cert.ReferenceIdeal.defs _ _).mono (fun r h c => ?_) (Cert.ReferenceIdeal.Value.run m' g')
    obtain ⟨a0, a1, a2, a3, a4, a5⟩ := hargs c
    refine ⟨?_, ?_, (h c).2.2⟩
    · refine (h c).1.trans ((val_main_v56_eq m' c).trans ?_)
      rw [a0, a1, a2, a3, a4]
    · refine (h c).2.1.trans ?_
      rw [a3, a5]
      rfl

end Cert.KernelIdeal.Prf

end
-- ==== Proof.lean ====
module

public import proofs.«01_k».proof.Defs
public import proofs.«01_k».proof.Proof.FramesPre
public import proofs.«01_k».proof.Proof.ValAlg
public import proofs.«01_k».proof.Proof.Gen.Kernel
public import proofs.«01_k».proof.Proof.Gen.KernelIdeal
public import proofs.«01_k».proof.Proof.Gen.ReferenceIdeal
public import proofs.«01_k».proof.Proof.Gen.Pre_normal_scales

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_normal_scales.Gen.facts,
    frame_k, frame_ki, frame_ki_pre, frame_r, frame_r_pre, trivial, Cert.KernelIdeal.Prf.algebraic⟩

end Cert.Proof

end
